-- ==== Defs.lean ====
def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_gate_pre [hPre_gate_pre : Cert.Pre_gate_pre.Facts] (m : (ℓ : Loc Cert.GateIdeal.nD Cert.GateIdeal.τ Cert.GateIdeal.sig) → Buf (Elt Ideal) ℓ) : Prop :=
  ∀ c : Dev Cert.GateIdeal.nD,
    (Cert.Pre_gate_pre.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4))) = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_gate_pre [hPre_gate_pre : Cert.Pre_gate_pre.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_gate_pre.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_pre [hPre_attn_pre : Cert.Pre_attn_pre.Facts] (m : (ℓ : Loc Cert.AttnIdeal.nD Cert.AttnIdeal.τ Cert.AttnIdeal.sig) → Buf (Elt Ideal) ℓ) : Prop :=
  ∀ c : Dev Cert.AttnIdeal.nD,
    (Cert.Pre_attn_pre.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_pre [hPre_attn_pre : Cert.Pre_attn_pre.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_pre.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_norm_pre [hPre_norm_pre : Cert.Pre_norm_pre.Facts] (m : (ℓ : Loc Cert.NormIdeal.nD Cert.NormIdeal.τ Cert.NormIdeal.sig) → Buf (Elt Ideal) ℓ) : Prop :=
  ∀ c : Dev Cert.NormIdeal.nD,
    (Cert.Pre_norm_pre.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5)) (m ((c.tc : Thread Cert.NormIdeal.nD Cert.NormIdeal.τ).loc Cert.NormIdeal.main_arg6)) (m ((c.tc : Thread Cert.NormIdeal.nD Cert.NormIdeal.τ).loc Cert.NormIdeal.main_arg7))) = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_norm_pre [hPre_norm_pre : Cert.Pre_norm_pre.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_norm_pre.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5)) (m ((c.tc : Thread Cert.NormRefIdeal.nD Cert.NormRefIdeal.τ).loc Cert.NormRefIdeal.main_arg6)) (m ((c.tc : Thread Cert.NormRefIdeal.nD Cert.NormRefIdeal.τ).loc Cert.NormRefIdeal.main_arg7))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_pre [hPre_loss_pre : Cert.Pre_loss_pre.Facts] (m : (ℓ : Loc Cert.LossIdeal.nD Cert.LossIdeal.τ Cert.LossIdeal.sig) → Buf (Elt Ideal) ℓ) : Prop :=
  ∀ c : Dev Cert.LossIdeal.nD,
    (Cert.Pre_loss_pre.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_pre [hPre_loss_pre : Cert.Pre_loss_pre.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_pre.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))) = (fun _ => 1#1)

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutIdeal_mixout_pre [hPre_mixout_pre : Cert.Pre_mixout_pre.Facts] (m : (ℓ : Loc Cert.MixOutIdeal.nD Cert.MixOutIdeal.τ Cert.MixOutIdeal.sig) → Buf (Elt Ideal) ℓ) : Prop :=
  ∀ c : Dev Cert.MixOutIdeal.nD,
    (Cert.Pre_mixout_pre.fn (F := Ideal) (m ((c.tc : Thread Cert.MixOutIdeal.nD Cert.MixOutIdeal.τ).loc Cert.MixOutIdeal.main_arg0)) (m ((c.tc : Thread Cert.MixOutIdeal.nD Cert.MixOutIdeal.τ).loc Cert.MixOutIdeal.main_arg1)) (m ((c.tc : Thread Cert.MixOutIdeal.nD Cert.MixOutIdeal.τ).loc Cert.MixOutIdeal.main_arg2)) (m ((c.tc : Thread Cert.MixOutIdeal.nD Cert.MixOutIdeal.τ).loc Cert.MixOutIdeal.main_arg3)) (m ((c.tc : Thread Cert.MixOutIdeal.nD Cert.MixOutIdeal.τ).loc Cert.MixOutIdeal.main_arg4)) (m ((c.tc : Thread Cert.MixOutIdeal.nD Cert.MixOutIdeal.τ).loc Cert.MixOutIdeal.main_arg5))) = (fun _ => 1#1)

def Pre_MixOutRefIdeal (m : (ℓ : Loc Cert.MixOutRefIdeal.nD Cert.MixOutRefIdeal.τ Cert.MixOutRefIdeal.sig) → Buf (Elt Ideal) ℓ) : Prop :=
  True

def Pre_MixOutRefIdeal_mixout_pre [hPre_mixout_pre : Cert.Pre_mixout_pre.Facts] (m : (ℓ : Loc Cert.MixOutRefIdeal.nD Cert.MixOutRefIdeal.τ Cert.MixOutRefIdeal.sig) → Buf (Elt Ideal) ℓ) : Prop :=
  ∀ c : Dev Cert.MixOutRefIdeal.nD,
    (Cert.Pre_mixout_pre.fn (F := Ideal) (m ((c.tc : Thread Cert.MixOutRefIdeal.nD Cert.MixOutRefIdeal.τ).loc Cert.MixOutRefIdeal.main_arg0)) (m ((c.tc : Thread Cert.MixOutRefIdeal.nD Cert.MixOutRefIdeal.τ).loc Cert.MixOutRefIdeal.main_arg1)) (m ((c.tc : Thread Cert.MixOutRefIdeal.nD Cert.MixOutRefIdeal.τ).loc Cert.MixOutRefIdeal.main_arg2)) (m ((c.tc : Thread Cert.MixOutRefIdeal.nD Cert.MixOutRefIdeal.τ).loc Cert.MixOutRefIdeal.main_arg3)) (m ((c.tc : Thread Cert.MixOutRefIdeal.nD Cert.MixOutRefIdeal.τ).loc Cert.MixOutRefIdeal.main_arg4)) (m ((c.tc : Thread Cert.MixOutRefIdeal.nD Cert.MixOutRefIdeal.τ).loc Cert.MixOutRefIdeal.main_arg5))) = (fun _ => 1#1)

def Pre_MixMid (m : (ℓ : Loc Cert.MixMid.nD Cert.MixMid.τ Cert.MixMid.sig) → Buf (Elt Bits) ℓ) : Prop :=
  True

def Pre_MixMidIdeal (m : (ℓ : Loc Cert.MixMidIdeal.nD Cert.MixMidIdeal.τ Cert.MixMidIdeal.sig) → Buf (Elt Ideal) ℓ) : Prop :=
  True

def Pre_MixMidIdeal_mixmid_pre [hPre_mixmid_pre : Cert.Pre_mixmid_pre.Facts] (m : (ℓ : Loc Cert.MixMidIdeal.nD Cert.MixMidIdeal.τ Cert.MixMidIdeal.sig) → Buf (Elt Ideal) ℓ) : Prop :=
  ∀ c : Dev Cert.MixMidIdeal.nD,
    (Cert.Pre_mixmid_pre.fn (F := Ideal) (m ((c.tc : Thread Cert.MixMidIdeal.nD Cert.MixMidIdeal.τ).loc Cert.MixMidIdeal.main_arg0)) (m ((c.tc : Thread Cert.MixMidIdeal.nD Cert.MixMidIdeal.τ).loc Cert.MixMidIdeal.main_arg1)) (m ((c.tc : Thread Cert.MixMidIdeal.nD Cert.MixMidIdeal.τ).loc Cert.MixMidIdeal.main_arg2)) (m ((c.tc : Thread Cert.MixMidIdeal.nD Cert.MixMidIdeal.τ).loc Cert.MixMidIdeal.main_arg3)) (m ((c.tc : Thread Cert.MixMidIdeal.nD Cert.MixMidIdeal.τ).loc Cert.MixMidIdeal.main_arg4)) (m ((c.tc : Thread Cert.MixMidIdeal.nD Cert.MixMidIdeal.τ).loc Cert.MixMidIdeal.main_arg5)) (m ((c.tc : Thread Cert.MixMidIdeal.nD Cert.MixMidIdeal.τ).loc Cert.MixMidIdeal.main_arg6)) (m ((c.tc : Thread Cert.MixMidIdeal.nD Cert.MixMidIdeal.τ).loc Cert.MixMidIdeal.main_arg7)) (m ((c.tc : Thread Cert.MixMidIdeal.nD Cert.MixMidIdeal.τ).loc Cert.MixMidIdeal.main_arg8)) (m ((c.tc : Thread Cert.MixMidIdeal.nD Cert.MixMidIdeal.τ).loc Cert.MixMidIdeal.main_arg9)) (m ((c.tc : Thread Cert.MixMidIdeal.nD Cert.MixMidIdeal.τ).loc Cert.MixMidIdeal.main_arg10))) = (fun _ => 1#1)

def Pre_MixMidRefIdeal (m : (ℓ : Loc Cert.MixMidRefIdeal.nD Cert.MixMidRefIdeal.τ Cert.MixMidRefIdeal.sig) → Buf (Elt Ideal) ℓ) : Prop :=
  True

def Pre_MixMidRefIdeal_mixmid_pre [hPre_mixmid_pre : Cert.Pre_mixmid_pre.Facts] (m : (ℓ : Loc Cert.MixMidRefIdeal.nD Cert.MixMidRefIdeal.τ Cert.MixMidRefIdeal.sig) → Buf (Elt Ideal) ℓ) : Prop :=
  ∀ c : Dev Cert.MixMidRefIdeal.nD,
    (Cert.Pre_mixmid_pre.fn (F := Ideal) (m ((c.tc : Thread Cert.MixMidRefIdeal.nD Cert.MixMidRefIdeal.τ).loc Cert.MixMidRefIdeal.main_arg0)) (m ((c.tc : Thread Cert.MixMidRefIdeal.nD Cert.MixMidRefIdeal.τ).loc Cert.MixMidRefIdeal.main_arg1)) (m ((c.tc : Thread Cert.MixMidRefIdeal.nD Cert.MixMidRefIdeal.τ).loc Cert.MixMidRefIdeal.main_arg2)) (m ((c.tc : Thread Cert.MixMidRefIdeal.nD Cert.MixMidRefIdeal.τ).loc Cert.MixMidRefIdeal.main_arg3)) (m ((c.tc : Thread Cert.MixMidRefIdeal.nD Cert.MixMidRefIdeal.τ).loc Cert.MixMidRefIdeal.main_arg4)) (m ((c.tc : Thread Cert.MixMidRefIdeal.nD Cert.MixMidRefIdeal.τ).loc Cert.MixMidRefIdeal.main_arg5)) (m ((c.tc : Thread Cert.MixMidRefIdeal.nD Cert.MixMidRefIdeal.τ).loc Cert.MixMidRefIdeal.main_arg6)) (m ((c.tc : Thread Cert.MixMidRefIdeal.nD Cert.MixMidRefIdeal.τ).loc Cert.MixMidRefIdeal.main_arg7)) (m ((c.tc : Thread Cert.MixMidRefIdeal.nD Cert.MixMidRefIdeal.τ).loc Cert.MixMidRefIdeal.main_arg8)) (m ((c.tc : Thread Cert.MixMidRefIdeal.nD Cert.MixMidRefIdeal.τ).loc Cert.MixMidRefIdeal.main_arg9)) (m ((c.tc : Thread Cert.MixMidRefIdeal.nD Cert.MixMidRefIdeal.τ).loc Cert.MixMidRefIdeal.main_arg10))) = (fun _ => 1#1)

def Pre_NormMix (m : (ℓ : Loc Cert.NormMix.nD Cert.NormMix.τ Cert.NormMix.sig) → Buf (Elt Bits) ℓ) : Prop :=
  True

def Pre_NormMixIdeal (m : (ℓ : Loc Cert.NormMixIdeal.nD Cert.NormMixIdeal.τ Cert.NormMixIdeal.sig) → Buf (Elt Ideal) ℓ) : Prop :=
  True

def Pre_NormMixIdeal_normmix_pre [hPre_normmix_pre : Cert.Pre_normmix_pre.Facts] (m : (ℓ : Loc Cert.NormMixIdeal.nD Cert.NormMixIdeal.τ Cert.NormMixIdeal.sig) → Buf (Elt Ideal) ℓ) : Prop :=
  ∀ c : Dev Cert.NormMixIdeal.nD,
    (Cert.Pre_normmix_pre.fn (F := Ideal) (m ((c.tc : Thread Cert.NormMixIdeal.nD Cert.NormMixIdeal.τ).loc Cert.NormMixIdeal.main_arg0)) (m ((c.tc : Thread Cert.NormMixIdeal.nD Cert.NormMixIdeal.τ).loc Cert.NormMixIdeal.main_arg1)) (m ((c.tc : Thread Cert.NormMixIdeal.nD Cert.NormMixIdeal.τ).loc Cert.NormMixIdeal.main_arg2)) (m ((c.tc : Thread Cert.NormMixIdeal.nD Cert.NormMixIdeal.τ).loc Cert.NormMixIdeal.main_arg3)) (m ((c.tc : Thread Cert.NormMixIdeal.nD Cert.NormMixIdeal.τ).loc Cert.NormMixIdeal.main_arg4)) (m ((c.tc : Thread Cert.NormMixIdeal.nD Cert.NormMixIdeal.τ).loc Cert.NormMixIdeal.main_arg5))) = (fun _ => 1#1)

def Pre_NormMixRefIdeal (m : (ℓ : Loc Cert.NormMixRefIdeal.nD Cert.NormMixRefIdeal.τ Cert.NormMixRefIdeal.sig) → Buf (Elt Ideal) ℓ) : Prop :=
  True

def Pre_NormMixRefIdeal_normmix_pre [hPre_normmix_pre : Cert.Pre_normmix_pre.Facts] (m : (ℓ : Loc Cert.NormMixRefIdeal.nD Cert.NormMixRefIdeal.τ Cert.NormMixRefIdeal.sig) → Buf (Elt Ideal) ℓ) : Prop :=
  ∀ c : Dev Cert.NormMixRefIdeal.nD,
    (Cert.Pre_normmix_pre.fn (F := Ideal) (m ((c.tc : Thread Cert.NormMixRefIdeal.nD Cert.NormMixRefIdeal.τ).loc Cert.NormMixRefIdeal.main_arg0)) (m ((c.tc : Thread Cert.NormMixRefIdeal.nD Cert.NormMixRefIdeal.τ).loc Cert.NormMixRefIdeal.main_arg1)) (m ((c.tc : Thread Cert.NormMixRefIdeal.nD Cert.NormMixRefIdeal.τ).loc Cert.NormMixRefIdeal.main_arg2)) (m ((c.tc : Thread Cert.NormMixRefIdeal.nD Cert.NormMixRefIdeal.τ).loc Cert.NormMixRefIdeal.main_arg3)) (m ((c.tc : Thread Cert.NormMixRefIdeal.nD Cert.NormMixRefIdeal.τ).loc Cert.NormMixRefIdeal.main_arg4)) (m ((c.tc : Thread Cert.NormMixRefIdeal.nD Cert.NormMixRefIdeal.τ).loc Cert.NormMixRefIdeal.main_arg5))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdRefIdeal (m : (ℓ : Loc Cert.MixFwdRefIdeal.nD Cert.MixFwdRefIdeal.τ Cert.MixFwdRefIdeal.sig) → Buf (Elt Ideal) ℓ) : Prop :=
  True

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateIdeal_pre_gate_pre [hGateIdeal : Cert.GateIdeal.Facts] [hPre_gate_pre : Cert.Pre_gate_pre.Facts] : Prop :=
  ∀ (m : (ℓ : Loc Cert.GateIdeal.nD Cert.GateIdeal.τ Cert.GateIdeal.sig) → Buf (Elt Ideal) ℓ) (g : Dev Cert.GateIdeal.nD → PrngReg), Pre_GateIdeal_gate_pre m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def quiescent_GateRefIdeal_pre_gate_pre [hGateRefIdeal : Cert.GateRefIdeal.Facts] [hPre_gate_pre : Cert.Pre_gate_pre.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_gate_pre m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_attn_pre [hAttnIdeal : Cert.AttnIdeal.Facts] [hPre_attn_pre : Cert.Pre_attn_pre.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_pre m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_AttnRefIdeal_pre_attn_pre [hAttnRefIdeal : Cert.AttnRefIdeal.Facts] [hPre_attn_pre : Cert.Pre_attn_pre.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_pre m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5)
      ∧ r.2.mem ((c.tc : Thread Cert.Norm.nD Cert.Norm.τ).loc Cert.Norm.main_arg6) = m ((c.tc : Thread Cert.Norm.nD Cert.Norm.τ).loc Cert.Norm.main_arg6)
      ∧ r.2.mem ((c.tc : Thread Cert.Norm.nD Cert.Norm.τ).loc Cert.Norm.main_arg7) = m ((c.tc : Thread Cert.Norm.nD Cert.Norm.τ).loc Cert.Norm.main_arg7))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6)
      ∧ r.2.mem ((c.tc : Thread Cert.NormIdeal.nD Cert.NormIdeal.τ).loc Cert.NormIdeal.main_arg7) = m ((c.tc : Thread Cert.NormIdeal.nD Cert.NormIdeal.τ).loc Cert.NormIdeal.main_arg7))
      ∧ r.2.sem = fun _ => 0)

def quiescent_NormIdeal_pre_norm_pre [hNormIdeal : Cert.NormIdeal.Facts] [hPre_norm_pre : Cert.Pre_norm_pre.Facts] : Prop :=
  ∀ (m : (ℓ : Loc Cert.NormIdeal.nD Cert.NormIdeal.τ Cert.NormIdeal.sig) → Buf (Elt Ideal) ℓ) (g : Dev Cert.NormIdeal.nD → PrngReg), Pre_NormIdeal_norm_pre m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6)
      ∧ r.2.mem ((c.tc : Thread Cert.NormIdeal.nD Cert.NormIdeal.τ).loc Cert.NormIdeal.main_arg7) = m ((c.tc : Thread Cert.NormIdeal.nD Cert.NormIdeal.τ).loc Cert.NormIdeal.main_arg7))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5)
      ∧ r.2.mem ((c.tc : Thread Cert.NormRefIdeal.nD Cert.NormRefIdeal.τ).loc Cert.NormRefIdeal.main_arg6) = m ((c.tc : Thread Cert.NormRefIdeal.nD Cert.NormRefIdeal.τ).loc Cert.NormRefIdeal.main_arg6)
      ∧ r.2.mem ((c.tc : Thread Cert.NormRefIdeal.nD Cert.NormRefIdeal.τ).loc Cert.NormRefIdeal.main_arg7) = m ((c.tc : Thread Cert.NormRefIdeal.nD Cert.NormRefIdeal.τ).loc Cert.NormRefIdeal.main_arg7))
      ∧ r.2.sem = fun _ => 0)

def quiescent_NormRefIdeal_pre_norm_pre [hNormRefIdeal : Cert.NormRefIdeal.Facts] [hPre_norm_pre : Cert.Pre_norm_pre.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_norm_pre m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5)
      ∧ r.2.mem ((c.tc : Thread Cert.NormRefIdeal.nD Cert.NormRefIdeal.τ).loc Cert.NormRefIdeal.main_arg6) = m ((c.tc : Thread Cert.NormRefIdeal.nD Cert.NormRefIdeal.τ).loc Cert.NormRefIdeal.main_arg6)
      ∧ r.2.mem ((c.tc : Thread Cert.NormRefIdeal.nD Cert.NormRefIdeal.τ).loc Cert.NormRefIdeal.main_arg7) = m ((c.tc : Thread Cert.NormRefIdeal.nD Cert.NormRefIdeal.τ).loc Cert.NormRefIdeal.main_arg7))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4)
      ∧ r.2.mem ((c.tc : Thread Cert.Loss.nD Cert.Loss.τ).loc Cert.Loss.main_arg5) = m ((c.tc : Thread Cert.Loss.nD Cert.Loss.τ).loc Cert.Loss.main_arg5))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5))
      ∧ r.2.sem = fun _ => 0)

def quiescent_LossIdeal_pre_loss_pre [hLossIdeal : Cert.LossIdeal.Facts] [hPre_loss_pre : Cert.Pre_loss_pre.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_pre m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5))
      ∧ r.2.sem = fun _ => 0)

def quiescent_LossRefIdeal_pre_loss_pre [hLossRefIdeal : Cert.LossRefIdeal.Facts] [hPre_loss_pre : Cert.Pre_loss_pre.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_pre m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5))
      ∧ r.2.sem = fun _ => 0)

def quiescent_MixOutIdeal_pre_mixout_pre [hMixOutIdeal : Cert.MixOutIdeal.Facts] [hPre_mixout_pre : Cert.Pre_mixout_pre.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal_mixout_pre m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5))
      ∧ r.2.sem = fun _ => 0)

def quiescent_MixOutRefIdeal_pre_mixout_pre [hMixOutRefIdeal : Cert.MixOutRefIdeal.Facts] [hPre_mixout_pre : Cert.Pre_mixout_pre.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal_mixout_pre m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5))
      ∧ r.2.sem = fun _ => 0)

def quiescent_MixMid [hMixMid : Cert.MixMid.Facts] : Prop :=
  ∀ (m : (ℓ : Loc Cert.MixMid.nD Cert.MixMid.τ Cert.MixMid.sig) → Buf (Elt Bits) ℓ) (g : Dev Cert.MixMid.nD → PrngReg), Pre_MixMid m →
    θ_run (Cert.MixMid.defs (F := Bits)) (onTc (τ := Cert.MixMid.τ) (Cert.MixMid.main (F := Bits))) ⟨m, fun _ => 0, g⟩ (fun r => (∀ c : Dev Cert.MixMid.nD,
      r.2.mem ((c.tc : Thread Cert.MixMid.nD Cert.MixMid.τ).loc Cert.MixMid.main_arg0) = m ((c.tc : Thread Cert.MixMid.nD Cert.MixMid.τ).loc Cert.MixMid.main_arg0)
      ∧ r.2.mem ((c.tc : Thread Cert.MixMid.nD Cert.MixMid.τ).loc Cert.MixMid.main_arg1) = m ((c.tc : Thread Cert.MixMid.nD Cert.MixMid.τ).loc Cert.MixMid.main_arg1)
      ∧ r.2.mem ((c.tc : Thread Cert.MixMid.nD Cert.MixMid.τ).loc Cert.MixMid.main_arg2) = m ((c.tc : Thread Cert.MixMid.nD Cert.MixMid.τ).loc Cert.MixMid.main_arg2)
      ∧ r.2.mem ((c.tc : Thread Cert.MixMid.nD Cert.MixMid.τ).loc Cert.MixMid.main_arg3) = m ((c.tc : Thread Cert.MixMid.nD Cert.MixMid.τ).loc Cert.MixMid.main_arg3)
      ∧ r.2.mem ((c.tc : Thread Cert.MixMid.nD Cert.MixMid.τ).loc Cert.MixMid.main_arg4) = m ((c.tc : Thread Cert.MixMid.nD Cert.MixMid.τ).loc Cert.MixMid.main_arg4)
      ∧ r.2.mem ((c.tc : Thread Cert.MixMid.nD Cert.MixMid.τ).loc Cert.MixMid.main_arg5) = m ((c.tc : Thread Cert.MixMid.nD Cert.MixMid.τ).loc Cert.MixMid.main_arg5)
      ∧ r.2.mem ((c.tc : Thread Cert.MixMid.nD Cert.MixMid.τ).loc Cert.MixMid.main_arg6) = m ((c.tc : Thread Cert.MixMid.nD Cert.MixMid.τ).loc Cert.MixMid.main_arg6)
      ∧ r.2.mem ((c.tc : Thread Cert.MixMid.nD Cert.MixMid.τ).loc Cert.MixMid.main_arg7) = m ((c.tc : Thread Cert.MixMid.nD Cert.MixMid.τ).loc Cert.MixMid.main_arg7)
      ∧ r.2.mem ((c.tc : Thread Cert.MixMid.nD Cert.MixMid.τ).loc Cert.MixMid.main_arg8) = m ((c.tc : Thread Cert.MixMid.nD Cert.MixMid.τ).loc Cert.MixMid.main_arg8)
      ∧ r.2.mem ((c.tc : Thread Cert.MixMid.nD Cert.MixMid.τ).loc Cert.MixMid.main_arg9) = m ((c.tc : Thread Cert.MixMid.nD Cert.MixMid.τ).loc Cert.MixMid.main_arg9)
      ∧ r.2.mem ((c.tc : Thread Cert.MixMid.nD Cert.MixMid.τ).loc Cert.MixMid.main_arg10) = m ((c.tc : Thread Cert.MixMid.nD Cert.MixMid.τ).loc Cert.MixMid.main_arg10))
      ∧ r.2.sem = fun _ => 0)

def quiescent_MixMidIdeal [hMixMidIdeal : Cert.MixMidIdeal.Facts] : Prop :=
  ∀ (m : (ℓ : Loc Cert.MixMidIdeal.nD Cert.MixMidIdeal.τ Cert.MixMidIdeal.sig) → Buf (Elt Ideal) ℓ) (g : Dev Cert.MixMidIdeal.nD → PrngReg), Pre_MixMidIdeal m →
    θ_run (Cert.MixMidIdeal.defs (F := Ideal)) (onTc (τ := Cert.MixMidIdeal.τ) (Cert.MixMidIdeal.main (F := Ideal))) ⟨m, fun _ => 0, g⟩ (fun r => (∀ c : Dev Cert.MixMidIdeal.nD,
      r.2.mem ((c.tc : Thread Cert.MixMidIdeal.nD Cert.MixMidIdeal.τ).loc Cert.MixMidIdeal.main_arg0) = m ((c.tc : Thread Cert.MixMidIdeal.nD Cert.MixMidIdeal.τ).loc Cert.MixMidIdeal.main_arg0)
      ∧ r.2.mem ((c.tc : Thread Cert.MixMidIdeal.nD Cert.MixMidIdeal.τ).loc Cert.MixMidIdeal.main_arg1) = m ((c.tc : Thread Cert.MixMidIdeal.nD Cert.MixMidIdeal.τ).loc Cert.MixMidIdeal.main_arg1)
      ∧ r.2.mem ((c.tc : Thread Cert.MixMidIdeal.nD Cert.MixMidIdeal.τ).loc Cert.MixMidIdeal.main_arg2) = m ((c.tc : Thread Cert.MixMidIdeal.nD Cert.MixMidIdeal.τ).loc Cert.MixMidIdeal.main_arg2)
      ∧ r.2.mem ((c.tc : Thread Cert.MixMidIdeal.nD Cert.MixMidIdeal.τ).loc Cert.MixMidIdeal.main_arg3) = m ((c.tc : Thread Cert.MixMidIdeal.nD Cert.MixMidIdeal.τ).loc Cert.MixMidIdeal.main_arg3)
      ∧ r.2.mem ((c.tc : Thread Cert.MixMidIdeal.nD Cert.MixMidIdeal.τ).loc Cert.MixMidIdeal.main_arg4) = m ((c.tc : Thread Cert.MixMidIdeal.nD Cert.MixMidIdeal.τ).loc Cert.MixMidIdeal.main_arg4)
      ∧ r.2.mem ((c.tc : Thread Cert.MixMidIdeal.nD Cert.MixMidIdeal.τ).loc Cert.MixMidIdeal.main_arg5) = m ((c.tc : Thread Cert.MixMidIdeal.nD Cert.MixMidIdeal.τ).loc Cert.MixMidIdeal.main_arg5)
      ∧ r.2.mem ((c.tc : Thread Cert.MixMidIdeal.nD Cert.MixMidIdeal.τ).loc Cert.MixMidIdeal.main_arg6) = m ((c.tc : Thread Cert.MixMidIdeal.nD Cert.MixMidIdeal.τ).loc Cert.MixMidIdeal.main_arg6)
      ∧ r.2.mem ((c.tc : Thread Cert.MixMidIdeal.nD Cert.MixMidIdeal.τ).loc Cert.MixMidIdeal.main_arg7) = m ((c.tc : Thread Cert.MixMidIdeal.nD Cert.MixMidIdeal.τ).loc Cert.MixMidIdeal.main_arg7)
      ∧ r.2.mem ((c.tc : Thread Cert.MixMidIdeal.nD Cert.MixMidIdeal.τ).loc Cert.MixMidIdeal.main_arg8) = m ((c.tc : Thread Cert.MixMidIdeal.nD Cert.MixMidIdeal.τ).loc Cert.MixMidIdeal.main_arg8)
      ∧ r.2.mem ((c.tc : Thread Cert.MixMidIdeal.nD Cert.MixMidIdeal.τ).loc Cert.MixMidIdeal.main_arg9) = m ((c.tc : Thread Cert.MixMidIdeal.nD Cert.MixMidIdeal.τ).loc Cert.MixMidIdeal.main_arg9)
      ∧ r.2.mem ((c.tc : Thread Cert.MixMidIdeal.nD Cert.MixMidIdeal.τ).loc Cert.MixMidIdeal.main_arg10) = m ((c.tc : Thread Cert.MixMidIdeal.nD Cert.MixMidIdeal.τ).loc Cert.MixMidIdeal.main_arg10))
      ∧ r.2.sem = fun _ => 0)

def quiescent_MixMidIdeal_pre_mixmid_pre [hMixMidIdeal : Cert.MixMidIdeal.Facts] [hPre_mixmid_pre : Cert.Pre_mixmid_pre.Facts] : Prop :=
  ∀ (m : (ℓ : Loc Cert.MixMidIdeal.nD Cert.MixMidIdeal.τ Cert.MixMidIdeal.sig) → Buf (Elt Ideal) ℓ) (g : Dev Cert.MixMidIdeal.nD → PrngReg), Pre_MixMidIdeal_mixmid_pre m →
    θ_run (Cert.MixMidIdeal.defs (F := Ideal)) (onTc (τ := Cert.MixMidIdeal.τ) (Cert.MixMidIdeal.main (F := Ideal))) ⟨m, fun _ => 0, g⟩ (fun r => (∀ c : Dev Cert.MixMidIdeal.nD,
      r.2.mem ((c.tc : Thread Cert.MixMidIdeal.nD Cert.MixMidIdeal.τ).loc Cert.MixMidIdeal.main_arg0) = m ((c.tc : Thread Cert.MixMidIdeal.nD Cert.MixMidIdeal.τ).loc Cert.MixMidIdeal.main_arg0)
      ∧ r.2.mem ((c.tc : Thread Cert.MixMidIdeal.nD Cert.MixMidIdeal.τ).loc Cert.MixMidIdeal.main_arg1) = m ((c.tc : Thread Cert.MixMidIdeal.nD Cert.MixMidIdeal.τ).loc Cert.MixMidIdeal.main_arg1)
      ∧ r.2.mem ((c.tc : Thread Cert.MixMidIdeal.nD Cert.MixMidIdeal.τ).loc Cert.MixMidIdeal.main_arg2) = m ((c.tc : Thread Cert.MixMidIdeal.nD Cert.MixMidIdeal.τ).loc Cert.MixMidIdeal.main_arg2)
      ∧ r.2.mem ((c.tc : Thread Cert.MixMidIdeal.nD Cert.MixMidIdeal.τ).loc Cert.MixMidIdeal.main_arg3) = m ((c.tc : Thread Cert.MixMidIdeal.nD Cert.MixMidIdeal.τ).loc Cert.MixMidIdeal.main_arg3)
      ∧ r.2.mem ((c.tc : Thread Cert.MixMidIdeal.nD Cert.MixMidIdeal.τ).loc Cert.MixMidIdeal.main_arg4) = m ((c.tc : Thread Cert.MixMidIdeal.nD Cert.MixMidIdeal.τ).loc Cert.MixMidIdeal.main_arg4)
      ∧ r.2.mem ((c.tc : Thread Cert.MixMidIdeal.nD Cert.MixMidIdeal.τ).loc Cert.MixMidIdeal.main_arg5) = m ((c.tc : Thread Cert.MixMidIdeal.nD Cert.MixMidIdeal.τ).loc Cert.MixMidIdeal.main_arg5)
      ∧ r.2.mem ((c.tc : Thread Cert.MixMidIdeal.nD Cert.MixMidIdeal.τ).loc Cert.MixMidIdeal.main_arg6) = m ((c.tc : Thread Cert.MixMidIdeal.nD Cert.MixMidIdeal.τ).loc Cert.MixMidIdeal.main_arg6)
      ∧ r.2.mem ((c.tc : Thread Cert.MixMidIdeal.nD Cert.MixMidIdeal.τ).loc Cert.MixMidIdeal.main_arg7) = m ((c.tc : Thread Cert.MixMidIdeal.nD Cert.MixMidIdeal.τ).loc Cert.MixMidIdeal.main_arg7)
      ∧ r.2.mem ((c.tc : Thread Cert.MixMidIdeal.nD Cert.MixMidIdeal.τ).loc Cert.MixMidIdeal.main_arg8) = m ((c.tc : Thread Cert.MixMidIdeal.nD Cert.MixMidIdeal.τ).loc Cert.MixMidIdeal.main_arg8)
      ∧ r.2.mem ((c.tc : Thread Cert.MixMidIdeal.nD Cert.MixMidIdeal.τ).loc Cert.MixMidIdeal.main_arg9) = m ((c.tc : Thread Cert.MixMidIdeal.nD Cert.MixMidIdeal.τ).loc Cert.MixMidIdeal.main_arg9)
      ∧ r.2.mem ((c.tc : Thread Cert.MixMidIdeal.nD Cert.MixMidIdeal.τ).loc Cert.MixMidIdeal.main_arg10) = m ((c.tc : Thread Cert.MixMidIdeal.nD Cert.MixMidIdeal.τ).loc Cert.MixMidIdeal.main_arg10))
      ∧ r.2.sem = fun _ => 0)

def quiescent_MixMidRefIdeal [hMixMidRefIdeal : Cert.MixMidRefIdeal.Facts] : Prop :=
  ∀ (m : (ℓ : Loc Cert.MixMidRefIdeal.nD Cert.MixMidRefIdeal.τ Cert.MixMidRefIdeal.sig) → Buf (Elt Ideal) ℓ) (g : Dev Cert.MixMidRefIdeal.nD → PrngReg), Pre_MixMidRefIdeal m →
    θ_run (Cert.MixMidRefIdeal.defs (F := Ideal)) (onTc (τ := Cert.MixMidRefIdeal.τ) (Cert.MixMidRefIdeal.main (F := Ideal))) ⟨m, fun _ => 0, g⟩ (fun r => (∀ c : Dev Cert.MixMidRefIdeal.nD,
      r.2.mem ((c.tc : Thread Cert.MixMidRefIdeal.nD Cert.MixMidRefIdeal.τ).loc Cert.MixMidRefIdeal.main_arg0) = m ((c.tc : Thread Cert.MixMidRefIdeal.nD Cert.MixMidRefIdeal.τ).loc Cert.MixMidRefIdeal.main_arg0)
      ∧ r.2.mem ((c.tc : Thread Cert.MixMidRefIdeal.nD Cert.MixMidRefIdeal.τ).loc Cert.MixMidRefIdeal.main_arg1) = m ((c.tc : Thread Cert.MixMidRefIdeal.nD Cert.MixMidRefIdeal.τ).loc Cert.MixMidRefIdeal.main_arg1)
      ∧ r.2.mem ((c.tc : Thread Cert.MixMidRefIdeal.nD Cert.MixMidRefIdeal.τ).loc Cert.MixMidRefIdeal.main_arg2) = m ((c.tc : Thread Cert.MixMidRefIdeal.nD Cert.MixMidRefIdeal.τ).loc Cert.MixMidRefIdeal.main_arg2)
      ∧ r.2.mem ((c.tc : Thread Cert.MixMidRefIdeal.nD Cert.MixMidRefIdeal.τ).loc Cert.MixMidRefIdeal.main_arg3) = m ((c.tc : Thread Cert.MixMidRefIdeal.nD Cert.MixMidRefIdeal.τ).loc Cert.MixMidRefIdeal.main_arg3)
      ∧ r.2.mem ((c.tc : Thread Cert.MixMidRefIdeal.nD Cert.MixMidRefIdeal.τ).loc Cert.MixMidRefIdeal.main_arg4) = m ((c.tc : Thread Cert.MixMidRefIdeal.nD Cert.MixMidRefIdeal.τ).loc Cert.MixMidRefIdeal.main_arg4)
      ∧ r.2.mem ((c.tc : Thread Cert.MixMidRefIdeal.nD Cert.MixMidRefIdeal.τ).loc Cert.MixMidRefIdeal.main_arg5) = m ((c.tc : Thread Cert.MixMidRefIdeal.nD Cert.MixMidRefIdeal.τ).loc Cert.MixMidRefIdeal.main_arg5)
      ∧ r.2.mem ((c.tc : Thread Cert.MixMidRefIdeal.nD Cert.MixMidRefIdeal.τ).loc Cert.MixMidRefIdeal.main_arg6) = m ((c.tc : Thread Cert.MixMidRefIdeal.nD Cert.MixMidRefIdeal.τ).loc Cert.MixMidRefIdeal.main_arg6)
      ∧ r.2.mem ((c.tc : Thread Cert.MixMidRefIdeal.nD Cert.MixMidRefIdeal.τ).loc Cert.MixMidRefIdeal.main_arg7) = m ((c.tc : Thread Cert.MixMidRefIdeal.nD Cert.MixMidRefIdeal.τ).loc Cert.MixMidRefIdeal.main_arg7)
      ∧ r.2.mem ((c.tc : Thread Cert.MixMidRefIdeal.nD Cert.MixMidRefIdeal.τ).loc Cert.MixMidRefIdeal.main_arg8) = m ((c.tc : Thread Cert.MixMidRefIdeal.nD Cert.MixMidRefIdeal.τ).loc Cert.MixMidRefIdeal.main_arg8)
      ∧ r.2.mem ((c.tc : Thread Cert.MixMidRefIdeal.nD Cert.MixMidRefIdeal.τ).loc Cert.MixMidRefIdeal.main_arg9) = m ((c.tc : Thread Cert.MixMidRefIdeal.nD Cert.MixMidRefIdeal.τ).loc Cert.MixMidRefIdeal.main_arg9)
      ∧ r.2.mem ((c.tc : Thread Cert.MixMidRefIdeal.nD Cert.MixMidRefIdeal.τ).loc Cert.MixMidRefIdeal.main_arg10) = m ((c.tc : Thread Cert.MixMidRefIdeal.nD Cert.MixMidRefIdeal.τ).loc Cert.MixMidRefIdeal.main_arg10))
      ∧ r.2.sem = fun _ => 0)

def quiescent_MixMidRefIdeal_pre_mixmid_pre [hMixMidRefIdeal : Cert.MixMidRefIdeal.Facts] [hPre_mixmid_pre : Cert.Pre_mixmid_pre.Facts] : Prop :=
  ∀ (m : (ℓ : Loc Cert.MixMidRefIdeal.nD Cert.MixMidRefIdeal.τ Cert.MixMidRefIdeal.sig) → Buf (Elt Ideal) ℓ) (g : Dev Cert.MixMidRefIdeal.nD → PrngReg), Pre_MixMidRefIdeal_mixmid_pre m →
    θ_run (Cert.MixMidRefIdeal.defs (F := Ideal)) (onTc (τ := Cert.MixMidRefIdeal.τ) (Cert.MixMidRefIdeal.main (F := Ideal))) ⟨m, fun _ => 0, g⟩ (fun r => (∀ c : Dev Cert.MixMidRefIdeal.nD,
      r.2.mem ((c.tc : Thread Cert.MixMidRefIdeal.nD Cert.MixMidRefIdeal.τ).loc Cert.MixMidRefIdeal.main_arg0) = m ((c.tc : Thread Cert.MixMidRefIdeal.nD Cert.MixMidRefIdeal.τ).loc Cert.MixMidRefIdeal.main_arg0)
      ∧ r.2.mem ((c.tc : Thread Cert.MixMidRefIdeal.nD Cert.MixMidRefIdeal.τ).loc Cert.MixMidRefIdeal.main_arg1) = m ((c.tc : Thread Cert.MixMidRefIdeal.nD Cert.MixMidRefIdeal.τ).loc Cert.MixMidRefIdeal.main_arg1)
      ∧ r.2.mem ((c.tc : Thread Cert.MixMidRefIdeal.nD Cert.MixMidRefIdeal.τ).loc Cert.MixMidRefIdeal.main_arg2) = m ((c.tc : Thread Cert.MixMidRefIdeal.nD Cert.MixMidRefIdeal.τ).loc Cert.MixMidRefIdeal.main_arg2)
      ∧ r.2.mem ((c.tc : Thread Cert.MixMidRefIdeal.nD Cert.MixMidRefIdeal.τ).loc Cert.MixMidRefIdeal.main_arg3) = m ((c.tc : Thread Cert.MixMidRefIdeal.nD Cert.MixMidRefIdeal.τ).loc Cert.MixMidRefIdeal.main_arg3)
      ∧ r.2.mem ((c.tc : Thread Cert.MixMidRefIdeal.nD Cert.MixMidRefIdeal.τ).loc Cert.MixMidRefIdeal.main_arg4) = m ((c.tc : Thread Cert.MixMidRefIdeal.nD Cert.MixMidRefIdeal.τ).loc Cert.MixMidRefIdeal.main_arg4)
      ∧ r.2.mem ((c.tc : Thread Cert.MixMidRefIdeal.nD Cert.MixMidRefIdeal.τ).loc Cert.MixMidRefIdeal.main_arg5) = m ((c.tc : Thread Cert.MixMidRefIdeal.nD Cert.MixMidRefIdeal.τ).loc Cert.MixMidRefIdeal.main_arg5)
      ∧ r.2.mem ((c.tc : Thread Cert.MixMidRefIdeal.nD Cert.MixMidRefIdeal.τ).loc Cert.MixMidRefIdeal.main_arg6) = m ((c.tc : Thread Cert.MixMidRefIdeal.nD Cert.MixMidRefIdeal.τ).loc Cert.MixMidRefIdeal.main_arg6)
      ∧ r.2.mem ((c.tc : Thread Cert.MixMidRefIdeal.nD Cert.MixMidRefIdeal.τ).loc Cert.MixMidRefIdeal.main_arg7) = m ((c.tc : Thread Cert.MixMidRefIdeal.nD Cert.MixMidRefIdeal.τ).loc Cert.MixMidRefIdeal.main_arg7)
      ∧ r.2.mem ((c.tc : Thread Cert.MixMidRefIdeal.nD Cert.MixMidRefIdeal.τ).loc Cert.MixMidRefIdeal.main_arg8) = m ((c.tc : Thread Cert.MixMidRefIdeal.nD Cert.MixMidRefIdeal.τ).loc Cert.MixMidRefIdeal.main_arg8)
      ∧ r.2.mem ((c.tc : Thread Cert.MixMidRefIdeal.nD Cert.MixMidRefIdeal.τ).loc Cert.MixMidRefIdeal.main_arg9) = m ((c.tc : Thread Cert.MixMidRefIdeal.nD Cert.MixMidRefIdeal.τ).loc Cert.MixMidRefIdeal.main_arg9)
      ∧ r.2.mem ((c.tc : Thread Cert.MixMidRefIdeal.nD Cert.MixMidRefIdeal.τ).loc Cert.MixMidRefIdeal.main_arg10) = m ((c.tc : Thread Cert.MixMidRefIdeal.nD Cert.MixMidRefIdeal.τ).loc Cert.MixMidRefIdeal.main_arg10))
      ∧ r.2.sem = fun _ => 0)

def quiescent_NormMix [hNormMix : Cert.NormMix.Facts] : Prop :=
  ∀ (m : (ℓ : Loc Cert.NormMix.nD Cert.NormMix.τ Cert.NormMix.sig) → Buf (Elt Bits) ℓ) (g : Dev Cert.NormMix.nD → PrngReg), Pre_NormMix m →
    θ_run (Cert.NormMix.defs (F := Bits)) (onTc (τ := Cert.NormMix.τ) (Cert.NormMix.main (F := Bits))) ⟨m, fun _ => 0, g⟩ (fun r => (∀ c : Dev Cert.NormMix.nD,
      r.2.mem ((c.tc : Thread Cert.NormMix.nD Cert.NormMix.τ).loc Cert.NormMix.main_arg0) = m ((c.tc : Thread Cert.NormMix.nD Cert.NormMix.τ).loc Cert.NormMix.main_arg0)
      ∧ r.2.mem ((c.tc : Thread Cert.NormMix.nD Cert.NormMix.τ).loc Cert.NormMix.main_arg1) = m ((c.tc : Thread Cert.NormMix.nD Cert.NormMix.τ).loc Cert.NormMix.main_arg1)
      ∧ r.2.mem ((c.tc : Thread Cert.NormMix.nD Cert.NormMix.τ).loc Cert.NormMix.main_arg2) = m ((c.tc : Thread Cert.NormMix.nD Cert.NormMix.τ).loc Cert.NormMix.main_arg2)
      ∧ r.2.mem ((c.tc : Thread Cert.NormMix.nD Cert.NormMix.τ).loc Cert.NormMix.main_arg3) = m ((c.tc : Thread Cert.NormMix.nD Cert.NormMix.τ).loc Cert.NormMix.main_arg3)
      ∧ r.2.mem ((c.tc : Thread Cert.NormMix.nD Cert.NormMix.τ).loc Cert.NormMix.main_arg4) = m ((c.tc : Thread Cert.NormMix.nD Cert.NormMix.τ).loc Cert.NormMix.main_arg4)
      ∧ r.2.mem ((c.tc : Thread Cert.NormMix.nD Cert.NormMix.τ).loc Cert.NormMix.main_arg5) = m ((c.tc : Thread Cert.NormMix.nD Cert.NormMix.τ).loc Cert.NormMix.main_arg5))
      ∧ r.2.sem = fun _ => 0)

def quiescent_NormMixIdeal [hNormMixIdeal : Cert.NormMixIdeal.Facts] : Prop :=
  ∀ (m : (ℓ : Loc Cert.NormMixIdeal.nD Cert.NormMixIdeal.τ Cert.NormMixIdeal.sig) → Buf (Elt Ideal) ℓ) (g : Dev Cert.NormMixIdeal.nD → PrngReg), Pre_NormMixIdeal m →
    θ_run (Cert.NormMixIdeal.defs (F := Ideal)) (onTc (τ := Cert.NormMixIdeal.τ) (Cert.NormMixIdeal.main (F := Ideal))) ⟨m, fun _ => 0, g⟩ (fun r => (∀ c : Dev Cert.NormMixIdeal.nD,
      r.2.mem ((c.tc : Thread Cert.NormMixIdeal.nD Cert.NormMixIdeal.τ).loc Cert.NormMixIdeal.main_arg0) = m ((c.tc : Thread Cert.NormMixIdeal.nD Cert.NormMixIdeal.τ).loc Cert.NormMixIdeal.main_arg0)
      ∧ r.2.mem ((c.tc : Thread Cert.NormMixIdeal.nD Cert.NormMixIdeal.τ).loc Cert.NormMixIdeal.main_arg1) = m ((c.tc : Thread Cert.NormMixIdeal.nD Cert.NormMixIdeal.τ).loc Cert.NormMixIdeal.main_arg1)
      ∧ r.2.mem ((c.tc : Thread Cert.NormMixIdeal.nD Cert.NormMixIdeal.τ).loc Cert.NormMixIdeal.main_arg2) = m ((c.tc : Thread Cert.NormMixIdeal.nD Cert.NormMixIdeal.τ).loc Cert.NormMixIdeal.main_arg2)
      ∧ r.2.mem ((c.tc : Thread Cert.NormMixIdeal.nD Cert.NormMixIdeal.τ).loc Cert.NormMixIdeal.main_arg3) = m ((c.tc : Thread Cert.NormMixIdeal.nD Cert.NormMixIdeal.τ).loc Cert.NormMixIdeal.main_arg3)
      ∧ r.2.mem ((c.tc : Thread Cert.NormMixIdeal.nD Cert.NormMixIdeal.τ).loc Cert.NormMixIdeal.main_arg4) = m ((c.tc : Thread Cert.NormMixIdeal.nD Cert.NormMixIdeal.τ).loc Cert.NormMixIdeal.main_arg4)
      ∧ r.2.mem ((c.tc : Thread Cert.NormMixIdeal.nD Cert.NormMixIdeal.τ).loc Cert.NormMixIdeal.main_arg5) = m ((c.tc : Thread Cert.NormMixIdeal.nD Cert.NormMixIdeal.τ).loc Cert.NormMixIdeal.main_arg5))
      ∧ r.2.sem = fun _ => 0)

def quiescent_NormMixIdeal_pre_normmix_pre [hNormMixIdeal : Cert.NormMixIdeal.Facts] [hPre_normmix_pre : Cert.Pre_normmix_pre.Facts] : Prop :=
  ∀ (m : (ℓ : Loc Cert.NormMixIdeal.nD Cert.NormMixIdeal.τ Cert.NormMixIdeal.sig) → Buf (Elt Ideal) ℓ) (g : Dev Cert.NormMixIdeal.nD → PrngReg), Pre_NormMixIdeal_normmix_pre m →
    θ_run (Cert.NormMixIdeal.defs (F := Ideal)) (onTc (τ := Cert.NormMixIdeal.τ) (Cert.NormMixIdeal.main (F := Ideal))) ⟨m, fun _ => 0, g⟩ (fun r => (∀ c : Dev Cert.NormMixIdeal.nD,
      r.2.mem ((c.tc : Thread Cert.NormMixIdeal.nD Cert.NormMixIdeal.τ).loc Cert.NormMixIdeal.main_arg0) = m ((c.tc : Thread Cert.NormMixIdeal.nD Cert.NormMixIdeal.τ).loc Cert.NormMixIdeal.main_arg0)
      ∧ r.2.mem ((c.tc : Thread Cert.NormMixIdeal.nD Cert.NormMixIdeal.τ).loc Cert.NormMixIdeal.main_arg1) = m ((c.tc : Thread Cert.NormMixIdeal.nD Cert.NormMixIdeal.τ).loc Cert.NormMixIdeal.main_arg1)
      ∧ r.2.mem ((c.tc : Thread Cert.NormMixIdeal.nD Cert.NormMixIdeal.τ).loc Cert.NormMixIdeal.main_arg2) = m ((c.tc : Thread Cert.NormMixIdeal.nD Cert.NormMixIdeal.τ).loc Cert.NormMixIdeal.main_arg2)
      ∧ r.2.mem ((c.tc : Thread Cert.NormMixIdeal.nD Cert.NormMixIdeal.τ).loc Cert.NormMixIdeal.main_arg3) = m ((c.tc : Thread Cert.NormMixIdeal.nD Cert.NormMixIdeal.τ).loc Cert.NormMixIdeal.main_arg3)
      ∧ r.2.mem ((c.tc : Thread Cert.NormMixIdeal.nD Cert.NormMixIdeal.τ).loc Cert.NormMixIdeal.main_arg4) = m ((c.tc : Thread Cert.NormMixIdeal.nD Cert.NormMixIdeal.τ).loc Cert.NormMixIdeal.main_arg4)
      ∧ r.2.mem ((c.tc : Thread Cert.NormMixIdeal.nD Cert.NormMixIdeal.τ).loc Cert.NormMixIdeal.main_arg5) = m ((c.tc : Thread Cert.NormMixIdeal.nD Cert.NormMixIdeal.τ).loc Cert.NormMixIdeal.main_arg5))
      ∧ r.2.sem = fun _ => 0)

def quiescent_NormMixRefIdeal [hNormMixRefIdeal : Cert.NormMixRefIdeal.Facts] : Prop :=
  ∀ (m : (ℓ : Loc Cert.NormMixRefIdeal.nD Cert.NormMixRefIdeal.τ Cert.NormMixRefIdeal.sig) → Buf (Elt Ideal) ℓ) (g : Dev Cert.NormMixRefIdeal.nD → PrngReg), Pre_NormMixRefIdeal m →
    θ_run (Cert.NormMixRefIdeal.defs (F := Ideal)) (onTc (τ := Cert.NormMixRefIdeal.τ) (Cert.NormMixRefIdeal.main (F := Ideal))) ⟨m, fun _ => 0, g⟩ (fun r => (∀ c : Dev Cert.NormMixRefIdeal.nD,
      r.2.mem ((c.tc : Thread Cert.NormMixRefIdeal.nD Cert.NormMixRefIdeal.τ).loc Cert.NormMixRefIdeal.main_arg0) = m ((c.tc : Thread Cert.NormMixRefIdeal.nD Cert.NormMixRefIdeal.τ).loc Cert.NormMixRefIdeal.main_arg0)
      ∧ r.2.mem ((c.tc : Thread Cert.NormMixRefIdeal.nD Cert.NormMixRefIdeal.τ).loc Cert.NormMixRefIdeal.main_arg1) = m ((c.tc : Thread Cert.NormMixRefIdeal.nD Cert.NormMixRefIdeal.τ).loc Cert.NormMixRefIdeal.main_arg1)
      ∧ r.2.mem ((c.tc : Thread Cert.NormMixRefIdeal.nD Cert.NormMixRefIdeal.τ).loc Cert.NormMixRefIdeal.main_arg2) = m ((c.tc : Thread Cert.NormMixRefIdeal.nD Cert.NormMixRefIdeal.τ).loc Cert.NormMixRefIdeal.main_arg2)
      ∧ r.2.mem ((c.tc : Thread Cert.NormMixRefIdeal.nD Cert.NormMixRefIdeal.τ).loc Cert.NormMixRefIdeal.main_arg3) = m ((c.tc : Thread Cert.NormMixRefIdeal.nD Cert.NormMixRefIdeal.τ).loc Cert.NormMixRefIdeal.main_arg3)
      ∧ r.2.mem ((c.tc : Thread Cert.NormMixRefIdeal.nD Cert.NormMixRefIdeal.τ).loc Cert.NormMixRefIdeal.main_arg4) = m ((c.tc : Thread Cert.NormMixRefIdeal.nD Cert.NormMixRefIdeal.τ).loc Cert.NormMixRefIdeal.main_arg4)
      ∧ r.2.mem ((c.tc : Thread Cert.NormMixRefIdeal.nD Cert.NormMixRefIdeal.τ).loc Cert.NormMixRefIdeal.main_arg5) = m ((c.tc : Thread Cert.NormMixRefIdeal.nD Cert.NormMixRefIdeal.τ).loc Cert.NormMixRefIdeal.main_arg5))
      ∧ r.2.sem = fun _ => 0)

def quiescent_NormMixRefIdeal_pre_normmix_pre [hNormMixRefIdeal : Cert.NormMixRefIdeal.Facts] [hPre_normmix_pre : Cert.Pre_normmix_pre.Facts] : Prop :=
  ∀ (m : (ℓ : Loc Cert.NormMixRefIdeal.nD Cert.NormMixRefIdeal.τ Cert.NormMixRefIdeal.sig) → Buf (Elt Ideal) ℓ) (g : Dev Cert.NormMixRefIdeal.nD → PrngReg), Pre_NormMixRefIdeal_normmix_pre m →
    θ_run (Cert.NormMixRefIdeal.defs (F := Ideal)) (onTc (τ := Cert.NormMixRefIdeal.τ) (Cert.NormMixRefIdeal.main (F := Ideal))) ⟨m, fun _ => 0, g⟩ (fun r => (∀ c : Dev Cert.NormMixRefIdeal.nD,
      r.2.mem ((c.tc : Thread Cert.NormMixRefIdeal.nD Cert.NormMixRefIdeal.τ).loc Cert.NormMixRefIdeal.main_arg0) = m ((c.tc : Thread Cert.NormMixRefIdeal.nD Cert.NormMixRefIdeal.τ).loc Cert.NormMixRefIdeal.main_arg0)
      ∧ r.2.mem ((c.tc : Thread Cert.NormMixRefIdeal.nD Cert.NormMixRefIdeal.τ).loc Cert.NormMixRefIdeal.main_arg1) = m ((c.tc : Thread Cert.NormMixRefIdeal.nD Cert.NormMixRefIdeal.τ).loc Cert.NormMixRefIdeal.main_arg1)
      ∧ r.2.mem ((c.tc : Thread Cert.NormMixRefIdeal.nD Cert.NormMixRefIdeal.τ).loc Cert.NormMixRefIdeal.main_arg2) = m ((c.tc : Thread Cert.NormMixRefIdeal.nD Cert.NormMixRefIdeal.τ).loc Cert.NormMixRefIdeal.main_arg2)
      ∧ r.2.mem ((c.tc : Thread Cert.NormMixRefIdeal.nD Cert.NormMixRefIdeal.τ).loc Cert.NormMixRefIdeal.main_arg3) = m ((c.tc : Thread Cert.NormMixRefIdeal.nD Cert.NormMixRefIdeal.τ).loc Cert.NormMixRefIdeal.main_arg3)
      ∧ r.2.mem ((c.tc : Thread Cert.NormMixRefIdeal.nD Cert.NormMixRefIdeal.τ).loc Cert.NormMixRefIdeal.main_arg4) = m ((c.tc : Thread Cert.NormMixRefIdeal.nD Cert.NormMixRefIdeal.τ).loc Cert.NormMixRefIdeal.main_arg4)
      ∧ r.2.mem ((c.tc : Thread Cert.NormMixRefIdeal.nD Cert.NormMixRefIdeal.τ).loc Cert.NormMixRefIdeal.main_arg5) = m ((c.tc : Thread Cert.NormMixRefIdeal.nD Cert.NormMixRefIdeal.τ).loc Cert.NormMixRefIdeal.main_arg5))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4)
      ∧ r.2.mem ((c.tc : Thread Cert.Up.nD Cert.Up.τ).loc Cert.Up.main_arg5) = m ((c.tc : Thread Cert.Up.nD Cert.Up.τ).loc Cert.Up.main_arg5))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2)
      ∧ r.2.mem ((c.tc : Thread Cert.MixIn.nD Cert.MixIn.τ).loc Cert.MixIn.main_arg3) = m ((c.tc : Thread Cert.MixIn.nD Cert.MixIn.τ).loc Cert.MixIn.main_arg3)
      ∧ r.2.mem ((c.tc : Thread Cert.MixIn.nD Cert.MixIn.τ).loc Cert.MixIn.main_arg4) = m ((c.tc : Thread Cert.MixIn.nD Cert.MixIn.τ).loc Cert.MixIn.main_arg4))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2)
      ∧ r.2.mem ((c.tc : Thread Cert.MixInRefIdeal.nD Cert.MixInRefIdeal.τ).loc Cert.MixInRefIdeal.main_arg3) = m ((c.tc : Thread Cert.MixInRefIdeal.nD Cert.MixInRefIdeal.τ).loc Cert.MixInRefIdeal.main_arg3)
      ∧ r.2.mem ((c.tc : Thread Cert.MixInRefIdeal.nD Cert.MixInRefIdeal.τ).loc Cert.MixInRefIdeal.main_arg4) = m ((c.tc : Thread Cert.MixInRefIdeal.nD Cert.MixInRefIdeal.τ).loc Cert.MixInRefIdeal.main_arg4))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4)
      ∧ r.2.mem ((c.tc : Thread Cert.MixFwd.nD Cert.MixFwd.τ).loc Cert.MixFwd.main_arg5) = m ((c.tc : Thread Cert.MixFwd.nD Cert.MixFwd.τ).loc Cert.MixFwd.main_arg5))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4)
      ∧ r.2.mem ((c.tc : Thread Cert.MixFwdRefIdeal.nD Cert.MixFwdRefIdeal.τ).loc Cert.MixFwdRefIdeal.main_arg5) = m ((c.tc : Thread Cert.MixFwdRefIdeal.nD Cert.MixFwdRefIdeal.τ).loc Cert.MixFwdRefIdeal.main_arg5))
      ∧ r.2.sem = fun _ => 0)

def preserves_Gate_GateIdeal : Prop :=
  True

def algebraic_GateIdeal_GateRefIdeal_pre_gate_pre [hGateIdeal : Cert.GateIdeal.Facts] [hGateRefIdeal : Cert.GateRefIdeal.Facts] [hPre_gate_pre : Cert.Pre_gate_pre.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_gate_pre m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)) →
    ∃ (v0 : (c : Dev Cert.GateIdeal.nD) → Buf (Elt Ideal) ((c.tc : Thread Cert.GateIdeal.nD Cert.GateIdeal.τ).loc Cert.GateIdeal.main_v12_0)) (v1 : (c : Dev Cert.GateIdeal.nD) → Buf (Elt Ideal) ((c.tc : Thread Cert.GateIdeal.nD Cert.GateIdeal.τ).loc Cert.GateIdeal.main_v12_1)) (v2 : (c : Dev Cert.GateIdeal.nD) → Buf (Elt Ideal) ((c.tc : Thread Cert.GateIdeal.nD Cert.GateIdeal.τ).loc Cert.GateIdeal.main_v12_2)) (v3 : (c : Dev Cert.GateIdeal.nD) → Buf (Elt Ideal) ((c.tc : Thread Cert.GateIdeal.nD Cert.GateIdeal.τ).loc Cert.GateIdeal.main_v12_3)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v12_0) = v0 c
          ∧ r.2.mem ((c.tc : Thread Cert.GateIdeal.nD Cert.GateIdeal.τ).loc Cert.GateIdeal.main_v12_1) = v1 c
          ∧ r.2.mem ((c.tc : Thread Cert.GateIdeal.nD Cert.GateIdeal.τ).loc Cert.GateIdeal.main_v12_2) = v2 c
          ∧ r.2.mem ((c.tc : Thread Cert.GateIdeal.nD Cert.GateIdeal.τ).loc Cert.GateIdeal.main_v12_3) = v3 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v27) = v0 c
          ∧ r.2.mem ((c.tc : Thread Cert.GateRefIdeal.nD Cert.GateRefIdeal.τ).loc Cert.GateRefIdeal.main_v28) = v1 c
          ∧ r.2.mem ((c.tc : Thread Cert.GateRefIdeal.nD Cert.GateRefIdeal.τ).loc Cert.GateRefIdeal.main_v29) = v2 c
          ∧ r.2.mem ((c.tc : Thread Cert.GateRefIdeal.nD Cert.GateRefIdeal.τ).loc Cert.GateRefIdeal.main_v30) = v3 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4))

def preserves_Attn_AttnIdeal : Prop :=
  IdealRules.named_const.Statement Cert.AttnIdeal.κ "exp2_scale" .f32 0x3DD53B95#32 (((Real.log 2)⁻¹ * (Real.sqrt 192)⁻¹ : ℝ) : EReal)
  ∧ IdealRules.named_const.Statement Cert.AttnIdeal.κ "mask" .f32 0xF149F2CA#32 ⊥
  ∧ IdealRules.named_const.Statement Cert.AttnIdeal.κ "att_scale" .f32 0x3D93CD3A#32 (((Real.sqrt 192)⁻¹ : ℝ) : EReal)

def algebraic_AttnIdeal_AttnRefIdeal_pre_attn_pre [hAttnIdeal : Cert.AttnIdeal.Facts] [hAttnRefIdeal : Cert.AttnRefIdeal.Facts] [hPre_attn_pre : Cert.Pre_attn_pre.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_pre m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v55_0)) (v1 : (c : Dev Cert.AttnIdeal.nD) → Buf (Elt Ideal) ((c.tc : Thread Cert.AttnIdeal.nD Cert.AttnIdeal.τ).loc Cert.AttnIdeal.main_v55_1)) (v2 : (c : Dev Cert.AttnIdeal.nD) → Buf (Elt Ideal) ((c.tc : Thread Cert.AttnIdeal.nD Cert.AttnIdeal.τ).loc Cert.AttnIdeal.main_v55_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v55_0) = v0 c
          ∧ r.2.mem ((c.tc : Thread Cert.AttnIdeal.nD Cert.AttnIdeal.τ).loc Cert.AttnIdeal.main_v55_1) = v1 c
          ∧ r.2.mem ((c.tc : Thread Cert.AttnIdeal.nD Cert.AttnIdeal.τ).loc Cert.AttnIdeal.main_v55_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v82) = v0 c
          ∧ r.2.mem ((c.tc : Thread Cert.AttnRefIdeal.nD Cert.AttnRefIdeal.τ).loc Cert.AttnRefIdeal.main_v83) = v1 c
          ∧ r.2.mem ((c.tc : Thread Cert.AttnRefIdeal.nD Cert.AttnRefIdeal.τ).loc Cert.AttnRefIdeal.main_v85) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def preserves_Norm_NormIdeal : Prop :=
  True

def algebraic_NormIdeal_NormRefIdeal_pre_norm_pre [hNormIdeal : Cert.NormIdeal.Facts] [hNormRefIdeal : Cert.NormRefIdeal.Facts] [hPre_norm_pre : Cert.Pre_norm_pre.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal_norm_pre m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)
      ∧ m' ((c.tc : Thread Cert.NormRefIdeal.nD Cert.NormRefIdeal.τ).loc Cert.NormRefIdeal.main_arg5) = m ((c.tc : Thread Cert.NormIdeal.nD Cert.NormIdeal.τ).loc Cert.NormIdeal.main_arg5)
      ∧ m' ((c.tc : Thread Cert.NormRefIdeal.nD Cert.NormRefIdeal.τ).loc Cert.NormRefIdeal.main_arg6) = m ((c.tc : Thread Cert.NormIdeal.nD Cert.NormIdeal.τ).loc Cert.NormIdeal.main_arg6)
      ∧ m' ((c.tc : Thread Cert.NormRefIdeal.nD Cert.NormRefIdeal.τ).loc Cert.NormRefIdeal.main_arg7) = m ((c.tc : Thread Cert.NormIdeal.nD Cert.NormIdeal.τ).loc Cert.NormIdeal.main_arg7)) →
    ∃ (v0 : (c : Dev Cert.NormIdeal.nD) → Buf (Elt Ideal) ((c.tc : Thread Cert.NormIdeal.nD Cert.NormIdeal.τ).loc Cert.NormIdeal.main_v6_0)) (v1 : (c : Dev Cert.NormIdeal.nD) → Buf (Elt Ideal) ((c.tc : Thread Cert.NormIdeal.nD Cert.NormIdeal.τ).loc Cert.NormIdeal.main_v6_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v6_0) = v0 c
          ∧ r.2.mem ((c.tc : Thread Cert.NormIdeal.nD Cert.NormIdeal.τ).loc Cert.NormIdeal.main_v6_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
          ∧ r.2.mem ((c.tc : Thread Cert.NormIdeal.nD Cert.NormIdeal.τ).loc Cert.NormIdeal.main_arg6) = m ((c.tc : Thread Cert.NormIdeal.nD Cert.NormIdeal.τ).loc Cert.NormIdeal.main_arg6)
          ∧ r.2.mem ((c.tc : Thread Cert.NormIdeal.nD Cert.NormIdeal.τ).loc Cert.NormIdeal.main_arg7) = m ((c.tc : Thread Cert.NormIdeal.nD Cert.NormIdeal.τ).loc Cert.NormIdeal.main_arg7))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v53) = v0 c
          ∧ r.2.mem ((c.tc : Thread Cert.NormRefIdeal.nD Cert.NormRefIdeal.τ).loc Cert.NormRefIdeal.main_v55) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4)
          ∧ r.2.mem ((c.tc : Thread Cert.NormRefIdeal.nD Cert.NormRefIdeal.τ).loc Cert.NormRefIdeal.main_arg5) = m' ((c.tc : Thread Cert.NormRefIdeal.nD Cert.NormRefIdeal.τ).loc Cert.NormRefIdeal.main_arg5)
          ∧ r.2.mem ((c.tc : Thread Cert.NormRefIdeal.nD Cert.NormRefIdeal.τ).loc Cert.NormRefIdeal.main_arg6) = m' ((c.tc : Thread Cert.NormRefIdeal.nD Cert.NormRefIdeal.τ).loc Cert.NormRefIdeal.main_arg6)
          ∧ r.2.mem ((c.tc : Thread Cert.NormRefIdeal.nD Cert.NormRefIdeal.τ).loc Cert.NormRefIdeal.main_arg7) = m' ((c.tc : Thread Cert.NormRefIdeal.nD Cert.NormRefIdeal.τ).loc Cert.NormRefIdeal.main_arg7))

def preserves_Loss_LossIdeal : Prop :=
  True

def algebraic_LossIdeal_LossRefIdeal_pre_loss_pre [hLossIdeal : Cert.LossIdeal.Facts] [hLossRefIdeal : Cert.LossRefIdeal.Facts] [hPre_loss_pre : Cert.Pre_loss_pre.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_pre m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)
      ∧ m' ((c.tc : Thread Cert.LossRefIdeal.nD Cert.LossRefIdeal.τ).loc Cert.LossRefIdeal.main_arg5) = m ((c.tc : Thread Cert.LossIdeal.nD Cert.LossIdeal.τ).loc Cert.LossIdeal.main_arg5)) →
    ∃ (v0 : (c : Dev Cert.LossIdeal.nD) → Buf (Elt Ideal) ((c.tc : Thread Cert.LossIdeal.nD Cert.LossIdeal.τ).loc Cert.LossIdeal.main_v2_0)) (v1 : (c : Dev Cert.LossIdeal.nD) → Buf (Elt Ideal) ((c.tc : Thread Cert.LossIdeal.nD Cert.LossIdeal.τ).loc Cert.LossIdeal.main_v2_1)) (v2 : (c : Dev Cert.LossIdeal.nD) → Buf (Elt Ideal) ((c.tc : Thread Cert.LossIdeal.nD Cert.LossIdeal.τ).loc Cert.LossIdeal.main_v2_2)) (v3 : (c : Dev Cert.LossIdeal.nD) → Buf (Elt Ideal) ((c.tc : Thread Cert.LossIdeal.nD Cert.LossIdeal.τ).loc Cert.LossIdeal.main_v2_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v2_0) = v0 c
          ∧ r.2.mem ((c.tc : Thread Cert.LossIdeal.nD Cert.LossIdeal.τ).loc Cert.LossIdeal.main_v2_1) = v1 c
          ∧ r.2.mem ((c.tc : Thread Cert.LossIdeal.nD Cert.LossIdeal.τ).loc Cert.LossIdeal.main_v2_2) = v2 c
          ∧ r.2.mem ((c.tc : Thread Cert.LossIdeal.nD Cert.LossIdeal.τ).loc Cert.LossIdeal.main_v2_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
          ∧ r.2.mem ((c.tc : Thread Cert.LossIdeal.nD Cert.LossIdeal.τ).loc Cert.LossIdeal.main_arg5) = m ((c.tc : Thread Cert.LossIdeal.nD Cert.LossIdeal.τ).loc Cert.LossIdeal.main_arg5))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v54) = v0 c
          ∧ r.2.mem ((c.tc : Thread Cert.LossRefIdeal.nD Cert.LossRefIdeal.τ).loc Cert.LossRefIdeal.main_v56) = v1 c
          ∧ r.2.mem ((c.tc : Thread Cert.LossRefIdeal.nD Cert.LossRefIdeal.τ).loc Cert.LossRefIdeal.main_v57) = v2 c
          ∧ r.2.mem ((c.tc : Thread Cert.LossRefIdeal.nD Cert.LossRefIdeal.τ).loc Cert.LossRefIdeal.main_v58) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5))

def preserves_MixOut_MixOutIdeal : Prop :=
  True

def algebraic_MixOutIdeal_MixOutRefIdeal_pre_mixout_pre [hMixOutIdeal : Cert.MixOutIdeal.Facts] [hMixOutRefIdeal : Cert.MixOutRefIdeal.Facts] [hPre_mixout_pre : Cert.Pre_mixout_pre.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal_mixout_pre m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)) →
    ∃ (v0 : (c : Dev Cert.MixOutIdeal.nD) → Buf (Elt Ideal) ((c.tc : Thread Cert.MixOutIdeal.nD Cert.MixOutIdeal.τ).loc Cert.MixOutIdeal.main_v55_0)) (v1 : (c : Dev Cert.MixOutIdeal.nD) → Buf (Elt Ideal) ((c.tc : Thread Cert.MixOutIdeal.nD Cert.MixOutIdeal.τ).loc Cert.MixOutIdeal.main_v55_1)) (v2 : (c : Dev Cert.MixOutIdeal.nD) → Buf (Elt Ideal) ((c.tc : Thread Cert.MixOutIdeal.nD Cert.MixOutIdeal.τ).loc Cert.MixOutIdeal.main_v55_2)) (v3 : (c : Dev Cert.MixOutIdeal.nD) → Buf (Elt Ideal) ((c.tc : Thread Cert.MixOutIdeal.nD Cert.MixOutIdeal.τ).loc Cert.MixOutIdeal.main_v55_3)) (v4 : (c : Dev Cert.MixOutIdeal.nD) → Buf (Elt Ideal) ((c.tc : Thread Cert.MixOutIdeal.nD Cert.MixOutIdeal.τ).loc Cert.MixOutIdeal.main_v55_4)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v55_0) = v0 c
          ∧ r.2.mem ((c.tc : Thread Cert.MixOutIdeal.nD Cert.MixOutIdeal.τ).loc Cert.MixOutIdeal.main_v55_1) = v1 c
          ∧ r.2.mem ((c.tc : Thread Cert.MixOutIdeal.nD Cert.MixOutIdeal.τ).loc Cert.MixOutIdeal.main_v55_2) = v2 c
          ∧ r.2.mem ((c.tc : Thread Cert.MixOutIdeal.nD Cert.MixOutIdeal.τ).loc Cert.MixOutIdeal.main_v55_3) = v3 c
          ∧ r.2.mem ((c.tc : Thread Cert.MixOutIdeal.nD Cert.MixOutIdeal.τ).loc Cert.MixOutIdeal.main_v55_4) = v4 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v133) = v0 c
          ∧ r.2.mem ((c.tc : Thread Cert.MixOutRefIdeal.nD Cert.MixOutRefIdeal.τ).loc Cert.MixOutRefIdeal.main_v126) = v1 c
          ∧ r.2.mem ((c.tc : Thread Cert.MixOutRefIdeal.nD Cert.MixOutRefIdeal.τ).loc Cert.MixOutRefIdeal.main_v134) = v2 c
          ∧ r.2.mem ((c.tc : Thread Cert.MixOutRefIdeal.nD Cert.MixOutRefIdeal.τ).loc Cert.MixOutRefIdeal.main_v136) = v3 c
          ∧ r.2.mem ((c.tc : Thread Cert.MixOutRefIdeal.nD Cert.MixOutRefIdeal.τ).loc Cert.MixOutRefIdeal.main_v138) = v4 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5))

def preserves_MixMid_MixMidIdeal : Prop :=
  True

def algebraic_MixMidIdeal_MixMidRefIdeal_pre_mixmid_pre [hMixMidIdeal : Cert.MixMidIdeal.Facts] [hMixMidRefIdeal : Cert.MixMidRefIdeal.Facts] [hPre_mixmid_pre : Cert.Pre_mixmid_pre.Facts] : Prop :=
  ∀ (m : (ℓ : Loc Cert.MixMidIdeal.nD Cert.MixMidIdeal.τ Cert.MixMidIdeal.sig) → Buf (Elt Ideal) ℓ) (g : Dev Cert.MixMidIdeal.nD → PrngReg)
    (m' : (ℓ : Loc Cert.MixMidRefIdeal.nD Cert.MixMidRefIdeal.τ Cert.MixMidRefIdeal.sig) → Buf (Elt Ideal) ℓ) (g' : Dev Cert.MixMidRefIdeal.nD → PrngReg), Pre_MixMidIdeal_mixmid_pre m →
    (∀ c : Dev Cert.MixMidIdeal.nD,
      m' ((c.tc : Thread Cert.MixMidRefIdeal.nD Cert.MixMidRefIdeal.τ).loc Cert.MixMidRefIdeal.main_arg0) = m ((c.tc : Thread Cert.MixMidIdeal.nD Cert.MixMidIdeal.τ).loc Cert.MixMidIdeal.main_arg0)
      ∧ m' ((c.tc : Thread Cert.MixMidRefIdeal.nD Cert.MixMidRefIdeal.τ).loc Cert.MixMidRefIdeal.main_arg1) = m ((c.tc : Thread Cert.MixMidIdeal.nD Cert.MixMidIdeal.τ).loc Cert.MixMidIdeal.main_arg1)
      ∧ m' ((c.tc : Thread Cert.MixMidRefIdeal.nD Cert.MixMidRefIdeal.τ).loc Cert.MixMidRefIdeal.main_arg2) = m ((c.tc : Thread Cert.MixMidIdeal.nD Cert.MixMidIdeal.τ).loc Cert.MixMidIdeal.main_arg2)
      ∧ m' ((c.tc : Thread Cert.MixMidRefIdeal.nD Cert.MixMidRefIdeal.τ).loc Cert.MixMidRefIdeal.main_arg3) = m ((c.tc : Thread Cert.MixMidIdeal.nD Cert.MixMidIdeal.τ).loc Cert.MixMidIdeal.main_arg3)
      ∧ m' ((c.tc : Thread Cert.MixMidRefIdeal.nD Cert.MixMidRefIdeal.τ).loc Cert.MixMidRefIdeal.main_arg4) = m ((c.tc : Thread Cert.MixMidIdeal.nD Cert.MixMidIdeal.τ).loc Cert.MixMidIdeal.main_arg4)
      ∧ m' ((c.tc : Thread Cert.MixMidRefIdeal.nD Cert.MixMidRefIdeal.τ).loc Cert.MixMidRefIdeal.main_arg5) = m ((c.tc : Thread Cert.MixMidIdeal.nD Cert.MixMidIdeal.τ).loc Cert.MixMidIdeal.main_arg5)
      ∧ m' ((c.tc : Thread Cert.MixMidRefIdeal.nD Cert.MixMidRefIdeal.τ).loc Cert.MixMidRefIdeal.main_arg6) = m ((c.tc : Thread Cert.MixMidIdeal.nD Cert.MixMidIdeal.τ).loc Cert.MixMidIdeal.main_arg6)
      ∧ m' ((c.tc : Thread Cert.MixMidRefIdeal.nD Cert.MixMidRefIdeal.τ).loc Cert.MixMidRefIdeal.main_arg7) = m ((c.tc : Thread Cert.MixMidIdeal.nD Cert.MixMidIdeal.τ).loc Cert.MixMidIdeal.main_arg7)
      ∧ m' ((c.tc : Thread Cert.MixMidRefIdeal.nD Cert.MixMidRefIdeal.τ).loc Cert.MixMidRefIdeal.main_arg8) = m ((c.tc : Thread Cert.MixMidIdeal.nD Cert.MixMidIdeal.τ).loc Cert.MixMidIdeal.main_arg8)
      ∧ m' ((c.tc : Thread Cert.MixMidRefIdeal.nD Cert.MixMidRefIdeal.τ).loc Cert.MixMidRefIdeal.main_arg9) = m ((c.tc : Thread Cert.MixMidIdeal.nD Cert.MixMidIdeal.τ).loc Cert.MixMidIdeal.main_arg9)
      ∧ m' ((c.tc : Thread Cert.MixMidRefIdeal.nD Cert.MixMidRefIdeal.τ).loc Cert.MixMidRefIdeal.main_arg10) = m ((c.tc : Thread Cert.MixMidIdeal.nD Cert.MixMidIdeal.τ).loc Cert.MixMidIdeal.main_arg10)) →
    ∃ (v0 : (c : Dev Cert.MixMidIdeal.nD) → Buf (Elt Ideal) ((c.tc : Thread Cert.MixMidIdeal.nD Cert.MixMidIdeal.τ).loc Cert.MixMidIdeal.main_v40_0)) (v1 : (c : Dev Cert.MixMidIdeal.nD) → Buf (Elt Ideal) ((c.tc : Thread Cert.MixMidIdeal.nD Cert.MixMidIdeal.τ).loc Cert.MixMidIdeal.main_v40_1)) (v2 : (c : Dev Cert.MixMidIdeal.nD) → Buf (Elt Ideal) ((c.tc : Thread Cert.MixMidIdeal.nD Cert.MixMidIdeal.τ).loc Cert.MixMidIdeal.main_v40_2)) (v3 : (c : Dev Cert.MixMidIdeal.nD) → Buf (Elt Ideal) ((c.tc : Thread Cert.MixMidIdeal.nD Cert.MixMidIdeal.τ).loc Cert.MixMidIdeal.main_v40_3)),
      θ_run (Cert.MixMidIdeal.defs (F := Ideal)) (onTc (τ := Cert.MixMidIdeal.τ) (Cert.MixMidIdeal.main (F := Ideal))) ⟨m, fun _ => 0, g⟩ (fun r => ∀ c : Dev Cert.MixMidIdeal.nD,
          r.2.mem ((c.tc : Thread Cert.MixMidIdeal.nD Cert.MixMidIdeal.τ).loc Cert.MixMidIdeal.main_v40_0) = v0 c
          ∧ r.2.mem ((c.tc : Thread Cert.MixMidIdeal.nD Cert.MixMidIdeal.τ).loc Cert.MixMidIdeal.main_v40_1) = v1 c
          ∧ r.2.mem ((c.tc : Thread Cert.MixMidIdeal.nD Cert.MixMidIdeal.τ).loc Cert.MixMidIdeal.main_v40_2) = v2 c
          ∧ r.2.mem ((c.tc : Thread Cert.MixMidIdeal.nD Cert.MixMidIdeal.τ).loc Cert.MixMidIdeal.main_v40_3) = v3 c
          ∧ r.2.mem ((c.tc : Thread Cert.MixMidIdeal.nD Cert.MixMidIdeal.τ).loc Cert.MixMidIdeal.main_arg0) = m ((c.tc : Thread Cert.MixMidIdeal.nD Cert.MixMidIdeal.τ).loc Cert.MixMidIdeal.main_arg0)
          ∧ r.2.mem ((c.tc : Thread Cert.MixMidIdeal.nD Cert.MixMidIdeal.τ).loc Cert.MixMidIdeal.main_arg1) = m ((c.tc : Thread Cert.MixMidIdeal.nD Cert.MixMidIdeal.τ).loc Cert.MixMidIdeal.main_arg1)
          ∧ r.2.mem ((c.tc : Thread Cert.MixMidIdeal.nD Cert.MixMidIdeal.τ).loc Cert.MixMidIdeal.main_arg2) = m ((c.tc : Thread Cert.MixMidIdeal.nD Cert.MixMidIdeal.τ).loc Cert.MixMidIdeal.main_arg2)
          ∧ r.2.mem ((c.tc : Thread Cert.MixMidIdeal.nD Cert.MixMidIdeal.τ).loc Cert.MixMidIdeal.main_arg3) = m ((c.tc : Thread Cert.MixMidIdeal.nD Cert.MixMidIdeal.τ).loc Cert.MixMidIdeal.main_arg3)
          ∧ r.2.mem ((c.tc : Thread Cert.MixMidIdeal.nD Cert.MixMidIdeal.τ).loc Cert.MixMidIdeal.main_arg4) = m ((c.tc : Thread Cert.MixMidIdeal.nD Cert.MixMidIdeal.τ).loc Cert.MixMidIdeal.main_arg4)
          ∧ r.2.mem ((c.tc : Thread Cert.MixMidIdeal.nD Cert.MixMidIdeal.τ).loc Cert.MixMidIdeal.main_arg5) = m ((c.tc : Thread Cert.MixMidIdeal.nD Cert.MixMidIdeal.τ).loc Cert.MixMidIdeal.main_arg5)
          ∧ r.2.mem ((c.tc : Thread Cert.MixMidIdeal.nD Cert.MixMidIdeal.τ).loc Cert.MixMidIdeal.main_arg6) = m ((c.tc : Thread Cert.MixMidIdeal.nD Cert.MixMidIdeal.τ).loc Cert.MixMidIdeal.main_arg6)
          ∧ r.2.mem ((c.tc : Thread Cert.MixMidIdeal.nD Cert.MixMidIdeal.τ).loc Cert.MixMidIdeal.main_arg7) = m ((c.tc : Thread Cert.MixMidIdeal.nD Cert.MixMidIdeal.τ).loc Cert.MixMidIdeal.main_arg7)
          ∧ r.2.mem ((c.tc : Thread Cert.MixMidIdeal.nD Cert.MixMidIdeal.τ).loc Cert.MixMidIdeal.main_arg8) = m ((c.tc : Thread Cert.MixMidIdeal.nD Cert.MixMidIdeal.τ).loc Cert.MixMidIdeal.main_arg8)
          ∧ r.2.mem ((c.tc : Thread Cert.MixMidIdeal.nD Cert.MixMidIdeal.τ).loc Cert.MixMidIdeal.main_arg9) = m ((c.tc : Thread Cert.MixMidIdeal.nD Cert.MixMidIdeal.τ).loc Cert.MixMidIdeal.main_arg9)
          ∧ r.2.mem ((c.tc : Thread Cert.MixMidIdeal.nD Cert.MixMidIdeal.τ).loc Cert.MixMidIdeal.main_arg10) = m ((c.tc : Thread Cert.MixMidIdeal.nD Cert.MixMidIdeal.τ).loc Cert.MixMidIdeal.main_arg10))
      ∧ θ_run (Cert.MixMidRefIdeal.defs (F := Ideal)) (onTc (τ := Cert.MixMidRefIdeal.τ) (Cert.MixMidRefIdeal.main (F := Ideal))) ⟨m', fun _ => 0, g'⟩ (fun r => ∀ c : Dev Cert.MixMidRefIdeal.nD,
          r.2.mem ((c.tc : Thread Cert.MixMidRefIdeal.nD Cert.MixMidRefIdeal.τ).loc Cert.MixMidRefIdeal.main_v251) = v0 c
          ∧ r.2.mem ((c.tc : Thread Cert.MixMidRefIdeal.nD Cert.MixMidRefIdeal.τ).loc Cert.MixMidRefIdeal.main_v252) = v1 c
          ∧ r.2.mem ((c.tc : Thread Cert.MixMidRefIdeal.nD Cert.MixMidRefIdeal.τ).loc Cert.MixMidRefIdeal.main_v253) = v2 c
          ∧ r.2.mem ((c.tc : Thread Cert.MixMidRefIdeal.nD Cert.MixMidRefIdeal.τ).loc Cert.MixMidRefIdeal.main_v254) = v3 c
          ∧ r.2.mem ((c.tc : Thread Cert.MixMidRefIdeal.nD Cert.MixMidRefIdeal.τ).loc Cert.MixMidRefIdeal.main_arg0) = m' ((c.tc : Thread Cert.MixMidRefIdeal.nD Cert.MixMidRefIdeal.τ).loc Cert.MixMidRefIdeal.main_arg0)
          ∧ r.2.mem ((c.tc : Thread Cert.MixMidRefIdeal.nD Cert.MixMidRefIdeal.τ).loc Cert.MixMidRefIdeal.main_arg1) = m' ((c.tc : Thread Cert.MixMidRefIdeal.nD Cert.MixMidRefIdeal.τ).loc Cert.MixMidRefIdeal.main_arg1)
          ∧ r.2.mem ((c.tc : Thread Cert.MixMidRefIdeal.nD Cert.MixMidRefIdeal.τ).loc Cert.MixMidRefIdeal.main_arg2) = m' ((c.tc : Thread Cert.MixMidRefIdeal.nD Cert.MixMidRefIdeal.τ).loc Cert.MixMidRefIdeal.main_arg2)
          ∧ r.2.mem ((c.tc : Thread Cert.MixMidRefIdeal.nD Cert.MixMidRefIdeal.τ).loc Cert.MixMidRefIdeal.main_arg3) = m' ((c.tc : Thread Cert.MixMidRefIdeal.nD Cert.MixMidRefIdeal.τ).loc Cert.MixMidRefIdeal.main_arg3)
          ∧ r.2.mem ((c.tc : Thread Cert.MixMidRefIdeal.nD Cert.MixMidRefIdeal.τ).loc Cert.MixMidRefIdeal.main_arg4) = m' ((c.tc : Thread Cert.MixMidRefIdeal.nD Cert.MixMidRefIdeal.τ).loc Cert.MixMidRefIdeal.main_arg4)
          ∧ r.2.mem ((c.tc : Thread Cert.MixMidRefIdeal.nD Cert.MixMidRefIdeal.τ).loc Cert.MixMidRefIdeal.main_arg5) = m' ((c.tc : Thread Cert.MixMidRefIdeal.nD Cert.MixMidRefIdeal.τ).loc Cert.MixMidRefIdeal.main_arg5)
          ∧ r.2.mem ((c.tc : Thread Cert.MixMidRefIdeal.nD Cert.MixMidRefIdeal.τ).loc Cert.MixMidRefIdeal.main_arg6) = m' ((c.tc : Thread Cert.MixMidRefIdeal.nD Cert.MixMidRefIdeal.τ).loc Cert.MixMidRefIdeal.main_arg6)
          ∧ r.2.mem ((c.tc : Thread Cert.MixMidRefIdeal.nD Cert.MixMidRefIdeal.τ).loc Cert.MixMidRefIdeal.main_arg7) = m' ((c.tc : Thread Cert.MixMidRefIdeal.nD Cert.MixMidRefIdeal.τ).loc Cert.MixMidRefIdeal.main_arg7)
          ∧ r.2.mem ((c.tc : Thread Cert.MixMidRefIdeal.nD Cert.MixMidRefIdeal.τ).loc Cert.MixMidRefIdeal.main_arg8) = m' ((c.tc : Thread Cert.MixMidRefIdeal.nD Cert.MixMidRefIdeal.τ).loc Cert.MixMidRefIdeal.main_arg8)
          ∧ r.2.mem ((c.tc : Thread Cert.MixMidRefIdeal.nD Cert.MixMidRefIdeal.τ).loc Cert.MixMidRefIdeal.main_arg9) = m' ((c.tc : Thread Cert.MixMidRefIdeal.nD Cert.MixMidRefIdeal.τ).loc Cert.MixMidRefIdeal.main_arg9)
          ∧ r.2.mem ((c.tc : Thread Cert.MixMidRefIdeal.nD Cert.MixMidRefIdeal.τ).loc Cert.MixMidRefIdeal.main_arg10) = m' ((c.tc : Thread Cert.MixMidRefIdeal.nD Cert.MixMidRefIdeal.τ).loc Cert.MixMidRefIdeal.main_arg10))

def preserves_NormMix_NormMixIdeal : Prop :=
  True

def algebraic_NormMixIdeal_NormMixRefIdeal_pre_normmix_pre [hNormMixIdeal : Cert.NormMixIdeal.Facts] [hNormMixRefIdeal : Cert.NormMixRefIdeal.Facts] [hPre_normmix_pre : Cert.Pre_normmix_pre.Facts] : Prop :=
  ∀ (m : (ℓ : Loc Cert.NormMixIdeal.nD Cert.NormMixIdeal.τ Cert.NormMixIdeal.sig) → Buf (Elt Ideal) ℓ) (g : Dev Cert.NormMixIdeal.nD → PrngReg)
    (m' : (ℓ : Loc Cert.NormMixRefIdeal.nD Cert.NormMixRefIdeal.τ Cert.NormMixRefIdeal.sig) → Buf (Elt Ideal) ℓ) (g' : Dev Cert.NormMixRefIdeal.nD → PrngReg), Pre_NormMixIdeal_normmix_pre m →
    (∀ c : Dev Cert.NormMixIdeal.nD,
      m' ((c.tc : Thread Cert.NormMixRefIdeal.nD Cert.NormMixRefIdeal.τ).loc Cert.NormMixRefIdeal.main_arg0) = m ((c.tc : Thread Cert.NormMixIdeal.nD Cert.NormMixIdeal.τ).loc Cert.NormMixIdeal.main_arg0)
      ∧ m' ((c.tc : Thread Cert.NormMixRefIdeal.nD Cert.NormMixRefIdeal.τ).loc Cert.NormMixRefIdeal.main_arg1) = m ((c.tc : Thread Cert.NormMixIdeal.nD Cert.NormMixIdeal.τ).loc Cert.NormMixIdeal.main_arg1)
      ∧ m' ((c.tc : Thread Cert.NormMixRefIdeal.nD Cert.NormMixRefIdeal.τ).loc Cert.NormMixRefIdeal.main_arg2) = m ((c.tc : Thread Cert.NormMixIdeal.nD Cert.NormMixIdeal.τ).loc Cert.NormMixIdeal.main_arg2)
      ∧ m' ((c.tc : Thread Cert.NormMixRefIdeal.nD Cert.NormMixRefIdeal.τ).loc Cert.NormMixRefIdeal.main_arg3) = m ((c.tc : Thread Cert.NormMixIdeal.nD Cert.NormMixIdeal.τ).loc Cert.NormMixIdeal.main_arg3)
      ∧ m' ((c.tc : Thread Cert.NormMixRefIdeal.nD Cert.NormMixRefIdeal.τ).loc Cert.NormMixRefIdeal.main_arg4) = m ((c.tc : Thread Cert.NormMixIdeal.nD Cert.NormMixIdeal.τ).loc Cert.NormMixIdeal.main_arg4)
      ∧ m' ((c.tc : Thread Cert.NormMixRefIdeal.nD Cert.NormMixRefIdeal.τ).loc Cert.NormMixRefIdeal.main_arg5) = m ((c.tc : Thread Cert.NormMixIdeal.nD Cert.NormMixIdeal.τ).loc Cert.NormMixIdeal.main_arg5)) →
    ∃ (v0 : (c : Dev Cert.NormMixIdeal.nD) → Buf (Elt Ideal) ((c.tc : Thread Cert.NormMixIdeal.nD Cert.NormMixIdeal.τ).loc Cert.NormMixIdeal.main_v5_0)) (v1 : (c : Dev Cert.NormMixIdeal.nD) → Buf (Elt Ideal) ((c.tc : Thread Cert.NormMixIdeal.nD Cert.NormMixIdeal.τ).loc Cert.NormMixIdeal.main_v5_1)),
      θ_run (Cert.NormMixIdeal.defs (F := Ideal)) (onTc (τ := Cert.NormMixIdeal.τ) (Cert.NormMixIdeal.main (F := Ideal))) ⟨m, fun _ => 0, g⟩ (fun r => ∀ c : Dev Cert.NormMixIdeal.nD,
          r.2.mem ((c.tc : Thread Cert.NormMixIdeal.nD Cert.NormMixIdeal.τ).loc Cert.NormMixIdeal.main_v5_0) = v0 c
          ∧ r.2.mem ((c.tc : Thread Cert.NormMixIdeal.nD Cert.NormMixIdeal.τ).loc Cert.NormMixIdeal.main_v5_1) = v1 c
          ∧ r.2.mem ((c.tc : Thread Cert.NormMixIdeal.nD Cert.NormMixIdeal.τ).loc Cert.NormMixIdeal.main_arg0) = m ((c.tc : Thread Cert.NormMixIdeal.nD Cert.NormMixIdeal.τ).loc Cert.NormMixIdeal.main_arg0)
          ∧ r.2.mem ((c.tc : Thread Cert.NormMixIdeal.nD Cert.NormMixIdeal.τ).loc Cert.NormMixIdeal.main_arg1) = m ((c.tc : Thread Cert.NormMixIdeal.nD Cert.NormMixIdeal.τ).loc Cert.NormMixIdeal.main_arg1)
          ∧ r.2.mem ((c.tc : Thread Cert.NormMixIdeal.nD Cert.NormMixIdeal.τ).loc Cert.NormMixIdeal.main_arg2) = m ((c.tc : Thread Cert.NormMixIdeal.nD Cert.NormMixIdeal.τ).loc Cert.NormMixIdeal.main_arg2)
          ∧ r.2.mem ((c.tc : Thread Cert.NormMixIdeal.nD Cert.NormMixIdeal.τ).loc Cert.NormMixIdeal.main_arg3) = m ((c.tc : Thread Cert.NormMixIdeal.nD Cert.NormMixIdeal.τ).loc Cert.NormMixIdeal.main_arg3)
          ∧ r.2.mem ((c.tc : Thread Cert.NormMixIdeal.nD Cert.NormMixIdeal.τ).loc Cert.NormMixIdeal.main_arg4) = m ((c.tc : Thread Cert.NormMixIdeal.nD Cert.NormMixIdeal.τ).loc Cert.NormMixIdeal.main_arg4)
          ∧ r.2.mem ((c.tc : Thread Cert.NormMixIdeal.nD Cert.NormMixIdeal.τ).loc Cert.NormMixIdeal.main_arg5) = m ((c.tc : Thread Cert.NormMixIdeal.nD Cert.NormMixIdeal.τ).loc Cert.NormMixIdeal.main_arg5))
      ∧ θ_run (Cert.NormMixRefIdeal.defs (F := Ideal)) (onTc (τ := Cert.NormMixRefIdeal.τ) (Cert.NormMixRefIdeal.main (F := Ideal))) ⟨m', fun _ => 0, g'⟩ (fun r => ∀ c : Dev Cert.NormMixRefIdeal.nD,
          r.2.mem ((c.tc : Thread Cert.NormMixRefIdeal.nD Cert.NormMixRefIdeal.τ).loc Cert.NormMixRefIdeal.main_v50) = v0 c
          ∧ r.2.mem ((c.tc : Thread Cert.NormMixRefIdeal.nD Cert.NormMixRefIdeal.τ).loc Cert.NormMixRefIdeal.main_v52) = v1 c
          ∧ r.2.mem ((c.tc : Thread Cert.NormMixRefIdeal.nD Cert.NormMixRefIdeal.τ).loc Cert.NormMixRefIdeal.main_arg0) = m' ((c.tc : Thread Cert.NormMixRefIdeal.nD Cert.NormMixRefIdeal.τ).loc Cert.NormMixRefIdeal.main_arg0)
          ∧ r.2.mem ((c.tc : Thread Cert.NormMixRefIdeal.nD Cert.NormMixRefIdeal.τ).loc Cert.NormMixRefIdeal.main_arg1) = m' ((c.tc : Thread Cert.NormMixRefIdeal.nD Cert.NormMixRefIdeal.τ).loc Cert.NormMixRefIdeal.main_arg1)
          ∧ r.2.mem ((c.tc : Thread Cert.NormMixRefIdeal.nD Cert.NormMixRefIdeal.τ).loc Cert.NormMixRefIdeal.main_arg2) = m' ((c.tc : Thread Cert.NormMixRefIdeal.nD Cert.NormMixRefIdeal.τ).loc Cert.NormMixRefIdeal.main_arg2)
          ∧ r.2.mem ((c.tc : Thread Cert.NormMixRefIdeal.nD Cert.NormMixRefIdeal.τ).loc Cert.NormMixRefIdeal.main_arg3) = m' ((c.tc : Thread Cert.NormMixRefIdeal.nD Cert.NormMixRefIdeal.τ).loc Cert.NormMixRefIdeal.main_arg3)
          ∧ r.2.mem ((c.tc : Thread Cert.NormMixRefIdeal.nD Cert.NormMixRefIdeal.τ).loc Cert.NormMixRefIdeal.main_arg4) = m' ((c.tc : Thread Cert.NormMixRefIdeal.nD Cert.NormMixRefIdeal.τ).loc Cert.NormMixRefIdeal.main_arg4)
          ∧ r.2.mem ((c.tc : Thread Cert.NormMixRefIdeal.nD Cert.NormMixRefIdeal.τ).loc Cert.NormMixRefIdeal.main_arg5) = m' ((c.tc : Thread Cert.NormMixRefIdeal.nD Cert.NormMixRefIdeal.τ).loc Cert.NormMixRefIdeal.main_arg5))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)
      ∧ m' ((c.tc : Thread Cert.UpRefIdeal.nD Cert.UpRefIdeal.τ).loc Cert.UpRefIdeal.main_arg5) = m ((c.tc : Thread Cert.UpIdeal.nD Cert.UpIdeal.τ).loc Cert.UpIdeal.main_arg5)) →
    ∃ (v0 : (c : Dev Cert.UpIdeal.nD) → Buf (Elt Ideal) ((c.tc : Thread Cert.UpIdeal.nD Cert.UpIdeal.τ).loc Cert.UpIdeal.main_v4_0)) (v1 : (c : Dev Cert.UpIdeal.nD) → Buf (Elt Ideal) ((c.tc : Thread Cert.UpIdeal.nD Cert.UpIdeal.τ).loc Cert.UpIdeal.main_v4_1)) (v2 : (c : Dev Cert.UpIdeal.nD) → Buf (Elt Ideal) ((c.tc : Thread Cert.UpIdeal.nD Cert.UpIdeal.τ).loc Cert.UpIdeal.main_v4_2)) (v3 : (c : Dev Cert.UpIdeal.nD) → Buf (Elt Ideal) ((c.tc : Thread Cert.UpIdeal.nD Cert.UpIdeal.τ).loc Cert.UpIdeal.main_v4_3)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v4_0) = v0 c
          ∧ r.2.mem ((c.tc : Thread Cert.UpIdeal.nD Cert.UpIdeal.τ).loc Cert.UpIdeal.main_v4_1) = v1 c
          ∧ r.2.mem ((c.tc : Thread Cert.UpIdeal.nD Cert.UpIdeal.τ).loc Cert.UpIdeal.main_v4_2) = v2 c
          ∧ r.2.mem ((c.tc : Thread Cert.UpIdeal.nD Cert.UpIdeal.τ).loc Cert.UpIdeal.main_v4_3) = v3 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
          ∧ r.2.mem ((c.tc : Thread Cert.UpIdeal.nD Cert.UpIdeal.τ).loc Cert.UpIdeal.main_arg5) = m ((c.tc : Thread Cert.UpIdeal.nD Cert.UpIdeal.τ).loc Cert.UpIdeal.main_arg5))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v22) = v0 c
          ∧ r.2.mem ((c.tc : Thread Cert.UpRefIdeal.nD Cert.UpRefIdeal.τ).loc Cert.UpRefIdeal.main_v24) = v1 c
          ∧ r.2.mem ((c.tc : Thread Cert.UpRefIdeal.nD Cert.UpRefIdeal.τ).loc Cert.UpRefIdeal.main_v26) = v2 c
          ∧ r.2.mem ((c.tc : Thread Cert.UpRefIdeal.nD Cert.UpRefIdeal.τ).loc Cert.UpRefIdeal.main_v27) = v3 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4)
          ∧ r.2.mem ((c.tc : Thread Cert.UpRefIdeal.nD Cert.UpRefIdeal.τ).loc Cert.UpRefIdeal.main_arg5) = m' ((c.tc : Thread Cert.UpRefIdeal.nD Cert.UpRefIdeal.τ).loc Cert.UpRefIdeal.main_arg5))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v2_0)) (v1 : (c : Dev Cert.DownIdeal.nD) → Buf (Elt Ideal) ((c.tc : Thread Cert.DownIdeal.nD Cert.DownIdeal.τ).loc Cert.DownIdeal.main_v2_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2_0) = v0 c
          ∧ r.2.mem ((c.tc : Thread Cert.DownIdeal.nD Cert.DownIdeal.τ).loc Cert.DownIdeal.main_v2_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v5) = v0 c
          ∧ r.2.mem ((c.tc : Thread Cert.DownRefIdeal.nD Cert.DownRefIdeal.τ).loc Cert.DownRefIdeal.main_v7) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)
      ∧ m' ((c.tc : Thread Cert.MixInRefIdeal.nD Cert.MixInRefIdeal.τ).loc Cert.MixInRefIdeal.main_arg2) = m ((c.tc : Thread Cert.MixInIdeal.nD Cert.MixInIdeal.τ).loc Cert.MixInIdeal.main_arg2)
      ∧ m' ((c.tc : Thread Cert.MixInRefIdeal.nD Cert.MixInRefIdeal.τ).loc Cert.MixInRefIdeal.main_arg3) = m ((c.tc : Thread Cert.MixInIdeal.nD Cert.MixInIdeal.τ).loc Cert.MixInIdeal.main_arg3)
      ∧ m' ((c.tc : Thread Cert.MixInRefIdeal.nD Cert.MixInRefIdeal.τ).loc Cert.MixInRefIdeal.main_arg4) = m ((c.tc : Thread Cert.MixInIdeal.nD Cert.MixInIdeal.τ).loc Cert.MixInIdeal.main_arg4)) →
    ∃ (v0 : (c : Dev Cert.MixInIdeal.nD) → Buf (Elt Ideal) ((c.tc : Thread Cert.MixInIdeal.nD Cert.MixInIdeal.τ).loc Cert.MixInIdeal.main_v3_0)) (v1 : (c : Dev Cert.MixInIdeal.nD) → Buf (Elt Ideal) ((c.tc : Thread Cert.MixInIdeal.nD Cert.MixInIdeal.τ).loc Cert.MixInIdeal.main_v3_1)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v3_0) = v0 c
          ∧ r.2.mem ((c.tc : Thread Cert.MixInIdeal.nD Cert.MixInIdeal.τ).loc Cert.MixInIdeal.main_v3_1) = v1 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
          ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
          ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v18) = v0 c
          ∧ r.2.mem ((c.tc : Thread Cert.MixInRefIdeal.nD Cert.MixInRefIdeal.τ).loc Cert.MixInRefIdeal.main_v20) = v1 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2)
          ∧ r.2.mem ((c.tc : Thread Cert.MixInRefIdeal.nD Cert.MixInRefIdeal.τ).loc Cert.MixInRefIdeal.main_arg3) = m' ((c.tc : Thread Cert.MixInRefIdeal.nD Cert.MixInRefIdeal.τ).loc Cert.MixInRefIdeal.main_arg3)
          ∧ r.2.mem ((c.tc : Thread Cert.MixInRefIdeal.nD Cert.MixInRefIdeal.τ).loc Cert.MixInRefIdeal.main_arg4) = m' ((c.tc : Thread Cert.MixInRefIdeal.nD Cert.MixInRefIdeal.τ).loc Cert.MixInRefIdeal.main_arg4))

def preserves_MixFwd_MixFwdIdeal : Prop :=
  True

def algebraic_MixFwdIdeal_MixFwdRefIdeal [hMixFwdIdeal : Cert.MixFwdIdeal.Facts] [hMixFwdRefIdeal : Cert.MixFwdRefIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)
      ∧ m' ((c.tc : Thread Cert.MixFwdRefIdeal.nD Cert.MixFwdRefIdeal.τ).loc Cert.MixFwdRefIdeal.main_arg3) = m ((c.tc : Thread Cert.MixFwdIdeal.nD Cert.MixFwdIdeal.τ).loc Cert.MixFwdIdeal.main_arg3)
      ∧ m' ((c.tc : Thread Cert.MixFwdRefIdeal.nD Cert.MixFwdRefIdeal.τ).loc Cert.MixFwdRefIdeal.main_arg4) = m ((c.tc : Thread Cert.MixFwdIdeal.nD Cert.MixFwdIdeal.τ).loc Cert.MixFwdIdeal.main_arg4)
      ∧ m' ((c.tc : Thread Cert.MixFwdRefIdeal.nD Cert.MixFwdRefIdeal.τ).loc Cert.MixFwdRefIdeal.main_arg5) = m ((c.tc : Thread Cert.MixFwdIdeal.nD Cert.MixFwdIdeal.τ).loc Cert.MixFwdIdeal.main_arg5)) →
    ∃ (v0 : (c : Dev Cert.MixFwdIdeal.nD) → Buf (Elt Ideal) ((c.tc : Thread Cert.MixFwdIdeal.nD Cert.MixFwdIdeal.τ).loc Cert.MixFwdIdeal.main_v19_0)) (v1 : (c : Dev Cert.MixFwdIdeal.nD) → Buf (Elt Ideal) ((c.tc : Thread Cert.MixFwdIdeal.nD Cert.MixFwdIdeal.τ).loc Cert.MixFwdIdeal.main_v19_1)) (v2 : (c : Dev Cert.MixFwdIdeal.nD) → Buf (Elt Ideal) ((c.tc : Thread Cert.MixFwdIdeal.nD Cert.MixFwdIdeal.τ).loc Cert.MixFwdIdeal.main_v19_2)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v19_0) = v0 c
          ∧ r.2.mem ((c.tc : Thread Cert.MixFwdIdeal.nD Cert.MixFwdIdeal.τ).loc Cert.MixFwdIdeal.main_v19_1) = v1 c
          ∧ r.2.mem ((c.tc : Thread Cert.MixFwdIdeal.nD Cert.MixFwdIdeal.τ).loc Cert.MixFwdIdeal.main_v19_2) = v2 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
          ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v34) = v0 c
          ∧ r.2.mem ((c.tc : Thread Cert.MixFwdRefIdeal.nD Cert.MixFwdRefIdeal.τ).loc Cert.MixFwdRefIdeal.main_v35) = v1 c
          ∧ r.2.mem ((c.tc : Thread Cert.MixFwdRefIdeal.nD Cert.MixFwdRefIdeal.τ).loc Cert.MixFwdRefIdeal.main_v37) = v2 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2)
          ∧ r.2.mem ((c.tc : Thread Cert.MixFwdRefIdeal.nD Cert.MixFwdRefIdeal.τ).loc Cert.MixFwdRefIdeal.main_arg3) = m' ((c.tc : Thread Cert.MixFwdRefIdeal.nD Cert.MixFwdRefIdeal.τ).loc Cert.MixFwdRefIdeal.main_arg3)
          ∧ r.2.mem ((c.tc : Thread Cert.MixFwdRefIdeal.nD Cert.MixFwdRefIdeal.τ).loc Cert.MixFwdRefIdeal.main_arg4) = m' ((c.tc : Thread Cert.MixFwdRefIdeal.nD Cert.MixFwdRefIdeal.τ).loc Cert.MixFwdRefIdeal.main_arg4)
          ∧ r.2.mem ((c.tc : Thread Cert.MixFwdRefIdeal.nD Cert.MixFwdRefIdeal.τ).loc Cert.MixFwdRefIdeal.main_arg5) = m' ((c.tc : Thread Cert.MixFwdRefIdeal.nD Cert.MixFwdRefIdeal.τ).loc Cert.MixFwdRefIdeal.main_arg5))

def Claim : Prop :=
  ∃ (hGate : Cert.Gate.Facts) (hGateIdeal : Cert.GateIdeal.Facts) (hGateRefIdeal : Cert.GateRefIdeal.Facts) (hAttn : Cert.Attn.Facts) (hAttnIdeal : Cert.AttnIdeal.Facts) (hAttnRefIdeal : Cert.AttnRefIdeal.Facts) (hNorm : Cert.Norm.Facts) (hNormIdeal : Cert.NormIdeal.Facts) (hNormRefIdeal : Cert.NormRefIdeal.Facts) (hLoss : Cert.Loss.Facts) (hLossIdeal : Cert.LossIdeal.Facts) (hLossRefIdeal : Cert.LossRefIdeal.Facts) (hMixOut : Cert.MixOut.Facts) (hMixOutIdeal : Cert.MixOutIdeal.Facts) (hMixOutRefIdeal : Cert.MixOutRefIdeal.Facts) (hMixMid : Cert.MixMid.Facts) (hMixMidIdeal : Cert.MixMidIdeal.Facts) (hMixMidRefIdeal : Cert.MixMidRefIdeal.Facts) (hNormMix : Cert.NormMix.Facts) (hNormMixIdeal : Cert.NormMixIdeal.Facts) (hNormMixRefIdeal : Cert.NormMixRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hMixIn : Cert.MixIn.Facts) (hMixInIdeal : Cert.MixInIdeal.Facts) (hMixInRefIdeal : Cert.MixInRefIdeal.Facts) (hMixFwd : Cert.MixFwd.Facts) (hMixFwdIdeal : Cert.MixFwdIdeal.Facts) (hMixFwdRefIdeal : Cert.MixFwdRefIdeal.Facts) (hPre_gate_pre : Cert.Pre_gate_pre.Facts) (hPre_attn_pre : Cert.Pre_attn_pre.Facts) (hPre_norm_pre : Cert.Pre_norm_pre.Facts) (hPre_loss_pre : Cert.Pre_loss_pre.Facts) (hPre_mixout_pre : Cert.Pre_mixout_pre.Facts) (hPre_mixmid_pre : Cert.Pre_mixmid_pre.Facts) (hPre_normmix_pre : Cert.Pre_normmix_pre.Facts),
    quiescent_Gate (hGate := hGate)
    ∧ quiescent_GateIdeal (hGateIdeal := hGateIdeal)
    ∧ quiescent_GateIdeal_pre_gate_pre (hGateIdeal := hGateIdeal) (hPre_gate_pre := hPre_gate_pre)
    ∧ quiescent_GateRefIdeal (hGateRefIdeal := hGateRefIdeal)
    ∧ quiescent_GateRefIdeal_pre_gate_pre (hGateRefIdeal := hGateRefIdeal) (hPre_gate_pre := hPre_gate_pre)
    ∧ quiescent_Attn (hAttn := hAttn)
    ∧ quiescent_AttnIdeal (hAttnIdeal := hAttnIdeal)
    ∧ quiescent_AttnIdeal_pre_attn_pre (hAttnIdeal := hAttnIdeal) (hPre_attn_pre := hPre_attn_pre)
    ∧ quiescent_AttnRefIdeal (hAttnRefIdeal := hAttnRefIdeal)
    ∧ quiescent_AttnRefIdeal_pre_attn_pre (hAttnRefIdeal := hAttnRefIdeal) (hPre_attn_pre := hPre_attn_pre)
    ∧ quiescent_Norm (hNorm := hNorm)
    ∧ quiescent_NormIdeal (hNormIdeal := hNormIdeal)
    ∧ quiescent_NormIdeal_pre_norm_pre (hNormIdeal := hNormIdeal) (hPre_norm_pre := hPre_norm_pre)
    ∧ quiescent_NormRefIdeal (hNormRefIdeal := hNormRefIdeal)
    ∧ quiescent_NormRefIdeal_pre_norm_pre (hNormRefIdeal := hNormRefIdeal) (hPre_norm_pre := hPre_norm_pre)
    ∧ quiescent_Loss (hLoss := hLoss)
    ∧ quiescent_LossIdeal (hLossIdeal := hLossIdeal)
    ∧ quiescent_LossIdeal_pre_loss_pre (hLossIdeal := hLossIdeal) (hPre_loss_pre := hPre_loss_pre)
    ∧ quiescent_LossRefIdeal (hLossRefIdeal := hLossRefIdeal)
    ∧ quiescent_LossRefIdeal_pre_loss_pre (hLossRefIdeal := hLossRefIdeal) (hPre_loss_pre := hPre_loss_pre)
    ∧ quiescent_MixOut (hMixOut := hMixOut)
    ∧ quiescent_MixOutIdeal (hMixOutIdeal := hMixOutIdeal)
    ∧ quiescent_MixOutIdeal_pre_mixout_pre (hMixOutIdeal := hMixOutIdeal) (hPre_mixout_pre := hPre_mixout_pre)
    ∧ quiescent_MixOutRefIdeal (hMixOutRefIdeal := hMixOutRefIdeal)
    ∧ quiescent_MixOutRefIdeal_pre_mixout_pre (hMixOutRefIdeal := hMixOutRefIdeal) (hPre_mixout_pre := hPre_mixout_pre)
    ∧ quiescent_MixMid (hMixMid := hMixMid)
    ∧ quiescent_MixMidIdeal (hMixMidIdeal := hMixMidIdeal)
    ∧ quiescent_MixMidIdeal_pre_mixmid_pre (hMixMidIdeal := hMixMidIdeal) (hPre_mixmid_pre := hPre_mixmid_pre)
    ∧ quiescent_MixMidRefIdeal (hMixMidRefIdeal := hMixMidRefIdeal)
    ∧ quiescent_MixMidRefIdeal_pre_mixmid_pre (hMixMidRefIdeal := hMixMidRefIdeal) (hPre_mixmid_pre := hPre_mixmid_pre)
    ∧ quiescent_NormMix (hNormMix := hNormMix)
    ∧ quiescent_NormMixIdeal (hNormMixIdeal := hNormMixIdeal)
    ∧ quiescent_NormMixIdeal_pre_normmix_pre (hNormMixIdeal := hNormMixIdeal) (hPre_normmix_pre := hPre_normmix_pre)
    ∧ quiescent_NormMixRefIdeal (hNormMixRefIdeal := hNormMixRefIdeal)
    ∧ quiescent_NormMixRefIdeal_pre_normmix_pre (hNormMixRefIdeal := hNormMixRefIdeal) (hPre_normmix_pre := hPre_normmix_pre)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_MixIn (hMixIn := hMixIn)
    ∧ quiescent_MixInIdeal (hMixInIdeal := hMixInIdeal)
    ∧ quiescent_MixInRefIdeal (hMixInRefIdeal := hMixInRefIdeal)
    ∧ quiescent_MixFwd (hMixFwd := hMixFwd)
    ∧ quiescent_MixFwdIdeal (hMixFwdIdeal := hMixFwdIdeal)
    ∧ quiescent_MixFwdRefIdeal (hMixFwdRefIdeal := hMixFwdRefIdeal)
    ∧ preserves_Gate_GateIdeal
    ∧ algebraic_GateIdeal_GateRefIdeal_pre_gate_pre (hGateIdeal := hGateIdeal) (hGateRefIdeal := hGateRefIdeal) (hPre_gate_pre := hPre_gate_pre)
    ∧ preserves_Attn_AttnIdeal
    ∧ algebraic_AttnIdeal_AttnRefIdeal_pre_attn_pre (hAttnIdeal := hAttnIdeal) (hAttnRefIdeal := hAttnRefIdeal) (hPre_attn_pre := hPre_attn_pre)
    ∧ preserves_Norm_NormIdeal
    ∧ algebraic_NormIdeal_NormRefIdeal_pre_norm_pre (hNormIdeal := hNormIdeal) (hNormRefIdeal := hNormRefIdeal) (hPre_norm_pre := hPre_norm_pre)
    ∧ preserves_Loss_LossIdeal
    ∧ algebraic_LossIdeal_LossRefIdeal_pre_loss_pre (hLossIdeal := hLossIdeal) (hLossRefIdeal := hLossRefIdeal) (hPre_loss_pre := hPre_loss_pre)
    ∧ preserves_MixOut_MixOutIdeal
    ∧ algebraic_MixOutIdeal_MixOutRefIdeal_pre_mixout_pre (hMixOutIdeal := hMixOutIdeal) (hMixOutRefIdeal := hMixOutRefIdeal) (hPre_mixout_pre := hPre_mixout_pre)
    ∧ preserves_MixMid_MixMidIdeal
    ∧ algebraic_MixMidIdeal_MixMidRefIdeal_pre_mixmid_pre (hMixMidIdeal := hMixMidIdeal) (hMixMidRefIdeal := hMixMidRefIdeal) (hPre_mixmid_pre := hPre_mixmid_pre)
    ∧ preserves_NormMix_NormMixIdeal
    ∧ algebraic_NormMixIdeal_NormMixRefIdeal_pre_normmix_pre (hNormMixIdeal := hNormMixIdeal) (hNormMixRefIdeal := hNormMixRefIdeal) (hPre_normmix_pre := hPre_normmix_pre)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_MixIn_MixInIdeal
    ∧ algebraic_MixInIdeal_MixInRefIdeal (hMixInIdeal := hMixInIdeal) (hMixInRefIdeal := hMixInRefIdeal)
    ∧ preserves_MixFwd_MixFwdIdeal
    ∧ algebraic_MixFwdIdeal_MixFwdRefIdeal (hMixFwdIdeal := hMixFwdIdeal) (hMixFwdRefIdeal := hMixFwdRefIdeal)
-- ==== Pre_attn_pre.lean ====
abbrev S8192x4x128 : Shape := ⟨3, ![8192, 4, 128]⟩
abbrev S8192x4x64 : Shape := ⟨3, ![8192, 4, 64]⟩
abbrev S8192x64 : Shape := ⟨2, ![8192, 64]⟩
abbrev S8192x512 : Shape := ⟨2, ![8192, 512]⟩
abbrev S_ : Shape := ⟨0, ![]⟩

class Facts : Prop where
  bcast_S_S8192x4x128 : S_.BroadcastsInDim S8192x4x128 (![] : Fin 0 → Fin S8192x4x128.rank)
  reducesTo_S8192x4x128_S_d0_1_2 : S8192x4x128.ReducesTo [0, 1, 2] S_
  h_S_ : 0 < S_.numel
  bcast_S_S8192x4x64 : S_.BroadcastsInDim S8192x4x64 (![] : Fin 0 → Fin S8192x4x64.rank)
  reducesTo_S8192x4x64_S_d0_1_2 : S8192x4x64.ReducesTo [0, 1, 2] S_
  bcast_S_S8192x64 : S_.BroadcastsInDim S8192x64 (![] : Fin 0 → Fin S8192x64.rank)
  reducesTo_S8192x64_S_d0_1 : S8192x64.ReducesTo [0, 1] S_
  bcast_S_S8192x512 : S_.BroadcastsInDim S8192x512 (![] : Fin 0 → Fin S8192x512.rank)
  reducesTo_S8192x512_S_d0_1 : S8192x512.ReducesTo [0, 1] S_

variable [Facts]

def fn_part1 {F : FTy → Type} [FloatOps F] (main_arg4 : FVec F S8192x4x128 .f32) (main_arg5 : FVec F S8192x512 .f32) (main_v13 : IVec S_ 1) (main_v16 : IVec S8192x64 1) : IVec S_ 1 :=
  let main_c_5 : IVec S_ 1 := constantI S_ 1 1#1
  let main_v17 : IVec S_ 1 := (fun x v => Host.reduce IntOp.andi x v reducesTo_S8192x64_S_d0_1 h_S_) main_v16 main_c_5
  let main_v18 : IVec S_ 1 := andi main_v13 main_v17
  let main_v19 : FVec F S8192x4x128 .f32 := Host.absf main_arg4
  let main_cst_6 : FVec F S_ .f32 := constant S_ .f32 0x7F800000#32
  let main_v20 : FVec F S8192x4x128 .f32 := broadcastInDim S8192x4x128 ![] bcast_S_S8192x4x128 main_cst_6
  let main_v21 : IVec S8192x4x128 1 := cmpf .olt main_v19 main_v20
  let main_c_7 : IVec S_ 1 := constantI S_ 1 1#1
  let main_v22 : IVec S_ 1 := (fun x v => Host.reduce IntOp.andi x v reducesTo_S8192x4x128_S_d0_1_2 h_S_) main_v21 main_c_7
  let main_v23 : IVec S_ 1 := andi main_v18 main_v22
  let main_v24 : FVec F S8192x512 .f32 := Host.absf main_arg5
  let main_cst_8 : FVec F S_ .f32 := constant S_ .f32 0x7F800000#32
  let main_v25 : FVec F S8192x512 .f32 := broadcastInDim S8192x512 ![] bcast_S_S8192x512 main_cst_8
  let main_v26 : IVec S8192x512 1 := cmpf .olt main_v24 main_v25
  let main_c_9 : IVec S_ 1 := constantI S_ 1 1#1
  let main_v27 : IVec S_ 1 := (fun x v => Host.reduce IntOp.andi x v reducesTo_S8192x512_S_d0_1 h_S_) main_v26 main_c_9
  let main_v28 : IVec S_ 1 := andi main_v23 main_v27
  main_v28

def fn {F : FTy → Type} [FloatOps F] (main_arg0 : FVec F S8192x4x128 .f32) (main_arg1 : FVec F S8192x4x64 .f32) (main_arg2 : FVec F S8192x4x128 .f32) (main_arg3 : FVec F S8192x64 .f32) (main_arg4 : FVec F S8192x4x128 .f32) (main_arg5 : FVec F S8192x512 .f32) : IVec S_ 1 :=
  let main_v0 : FVec F S8192x4x128 .f32 := Host.absf main_arg0
  let main_cst : FVec F S_ .f32 := constant S_ .f32 0x7F800000#32
  let main_v1 : FVec F S8192x4x128 .f32 := broadcastInDim S8192x4x128 ![] bcast_S_S8192x4x128 main_cst
  let main_v2 : IVec S8192x4x128 1 := cmpf .olt main_v0 main_v1
  let main_c : IVec S_ 1 := constantI S_ 1 1#1
  let main_v3 : IVec S_ 1 := (fun x v => Host.reduce IntOp.andi x v reducesTo_S8192x4x128_S_d0_1_2 h_S_) main_v2 main_c
  let main_v4 : FVec F S8192x4x64 .f32 := Host.absf main_arg1
  let main_cst_0 : FVec F S_ .f32 := constant S_ .f32 0x7F800000#32
  let main_v5 : FVec F S8192x4x64 .f32 := broadcastInDim S8192x4x64 ![] bcast_S_S8192x4x64 main_cst_0
  let main_v6 : IVec S8192x4x64 1 := cmpf .olt main_v4 main_v5
  let main_c_1 : IVec S_ 1 := constantI S_ 1 1#1
  let main_v7 : IVec S_ 1 := (fun x v => Host.reduce IntOp.andi x v reducesTo_S8192x4x64_S_d0_1_2 h_S_) main_v6 main_c_1
  let main_v8 : IVec S_ 1 := andi main_v3 main_v7
  let main_v9 : FVec F S8192x4x128 .f32 := Host.absf main_arg2
  let main_cst_2 : FVec F S_ .f32 := constant S_ .f32 0x7F800000#32
  let main_v10 : FVec F S8192x4x128 .f32 := broadcastInDim S8192x4x128 ![] bcast_S_S8192x4x128 main_cst_2
  let main_v11 : IVec S8192x4x128 1 := cmpf .olt main_v9 main_v10
  let main_c_3 : IVec S_ 1 := constantI S_ 1 1#1
  let main_v12 : IVec S_ 1 := (fun x v => Host.reduce IntOp.andi x v reducesTo_S8192x4x128_S_d0_1_2 h_S_) main_v11 main_c_3
  let main_v13 : IVec S_ 1 := andi main_v8 main_v12
  let main_v14 : FVec F S8192x64 .f32 := Host.absf main_arg3
  let main_cst_4 : FVec F S_ .f32 := constant S_ .f32 0x7F800000#32
  let main_v15 : FVec F S8192x64 .f32 := broadcastInDim S8192x64 ![] bcast_S_S8192x64 main_cst_4
  let main_v16 : IVec S8192x64 1 := cmpf .olt main_v14 main_v15
  fn_part1 (F := F) main_arg4 main_arg5 main_v13 main_v16
-- ==== Pre_gate_pre.lean ====
abbrev S8192x1024 : Shape := ⟨2, ![8192, 1024]⟩
abbrev S1x1024 : Shape := ⟨2, ![1, 1024]⟩
abbrev S2816x1024 : Shape := ⟨2, ![2816, 1024]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S8192x2816 : S_.BroadcastsInDim S8192x2816 (![] : Fin 0 → Fin S8192x2816.rank)
  reducesTo_S8192x2816_S_d0_1 : S8192x2816.ReducesTo [0, 1] S_

variable [Facts]

def fn_part1 {F : FTy → Type} [FloatOps F] (main_v13 : IVec S_ 1) (main_v16 : IVec S8192x2816 1) : IVec S_ 1 :=
  let main_c_5 : IVec S_ 1 := constantI S_ 1 1#1
  let main_v17 : IVec S_ 1 := (fun x v => Host.reduce IntOp.andi x v reducesTo_S8192x2816_S_d0_1 h_S_) main_v16 main_c_5
  let main_v18 : IVec S_ 1 := andi main_v13 main_v17
  main_v18

def fn {F : FTy → Type} [FloatOps F] (main_arg0 : FVec F S8192x1024 .f32) (main_arg1 : FVec F S1x1024 .f32) (main_arg2 : FVec F S2816x1024 .f32) (main_arg3 : FVec F S8192x2816 .f32) (main_arg4 : FVec F S8192x2816 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S2816x1024 .f32 := Host.absf main_arg2
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S8192x2816 .f32 := Host.absf main_arg4
  let main_cst_4 : FVec F S_ .f32 := constant S_ .f32 0x7F800000#32
  let main_v15 : FVec F S8192x2816 .f32 := broadcastInDim S8192x2816 ![] bcast_S_S8192x2816 main_cst_4
  let main_v16 : IVec S8192x2816 1 := cmpf .olt main_v14 main_v15
  fn_part1 (F := F) main_v13 main_v16
-- ==== Pre_loss_pre.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩

class Facts : Prop where
  bcast_S_S8192x2816 : S_.BroadcastsInDim S8192x2816 (![] : Fin 0 → Fin S8192x2816.rank)
  reducesTo_S8192x2816_S_d0_1 : S8192x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_arg5 : FVec F S8192x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S8192x1024 .f32 := Host.absf main_arg5
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  main_v28

def fn {F : FTy → Type} [FloatOps F] (main_arg0 : FVec F S8192x2816 .f32) (main_arg1 : FVec F S2816x1024 .f32) (main_arg2 : FVec F S8192x1024 .f32) (main_arg3 : FVec F S1x1024 .f32) (main_arg4 : FVec F S1x1024 .f32) (main_arg5 : FVec F S8192x1024 .f32) : IVec S_ 1 :=
  let main_v0 : FVec F S8192x2816 .f32 := Host.absf main_arg0
  let main_cst : FVec F S_ .f32 := constant S_ .f32 0x7F800000#32
  let main_v1 : FVec F S8192x2816 .f32 := broadcastInDim S8192x2816 ![] bcast_S_S8192x2816 main_cst
  let main_v2 : IVec S8192x2816 1 := cmpf .olt main_v0 main_v1
  let main_c : IVec S_ 1 := constantI S_ 1 1#1
  let main_v3 : IVec S_ 1 := (fun x v => Host.reduce IntOp.andi x v reducesTo_S8192x2816_S_d0_1 h_S_) main_v2 main_c
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_v13 main_v16
-- ==== Pre_mixmid_pre.lean ====
abbrev S8192x2240 : Shape := ⟨2, ![8192, 2240]⟩
abbrev S8192 : Shape := ⟨1, ![8192]⟩
abbrev S8192x512 : Shape := ⟨2, ![8192, 512]⟩
abbrev S3x512 : Shape := ⟨2, ![3, 512]⟩
abbrev S1x384 : Shape := ⟨2, ![1, 384]⟩
abbrev S1x256 : Shape := ⟨2, ![1, 256]⟩
abbrev S384x768 : Shape := ⟨2, ![384, 768]⟩
abbrev S256x1024 : Shape := ⟨2, ![256, 1024]⟩
abbrev S8192x4x192 : Shape := ⟨3, ![8192, 4, 192]⟩
abbrev S8192x4x128 : Shape := ⟨3, ![8192, 4, 128]⟩
abbrev S_ : Shape := ⟨0, ![]⟩

class Facts : Prop where
  bcast_S_S8192x2240 : S_.BroadcastsInDim S8192x2240 (![] : Fin 0 → Fin S8192x2240.rank)
  reducesTo_S8192x2240_S_d0_1 : S8192x2240.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S3x512 : S_.BroadcastsInDim S3x512 (![] : Fin 0 → Fin S3x512.rank)
  reducesTo_S3x512_S_d0_1 : S3x512.ReducesTo [0, 1] S_
  bcast_S_S1x384 : S_.BroadcastsInDim S1x384 (![] : Fin 0 → Fin S1x384.rank)
  reducesTo_S1x384_S_d0_1 : S1x384.ReducesTo [0, 1] S_
  bcast_S_S1x256 : S_.BroadcastsInDim S1x256 (![] : Fin 0 → Fin S1x256.rank)
  reducesTo_S1x256_S_d0_1 : S1x256.ReducesTo [0, 1] S_
  bcast_S_S384x768 : S_.BroadcastsInDim S384x768 (![] : Fin 0 → Fin S384x768.rank)
  reducesTo_S384x768_S_d0_1 : S384x768.ReducesTo [0, 1] S_
  bcast_S_S256x1024 : S_.BroadcastsInDim S256x1024 (![] : Fin 0 → Fin S256x1024.rank)
  reducesTo_S256x1024_S_d0_1 : S256x1024.ReducesTo [0, 1] S_
  bcast_S_S8192x4x192 : S_.BroadcastsInDim S8192x4x192 (![] : Fin 0 → Fin S8192x4x192.rank)
  reducesTo_S8192x4x192_S_d0_1_2 : S8192x4x192.ReducesTo [0, 1, 2] S_
  bcast_S_S8192x4x128 : S_.BroadcastsInDim S8192x4x128 (![] : Fin 0 → Fin S8192x4x128.rank)
  reducesTo_S8192x4x128_S_d0_1_2 : S8192x4x128.ReducesTo [0, 1, 2] S_

variable [Facts]

def fn_part2 {F : FTy → Type} [FloatOps F] (main_arg8 : FVec F S8192x4x192 .f32) (main_arg9 : FVec F S8192x4x192 .f32) (main_arg10 : FVec F S8192x4x128 .f32) (main_v33 : IVec S_ 1) : IVec S_ 1 :=
  let main_v34 : FVec F S8192x4x192 .f32 := Host.absf main_arg8
  let main_cst_12 : FVec F S_ .f32 := constant S_ .f32 0x7F800000#32
  let main_v35 : FVec F S8192x4x192 .f32 := broadcastInDim S8192x4x192 ![] bcast_S_S8192x4x192 main_cst_12
  let main_v36 : IVec S8192x4x192 1 := cmpf .olt main_v34 main_v35
  let main_c_13 : IVec S_ 1 := constantI S_ 1 1#1
  let main_v37 : IVec S_ 1 := (fun x v => Host.reduce IntOp.andi x v reducesTo_S8192x4x192_S_d0_1_2 h_S_) main_v36 main_c_13
  let main_v38 : IVec S_ 1 := andi main_v33 main_v37
  let main_v39 : FVec F S8192x4x192 .f32 := Host.absf main_arg9
  let main_cst_14 : FVec F S_ .f32 := constant S_ .f32 0x7F800000#32
  let main_v40 : FVec F S8192x4x192 .f32 := broadcastInDim S8192x4x192 ![] bcast_S_S8192x4x192 main_cst_14
  let main_v41 : IVec S8192x4x192 1 := cmpf .olt main_v39 main_v40
  let main_c_15 : IVec S_ 1 := constantI S_ 1 1#1
  let main_v42 : IVec S_ 1 := (fun x v => Host.reduce IntOp.andi x v reducesTo_S8192x4x192_S_d0_1_2 h_S_) main_v41 main_c_15
  let main_v43 : IVec S_ 1 := andi main_v38 main_v42
  let main_v44 : FVec F S8192x4x128 .f32 := Host.absf main_arg10
  let main_cst_16 : FVec F S_ .f32 := constant S_ .f32 0x7F800000#32
  let main_v45 : FVec F S8192x4x128 .f32 := broadcastInDim S8192x4x128 ![] bcast_S_S8192x4x128 main_cst_16
  let main_v46 : IVec S8192x4x128 1 := cmpf .olt main_v44 main_v45
  let main_c_17 : IVec S_ 1 := constantI S_ 1 1#1
  let main_v47 : IVec S_ 1 := (fun x v => Host.reduce IntOp.andi x v reducesTo_S8192x4x128_S_d0_1_2 h_S_) main_v46 main_c_17
  let main_v48 : IVec S_ 1 := andi main_v43 main_v47
  main_v48

def fn_part1 {F : FTy → Type} [FloatOps F] (main_arg5 : FVec F S1x256 .f32) (main_arg6 : FVec F S384x768 .f32) (main_arg7 : FVec F S256x1024 .f32) (main_arg8 : FVec F S8192x4x192 .f32) (main_arg9 : FVec F S8192x4x192 .f32) (main_arg10 : FVec F S8192x4x128 .f32) (main_v13 : IVec S_ 1) (main_v16 : IVec S1x384 1) : IVec S_ 1 :=
  let main_c_5 : IVec S_ 1 := constantI S_ 1 1#1
  let main_v17 : IVec S_ 1 := (fun x v => Host.reduce IntOp.andi x v reducesTo_S1x384_S_d0_1 h_S_) main_v16 main_c_5
  let main_v18 : IVec S_ 1 := andi main_v13 main_v17
  let main_v19 : FVec F S1x256 .f32 := Host.absf main_arg5
  let main_cst_6 : FVec F S_ .f32 := constant S_ .f32 0x7F800000#32
  let main_v20 : FVec F S1x256 .f32 := broadcastInDim S1x256 ![] bcast_S_S1x256 main_cst_6
  let main_v21 : IVec S1x256 1 := cmpf .olt main_v19 main_v20
  let main_c_7 : IVec S_ 1 := constantI S_ 1 1#1
  let main_v22 : IVec S_ 1 := (fun x v => Host.reduce IntOp.andi x v reducesTo_S1x256_S_d0_1 h_S_) main_v21 main_c_7
  let main_v23 : IVec S_ 1 := andi main_v18 main_v22
  let main_v24 : FVec F S384x768 .f32 := Host.absf main_arg6
  let main_cst_8 : FVec F S_ .f32 := constant S_ .f32 0x7F800000#32
  let main_v25 : FVec F S384x768 .f32 := broadcastInDim S384x768 ![] bcast_S_S384x768 main_cst_8
  let main_v26 : IVec S384x768 1 := cmpf .olt main_v24 main_v25
  let main_c_9 : IVec S_ 1 := constantI S_ 1 1#1
  let main_v27 : IVec S_ 1 := (fun x v => Host.reduce IntOp.andi x v reducesTo_S384x768_S_d0_1 h_S_) main_v26 main_c_9
  let main_v28 : IVec S_ 1 := andi main_v23 main_v27
  let main_v29 : FVec F S256x1024 .f32 := Host.absf main_arg7
  let main_cst_10 : FVec F S_ .f32 := constant S_ .f32 0x7F800000#32
  let main_v30 : FVec F S256x1024 .f32 := broadcastInDim S256x1024 ![] bcast_S_S256x1024 main_cst_10
  let main_v31 : IVec S256x1024 1 := cmpf .olt main_v29 main_v30
  let main_c_11 : IVec S_ 1 := constantI S_ 1 1#1
  let main_v32 : IVec S_ 1 := (fun x v => Host.reduce IntOp.andi x v reducesTo_S256x1024_S_d0_1 h_S_) main_v31 main_c_11
  let main_v33 : IVec S_ 1 := andi main_v28 main_v32
  fn_part2 (F := F) main_arg8 main_arg9 main_arg10 main_v33

def fn {F : FTy → Type} [FloatOps F] (main_arg0 : FVec F S8192x2240 .f32) (main_arg1 : IVec S8192 32) (main_arg2 : FVec F S8192x512 .f32) (main_arg3 : FVec F S3x512 .f32) (main_arg4 : FVec F S1x384 .f32) (main_arg5 : FVec F S1x256 .f32) (main_arg6 : FVec F S384x768 .f32) (main_arg7 : FVec F S256x1024 .f32) (main_arg8 : FVec F S8192x4x192 .f32) (main_arg9 : FVec F S8192x4x192 .f32) (main_arg10 : FVec F S8192x4x128 .f32) : IVec S_ 1 :=
  let main_v0 : FVec F S8192x2240 .f32 := Host.absf main_arg0
  let main_cst : FVec F S_ .f32 := constant S_ .f32 0x7F800000#32
  let main_v1 : FVec F S8192x2240 .f32 := broadcastInDim S8192x2240 ![] bcast_S_S8192x2240 main_cst
  let main_v2 : IVec S8192x2240 1 := cmpf .olt main_v0 main_v1
  let main_c : IVec S_ 1 := constantI S_ 1 1#1
  let main_v3 : IVec S_ 1 := (fun x v => Host.reduce IntOp.andi x v reducesTo_S8192x2240_S_d0_1 h_S_) main_v2 main_c
  let main_v4 : FVec F S8192x512 .f32 := Host.absf main_arg2
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S3x512 .f32 := Host.absf main_arg3
  let main_cst_2 : FVec F S_ .f32 := constant S_ .f32 0x7F800000#32
  let main_v10 : FVec F S3x512 .f32 := broadcastInDim S3x512 ![] bcast_S_S3x512 main_cst_2
  let main_v11 : IVec S3x512 1 := cmpf .olt main_v9 main_v10
  let main_c_3 : IVec S_ 1 := constantI S_ 1 1#1
  let main_v12 : IVec S_ 1 := (fun x v => Host.reduce IntOp.andi x v reducesTo_S3x512_S_d0_1 h_S_) main_v11 main_c_3
  let main_v13 : IVec S_ 1 := andi main_v8 main_v12
  let main_v14 : FVec F S1x384 .f32 := Host.absf main_arg4
  let main_cst_4 : FVec F S_ .f32 := constant S_ .f32 0x7F800000#32
  let main_v15 : FVec F S1x384 .f32 := broadcastInDim S1x384 ![] bcast_S_S1x384 main_cst_4
  let main_v16 : IVec S1x384 1 := cmpf .olt main_v14 main_v15
  fn_part1 (F := F) main_arg5 main_arg6 main_arg7 main_arg8 main_arg9 main_arg10 main_v13 main_v16
-- ==== Pre_mixout_pre.lean ====
abbrev S8192x1024 : Shape := ⟨2, ![8192, 1024]⟩
abbrev S1x1024 : Shape := ⟨2, ![1, 1024]⟩
abbrev S1024x1024 : Shape := ⟨2, ![1024, 1024]⟩
abbrev S8192x512 : Shape := ⟨2, ![8192, 512]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S8192x512 : S_.BroadcastsInDim S8192x512 (![] : Fin 0 → Fin S8192x512.rank)
  reducesTo_S8192x512_S_d0_1 : S8192x512.ReducesTo [0, 1] S_

variable [Facts]

def fn_part1 {F : FTy → Type} [FloatOps F] (main_arg4 : FVec F S8192x512 .f32) (main_arg5 : FVec F S1x1024 .f32) (main_v13 : IVec S_ 1) (main_v16 : IVec S8192x512 1) : IVec S_ 1 :=
  let main_c_5 : IVec S_ 1 := constantI S_ 1 1#1
  let main_v17 : IVec S_ 1 := (fun x v => Host.reduce IntOp.andi x v reducesTo_S8192x512_S_d0_1 h_S_) main_v16 main_c_5
  let main_v18 : IVec S_ 1 := andi main_v13 main_v17
  let main_v19 : FVec F S8192x512 .f32 := Host.absf main_arg4
  let main_cst_6 : FVec F S_ .f32 := constant S_ .f32 0x7F800000#32
  let main_v20 : FVec F S8192x512 .f32 := broadcastInDim S8192x512 ![] bcast_S_S8192x512 main_cst_6
  let main_v21 : IVec S8192x512 1 := cmpf .olt main_v19 main_v20
  let main_c_7 : IVec S_ 1 := constantI S_ 1 1#1
  let main_v22 : IVec S_ 1 := (fun x v => Host.reduce IntOp.andi x v reducesTo_S8192x512_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  main_v28

def fn {F : FTy → Type} [FloatOps F] (main_arg0 : FVec F S8192x1024 .f32) (main_arg1 : FVec F S1x1024 .f32) (main_arg2 : FVec F S1024x1024 .f32) (main_arg3 : FVec F S8192x512 .f32) (main_arg4 : FVec F S8192x512 .f32) (main_arg5 : FVec F S1x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S8192x512 .f32 := Host.absf main_arg3
  let main_cst_4 : FVec F S_ .f32 := constant S_ .f32 0x7F800000#32
  let main_v15 : FVec F S8192x512 .f32 := broadcastInDim S8192x512 ![] bcast_S_S8192x512 main_cst_4
  let main_v16 : IVec S8192x512 1 := cmpf .olt main_v14 main_v15
  fn_part1 (F := F) main_arg4 main_arg5 main_v13 main_v16
-- ==== Pre_norm_pre.lean ====
abbrev S8192x1024 : Shape := ⟨2, ![8192, 1024]⟩
abbrev S1x1024 : Shape := ⟨2, ![1, 1024]⟩
abbrev S1024x2816 : Shape := ⟨2, ![1024, 2816]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S8192x2816 : S_.BroadcastsInDim S8192x2816 (![] : Fin 0 → Fin S8192x2816.rank)
  reducesTo_S8192x2816_S_d0_1 : S8192x2816.ReducesTo [0, 1] S_

variable [Facts]

def fn_part1 {F : FTy → Type} [FloatOps F] (main_arg4 : FVec F S1024x2816 .f32) (main_arg5 : FVec F S8192x2816 .f32) (main_arg6 : FVec F S8192x2816 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S1024x2816 .f32 := Host.absf main_arg4
  let main_cst_6 : FVec F S_ .f32 := constant S_ .f32 0x7F800000#32
  let main_v20 : FVec F S1024x2816 .f32 := broadcastInDim S1024x2816 ![] bcast_S_S1024x2816 main_cst_6
  let main_v21 : IVec S1024x2816 1 := cmpf .olt main_v19 main_v20
  let main_c_7 : IVec S_ 1 := constantI S_ 1 1#1
  let main_v22 : IVec S_ 1 := (fun x v => Host.reduce IntOp.andi x v reducesTo_S1024x2816_S_d0_1 h_S_) main_v21 main_c_7
  let main_v23 : IVec S_ 1 := andi main_v18 main_v22
  let main_v24 : FVec F S8192x2816 .f32 := Host.absf main_arg5
  let main_cst_8 : FVec F S_ .f32 := constant S_ .f32 0x7F800000#32
  let main_v25 : FVec F S8192x2816 .f32 := broadcastInDim S8192x2816 ![] bcast_S_S8192x2816 main_cst_8
  let main_v26 : IVec S8192x2816 1 := cmpf .olt main_v24 main_v25
  let main_c_9 : IVec S_ 1 := constantI S_ 1 1#1
  let main_v27 : IVec S_ 1 := (fun x v => Host.reduce IntOp.andi x v reducesTo_S8192x2816_S_d0_1 h_S_) main_v26 main_c_9
  let main_v28 : IVec S_ 1 := andi main_v23 main_v27
  let main_v29 : FVec F S8192x2816 .f32 := Host.absf main_arg6
  let main_cst_10 : FVec F S_ .f32 := constant S_ .f32 0x7F800000#32
  let main_v30 : FVec F S8192x2816 .f32 := broadcastInDim S8192x2816 ![] bcast_S_S8192x2816 main_cst_10
  let main_v31 : IVec S8192x2816 1 := cmpf .olt main_v29 main_v30
  let main_c_11 : IVec S_ 1 := constantI S_ 1 1#1
  let main_v32 : IVec S_ 1 := (fun x v => Host.reduce IntOp.andi x v reducesTo_S8192x2816_S_d0_1 h_S_) main_v31 main_c_11
  let main_v33 : IVec S_ 1 := andi main_v28 main_v32
  main_v33

def fn {F : FTy → Type} [FloatOps F] (main_arg0 : FVec F S8192x1024 .f32) (main_arg1 : FVec F S1x1024 .f32) (main_arg2 : FVec F S1x1024 .f32) (main_arg3 : FVec F S1024x2816 .f32) (main_arg4 : FVec F S1024x2816 .f32) (main_arg5 : FVec F S8192x2816 .f32) (main_arg6 : FVec F S8192x2816 .f32) (main_arg7 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_arg6 main_v13 main_v16
-- ==== Pre_normmix_pre.lean ====
abbrev S8192x1024 : Shape := ⟨2, ![8192, 1024]⟩
abbrev S1x1024 : Shape := ⟨2, ![1, 1024]⟩
abbrev S1024x2240 : Shape := ⟨2, ![1024, 2240]⟩
abbrev S8192x2240 : Shape := ⟨2, ![8192, 2240]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2240 : S_.BroadcastsInDim S1024x2240 (![] : Fin 0 → Fin S1024x2240.rank)
  reducesTo_S1024x2240_S_d0_1 : S1024x2240.ReducesTo [0, 1] S_
  bcast_S_S8192x2240 : S_.BroadcastsInDim S8192x2240 (![] : Fin 0 → Fin S8192x2240.rank)
  reducesTo_S8192x2240_S_d0_1 : S8192x2240.ReducesTo [0, 1] S_

variable [Facts]

def fn_part1 {F : FTy → Type} [FloatOps F] (main_arg4 : FVec F S8192x2240 .f32) (main_v13 : IVec S_ 1) (main_v16 : IVec S1024x2240 1) : IVec S_ 1 :=
  let main_c_5 : IVec S_ 1 := constantI S_ 1 1#1
  let main_v17 : IVec S_ 1 := (fun x v => Host.reduce IntOp.andi x v reducesTo_S1024x2240_S_d0_1 h_S_) main_v16 main_c_5
  let main_v18 : IVec S_ 1 := andi main_v13 main_v17
  let main_v19 : FVec F S8192x2240 .f32 := Host.absf main_arg4
  let main_cst_6 : FVec F S_ .f32 := constant S_ .f32 0x7F800000#32
  let main_v20 : FVec F S8192x2240 .f32 := broadcastInDim S8192x2240 ![] bcast_S_S8192x2240 main_cst_6
  let main_v21 : IVec S8192x2240 1 := cmpf .olt main_v19 main_v20
  let main_c_7 : IVec S_ 1 := constantI S_ 1 1#1
  let main_v22 : IVec S_ 1 := (fun x v => Host.reduce IntOp.andi x v reducesTo_S8192x2240_S_d0_1 h_S_) main_v21 main_c_7
  let main_v23 : IVec S_ 1 := andi main_v18 main_v22
  main_v23

def fn {F : FTy → Type} [FloatOps F] (main_arg0 : FVec F S8192x1024 .f32) (main_arg1 : FVec F S1x1024 .f32) (main_arg2 : FVec F S1x1024 .f32) (main_arg3 : FVec F S1024x2240 .f32) (main_arg4 : FVec F S8192x2240 .f32) (main_arg5 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x2240 .f32 := Host.absf main_arg3
  let main_cst_4 : FVec F S_ .f32 := constant S_ .f32 0x7F800000#32
  let main_v15 : FVec F S1024x2240 .f32 := broadcastInDim S1024x2240 ![] bcast_S_S1024x2240 main_cst_4
  let main_v16 : IVec S1024x2240 1 := cmpf .olt main_v14 main_v15
  fn_part1 (F := F) main_arg4 main_v13 main_v16
-- ==== Gate.lean ====
abbrev S8192x1024 : Shape := ⟨2, ![8192, 1024]⟩
abbrev S1x1024 : Shape := ⟨2, ![1, 1024]⟩
abbrev S2816x1024 : Shape := ⟨2, ![2816, 1024]⟩
abbrev S8192x2816 : Shape := ⟨2, ![8192, 2816]⟩
abbrev S_ : Shape := ⟨0, ![]⟩
abbrev S8x1024 : Shape := ⟨2, ![8, 1024]⟩
abbrev S512x1024 : Shape := ⟨2, ![512, 1024]⟩
abbrev S512x2816 : Shape := ⟨2, ![512, 2816]⟩
abbrev S64x8x1024 : Shape := ⟨3, ![64, 8, 1024]⟩
abbrev S1024 : Shape := ⟨1, ![1024]⟩

abbrev nBuf : Space → Nat
  | .hbm => 29
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2816x1024, .f32⟩
  | .hbm, ⟨3, _⟩ => ⟨S8192x2816, .f32⟩
  | .hbm, ⟨4, _⟩ => ⟨S8192x2816, .f32⟩
  | .hbm, ⟨5, _⟩ => ⟨S8192x2816, .bf16⟩
  | .hbm, ⟨6, _⟩ => ⟨S8192x2816, .bf16⟩
  | .hbm, ⟨7, _⟩ => ⟨S2816x1024, .bf16⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .bf16⟩
  | .hbm, ⟨21, _⟩ => ⟨S8192x2816, .f32⟩
  | .hbm, ⟨22, _⟩ => ⟨S2816x1024, .f32⟩
  | .hbm, ⟨23, _⟩ => ⟨S8192x1024, .f32⟩
  | .hbm, ⟨24, _⟩ => ⟨S8192x1024, .bf16⟩
  | .hbm, ⟨25, _⟩ => ⟨S8192x1024, .bf16⟩
  | .hbm, ⟨26, _⟩ => ⟨S8192x2816, .bf16⟩
  | .hbm, ⟨27, _⟩ => ⟨S8192x2816, .bf16⟩
  | .hbm, ⟨28, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S2816x1024, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S512x1024, .bf16⟩
  | .local _ .vmem, ⟨11, _⟩ => ⟨S512x1024, .bf16⟩
  | .local _ .vmem, ⟨12, _⟩ => ⟨S512x2816, .bf16⟩
  | .local _ .vmem, ⟨13, _⟩ => ⟨S512x2816, .bf16⟩
  | .local _ .vmem, ⟨14, _⟩ => ⟨S512x2816, .bf16⟩
  | .local _ .vmem, ⟨15, _⟩ => ⟨S512x2816, .bf16⟩
  | .local _ .vmem, ⟨16, _⟩ => ⟨S8x1024, .f32⟩
  | .local _ .vmem, ⟨17, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12_0 : Ref sig .tc := ⟨.hbm, 25, rfl⟩
abbrev main_v12_1 : Ref sig .tc := ⟨.hbm, 26, rfl⟩
abbrev main_v12_2 : Ref sig .tc := ⟨.hbm, 27, rfl⟩
abbrev main_v12_3 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨2, ![16, 1], ![false, false]⟩

def k0_mult1 (i : grid0.Coords) : BitVec 32 :=
  let arg1 : BitVec 32 := BitVec.ofNat 32 (i 1).val
  let c2816_i32 : BitVec 32 := 2816#32
  let v9 : BitVec 32 := Scalar.muli arg1 c2816_i32
  v9
def k0_off1 (i : grid0.Coords) : Fin 2 → Nat :=
  let arg1 : BitVec 32 := BitVec.ofNat 32 (i 1).val
  let c2816_i32 : BitVec 32 := 2816#32
  let v9 : BitVec 32 := Scalar.muli arg1 c2816_i32
  let v10 : BitVec 32 := v9
  let v11 : Index := Scalar.indexCast v10
  let c0_5 : Index := 0#32
  ![v11.toNat, 0]
def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond3 (i : grid0.Coords) : BitVec 1 :=
  let arg0 : BitVec 32 := BitVec.ofNat 32 (i 0).val
  let c15_i32 : BitVec 32 := 15#32
  let v36 : BitVec 1 := Scalar.cmpi .eq arg0 c15_i32
  let arg1 : BitVec 32 := BitVec.ofNat 32 (i 1).val
  let c0_i32_16 : BitVec 32 := 0#32
  let v37 : BitVec 1 := Scalar.cmpi .eq arg1 c0_i32_16
  let v38 : BitVec 1 := Scalar.andi v36 v37
  let v39 : BitVec 32 := Scalar.extui v38
  let c0_i32_17 : BitVec 32 := 0#32
  let v40 : BitVec 1 := Scalar.cmpi .ne v39 c0_i32_17
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== GateRefIdeal.lean ====
abbrev S8192x1024 : Shape := ⟨2, ![8192, 1024]⟩
abbrev S1x1024 : Shape := ⟨2, ![1, 1024]⟩
abbrev S2816x1024 : Shape := ⟨2, ![2816, 1024]⟩
abbrev S8192x2816 : Shape := ⟨2, ![8192, 2816]⟩
abbrev S_ : Shape := ⟨0, ![]⟩
abbrev S1024 : Shape := ⟨1, ![1024]⟩
abbrev S8x1024 : Shape := ⟨2, ![8, 1024]⟩

abbrev nBuf : Space → Nat
  | .hbm => 63
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2816x1024, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x1024, .f32⟩
  | .hbm, ⟨16, _⟩ => ⟨S_, .f32⟩
  | .hbm, ⟨17, _⟩ => ⟨S1x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S_, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x1024, .f32⟩
  | .hbm, ⟨45, _⟩ => ⟨S_, .f32⟩
  | .hbm, ⟨46, _⟩ => ⟨S1x1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S8192x2816, .f32⟩
  | .hbm, ⟨56, _⟩ => ⟨S8192x2816, .f32⟩
  | .hbm, ⟨57, _⟩ => ⟨S8192x2816, .f32⟩
  | .hbm, ⟨58, _⟩ => ⟨S8192x2816, .f32⟩
  | .hbm, ⟨59, _⟩ => ⟨S8192x1024, .bf16⟩
  | .hbm, ⟨60, _⟩ => ⟨S8192x2816, .bf16⟩
  | .hbm, ⟨61, _⟩ => ⟨S8192x2816, .bf16⟩
  | .hbm, ⟨62, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_call1_v0 : Ref sig .tc := ⟨.hbm, 30, rfl⟩
abbrev main_call1_v1 : Ref sig .tc := ⟨.hbm, 31, rfl⟩
abbrev main_call1_cst : Ref sig .tc := ⟨.hbm, 32, rfl⟩
abbrev main_call1_v2 : Ref sig .tc := ⟨.hbm, 33, rfl⟩
abbrev main_call1_v3 : Ref sig .tc := ⟨.hbm, 34, rfl⟩
abbrev main_call1_cst_0 : Ref sig .tc := ⟨.hbm, 35, rfl⟩
abbrev main_call1_v4 : Ref sig .tc := ⟨.hbm, 36, rfl⟩
abbrev main_v14_2 : Ref sig .tc := ⟨.hbm, 37, rfl⟩
abbrev main_call1_cst_1 : Ref sig .tc := ⟨.hbm, 38, rfl⟩
abbrev main_call1_v6 : Ref sig .tc := ⟨.hbm, 39, rfl⟩
abbrev main_call1_v7 : Ref sig .tc := ⟨.hbm, 40, rfl⟩
abbrev main_v14_1 : Ref sig .tc := ⟨.hbm, 41, rfl⟩
abbrev main_v14_0 : Ref sig .tc := ⟨.hbm, 42, rfl⟩
abbrev main_v15 : Ref sig .tc := ⟨.hbm, 43, rfl⟩
abbrev main_v16 : Ref sig .tc := ⟨.hbm, 44, rfl⟩
abbrev main_cst_2 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩

abbrev nD : Nat := 1
abbrev τ : Topo := Topo.v7x

variable {F : FTy → Type} [FloatOps F]
-- ==== Attn.lean ====
abbrev S8192x4x128 : Shape := ⟨3, ![8192, 4, 128]⟩
abbrev S8192x4x64 : Shape := ⟨3, ![8192, 4, 64]⟩
abbrev S8192x64 : Shape := ⟨2, ![8192, 64]⟩
abbrev S8192x512 : Shape := ⟨2, ![8192, 512]⟩
abbrev S36 : Shape := ⟨1, ![36]⟩
abbrev S8192x1x64 : Shape := ⟨3, ![8192, 1, 64]⟩
abbrev S4x8192x8192 : Shape := ⟨3, ![4, 8192, 8192]⟩
abbrev S_ : Shape := ⟨0, ![]⟩
abbrev S4x8192 : Shape := ⟨2, ![4, 8192]⟩
abbrev S4x8192x1 : Shape := ⟨3, ![4, 8192, 1]⟩
abbrev S4x128x8192 : Shape := ⟨3, ![4, 128, 8192]⟩
abbrev S8192x4 : Shape := ⟨2, ![8192, 4]⟩
abbrev S8192x4x256 : Shape := ⟨3, ![8192, 4, 256]⟩
abbrev S8192x1024 : Shape := ⟨2, ![8192, 1024]⟩
abbrev S8192x4x1 : Shape := ⟨3, ![8192, 4, 1]⟩
abbrev S1024x256 : Shape := ⟨2, ![1024, 256]⟩
abbrev S1 : Shape := ⟨1, ![1]⟩
abbrev S1024x128 : Shape := ⟨2, ![1024, 128]⟩
abbrev S8192x256 : Shape := ⟨2, ![8192, 256]⟩
abbrev S1024x1024 : Shape := ⟨2, ![1024, 1024]⟩
abbrev S512x256 : Shape := ⟨2, ![512, 256]⟩
abbrev S512x128 : Shape := ⟨2, ![512, 128]⟩
abbrev S512x512 : Shape := ⟨2, ![512, 512]⟩
abbrev S512x1024 : Shape := ⟨2, ![512, 1024]⟩

abbrev nBuf : Space → Nat
  | .hbm => 74
  | .vmem => 20
  | .smem => 3
  | _ => 0

abbrev bufTy : (tb : Table) → Fin (tcTables nBuf tb) → BufTy
  | .hbm, ⟨0, _⟩ => ⟨S8192x4x128, .f32⟩
  | .hbm, ⟨1, _⟩ => ⟨S8192x4x64, .f32⟩
  | .hbm, ⟨2, _⟩ => ⟨S8192x4x128, .f32⟩
  | .hbm, ⟨3, _⟩ => ⟨S8192x64, .f32⟩
  | .hbm, ⟨4, _⟩ => ⟨S8192x4x128, .f32⟩
  | .hbm, ⟨5, _⟩ => ⟨S8192x512, .f32⟩
  | .hbm, ⟨6, _⟩ => ⟨S8192x1x64, .f32⟩
  | .hbm, ⟨7, _⟩ => ⟨S8192x4x64, .f32⟩
  | .hbm, ⟨8, _⟩ => ⟨S4x8192x8192, .f32⟩
  | .hbm, ⟨9, _⟩ => ⟨S4x8192x8192, .f32⟩
  | .hbm, ⟨10, _⟩ => ⟨S4x8192x8192, .f32⟩
  | .hbm, ⟨11, _⟩ => ⟨S_, .f32⟩
  | .hbm, ⟨12, _⟩ => ⟨S_, .f32⟩
  | .hbm, ⟨13, _⟩ => ⟨S4x8192x8192, .f32⟩
  | .hbm, ⟨14, _⟩ => ⟨S4x8192x8192, .f32⟩
  | .hbm, ⟨15, _⟩ => ⟨S4x8192x8192, .i32⟩
  | .hbm, ⟨16, _⟩ => ⟨S4x8192x8192, .i32⟩
  | .hbm, ⟨17, _⟩ => ⟨S_, .i32⟩
  | .hbm, ⟨18, _⟩ => ⟨S4x8192x8192, .i32⟩
  | .hbm, ⟨19, _⟩ => ⟨S4x8192x8192, .i32⟩
  | .hbm, ⟨20, _⟩ => ⟨S_, .i32⟩
  | .hbm, ⟨21, _⟩ => ⟨S4x8192x8192, .i32⟩
  | .hbm, ⟨22, _⟩ => ⟨S4x8192x8192, .i32⟩
  | .hbm, ⟨23, _⟩ => ⟨S4x8192x8192, .i1⟩
  | .hbm, ⟨24, _⟩ => ⟨S_, .f32⟩
  | .hbm, ⟨25, _⟩ => ⟨S4x8192x8192, .f32⟩
  | .hbm, ⟨26, _⟩ => ⟨S4x8192x8192, .f32⟩
  | .hbm, ⟨27, _⟩ => ⟨S_, .f32⟩
  | .hbm, ⟨28, _⟩ => ⟨S4x8192, .f32⟩
  | .hbm, ⟨29, _⟩ => ⟨S4x8192x1, .f32⟩
  | .hbm, ⟨30, _⟩ => ⟨S4x8192x8192, .f32⟩
  | .hbm, ⟨31, _⟩ => ⟨S4x8192x8192, .f32⟩
  | .hbm, ⟨32, _⟩ => ⟨S4x8192x8192, .f32⟩
  | .hbm, ⟨33, _⟩ => ⟨S_, .f32⟩
  | .hbm, ⟨34, _⟩ => ⟨S4x8192, .f32⟩
  | .hbm, ⟨35, _⟩ => ⟨S4x8192x1, .f32⟩
  | .hbm, ⟨36, _⟩ => ⟨S4x8192x8192, .f32⟩
  | .hbm, ⟨37, _⟩ => ⟨S4x8192x8192, .f32⟩
  | .hbm, ⟨38, _⟩ => ⟨S4x128x8192, .f32⟩
  | .hbm, ⟨39, _⟩ => ⟨S8192x4x128, .f32⟩
  | .hbm, ⟨40, _⟩ => ⟨S4x8192x1, .f32⟩
  | .hbm, ⟨41, _⟩ => ⟨S4x8192x1, .f32⟩
  | .hbm, ⟨42, _⟩ => ⟨S4x8192, .f32⟩
  | .hbm, ⟨43, _⟩ => ⟨S8192x4, .f32⟩
  | .hbm, ⟨44, _⟩ => ⟨S_, .f32⟩
  | .hbm, ⟨45, _⟩ => ⟨S_, .f32⟩
  | .hbm, ⟨46, _⟩ => ⟨S8192x4, .f32⟩
  | .hbm, ⟨47, _⟩ => ⟨S8192x4, .f32⟩
  | .hbm, ⟨48, _⟩ => ⟨S8192x4x128, .f32⟩
  | .hbm, ⟨49, _⟩ => ⟨S8192x4x128, .f32⟩
  | .hbm, ⟨50, _⟩ => ⟨S_, .f32⟩
  | .hbm, ⟨51, _⟩ => ⟨S8192x4, .f32⟩
  | .hbm, ⟨52, _⟩ => ⟨S_, .f32⟩
  | .hbm, ⟨53, _⟩ => ⟨S8192x4x64, .f32⟩
  | .hbm, ⟨54, _⟩ => ⟨S8192x4x256, .f32⟩
  | .hbm, ⟨55, _⟩ => ⟨S8192x1024, .f32⟩
  | .hbm, ⟨56, _⟩ => ⟨S8192x1024, .bf16⟩
  | .hbm, ⟨57, _⟩ => ⟨S_, .f32⟩
  | .hbm, ⟨58, _⟩ => ⟨S8192x4x64, .f32⟩
  | .hbm, ⟨59, _⟩ => ⟨S8192x4x256, .f32⟩
  | .hbm, ⟨60, _⟩ => ⟨S8192x1024, .f32⟩
  | .hbm, ⟨61, _⟩ => ⟨S8192x1024, .bf16⟩
  | .hbm, ⟨62, _⟩ => ⟨S8192x512, .f32⟩
  | .hbm, ⟨63, _⟩ => ⟨S8192x512, .bf16⟩
  | .hbm, ⟨64, _⟩ => ⟨S8192x512, .bf16⟩
  | .hbm, ⟨65, _⟩ => ⟨S8192x4x1, .f32⟩
  | .hbm, ⟨66, _⟩ => ⟨S8192x4x128, .f32⟩
  | .hbm, ⟨67, _⟩ => ⟨S8192x512, .f32⟩
  | .hbm, ⟨68, _⟩ => ⟨S8192x4x1, .f32⟩
  | .hbm, ⟨69, _⟩ => ⟨S8192x4x128, .f32⟩
  | .hbm, ⟨70, _⟩ => ⟨S8192x512, .f32⟩
  | .hbm, ⟨71, _⟩ => ⟨S8192x1024, .bf16⟩
  | .hbm, ⟨72, _⟩ => ⟨S8192x1024, .bf16⟩
  | .hbm, ⟨73, _⟩ => ⟨S8192x512, .bf16⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x256, .bf16⟩
  | .local _ .vmem, ⟨13, _⟩ => ⟨S1024x256, .bf16⟩
  | .local _ .vmem, ⟨14, _⟩ => ⟨S1024x128, .bf16⟩
  | .local _ .vmem, ⟨15, _⟩ => ⟨S1024x128, .bf16⟩
  | .local _ .vmem, ⟨16, _⟩ => ⟨S8192x256, .f32⟩
  | .local _ .vmem, ⟨17, _⟩ => ⟨S8192x256, .bf16⟩
  | .local _ .vmem, ⟨18, _⟩ => ⟨S1024x256, .f32⟩
  | .local _ .vmem, ⟨19, _⟩ => ⟨S1024x128, .f32⟩
  | .local _ .smem, ⟨0, _⟩ => ⟨S36, .i32⟩
  | .local _ .smem, ⟨1, _⟩ => ⟨S36, .i32⟩
  | .local _ .smem, ⟨2, _⟩ => ⟨S36, .i32⟩
  | _, _ => ⟨S8192x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_c_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_8 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_10 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55_0 : Ref sig .tc := ⟨.hbm, 71, rfl⟩
abbrev main_v55_1 : Ref sig .tc := ⟨.hbm, 72, rfl⟩
abbrev main_v55_2 : Ref sig .tc := ⟨.hbm, 73, rfl⟩
abbrev main_c : Ref sig .tc := ⟨.smem, 0, rfl⟩
abbrev main_c_0 : Ref sig .tc := ⟨.smem, 1, rfl⟩
abbrev main_c_1 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 36], ![false, false]⟩

abbrev pre0 : Pipeline.Prefetch sig := ⟨3, ![main_c.idx, main_c_0.idx, main_c_1.idx], fun | 0 => main_c.names | 1 => main_c_0.names | 2 => main_c_1.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v9 : Index := Scalar.indexCast arg1
  ![v9.toNat]
def k0_mult1 (v1 : BitVec 32) : BitVec 32 :=
  let c1024_i32_30 : BitVec 32 := 1024#32
  let v62 : BitVec 32 := Scalar.muli v1 c1024_i32_30
  let c0_i32_31 : BitVec 32 := 0#32
  let v63 : BitVec 32 := Scalar.addi v62 c0_i32_31
  v63
def k0_cond2 (v10 : BitVec 32) : BitVec 1 :=
  let c0_i32_1 : BitVec 32 := 0#32
  let v11 : BitVec 1 := Scalar.cmpi .eq v10 c0_i32_1
  let v12 : BitVec 32 := Scalar.extui v11
  let c0_i32_2 : BitVec 32 := 0#32
  let v13 : BitVec 1 := Scalar.cmpi .ne v12 c0_i32_2
  v13

def k0_off3 (v1 : BitVec 32) : Fin 2 → Nat :=
  let c1024_i32_30 : BitVec 32 := 1024#32
  let v62 : BitVec 32 := Scalar.muli v1 c1024_i32_30
  let c0_i32_31 : BitVec 32 := 0#32
  let v63 : BitVec 32 := Scalar.addi v62 c0_i32_31
  let v64 : BitVec 32 := v63
  let v71 : Index := Scalar.indexCast v64
  let c0_36 : Index := 0#32
  ![v71.toNat, 0]
def k0_cond3 (v3 : BitVec 32) : BitVec 1 :=
  let c0_i32_32 : BitVec 32 := 0#32
  let v65 : BitVec 1 := Scalar.cmpi .eq v3 c0_i32_32
  let v66 : BitVec 32 := Scalar.extui v65
  let c0_i32_33 : BitVec 32 := 0#32
  let v67 : BitVec 1 := Scalar.cmpi .ne v66 c0_i32_33
  v67

def k0_off4 (v1 : BitVec 32) : Fin 2 → Nat :=
  let c1024_i32_30 : BitVec 32 := 1024#32
  let v62 : BitVec 32 := Scalar.muli v1 c1024_i32_30
  let c0_i32_31 : BitVec 32 := 0#32
  let v63 : BitVec 32 := Scalar.addi v62 c0_i32_31
  let v64 : BitVec 32 := v63
  let v71 : Index := Scalar.indexCast v64
  let c0_36 : Index := 0#32
  ![v71.toNat, 0]
def k0_cond4 (v3 : BitVec 32) : BitVec 1 :=
  let c0_i32_34 : BitVec 32 := 0#32
  let v68 : BitVec 1 := Scalar.cmpi .sgt v3 c0_i32_34
  let v69 : BitVec 32 := Scalar.extui v68
  let c0_i32_35 : BitVec 32 := 0#32
  let v70 : BitVec 1 := Scalar.cmpi .ne v69 c0_i32_35
  v70

def k0_chk1 (v1 : BitVec 32) (v3 : BitVec 32) (v10 : BitVec 32) : Prop :=
  (∀ (k0_h2 : k0_cond2 v10 = 1#1), 1024 ∣ (k0_mult1 v1).toNat) ∧
  (∀ (k0_h2 : k0_cond2 v10 = 1#1), ∀ (k0_h3 : k0_cond3 v3 = 1#1), ∀ a, (k0_off3 v1) a + S1024x256.size a ≤ S8192x256.size a) ∧
  (∀ (k0_h2 : k0_cond2 v10 = 1#1), ∀ (k0_h4 : k0_cond4 v3 = 1#1), ∀ a, (k0_off4 v1) a + S1024x256.size a ≤ S8192x256.size a)
theorem k0_mult1_dvd : ∀ (v1 : BitVec 32) (v3 : BitVec 32) (v10 : BitVec 32) (k0_hw1 : k0_chk1 v1 v3 v10), ∀ (k0_h2 : k0_cond2 v10 = 1#1), 1024 ∣ (k0_mult1 v1).toNat := fun v1 v3 v10 k0_hw1 k0_h2 => k0_hw1.1 k0_h2
theorem k0_off3_inb : ∀ (v1 : BitVec 32) (v3 : BitVec 32) (v10 : BitVec 32) (k0_hw1 : k0_chk1 v1 v3 v10), ∀ (k0_h2 : k0_cond2 v10 = 1#1), ∀ (k0_h3 : k0_cond3 v3 = 1#1), ∀ a, (k0_off3 v1) a + S1024x256.size a ≤ S8192x256.size a := fun v1 v3 v10 k0_hw1 k0_h2 k0_h3 => k0_hw1.2.1 k0_h2 k0_h3
theorem k0_off4_inb : ∀ (v1 : BitVec 32) (v3 : BitVec 32) (v10 : BitVec 32) (k0_hw1 : k0_chk1 v1 v3 v10), ∀ (k0_h2 : k0_cond2 v10 = 1#1), ∀ (k0_h4 : k0_cond4 v3 = 1#1), ∀ a, (k0_off4 v1) a + S1024x256.size a ≤ S8192x256.size a := fun v1 v3 v10 k0_hw1 k0_h2 k0_h4 => k0_hw1.2.2 k0_h2 k0_h4

def k0_off5 (i : grid0.Coords) : Fin 1 → Nat :=
  let arg1 : BitVec 32 := BitVec.ofNat 32 (i 1).val
  let v14 : Index := Scalar.indexCast arg1
  ![v14.toNat]
def k0_mult2 (v1 : BitVec 32) : BitVec 32 :=
  let c1024_i32_45 : BitVec 32 := 1024#32
  let v117 : BitVec 32 := Scalar.muli v1 c1024_i32_45
  let c0_i32_46 : BitVec 32 := 0#32
  let v118 : BitVec 32 := Scalar.addi v117 c0_i32_46
  v118
def k0_cond5 (v15 : BitVec 32) : BitVec 1 :=
  let c1_i32 : BitVec 32 := 1#32
  let v16 : BitVec 1 := Scalar.cmpi .eq v15 c1_i32
  let v17 : BitVec 32 := Scalar.extui v16
  let c0_i32_3 : BitVec 32 := 0#32
  let v18 : BitVec 1 := Scalar.cmpi .ne v17 c0_i32_3
  v18

def k0_off6 (v1 : BitVec 32) : Fin 2 → Nat :=
  let c1024_i32_45 : BitVec 32 := 1024#32
  let v117 : BitVec 32 := Scalar.muli v1 c1024_i32_45
  let c0_i32_46 : BitVec 32 := 0#32
  let v118 : BitVec 32 := Scalar.addi v117 c0_i32_46
  let v119 : BitVec 32 := v118
  let v227 : Index := Scalar.indexCast v119
  let c0_97 : Index := 0#32
  ![v227.toNat, 0]
def k0_cond6 (v3 : BitVec 32) : BitVec 1 :=
  let c0_i32_47 : BitVec 32 := 0#32
  let v120 : BitVec 1 := Scalar.cmpi .eq v3 c0_i32_47
  let v121 : BitVec 32 := Scalar.extui v120
  let c0_i32_48 : BitVec 32 := 0#32
  let v122 : BitVec 1 := Scalar.cmpi .ne v121 c0_i32_48
  v122

def k0_off7 (v1 : BitVec 32) : Fin 2 → Nat :=
  let c1024_i32_45 : BitVec 32 := 1024#32
  let v117 : BitVec 32 := Scalar.muli v1 c1024_i32_45
  let c0_i32_46 : BitVec 32 := 0#32
  let v118 : BitVec 32 := Scalar.addi v117 c0_i32_46
  let v119 : BitVec 32 := v118
  let v227 : Index := Scalar.indexCast v119
  let c0_97 : Index := 0#32
  ![v227.toNat, 0]
def k0_cond7 (v3 : BitVec 32) : BitVec 1 :=
  let c0_i32_49 : BitVec 32 := 0#32
  let v123 : BitVec 1 := Scalar.cmpi .sgt v3 c0_i32_49
  let v124 : BitVec 32 := Scalar.extui v123
  let c0_i32_50 : BitVec 32 := 0#32
  let v125 : BitVec 1 := Scalar.cmpi .ne v124 c0_i32_50
  v125

def k0_mult3 (v1 : BitVec 32) : BitVec 32 :=
  let c1024_i32_91 : BitVec 32 := 1024#32
  let v218 : BitVec 32 := Scalar.muli v1 c1024_i32_91
  let c512_i32_92 : BitVec 32 := 512#32
  let v219 : BitVec 32 := Scalar.addi v218 c512_i32_92
  v219
def k0_off8 (v1 : BitVec 32) : Fin 2 → Nat :=
  let c1024_i32_91 : BitVec 32 := 1024#32
  let v218 : BitVec 32 := Scalar.muli v1 c1024_i32_91
  let c512_i32_92 : BitVec 32 := 512#32
  let v219 : BitVec 32 := Scalar.addi v218 c512_i32_92
  let v220 : BitVec 32 := v219
  let v227 : Index := Scalar.indexCast v220
  let c0_97 : Index := 0#32
  ![v227.toNat, 0]
def k0_cond8 (v3 : BitVec 32) : BitVec 1 :=
  let c0_i32_93 : BitVec 32 := 0#32
  let v221 : BitVec 1 := Scalar.cmpi .eq v3 c0_i32_93
  let v222 : BitVec 32 := Scalar.extui v221
  let c0_i32_94 : BitVec 32 := 0#32
  let v223 : BitVec 1 := Scalar.cmpi .ne v222 c0_i32_94
  v223

def k0_off9 (v1 : BitVec 32) : Fin 2 → Nat :=
  let c1024_i32_91 : BitVec 32 := 1024#32
  let v218 : BitVec 32 := Scalar.muli v1 c1024_i32_91
  let c512_i32_92 : BitVec 32 := 512#32
  let v219 : BitVec 32 := Scalar.addi v218 c512_i32_92
  let v220 : BitVec 32 := v219
  let v227 : Index := Scalar.indexCast v220
  let c0_97 : Index := 0#32
  ![v227.toNat, 0]
def k0_cond9 (v3 : BitVec 32) : BitVec 1 :=
  let c0_i32_95 : BitVec 32 := 0#32
  let v224 : BitVec 1 := Scalar.cmpi .sgt v3 c0_i32_95
  let v225 : BitVec 32 := Scalar.extui v224
  let c0_i32_96 : BitVec 32 := 0#32
  let v226 : BitVec 1 := Scalar.cmpi .ne v225 c0_i32_96
  v226

def k0_chk2 (v1 : BitVec 32) (v3 : BitVec 32) (v15 : BitVec 32) : Prop :=
  (∀ (k0_h5 : k0_cond5 v15 = 1#1), 512 ∣ (k0_mult2 v1).toNat) ∧
  (∀ (k0_h5 : k0_cond5 v15 = 1#1), ∀ (k0_h6 : k0_cond6 v3 = 1#1), ∀ a, (k0_off6 v1) a + S512x256.size a ≤ S8192x256.size a) ∧
  (∀ (k0_h5 : k0_cond5 v15 = 1#1), ∀ (k0_h7 : k0_cond7 v3 = 1#1), ∀ a, (k0_off7 v1) a + S512x256.size a ≤ S8192x256.size a) ∧
  (∀ (k0_h5 : k0_cond5 v15 = 1#1), 512 ∣ (k0_mult3 v1).toNat) ∧
  (∀ (k0_h5 : k0_cond5 v15 = 1#1), ∀ (k0_h8 : k0_cond8 v3 = 1#1), ∀ a, (k0_off8 v1) a + S512x256.size a ≤ S8192x256.size a) ∧
  (∀ (k0_h5 : k0_cond5 v15 = 1#1), ∀ (k0_h9 : k0_cond9 v3 = 1#1), ∀ a, (k0_off9 v1) a + S512x256.size a ≤ S8192x256.size a)
theorem k0_mult2_dvd : ∀ (v1 : BitVec 32) (v3 : BitVec 32) (v15 : BitVec 32) (k0_hw2 : k0_chk2 v1 v3 v15), ∀ (k0_h5 : k0_cond5 v15 = 1#1), 512 ∣ (k0_mult2 v1).toNat := fun v1 v3 v15 k0_hw2 k0_h5 => k0_hw2.1 k0_h5
theorem k0_off6_inb : ∀ (v1 : BitVec 32) (v3 : BitVec 32) (v15 : BitVec 32) (k0_hw2 : k0_chk2 v1 v3 v15), ∀ (k0_h5 : k0_cond5 v15 = 1#1), ∀ (k0_h6 : k0_cond6 v3 = 1#1), ∀ a, (k0_off6 v1) a + S512x256.size a ≤ S8192x256.size a := fun v1 v3 v15 k0_hw2 k0_h5 k0_h6 => k0_hw2.2.1 k0_h5 k0_h6
theorem k0_off7_inb : ∀ (v1 : BitVec 32) (v3 : BitVec 32) (v15 : BitVec 32) (k0_hw2 : k0_chk2 v1 v3 v15), ∀ (k0_h5 : k0_cond5 v15 = 1#1), ∀ (k0_h7 : k0_cond7 v3 = 1#1), ∀ a, (k0_off7 v1) a + S512x256.size a ≤ S8192x256.size a := fun v1 v3 v15 k0_hw2 k0_h5 k0_h7 => k0_hw2.2.2.1 k0_h5 k0_h7
theorem k0_mult3_dvd : ∀ (v1 : BitVec 32) (v3 : BitVec 32) (v15 : BitVec 32) (k0_hw2 : k0_chk2 v1 v3 v15), ∀ (k0_h5 : k0_cond5 v15 = 1#1), 512 ∣ (k0_mult3 v1).toNat := fun v1 v3 v15 k0_hw2 k0_h5 => k0_hw2.2.2.2.1 k0_h5
theorem k0_off8_inb : ∀ (v1 : BitVec 32) (v3 : BitVec 32) (v15 : BitVec 32) (k0_hw2 : k0_chk2 v1 v3 v15), ∀ (k0_h5 : k0_cond5 v15 = 1#1), ∀ (k0_h8 : k0_cond8 v3 = 1#1), ∀ a, (k0_off8 v1) a + S512x256.size a ≤ S8192x256.size a := fun v1 v3 v15 k0_hw2 k0_h5 k0_h8 => k0_hw2.2.2.2.2.1 k0_h5 k0_h8
theorem k0_off9_inb : ∀ (v1 : BitVec 32) (v3 : BitVec 32) (v15 : BitVec 32) (k0_hw2 : k0_chk2 v1 v3 v15), ∀ (k0_h5 : k0_cond5 v15 = 1#1), ∀ (k0_h9 : k0_cond9 v3 = 1#1), ∀ a, (k0_off9 v1) a + S512x256.size a ≤ S8192x256.size a := fun v1 v3 v15 k0_hw2 k0_h5 k0_h9 => k0_hw2.2.2.2.2.2 k0_h5 k0_h9

def k0_cond11 (i : grid0.Coords) : BitVec 1 :=
  let arg1 : BitVec 32 := BitVec.ofNat 32 (i 1).val
  let c35_i32 : BitVec 32 := 35#32
  let v22 : BitVec 1 := Scalar.cmpi .eq arg1 c35_i32
  let v23 : BitVec 32 := Scalar.extui v22
  let c0_i32_5 : BitVec 32 := 0#32
  let v24 : BitVec 1 := Scalar.cmpi .ne v23 c0_i32_5
  v24

def k0_mult4 (i : grid0.Coords) : BitVec 32 :=
  let arg0 : BitVec 32 := BitVec.ofNat 32 (i 0).val
  let c256_i32 : BitVec 32 := 256#32
  let v32 : BitVec 32 := Scalar.muli arg0 c256_i32
  v32
def k0_off10 (i : grid0.Coords) : Fin 2 → Nat :=
  let c0_i32_9 : BitVec 32 := 0#32
  let arg0 : BitVec 32 := BitVec.ofNat 32 (i 0).val
  let c256_i32 : BitVec 32 := 256#32
  let v32 : BitVec 32 := Scalar.muli arg0 c256_i32
  let v33 : BitVec 32 := v32
  ![0, v33.toNat]
def k0_cond10 (v1 : BitVec 32) : BitVec 1 :=
  let c7_i32 : BitVec 32 := 7#32
  let v19 : BitVec 1 := Scalar.cmpi .eq v1 c7_i32
  let v20 : BitVec 32 := Scalar.extui v19
  let c0_i32_4 : BitVec 32 := 0#32
  let v21 : BitVec 1 := Scalar.cmpi .ne v20 c0_i32_4
  v21

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_5 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_7 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_8 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AttnIdeal.lean ====
variable {F : FTy → Type} [FloatOps F] [Named F]
def κ : String → Option EReal := fun
  | "att_scale" => some (((Real.sqrt 192)⁻¹ : ℝ) : EReal)
  | "exp2_scale" => some (((Real.log 2)⁻¹ * (Real.sqrt 192)⁻¹ : ℝ) : EReal)
  | "mask" => some ⊥
  | _ => none
-- ==== AttnRefIdeal.lean ====
abbrev S8192x4x128 : Shape := ⟨3, ![8192, 4, 128]⟩
abbrev S8192x4x64 : Shape := ⟨3, ![8192, 4, 64]⟩
abbrev S8192x64 : Shape := ⟨2, ![8192, 64]⟩
abbrev S8192x512 : Shape := ⟨2, ![8192, 512]⟩
abbrev S8192x1x64 : Shape := ⟨3, ![8192, 1, 64]⟩
abbrev S4x8192x8192 : Shape := ⟨3, ![4, 8192, 8192]⟩
abbrev S_ : Shape := ⟨0, ![]⟩
abbrev S4x8192 : Shape := ⟨2, ![4, 8192]⟩
abbrev S4x8192x1 : Shape := ⟨3, ![4, 8192, 1]⟩
abbrev S4x128x8192 : Shape := ⟨3, ![4, 128, 8192]⟩
abbrev S4x8192x64 : Shape := ⟨3, ![4, 8192, 64]⟩
abbrev S4x8192x128 : Shape := ⟨3, ![4, 8192, 128]⟩
abbrev S8192x4x256 : Shape := ⟨3, ![8192, 4, 256]⟩
abbrev S8192x1024 : Shape := ⟨2, ![8192, 1024]⟩

abbrev nBuf : Space → Nat
  | .hbm => 111
  | .vmem => 0
  | .smem => 0
  | _ => 0

abbrev bufTy : (tb : Table) → Fin (tcTables nBuf tb) → BufTy
  | .hbm, ⟨0, _⟩ => ⟨S8192x4x128, .f32⟩
  | .hbm, ⟨1, _⟩ => ⟨S8192x4x64, .f32⟩
  | .hbm, ⟨2, _⟩ => ⟨S8192x4x128, .f32⟩
  | .hbm, ⟨3, _⟩ => ⟨S8192x64, .f32⟩
  | .hbm, ⟨4, _⟩ => ⟨S8192x4x128, .f32⟩
  | .hbm, ⟨5, _⟩ => ⟨S8192x512, .f32⟩
  | .hbm, ⟨6, _⟩ => ⟨S8192x1x64, .f32⟩
  | .hbm, ⟨7, _⟩ => ⟨S8192x4x64, .f32⟩
  | .hbm, ⟨8, _⟩ => ⟨S4x8192x8192, .f32⟩
  | .hbm, ⟨9, _⟩ => ⟨S4x8192x8192, .f32⟩
  | .hbm, ⟨10, _⟩ => ⟨S4x8192x8192, .f32⟩
  | .hbm, ⟨11, _⟩ => ⟨S_, .f32⟩
  | .hbm, ⟨12, _⟩ => ⟨S_, .f32⟩
  | .hbm, ⟨13, _⟩ => ⟨S4x8192x8192, .f32⟩
  | .hbm, ⟨14, _⟩ => ⟨S4x8192x8192, .f32⟩
  | .hbm, ⟨15, _⟩ => ⟨S4x8192x8192, .i32⟩
  | .hbm, ⟨16, _⟩ => ⟨S4x8192x8192, .i32⟩
  | .hbm, ⟨17, _⟩ => ⟨S_, .i32⟩
  | .hbm, ⟨18, _⟩ => ⟨S4x8192x8192, .i32⟩
  | .hbm, ⟨19, _⟩ => ⟨S4x8192x8192, .i32⟩
  | .hbm, ⟨20, _⟩ => ⟨S_, .i32⟩
  | .hbm, ⟨21, _⟩ => ⟨S4x8192x8192, .i32⟩
  | .hbm, ⟨22, _⟩ => ⟨S4x8192x8192, .i32⟩
  | .hbm, ⟨23, _⟩ => ⟨S4x8192x8192, .i1⟩
  | .hbm, ⟨24, _⟩ => ⟨S_, .f32⟩
  | .hbm, ⟨25, _⟩ => ⟨S4x8192x8192, .f32⟩
  | .hbm, ⟨26, _⟩ => ⟨S4x8192x8192, .f32⟩
  | .hbm, ⟨27, _⟩ => ⟨S_, .f32⟩
  | .hbm, ⟨28, _⟩ => ⟨S4x8192x8192, .f32⟩
  | .hbm, ⟨29, _⟩ => ⟨S_, .f32⟩
  | .hbm, ⟨30, _⟩ => ⟨S4x8192, .f32⟩
  | .hbm, ⟨31, _⟩ => ⟨S4x8192x1, .f32⟩
  | .hbm, ⟨32, _⟩ => ⟨S4x8192x8192, .f32⟩
  | .hbm, ⟨33, _⟩ => ⟨S4x8192x8192, .i1⟩
  | .hbm, ⟨34, _⟩ => ⟨S4x8192x8192, .f32⟩
  | .hbm, ⟨35, _⟩ => ⟨S_, .f32⟩
  | .hbm, ⟨36, _⟩ => ⟨S4x8192, .f32⟩
  | .hbm, ⟨37, _⟩ => ⟨S_, .f32⟩
  | .hbm, ⟨38, _⟩ => ⟨S4x8192, .f32⟩
  | .hbm, ⟨39, _⟩ => ⟨S4x8192, .f32⟩
  | .hbm, ⟨40, _⟩ => ⟨S_, .f32⟩
  | .hbm, ⟨41, _⟩ => ⟨S4x8192, .f32⟩
  | .hbm, ⟨42, _⟩ => ⟨S4x8192, .i1⟩
  | .hbm, ⟨43, _⟩ => ⟨S_, .f32⟩
  | .hbm, ⟨44, _⟩ => ⟨S4x8192, .f32⟩
  | .hbm, ⟨45, _⟩ => ⟨S4x8192, .i1⟩
  | .hbm, ⟨46, _⟩ => ⟨S_, .f32⟩
  | .hbm, ⟨47, _⟩ => ⟨S4x8192, .f32⟩
  | .hbm, ⟨48, _⟩ => ⟨S_, .f32⟩
  | .hbm, ⟨49, _⟩ => ⟨S4x8192, .f32⟩
  | .hbm, ⟨50, _⟩ => ⟨S_, .f32⟩
  | .hbm, ⟨51, _⟩ => ⟨S4x8192, .f32⟩
  | .hbm, ⟨52, _⟩ => ⟨S4x8192, .f32⟩
  | .hbm, ⟨53, _⟩ => ⟨S4x8192, .f32⟩
  | .hbm, ⟨54, _⟩ => ⟨S4x8192x1, .f32⟩
  | .hbm, ⟨55, _⟩ => ⟨S4x8192x8192, .f32⟩
  | .hbm, ⟨56, _⟩ => ⟨S4x8192x8192, .f32⟩
  | .hbm, ⟨57, _⟩ => ⟨S4x8192x8192, .f32⟩
  | .hbm, ⟨58, _⟩ => ⟨S_, .f32⟩
  | .hbm, ⟨59, _⟩ => ⟨S4x8192, .f32⟩
  | .hbm, ⟨60, _⟩ => ⟨S4x8192x1, .f32⟩
  | .hbm, ⟨61, _⟩ => ⟨S4x8192x8192, .f32⟩
  | .hbm, ⟨62, _⟩ => ⟨S4x8192x8192, .f32⟩
  | .hbm, ⟨63, _⟩ => ⟨S4x8192x1, .f32⟩
  | .hbm, ⟨64, _⟩ => ⟨S_, .f32⟩
  | .hbm, ⟨65, _⟩ => ⟨S4x8192x1, .f32⟩
  | .hbm, ⟨66, _⟩ => ⟨S4x8192x1, .f32⟩
  | .hbm, ⟨67, _⟩ => ⟨S4x128x8192, .f32⟩
  | .hbm, ⟨68, _⟩ => ⟨S8192x4x128, .f32⟩
  | .hbm, ⟨69, _⟩ => ⟨S8192x4x128, .f32⟩
  | .hbm, ⟨70, _⟩ => ⟨S4x128x8192, .f32⟩
  | .hbm, ⟨71, _⟩ => ⟨S4x8192x8192, .f32⟩
  | .hbm, ⟨72, _⟩ => ⟨S4x128x8192, .f32⟩
  | .hbm, ⟨73, _⟩ => ⟨S8192x4x128, .f32⟩
  | .hbm, ⟨74, _⟩ => ⟨S4x8192x8192, .f32⟩
  | .hbm, ⟨75, _⟩ => ⟨S4x8192x8192, .f32⟩
  | .hbm, ⟨76, _⟩ => ⟨S4x8192x8192, .f32⟩
  | .hbm, ⟨77, _⟩ => ⟨S_, .f32⟩
  | .hbm, ⟨78, _⟩ => ⟨S4x8192, .f32⟩
  | .hbm, ⟨79, _⟩ => ⟨S4x8192x1, .f32⟩
  | .hbm, ⟨80, _⟩ => ⟨S4x8192x1, .f32⟩
  | .hbm, ⟨81, _⟩ => ⟨S4x8192x8192, .f32⟩
  | .hbm, ⟨82, _⟩ => ⟨S4x8192x8192, .f32⟩
  | .hbm, ⟨83, _⟩ => ⟨S_, .f32⟩
  | .hbm, ⟨84, _⟩ => ⟨S4x8192, .f32⟩
  | .hbm, ⟨85, _⟩ => ⟨S4x8192x8192, .f32⟩
  | .hbm, ⟨86, _⟩ => ⟨S4x8192x8192, .f32⟩
  | .hbm, ⟨87, _⟩ => ⟨S4x8192x8192, .f32⟩
  | .hbm, ⟨88, _⟩ => ⟨S_, .f32⟩
  | .hbm, ⟨89, _⟩ => ⟨S4x8192x8192, .f32⟩
  | .hbm, ⟨90, _⟩ => ⟨S4x8192x8192, .f32⟩
  | .hbm, ⟨91, _⟩ => ⟨S4x8192x8192, .f32⟩
  | .hbm, ⟨92, _⟩ => ⟨S4x8192x8192, .f32⟩
  | .hbm, ⟨93, _⟩ => ⟨S4x8192x64, .f32⟩
  | .hbm, ⟨94, _⟩ => ⟨S8192x4x64, .f32⟩
  | .hbm, ⟨95, _⟩ => ⟨S4x8192x64, .f32⟩
  | .hbm, ⟨96, _⟩ => ⟨S8192x4x64, .f32⟩
  | .hbm, ⟨97, _⟩ => ⟨S4x8192x128, .f32⟩
  | .hbm, ⟨98, _⟩ => ⟨S8192x4x128, .f32⟩
  | .hbm, ⟨99, _⟩ => ⟨S4x8192x128, .f32⟩
  | .hbm, ⟨100, _⟩ => ⟨S8192x4x128, .f32⟩
  | .hbm, ⟨101, _⟩ => ⟨S_, .f32⟩
  | .hbm, ⟨102, _⟩ => ⟨S8192x4x64, .f32⟩
  | .hbm, ⟨103, _⟩ => ⟨S8192x4x256, .f32⟩
  | .hbm, ⟨104, _⟩ => ⟨S8192x1024, .f32⟩
  | .hbm, ⟨105, _⟩ => ⟨S8192x4x256, .f32⟩
  | .hbm, ⟨106, _⟩ => ⟨S8192x1024, .f32⟩
  | .hbm, ⟨107, _⟩ => ⟨S8192x1024, .bf16⟩
  | .hbm, ⟨108, _⟩ => ⟨S8192x1024, .bf16⟩
  | .hbm, ⟨109, _⟩ => ⟨S8192x512, .f32⟩
  | .hbm, ⟨110, _⟩ => ⟨S8192x512, .bf16⟩
  | _, _ => ⟨S8192x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_cst_9 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_11 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_12 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_13 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_14 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_15 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_16 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩

abbrev nD : Nat := 1
abbrev τ : Topo := Topo.v7x

variable {F : FTy → Type} [FloatOps F]
-- ==== Norm.lean ====
abbrev S8192x1024 : Shape := ⟨2, ![8192, 1024]⟩
abbrev S1x1024 : Shape := ⟨2, ![1, 1024]⟩
abbrev S1024x2816 : Shape := ⟨2, ![1024, 2816]⟩
abbrev S8192x2816 : Shape := ⟨2, ![8192, 2816]⟩
abbrev S2816x1024 : Shape := ⟨2, ![2816, 1024]⟩
abbrev S8x3072 : Shape := ⟨2, ![8, 3072]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S8x1024 : Shape := ⟨2, ![8, 1024]⟩
abbrev S64x8x1024 : Shape := ⟨3, ![64, 8, 1024]⟩
abbrev S3072 : Shape := ⟨1, ![3072]⟩
abbrev S1x3072 : Shape := ⟨2, ![1, 3072]⟩

abbrev nBuf : Space → Nat
  | .hbm => 16
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S8192x2816, .f32⟩
  | .hbm, ⟨6, _⟩ => ⟨S8192x2816, .f32⟩
  | .hbm, ⟨7, _⟩ => ⟨S8192x1024, .f32⟩
  | .hbm, ⟨8, _⟩ => ⟨S8192x2816, .bf16⟩
  | .hbm, ⟨9, _⟩ => ⟨S2816x1024, .f32⟩
  | .hbm, ⟨10, _⟩ => ⟨S2816x1024, .bf16⟩
  | .hbm, ⟨11, _⟩ => ⟨S8192x2816, .bf16⟩
  | .hbm, ⟨12, _⟩ => ⟨S2816x1024, .f32⟩
  | .hbm, ⟨13, _⟩ => ⟨S2816x1024, .bf16⟩
  | .hbm, ⟨14, _⟩ => ⟨S8192x1024, .f32⟩
  | .hbm, ⟨15, _⟩ => ⟨S8x3072, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S8x3072, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormRefIdeal.lean ====
abbrev S8192x1024 : Shape := ⟨2, ![8192, 1024]⟩
abbrev S1x1024 : Shape := ⟨2, ![1, 1024]⟩
abbrev S1024x2816 : Shape := ⟨2, ![1024, 2816]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x3072 : Shape := ⟨2, ![1, 3072]⟩
abbrev S8x3072 : Shape := ⟨2, ![8, 3072]⟩

abbrev nBuf : Space → Nat
  | .hbm => 76
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S8192x2816, .f32⟩
  | .hbm, ⟨6, _⟩ => ⟨S8192x2816, .f32⟩
  | .hbm, ⟨7, _⟩ => ⟨S8192x1024, .f32⟩
  | .hbm, ⟨8, _⟩ => ⟨S_, .f32⟩
  | .hbm, ⟨9, _⟩ => ⟨S1x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x2816, .f32⟩
  | .hbm, ⟨37, _⟩ => ⟨S8192x2816, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S8192x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S_, .f32⟩
  | .hbm, ⟨68, _⟩ => ⟨S8192, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S1x3072, .f32⟩
  | .hbm, ⟨75, _⟩ => ⟨S8x3072, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_cst_10 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩

abbrev nD : Nat := 1
abbrev τ : Topo := Topo.v7x

variable {F : FTy → Type} [FloatOps F]
-- ==== Loss.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S8x1024 : Shape := ⟨2, ![8, 1024]⟩
abbrev S8x128 : Shape := ⟨2, ![8, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S64x8x1024 : Shape := ⟨3, ![64, 8, 1024]⟩
abbrev S1024 : Shape := ⟨1, ![1024]⟩
abbrev S1 : Shape := ⟨1, ![1]⟩
abbrev S1x1 : Shape := ⟨2, ![1, 1]⟩

abbrev nBuf : Space → Nat
  | .hbm => 12
  | .vmem => 16
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x2816, .bf16⟩
  | .hbm, ⟨7, _⟩ => ⟨S2816x1024, .bf16⟩
  | .hbm, ⟨8, _⟩ => ⟨S8192x1024, .f32⟩
  | .hbm, ⟨9, _⟩ => ⟨S8192x1024, .bf16⟩
  | .hbm, ⟨10, _⟩ => ⟨S8x1024, .f32⟩
  | .hbm, ⟨11, _⟩ => ⟨S8x128, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S8x1024, .f32⟩
  | .local _ .vmem, ⟨14, _⟩ => ⟨S8x128, .f32⟩
  | .local _ .vmem, ⟨15, _⟩ => ⟨S8x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v62 : BitVec 1 := Scalar.cmpi .eq arg0 c15_i32
  let v63 : BitVec 32 := Scalar.extui v62
  let c0_i32_33 : BitVec 32 := 0#32
  let v64 : BitVec 1 := Scalar.cmpi .ne v63 c0_i32_33
  v64

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LossRefIdeal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S8x1024 : Shape := ⟨2, ![8, 1024]⟩
abbrev S8x128 : Shape := ⟨2, ![8, 128]⟩

abbrev nBuf : Space → Nat
  | .hbm => 82
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S8192, .f32⟩
  | .hbm, ⟨50, _⟩ => ⟨S_, .f32⟩
  | .hbm, ⟨51, _⟩ => ⟨S8192, .f32⟩
  | .hbm, ⟨52, _⟩ => ⟨S8192, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S8192x1024, .f32⟩
  | .hbm, ⟨66, _⟩ => ⟨S8192x1024, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .bf16⟩
  | .hbm, ⟨80, _⟩ => ⟨S8x1024, .f32⟩
  | .hbm, ⟨81, _⟩ => ⟨S8x128, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩
abbrev main_cst_9 : Ref sig .tc := ⟨.hbm, 46, rfl⟩
abbrev main_cst_10 : Ref sig .tc := ⟨.hbm, 47, rfl⟩
abbrev main_v30 : Ref sig .tc := ⟨.hbm, 48, rfl⟩
abbrev main_v31 : Ref sig .tc := ⟨.hbm, 49, rfl⟩
abbrev main_cst_11 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_12 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_13 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_14 : Ref sig .tc := ⟨.hbm, 68, rfl⟩
abbrev main_v47 : Ref sig .tc := ⟨.hbm, 69, rfl⟩
abbrev main_v48 : Ref sig .tc := ⟨.hbm, 70, rfl⟩
abbrev main_cst_15 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩

abbrev nD : Nat := 1
abbrev τ : Topo := Topo.v7x

variable {F : FTy → Type} [FloatOps F]
-- ==== MixOut.lean ====
abbrev S8192x1024 : Shape := ⟨2, ![8192, 1024]⟩
abbrev S1x1024 : Shape := ⟨2, ![1, 1024]⟩
abbrev S1024x1024 : Shape := ⟨2, ![1024, 1024]⟩
abbrev S8192x512 : Shape := ⟨2, ![8192, 512]⟩
abbrev S512x512 : Shape := ⟨2, ![512, 512]⟩
abbrev S_ : Shape := ⟨0, ![]⟩
abbrev S1x512 : Shape := ⟨2, ![1, 512]⟩
abbrev S8192x8x64 : Shape := ⟨3, ![8192, 8, 64]⟩
abbrev S8192x8 : Shape := ⟨2, ![8192, 8]⟩
abbrev S8192x8x1 : Shape := ⟨3, ![8192, 8, 1]⟩
abbrev S8192x4x128 : Shape := ⟨3, ![8192, 4, 128]⟩
abbrev S8192x4 : Shape := ⟨2, ![8192, 4]⟩
abbrev S8192x4x1 : Shape := ⟨3, ![8192, 4, 1]⟩
abbrev S8x2048 : Shape := ⟨2, ![8, 2048]⟩
abbrev S512x1024 : Shape := ⟨2, ![512, 1024]⟩
abbrev S8x1024 : Shape := ⟨2, ![8, 1024]⟩
abbrev S64x8x1024 : Shape := ⟨3, ![64, 8, 1024]⟩
abbrev S8x512 : Shape := ⟨2, ![8, 512]⟩
abbrev S64x8x512 : Shape := ⟨3, ![64, 8, 512]⟩
abbrev S2048 : Shape := ⟨1, ![2048]⟩
abbrev S1x2048 : Shape := ⟨2, ![1, 2048]⟩

abbrev nBuf : Space → Nat
  | .hbm => 76
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1024, .f32⟩
  | .hbm, ⟨3, _⟩ => ⟨S8192x512, .f32⟩
  | .hbm, ⟨4, _⟩ => ⟨S8192x512, .f32⟩
  | .hbm, ⟨5, _⟩ => ⟨S1x1024, .f32⟩
  | .hbm, ⟨6, _⟩ => ⟨S512x512, .i32⟩
  | .hbm, ⟨7, _⟩ => ⟨S512x512, .i32⟩
  | .hbm, ⟨8, _⟩ => ⟨S_, .i32⟩
  | .hbm, ⟨9, _⟩ => ⟨S512x512, .i32⟩
  | .hbm, ⟨10, _⟩ => ⟨S512x512, .i32⟩
  | .hbm, ⟨11, _⟩ => ⟨S_, .i32⟩
  | .hbm, ⟨12, _⟩ => ⟨S512x512, .i32⟩
  | .hbm, ⟨13, _⟩ => ⟨S512x512, .i32⟩
  | .hbm, ⟨14, _⟩ => ⟨S512x512, .i1⟩
  | .hbm, ⟨15, _⟩ => ⟨S512x512, .f32⟩
  | .hbm, ⟨16, _⟩ => ⟨S512x512, .bf16⟩
  | .hbm, ⟨17, _⟩ => ⟨S512x512, .i32⟩
  | .hbm, ⟨18, _⟩ => ⟨S512x512, .i32⟩
  | .hbm, ⟨19, _⟩ => ⟨S_, .i32⟩
  | .hbm, ⟨20, _⟩ => ⟨S512x512, .i32⟩
  | .hbm, ⟨21, _⟩ => ⟨S512x512, .i32⟩
  | .hbm, ⟨22, _⟩ => ⟨S_, .i32⟩
  | .hbm, ⟨23, _⟩ => ⟨S512x512, .i32⟩
  | .hbm, ⟨24, _⟩ => ⟨S512x512, .i32⟩
  | .hbm, ⟨25, _⟩ => ⟨S512x512, .i1⟩
  | .hbm, ⟨26, _⟩ => ⟨S512x512, .f32⟩
  | .hbm, ⟨27, _⟩ => ⟨S512x512, .bf16⟩
  | .hbm, ⟨28, _⟩ => ⟨S1024x1024, .bf16⟩
  | .hbm, ⟨29, _⟩ => ⟨S1x512, .f32⟩
  | .hbm, ⟨30, _⟩ => ⟨S8192x8x64, .f32⟩
  | .hbm, ⟨31, _⟩ => ⟨S8192x8x64, .f32⟩
  | .hbm, ⟨32, _⟩ => ⟨S_, .f32⟩
  | .hbm, ⟨33, _⟩ => ⟨S8192x8, .f32⟩
  | .hbm, ⟨34, _⟩ => ⟨S8192x8x1, .f32⟩
  | .hbm, ⟨35, _⟩ => ⟨S_, .f32⟩
  | .hbm, ⟨36, _⟩ => ⟨S8192x8x1, .f32⟩
  | .hbm, ⟨37, _⟩ => ⟨S8192x8x1, .f32⟩
  | .hbm, ⟨38, _⟩ => ⟨S_, .f32⟩
  | .hbm, ⟨39, _⟩ => ⟨S8192x8x1, .f32⟩
  | .hbm, ⟨40, _⟩ => ⟨S8192x8x1, .f32⟩
  | .hbm, ⟨41, _⟩ => ⟨S8192x8x1, .f32⟩
  | .hbm, ⟨42, _⟩ => ⟨S8192x8x64, .f32⟩
  | .hbm, ⟨43, _⟩ => ⟨S8192x8x64, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S1x512, .f32⟩
  | .hbm, ⟨48, _⟩ => ⟨S8192x4x128, .f32⟩
  | .hbm, ⟨49, _⟩ => ⟨S8192x4x128, .f32⟩
  | .hbm, ⟨50, _⟩ => ⟨S_, .f32⟩
  | .hbm, ⟨51, _⟩ => ⟨S8192x4, .f32⟩
  | .hbm, ⟨52, _⟩ => ⟨S8192x4x1, .f32⟩
  | .hbm, ⟨53, _⟩ => ⟨S_, .f32⟩
  | .hbm, ⟨54, _⟩ => ⟨S8192x4x1, .f32⟩
  | .hbm, ⟨55, _⟩ => ⟨S8192x4x1, .f32⟩
  | .hbm, ⟨56, _⟩ => ⟨S_, .f32⟩
  | .hbm, ⟨57, _⟩ => ⟨S8192x4x1, .f32⟩
  | .hbm, ⟨58, _⟩ => ⟨S8192x4x1, .f32⟩
  | .hbm, ⟨59, _⟩ => ⟨S8192x4x1, .f32⟩
  | .hbm, ⟨60, _⟩ => ⟨S8192x4x128, .f32⟩
  | .hbm, ⟨61, _⟩ => ⟨S8192x4x128, .f32⟩
  | .hbm, ⟨62, _⟩ => ⟨S8192x512, .f32⟩
  | .hbm, ⟨63, _⟩ => ⟨S8192x512, .f32⟩
  | .hbm, ⟨64, _⟩ => ⟨S8192x512, .f32⟩
  | .hbm, ⟨65, _⟩ => ⟨S8192x1024, .f32⟩
  | .hbm, ⟨66, _⟩ => ⟨S8192x1024, .bf16⟩
  | .hbm, ⟨67, _⟩ => ⟨S8192x1024, .f32⟩
  | .hbm, ⟨68, _⟩ => ⟨S1024x1024, .f32⟩
  | .hbm, ⟨69, _⟩ => ⟨S8192x1024, .f32⟩
  | .hbm, ⟨70, _⟩ => ⟨S8192x1024, .bf16⟩
  | .hbm, ⟨71, _⟩ => ⟨S8192x1024, .bf16⟩
  | .hbm, ⟨72, _⟩ => ⟨S8192x512, .f32⟩
  | .hbm, ⟨73, _⟩ => ⟨S8192x512, .bf16⟩
  | .hbm, ⟨74, _⟩ => ⟨S8192x512, .f32⟩
  | .hbm, ⟨75, _⟩ => ⟨S8x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S1024x1024, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x1024, .f32⟩
  | .local _ .vmem, ⟨11, _⟩ => ⟨S512x512, .bf16⟩
  | .local _ .vmem, ⟨12, _⟩ => ⟨S512x512, .bf16⟩
  | .local _ .vmem, ⟨13, _⟩ => ⟨S512x1024, .bf16⟩
  | .local _ .vmem, ⟨14, _⟩ => ⟨S512x1024, .bf16⟩
  | .local _ .vmem, ⟨15, _⟩ => ⟨S512x512, .f32⟩
  | .local _ .vmem, ⟨16, _⟩ => ⟨S512x512, .f32⟩
  | .local _ .vmem, ⟨17, _⟩ => ⟨S512x512, .bf16⟩
  | .local _ .vmem, ⟨18, _⟩ => ⟨S512x512, .bf16⟩
  | .local _ .vmem, ⟨19, _⟩ => ⟨S512x512, .f32⟩
  | .local _ .vmem, ⟨20, _⟩ => ⟨S512x512, .f32⟩
  | .local _ .vmem, ⟨21, _⟩ => ⟨S8x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55_0 : Ref sig .tc := ⟨.hbm, 71, rfl⟩
abbrev main_v55_1 : Ref sig .tc := ⟨.hbm, 72, rfl⟩
abbrev main_v55_2 : Ref sig .tc := ⟨.hbm, 73, rfl⟩
abbrev main_v55_3 : Ref sig .tc := ⟨.hbm, 74, rfl⟩
abbrev main_v55_4 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== MixOutRefIdeal.lean ====
abbrev S8192x1024 : Shape := ⟨2, ![8192, 1024]⟩
abbrev S1x1024 : Shape := ⟨2, ![1, 1024]⟩
abbrev S1024x1024 : Shape := ⟨2, ![1024, 1024]⟩
abbrev S8192x512 : Shape := ⟨2, ![8192, 512]⟩
abbrev S1x512 : Shape := ⟨2, ![1, 512]⟩
abbrev S8192x8x64 : Shape := ⟨3, ![8192, 8, 64]⟩
abbrev S_ : Shape := ⟨0, ![]⟩
abbrev S8192x8 : Shape := ⟨2, ![8192, 8]⟩
abbrev S8192x8x1 : Shape := ⟨3, ![8192, 8, 1]⟩
abbrev S8192x4x128 : Shape := ⟨3, ![8192, 4, 128]⟩
abbrev S8192x4 : Shape := ⟨2, ![8192, 4]⟩
abbrev S8192x4x1 : Shape := ⟨3, ![8192, 4, 1]⟩
abbrev S1024 : Shape := ⟨1, ![1024]⟩
abbrev S512 : Shape := ⟨1, ![512]⟩
abbrev S1x2048 : Shape := ⟨2, ![1, 2048]⟩
abbrev S8x2048 : Shape := ⟨2, ![8, 2048]⟩

abbrev nBuf : Space → Nat
  | .hbm => 171
  | .vmem => 0
  | .smem => 0
  | _ => 0

abbrev hbmTy0_0 (i : Nat) : BufTy := match i % 128 with
  | 0 => ⟨S8192x1024, .f32⟩
  | 1 => ⟨S1x1024, .f32⟩
  | 2 => ⟨S1024x1024, .f32⟩
  | 3 => ⟨S8192x512, .f32⟩
  | 4 => ⟨S8192x512, .f32⟩
  | 5 => ⟨S1x1024, .f32⟩
  | 6 => ⟨S1x512, .f32⟩
  | 7 => ⟨S8192x8x64, .f32⟩
  | 8 => ⟨S8192x8x64, .f32⟩
  | 9 => ⟨S_, .f32⟩
  | 10 => ⟨S8192x8, .f32⟩
  | 11 => ⟨S8192x8x1, .f32⟩
  | 12 => ⟨S_, .f32⟩
  | 13 => ⟨S8192x8x1, .f32⟩
  | 14 => ⟨S8192x8x1, .f32⟩
  | 15 => ⟨S_, .f32⟩
  | 16 => ⟨S8192x8x1, .f32⟩
  | 17 => ⟨S8192x8x1, .f32⟩
  | 18 => ⟨S8192x8x1, .f32⟩
  | 19 => ⟨S8192x8x64, .f32⟩
  | 20 => ⟨S8192x8x64, .f32⟩
  | 21 => ⟨S8192x512, .f32⟩
  | 22 => ⟨S8192x512, .f32⟩
  | 23 => ⟨S8192x512, .f32⟩
  | 24 => ⟨S1x512, .f32⟩
  | 25 => ⟨S8192x4x128, .f32⟩
  | 26 => ⟨S8192x4x128, .f32⟩
  | 27 => ⟨S_, .f32⟩
  | 28 => ⟨S8192x4, .f32⟩
  | 29 => ⟨S8192x4x1, .f32⟩
  | 30 => ⟨S_, .f32⟩
  | 31 => ⟨S8192x4x1, .f32⟩
  | 32 => ⟨S8192x4x1, .f32⟩
  | 33 => ⟨S_, .f32⟩
  | 34 => ⟨S8192x4x1, .f32⟩
  | 35 => ⟨S8192x4x1, .f32⟩
  | 36 => ⟨S8192x4x1, .f32⟩
  | 37 => ⟨S8192x4x128, .f32⟩
  | 38 => ⟨S8192x4x128, .f32⟩
  | 39 => ⟨S8192x512, .f32⟩
  | 40 => ⟨S8192x512, .f32⟩
  | 41 => ⟨S8192x512, .f32⟩
  | 42 => ⟨S8192x1024, .f32⟩
  | 43 => ⟨S8192x1024, .f32⟩
  | 44 => ⟨S8192x1024, .f32⟩
  | 45 => ⟨S8192x1024, .f32⟩
  | 46 => ⟨S8192x1024, .f32⟩
  | 47 => ⟨S8192x1024, .f32⟩
  | 48 => ⟨S1x512, .f32⟩
  | 49 => ⟨S8192x8x64, .f32⟩
  | 50 => ⟨S8192x8x64, .f32⟩
  | 51 => ⟨S_, .f32⟩
  | 52 => ⟨S8192x8, .f32⟩
  | 53 => ⟨S8192x8x1, .f32⟩
  | 54 => ⟨S_, .f32⟩
  | 55 => ⟨S8192x8x1, .f32⟩
  | 56 => ⟨S8192x8x1, .f32⟩
  | 57 => ⟨S_, .f32⟩
  | 58 => ⟨S8192x8x1, .f32⟩
  | 59 => ⟨S8192x8x1, .f32⟩
  | 60 => ⟨S8192x8x1, .f32⟩
  | 61 => ⟨S8192x8x1, .f32⟩
  | 62 => ⟨S_, .f32⟩
  | 63 => ⟨S8192x8x1, .f32⟩
  | 64 => ⟨S8192x8x1, .f32⟩
  | 65 => ⟨S8192x8x64, .f32⟩
  | 66 => ⟨S8192x8x64, .f32⟩
  | 67 => ⟨S8192x512, .f32⟩
  | 68 => ⟨S8192x512, .f32⟩
  | 69 => ⟨S8192x512, .f32⟩
  | 70 => ⟨S1x512, .f32⟩
  | 71 => ⟨S8192x4x128, .f32⟩
  | 72 => ⟨S8192x4x128, .f32⟩
  | 73 => ⟨S_, .f32⟩
  | 74 => ⟨S8192x4, .f32⟩
  | 75 => ⟨S8192x4x1, .f32⟩
  | 76 => ⟨S_, .f32⟩
  | 77 => ⟨S8192x4x1, .f32⟩
  | 78 => ⟨S8192x4x1, .f32⟩
  | 79 => ⟨S_, .f32⟩
  | 80 => ⟨S8192x4x1, .f32⟩
  | 81 => ⟨S8192x4x1, .f32⟩
  | 82 => ⟨S8192x4x1, .f32⟩
  | 83 => ⟨S8192x4x1, .f32⟩
  | 84 => ⟨S_, .f32⟩
  | 85 => ⟨S8192x4x1, .f32⟩
  | 86 => ⟨S8192x4x1, .f32⟩
  | 87 => ⟨S8192x4x128, .f32⟩
  | 88 => ⟨S8192x4x128, .f32⟩
  | 89 => ⟨S8192x512, .f32⟩
  | 90 => ⟨S8192x512, .f32⟩
  | 91 => ⟨S8192x512, .f32⟩
  | 92 => ⟨S8192x1024, .f32⟩
  | 93 => ⟨S8192x1024, .f32⟩
  | 94 => ⟨S8192x1024, .f32⟩
  | 95 => ⟨S8192x1024, .f32⟩
  | 96 => ⟨S8192x1024, .f32⟩
  | 97 => ⟨S8192x1024, .f32⟩
  | 98 => ⟨S8192x1024, .f32⟩
  | 99 => ⟨S_, .f32⟩
  | 100 => ⟨S1024, .f32⟩
  | 101 => ⟨S1x1024, .f32⟩
  | 102 => ⟨S8192x1024, .f32⟩
  | 103 => ⟨S8192x512, .f32⟩
  | 104 => ⟨S8192x512, .f32⟩
  | 105 => ⟨S8192x512, .f32⟩
  | 106 => ⟨S_, .f32⟩
  | 107 => ⟨S512, .f32⟩
  | 108 => ⟨S1x512, .f32⟩
  | 109 => ⟨S8192x512, .f32⟩
  | 110 => ⟨S8192x512, .f32⟩
  | 111 => ⟨S8192x4x128, .f32⟩
  | 112 => ⟨S8192x4x128, .f32⟩
  | 113 => ⟨S_, .f32⟩
  | 114 => ⟨S8192x4, .f32⟩
  | 115 => ⟨S8192x4x1, .f32⟩
  | 116 => ⟨S8192x4x128, .f32⟩
  | 117 => ⟨S8192x4x128, .f32⟩
  | 118 => ⟨S8192x4x1, .f32⟩
  | 119 => ⟨S_, .f32⟩
  | 120 => ⟨S8192x4x1, .f32⟩
  | 121 => ⟨S8192x4x1, .f32⟩
  | 122 => ⟨S_, .f32⟩
  | 123 => ⟨S8192x4, .f32⟩
  | 124 => ⟨S8192x4x128, .f32⟩
  | 125 => ⟨S8192x4x128, .f32⟩
  | 126 => ⟨S8192x4x128, .f32⟩
  | 127 => ⟨S8192x4x128, .f32⟩
  | _ => ⟨S8192x1024, .f32⟩

abbrev hbmTy0_1 (i : Nat) : BufTy := match i % 128 with
  | 0 => ⟨S8192x4x128, .f32⟩
  | 1 => ⟨S8192x512, .f32⟩
  | 2 => ⟨S_, .f32⟩
  | 3 => ⟨S1x1024, .f32⟩
  | 4 => ⟨S8192x512, .f32⟩
  | 5 => ⟨S_, .f32⟩
  | 6 => ⟨S512, .f32⟩
  | 7 => ⟨S1x512, .f32⟩
  | 8 => ⟨S8192x512, .f32⟩
  | 9 => ⟨S8192x512, .f32⟩
  | 10 => ⟨S8192x8x64, .f32⟩
  | 11 => ⟨S8192x8x64, .f32⟩
  | 12 => ⟨S_, .f32⟩
  | 13 => ⟨S8192x8, .f32⟩
  | 14 => ⟨S8192x8x1, .f32⟩
  | 15 => ⟨S8192x8x64, .f32⟩
  | 16 => ⟨S8192x8x64, .f32⟩
  | 17 => ⟨S8192x8x1, .f32⟩
  | 18 => ⟨S_, .f32⟩
  | 19 => ⟨S8192x8x1, .f32⟩
  | 20 => ⟨S8192x8x1, .f32⟩
  | 21 => ⟨S_, .f32⟩
  | 22 => ⟨S8192x8, .f32⟩
  | 23 => ⟨S8192x8x64, .f32⟩
  | 24 => ⟨S8192x8x64, .f32⟩
  | 25 => ⟨S8192x8x64, .f32⟩
  | 26 => ⟨S8192x8x64, .f32⟩
  | 27 => ⟨S8192x8x64, .f32⟩
  | 28 => ⟨S8192x512, .f32⟩
  | 29 => ⟨S_, .f32⟩
  | 30 => ⟨S1x1024, .f32⟩
  | 31 => ⟨S1x1024, .f32⟩
  | 32 => ⟨S8192x512, .f32⟩
  | 33 => ⟨S8192x4x128, .f32⟩
  | 34 => ⟨S_, .f32⟩
  | 35 => ⟨S8192x4, .f32⟩
  | 36 => ⟨S8192x4x1, .f32⟩
  | 37 => ⟨S8192x1024, .bf16⟩
  | 38 => ⟨S8192x512, .bf16⟩
  | 39 => ⟨S8192x4x128, .f32⟩
  | 40 => ⟨S8192x512, .f32⟩
  | 41 => ⟨S1x2048, .f32⟩
  | 42 => ⟨S8x2048, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_8 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_9 : Ref sig .tc := ⟨.hbm, 73, rfl⟩
abbrev main_v57 : Ref sig .tc := ⟨.hbm, 74, rfl⟩
abbrev main_v58 : Ref sig .tc := ⟨.hbm, 75, rfl⟩
abbrev main_cst_10 : Ref sig .tc := ⟨.hbm, 76, rfl⟩
abbrev main_v59 : Ref sig .tc := ⟨.hbm, 77, rfl⟩
abbrev main_v60 : Ref sig .tc := ⟨.hbm, 78, rfl⟩
abbrev main_cst_11 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_12 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_cst_13 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_cst_14 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_cst_15 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_cst_16 : Ref sig .tc := ⟨.hbm, 119, rfl⟩
abbrev main_v96 : Ref sig .tc := ⟨.hbm, 120, rfl⟩
abbrev main_v97 : Ref sig .tc := ⟨.hbm, 121, rfl⟩
abbrev main_cst_17 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_cst_18 : Ref sig .tc := ⟨.hbm, 130, rfl⟩
abbrev main_v105 : Ref sig .tc := ⟨.hbm, 131, rfl⟩
abbrev main_v106 : Ref sig .tc := ⟨.hbm, 132, rfl⟩
abbrev main_cst_19 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_cst_20 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_cst_21 : Ref sig .tc := ⟨.hbm, 146, rfl⟩
abbrev main_v118 : Ref sig .tc := ⟨.hbm, 147, rfl⟩
abbrev main_v119 : Ref sig .tc := ⟨.hbm, 148, rfl⟩
abbrev main_cst_22 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_cst_23 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_cst_24 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩

abbrev nD : Nat := 1
abbrev τ : Topo := Topo.v7x

variable {F : FTy → Type} [FloatOps F]
-- ==== MixMid.lean ====
abbrev S8192x2240 : Shape := ⟨2, ![8192, 2240]⟩
abbrev S8192 : Shape := ⟨1, ![8192]⟩
abbrev S8192x512 : Shape := ⟨2, ![8192, 512]⟩
abbrev S3x512 : Shape := ⟨2, ![3, 512]⟩
abbrev S1x384 : Shape := ⟨2, ![1, 384]⟩
abbrev S1x256 : Shape := ⟨2, ![1, 256]⟩
abbrev S384x768 : Shape := ⟨2, ![384, 768]⟩
abbrev S256x1024 : Shape := ⟨2, ![256, 1024]⟩
abbrev S8192x4x192 : Shape := ⟨3, ![8192, 4, 192]⟩
abbrev S8192x4x128 : Shape := ⟨3, ![8192, 4, 128]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S8192x128 : Shape := ⟨2, ![8192, 128]⟩
abbrev S8x512 : Shape := ⟨2, ![8, 512]⟩
abbrev S768x384 : Shape := ⟨2, ![768, 384]⟩
abbrev S4x192x384 : Shape := ⟨3, ![4, 192, 384]⟩
abbrev S4x256x384 : Shape := ⟨3, ![4, 256, 384]⟩
abbrev S1024x384 : Shape := ⟨2, ![1024, 384]⟩
abbrev S256x4x2x128 : Shape := ⟨4, ![256, 4, 2, 128]⟩
abbrev S256x2x4x128 : Shape := ⟨4, ![256, 2, 4, 128]⟩
abbrev S8192x2304 : Shape := ⟨2, ![8192, 2304]⟩
abbrev S8192x4x256 : Shape := ⟨3, ![8192, 4, 256]⟩
abbrev S8192x1024 : Shape := ⟨2, ![8192, 1024]⟩
abbrev S8x2176 : Shape := ⟨2, ![8, 2176]⟩
abbrev S256x2304 : Shape := ⟨2, ![256, 2304]⟩
abbrev S8x2304 : Shape := ⟨2, ![8, 2304]⟩
abbrev S256x512 : Shape := ⟨2, ![256, 512]⟩
abbrev S256x128 : Shape := ⟨2, ![256, 128]⟩
abbrev S1x512 : Shape := ⟨2, ![1, 512]⟩
abbrev S256x384 : Shape := ⟨2, ![256, 384]⟩
abbrev S256 : Shape := ⟨1, ![256]⟩
abbrev S256x1 : Shape := ⟨2, ![256, 1]⟩
abbrev S256x256 : Shape := ⟨2, ![256, 256]⟩
abbrev S32x8x512 : Shape := ⟨3, ![32, 8, 512]⟩
abbrev S8x384 : Shape := ⟨2, ![8, 384]⟩
abbrev S32x8x384 : Shape := ⟨3, ![32, 8, 384]⟩
abbrev S8x256 : Shape := ⟨2, ![8, 256]⟩
abbrev S32x8x256 : Shape := ⟨3, ![32, 8, 256]⟩
abbrev S2176 : Shape := ⟨1, ![2176]⟩
abbrev S1x2176 : Shape := ⟨2, ![1, 2176]⟩

abbrev nBuf : Space → Nat
  | .hbm => 70
  | .vmem => 32
  | .smem => 0
  | _ => 0

abbrev bufTy : (tb : Table) → Fin (tcTables nBuf tb) → BufTy
  | .hbm, ⟨0, _⟩ => ⟨S8192x2240, .f32⟩
  | .hbm, ⟨1, _⟩ => ⟨S8192, .i32⟩
  | .hbm, ⟨2, _⟩ => ⟨S8192x512, .f32⟩
  | .hbm, ⟨3, _⟩ => ⟨S3x512, .f32⟩
  | .hbm, ⟨4, _⟩ => ⟨S1x384, .f32⟩
  | .hbm, ⟨5, _⟩ => ⟨S1x256, .f32⟩
  | .hbm, ⟨6, _⟩ => ⟨S384x768, .f32⟩
  | .hbm, ⟨7, _⟩ => ⟨S256x1024, .f32⟩
  | .hbm, ⟨8, _⟩ => ⟨S8192x4x192, .f32⟩
  | .hbm, ⟨9, _⟩ => ⟨S8192x4x192, .f32⟩
  | .hbm, ⟨10, _⟩ => ⟨S8192x4x128, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S8192, .f32⟩
  | .hbm, ⟨26, _⟩ => ⟨S8192x1, .f32⟩
  | .hbm, ⟨27, _⟩ => ⟨S1x32, .f32⟩
  | .hbm, ⟨28, _⟩ => ⟨S8192x32, .f32⟩
  | .hbm, ⟨29, _⟩ => ⟨S8192x32, .f32⟩
  | .hbm, ⟨30, _⟩ => ⟨S8192x32, .f32⟩
  | .hbm, ⟨31, _⟩ => ⟨S8192x32, .f32⟩
  | .hbm, ⟨32, _⟩ => ⟨S8192x32, .f32⟩
  | .hbm, ⟨33, _⟩ => ⟨S_, .f32⟩
  | .hbm, ⟨34, _⟩ => ⟨S8192x64, .f32⟩
  | .hbm, ⟨35, _⟩ => ⟨S8192x128, .f32⟩
  | .hbm, ⟨36, _⟩ => ⟨S8192x128, .f32⟩
  | .hbm, ⟨37, _⟩ => ⟨S_, .i32⟩
  | .hbm, ⟨38, _⟩ => ⟨S_, .f32⟩
  | .hbm, ⟨39, _⟩ => ⟨S8x512, .f32⟩
  | .hbm, ⟨40, _⟩ => ⟨S768x384, .f32⟩
  | .hbm, ⟨41, _⟩ => ⟨S768x384, .bf16⟩
  | .hbm, ⟨42, _⟩ => ⟨S4x192x384, .bf16⟩
  | .hbm, ⟨43, _⟩ => ⟨S_, .i32⟩
  | .hbm, ⟨44, _⟩ => ⟨S_, .bf16⟩
  | .hbm, ⟨45, _⟩ => ⟨S4x256x384, .bf16⟩
  | .hbm, ⟨46, _⟩ => ⟨S1024x384, .bf16⟩
  | .hbm, ⟨47, _⟩ => ⟨S256x1024, .bf16⟩
  | .hbm, ⟨48, _⟩ => ⟨S256x4x2x128, .bf16⟩
  | .hbm, ⟨49, _⟩ => ⟨S256x2x4x128, .bf16⟩
  | .hbm, ⟨50, _⟩ => ⟨S256x1024, .bf16⟩
  | .hbm, ⟨51, _⟩ => ⟨S_, .i32⟩
  | .hbm, ⟨52, _⟩ => ⟨S_, .f32⟩
  | .hbm, ⟨53, _⟩ => ⟨S8192x2304, .f32⟩
  | .hbm, ⟨54, _⟩ => ⟨S_, .i32⟩
  | .hbm, ⟨55, _⟩ => ⟨S_, .f32⟩
  | .hbm, ⟨56, _⟩ => ⟨S8192x4x256, .f32⟩
  | .hbm, ⟨57, _⟩ => ⟨S8192x1024, .f32⟩
  | .hbm, ⟨58, _⟩ => ⟨S8192x1024, .bf16⟩
  | .hbm, ⟨59, _⟩ => ⟨S_, .i32⟩
  | .hbm, ⟨60, _⟩ => ⟨S_, .f32⟩
  | .hbm, ⟨61, _⟩ => ⟨S8192x4x256, .f32⟩
  | .hbm, ⟨62, _⟩ => ⟨S8192x1024, .f32⟩
  | .hbm, ⟨63, _⟩ => ⟨S8192x1024, .bf16⟩
  | .hbm, ⟨64, _⟩ => ⟨S8192x512, .f32⟩
  | .hbm, ⟨65, _⟩ => ⟨S8192x512, .bf16⟩
  | .hbm, ⟨66, _⟩ => ⟨S8192x2304, .bf16⟩
  | .hbm, ⟨67, _⟩ => ⟨S8192x1024, .bf16⟩
  | .hbm, ⟨68, _⟩ => ⟨S8192x1024, .bf16⟩
  | .hbm, ⟨69, _⟩ => ⟨S8x2176, .f32⟩
  | .local _ .vmem, ⟨0, _⟩ => ⟨S256x2304, .f32⟩
  | .local _ .vmem, ⟨1, _⟩ => ⟨S256x2304, .f32⟩
  | .local _ .vmem, ⟨2, _⟩ => ⟨S8x2304, .f32⟩
  | .local _ .vmem, ⟨3, _⟩ => ⟨S8x2304, .f32⟩
  | .local _ .vmem, ⟨4, _⟩ => ⟨S8x2304, .f32⟩
  | .local _ .vmem, ⟨5, _⟩ => ⟨S8x2304, .f32⟩
  | .local _ .vmem, ⟨6, _⟩ => ⟨S256x512, .f32⟩
  | .local _ .vmem, ⟨7, _⟩ => ⟨S256x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S1x384, .f32⟩
  | .local _ .vmem, ⟨12, _⟩ => ⟨S1x256, .f32⟩
  | .local _ .vmem, ⟨13, _⟩ => ⟨S1024x384, .bf16⟩
  | .local _ .vmem, ⟨14, _⟩ => ⟨S256x1024, .bf16⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x512, .bf16⟩
  | .local _ .vmem, ⟨24, _⟩ => ⟨S256x512, .bf16⟩
  | .local _ .vmem, ⟨25, _⟩ => ⟨S256x2304, .bf16⟩
  | .local _ .vmem, ⟨26, _⟩ => ⟨S256x2304, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S8x2176, .f32⟩
  | _, _ => ⟨S8192x2240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_cst_2 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c : Ref sig .tc := ⟨.hbm, 37, rfl⟩
abbrev main_call0_v0 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_4 : Ref sig .tc := ⟨.hbm, 43, rfl⟩
abbrev main_call1_v0 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_call2_v0 : Ref sig .tc := ⟨.hbm, 52, rfl⟩
abbrev main_v31 : Ref sig .tc := ⟨.hbm, 53, rfl⟩
abbrev main_c_6 : Ref sig .tc := ⟨.hbm, 54, rfl⟩
abbrev main_call3_v0 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_7 : Ref sig .tc := ⟨.hbm, 59, rfl⟩
abbrev main_call4_v0 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40_0 : Ref sig .tc := ⟨.hbm, 66, rfl⟩
abbrev main_v40_1 : Ref sig .tc := ⟨.hbm, 67, rfl⟩
abbrev main_v40_2 : Ref sig .tc := ⟨.hbm, 68, rfl⟩
abbrev main_v40_3 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x384 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x2304 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S8x2176 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== MixMidRefIdeal.lean ====
abbrev S8192x2240 : Shape := ⟨2, ![8192, 2240]⟩
abbrev S8192 : Shape := ⟨1, ![8192]⟩
abbrev S8192x512 : Shape := ⟨2, ![8192, 512]⟩
abbrev S3x512 : Shape := ⟨2, ![3, 512]⟩
abbrev S1x384 : Shape := ⟨2, ![1, 384]⟩
abbrev S1x256 : Shape := ⟨2, ![1, 256]⟩
abbrev S384x768 : Shape := ⟨2, ![384, 768]⟩
abbrev S256x1024 : Shape := ⟨2, ![256, 1024]⟩
abbrev S8192x4x192 : Shape := ⟨3, ![8192, 4, 192]⟩
abbrev S8192x4x128 : Shape := ⟨3, ![8192, 4, 128]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x384 : Shape := ⟨2, ![8192, 384]⟩
abbrev S8192x768 : Shape := ⟨2, ![8192, 768]⟩
abbrev S8192x256 : Shape := ⟨2, ![8192, 256]⟩
abbrev S8192x1024 : Shape := ⟨2, ![8192, 1024]⟩
abbrev S8192x64 : Shape := ⟨2, ![8192, 64]⟩
abbrev S8192x4x256 : Shape := ⟨3, ![8192, 4, 256]⟩
abbrev S8192x4x64 : Shape := ⟨3, ![8192, 4, 64]⟩
abbrev S8192x1x32 : Shape := ⟨3, ![8192, 1, 32]⟩
abbrev S8192x4x32 : Shape := ⟨3, ![8192, 4, 32]⟩
abbrev S8192x1x64 : Shape := ⟨3, ![8192, 1, 64]⟩
abbrev S256 : Shape := ⟨1, ![256]⟩
abbrev S384 : Shape := ⟨1, ![384]⟩
abbrev S2x512 : Shape := ⟨2, ![2, 512]⟩
abbrev S8194x512 : Shape := ⟨2, ![8194, 512]⟩
abbrev S1x512 : Shape := ⟨2, ![1, 512]⟩
abbrev S512 : Shape := ⟨1, ![512]⟩
abbrev S8192x704 : Shape := ⟨2, ![8192, 704]⟩
abbrev S8192x2304 : Shape := ⟨2, ![8192, 2304]⟩
abbrev S8192x4x2x128 : Shape := ⟨4, ![8192, 4, 2, 128]⟩
abbrev S8192x2x4x128 : Shape := ⟨4, ![8192, 2, 4, 128]⟩
abbrev S1x1536 : Shape := ⟨2, ![1, 1536]⟩
abbrev S1x2176 : Shape := ⟨2, ![1, 2176]⟩
abbrev S8x2176 : Shape := ⟨2, ![8, 2176]⟩

abbrev nBuf : Space → Nat
  | .hbm => 316
  | .vmem => 0
  | .smem => 0
  | _ => 0

abbrev hbmTy0_0 (i : Nat) : BufTy := match i % 128 with
  | 0 => ⟨S8192x2240, .f32⟩
  | 1 => ⟨S8192, .i32⟩
  | 2 => ⟨S8192x512, .f32⟩
  | 3 => ⟨S3x512, .f32⟩
  | 4 => ⟨S1x384, .f32⟩
  | 5 => ⟨S1x256, .f32⟩
  | 6 => ⟨S384x768, .f32⟩
  | 7 => ⟨S256x1024, .f32⟩
  | 8 => ⟨S8192x4x192, .f32⟩
  | 9 => ⟨S8192x4x192, .f32⟩
  | 10 => ⟨S8192x4x128, .f32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S32, .f32⟩
  | 19 => ⟨S_, .f32⟩
  | 20 => ⟨S32, .f32⟩
  | 21 => ⟨S32, .f32⟩
  | 22 => ⟨S_, .f32⟩
  | 23 => ⟨S32, .f32⟩
  | 24 => ⟨S32, .f32⟩
  | 25 => ⟨S8192, .f32⟩
  | 26 => ⟨S8192x1, .f32⟩
  | 27 => ⟨S1x32, .f32⟩
  | 28 => ⟨S8192x32, .f32⟩
  | 29 => ⟨S8192x32, .f32⟩
  | 30 => ⟨S8192x32, .f32⟩
  | 31 => ⟨S8192x32, .f32⟩
  | 32 => ⟨S8192x32, .f32⟩
  | 33 => ⟨S8192x384, .f32⟩
  | 34 => ⟨S8192x384, .f32⟩
  | 35 => ⟨S_, .f32⟩
  | 36 => ⟨S8192, .f32⟩
  | 37 => ⟨S8192x1, .f32⟩
  | 38 => ⟨S_, .f32⟩
  | 39 => ⟨S8192x1, .f32⟩
  | 40 => ⟨S8192x1, .f32⟩
  | 41 => ⟨S_, .f32⟩
  | 42 => ⟨S8192x1, .f32⟩
  | 43 => ⟨S8192x1, .f32⟩
  | 44 => ⟨S8192x1, .f32⟩
  | 45 => ⟨S8192x1, .f32⟩
  | 46 => ⟨S_, .f32⟩
  | 47 => ⟨S8192x1, .f32⟩
  | 48 => ⟨S8192x1, .f32⟩
  | 49 => ⟨S8192x384, .f32⟩
  | 50 => ⟨S8192x384, .f32⟩
  | 51 => ⟨S8192x384, .f32⟩
  | 52 => ⟨S8192x384, .f32⟩
  | 53 => ⟨S8192x768, .f32⟩
  | 54 => ⟨S8192x256, .f32⟩
  | 55 => ⟨S8192x256, .f32⟩
  | 56 => ⟨S_, .f32⟩
  | 57 => ⟨S8192, .f32⟩
  | 58 => ⟨S8192x1, .f32⟩
  | 59 => ⟨S_, .f32⟩
  | 60 => ⟨S8192x1, .f32⟩
  | 61 => ⟨S8192x1, .f32⟩
  | 62 => ⟨S_, .f32⟩
  | 63 => ⟨S8192x1, .f32⟩
  | 64 => ⟨S8192x1, .f32⟩
  | 65 => ⟨S8192x1, .f32⟩
  | 66 => ⟨S8192x1, .f32⟩
  | 67 => ⟨S_, .f32⟩
  | 68 => ⟨S8192x1, .f32⟩
  | 69 => ⟨S8192x1, .f32⟩
  | 70 => ⟨S8192x256, .f32⟩
  | 71 => ⟨S8192x256, .f32⟩
  | 72 => ⟨S8192x256, .f32⟩
  | 73 => ⟨S8192x256, .f32⟩
  | 74 => ⟨S8192x1024, .f32⟩
  | 75 => ⟨S8192x64, .f32⟩
  | 76 => ⟨S8192x4x192, .f32⟩
  | 77 => ⟨S8192x4x256, .f32⟩
  | 78 => ⟨S8192x4x64, .f32⟩
  | 79 => ⟨S8192x1x32, .f32⟩
  | 80 => ⟨S8192x1x32, .f32⟩
  | 81 => ⟨S8192x4x32, .f32⟩
  | 82 => ⟨S8192x4x32, .f32⟩
  | 83 => ⟨S8192x4x32, .f32⟩
  | 84 => ⟨S8192x4x32, .f32⟩
  | 85 => ⟨S8192x4x32, .f32⟩
  | 86 => ⟨S8192x4x32, .f32⟩
  | 87 => ⟨S8192x4x32, .f32⟩
  | 88 => ⟨S8192x4x32, .f32⟩
  | 89 => ⟨S8192x4x32, .f32⟩
  | 90 => ⟨S8192x4x32, .f32⟩
  | 91 => ⟨S8192x4x32, .f32⟩
  | 92 => ⟨S8192x4x32, .f32⟩
  | 93 => ⟨S8192x4x64, .f32⟩
  | 94 => ⟨S8192x32, .f32⟩
  | 95 => ⟨S8192x32, .f32⟩
  | 96 => ⟨S8192x32, .f32⟩
  | 97 => ⟨S8192x32, .f32⟩
  | 98 => ⟨S8192x32, .f32⟩
  | 99 => ⟨S8192x32, .f32⟩
  | 100 => ⟨S8192x32, .f32⟩
  | 101 => ⟨S8192x32, .f32⟩
  | 102 => ⟨S8192x64, .f32⟩
  | 103 => ⟨S8192x1x64, .f32⟩
  | 104 => ⟨S8192x4x64, .f32⟩
  | 105 => ⟨S8192x4x128, .f32⟩
  | 106 => ⟨S8192x4x192, .f32⟩
  | 107 => ⟨S8192x4x128, .f32⟩
  | 108 => ⟨S8192x4x192, .f32⟩
  | 109 => ⟨S8192x4x128, .f32⟩
  | 110 => ⟨S_, .f32⟩
  | 111 => ⟨S8192x4x256, .f32⟩
  | 112 => ⟨S8192x4x128, .f32⟩
  | 113 => ⟨S8192x4x64, .f32⟩
  | 114 => ⟨S_, .f32⟩
  | 115 => ⟨S8192x4x256, .f32⟩
  | 116 => ⟨S8192x4x256, .f32⟩
  | 117 => ⟨S8192x4x128, .f32⟩
  | 118 => ⟨S8192x4x64, .f32⟩
  | 119 => ⟨S_, .f32⟩
  | 120 => ⟨S8192x4x192, .f32⟩
  | 121 => ⟨S_, .f32⟩
  | 122 => ⟨S8192x64, .f32⟩
  | 123 => ⟨S8192x1x64, .f32⟩
  | 124 => ⟨S_, .f32⟩
  | 125 => ⟨S8192x64, .f32⟩
  | 126 => ⟨S8192x32, .f32⟩
  | 127 => ⟨S8192x32, .f32⟩
  | _ => ⟨S8192x2240, .f32⟩

abbrev hbmTy0_1 (i : Nat) : BufTy := match i % 128 with
  | 0 => ⟨S8192x32, .f32⟩
  | 1 => ⟨S8192x32, .f32⟩
  | 2 => ⟨S8192x32, .f32⟩
  | 3 => ⟨S8192x32, .f32⟩
  | 4 => ⟨S8192x32, .f32⟩
  | 5 => ⟨S8192x32, .f32⟩
  | 6 => ⟨S8192x32, .f32⟩
  | 7 => ⟨S_, .f32⟩
  | 8 => ⟨S8192x64, .f32⟩
  | 9 => ⟨S_, .f32⟩
  | 10 => ⟨S8192x64, .f32⟩
  | 11 => ⟨S8192x64, .f32⟩
  | 12 => ⟨S8192x4x32, .f32⟩
  | 13 => ⟨S8192x4x32, .f32⟩
  | 14 => ⟨S8192x4x32, .f32⟩
  | 15 => ⟨S8192x4x32, .f32⟩
  | 16 => ⟨S8192x4x32, .f32⟩
  | 17 => ⟨S8192x4x32, .f32⟩
  | 18 => ⟨S8192x4x32, .f32⟩
  | 19 => ⟨S8192x4x32, .f32⟩
  | 20 => ⟨S8192x4x32, .f32⟩
  | 21 => ⟨S8192x4x32, .f32⟩
  | 22 => ⟨S8192x4x32, .f32⟩
  | 23 => ⟨S8192x4x32, .f32⟩
  | 24 => ⟨S8192x4x32, .f32⟩
  | 25 => ⟨S_, .f32⟩
  | 26 => ⟨S8192x4x64, .f32⟩
  | 27 => ⟨S_, .f32⟩
  | 28 => ⟨S8192x4x64, .f32⟩
  | 29 => ⟨S8192x4x64, .f32⟩
  | 30 => ⟨S_, .f32⟩
  | 31 => ⟨S8192x4x192, .f32⟩
  | 32 => ⟨S8192x4x192, .f32⟩
  | 33 => ⟨S8192x1024, .f32⟩
  | 34 => ⟨S8192x768, .f32⟩
  | 35 => ⟨S_, .f32⟩
  | 36 => ⟨S8192x2240, .f32⟩
  | 37 => ⟨S8192x256, .f32⟩
  | 38 => ⟨S8192x256, .f32⟩
  | 39 => ⟨S_, .f32⟩
  | 40 => ⟨S256, .f32⟩
  | 41 => ⟨S1x256, .f32⟩
  | 42 => ⟨S8192x256, .f32⟩
  | 43 => ⟨S8192x256, .f32⟩
  | 44 => ⟨S8192x256, .f32⟩
  | 45 => ⟨S_, .f32⟩
  | 46 => ⟨S8192, .f32⟩
  | 47 => ⟨S8192x1, .f32⟩
  | 48 => ⟨S8192x256, .f32⟩
  | 49 => ⟨S8192x256, .f32⟩
  | 50 => ⟨S8192x1, .f32⟩
  | 51 => ⟨S_, .f32⟩
  | 52 => ⟨S8192x1, .f32⟩
  | 53 => ⟨S8192x1, .f32⟩
  | 54 => ⟨S_, .f32⟩
  | 55 => ⟨S8192, .f32⟩
  | 56 => ⟨S8192x256, .f32⟩
  | 57 => ⟨S8192x256, .f32⟩
  | 58 => ⟨S8192x256, .f32⟩
  | 59 => ⟨S8192x256, .f32⟩
  | 60 => ⟨S8192x256, .f32⟩
  | 61 => ⟨S_, .f32⟩
  | 62 => ⟨S8192x2240, .f32⟩
  | 63 => ⟨S8192x2240, .f32⟩
  | 64 => ⟨S8192x384, .f32⟩
  | 65 => ⟨S8192x384, .f32⟩
  | 66 => ⟨S_, .f32⟩
  | 67 => ⟨S384, .f32⟩
  | 68 => ⟨S1x384, .f32⟩
  | 69 => ⟨S8192x384, .f32⟩
  | 70 => ⟨S8192x384, .f32⟩
  | 71 => ⟨S8192x384, .f32⟩
  | 72 => ⟨S_, .f32⟩
  | 73 => ⟨S8192, .f32⟩
  | 74 => ⟨S8192x1, .f32⟩
  | 75 => ⟨S8192x384, .f32⟩
  | 76 => ⟨S8192x384, .f32⟩
  | 77 => ⟨S8192x1, .f32⟩
  | 78 => ⟨S_, .f32⟩
  | 79 => ⟨S8192x1, .f32⟩
  | 80 => ⟨S8192x1, .f32⟩
  | 81 => ⟨S_, .f32⟩
  | 82 => ⟨S8192, .f32⟩
  | 83 => ⟨S8192x384, .f32⟩
  | 84 => ⟨S8192x384, .f32⟩
  | 85 => ⟨S8192x384, .f32⟩
  | 86 => ⟨S8192x384, .f32⟩
  | 87 => ⟨S8192x384, .f32⟩
  | 88 => ⟨S_, .f32⟩
  | 89 => ⟨S8192x2240, .f32⟩
  | 90 => ⟨S8192x2240, .f32⟩
  | 91 => ⟨S8192x512, .f32⟩
  | 92 => ⟨S8192x512, .f32⟩
  | 93 => ⟨S8192x512, .f32⟩
  | 94 => ⟨S_, .f32⟩
  | 95 => ⟨S2x512, .f32⟩
  | 96 => ⟨S8192x512, .f32⟩
  | 97 => ⟨S8194x512, .f32⟩
  | 98 => ⟨S_, .f32⟩
  | 99 => ⟨S2x512, .f32⟩
  | 100 => ⟨S1x512, .f32⟩
  | 101 => ⟨S512, .f32⟩
  | 102 => ⟨S8192x512, .f32⟩
  | 103 => ⟨S1x512, .f32⟩
  | 104 => ⟨S8192x512, .f32⟩
  | 105 => ⟨S8192x512, .f32⟩
  | 106 => ⟨S1x512, .f32⟩
  | 107 => ⟨S512, .f32⟩
  | 108 => ⟨S8192x512, .f32⟩
  | 109 => ⟨S1x512, .f32⟩
  | 110 => ⟨S8192x512, .f32⟩
  | 111 => ⟨S8192x512, .f32⟩
  | 112 => ⟨S8192x512, .f32⟩
  | 113 => ⟨S1x512, .f32⟩
  | 114 => ⟨S512, .f32⟩
  | 115 => ⟨S8192x512, .f32⟩
  | 116 => ⟨S1x512, .f32⟩
  | 117 => ⟨S8192x512, .f32⟩
  | 118 => ⟨S8192x512, .f32⟩
  | 119 => ⟨S8192x512, .f32⟩
  | 120 => ⟨S8192x512, .f32⟩
  | 121 => ⟨S8192x512, .f32⟩
  | 122 => ⟨S8192x512, .f32⟩
  | 123 => ⟨S8192x512, .f32⟩
  | 124 => ⟨S8192x512, .f32⟩
  | 125 => ⟨S8192x512, .f32⟩
  | 126 => ⟨S_, .f32⟩
  | 127 => ⟨S512, .f32⟩
  | _ => ⟨S8192x2240, .f32⟩

abbrev hbmTy0_2 (i : Nat) : BufTy := match i % 128 with
  | 0 => ⟨S1x512, .f32⟩
  | 1 => ⟨S_, .f32⟩
  | 2 => ⟨S512, .f32⟩
  | 3 => ⟨S_, .f32⟩
  | 4 => ⟨S8194x512, .f32⟩
  | 5 => ⟨S1x512, .f32⟩
  | 6 => ⟨S_, .f32⟩
  | 7 => ⟨S3x512, .f32⟩
  | 8 => ⟨S8192x512, .f32⟩
  | 9 => ⟨S8192x512, .f32⟩
  | 10 => ⟨S8192x512, .f32⟩
  | 11 => ⟨S_, .f32⟩
  | 12 => ⟨S512, .f32⟩
  | 13 => ⟨S1x512, .f32⟩
  | 14 => ⟨S_, .f32⟩
  | 15 => ⟨S512, .f32⟩
  | 16 => ⟨S_, .f32⟩
  | 17 => ⟨S8194x512, .f32⟩
  | 18 => ⟨S8194x512, .f32⟩
  | 19 => ⟨S1x512, .f32⟩
  | 20 => ⟨S_, .f32⟩
  | 21 => ⟨S3x512, .f32⟩
  | 22 => ⟨S3x512, .f32⟩
  | 23 => ⟨S8192x512, .f32⟩
  | 24 => ⟨S8192x512, .f32⟩
  | 25 => ⟨S8192x512, .f32⟩
  | 26 => ⟨S_, .f32⟩
  | 27 => ⟨S512, .f32⟩
  | 28 => ⟨S1x512, .f32⟩
  | 29 => ⟨S_, .f32⟩
  | 30 => ⟨S512, .f32⟩
  | 31 => ⟨S_, .f32⟩
  | 32 => ⟨S8194x512, .f32⟩
  | 33 => ⟨S8194x512, .f32⟩
  | 34 => ⟨S1x512, .f32⟩
  | 35 => ⟨S_, .f32⟩
  | 36 => ⟨S3x512, .f32⟩
  | 37 => ⟨S3x512, .f32⟩
  | 38 => ⟨S2x512, .f32⟩
  | 39 => ⟨S8192x512, .f32⟩
  | 40 => ⟨S8192x512, .f32⟩
  | 41 => ⟨S8192x512, .f32⟩
  | 42 => ⟨S8192x704, .f32⟩
  | 43 => ⟨S_, .f32⟩
  | 44 => ⟨S8192x64, .f32⟩
  | 45 => ⟨S8192x2304, .f32⟩
  | 46 => ⟨S8192x4x192, .f32⟩
  | 47 => ⟨S_, .i32⟩
  | 48 => ⟨S_, .f32⟩
  | 49 => ⟨S8192x4x256, .f32⟩
  | 50 => ⟨S8192x1024, .f32⟩
  | 51 => ⟨S8192x4x2x128, .f32⟩
  | 52 => ⟨S8192x2x4x128, .f32⟩
  | 53 => ⟨S8192x1024, .f32⟩
  | 54 => ⟨S1x1536, .f32⟩
  | 55 => ⟨S1x2176, .f32⟩
  | 56 => ⟨S8192x2304, .bf16⟩
  | 57 => ⟨S8192x1024, .bf16⟩
  | 58 => ⟨S8192x1024, .bf16⟩
  | 59 => ⟨S8x2176, .f32⟩
  | _ => ⟨S8192x2240, .f32⟩

abbrev hbmTy (i : Nat) : BufTy := match i / 128 with
  | 0 => hbmTy0_0 i
  | 1 => hbmTy0_1 i
  | 2 => hbmTy0_2 i
  | _ => ⟨S8192x2240, .f32⟩

abbrev bufTy : (tb : Table) → Fin (tcTables nBuf tb) → BufTy
  | .hbm, ⟨i, _⟩ => hbmTy i
  | _, _ => ⟨S8192x2240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_cst_2 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_v40 : Ref sig .tc := ⟨.hbm, 61, rfl⟩
abbrev main_cst_9 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_10 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_cst_11 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_cst_12 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_cst_13 : Ref sig .tc := ⟨.hbm, 119, rfl⟩
abbrev main_v94 : Ref sig .tc := ⟨.hbm, 120, rfl⟩
abbrev main_cst_14 : Ref sig .tc := ⟨.hbm, 121, rfl⟩
abbrev main_v95 : Ref sig .tc := ⟨.hbm, 122, rfl⟩
abbrev main_v96 : Ref sig .tc := ⟨.hbm, 123, rfl⟩
abbrev main_cst_15 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_cst_16 : Ref sig .tc := ⟨.hbm, 135, rfl⟩
abbrev main_v107 : Ref sig .tc := ⟨.hbm, 136, rfl⟩
abbrev main_cst_17 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_cst_18 : Ref sig .tc := ⟨.hbm, 153, rfl⟩
abbrev main_v123 : Ref sig .tc := ⟨.hbm, 154, rfl⟩
abbrev main_cst_19 : Ref sig .tc := ⟨.hbm, 155, rfl⟩
abbrev main_v124 : Ref sig .tc := ⟨.hbm, 156, rfl⟩
abbrev main_v125 : Ref sig .tc := ⟨.hbm, 157, rfl⟩
abbrev main_cst_20 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_cst_21 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_cst_22 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_cst_23 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_cst_24 : Ref sig .tc := ⟨.hbm, 179, rfl⟩
abbrev main_v143 : Ref sig .tc := ⟨.hbm, 180, rfl⟩
abbrev main_v144 : Ref sig .tc := ⟨.hbm, 181, rfl⟩
abbrev main_cst_25 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_cst_26 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_cst_27 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_cst_28 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_cst_29 : Ref sig .tc := ⟨.hbm, 206, rfl⟩
abbrev main_v165 : Ref sig .tc := ⟨.hbm, 207, rfl⟩
abbrev main_v166 : Ref sig .tc := ⟨.hbm, 208, rfl⟩
abbrev main_cst_30 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_cst_31 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_cst_32 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_cst_33 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩
abbrev main_v204 : Ref sig .tc := ⟨.hbm, 250, rfl⟩
abbrev main_v205 : Ref sig .tc := ⟨.hbm, 251, rfl⟩
abbrev main_v206 : Ref sig .tc := ⟨.hbm, 252, rfl⟩
abbrev main_v207 : Ref sig .tc := ⟨.hbm, 253, rfl⟩
abbrev main_cst_34 : Ref sig .tc := ⟨.hbm, 254, rfl⟩
abbrev main_v208 : Ref sig .tc := ⟨.hbm, 255, rfl⟩
abbrev main_v209 : Ref sig .tc := ⟨.hbm, 256, rfl⟩
abbrev main_cst_35 : Ref sig .tc := ⟨.hbm, 257, rfl⟩
abbrev main_v210 : Ref sig .tc := ⟨.hbm, 258, rfl⟩
abbrev main_cst_36 : Ref sig .tc := ⟨.hbm, 259, rfl⟩
abbrev main_v211 : Ref sig .tc := ⟨.hbm, 260, rfl⟩
abbrev main_v212 : Ref sig .tc := ⟨.hbm, 261, rfl⟩
abbrev main_cst_37 : Ref sig .tc := ⟨.hbm, 262, rfl⟩
abbrev main_v213 : Ref sig .tc := ⟨.hbm, 263, rfl⟩
abbrev main_v214 : Ref sig .tc := ⟨.hbm, 264, rfl⟩
abbrev main_v215 : Ref sig .tc := ⟨.hbm, 265, rfl⟩
abbrev main_v216 : Ref sig .tc := ⟨.hbm, 266, rfl⟩
abbrev main_cst_38 : Ref sig .tc := ⟨.hbm, 267, rfl⟩
abbrev main_v217 : Ref sig .tc := ⟨.hbm, 268, rfl⟩
abbrev main_v218 : Ref sig .tc := ⟨.hbm, 269, rfl⟩
abbrev main_cst_39 : Ref sig .tc := ⟨.hbm, 270, rfl⟩
abbrev main_v219 : Ref sig .tc := ⟨.hbm, 271, rfl⟩
abbrev main_cst_40 : Ref sig .tc := ⟨.hbm, 272, rfl⟩
abbrev main_v220 : Ref sig .tc := ⟨.hbm, 273, rfl⟩
abbrev main_v221 : Ref sig .tc := ⟨.hbm, 274, rfl⟩
abbrev main_v222 : Ref sig .tc := ⟨.hbm, 275, rfl⟩
abbrev main_cst_41 : Ref sig .tc := ⟨.hbm, 276, rfl⟩
abbrev main_v223 : Ref sig .tc := ⟨.hbm, 277, rfl⟩
abbrev main_v224 : Ref sig .tc := ⟨.hbm, 278, rfl⟩
abbrev main_v225 : Ref sig .tc := ⟨.hbm, 279, rfl⟩
abbrev main_v226 : Ref sig .tc := ⟨.hbm, 280, rfl⟩
abbrev main_v227 : Ref sig .tc := ⟨.hbm, 281, rfl⟩
abbrev main_cst_42 : Ref sig .tc := ⟨.hbm, 282, rfl⟩
abbrev main_v228 : Ref sig .tc := ⟨.hbm, 283, rfl⟩
abbrev main_v229 : Ref sig .tc := ⟨.hbm, 284, rfl⟩
abbrev main_cst_43 : Ref sig .tc := ⟨.hbm, 285, rfl⟩
abbrev main_v230 : Ref sig .tc := ⟨.hbm, 286, rfl⟩
abbrev main_cst_44 : Ref sig .tc := ⟨.hbm, 287, rfl⟩
abbrev main_v231 : Ref sig .tc := ⟨.hbm, 288, rfl⟩
abbrev main_v232 : Ref sig .tc := ⟨.hbm, 289, rfl⟩
abbrev main_v233 : Ref sig .tc := ⟨.hbm, 290, rfl⟩
abbrev main_cst_45 : Ref sig .tc := ⟨.hbm, 291, rfl⟩
abbrev main_v234 : Ref sig .tc := ⟨.hbm, 292, rfl⟩
abbrev main_v235 : Ref sig .tc := ⟨.hbm, 293, rfl⟩
abbrev main_v236 : Ref sig .tc := ⟨.hbm, 294, rfl⟩
abbrev main_v237 : Ref sig .tc := ⟨.hbm, 295, rfl⟩
abbrev main_v238 : Ref sig .tc := ⟨.hbm, 296, rfl⟩
abbrev main_v239 : Ref sig .tc := ⟨.hbm, 297, rfl⟩
abbrev main_v240 : Ref sig .tc := ⟨.hbm, 298, rfl⟩
abbrev main_cst_46 : Ref sig .tc := ⟨.hbm, 299, rfl⟩
abbrev main_v241 : Ref sig .tc := ⟨.hbm, 300, rfl⟩
abbrev main_v242 : Ref sig .tc := ⟨.hbm, 301, rfl⟩
abbrev main_v243 : Ref sig .tc := ⟨.hbm, 302, rfl⟩
abbrev main_c : Ref sig .tc := ⟨.hbm, 303, rfl⟩
abbrev main_call0_v0 : Ref sig .tc := ⟨.hbm, 304, rfl⟩
abbrev main_v244 : Ref sig .tc := ⟨.hbm, 305, rfl⟩
abbrev main_v245 : Ref sig .tc := ⟨.hbm, 306, rfl⟩
abbrev main_v246 : Ref sig .tc := ⟨.hbm, 307, rfl⟩
abbrev main_v247 : Ref sig .tc := ⟨.hbm, 308, rfl⟩
abbrev main_v248 : Ref sig .tc := ⟨.hbm, 309, rfl⟩
abbrev main_v249 : Ref sig .tc := ⟨.hbm, 310, rfl⟩
abbrev main_v250 : Ref sig .tc := ⟨.hbm, 311, rfl⟩
abbrev main_v251 : Ref sig .tc := ⟨.hbm, 312, rfl⟩
abbrev main_v252 : Ref sig .tc := ⟨.hbm, 313, rfl⟩
abbrev main_v253 : Ref sig .tc := ⟨.hbm, 314, rfl⟩
abbrev main_v254 : Ref sig .tc := ⟨.hbm, 315, rfl⟩

abbrev nD : Nat := 1
abbrev τ : Topo := Topo.v7x

variable {F : FTy → Type} [FloatOps F]
-- ==== NormMix.lean ====
abbrev S8192x1024 : Shape := ⟨2, ![8192, 1024]⟩
abbrev S1x1024 : Shape := ⟨2, ![1, 1024]⟩
abbrev S1024x2240 : Shape := ⟨2, ![1024, 2240]⟩
abbrev S8192x2240 : Shape := ⟨2, ![8192, 2240]⟩
abbrev S2240x1024 : Shape := ⟨2, ![2240, 1024]⟩
abbrev S_ : Shape := ⟨0, ![]⟩
abbrev S2304x1024 : Shape := ⟨2, ![2304, 1024]⟩
abbrev S8192x2304 : Shape := ⟨2, ![8192, 2304]⟩
abbrev S8x3072 : Shape := ⟨2, ![8, 3072]⟩
abbrev S512x2304 : Shape := ⟨2, ![512, 2304]⟩
abbrev S512x1024 : Shape := ⟨2, ![512, 1024]⟩
abbrev S512 : Shape := ⟨1, ![512]⟩
abbrev S512x1 : Shape := ⟨2, ![512, 1]⟩
abbrev S8x1024 : Shape := ⟨2, ![8, 1024]⟩
abbrev S64x8x1024 : Shape := ⟨3, ![64, 8, 1024]⟩
abbrev S3072 : Shape := ⟨1, ![3072]⟩
abbrev S1x3072 : Shape := ⟨2, ![1, 3072]⟩

abbrev nBuf : Space → Nat
  | .hbm => 17
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x2240, .f32⟩
  | .hbm, ⟨4, _⟩ => ⟨S8192x2240, .f32⟩
  | .hbm, ⟨5, _⟩ => ⟨S8192x1024, .f32⟩
  | .hbm, ⟨6, _⟩ => ⟨S2240x1024, .f32⟩
  | .hbm, ⟨7, _⟩ => ⟨S2240x1024, .bf16⟩
  | .hbm, ⟨8, _⟩ => ⟨S_, .i32⟩
  | .hbm, ⟨9, _⟩ => ⟨S_, .bf16⟩
  | .hbm, ⟨10, _⟩ => ⟨S2304x1024, .bf16⟩
  | .hbm, ⟨11, _⟩ => ⟨S_, .i32⟩
  | .hbm, ⟨12, _⟩ => ⟨S_, .f32⟩
  | .hbm, ⟨13, _⟩ => ⟨S8192x2304, .f32⟩
  | .hbm, ⟨14, _⟩ => ⟨S8192x2304, .bf16⟩
  | .hbm, ⟨15, _⟩ => ⟨S8192x1024, .f32⟩
  | .hbm, ⟨16, _⟩ => ⟨S8x3072, .f32⟩
  | .local _ .vmem, ⟨0, _⟩ => ⟨S512x2304, .bf16⟩
  | .local _ .vmem, ⟨1, _⟩ => ⟨S512x2304, .bf16⟩
  | .local _ .vmem, ⟨2, _⟩ => ⟨S2304x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S8x3072, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_c_0 : Ref sig .tc := ⟨.hbm, 11, rfl⟩
abbrev main_call1_v0 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2304x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== NormMixRefIdeal.lean ====
abbrev S8192x1024 : Shape := ⟨2, ![8192, 1024]⟩
abbrev S1x1024 : Shape := ⟨2, ![1, 1024]⟩
abbrev S1024x2240 : Shape := ⟨2, ![1024, 2240]⟩
abbrev S8192x2240 : Shape := ⟨2, ![8192, 2240]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x3072 : Shape := ⟨2, ![1, 3072]⟩
abbrev S8x3072 : Shape := ⟨2, ![8, 3072]⟩

abbrev nBuf : Space → Nat
  | .hbm => 71
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x2240, .f32⟩
  | .hbm, ⟨4, _⟩ => ⟨S8192x2240, .f32⟩
  | .hbm, ⟨5, _⟩ => ⟨S8192x1024, .f32⟩
  | .hbm, ⟨6, _⟩ => ⟨S_, .f32⟩
  | .hbm, ⟨7, _⟩ => ⟨S1x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x2240, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S1x3072, .f32⟩
  | .hbm, ⟨70, _⟩ => ⟨S8x3072, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== Up.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S8192x2816 : Shape := ⟨2, ![8192, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩

abbrev nBuf : Space → Nat
  | .hbm => 14
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S2816x1024, .bf16⟩
  | .hbm, ⟨8, _⟩ => ⟨S2816x1024, .f32⟩
  | .hbm, ⟨9, _⟩ => ⟨S2816x1024, .bf16⟩
  | .hbm, ⟨10, _⟩ => ⟨S8192x1024, .bf16⟩
  | .hbm, ⟨11, _⟩ => ⟨S8192x2816, .bf16⟩
  | .hbm, ⟨12, _⟩ => ⟨S8192x2816, .bf16⟩
  | .hbm, ⟨13, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S2816x1024, .bf16⟩
  | .local _ .vmem, ⟨6, _⟩ => ⟨S2816x1024, .bf16⟩
  | .local _ .vmem, ⟨7, _⟩ => ⟨S512x1024, .bf16⟩
  | .local _ .vmem, ⟨8, _⟩ => ⟨S512x1024, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S512x2816, .bf16⟩
  | .local _ .vmem, ⟨14, _⟩ => ⟨S512x2816, .bf16⟩
  | .local _ .vmem, ⟨15, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![16, 1], ![false, false]⟩

def k0_mult1 (i : grid0.Coords) : BitVec 32 :=
  let arg1 : BitVec 32 := BitVec.ofNat 32 (i 1).val
  let c2816_i32 : BitVec 32 := 2816#32
  let v4 : BitVec 32 := Scalar.muli arg1 c2816_i32
  v4
def k0_off1 (i : grid0.Coords) : Fin 2 → Nat :=
  let arg1 : BitVec 32 := BitVec.ofNat 32 (i 1).val
  let c2816_i32 : BitVec 32 := 2816#32
  let v4 : BitVec 32 := Scalar.muli arg1 c2816_i32
  let v5 : BitVec 32 := v4
  let v6 : Index := Scalar.indexCast v5
  let c0_2 : Index := 0#32
  ![v6.toNat, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== UpRefIdeal.lean ====
abbrev S8192x1024 : Shape := ⟨2, ![8192, 1024]⟩
abbrev S1x1024 : Shape := ⟨2, ![1, 1024]⟩
abbrev S1024x2816 : Shape := ⟨2, ![1024, 2816]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩

abbrev nBuf : Space → Nat
  | .hbm => 46
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2816, .f32⟩
  | .hbm, ⟨5, _⟩ => ⟨S1024x2816, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S_, .f32⟩
  | .hbm, ⟨32, _⟩ => ⟨S8192x2816, .f32⟩
  | .hbm, ⟨33, _⟩ => ⟨S8192x2816, .f32⟩
  | .hbm, ⟨34, _⟩ => ⟨S_, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x1024, .bf16⟩
  | .hbm, ⟨41, _⟩ => ⟨S8192x2816, .f32⟩
  | .hbm, ⟨42, _⟩ => ⟨S8192x2816, .bf16⟩
  | .hbm, ⟨43, _⟩ => ⟨S8192x2816, .f32⟩
  | .hbm, ⟨44, _⟩ => ⟨S8192x2816, .bf16⟩
  | .hbm, ⟨45, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩

abbrev nD : Nat := 1
abbrev τ : Topo := Topo.v7x

variable {F : FTy → Type} [FloatOps F]
-- ==== Down.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S1024x2816 : Shape := ⟨2, ![1024, 2816]⟩
abbrev S1024x1024 : Shape := ⟨2, ![1024, 1024]⟩

abbrev nBuf : Space → Nat
  | .hbm => 8
  | .vmem => 10
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S1x1024, .f32⟩
  | .hbm, ⟨4, _⟩ => ⟨S8192x2816, .bf16⟩
  | .hbm, ⟨5, _⟩ => ⟨S2816x1024, .bf16⟩
  | .hbm, ⟨6, _⟩ => ⟨S8192x1024, .f32⟩
  | .hbm, ⟨7, _⟩ => ⟨S8192x1024, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DownRefIdeal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== MixIn.lean ====
abbrev S8192x1024 : Shape := ⟨2, ![8192, 1024]⟩
abbrev S1x1024 : Shape := ⟨2, ![1, 1024]⟩
abbrev S1024x2240 : Shape := ⟨2, ![1024, 2240]⟩
abbrev S2240x1024 : Shape := ⟨2, ![2240, 1024]⟩
abbrev S_ : Shape := ⟨0, ![]⟩
abbrev S2304x1024 : Shape := ⟨2, ![2304, 1024]⟩
abbrev S8192x2304 : Shape := ⟨2, ![8192, 2304]⟩
abbrev S512x1024 : Shape := ⟨2, ![512, 1024]⟩
abbrev S512x2304 : Shape := ⟨2, ![512, 2304]⟩
abbrev S512 : Shape := ⟨1, ![512]⟩
abbrev S512x1 : Shape := ⟨2, ![512, 1]⟩

abbrev nBuf : Space → Nat
  | .hbm => 12
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2240, .f32⟩
  | .hbm, ⟨5, _⟩ => ⟨S2240x1024, .f32⟩
  | .hbm, ⟨6, _⟩ => ⟨S2240x1024, .bf16⟩
  | .hbm, ⟨7, _⟩ => ⟨S_, .i32⟩
  | .hbm, ⟨8, _⟩ => ⟨S_, .bf16⟩
  | .hbm, ⟨9, _⟩ => ⟨S2304x1024, .bf16⟩
  | .hbm, ⟨10, _⟩ => ⟨S8192x1024, .bf16⟩
  | .hbm, ⟨11, _⟩ => ⟨S8192x2304, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S2304x1024, .bf16⟩
  | .local _ .vmem, ⟨6, _⟩ => ⟨S512x1024, .bf16⟩
  | .local _ .vmem, ⟨7, _⟩ => ⟨S512x1024, .bf16⟩
  | .local _ .vmem, ⟨8, _⟩ => ⟨S512x2304, .f32⟩
  | .local _ .vmem, ⟨9, _⟩ => ⟨S512x2304, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2304x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MixInRefIdeal.lean ====
abbrev S8192x1024 : Shape := ⟨2, ![8192, 1024]⟩
abbrev S1x1024 : Shape := ⟨2, ![1, 1024]⟩
abbrev S1024x2240 : Shape := ⟨2, ![1024, 2240]⟩
abbrev S_ : Shape := ⟨0, ![]⟩
abbrev S8192 : Shape := ⟨1, ![8192]⟩
abbrev S8192x1 : Shape := ⟨2, ![8192, 1]⟩
abbrev S8192x2240 : Shape := ⟨2, ![8192, 2240]⟩
abbrev S8192x2304 : Shape := ⟨2, ![8192, 2304]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2240, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .bf16⟩
  | .hbm, ⟨28, _⟩ => ⟨S8192x2240, .f32⟩
  | .hbm, ⟨29, _⟩ => ⟨S_, .i32⟩
  | .hbm, ⟨30, _⟩ => ⟨S_, .f32⟩
  | .hbm, ⟨31, _⟩ => ⟨S8192x2304, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c : Ref sig .tc := ⟨.hbm, 29, rfl⟩
abbrev main_call0_v0 : Ref sig .tc := ⟨.hbm, 30, rfl⟩
abbrev main_v20 : Ref sig .tc := ⟨.hbm, 31, rfl⟩

abbrev nD : Nat := 1
abbrev τ : Topo := Topo.v7x

variable {F : FTy → Type} [FloatOps F]
-- ==== MixFwd.lean ====
abbrev S8192x512 : Shape := ⟨2, ![8192, 512]⟩
abbrev S1x1024 : Shape := ⟨2, ![1, 1024]⟩
abbrev S1024x1024 : Shape := ⟨2, ![1024, 1024]⟩
abbrev S8192x1024 : Shape := ⟨2, ![8192, 1024]⟩
abbrev S512x512 : Shape := ⟨2, ![512, 512]⟩
abbrev S_ : Shape := ⟨0, ![]⟩
abbrev S1024x512 : Shape := ⟨2, ![1024, 512]⟩
abbrev S1x512 : Shape := ⟨2, ![1, 512]⟩
abbrev S512x1024 : Shape := ⟨2, ![512, 1024]⟩

abbrev nBuf : Space → Nat
  | .hbm => 32
  | .vmem => 17
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1x1024, .f32⟩
  | .hbm, ⟨3, _⟩ => ⟨S1024x1024, .f32⟩
  | .hbm, ⟨4, _⟩ => ⟨S8192x1024, .f32⟩
  | .hbm, ⟨5, _⟩ => ⟨S1x1024, .f32⟩
  | .hbm, ⟨6, _⟩ => ⟨S512x512, .i32⟩
  | .hbm, ⟨7, _⟩ => ⟨S512x512, .i32⟩
  | .hbm, ⟨8, _⟩ => ⟨S_, .i32⟩
  | .hbm, ⟨9, _⟩ => ⟨S512x512, .i32⟩
  | .hbm, ⟨10, _⟩ => ⟨S512x512, .i32⟩
  | .hbm, ⟨11, _⟩ => ⟨S_, .i32⟩
  | .hbm, ⟨12, _⟩ => ⟨S512x512, .i32⟩
  | .hbm, ⟨13, _⟩ => ⟨S512x512, .i32⟩
  | .hbm, ⟨14, _⟩ => ⟨S512x512, .i1⟩
  | .hbm, ⟨15, _⟩ => ⟨S512x512, .f32⟩
  | .hbm, ⟨16, _⟩ => ⟨S512x512, .bf16⟩
  | .hbm, ⟨17, _⟩ => ⟨S512x512, .i32⟩
  | .hbm, ⟨18, _⟩ => ⟨S512x512, .i32⟩
  | .hbm, ⟨19, _⟩ => ⟨S_, .i32⟩
  | .hbm, ⟨20, _⟩ => ⟨S512x512, .i32⟩
  | .hbm, ⟨21, _⟩ => ⟨S512x512, .i32⟩
  | .hbm, ⟨22, _⟩ => ⟨S_, .i32⟩
  | .hbm, ⟨23, _⟩ => ⟨S512x512, .i32⟩
  | .hbm, ⟨24, _⟩ => ⟨S512x512, .i32⟩
  | .hbm, ⟨25, _⟩ => ⟨S512x512, .i1⟩
  | .hbm, ⟨26, _⟩ => ⟨S512x512, .f32⟩
  | .hbm, ⟨27, _⟩ => ⟨S512x512, .bf16⟩
  | .hbm, ⟨28, _⟩ => ⟨S1024x1024, .bf16⟩
  | .hbm, ⟨29, _⟩ => ⟨S8192x1024, .f32⟩
  | .hbm, ⟨30, _⟩ => ⟨S8192x1024, .bf16⟩
  | .hbm, ⟨31, _⟩ => ⟨S8192x1024, .bf16⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S512x512, .bf16⟩
  | .local _ .vmem, ⟨10, _⟩ => ⟨S512x512, .bf16⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19_0 : Ref sig .tc := ⟨.hbm, 29, rfl⟩
abbrev main_v19_1 : Ref sig .tc := ⟨.hbm, 30, rfl⟩
abbrev main_v19_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MixFwdRefIdeal.lean ====
abbrev S8192x512 : Shape := ⟨2, ![8192, 512]⟩
abbrev S1x1024 : Shape := ⟨2, ![1, 1024]⟩
abbrev S1024x1024 : Shape := ⟨2, ![1024, 1024]⟩
abbrev S8192x1024 : Shape := ⟨2, ![8192, 1024]⟩
abbrev S1x512 : Shape := ⟨2, ![1, 512]⟩
abbrev S8192x8x64 : Shape := ⟨3, ![8192, 8, 64]⟩
abbrev S_ : Shape := ⟨0, ![]⟩
abbrev S8192x8 : Shape := ⟨2, ![8192, 8]⟩
abbrev S8192x8x1 : Shape := ⟨3, ![8192, 8, 1]⟩
abbrev S8192x4x128 : Shape := ⟨3, ![8192, 4, 128]⟩
abbrev S8192x4 : Shape := ⟨2, ![8192, 4]⟩
abbrev S8192x4x1 : Shape := ⟨3, ![8192, 4, 1]⟩

abbrev nBuf : Space → Nat
  | .hbm => 50
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1x1024, .f32⟩
  | .hbm, ⟨3, _⟩ => ⟨S1024x1024, .f32⟩
  | .hbm, ⟨4, _⟩ => ⟨S8192x1024, .f32⟩
  | .hbm, ⟨5, _⟩ => ⟨S1x1024, .f32⟩
  | .hbm, ⟨6, _⟩ => ⟨S1x512, .f32⟩
  | .hbm, ⟨7, _⟩ => ⟨S8192x8x64, .f32⟩
  | .hbm, ⟨8, _⟩ => ⟨S8192x8x64, .f32⟩
  | .hbm, ⟨9, _⟩ => ⟨S_, .f32⟩
  | .hbm, ⟨10, _⟩ => ⟨S8192x8, .f32⟩
  | .hbm, ⟨11, _⟩ => ⟨S8192x8x1, .f32⟩
  | .hbm, ⟨12, _⟩ => ⟨S_, .f32⟩
  | .hbm, ⟨13, _⟩ => ⟨S8192x8x1, .f32⟩
  | .hbm, ⟨14, _⟩ => ⟨S8192x8x1, .f32⟩
  | .hbm, ⟨15, _⟩ => ⟨S_, .f32⟩
  | .hbm, ⟨16, _⟩ => ⟨S8192x8x1, .f32⟩
  | .hbm, ⟨17, _⟩ => ⟨S8192x8x1, .f32⟩
  | .hbm, ⟨18, _⟩ => ⟨S8192x8x1, .f32⟩
  | .hbm, ⟨19, _⟩ => ⟨S8192x8x64, .f32⟩
  | .hbm, ⟨20, _⟩ => ⟨S8192x8x64, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S1x512, .f32⟩
  | .hbm, ⟨25, _⟩ => ⟨S8192x4x128, .f32⟩
  | .hbm, ⟨26, _⟩ => ⟨S8192x4x128, .f32⟩
  | .hbm, ⟨27, _⟩ => ⟨S_, .f32⟩
  | .hbm, ⟨28, _⟩ => ⟨S8192x4, .f32⟩
  | .hbm, ⟨29, _⟩ => ⟨S8192x4x1, .f32⟩
  | .hbm, ⟨30, _⟩ => ⟨S_, .f32⟩
  | .hbm, ⟨31, _⟩ => ⟨S8192x4x1, .f32⟩
  | .hbm, ⟨32, _⟩ => ⟨S8192x4x1, .f32⟩
  | .hbm, ⟨33, _⟩ => ⟨S_, .f32⟩
  | .hbm, ⟨34, _⟩ => ⟨S8192x4x1, .f32⟩
  | .hbm, ⟨35, _⟩ => ⟨S8192x4x1, .f32⟩
  | .hbm, ⟨36, _⟩ => ⟨S8192x4x1, .f32⟩
  | .hbm, ⟨37, _⟩ => ⟨S8192x4x128, .f32⟩
  | .hbm, ⟨38, _⟩ => ⟨S8192x4x128, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .bf16⟩
  | .hbm, ⟨48, _⟩ => ⟨S8192x1024, .f32⟩
  | .hbm, ⟨49, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Proof.Shared.Sums.lean ====
module

public import Idealize.ShloMosaic.Lib.Pipeline.ValueKit
public import Idealize.ShloMosaic.Lib.ReduceAll
public import Idealize.ShloMosaic.PureOps.Ideal.Laws

@[expose] public section

/-! Facts the value proofs of the several kernels share: an accumulator over the grid as one sum, the rows of an array
    summed tile by tile and eight at a time, and an array bounded below infinity element by element. -/

namespace Cert.Shared

open Idealize.ShloMosaic

variable {M : Type*} [AddCommMonoid M]

/-- An accumulator that starts as its first term and adds the next at every later point is the sum of the terms. -/
theorem acc_sum {N : ℕ} (f g : (n : ℕ) → n < N → M) (h0 : ∀ h, f 0 h = g 0 h)
    (hs : ∀ n (h : n + 1 < N), f (n + 1) h = f n (Nat.lt_of_succ_lt h) + g (n + 1) h) :
    ∀ n (h : n < N), f n h = ∑ k : Fin (n + 1), g k.val (Nat.lt_of_le_of_lt (Nat.le_of_lt_succ k.isLt) h)
  | 0, h => by simp [h0 h]
  | n + 1, h => by rw [hs n h, acc_sum f g h0 hs n (Nat.lt_of_succ_lt h), Fin.sum_univ_castSucc (n := n + 1)]; rfl

/-- The rows of `K` tiles of `R` groups of eight, the row within a group taken last, are all the rows. -/
theorem sum_tiles8 (K R : ℕ) (g : ℕ → M) :
    ∑ x : Fin 8, ∑ k : Fin K, ∑ r : Fin R, g (k.val * (R * 8) + (r.val * 8 + x.val)) = ∑ i : Fin (K * (R * 8)), g i.val := by
  rw [← Fin.sum_univ_univ_mul_add K (R * 8) g, Finset.sum_comm]
  refine Finset.sum_congr rfl fun k _ => ?_
  rw [Finset.sum_comm]
  exact Fin.sum_univ_univ_mul_add R 8 fun i => g (k.val * (R * 8) + i)

/-- The same over an axis of `L = K * T` rows, `T = R * 8`, the summand a function of the row. -/
theorem sum_rows8 {L : ℕ} (K T R : ℕ) (hT : T = R * 8) (hL : L = K * T) (f : Fin L → M)
    (hb : ∀ (x : Fin 8) (k : Fin K) (r : Fin R), k.val * T + (r.val * 8 + x.val) < L) :
    ∑ x : Fin 8, ∑ k : Fin K, ∑ r : Fin R, f ⟨k.val * T + (r.val * 8 + x.val), hb x k r⟩ = ∑ i : Fin L, f i := by
  subst hT hL
  have := sum_tiles8 K R fun i => if h : i < K * (R * 8) then f ⟨i, h⟩ else 0
  simp only [hb, Fin.is_lt, dite_true, Fin.eta] at this
  exact this

/-- A finite sum of real numbers is real. -/
theorem coe_sum {ι : Type*} (s : Finset ι) (f : ι → ℝ) : ((∑ i ∈ s, f i : ℝ) : EReal) = ∑ i ∈ s, (f i : EReal) :=
  map_sum (⟨⟨Real.toEReal, rfl⟩, EReal.coe_add⟩ : ℝ →+ EReal) f s

/-- Half of a sum of extended reals is the sum of the halves (of any nonnegative real factor). -/
theorem mul_sum_coe {ι : Type*} (s : Finset ι) (r : ℝ) (hr : 0 ≤ r) (f : ι → EReal) : (r : EReal) * ∑ i ∈ s, f i = ∑ i ∈ s, (r : EReal) * f i := by
  classical
  induction s using Finset.induction_on with
  | empty => simp
  | insert a s ha ih =>
    rw [Finset.sum_insert ha, Finset.sum_insert ha, ← ih]
    exact EReal.left_distrib_of_nonneg_of_ne_top (EReal.coe_nonneg.2 hr) (EReal.coe_ne_top r) _ _

/-- A value whose absolute value is below the word of infinity is a real number. -/
theorem real_of_abs_lt {x : Ideal .f32} (h : FloatOps.cmpf (F := Ideal) .olt (FloatOps.hostAbsf x) (FloatOps.ofBits .f32 0x7F800000#32) = 1#1) :
    ∃ r : ℝ, x = r := by
  have hi : FloatOps.ofBits (F := Ideal) .f32 0x7F800000#32 = (⊤ : EReal) := by
    simp [FloatOps.ofBits, Ideal.ofBits, Ideal.ieee]
  have h' : max (x : EReal) (-x) < ⊤ := by
    by_contra hc
    have : FloatOps.cmpf (F := Ideal) .olt (FloatOps.hostAbsf x) (FloatOps.ofBits .f32 0x7F800000#32) = 0#1 := by
      rw [hi]
      show BitVec.ofBool (decide (max (x : EReal) (-x) < ⊤)) = 0#1
      simp only [hc, decide_false]; rfl
    rw [this] at h
    exact absurd h (by decide)
  obtain ⟨h1, h2⟩ := max_lt_iff.1 h'
  refine ⟨EReal.toReal x, (EReal.coe_toReal h1.ne ?_).symm⟩
  rintro rfl
  simp at h2

/-- The test `jnp.all(jnp.abs(x) < jnp.inf)`, when it holds, makes every element of `x` a real number. -/
theorem real_of_finite {s t u : Shape} {axes : List (Fin s.rank)} [Subsingleton t.Idx] (x : FVec Ideal s .f32) (ds : Fin u.rank → Fin s.rank)
    (hb : u.BroadcastsInDim s ds) (hr : s.ReducesTo axes t) (hu : 0 < u.numel) (j : t.Idx) (init : u.Idx → BitVec 1)
    (h : Host.reduce IntOp.andi (cmpf .olt (Host.absf x) (broadcastInDim s ds hb (constant (F := Ideal) u .f32 0x7F800000#32))) init hr hu j = 1#1)
    (i : s.Idx) : ∃ r : ℝ, x i = r :=
  real_of_abs_lt (Host.reduce_andi_all _ _ _ _ _ h i)

end Cert.Shared
-- ==== Proof.Gate.Value.lean ====
module

public import proofs.«01_k».proof.Defs
public import proofs.«01_k».proof.Proof.Gen.GateIdeal.Value
public import proofs.«01_k».proof.Proof.Shared.Sums
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.GateIdeal.Value

open Cert.GateIdeal Cert.GateIdeal.Gen

variable (m : (ℓ : Loc nD τ sig) → Buf (Elt Ideal) ℓ)

/-- One half, as the kernel's word. -/
abbrev half : EReal := Ideal.ofBits .f32 0x3F000000#32

/-- The gradient of the down projection's result. -/
def DF (dx : FVec Ideal S8192x1024 .f32) (g : FVec Ideal S1x1024 .f32) : FVec Ideal S8192x1024 .bf16 :=
  fun j => dx j * (half * g (ix2 0 (j 1)))

/-- The gradient of the gated product: the down projection's gradient times its weight transposed. -/
def DU (dx : FVec Ideal S8192x1024 .f32) (g : FVec Ideal S1x1024 .f32) (w : FVec Ideal S2816x1024 .f32) : S8192x2816.Idx → EReal :=
  fun j => ∑ x : Fin 1024, dx (ix2 (j 0) x) * (half * g (ix2 0 x)) * w (ix2 (j 1) x)

/-- The gradient of the gate's argument. -/
def DA (dx : FVec Ideal S8192x1024 .f32) (g : FVec Ideal S1x1024 .f32) (w : FVec Ideal S2816x1024 .f32) (a b : FVec Ideal S8192x2816 .f32) :
    FVec Ideal S8192x2816 .bf16 :=
  fun j => DU dx g w j * b j * (Ideal.logistic (a j) * (1 + a j * (1 - Ideal.logistic (a j))))

/-- The gradient of the gated factor. -/
def DB (dx : FVec Ideal S8192x1024 .f32) (g : FVec Ideal S1x1024 .f32) (w : FVec Ideal S2816x1024 .f32) (a : FVec Ideal S8192x2816 .f32) :
    FVec Ideal S8192x2816 .bf16 :=
  fun j => DU dx g w j * (a j * Ideal.logistic (a j))

/-- The down projection's result. -/
def FV (w : FVec Ideal S2816x1024 .f32) (a b : FVec Ideal S8192x2816 .f32) : S8192x1024.Idx → EReal :=
  fun j => ∑ k : Fin 2816, a (ix2 (j 0) k) * Ideal.logistic (a (ix2 (j 0) k)) * b (ix2 (j 0) k) * w (ix2 k (j 1))

/-- The gradient of the residual gate: a sum over all rows, in each of the eight rows the kernel writes. -/
def DG (dx : FVec Ideal S8192x1024 .f32) (w : FVec Ideal S2816x1024 .f32) (a b : FVec Ideal S8192x2816 .f32) : FVec Ideal S8x1024 .f32 :=
  fun j => ∑ i : Fin 8192, dx (ix2 i (j 1)) * (half * FV w a b (ix2 i (j 1)))

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![0, 0] :=
  (by decide +kernel : ∀ t : Fin grid0.N, _)

/-- The second grid coordinate is zero: one block of columns. -/
theorem off1 (t : Fin cfg0.N) : k0_off1 (grid0.coords t) = ![0, 0] := by
  rw [k0_off1_eq]
  have h : ((grid0.coords t) 1).val = 0 := Nat.lt_one_iff.1 ((grid0.coords t) 1).isLt
  rw [h]

/-- What every point leaves in the three blocks it writes whole. -/
theorem outs (c : Dev nD) (t : Fin cfg0.N) :
    (outsAt0 m c t.val t.isLt).1 = k0_pay3 (iblk m c 0 t) (iblk m c 1 t)
    ∧ (∀ y, (outsAt0 m c t.val t.isLt).2.1 y = k0_pay9 (k0_pay3 (iblk m c 0 t) (iblk m c 1 t)) (iblk m c 3 t) (iblk m c 4 t) (iblk m c 5 t) y)
    ∧ (∀ y, (outsAt0 m c t.val t.isLt).2.2.1 y = k0_pay10 (k0_pay3 (iblk m c 0 t) (iblk m c 1 t)) (iblk m c 3 t) (iblk m c 4 t) y) := by
  have hN : t.val < 16 := lt_of_lt_of_eq t.isLt (show cfg0.N = 16 from N_0)
  by_cases h0 : t.val % 16 = 0
  · rw [outsAt0_A m c t h0 (by omega)]
    refine ⟨?_, fun y => ?_, fun y => ?_⟩ <;> dsimp only <;> frame_out
    · pointwise [k0_pay9, k0_pay3, k0_pay4, k0_pay7, k0_pay8, k0_pay6, off1 t]
    · pointwise [k0_pay10, k0_pay3, k0_pay4, k0_pay7, k0_pay8, k0_pay6, off1 t]
  · by_cases h1 : t.val % 16 = 15
    · rw [outsAt0_C m c t h0 h1]
      refine ⟨?_, fun y => ?_, fun y => ?_⟩ <;> dsimp only <;> frame_out
      · pointwise [k0_pay9, k0_pay3, k0_pay4, k0_pay7, k0_pay8, k0_pay6, off1 t]
      · pointwise [k0_pay10, k0_pay3, k0_pay4, k0_pay7, k0_pay8, k0_pay6, off1 t]
    · rw [outsAt0_B m c t h0 h1]
      refine ⟨?_, fun y => ?_, fun y => ?_⟩ <;> dsimp only <;> frame_out
      · pointwise [k0_pay9, k0_pay3, k0_pay4, k0_pay7, k0_pay8, k0_pay6, off1 t]
      · pointwise [k0_pay10, k0_pay3, k0_pay4, k0_pay7, k0_pay8, k0_pay6, off1 t]

/-- The host's down projection, as the kernel's window reads it. -/
theorem vf (c : Dev nD) (j : Fin 8192) (k : Fin 1024) : V m c main_v11 (ix2 j k)
    = FV (m ((c : Thread nD τ).loc main_arg2)) (m ((c : Thread nD τ).loc main_arg3)) (m ((c : Thread nD τ).loc main_arg4)) (ix2 j k) := by
  unfold V
  after_reads_at
  pointwise [FV]
  rfl

/-- The gradient of the down projection's result, after the run. -/
theorem final6 (c : Dev nD) : (dats m 0 c).arrAt 6 cfg0.N = DF (m ((c : Thread nD τ).loc main_arg0)) (m ((c : Thread nD τ).loc main_arg1)) := by
  refine (dats m 0 c).arrAt_eq_of_covers 6 _ (by decide +kernel) fun t hf y => ?_
  blk_simp
  rw [after0_6, (outs m c t).1]
  pointwise [k0_pay3, DF]
  blk_point [iblk, V, idx t]

theorem final7 (c : Dev nD) : (dats m 0 c).arrAt 7 cfg0.N = DA (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7, (outs m c t).2.1]
  pointwise [k0_pay9, k0_pay3, k0_pay7, k0_pay8, k0_pay6, DA, DU]
  blk_point [iblk, V, idx t]

theorem final8 (c : Dev nD) : (dats m 0 c).arrAt 8 cfg0.N = DB (m ((c : Thread nD τ).loc main_arg0)) (m ((c : Thread nD τ).loc main_arg1))
    (m ((c : Thread nD τ).loc main_arg2)) (m ((c : Thread nD τ).loc main_arg3)) := by
  refine (dats m 0 c).arrAt_eq_of_covers 8 _ (by decide +kernel) fun t hf y => ?_
  blk_simp
  rw [after0_8, (outs m c t).2.2]
  pointwise [k0_pay10, k0_pay3, k0_pay7, k0_pay8, k0_pay6, DB, DU]
  blk_point [iblk, V, idx t]

/-- One row's part of the residual gate's gradient. -/
def rowG (dx : FVec Ideal S8192x1024 .f32) (w : FVec Ideal S2816x1024 .f32) (a b : FVec Ideal S8192x2816 .f32) (k : Fin 1024) (i : Fin 8192) : EReal :=
  dx (ix2 i k) * (half * FV w a b (ix2 i k))

/-- The accumulator at a point, before the last point's sum over its eight rows. -/
def before9 (c : Dev nD) (n : ℕ) (h : n < cfg0.N) : FVec Ideal S8x1024 .f32 :=
  k0_pay5 (iblk m c 0 ⟨n, h⟩) (if h0 : n = 0 then k0_pay2 (F := Ideal) else (outsAt0 m c (n - 1) (Nat.lt_of_le_of_lt (Nat.sub_le n 1) h)).2.2.2) (iblk m c 2 ⟨n, h⟩)

theorem outs9 (c : Dev nD) (n : ℕ) (h : n < cfg0.N) (h1 : n ≠ 15) : (outsAt0 m c n h).2.2.2 = before9 m c n h := by
  have hN : n < 16 := lt_of_lt_of_eq h (show cfg0.N = 16 from N_0)
  rcases n with _ | n
  · rw [outsAt0_A m c ⟨0, h⟩ rfl (by simp)]
    dsimp only
    frame_out
    rfl
  · rw [outsAt0_B m c ⟨n + 1, h⟩ (by simp; omega) (by simp; omega)]
    dsimp only
    frame_out
    rfl

theorem rows_lt (t : Fin cfg0.N) (r : Fin 512) : t.val * 512 + r.val < 8192 := by
  have := r.isLt
  have : t.val < 16 := lt_of_lt_of_eq t.isLt (show cfg0.N = 16 from N_0)
  omega

theorem iblk2 (c : Dev nD) (t : Fin cfg0.N) (r : Fin 512) (k : Fin 1024) : iblk m c 2 t (ix2 r k)
    = FV (m ((c : Thread nD τ).loc main_arg2)) (m ((c : Thread nD τ).loc main_arg3)) (m ((c : Thread nD τ).loc main_arg4)) (ix2 ⟨t.val * 512 + r.val, rows_lt t r⟩ k) := by
  rw [← vf]
  blk_ext [iblk, idx t]

theorem iblk0 (c : Dev nD) (t : Fin cfg0.N) (r : Fin 512) (k : Fin 1024) : iblk m c 0 t (ix2 r k)
    = m ((c : Thread nD τ).loc main_arg0) (ix2 ⟨t.val * 512 + r.val, rows_lt t r⟩ k) := by
  blk_ext [iblk, V, idx t]

/-- One point's part: sixty-four groups of eight rows. -/
theorem before9_step (c : Dev nD) (y : S8x1024.Idx) (t : Fin cfg0.N) (p : FVec Ideal S8x1024 .f32) :
    k0_pay5 (iblk m c 0 t) p (iblk m c 2 t) y = p y + ∑ r : Fin 64, rowG (m ((c : Thread nD τ).loc main_arg0)) (m ((c : Thread nD τ).loc main_arg2))
      (m ((c : Thread nD τ).loc main_arg3)) (m ((c : Thread nD τ).loc main_arg4)) (y 1) ⟨t.val * 512 + (r.val * 8 + (y 0).val), by
        have := r.isLt; have : (y 0).val < 8 := (y 0).isLt; have : t.val < 16 := lt_of_lt_of_eq t.isLt (show cfg0.N = 16 from N_0); omega⟩ := by
  pointwise [k0_pay5, rowG]
  exact congrArg (p y + ·) (Finset.sum_congr rfl fun r _ => congrArg₂ (fun u v : EReal => u * (half * v)) (iblk0 m c t _ _) (iblk2 m c t _ _))

theorem before9_sum (c : Dev nD) (y : S8x1024.Idx) (n : ℕ) (h : n < cfg0.N) :
    before9 m c n h y = ∑ k : Fin (n + 1), ∑ r : Fin 64, rowG (m ((c : Thread nD τ).loc main_arg0)) (m ((c : Thread nD τ).loc main_arg2))
      (m ((c : Thread nD τ).loc main_arg3)) (m ((c : Thread nD τ).loc main_arg4)) (y 1) ⟨k.val * 512 + (r.val * 8 + (y 0).val), by
        have := r.isLt; have := k.isLt; have : (y 0).val < 8 := (y 0).isLt; have : n < 16 := lt_of_lt_of_eq h (show cfg0.N = 16 from N_0); omega⟩ := by
  refine (Cert.Shared.acc_sum (fun n h => before9 m c n h y) (fun k hk => ∑ r : Fin 64, rowG (m ((c : Thread nD τ).loc main_arg0)) (m ((c : Thread nD τ).loc main_arg2))
      (m ((c : Thread nD τ).loc main_arg3)) (m ((c : Thread nD τ).loc main_arg4)) (y 1) ⟨k * 512 + (r.val * 8 + (y 0).val), by
        have := r.isLt; have : (y 0).val < 8 := (y 0).isLt; have : k < 16 := lt_of_lt_of_eq hk (show cfg0.N = 16 from N_0); omega⟩) (fun h => ?_) (fun n h => ?_) n h)
  · rw [before9, before9_step, dif_pos rfl]
    pointwise [k0_pay2]
  · have hN : n + 1 < 16 := lt_of_lt_of_eq h (show cfg0.N = 16 from N_0)
    rw [before9, before9_step, dif_neg (Nat.succ_ne_zero n), outs9 m c (n + 1 - 1) _ (by omega)]
    rfl

theorem final9 (c : Dev nD) : (dats m 0 c).arrAt 9 cfg0.N = DG (m ((c : Thread nD τ).loc main_arg0))
    (m ((c : Thread nD τ).loc main_arg2)) (m ((c : Thread nD τ).loc main_arg3)) (m ((c : Thread nD τ).loc main_arg4)) := by
  have h15 : 15 < cfg0.N := by rw [show cfg0.N = 16 from N_0]; omega
  refine (dats m 0 c).arrAt_eq_of_after_last 9 t0_15 (by decide +kernel) _ fun j => ?_
  blk_simp
  rw [after0_9, show (t0_15 : Fin cfg0.N) = ⟨15, h15⟩ from rfl, outsAt0_C m c ⟨15, h15⟩ (by simp) rfl]
  dsimp only
  frame_out
  pointwise [k0_pay1, DG]
  have hr := Cert.Shared.sum_rows8 16 512 64 rfl rfl (rowG (m ((c : Thread nD τ).loc main_arg0)) (m ((c : Thread nD τ).loc main_arg2))
    (m ((c : Thread nD τ).loc main_arg3)) (m ((c : Thread nD τ).loc main_arg4)) (j 1)) (fun x k r => by omega)
  refine Eq.trans ?_ hr
  exact Finset.sum_congr (M := EReal) rfl fun x _ => before9_sum m c (ix2 x (j 1)) 15 h15

end Cert.GateIdeal.Value
end
-- ==== Proof.Gate.Claim.lean ====
module

public import proofs.«01_k».proof.Proof.Gate.Value
public import proofs.«01_k».proof.Proof.Gen.GateRefIdeal.Run
public import proofs.«01_k».proof.Proof.Gen.Pre_gate_pre
public import Idealize.ShloMosaic.Lib.Quiescent

@[expose] public section

set_option maxRecDepth 16384

noncomputable section

open Idealize.ShloMosaic Idealize.ShloMosaic.TcCoe Idealize.SL.Sem

namespace Cert.GateClaim

open Cert.GateIdeal Cert.GateIdeal.Gen Cert.GateIdeal.Value

theorem half_coe : half = ((1 / 2 : ℝ) : EReal) := by
  simp [half, Ideal.ofBits, Ideal.ieee]
  norm_num
  exact_mod_cast (by norm_num : (8388608 : ℝ) * (1 / 16777216) = 1 / 2)

theorem half_mul_sum {ι : Type*} (s : Finset ι) (f : ι → EReal) : half * ∑ i ∈ s, f i = ∑ i ∈ s, half * f i := by
  rw [half_coe]
  exact Cert.Shared.mul_sum_coe _ _ (by norm_num) _

/-- The derivative of `a * sigmoid a`: one product as the kernel has it, two as the reference's product rule has it. -/
theorem silu_law (x : ℝ) (a : EReal) : (x : EReal) * (Ideal.logistic a * (1 + a * (1 - Ideal.logistic a)))
    = x * Ideal.logistic a + a * x * (Ideal.logistic a * (1 - Ideal.logistic a)) := by
  have h11 : (1 : EReal) - 1 = 0 := by rw [← EReal.coe_one, ← EReal.coe_sub, sub_self]; rfl
  induction a with
  | bot => simp
  | top => simp [h11]
  | coe a =>
    rw [Ideal.logistic_coe]
    norm_cast
    ring

/-- The precondition makes the elements of four arguments real. -/
theorem reals {a0 : FVec Ideal S8192x1024 .f32} {a1 : FVec Ideal S1x1024 .f32} {a2 : FVec Ideal S2816x1024 .f32} {a3 a4 : FVec Ideal S8192x2816 .f32}
    (h : Cert.Pre_gate_pre.fn (F := Ideal) a0 a1 a2 a3 a4 = fun _ => 1#1) :
    (∀ i, ∃ r : ℝ, a0 i = r) ∧ (∀ i, ∃ r : ℝ, a1 i = r) ∧ (∀ i, ∃ r : ℝ, a2 i = r) ∧ (∀ i, ∃ r : ℝ, a4 i = r) := by
  have h := congrFun h ix0
  unfold Cert.Pre_gate_pre.fn Cert.Pre_gate_pre.fn_part1 at h
  obtain ⟨h, h4⟩ := IntOp.andi_eq_one.1 h
  obtain ⟨h, h2⟩ := IntOp.andi_eq_one.1 h
  obtain ⟨h0, h1⟩ := IntOp.andi_eq_one.1 h
  exact ⟨Cert.Shared.real_of_finite _ _ _ _ _ _ _ h0, Cert.Shared.real_of_finite _ _ _ _ _ _ _ h1, Cert.Shared.real_of_finite _ _ _ _ _ _ _ h2,
    Cert.Shared.real_of_finite _ _ _ _ _ _ _ h4⟩

/-- The gated product's gradient is real where its factors are. -/
theorem DU_real {dx : FVec Ideal S8192x1024 .f32} {g : FVec Ideal S1x1024 .f32} {w : FVec Ideal S2816x1024 .f32}
    (h0 : ∀ i, ∃ r : ℝ, dx i = r) (h1 : ∀ i, ∃ r : ℝ, g i = r) (h2 : ∀ i, ∃ r : ℝ, w i = r) (j) : ∃ r : ℝ, DU dx g w j = r := by
  choose f0 e0 using h0
  choose f1 e1 using h1
  choose f2 e2 using h2
  refine ⟨∑ x : Fin 1024, f0 (ix2 (j 0) x) * (1 / 2 * f1 (ix2 0 x)) * f2 (ix2 (j 1) x), ?_⟩
  rw [Cert.Shared.coe_sum]
  refine Finset.sum_congr rfl fun x _ => ?_
  rw [e0, e1, e2, half_coe]
  norm_cast

/-- The reference runs on the host alone: its arguments end unchanged, and it declares no semaphore. -/
theorem frame_ref : Cert.quiescent_GateRefIdeal (hGateRefIdeal := Cert.GateRefIdeal.Gen.facts) := fun m ρ _ =>
  (θ_run Cert.GateRefIdeal.defs _ _).mono (fun r h => ⟨fun c => (h c).2.2.2.2, Idealize.ShloMosaic.sem_eq_zero_of_no_sems (by decide) r.2⟩)
    (Cert.GateRefIdeal.Value.run (F := Ideal) m ρ)

theorem algebraic : Cert.algebraic_GateIdeal_GateRefIdeal_pre_gate_pre (hGateIdeal := Cert.GateIdeal.Gen.facts)
    (hGateRefIdeal := Cert.GateRefIdeal.Gen.facts) (hPre_gate_pre := Cert.Pre_gate_pre.Gen.facts) := by
  intro m g m' g' hpre hag
  refine ⟨fun c => DF (m ((c : Thread nD τ).loc main_arg0)) (m ((c : Thread nD τ).loc main_arg1)),
    fun c => DA (m ((c : Thread nD τ).loc main_arg0)) (m ((c : Thread nD τ).loc main_arg1)) (m ((c : Thread nD τ).loc main_arg2))
      (m ((c : Thread nD τ).loc main_arg3)) (m ((c : Thread nD τ).loc main_arg4)),
    fun c => DB (m ((c : Thread nD τ).loc main_arg0)) (m ((c : Thread nD τ).loc main_arg1)) (m ((c : Thread nD τ).loc main_arg2))
      (m ((c : Thread nD τ).loc main_arg3)),
    fun c => DG (m ((c : Thread nD τ).loc main_arg0)) (m ((c : Thread nD τ).loc main_arg2))
      (m ((c : Thread nD τ).loc main_arg3)) (m ((c : Thread nD τ).loc main_arg4)),
    (θ_run _ _ _).mono (fun r h c => ?_) (run_blocks m g), (θ_run _ _ _).mono (fun r h c => ?_) (Cert.GateRefIdeal.Value.run m' g')⟩
  · obtain ⟨h6, h7, h8, h9, hk⟩ := h c
    exact ⟨h6.trans (final6 m c), h7.trans (final7 m c), h8.trans (final8 m c), h9.trans (final9 m c), hk⟩
  · obtain ⟨h27, h28, h29, h30, hk⟩ := h c
    obtain ⟨e0, e1, e2, e3, e4⟩ := hag c
    rw [e0, e1] at h27
    rw [e0, e1, e2, e3, e4] at h28
    rw [e0, e1, e2, e3] at h29
    rw [e0, e2, e3, e4] at h30
    refine ⟨h27.trans ?_, h28.trans ?_, h29.trans ?_, h30.trans ?_, hk⟩
    · funext j
      pointwise [DF]
      exact mul_comm _ _
    · obtain ⟨r0, r1, r2, r4⟩ := reals (hpre c)
      funext j
      obtain ⟨x, hx⟩ := DU_real r0 r1 r2 j
      obtain ⟨y, hy⟩ := r4 j
      have hl := silu_law (x * y) (m ((c : Thread nD τ).loc main_arg3) j)
      rw [EReal.coe_mul, ← hx, ← hy] at hl
      refine Eq.trans ?_ hl.symm
      pointwise [DU, mul_comm (half * _) _]
      rfl
    · funext j
      pointwise [DB, DU, mul_comm (half * _) _]
      exact mul_comm _ _
    · funext j
      pointwise [DG, FV]
      exact (half_mul_sum _ _).trans (Finset.sum_congr rfl fun i _ => mul_left_comm _ _ _)

end Cert.GateClaim
end
-- ==== Proof.Attn.Below.lean ====
module

public import proofs.«01_k».proof.Proof.Gen.AttnIdeal.Launch
public import proofs.«01_k».proof.Proof.Gen.AttnIdeal.Skeleton
public import Idealize.ShloMosaic.Lib.Pipeline.FrameBody
public import Idealize.ShloMosaic.Lib.Tactic
public import Idealize.ShloMosaic.Lib.WordCmp
public import Idealize.ShloMosaic.Lib.VecWindow

/-! One grid point of the attention gradient: what the body leaves in its scratch buffers and output blocks,
off the diagonal. -/

@[expose] public section

set_option maxRecDepth 16384

noncomputable section

namespace Cert.AttnRun

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

/-- The word of a small number. -/
abbrev wd (q : Fin 8) : BitVec 32 := BitVec.ofNat 32 q.val

theorem c1_lt : ∀ q k : Fin 8, k.val < q.val → ¬ Scalar.cmpi .ne (Scalar.extui (Scalar.cmpi .sle (Scalar.muli (wd q) 1024#32) (Scalar.muli (wd k) 1024#32))) 0#32 = 1#1 := by decide +kernel
theorem c1_eq : ∀ q : Fin 8, Scalar.cmpi .ne (Scalar.extui (Scalar.cmpi .sle (Scalar.muli (wd q) 1024#32) (Scalar.muli (wd q) 1024#32))) 0#32 = 1#1 := by decide +kernel
theorem chk1_0 : ∀ q k : Fin 8, k0_chk1 (wd q) (wd k) 0#32 := by decide +kernel
theorem chk2_0 : ∀ q k : Fin 8, k0_chk2 (wd q) (wd k) 0#32 := by decide +kernel
theorem chk1_1 : ∀ q k : Fin 8, k0_chk1 (wd q) (wd k) 1#32 := by decide +kernel
theorem chk2_1 : ∀ q k : Fin 8, k0_chk2 (wd q) (wd k) 1#32 := by decide +kernel
theorem c3_iff : ∀ k : Fin 8, k0_cond3 (wd k) = 1#1 ↔ k.val = 0 := by decide +kernel
theorem c4_iff : ∀ k : Fin 8, k0_cond4 (wd k) = 1#1 ↔ ¬ k.val = 0 := by decide +kernel
theorem c6_iff : ∀ k : Fin 8, k0_cond6 (wd k) = 1#1 ↔ k.val = 0 := by decide +kernel
theorem c7_iff : ∀ k : Fin 8, k0_cond7 (wd k) = 1#1 ↔ ¬ k.val = 0 := by decide +kernel
theorem c8_iff : ∀ k : Fin 8, k0_cond8 (wd k) = 1#1 ↔ k.val = 0 := by decide +kernel
theorem c9_iff : ∀ k : Fin 8, k0_cond9 (wd k) = 1#1 ↔ ¬ k.val = 0 := by decide +kernel
theorem c10_iff : ∀ q : Fin 8, k0_cond10 (wd q) = 1#1 ↔ q.val = 7 := by decide +kernel
theorem c2_0 : k0_cond2 0#32 = 1#1 := by decide +kernel
theorem c5_0 : ¬ k0_cond5 0#32 = 1#1 := by decide +kernel
theorem c2_1 : ¬ k0_cond2 1#32 = 1#1 := by decide +kernel
theorem c5_1 : k0_cond5 1#32 = 1#1 := by decide +kernel
theorem off3_eq : ∀ q : Fin 8, k0_off3 (wd q) = ![1024 * q.val, 0] := by decide +kernel
theorem off4_eq : ∀ q : Fin 8, k0_off4 (wd q) = ![1024 * q.val, 0] := by decide +kernel
theorem off6_eq : ∀ q : Fin 8, k0_off6 (wd q) = ![1024 * q.val, 0] := by decide +kernel
theorem off7_eq : ∀ q : Fin 8, k0_off7 (wd q) = ![1024 * q.val, 0] := by decide +kernel
theorem off8_eq : ∀ q : Fin 8, k0_off8 (wd q) = ![1024 * q.val + 512, 0] := by decide +kernel
theorem off9_eq : ∀ q : Fin 8, k0_off9 (wd q) = ![1024 * q.val + 512, 0] := by decide +kernel
instance (q : Fin 8) : ClosedOff (k0_off3 (BitVec.ofNat 32 q.val)) := ⟨![1024 * q.val, 0], off3_eq q⟩
instance (q : Fin 8) : ClosedOff (k0_off4 (BitVec.ofNat 32 q.val)) := ⟨![1024 * q.val, 0], off4_eq q⟩
instance (q : Fin 8) : ClosedOff (k0_off6 (BitVec.ofNat 32 q.val)) := ⟨![1024 * q.val, 0], off6_eq q⟩
instance (q : Fin 8) : ClosedOff (k0_off7 (BitVec.ofNat 32 q.val)) := ⟨![1024 * q.val, 0], off7_eq q⟩
instance (q : Fin 8) : ClosedOff (k0_off8 (BitVec.ofNat 32 q.val)) := ⟨![1024 * q.val + 512, 0], off8_eq q⟩
instance (q : Fin 8) : ClosedOff (k0_off9 (BitVec.ofNat 32 q.val)) := ⟨![1024 * q.val + 512, 0], off9_eq q⟩

/-- Rows of one block of queries lie inside the accumulator. -/
theorem rows_inb (q : Fin 8) : ∀ a, (![1024 * q.val, 0] : Fin 2 → ℕ) a + S1024x256.size a ≤ S8192x256.size a := by
  revert q; decide +kernel
/-- Rows of the first half of a block of queries lie inside the accumulator. -/
theorem half_inb0 (q : Fin 8) : ∀ a, (![1024 * q.val, 0] : Fin 2 → ℕ) a + S512x256.size a ≤ S8192x256.size a := by
  revert q; decide +kernel
/-- Rows of the second half of a block of queries lie inside the accumulator. -/
theorem half_inb1 (q : Fin 8) : ∀ a, (![1024 * q.val + 512, 0] : Fin 2 → ℕ) a + S512x256.size a ≤ S8192x256.size a := by
  revert q; decide +kernel

/-- The query gradient's accumulator after a block below the diagonal: the block's rows set at the first block of keys, added to after. -/
def offDq (qi ki : Fin 8) (x5 x6 : Vec F S1024x256 .bf16) (x7 x8 : Vec F S1024x128 .bf16) (x9 x10 : Vec F S1024x128 .f32)
    (x14 : Vec F S8192x256 .f32) : Vec F S8192x256 .f32 :=
  VecWindow.put x14 ![1024 * qi.val, 0] S1024x256.size
    (if ki.val = 0 then k0_pay5 (k0_pay12 x6) (k0_pay16 x5 x6 x8 x7 x9 x10)
     else k0_pay6 (k0_pay12 x6) (k0_pay16 x5 x6 x8 x7 x9 x10) (VecWindow.window x14 ![1024 * qi.val, 0] S1024x256.size (rows_inb qi)))
/-- The key gradient's accumulator after a block below the diagonal. -/
def offDk (x5 x6 : Vec F S1024x256 .bf16) (x7 x8 : Vec F S1024x128 .bf16) (x9 x10 : Vec F S1024x128 .f32)
    (x16 : Vec F S1024x256 .f32) : Vec F S1024x256 .f32 := k0_pay3 (k0_pay17 x5 x6 x8 x7 x9 x10 x16)
/-- The value gradient's accumulator after a block below the diagonal. -/
def offDv (x5 x6 : Vec F S1024x256 .bf16) (x8 : Vec F S1024x128 .bf16) (x9 : Vec F S1024x128 .f32)
    (x17 : Vec F S1024x128 .f32) : Vec F S1024x128 .f32 := k0_pay15 x5 x6 x8 x9 x17

set_option maxHeartbeats 4000000 in
/-- A block below the diagonal. -/
theorem run_off (c : Dev nD) (i : grid0.Coords) (arg2 : Memref sig .tc .smem S36 .i32) (harg2 : arg2.IsWhole) (arg3 : Memref sig .tc .smem S36 .i32) (harg3 : arg3.IsWhole) (arg4 : Memref sig .tc .smem S36 .i32) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (arg11 : Memref sig .tc .hbm S8192x1024 .bf16) (harg11 : arg11.IsWhole) (arg12 : Memref sig .tc .vmem S1024x256 .bf16) (harg12 : arg12.IsWhole) (arg13 : Memref sig .tc .vmem S1024x128 .bf16) (harg13 : arg13.IsWhole) (arg14 : Memref sig .tc .vmem S8192x256 .f32) (harg14 : arg14.IsWhole) (arg15 : Memref sig .tc .vmem S8192x256 .bf16) (harg15 : arg15.IsWhole) (arg16 : Memref sig .tc .vmem S1024x256 .f32) (harg16 : arg16.IsWhole) (arg17 : Memref sig .tc .vmem S1024x128 .f32) (harg17 : arg17.IsWhole) (arg18 : DmaSems sig S_)
    (qi ki : Fin 8) (t2 t3 t4 : Vec F S36 .i32) (hlt : ki.val < qi.val) (hi : ¬ k0_cond11 i = 1#1)
    (hw2 : View.readAt (Elt F) arg2.view (Rect.unit (s := S36) (k0_off1 i) S1.size (k0_off1_inb i)).toLoadRect (harg2.unread t2) = fun _ => BitVec.ofNat 32 qi.val)
    (hw3 : View.readAt (Elt F) arg3.view (Rect.unit (s := S36) (k0_off1 i) S1.size (k0_off1_inb i)).toLoadRect (harg3.unread t3) = fun _ => BitVec.ofNat 32 ki.val)
    (hw4 : View.readAt (Elt F) arg4.view (Rect.unit (s := S36) (k0_off1 i) S1.size (k0_off1_inb i)).toLoadRect (harg4.unread t4) = fun _ => 0#32)
    (x5 x6 : Vec F S1024x256 .bf16) (x7 x8 : Vec F S1024x128 .bf16) (x9 x10 : Vec F S1024x128 .f32)
    (x12 : Vec F S1024x256 .bf16) (x13 : Vec F S1024x128 .bf16)
    (x14 : Vec F S8192x256 .f32) (x16 : Vec F S1024x256 .f32) (x17 : Vec F S1024x128 .f32) (K : PUnit → sProp 𝕄) :
    iprop(owns (c : Thread nD τ) arg2 fullShare.right t2 ∗ owns (c : Thread nD τ) arg3 fullShare.right t3 ∗ owns (c : Thread nD τ) arg4 fullShare.right t4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg12 fullShare x12 ∗ owns (c : Thread nD τ) arg13 fullShare x13 ∗ owns (c : Thread nD τ) arg14 fullShare x14 ∗ owns (c : Thread nD τ) arg16 fullShare x16 ∗ owns (c : Thread nD τ) arg17 fullShare x17
       ∗ (iprop(owns (c : Thread nD τ) arg2 fullShare.right t2 ∗ owns (c : Thread nD τ) arg3 fullShare.right t3 ∗ owns (c : Thread nD τ) arg4 fullShare.right t4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
         ∗ owns (c : Thread nD τ) arg12 fullShare (if qi.val = 7 then k0_pay8 (offDk x5 x6 x7 x8 x9 x10 x16) else x12)
         ∗ owns (c : Thread nD τ) arg13 fullShare (if qi.val = 7 then k0_pay9 (offDv x5 x6 x8 x9 x17) else x13)
         ∗ owns (c : Thread nD τ) arg14 fullShare (offDq qi ki x5 x6 x7 x8 x9 x10 x14)
         ∗ owns (c : Thread nD τ) arg16 fullShare (offDk x5 x6 x7 x8 x9 x10 x16)
         ∗ owns (c : Thread nD τ) arg17 fullShare (offDv x5 x6 x8 x9 x17)) -∗ K ⟨⟩))
     ⊢ wp frame (wpE (defs₀ (F := F)) Variants.none c none) Set.univ (cc0_attention_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18) K := by
  simp only [cc0_attention_bwd_eq_skeleton]; unfold cc0_attention_bwd_skel
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f12, %h12, H12⟩, ⟨%f13, %h13, H13⟩, ⟨%f14, %h14, H14⟩, ⟨%f16, %h16, H16⟩, ⟨%f17, %h17, H17⟩, Hk⟩
  obtain rfl := harg2.eq_unread h2
  obtain rfl := harg3.eq_unread h3
  obtain rfl := harg4.eq_unread h4
  obtain rfl := harg5.eq_unread h5
  obtain rfl := harg6.eq_unread h6
  obtain rfl := harg7.eq_unread h7
  obtain rfl := harg8.eq_unread h8
  obtain rfl := harg9.eq_unread h9
  obtain rfl := harg10.eq_unread h10
  obtain rfl := harg12.eq_unread h12
  obtain rfl := harg13.eq_unread h13
  obtain rfl := harg14.eq_unread h14
  obtain rfl := harg16.eq_unread h16
  obtain rfl := harg17.eq_unread h17
  have hc1 := c1_lt qi ki hlt
  have hk1 := chk1_0 qi ki
  have hk2 := chk2_0 qi ki
  have hc2 := c2_0
  have hc5 := c5_0
  have r5 : ∀ inb, View.readAt (Elt F) arg5.view (Rect.unit (s := S1024x256) ![0, 0] S1024x256.size inb).toLoadRect (harg5.unread x5) = x5 := fun inb => by rw [View.readAt_full, harg5.read_unread]
  have r6 : ∀ inb, View.readAt (Elt F) arg6.view (Rect.unit (s := S1024x256) ![0, 0] S1024x256.size inb).toLoadRect (harg6.unread x6) = x6 := fun inb => by rw [View.readAt_full, harg6.read_unread]
  have r7 : ∀ inb, View.readAt (Elt F) arg7.view (Rect.unit (s := S1024x128) ![0, 0] S1024x128.size inb).toLoadRect (harg7.unread x7) = x7 := fun inb => by rw [View.readAt_full, harg7.read_unread]
  have r8 : ∀ inb, View.readAt (Elt F) arg8.view (Rect.unit (s := S1024x128) ![0, 0] S1024x128.size inb).toLoadRect (harg8.unread x8) = x8 := fun inb => by rw [View.readAt_full, harg8.read_unread]
  have r9 : ∀ inb, View.readAt (Elt F) arg9.view (Rect.unit (s := S1024x128) ![0, 0] S1024x128.size inb).toLoadRect (harg9.unread x9) = x9 := fun inb => by rw [View.readAt_full, harg9.read_unread]
  have r10 : ∀ inb, View.readAt (Elt F) arg10.view (Rect.unit (s := S1024x128) ![0, 0] S1024x128.size inb).toLoadRect (harg10.unread x10) = x10 := fun inb => by rw [View.readAt_full, harg10.read_unread]
  have r16 : ∀ inb, View.readAt (Elt F) arg16.view (Rect.unit (s := S1024x256) ![0, 0] S1024x256.size inb).toLoadRect (harg16.unread x16) = x16 := fun inb => by rw [View.readAt_full, harg16.read_unread]
  have r17 : ∀ inb, View.readAt (Elt F) arg17.view (Rect.unit (s := S1024x128) ![0, 0] S1024x128.size inb).toLoadRect (harg17.unread x17) = x17 := fun inb => by rw [View.readAt_full, harg17.read_unread]
  have r14 : ∀ inb, View.readAt (Elt F) arg14.view (Rect.unit (s := S8192x256) (k0_off4 (BitVec.ofNat 32 qi.val)) S1024x256.size inb).toLoadRect (harg14.unread x14)
      = VecWindow.window x14 ![1024 * qi.val, 0] S1024x256.size (rows_inb qi) := fun inb => by
    rw [View.readAt_unit _ _ inb (off4_eq qi) (rows_inb qi), harg14.read_unread]
  have rc16 : ∀ inb inb' w, View.readCov arg16.view [⟨Rect.unit (s := S1024x256) ![0, 0] S1024x256.size inb, w⟩] (Rect.unit (s := S1024x256) ![0, 0] S1024x256.size inb').toLoadRect = w := fun inb inb' w => View.readCov_full (Val := Elt F) arg16.view inb' inb w []
  have rc17 : ∀ inb inb' w, View.readCov arg17.view [⟨Rect.unit (s := S1024x128) ![0, 0] S1024x128.size inb, w⟩] (Rect.unit (s := S1024x128) ![0, 0] S1024x128.size inb').toLoadRect = w := fun inb inb' w => View.readCov_full (Val := Elt F) arg17.view inb' inb w []
  rcases Nat.eq_zero_or_pos ki.val with hz | hz
  all_goals
    first | (have hz' : ki.val = 0 := hz
             have hc3 : k0_cond3 (wd ki) = 1#1 := (c3_iff ki).2 hz'
             have hc4 : ¬ k0_cond4 (wd ki) = 1#1 := fun h => (c4_iff ki).1 h hz')
          | (have hz' : ¬ ki.val = 0 := by omega
             have hc3 : ¬ k0_cond3 (wd ki) = 1#1 := fun h => hz' ((c3_iff ki).1 h)
             have hc4 : k0_cond4 (wd ki) = 1#1 := (c4_iff ki).2 hz')
    by_cases h7 : qi.val = 7
    all_goals
      first | (have hc10 : k0_cond10 (wd qi) = 1#1 := (c10_iff qi).2 h7)
            | (have hc10 : ¬ k0_cond10 (wd qi) = 1#1 := fun h => h7 ((c10_iff qi).1 h))
      sl_exec
      sl_step
      iapply Hk
      isplitl [H2]
      · iexists _; isplitr; swap; · iexact H2
        ipureintro; exact harg2.read_unread _
      isplitl [H3]
      · iexists _; isplitr; swap; · iexact H3
        ipureintro; exact harg3.read_unread _
      isplitl [H4]
      · iexists _; isplitr; swap; · iexact H4
        ipureintro; exact harg4.read_unread _
      isplitl [H5]
      · iexists _; isplitr; swap; · iexact H5
        ipureintro; exact harg5.read_unread _
      isplitl [H6]
      · iexists _; isplitr; swap; · iexact H6
        ipureintro; exact harg6.read_unread _
      isplitl [H7]
      · iexists _; isplitr; swap; · iexact H7
        ipureintro; exact harg7.read_unread _
      isplitl [H8]
      · iexists _; isplitr; swap; · iexact H8
        ipureintro; exact harg8.read_unread _
      isplitl [H9]
      · iexists _; isplitr; swap; · iexact H9
        ipureintro; exact harg9.read_unread _
      isplitl [H10]
      · iexists _; isplitr; swap; · iexact H10
        ipureintro; exact harg10.read_unread _
      isplitl [H12]
      · iexists _; isplitr; swap; · iexact H12
        ipureintro
        first | (rw [if_pos h7]; exact View.read_writes_full _ _ _ _ _) | (rw [if_neg h7]; exact harg12.read_unread _)
      isplitl [H13]
      · iexists _; isplitr; swap; · iexact H13
        ipureintro
        first | (rw [if_pos h7]; exact View.read_writes_full _ _ _ _ _) | (rw [if_neg h7]; exact harg13.read_unread _)
      isplitl [H14]
      · iexists _; isplitr; swap; · iexact H14
        ipureintro
        unfold offDq
        first | (rw [if_pos hz', View.read_writes_cons_put _ _ _ _ _ (off3_eq qi), View.writes_nil, harg14.read_unread])
              | (rw [if_neg hz', View.read_writes_cons_put _ _ _ _ _ (off4_eq qi), View.writes_nil, harg14.read_unread])
      isplitl [H16]
      · iexists _; isplitr; swap; · iexact H16
        ipureintro; exact View.read_writes_full _ _ _ _ _
      iexists _; isplitr; swap; · iexact H17
      ipureintro; exact View.read_writes_full _ _ _ _ _

end Cert.AttnRun
-- ==== Proof.Attn.Diag.lean ====
module

public import proofs.«01_k».proof.Proof.Gen.AttnIdeal.Launch
public import proofs.«01_k».proof.Proof.Gen.AttnIdeal.Skeleton
public import Idealize.ShloMosaic.Lib.Pipeline.FrameBody
public import Idealize.ShloMosaic.Lib.Tactic
public import Idealize.ShloMosaic.Lib.WordCmp
public import Idealize.ShloMosaic.Lib.VecWindow
public import proofs.«01_k».proof.Proof.Attn.Below

/-! One grid point of the attention gradient: what the body leaves in its scratch buffers and output blocks,
on the diagonal. -/

@[expose] public section

set_option maxRecDepth 16384

noncomputable section

namespace Cert.AttnRun

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

/-- The point's head picks the columns of the query gradient. -/
theorem off10_eq : ∀ i : grid0.Coords, k0_off10 i = ![0, 256 * (i 0).val] := by decide +kernel

/-- Scores of the first half of the queries, over the keys they may see. -/
def dgS0 (x5 x6 : Vec F S1024x256 .bf16) : FVec F S512x512 .f32 := k0_pay21 (VecWindow.window x5 ![0, 0] S512x256.size inb_S1024x256_S512x256_0_0) (VecWindow.window x6 ![0, 0] S512x256.size inb_S1024x256_S512x256_0_0)
/-- Weights of the first half of the queries. -/
def dgP0 (x5 x6 : Vec F S1024x256 .bf16) (x9 : Vec F S1024x128 .f32) : FVec F S512x512 .f32 :=
  k0_pay25 (dgS0 x5 x6) k0_pay23 (iota .tc S512x512 32 [1] iota_S512x512_d1_w32) 64#32 k0_pay24 0#32 (VecWindow.window x9 ![0, 0] S512x128.size inb_S1024x128_S512x128_0_0)
/-- Score gradients of the first half of the queries, before the weights. -/
def dgD0 (x7 x8 : Vec F S1024x128 .bf16) (x10 : Vec F S1024x128 .f32) : FVec F S512x512 .f32 :=
  k0_pay27 (k0_pay22 (VecWindow.window x8 ![0, 0] S512x128.size inb_S1024x128_S512x128_0_0) (VecWindow.window x7 ![0, 0] S512x128.size inb_S1024x128_S512x128_0_0)) (VecWindow.window x10 ![0, 0] S512x128.size inb_S1024x128_S512x128_0_0)
/-- The key gradient's accumulator after a block on the diagonal. -/
def diagDk (x5 x6 : Vec F S1024x256 .bf16) (x7 x8 : Vec F S1024x128 .bf16) (x9 x10 : Vec F S1024x128 .f32) : Vec F S1024x256 .f32 :=
  k0_pay45 (k0_pay33 (VecWindow.window x5 ![512, 0] S512x256.size inb_S1024x256_S512x256_512_0)) (k0_pay36 (VecWindow.window x5 ![512, 0] S512x256.size inb_S1024x256_S512x256_512_0) x6) (k0_pay37 (VecWindow.window x8 ![512, 0] S512x128.size inb_S1024x128_S512x128_512_0) x7) (k0_pay40 k0_pay38 64#32 k0_pay39) k0_pay41 (VecWindow.window x9 ![512, 0] S512x128.size inb_S1024x128_S512x128_512_0) (VecWindow.window x10 ![512, 0] S512x128.size inb_S1024x128_S512x128_512_0)
    (VecWindow.put k0_pay1 ![0, 0] S512x256.size (k0_pay29 (k0_pay18 (VecWindow.window x5 ![0, 0] S512x256.size inb_S1024x256_S512x256_0_0)) (dgP0 x5 x6 x9) (dgD0 x7 x8 x10) (VecWindow.window k0_pay1 ![0, 0] S512x256.size inb_S1024x256_S512x256_0_0)))
/-- The value gradient's accumulator after a block on the diagonal. -/
def diagDv (x5 x6 : Vec F S1024x256 .bf16) (x8 : Vec F S1024x128 .bf16) (x9 : Vec F S1024x128 .f32) : Vec F S1024x128 .f32 :=
  k0_pay43 (k0_pay35 (VecWindow.window x8 ![512, 0] S512x128.size inb_S1024x128_S512x128_512_0)) (k0_pay36 (VecWindow.window x5 ![512, 0] S512x256.size inb_S1024x256_S512x256_512_0) x6) (k0_pay40 k0_pay38 64#32 k0_pay39) k0_pay41 (VecWindow.window x9 ![512, 0] S512x128.size inb_S1024x128_S512x128_512_0)
    (VecWindow.put k0_pay2 ![0, 0] S512x128.size (k0_pay26 (k0_pay20 (VecWindow.window x8 ![0, 0] S512x128.size inb_S1024x128_S512x128_0_0)) (dgS0 x5 x6) k0_pay23
      (iota .tc S512x512 32 [1] iota_S512x512_d1_w32) 64#32 k0_pay24 0#32 (VecWindow.window x9 ![0, 0] S512x128.size inb_S1024x128_S512x128_0_0) (VecWindow.window k0_pay2 ![0, 0] S512x128.size inb_S1024x128_S512x128_0_0)))
/-- The query gradient's accumulator after a block on the diagonal. -/
def diagDq (qi : Fin 8) (x5 x6 : Vec F S1024x256 .bf16) (x7 x8 : Vec F S1024x128 .bf16) (x9 x10 : Vec F S1024x128 .f32)
    (x14 : Vec F S8192x256 .f32) : Vec F S8192x256 .f32 :=
  VecWindow.put (VecWindow.put x14 ![1024 * qi.val, 0] S512x256.size
    (if qi.val = 0 then k0_pay31 (k0_pay19 (VecWindow.window x6 ![0, 0] S512x256.size inb_S1024x256_S512x256_0_0)) (dgP0 x5 x6 x9) (dgD0 x7 x8 x10)
     else k0_pay32 (k0_pay19 (VecWindow.window x6 ![0, 0] S512x256.size inb_S1024x256_S512x256_0_0)) (dgP0 x5 x6 x9) (dgD0 x7 x8 x10) (VecWindow.window x14 ![1024 * qi.val, 0] S512x256.size (half_inb0 qi))))
    ![1024 * qi.val + 512, 0] S512x256.size
    (if qi.val = 0 then k0_pay47 (k0_pay34 x6) (k0_pay36 (VecWindow.window x5 ![512, 0] S512x256.size inb_S1024x256_S512x256_512_0) x6) (k0_pay37 (VecWindow.window x8 ![512, 0] S512x128.size inb_S1024x128_S512x128_512_0) x7) (k0_pay40 k0_pay38 64#32 k0_pay39) k0_pay41 (VecWindow.window x9 ![512, 0] S512x128.size inb_S1024x128_S512x128_512_0) (VecWindow.window x10 ![512, 0] S512x128.size inb_S1024x128_S512x128_512_0)
     else k0_pay7 (k0_pay46 (k0_pay34 x6) (k0_pay36 (VecWindow.window x5 ![512, 0] S512x256.size inb_S1024x256_S512x256_512_0) x6) (k0_pay37 (VecWindow.window x8 ![512, 0] S512x128.size inb_S1024x128_S512x128_512_0) x7) (k0_pay40 k0_pay38 64#32 k0_pay39) k0_pay41 (VecWindow.window x9 ![512, 0] S512x128.size inb_S1024x128_S512x128_512_0) (VecWindow.window x10 ![512, 0] S512x128.size inb_S1024x128_S512x128_512_0))
       (VecWindow.window x14 ![1024 * qi.val + 512, 0] S512x256.size (half_inb1 qi)))

set_option maxHeartbeats 2000000 in
/-- A block on the diagonal. -/
theorem run_diag (c : Dev nD) (i : grid0.Coords) (arg2 : Memref sig .tc .smem S36 .i32) (harg2 : arg2.IsWhole) (arg3 : Memref sig .tc .smem S36 .i32) (harg3 : arg3.IsWhole) (arg4 : Memref sig .tc .smem S36 .i32) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (arg11 : Memref sig .tc .hbm S8192x1024 .bf16) (harg11 : arg11.IsWhole) (arg12 : Memref sig .tc .vmem S1024x256 .bf16) (harg12 : arg12.IsWhole) (arg13 : Memref sig .tc .vmem S1024x128 .bf16) (harg13 : arg13.IsWhole) (arg14 : Memref sig .tc .vmem S8192x256 .f32) (harg14 : arg14.IsWhole) (arg15 : Memref sig .tc .vmem S8192x256 .bf16) (harg15 : arg15.IsWhole) (arg16 : Memref sig .tc .vmem S1024x256 .f32) (harg16 : arg16.IsWhole) (arg17 : Memref sig .tc .vmem S1024x128 .f32) (harg17 : arg17.IsWhole)
    (qi : Fin 8) (t2 t3 t4 : Vec F S36 .i32) (hi : k0_cond11 i = 1#1 ↔ qi.val = 7)
    (hw2 : View.readAt (Elt F) arg2.view (Rect.unit (s := S36) (k0_off1 i) S1.size (k0_off1_inb i)).toLoadRect (harg2.unread t2) = fun _ => BitVec.ofNat 32 qi.val)
    (hw3 : View.readAt (Elt F) arg3.view (Rect.unit (s := S36) (k0_off1 i) S1.size (k0_off1_inb i)).toLoadRect (harg3.unread t3) = fun _ => BitVec.ofNat 32 qi.val)
    (hw4 : View.readAt (Elt F) arg4.view (Rect.unit (s := S36) (k0_off1 i) S1.size (k0_off1_inb i)).toLoadRect (harg4.unread t4) = fun _ => 1#32)
    (x5 x6 : Vec F S1024x256 .bf16) (x7 x8 : Vec F S1024x128 .bf16) (x9 x10 : Vec F S1024x128 .f32) (x11 : Vec F S8192x1024 .bf16)
    (x12 : Vec F S1024x256 .bf16) (x13 : Vec F S1024x128 .bf16)
    (x14 : Vec F S8192x256 .f32) (x15 : Vec F S8192x256 .bf16) (x16 : Vec F S1024x256 .f32) (x17 : Vec F S1024x128 .f32) (W : Waits sig Unit) (K : PUnit → sProp 𝕄) :
    iprop(owns (c : Thread nD τ) arg2 fullShare.right t2 ∗ owns (c : Thread nD τ) arg3 fullShare.right t3 ∗ owns (c : Thread nD τ) arg4 fullShare.right t4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17
       ∗ semVal ((c : Thread nD τ), SemLoc.dma 16) 0 ∗ owes (c : Thread nD τ) 0 W
       ∗ (iprop(owns (c : Thread nD τ) arg2 fullShare.right t2 ∗ owns (c : Thread nD τ) arg3 fullShare.right t3 ∗ owns (c : Thread nD τ) arg4 fullShare.right t4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
         ∗ owns (c : Thread nD τ) arg11 fullShare (if qi.val = 7 then VecWindow.put x11 ![0, 256 * (i 0).val] S8192x256.size (k0_pay10 (diagDq qi x5 x6 x7 x8 x9 x10 x14)) else x11) ∗ owns (c : Thread nD τ) arg12 fullShare (if qi.val = 7 then k0_pay8 (diagDk x5 x6 x7 x8 x9 x10) else x12) ∗ owns (c : Thread nD τ) arg13 fullShare (if qi.val = 7 then k0_pay9 (diagDv x5 x6 x8 x9) else x13) ∗ owns (c : Thread nD τ) arg14 fullShare (diagDq qi x5 x6 x7 x8 x9 x10 x14) ∗ (∃ y, owns (c : Thread nD τ) arg15 fullShare y) ∗ owns (c : Thread nD τ) arg16 fullShare (diagDk x5 x6 x7 x8 x9 x10) ∗ owns (c : Thread nD τ) arg17 fullShare (diagDv x5 x6 x8 x9)
         ∗ semVal ((c : Thread nD τ), SemLoc.dma 16) 0 ∗ (∃ W', owes (c : Thread nD τ) 0 W')) -∗ K ⟨⟩))
     ⊢ wp frame (wpE (defs₀ (F := F)) Variants.none c none) Set.univ (cc0_attention_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 cc0_scratch4) K := by
  simp only [cc0_attention_bwd_eq_skeleton]; unfold cc0_attention_bwd_skel
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, Hsem, HW, Hk⟩
  obtain rfl := harg2.eq_unread h2
  obtain rfl := harg3.eq_unread h3
  obtain rfl := harg4.eq_unread h4
  obtain rfl := harg5.eq_unread h5
  obtain rfl := harg6.eq_unread h6
  obtain rfl := harg7.eq_unread h7
  obtain rfl := harg8.eq_unread h8
  obtain rfl := harg9.eq_unread h9
  obtain rfl := harg10.eq_unread h10
  obtain rfl := harg11.eq_unread h11
  obtain rfl := harg12.eq_unread h12
  obtain rfl := harg13.eq_unread h13
  obtain rfl := harg14.eq_unread h14
  obtain rfl := harg15.eq_unread h15
  obtain rfl := harg16.eq_unread h16
  obtain rfl := harg17.eq_unread h17
  have hc1 := c1_eq qi
  have hk1 := chk1_1 qi qi
  have hk2 := chk2_1 qi qi
  have hc2 := c2_1
  have hc5 := c5_1
  have r6 : ∀ inb, View.readAt (Elt F) arg6.view (Rect.unit (s := S1024x256) ![0, 0] S1024x256.size inb).toLoadRect (harg6.unread x6) = x6 := fun inb => by rw [View.readAt_full, harg6.read_unread]
  have r7 : ∀ inb, View.readAt (Elt F) arg7.view (Rect.unit (s := S1024x128) ![0, 0] S1024x128.size inb).toLoadRect (harg7.unread x7) = x7 := fun inb => by rw [View.readAt_full, harg7.read_unread]
  have w5 : ∀ off inb, View.readAt (Elt F) arg5.view (Rect.unit (s := S1024x256) off S512x256.size inb).toLoadRect (harg5.unread x5) = VecWindow.window x5 off S512x256.size inb := fun off inb => by rw [View.readAt_unit _ _ inb rfl inb, harg5.read_unread]
  have w6 : ∀ off inb, View.readAt (Elt F) arg6.view (Rect.unit (s := S1024x256) off S512x256.size inb).toLoadRect (harg6.unread x6) = VecWindow.window x6 off S512x256.size inb := fun off inb => by rw [View.readAt_unit _ _ inb rfl inb, harg6.read_unread]
  have w7 : ∀ off inb, View.readAt (Elt F) arg7.view (Rect.unit (s := S1024x128) off S512x128.size inb).toLoadRect (harg7.unread x7) = VecWindow.window x7 off S512x128.size inb := fun off inb => by rw [View.readAt_unit _ _ inb rfl inb, harg7.read_unread]
  have w8 : ∀ off inb, View.readAt (Elt F) arg8.view (Rect.unit (s := S1024x128) off S512x128.size inb).toLoadRect (harg8.unread x8) = VecWindow.window x8 off S512x128.size inb := fun off inb => by rw [View.readAt_unit _ _ inb rfl inb, harg8.read_unread]
  have w9 : ∀ off inb, View.readAt (Elt F) arg9.view (Rect.unit (s := S1024x128) off S512x128.size inb).toLoadRect (harg9.unread x9) = VecWindow.window x9 off S512x128.size inb := fun off inb => by rw [View.readAt_unit _ _ inb rfl inb, harg9.read_unread]
  have w10 : ∀ off inb, View.readAt (Elt F) arg10.view (Rect.unit (s := S1024x128) off S512x128.size inb).toLoadRect (harg10.unread x10) = VecWindow.window x10 off S512x128.size inb := fun off inb => by rw [View.readAt_unit _ _ inb rfl inb, harg10.read_unread]
  have a16 : ∀ inb inb' (w : Vec F S1024x256 .f32), View.readCov (Val := Elt F) arg16.view [⟨Rect.unit (s := S1024x256) ![0, 0] S1024x256.size inb, w⟩] (Rect.unit (s := S1024x256) ![0, 0] S512x256.size inb').toLoadRect = VecWindow.window (s := S1024x256) w ![0, 0] S512x256.size inb' := fun inb inb' w => by
    unfold View.readCov; rw [View.readAt_unit _ _ inb' rfl inb', View.read_writes_full]
  have b16 : ∀ inb inb' inb'' (w : Vec F S512x256 .f32) (w' : Vec F S1024x256 .f32), View.readCov (Val := Elt F) arg16.view [⟨Rect.unit (s := S1024x256) ![0, 0] S512x256.size inb, w⟩, ⟨Rect.unit (s := S1024x256) ![0, 0] S1024x256.size inb', w'⟩] (Rect.unit (s := S1024x256) ![0, 0] S1024x256.size inb'').toLoadRect = VecWindow.put (s := S1024x256) w' ![0, 0] S512x256.size w := fun inb inb' inb'' w w' => by
    unfold View.readCov; rw [View.readAt_full, View.read_writes_cons_put _ _ _ _ _ rfl, View.read_writes_full]
  have c16 : ∀ inb inb' (w : Vec F S1024x256 .f32) L, View.readCov (Val := Elt F) arg16.view (⟨Rect.unit (s := S1024x256) ![0, 0] S1024x256.size inb, w⟩ :: L) (Rect.unit (s := S1024x256) ![0, 0] S1024x256.size inb').toLoadRect = w := fun inb inb' w L => View.readCov_full (Val := Elt F) arg16.view inb' inb w L
  have a17 : ∀ inb inb' (w : Vec F S1024x128 .f32), View.readCov (Val := Elt F) arg17.view [⟨Rect.unit (s := S1024x128) ![0, 0] S1024x128.size inb, w⟩] (Rect.unit (s := S1024x128) ![0, 0] S512x128.size inb').toLoadRect = VecWindow.window (s := S1024x128) w ![0, 0] S512x128.size inb' := fun inb inb' w => by
    unfold View.readCov; rw [View.readAt_unit _ _ inb' rfl inb', View.read_writes_full]
  have b17 : ∀ inb inb' inb'' (w : Vec F S512x128 .f32) (w' : Vec F S1024x128 .f32), View.readCov (Val := Elt F) arg17.view [⟨Rect.unit (s := S1024x128) ![0, 0] S512x128.size inb, w⟩, ⟨Rect.unit (s := S1024x128) ![0, 0] S1024x128.size inb', w'⟩] (Rect.unit (s := S1024x128) ![0, 0] S1024x128.size inb'').toLoadRect = VecWindow.put (s := S1024x128) w' ![0, 0] S512x128.size w := fun inb inb' inb'' w w' => by
    unfold View.readCov; rw [View.readAt_full, View.read_writes_cons_put _ _ _ _ _ rfl, View.read_writes_full]
  have c17 : ∀ inb inb' (w : Vec F S1024x128 .f32) L, View.readCov (Val := Elt F) arg17.view (⟨Rect.unit (s := S1024x128) ![0, 0] S1024x128.size inb, w⟩ :: L) (Rect.unit (s := S1024x128) ![0, 0] S1024x128.size inb').toLoadRect = w := fun inb inb' w L => View.readCov_full (Val := Elt F) arg17.view inb' inb w L
  have w14a : ∀ inb, View.readAt (Elt F) arg14.view (Rect.unit (s := S8192x256) (k0_off7 (BitVec.ofNat 32 qi.val)) S512x256.size inb).toLoadRect (harg14.unread x14)
      = VecWindow.window x14 ![1024 * qi.val, 0] S512x256.size (half_inb0 qi) := fun inb => by
    rw [View.readAt_unit _ _ inb (off7_eq qi) (half_inb0 qi), harg14.read_unread]
  have w14b : ∀ inb, View.readAt (Elt F) arg14.view (Rect.unit (s := S8192x256) (k0_off9 (BitVec.ofNat 32 qi.val)) S512x256.size inb).toLoadRect (harg14.unread x14)
      = VecWindow.window x14 ![1024 * qi.val + 512, 0] S512x256.size (half_inb1 qi) := fun inb => by
    rw [View.readAt_unit _ _ inb (off9_eq qi) (half_inb1 qi), harg14.read_unread]
  rcases Nat.eq_zero_or_pos qi.val with hz | hz
  · have h7 : ¬ qi.val = 7 := by omega
    have hc6 := (c6_iff qi).2 hz
    have hc7 : ¬ k0_cond7 (wd qi) = 1#1 := fun h => (c7_iff qi).1 h hz
    have hc8 := (c8_iff qi).2 hz
    have hc9 : ¬ k0_cond9 (wd qi) = 1#1 := fun h => (c9_iff qi).1 h hz
    have hc10 : ¬ k0_cond10 (wd qi) = 1#1 := fun h => h7 ((c10_iff qi).1 h)
    have hc11 : ¬ k0_cond11 i = 1#1 := fun h => h7 (hi.1 h)
    sl_exec
    sl_step
    iapply Hk
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H7]
    · iexists _; isplitr; swap; · iexact H7
      ipureintro; exact harg7.read_unread _
    isplitl [H8]
    · iexists _; isplitr; swap; · iexact H8
      ipureintro; exact harg8.read_unread _
    isplitl [H9]
    · iexists _; isplitr; swap; · iexact H9
      ipureintro; exact harg9.read_unread _
    isplitl [H10]
    · iexists _; isplitr; swap; · iexact H10
      ipureintro; exact harg10.read_unread _
    isplitl [H11]
    · iexists _; isplitr; swap; · iexact H11
      ipureintro; rw [if_neg h7]; exact harg11.read_unread _
    isplitl [H12]
    · iexists _; isplitr; swap; · iexact H12
      ipureintro; rw [if_neg h7]; exact harg12.read_unread _
    isplitl [H13]
    · iexists _; isplitr; swap; · iexact H13
      ipureintro; rw [if_neg h7]; exact harg13.read_unread _
    isplitl [H14]
    · iexists _; isplitr; swap; · iexact H14
      ipureintro; unfold diagDq; rw [if_pos hz, if_pos hz]; exact (View.read_writes_cons_put _ _ _ _ _ (off8_eq qi)).trans (congrArg (fun z => VecWindow.put z _ _ _) ((View.read_writes_cons_put _ _ _ _ _ (off6_eq qi)).trans (congrArg (fun z => VecWindow.put z _ _ _) (harg14.read_unread x14))))
    isplitl [H15]
    · iexists _; iexists _; isplitr; swap; · iexact H15
      ipureintro; rfl
    isplitl [H16]
    · iexists _; isplitr; swap; · iexact H16
      ipureintro; exact View.read_writes_full _ _ _ _ _
    isplitl [H17]
    · iexists _; isplitr; swap; · iexact H17
      ipureintro; exact View.read_writes_full _ _ _ _ _
    isplitl [Hsem]
    · iexact Hsem
    iexists _; iexact HW
  · have hz' : ¬ qi.val = 0 := by omega
    have hc6 : ¬ k0_cond6 (wd qi) = 1#1 := fun h => hz' ((c6_iff qi).1 h)
    have hc7 := (c7_iff qi).2 hz'
    have hc8 : ¬ k0_cond8 (wd qi) = 1#1 := fun h => hz' ((c8_iff qi).1 h)
    have hc9 := (c9_iff qi).2 hz'
    by_cases h7 : qi.val = 7
    · have hc10 := (c10_iff qi).2 h7
      have hc11 := hi.2 h7
      sl_exec
      sl_step
      have hdq : View.read (Elt F) arg14.view (arg14.view.writes (Elt F) (harg14.unread x14) (run_diag.sl.H14_2 qi x5 x6 x7 x8 x9 x10 x14 hk2 hc5 hc7 hc9)) = diagDq qi x5 x6 x7 x8 x9 x10 x14 := by unfold diagDq; rw [if_neg hz', if_neg hz']; exact (View.read_writes_cons_put _ _ _ _ _ (off9_eq qi)).trans (congrArg (fun z => VecWindow.put z _ _ _) ((View.read_writes_cons_put _ _ _ _ _ (off7_eq qi)).trans (congrArg (fun z => VecWindow.put z _ _ _) (harg14.read_unread x14))))
      have hv : View.read (Elt F) arg15.view (arg15.view.writes (Elt F) (harg15.unread x15) (run_diag.sl.H15_1 c arg14 harg14 qi x5 x6 x7 x8 x9 x10 x14 hk2 hc5 hc7 hc9)) = k0_pay10 (diagDq qi x5 x6 x7 x8 x9 x10 x14) :=
        (View.read_writes_full _ _ _ _ _).trans (congrArg k0_pay10 ((View.readAt_full _ _ _).trans hdq))
      have hput : ∀ inb hs (w : Vec F S8192x256 .bf16), View.read (Elt F) arg11.view (View.write (Elt F) (arg11.slice (Rect.unit (k0_off10 i) S8192x256.size inb) hs).view (harg11.unread x11) w Finset.univ) = VecWindow.put x11 ![0, 256 * (i 0).val] S8192x256.size w := fun inb hs w =>
        (View.read_writes_cons_put arg11.view (harg11.unread x11) inb w [] (off10_eq i)).trans (congrArg (fun z => VecWindow.put z _ _ _) (harg11.read_unread x11))
      iapply Hk
      isplitl [H2]
      · iexists _; isplitr; swap; · iexact H2
        ipureintro; exact harg2.read_unread _
      isplitl [H3]
      · iexists _; isplitr; swap; · iexact H3
        ipureintro; exact harg3.read_unread _
      isplitl [H4]
      · iexists _; isplitr; swap; · iexact H4
        ipureintro; exact harg4.read_unread _
      isplitl [H5]
      · iexists _; isplitr; swap; · iexact H5
        ipureintro; exact harg5.read_unread _
      isplitl [H6]
      · iexists _; isplitr; swap; · iexact H6
        ipureintro; exact harg6.read_unread _
      isplitl [H7]
      · iexists _; isplitr; swap; · iexact H7
        ipureintro; exact harg7.read_unread _
      isplitl [H8]
      · iexists _; isplitr; swap; · iexact H8
        ipureintro; exact harg8.read_unread _
      isplitl [H9]
      · iexists _; isplitr; swap; · iexact H9
        ipureintro; exact harg9.read_unread _
      isplitl [H10]
      · iexists _; isplitr; swap; · iexact H10
        ipureintro; exact harg10.read_unread _
      isplitl [H11]
      · iexists _; isplitr; swap; · iexact H11
        ipureintro; rw [if_pos h7]; exact (hput _ _ _).trans (congrArg (VecWindow.put x11 _ _) hv)
      isplitl [H12]
      · iexists _; isplitr; swap; · iexact H12
        ipureintro; rw [if_pos h7]; exact View.read_writes_full _ _ _ _ _
      isplitl [H13]
      · iexists _; isplitr; swap; · iexact H13
        ipureintro; rw [if_pos h7]; exact View.read_writes_full _ _ _ _ _
      isplitl [H14]
      · iexists _; isplitr; swap; · iexact H14
        ipureintro; unfold diagDq; rw [if_neg hz', if_neg hz']; exact (View.read_writes_cons_put _ _ _ _ _ (off9_eq qi)).trans (congrArg (fun z => VecWindow.put z _ _ _) ((View.read_writes_cons_put _ _ _ _ _ (off7_eq qi)).trans (congrArg (fun z => VecWindow.put z _ _ _) (harg14.read_unread x14))))
      isplitl [H15]
      · iexists _; iexists _; isplitr; swap; · iexact H15
        ipureintro; rfl
      isplitl [H16]
      · iexists _; isplitr; swap; · iexact H16
        ipureintro; exact View.read_writes_full _ _ _ _ _
      isplitl [H17]
      · iexists _; isplitr; swap; · iexact H17
        ipureintro; exact View.read_writes_full _ _ _ _ _
      isplitl [Hsem]
      · iexact Hsem
      iexists _; iexact HW
    · have hc10 : ¬ k0_cond10 (wd qi) = 1#1 := fun h => h7 ((c10_iff qi).1 h)
      have hc11 : ¬ k0_cond11 i = 1#1 := fun h => h7 (hi.1 h)
      sl_exec
      sl_step
      iapply Hk
      isplitl [H2]
      · iexists _; isplitr; swap; · iexact H2
        ipureintro; exact harg2.read_unread _
      isplitl [H3]
      · iexists _; isplitr; swap; · iexact H3
        ipureintro; exact harg3.read_unread _
      isplitl [H4]
      · iexists _; isplitr; swap; · iexact H4
        ipureintro; exact harg4.read_unread _
      isplitl [H5]
      · iexists _; isplitr; swap; · iexact H5
        ipureintro; exact harg5.read_unread _
      isplitl [H6]
      · iexists _; isplitr; swap; · iexact H6
        ipureintro; exact harg6.read_unread _
      isplitl [H7]
      · iexists _; isplitr; swap; · iexact H7
        ipureintro; exact harg7.read_unread _
      isplitl [H8]
      · iexists _; isplitr; swap; · iexact H8
        ipureintro; exact harg8.read_unread _
      isplitl [H9]
      · iexists _; isplitr; swap; · iexact H9
        ipureintro; exact harg9.read_unread _
      isplitl [H10]
      · iexists _; isplitr; swap; · iexact H10
        ipureintro; exact harg10.read_unread _
      isplitl [H11]
      · iexists _; isplitr; swap; · iexact H11
        ipureintro; rw [if_neg h7]; exact harg11.read_unread _
      isplitl [H12]
      · iexists _; isplitr; swap; · iexact H12
        ipureintro; rw [if_neg h7]; exact harg12.read_unread _
      isplitl [H13]
      · iexists _; isplitr; swap; · iexact H13
        ipureintro; rw [if_neg h7]; exact harg13.read_unread _
      isplitl [H14]
      · iexists _; isplitr; swap; · iexact H14
        ipureintro; unfold diagDq; rw [if_neg hz', if_neg hz']; exact (View.read_writes_cons_put _ _ _ _ _ (off9_eq qi)).trans (congrArg (fun z => VecWindow.put z _ _ _) ((View.read_writes_cons_put _ _ _ _ _ (off7_eq qi)).trans (congrArg (fun z => VecWindow.put z _ _ _) (harg14.read_unread x14))))
      isplitl [H15]
      · iexists _; iexists _; isplitr; swap; · iexact H15
        ipureintro; rfl
      isplitl [H16]
      · iexists _; isplitr; swap; · iexact H16
        ipureintro; exact View.read_writes_full _ _ _ _ _
      isplitl [H17]
      · iexists _; isplitr; swap; · iexact H17
        ipureintro; exact View.read_writes_full _ _ _ _ _
      isplitl [Hsem]
      · iexact Hsem
      iexists _; iexact HW

end Cert.AttnRun
-- ==== Proof.Attn.State.lean ====
/- What the attention backward kernel holds from grid point to grid point: its tables, the blocks it is handed, and the
   accumulators as a recursion over the points. -/
module

public import proofs.«01_k».proof.Proof.Attn.Diag
public import Idealize.ShloMosaic.Lib.Pipeline.FrameBody
public import Idealize.ShloMosaic.Lib.Pipeline.FrameValue

@[expose] public section

set_option maxRecDepth 16384

noncomputable section

namespace Cert.AttnRun

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## The tables -/

/-- The block of queries, the block of keys and the mark of the diagonal, by the second grid coordinate. -/
def tab0 : S36.Idx → BitVec 32 := fun i => lit0 (S36.rowMajor i)
def tab1 : S36.Idx → BitVec 32 := fun i => lit1 (S36.rowMajor i)
def tab2 : S36.Idx → BitVec 32 := fun i => lit2 (S36.rowMajor i)

/-- The three tables as the region finds them. -/
def pfA : pre0.Contents (Elt F) := fun
  | ⟨0, _⟩ => tab0
  | ⟨1, _⟩ => tab1
  | ⟨2, _⟩ => tab2
  | ⟨_ + 3, h⟩ => absurd h (Nat.not_lt.2 (Nat.le_add_left _ _))

theorem ok_pfA : ok0 (F := F) pfA := of_decide_eq_true (by sl_kernel_rfl)

/-- The tables' contents with their side condition. -/
def adm : (pcfg0 (F := F)).Adm := ⟨pfA, ok_pfA⟩

/-- The pipeline at them. -/
abbrev cfgA : Cfg sig Λ₀ := cfg0 (adm (F := F))
/-- All pipelines of the program. -/
abbrev pcs : Fin 1 → Cfg sig Λ₀ := Pipeline.pin pcfgs fun _ => adm (F := F)

theorem q_lt : ∀ p : Fin 36, (lit0 p).toNat < 8 := by decide +kernel
theorem k_lt : ∀ p : Fin 36, (lit1 p).toNat < 8 := by decide +kernel
/-- The block of queries at a point. -/
def qb (t : Fin grid0.N) : Fin 8 := ⟨(lit0 (grid0.coords t 1)).toNat, q_lt _⟩
/-- The block of keys at a point. -/
def kb (t : Fin grid0.N) : Fin 8 := ⟨(lit1 (grid0.coords t 1)).toNat, k_lt _⟩

theorem mark : ∀ t : Fin grid0.N, (kb t = qb t ∧ lit2 (grid0.coords t 1) = 1#32) ∨ ((kb t).val < (qb t).val ∧ lit2 (grid0.coords t 1) = 0#32) := by
  decide +kernel
theorem last_iff : ∀ t : Fin grid0.N, kb t = qb t → (k0_cond11 (grid0.coords t) = 1#1 ↔ (qb t).val = 7) := by decide +kernel
theorem not_last : ∀ t : Fin grid0.N, (kb t).val < (qb t).val → ¬ k0_cond11 (grid0.coords t) = 1#1 := by decide +kernel

theorem word0 : ∀ (i : grid0.Coords) (j : S1.Idx), VecWindow.window (s := S36) tab0 (k0_off1 i) S1.size (k0_off1_inb i) j = BitVec.ofNat 32 (lit0 (i 1)).toNat := by
  decide +kernel
theorem word1 : ∀ (i : grid0.Coords) (j : S1.Idx), VecWindow.window (s := S36) tab1 (k0_off1 i) S1.size (k0_off1_inb i) j = BitVec.ofNat 32 (lit1 (i 1)).toNat := by
  decide +kernel
theorem word2 : ∀ (i : grid0.Coords) (j : S1.Idx), VecWindow.window (s := S36) tab2 (k0_off1 i) S1.size (k0_off1_inb i) j = lit2 (i 1) := by
  decide +kernel

/-! ## The windows -/

theorem idle6 : ∀ t : Fin grid0.N, (cfgA (F := F)).idle 6 (grid0.coords t) = !decide ((qb t).val = 7) := of_decide_eq_true (by sl_kernel_rfl)
theorem idle7 : ∀ t : Fin grid0.N, (cfgA (F := F)).idle 7 (grid0.coords t) = !decide ((qb t).val = 7) := of_decide_eq_true (by sl_kernel_rfl)
theorem flush6 : ∀ t : Fin grid0.N, ¬ (qb t).val = 7 → ((cfgA (F := F)).win 6).flush t = false := of_decide_eq_true (by sl_kernel_rfl)
theorem flush7 : ∀ t : Fin grid0.N, ¬ (qb t).val = 7 → ((cfgA (F := F)).win 7).flush t = false := of_decide_eq_true (by sl_kernel_rfl)

/-! ## @main up to the region -/

/-- The buffers as the region finds them: after the host operations. -/
abbrev V (c : Dev nD) (b : Ref sig .tc) : Buf (Elt F) ((c : Thread nD τ).loc b) := StableHlo.after hostOps0 (fun b => m (c, b)) b

/-- A window's block at a point. -/
def iblk (c : Dev nD) (w : Fin (cfgA (F := F)).W) (t : Fin grid0.N) : (((cfgA (F := F)).win w).xblock (grid0.coords t)).Idx → Elt F ((cfgA (F := F)).win w).elt :=
  (((cfgA (F := F)).win w).blk t).view.read (Elt F) (V m c (Pipeline.arrRef spec0 w))

/-- The blocks of the six operands. -/
def bQ (c : Dev nD) (t : Fin grid0.N) : Vec F S1024x256 .bf16 := iblk m c 0 t
def bK (c : Dev nD) (t : Fin grid0.N) : Vec F S1024x256 .bf16 := iblk m c 1 t
def bV (c : Dev nD) (t : Fin grid0.N) : Vec F S1024x128 .bf16 := iblk m c 2 t
def bO (c : Dev nD) (t : Fin grid0.N) : Vec F S1024x128 .bf16 := iblk m c 3 t
def bL (c : Dev nD) (t : Fin grid0.N) : Vec F S1024x128 .f32 := iblk m c 4 t
def bD (c : Dev nD) (t : Fin grid0.N) : Vec F S1024x128 .f32 := iblk m c 5 t

/-! ## The accumulators -/

/-- The accumulators: of the query gradient, of the key gradient, of the value gradient. -/
abbrev St3 (F : FTy → Type) : Type := Vec F S8192x256 .f32 × Vec F S1024x256 .f32 × Vec F S1024x128 .f32

/-- One point's change of the accumulators. -/
def step (c : Dev nD) (t : Fin grid0.N) (s : St3 F) : St3 F :=
  if kb t = qb t then
    (diagDq (qb t) (bQ m c t) (bK m c t) (bV m c t) (bO m c t) (bL m c t) (bD m c t) s.1,
     diagDk (bQ m c t) (bK m c t) (bV m c t) (bO m c t) (bL m c t) (bD m c t),
     diagDv (bQ m c t) (bK m c t) (bO m c t) (bL m c t))
  else
    (offDq (qb t) (kb t) (bQ m c t) (bK m c t) (bV m c t) (bO m c t) (bL m c t) (bD m c t) s.1,
     offDk (bQ m c t) (bK m c t) (bV m c t) (bO m c t) (bL m c t) (bD m c t) s.2.1,
     offDv (bQ m c t) (bK m c t) (bO m c t) (bL m c t) s.2.2)

/-- The accumulators before point `n`, from what they hold at first. -/
def St (c : Dev nD) (s : St3 F) : ℕ → St3 F
  | 0 => s
  | n + 1 => if h : n < grid0.N then step m c ⟨n, h⟩ (St c s n) else St c s n

theorem St_succ (c : Dev nD) (s : St3 F) (t : Fin grid0.N) : St m c s (t.val + 1) = step m c t (St m c s t.val) :=
  dif_pos t.isLt

theorem first_diag : kb ⟨0, by decide⟩ = qb ⟨0, by decide⟩ := by decide +kernel

/-- After the first point the key and value accumulators do not depend on what they held at first. -/
theorem kv_indep (c : Dev nD) (s s' : St3 F) : ∀ n, n < grid0.N → (St m c s (n + 1)).2 = (St m c s' (n + 1)).2
  | 0, h => by
    rw [show St m c s (0 + 1) = _ from St_succ m c s ⟨0, h⟩, show St m c s' (0 + 1) = _ from St_succ m c s' ⟨0, h⟩]
    unfold step; rw [if_pos first_diag, if_pos first_diag]
  | n + 1, h => by
    have ih := kv_indep c s s' n (by omega)
    rw [show St m c s (n + 1 + 1) = _ from St_succ m c s ⟨n + 1, h⟩, show St m c s' (n + 1 + 1) = _ from St_succ m c s' ⟨n + 1, h⟩]
    unfold step; dsimp only; rw [ih]
    split <;> rfl

/-- Rows put over rows that agree above: they agree further down. -/
theorem put_rows {α : Type} (x x' : S8192x256.Idx → α) (n k : ℕ) (size : Fin 2 → ℕ) (h0 : size 0 = k) (h1 : size 1 = 256) (w : ((a : Fin 2) → Fin (size a)) → α)
    (h : ∀ j : S8192x256.Idx, (j 0).val < n → x j = x' j) (j : S8192x256.Idx) (hj : (j 0).val < n + k) :
    VecWindow.put (s := S8192x256) x ![n, 0] size w j = VecWindow.put (s := S8192x256) x' ![n, 0] size w j := by
  unfold VecWindow.put
  by_cases hh : ∀ a : Fin 2, (![n, 0] : Fin 2 → ℕ) a ≤ (j a).val ∧ (j a).val < (![n, 0] : Fin 2 → ℕ) a + size a
  · rw [dif_pos hh, dif_pos hh]
  · rw [dif_neg hh, dif_neg hh]
    refine h j ?_
    by_contra hn
    have hc : (j 1).val < 256 := (j 1).isLt
    refine hh fun a => ?_
    match a with
    | ⟨0, _⟩ => show n ≤ (j 0).val ∧ (j 0).val < n + size 0; omega
    | ⟨1, _⟩ => show 0 ≤ (j 1).val ∧ (j 1).val < 0 + size 1; omega

theorem first8 : ∀ n : Fin 8, (qb ⟨n.val, n.isLt.trans (by decide)⟩).val = n.val ∧ (kb ⟨n.val, n.isLt.trans (by decide)⟩).val = 0 := by decide +kernel

/-- Over the first head's first block of keys every row of the query accumulator is set anew. -/
theorem dq_agree (c : Dev nD) (s s' : St3 F) : ∀ n ≤ 8, ∀ j : S8192x256.Idx, (j 0).val < 1024 * n → (St m c s n).1 j = (St m c s' n).1 j
  | 0, _, j, hj => absurd hj (by omega)
  | n + 1, hn, j, hj => by
    have ih := dq_agree c s s' n (by omega)
    have hN : n < grid0.N := by have : grid0.N = 144 := N_0; omega
    obtain ⟨hq, hk⟩ := first8 ⟨n, by omega⟩
    rw [show St m c s (n + 1) = _ from St_succ m c s ⟨n, hN⟩, show St m c s' (n + 1) = _ from St_succ m c s' ⟨n, hN⟩]
    unfold step
    by_cases hd : kb ⟨n, hN⟩ = qb ⟨n, hN⟩
    · have hz : (qb ⟨n, hN⟩).val = 0 := by rw [← hd]; exact hk
      rw [if_pos hd, if_pos hd]
      unfold diagDq
      simp only [if_pos hz]
      have hn0 : n = 0 := hq.symm.trans hz
      simp only [hz]
      refine put_rows _ _ 512 512 _ rfl rfl _ (fun j hj => put_rows _ _ 0 512 _ rfl rfl _ (fun j hj => absurd hj (by omega)) j hj) j (by omega)
    · rw [if_neg hd, if_neg hd]
      unfold offDq
      simp only [if_pos hk, show (qb ⟨n, hN⟩).val = n from hq]
      exact put_rows _ _ (1024 * n) 1024 _ rfl rfl _ ih j (by omega)

/-- From the eighth point on the accumulators do not depend on what they held at first. -/
theorem St_indep (c : Dev nD) (s s' : St3 F) : ∀ n, 8 ≤ n → n ≤ grid0.N → St m c s n = St m c s' n := by
  intro n h8
  induction n, h8 using Nat.le_induction with
  | base =>
    intro _
    refine Prod.ext (funext fun j => dq_agree m c s s' 8 le_rfl j ?_) (kv_indep m c s s' 7 (by decide))
    exact (j 0).isLt
  | succ n h ih =>
    intro hn
    rw [show St m c s (n + 1) = _ from St_succ m c s ⟨n, hn⟩, show St m c s' (n + 1) = _ from St_succ m c s' ⟨n, hn⟩, ih (by omega)]

/-- Some contents of the accumulators. -/
def st0 : St3 F :=
  (fun _ => FloatOps.ofBits (F := F) .f32 0#32, fun _ => FloatOps.ofBits (F := F) .f32 0#32, fun _ => FloatOps.ofBits (F := F) .f32 0#32)

/-! ## The query gradient's array -/

/-- The query gradient's array before point `n`: each head writes its columns at its last point. -/
def HB (c : Dev nD) : ℕ → Vec F S8192x1024 .bf16
  | 0 => V m c main_v55_0
  | n + 1 => if h : n < grid0.N then
      if kb ⟨n, h⟩ = qb ⟨n, h⟩ ∧ (qb ⟨n, h⟩).val = 7 then
        VecWindow.put (HB c n) ![0, 256 * (grid0.coords ⟨n, h⟩ 0).val] S8192x256.size (k0_pay10 (St m c st0 (n + 1)).1)
      else HB c n
    else HB c n

theorem HB_succ (c : Dev nD) (t : Fin grid0.N) : HB m c (t.val + 1) = if kb t = qb t ∧ (qb t).val = 7 then
    VecWindow.put (HB m c t.val) ![0, 256 * (grid0.coords t 0).val] S8192x256.size (k0_pay10 (St m c st0 (t.val + 1)).1) else HB m c t.val :=
  dif_pos t.isLt

theorem last_late : ∀ t : Fin grid0.N, kb t = qb t ∧ (qb t).val = 7 → 8 ≤ t.val := by decide +kernel

end Cert.AttnRun
-- ==== Proof.Attn.Frame.lean ====
/- The attention backward kernel's frame: its invariant, the body obligation, the launch. -/
module

public import proofs.«01_k».proof.Proof.Attn.State
public import Idealize.ShloMosaic.Lib.Claim

@[expose] public section

set_option maxRecDepth 16384

noncomputable section

namespace Cert.AttnRun

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## The invariant -/

/-- The kernel's own semaphore. -/
abbrev osem0 : Fin 1 → SemLoc sig := fun j => (![SemLoc.dma 16] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 16) 0) := by
  rw [Pipeline.ownSems0_eq_of_list c osem0 [0] (by decide) (by decide)]; rfl

/-- No operand left in place is only read. -/
def H0 : Finset (Ref sig .tc) := {}
/-- The query gradient is written by the body's own copies. -/
def R0 : Finset (Ref sig .tc) := {main_v55_0}
theorem H0_sub : H0 ⊆ Pipeline.restRefsP sig pre0 spec0 := by decide
theorem R0_sub : R0 ⊆ Pipeline.restRefsP sig pre0 spec0 \ H0 := by decide

/-- What the query gradient's array ends with. -/
def Gf (c : Dev nD) (b : Ref sig .tc) : Buf (Elt F) ((c : Thread nD τ).loc b) :=
  if h : b = main_v55_0 then h ▸ HB m c grid0.N else V m c b

/-- The tables, held at half. -/
def tabs (c : Dev nD) : sProp 𝕄 :=
  iprop(owns (c : Thread nD τ) (Memref.whole main_c) fullShare.right (Val := Elt F) tab0 ∗ owns (c : Thread nD τ) (Memref.whole main_c_0) fullShare.right (Val := Elt F) tab1
    ∗ owns (c : Thread nD τ) (Memref.whole main_c_1) fullShare.right (Val := Elt F) tab2)

theorem ΦT_eq (c : Dev nD) : (Pipeline.ΦT pre0 (pfA (F := F)) c : sProp 𝕄) = tabs c := by
  unfold Pipeline.ΦT Pipeline.prefHeld tabs
  simp only [owns_whole]
  rw [bigSep_univ_eq_bigSepL [(0 : Fin 3), (1 : Fin 3), (2 : Fin 3)] (by decide) (by decide)]
  rfl

/-- The invariant before point `n`. -/
def Inv (c : Dev nD) (n : ℕ) : sProp 𝕄 :=
  iprop((∃ s : St3 F, owns (c : Thread nD τ) (Memref.whole cc0_scratch0) fullShare (St m c s n).1
      ∗ owns (c : Thread nD τ) (Memref.whole cc0_scratch2) fullShare (St m c s n).2.1
      ∗ owns (c : Thread nD τ) (Memref.whole cc0_scratch3) fullShare (St m c s n).2.2)
    ∗ (∃ y, owns (c : Thread nD τ) (Memref.whole cc0_scratch1) fullShare y)
    ∗ (∃ r, prngReg c r) ∗ semVal ((c : Thread nD τ), SemLoc.dma 16) 0
    ∗ owns (c : Thread nD τ) (Memref.whole main_v55_0) fullShare (HB m c n) ∗ tabs c)

/-- The proof data. -/
def dats (_ : Fin 1) (c : Dev nD) : Dat τ (Elt F) Unit ℕ (Pipeline.UD sig nD τ) ℕ (cfgA (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay8 (St m c st0 (t.val + 1)).2.1
    | ⟨7, _⟩ => k0_pay9 (St m c st0 (t.val + 1)).2.2
  Φ t := Inv m c t.val
  q _ := fullShare
  owed _ := 0

theorem A_eq (c : Dev nD) (w : Fin (cfgA (F := F)).W) : (dats m 0 c).A w = V m c (Pipeline.arrRef spec0 w) := by
  dsimp only [dats]

theorem after0 (c : Dev nD) (t : Fin grid0.N) : (dats m 0 c).after 0 t = iblk m c 0 t := rfl
theorem after1 (c : Dev nD) (t : Fin grid0.N) : (dats m 0 c).after 1 t = iblk m c 1 t := rfl
theorem after2 (c : Dev nD) (t : Fin grid0.N) : (dats m 0 c).after 2 t = iblk m c 2 t := rfl
theorem after3 (c : Dev nD) (t : Fin grid0.N) : (dats m 0 c).after 3 t = iblk m c 3 t := rfl
theorem after4 (c : Dev nD) (t : Fin grid0.N) : (dats m 0 c).after 4 t = iblk m c 4 t := rfl
theorem after5 (c : Dev nD) (t : Fin grid0.N) : (dats m 0 c).after 5 t = iblk m c 5 t := rfl
theorem after6 (c : Dev nD) (t : Fin grid0.N) : (dats m 0 c).after 6 t = k0_pay8 (St m c st0 (t.val + 1)).2.1 := rfl
theorem after7 (c : Dev nD) (t : Fin grid0.N) : (dats m 0 c).after 7 t = k0_pay9 (St m c st0 (t.val + 1)).2.2 := rfl

/-- An operand's staging buffer holds its block. -/
theorem before_in (c : Dev nD) (w : Fin (cfgA (F := F)).W) (hw : ((cfgA (F := F)).win w).isOut = false) (hl : ∀ i, (cfgA (F := F)).idle w i = false)
    (hc : ∀ i, ((cfgA (F := F)).win w).clip i = fun _ => none)
    (ha : ∀ t, ((cfgA (F := F)).win w).cut (grid0.coords t) ((dats m 0 c).after w t) = iblk m c w t) (t : Fin grid0.N) (d) :
    (dats m 0 c).before w t d = (dats m 0 c).fetched w t d :=
  (dats m 0 c).before_in_eq_fetched w hw hl (fun t t' _ => (hc _).trans (hc _).symm)
    (fun t => by rw [ha]; unfold Dat.blockOf iblk; rw [A_eq]; try rfl) t d

theorem before0 (c : Dev nD) (t : Fin grid0.N) (d) : (dats m 0 c).before 0 t d = iblk m c 0 t :=
  (before_in m c 0 rfl (fun _ => rfl) (fun _ => rfl) (fun t => by rw [after0]; try rfl) t d).trans (by unfold Dat.fetched Dat.blockOf iblk; rw [A_eq]; try rfl)
theorem before1 (c : Dev nD) (t : Fin grid0.N) (d) : (dats m 0 c).before 1 t d = iblk m c 1 t :=
  (before_in m c 1 rfl (fun _ => rfl) (fun _ => rfl) (fun t => by rw [after1]; try rfl) t d).trans (by unfold Dat.fetched Dat.blockOf iblk; rw [A_eq]; try rfl)
theorem before2 (c : Dev nD) (t : Fin grid0.N) (d) : (dats m 0 c).before 2 t d = iblk m c 2 t :=
  (before_in m c 2 rfl (fun _ => rfl) (fun _ => rfl) (fun t => by rw [after2]; try rfl) t d).trans (by unfold Dat.fetched Dat.blockOf iblk; rw [A_eq]; try rfl)
theorem before3 (c : Dev nD) (t : Fin grid0.N) (d) : (dats m 0 c).before 3 t d = iblk m c 3 t :=
  (before_in m c 3 rfl (fun _ => rfl) (fun _ => rfl) (fun t => by rw [after3]; try rfl) t d).trans (by unfold Dat.fetched Dat.blockOf iblk; rw [A_eq]; try rfl)
theorem before4 (c : Dev nD) (t : Fin grid0.N) (d) : (dats m 0 c).before 4 t d = iblk m c 4 t :=
  (before_in m c 4 rfl (fun _ => rfl) (fun _ => rfl) (fun t => by rw [after4]; try rfl) t d).trans (by unfold Dat.fetched Dat.blockOf iblk; rw [A_eq]; try rfl)
theorem before5 (c : Dev nD) (t : Fin grid0.N) (d) : (dats m 0 c).before 5 t d = iblk m c 5 t :=
  (before_in m c 5 rfl (fun _ => rfl) (fun _ => rfl) (fun t => by rw [after5]; try rfl) t d).trans (by unfold Dat.fetched Dat.blockOf iblk; rw [A_eq]; try rfl)

/-! ## The body obligation -/

/-- A window's staging buffer at a point. -/
abbrev ms (w : Fin (cfgA (F := F)).W) (t : Fin grid0.N) := ((cfgA (F := F)).win w).stage ((cfgA (F := F)).slots t w)

/-- The body at a point. -/
def bodyAt (t : Fin grid0.N) : Prog (TpuEff nD τ sig (Elt F) Λ₀ .tc) PUnit :=
  defs₀ (F := F) .tc (cfgA (F := F)).body ((cfgA (F := F)).bodyArgs t ((cfgA (F := F)).slots t))

def bodyPre (c : Dev nD) (t : Fin grid0.N) : sProp 𝕄 :=
  iprop((dats m 0 c).Φ t.castSucc ∗ (dats m 0 c).owesAt () t.castSucc
    ∗ (∃ d, owns (c : Thread nD τ) (ms 0 t) fullShare ((dats m 0 c).before 0 t d))
    ∗ (∃ d, owns (c : Thread nD τ) (ms 1 t) fullShare ((dats m 0 c).before 1 t d))
    ∗ (∃ d, owns (c : Thread nD τ) (ms 2 t) fullShare ((dats m 0 c).before 2 t d))
    ∗ (∃ d, owns (c : Thread nD τ) (ms 3 t) fullShare ((dats m 0 c).before 3 t d))
    ∗ (∃ d, owns (c : Thread nD τ) (ms 4 t) fullShare ((dats m 0 c).before 4 t d))
    ∗ (∃ d, owns (c : Thread nD τ) (ms 5 t) fullShare ((dats m 0 c).before 5 t d))
    ∗ (∃ d, owns (c : Thread nD τ) (ms 6 t) fullShare ((dats m 0 c).before 6 t d))
    ∗ (∃ d, owns (c : Thread nD τ) (ms 7 t) fullShare ((dats m 0 c).before 7 t d)))

def bodyPost (c : Dev nD) (t : Fin grid0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t)

/-- An operand is handed back as found. -/
theorem leaves_in (c : Dev nD) (w : Fin (cfgA (F := F)).W) (hl : ∀ i, (cfgA (F := F)).idle w i = false) (t : Fin grid0.N) :
    (dats m 0 c).leavesExact w t = owns (c : Thread nD τ) (ms w t) fullShare ((dats m 0 c).after w t) := by
  unfold Dat.leavesExact; rw [hl]

/-- The key gradient is stored at a block's last point and the buffer handed back as found at the others. -/
theorem leaves6 (c : Dev nD) (t : Fin grid0.N) (x d) (hx : x = (dats m 0 c).after 6 t) :
    owns (c : Thread nD τ) (ms 6 t) fullShare (if (qb t).val = 7 then x else (dats m 0 c).before 6 t d) ⊢ (dats m 0 c).leavesExact 6 t := by
  by_cases h : (qb t).val = 7
  · rw [show (dats m 0 c).leavesExact 6 t = owns (c : Thread nD τ) (ms 6 t) fullShare ((dats m 0 c).after 6 t) from by
      unfold Dat.leavesExact; rw [idle6 t, decide_eq_true h]; rfl, if_pos h, hx]
  · rw [Dat.leavesExact_idle (dats m 0 c) 6 t (by rw [idle6 t, decide_eq_false h]; rfl) (flush6 t h), if_neg h]
    iintro H; iexists d; iexact H

theorem leaves7 (c : Dev nD) (t : Fin grid0.N) (x d) (hx : x = (dats m 0 c).after 7 t) :
    owns (c : Thread nD τ) (ms 7 t) fullShare (if (qb t).val = 7 then x else (dats m 0 c).before 7 t d) ⊢ (dats m 0 c).leavesExact 7 t := by
  by_cases h : (qb t).val = 7
  · rw [show (dats m 0 c).leavesExact 7 t = owns (c : Thread nD τ) (ms 7 t) fullShare ((dats m 0 c).after 7 t) from by
      unfold Dat.leavesExact; rw [idle7 t, decide_eq_true h]; rfl, if_pos h, hx]
  · rw [Dat.leavesExact_idle (dats m 0 c) 7 t (by rw [idle7 t, decide_eq_false h]; rfl) (flush7 t h), if_neg h]
    iintro H; iexists d; iexact H

/-- A word of a table. -/
theorem word_of {t : Vec F S36 .i32} {w : BitVec 32} {arg : Memref sig .tc .smem S36 .i32} (harg : arg.IsWhole) (i : grid0.Coords)
    (h : ∀ j : S1.Idx, VecWindow.window (s := S36) t (k0_off1 i) S1.size (k0_off1_inb i) j = w) :
    View.readAt (Elt F) arg.view (Rect.unit (s := S36) (k0_off1 i) S1.size (k0_off1_inb i)).toLoadRect (harg.unread t) = fun _ => w := by
  rw [View.readAt_unit _ _ (k0_off1_inb i) rfl (k0_off1_inb i), harg.read_unread]; exact funext h

theorem sound_diag (c : Dev nD) (t : Fin grid0.N) (hk : kb t = qb t) (hm : lit2 (grid0.coords t 1) = 1#32) :
    bodyPre m c t ⊢ wp frame (wpE (defs₀ (F := F)) Variants.none c none) Set.univ (bodyAt (F := F) t) fun _ => bodyPost m c t := by
  unfold bodyPre bodyPost
  simp only [before0, before1, before2, before3, before4, before5]
  rw [leaves_in m c 0 (fun _ => rfl), leaves_in m c 1 (fun _ => rfl), leaves_in m c 2 (fun _ => rfl), leaves_in m c 3 (fun _ => rfl), leaves_in m c 4 (fun _ => rfl), leaves_in m c 5 (fun _ => rfl),
    after0, after1, after2, after3, after4, after5]
  rw [show (dats m 0 c).Φ t.castSucc = Inv m c t.val from rfl, show (dats m 0 c).Φ t.succ = Inv m c (t.val + 1) from rfl]
  unfold Dat.owesAt Pipeline.owesWithin Inv tabs
  rw [show (dats m 0 c).owed t.castSucc = 0 from rfl, show (dats m 0 c).owed t.succ = 0 from rfl]
  iintro ⟨⟨⟨%s, H14, H16, H17⟩, ⟨%y, H15⟩, Hp, Hs, H11, H2, H3, H4⟩, ⟨%W, -, HW⟩, ⟨%_, H5⟩, ⟨%_, H6⟩, ⟨%_, H7⟩, ⟨%_, H8⟩, ⟨%_, H9⟩, ⟨%_, H10⟩, ⟨%d12, H12⟩, ⟨%d13, H13⟩⟩
  have hst : ∀ s, St m c s (t.val + 1) = (diagDq (qb t) (bQ m c t) (bK m c t) (bV m c t) (bO m c t) (bL m c t) (bD m c t) (St m c s t.val).1,
      diagDk (bQ m c t) (bK m c t) (bV m c t) (bO m c t) (bL m c t) (bD m c t), diagDv (bQ m c t) (bK m c t) (bO m c t) (bL m c t)) := fun s => by
    rw [St_succ]; unfold step; rw [if_pos hk]
  iapply (run_diag c (grid0.coords t) (Memref.whole main_c) (Memref.isWhole_whole _) (Memref.whole main_c_0) (Memref.isWhole_whole _) (Memref.whole main_c_1) (Memref.isWhole_whole _)
    (ms 0 t) (hstage0_0 _) (ms 1 t) (hstage0_1 _) (ms 2 t) (hstage0_2 _) (ms 3 t) (hstage0_3 _) (ms 4 t) (hstage0_4 _) (ms 5 t) (hstage0_5 _)
    (Memref.whole main_v55_0) (Memref.isWhole_whole _) (ms 6 t) (hstage0_6 _) (ms 7 t) (hstage0_7 _)
    (Memref.whole cc0_scratch0) (Memref.isWhole_whole _) (Memref.whole cc0_scratch1) (Memref.isWhole_whole _) (Memref.whole cc0_scratch2) (Memref.isWhole_whole _) (Memref.whole cc0_scratch3) (Memref.isWhole_whole _)
    (qb t) tab0 tab1 tab2 (last_iff t hk) (word_of _ _ (word0 _)) (word_of _ _ fun j => (word1 _ j).trans (congrArg (fun x : Fin 8 => BitVec.ofNat 32 x.val) hk)) (word_of _ _ fun j => (word2 _ j).trans hm)
    (bQ m c t) (bK m c t) (bV m c t) (bO m c t) (bL m c t) (bD m c t) (HB m c t.val) _ _ (St m c s t.val).1 y (St m c s t.val).2.1 (St m c s t.val).2.2 W _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [Hs]; · iexact Hs
  isplitl [HW]; · iexact HW
  iintro ⟨H2, H3, H4, H5, H6, H7, H8, H9, H10, H11, H12, H13, H14, H15, H16, H17, Hs, HW⟩
  have hH : HB m c (t.val + 1) = if (qb t).val = 7 then VecWindow.put (HB m c t.val) ![0, 256 * (grid0.coords t 0).val] S8192x256.size
      (k0_pay10 (diagDq (qb t) (bQ m c t) (bK m c t) (bV m c t) (bO m c t) (bL m c t) (bD m c t) (St m c s t.val).1)) else HB m c t.val := by
    rw [HB_succ]
    by_cases h7 : (qb t).val = 7
    · rw [if_pos h7, if_pos ⟨hk, h7⟩, St_indep m c st0 s (t.val + 1) (by have := last_late t ⟨hk, h7⟩; omega) t.isLt, hst]
    · rw [if_neg h7, if_neg (fun h => h7 h.2)]
  rw [hH]
  isplitl [H14 H15 H16 H17 Hp Hs H11 H2 H3 H4]
  · isplitl [H14 H16 H17]
    · iexists s
      rw [hst]
      isplitl [H14]; · iexact H14
      isplitl [H16]; · iexact H16
      iexact H17
    isplitl [H15]; · iexact H15
    isplitl [Hp]; · iexact Hp
    isplitl [Hs]; · iexact Hs
    isplitl [H11]; · iexact H11
    isplitl [H2]; · iexact H2
    isplitl [H3]; · iexact H3
    iexact H4
  isplitl [HW]
  · icases HW with ⟨%W', HW'⟩
    iexists W'; isplitr
    · ipureintro; exact fun _ _ => Or.inl trivial
    iexact HW'
  isplitl [H5]; · iexact H5
  isplitl [H6]; · iexact H6
  isplitl [H7]; · iexact H7
  isplitl [H8]; · iexact H8
  isplitl [H9]; · iexact H9
  isplitl [H10]; · iexact H10
  isplitl [H12]
  · iapply (leaves6 m c t (k0_pay8 (diagDk (bQ m c t) (bK m c t) (bV m c t) (bO m c t) (bL m c t) (bD m c t))) d12 (by rw [after6, kv_indep m c st0 s t.val t.isLt, hst])); iexact H12
  iapply (leaves7 m c t (k0_pay9 (diagDv (bQ m c t) (bK m c t) (bO m c t) (bL m c t))) d13 (by rw [after7, kv_indep m c st0 s t.val t.isLt, hst])); iexact H13

theorem sound_off (c : Dev nD) (t : Fin grid0.N) (hk : (kb t).val < (qb t).val) (hm : lit2 (grid0.coords t 1) = 0#32) :
    bodyPre m c t ⊢ wp frame (wpE (defs₀ (F := F)) Variants.none c none) Set.univ (bodyAt (F := F) t) fun _ => bodyPost m c t := by
  have hne : ¬ kb t = qb t := fun h => by rw [h] at hk; omega
  unfold bodyPre bodyPost
  simp only [before0, before1, before2, before3, before4, before5]
  rw [leaves_in m c 0 (fun _ => rfl), leaves_in m c 1 (fun _ => rfl), leaves_in m c 2 (fun _ => rfl), leaves_in m c 3 (fun _ => rfl), leaves_in m c 4 (fun _ => rfl), leaves_in m c 5 (fun _ => rfl),
    after0, after1, after2, after3, after4, after5]
  rw [show (dats m 0 c).Φ t.castSucc = Inv m c t.val from rfl, show (dats m 0 c).Φ t.succ = Inv m c (t.val + 1) from rfl]
  unfold Dat.owesAt Pipeline.owesWithin Inv tabs
  rw [show (dats m 0 c).owed t.castSucc = 0 from rfl, show (dats m 0 c).owed t.succ = 0 from rfl]
  iintro ⟨⟨⟨%s, H14, H16, H17⟩, ⟨%y, H15⟩, Hp, Hs, H11, H2, H3, H4⟩, ⟨%W, -, HW⟩, ⟨%_, H5⟩, ⟨%_, H6⟩, ⟨%_, H7⟩, ⟨%_, H8⟩, ⟨%_, H9⟩, ⟨%_, H10⟩, ⟨%d12, H12⟩, ⟨%d13, H13⟩⟩
  have hst : ∀ s, St m c s (t.val + 1) = (offDq (qb t) (kb t) (bQ m c t) (bK m c t) (bV m c t) (bO m c t) (bL m c t) (bD m c t) (St m c s t.val).1,
      offDk (bQ m c t) (bK m c t) (bV m c t) (bO m c t) (bL m c t) (bD m c t) (St m c s t.val).2.1, offDv (bQ m c t) (bK m c t) (bO m c t) (bL m c t) (St m c s t.val).2.2) := fun s => by
    rw [St_succ]; unfold step; rw [if_neg hne]
  iapply (run_off c (grid0.coords t) (Memref.whole main_c) (Memref.isWhole_whole _) (Memref.whole main_c_0) (Memref.isWhole_whole _) (Memref.whole main_c_1) (Memref.isWhole_whole _)
    (ms 0 t) (hstage0_0 _) (ms 1 t) (hstage0_1 _) (ms 2 t) (hstage0_2 _) (ms 3 t) (hstage0_3 _) (ms 4 t) (hstage0_4 _) (ms 5 t) (hstage0_5 _)
    (Memref.whole main_v55_0) (Memref.isWhole_whole _) (ms 6 t) (hstage0_6 _) (ms 7 t) (hstage0_7 _)
    (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4
    (qb t) (kb t) tab0 tab1 tab2 hk (not_last t hk) (word_of _ _ (word0 _)) (word_of _ _ (word1 _)) (word_of _ _ fun j => (word2 _ j).trans hm)
    (bQ m c t) (bK m c t) (bV m c t) (bO m c t) (bL m c t) (bD m c t) _ _ (St m c s t.val).1 (St m c s t.val).2.1 (St m c s t.val).2.2 _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H12]; · iexact H12
  isplitl [H13]; · iexact H13
  isplitl [H14]; · iexact H14
  isplitl [H16]; · iexact H16
  isplitl [H17]; · iexact H17
  iintro ⟨H2, H3, H4, H5, H6, H7, H8, H9, H10, H12, H13, H14, H16, H17⟩
  have hH : HB m c (t.val + 1) = HB m c t.val := by rw [HB_succ, if_neg (fun h => hne h.1)]
  rw [hH]
  isplitl [H14 H15 H16 H17 Hp Hs H11 H2 H3 H4]
  · isplitl [H14 H16 H17]
    · iexists s
      rw [hst]
      isplitl [H14]; · iexact H14
      isplitl [H16]; · iexact H16
      iexact H17
    isplitl [H15]; · iexists y; iexact H15
    isplitl [Hp]; · iexact Hp
    isplitl [Hs]; · iexact Hs
    isplitl [H11]; · iexact H11
    isplitl [H2]; · iexact H2
    isplitl [H3]; · iexact H3
    iexact H4
  isplitl [HW]
  · iexists W; isplitr
    · ipureintro; exact fun _ _ => Or.inl trivial
    iexact HW
  isplitl [H5]; · iexact H5
  isplitl [H6]; · iexact H6
  isplitl [H7]; · iexact H7
  isplitl [H8]; · iexact H8
  isplitl [H9]; · iexact H9
  isplitl [H10]; · iexact H10
  isplitl [H12]
  · iapply (leaves6 m c t (k0_pay8 (offDk (bQ m c t) (bK m c t) (bV m c t) (bO m c t) (bL m c t) (bD m c t) (St m c s t.val).2.1)) d12 (by rw [after6, kv_indep m c st0 s t.val t.isLt, hst])); iexact H12
  iapply (leaves7 m c t (k0_pay9 (offDv (bQ m c t) (bK m c t) (bO m c t) (bL m c t) (St m c s t.val).2.2)) d13 (by rw [after7, kv_indep m c st0 s t.val t.isLt, hst])); iexact H13

theorem sound_body (c : Dev nD) (t : Fin grid0.N) :
    bodyPre m c t ⊢ wp frame (wpE (defs₀ (F := F)) Variants.none c none) Set.univ (bodyAt (F := F) t) fun _ => bodyPost m c t := by
  rcases mark t with ⟨h, hm⟩ | ⟨h, hm⟩
  · exact sound_diag m c t h hm
  · exact sound_off m c t h hm

theorem body_obligation (c : Dev nD) : BodyObligation (dats m 0 c) (defs₀ (F := F)) Variants.none () Set.univ := fun t => by
  rw [bigSep_W0, bigSep_W0]
  exact triple_restated (sound_body m c t) rfl .rfl fun _ => .rfl

end Cert.AttnRun
-- ==== Proof.Attn.Launch.lean ====
/- The attention backward kernel's frame: the launch, and what the frame reads off it. -/
module

public import proofs.«01_k».proof.Proof.Attn.Frame
public import Idealize.ShloMosaic.Lib.Pipeline.ValueKit
public import Idealize.ShloMosaic.Lib.Pointwise
public import Idealize.ShloMosaic.Lib.StableHlo.ReadAt
public import Idealize.ShloMosaic.Lib.Claim

@[expose] public section

set_option maxRecDepth 16384

noncomputable section

namespace Cert.AttnRun

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## The launch -/

theorem hostOps0_fresh : (hostOps0 : List (HloOp τ sig (Elt F))).Forall fun op => op.fresh = ∅ := by
  simp only [List.Forall]; repeat' constructor

theorem hmain : Pipeline.HMainP (Ix := Unit) (Name := ℕ) (U := Pipeline.UD sig nD τ) (Lvl := ℕ) (pcfgs (F := F)) 0 defs₀ Variants.none m main (V m) :=
  Pipeline.hmainP_prefix pcfgs 0 defs₀ Variants.none m main hostOps0 hostOps0_sub hostOps0_fresh main_chain

theorem table0 (c : Dev nD) : V m c main_c = tab0 := by unfold V; after_reads_at; rfl
theorem table1 (c : Dev nD) : V m c main_c_0 = tab1 := by unfold V; after_reads_at; rfl
theorem table2 (c : Dev nD) : V m c main_c_1 = tab2 := by unfold V; after_reads_at; rfl

theorem hpf (c : Dev nD) : ∀ k, V m c (pre0.ref k) = pfA (F := F) k
  | ⟨0, _⟩ => table0 m c
  | ⟨1, _⟩ => table1 m c
  | ⟨2, _⟩ => table2 m c

theorem routed_eq (c : Dev nD) (W : (b : Ref sig .tc) → Buf (Elt F) ((c : Thread nD τ).loc b)) :
    (Pipeline.routed R0 c W : sProp 𝕄) = owns (c : Thread nD τ) (Memref.whole main_v55_0) fullShare (W main_v55_0) := by
  unfold Pipeline.routed; rw [BI.bigSep_eq_bigSepL_of_eq [main_v55_0] (by decide) (by decide), owns_whole]; rfl

theorem Gf_out (c : Dev nD) : Gf m c main_v55_0 = HB m c (cfgA (F := F)).N := by unfold Gf; rw [dif_pos rfl]

theorem hin (c : Dev nD) : iprop(Pipeline.ΦDRG osem0 spec0 H0 R0 (V m) (V m) c ∗ Pipeline.ΦT pre0 (pfA (F := F)) c) ⊢ (dats m 0 c).Φ 0 := by
  rw [show (dats m 0 c).Φ 0 = Inv m c 0 from rfl, Pipeline.ΦDRG_eq, scopedRest0_eq, ownSems00_eq, routed_eq, ΦT_eq]
  unfold Inv
  simp only [← owns_whole]
  iintro ⟨⟨⟨⟨%f0, H0⟩, ⟨%f1, H1⟩, ⟨%f2, H2⟩, ⟨%f3, H3⟩⟩, Hp, Hs, -, Hr⟩, Ht⟩
  isplitl [H0 H2 H3]
  · iexists (f0, f2, f3)
    isplitl [H0]; · iexact H0
    isplitl [H2]; · iexact H2
    iexact H3
  isplitl [H1]; · iexists f1; iexact H1
  isplitl [Hp]; · iexact Hp
  isplitl [Hs]; · iexact Hs
  isplitl [Hr]; · iexact Hr
  iexact Ht

theorem Φ_eq (c : Dev nD) (t) : (dats m 0 c).Φ t = Inv m c t.val := rfl

theorem hout (c : Dev nD) : (dats m 0 c).Φ (Fin.last (cfgA (F := F)).N) ⊢ Pipeline.ΦDRG osem0 spec0 H0 R0 (V m) (Gf m) c := by
  rw [Φ_eq, Fin.val_last, Pipeline.ΦDRG_eq, scopedRest0_eq, ownSems00_eq, routed_eq, Gf_out,
    show (bigSep H0 (fun b => ((c : Thread nD τ).loc b) ↦{fullShare} V m c b) : sProp 𝕄) = iprop(emp) from by
      rw [BI.bigSep_eq_bigSepL_of_eq [] (by decide) (by decide)]; rfl]
  unfold Inv
  simp only [← owns_whole]
  iintro ⟨⟨%s, H0, H2, H3⟩, ⟨%y, H1⟩, Hp, Hs, Hr, -⟩
  isplitl [H0 H1 H2 H3]
  · isplitl [H0]; · iexists _; iexact H0
    isplitl [H1]; · iexists _; iexact H1
    isplitl [H2]; · iexists _; iexact H2
    iexists _; iexact H3
  isplitl [Hp]; · iexact Hp
  isplitl [Hs]; · iexact Hs
  isplitr; · iempintro
  iexact Hr

set_option backward.isDefEq.respectTransparency.types false in
/-- The run: the arrays end at what the proof data gives, the query gradient at `HB`, and no counter is left up. -/
theorem run_all : θ_run (Cert.AttnIdeal.defs (F := F)) (onTc (τ := τ) (main (F := F))) (s₀ m ρ) (fun r => Pipeline.FramePostRG (pcs (F := F)) (dats m) 0 R0 (V m) (Gf m) r ∧ r.2.sem = fun _ => 0) :=
  Pipeline.θ_run_frameP_dmaRG (Q' := _) pcfgs (fun _ => adm) (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m) (hA := A_eq m) (hpf := hpf m) (G := Gf m)
    (hin := hin m) (hout := hout m)

theorem V_arg0 (c : Dev nD) : V m c main_arg0 = m ((c : Thread nD τ).loc main_arg0) := by unfold V; after_reads_at
theorem V_arg1 (c : Dev nD) : V m c main_arg1 = m ((c : Thread nD τ).loc main_arg1) := by unfold V; after_reads_at
theorem V_arg2 (c : Dev nD) : V m c main_arg2 = m ((c : Thread nD τ).loc main_arg2) := by unfold V; after_reads_at
theorem V_arg3 (c : Dev nD) : V m c main_arg3 = m ((c : Thread nD τ).loc main_arg3) := by unfold V; after_reads_at
theorem V_arg4 (c : Dev nD) : V m c main_arg4 = m ((c : Thread nD τ).loc main_arg4) := by unfold V; after_reads_at
theorem V_arg5 (c : Dev nD) : V m c main_arg5 = m ((c : Thread nD τ).loc main_arg5) := by unfold V; after_reads_at

/-- The run with what the claims read: the arguments unchanged, the counters at zero, the three results. -/
theorem run_frame : θ_run (Cert.AttnIdeal.defs (F := F)) (onTc (τ := τ) (main (F := F))) ⟨m, fun _ => 0, ρ⟩ (fun r => (∀ c : Dev nD,
      (r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5))
      ∧ r.2.mem ((c.tc : Thread nD τ).loc main_v55_0) = HB m c grid0.N
      ∧ r.2.mem ((c.tc : Thread nD τ).loc main_v55_1) = (dats m 0 c).arrAt 6 (cfgA (F := F)).N
      ∧ r.2.mem ((c.tc : Thread nD τ).loc main_v55_2) = (dats m 0 c).arrAt 7 (cfgA (F := F)).N) ∧ r.2.sem = fun _ => 0) :=
  (θ_run _ _ _).mono (fun r h => ⟨fun c => ⟨⟨((h.1.1 c).2 main_arg0 (Finset.mem_sdiff.mpr ⟨Pipeline.mem_restRefs_of main_arg0 (by decide) (show ∀ w : Fin 8, (spec0 w).arr.view.ref ≠ main_arg0 by decide), by decide⟩)).trans (V_arg0 m c),
    ((h.1.1 c).2 main_arg1 (Finset.mem_sdiff.mpr ⟨Pipeline.mem_restRefs_of main_arg1 (by decide) (show ∀ w : Fin 8, (spec0 w).arr.view.ref ≠ main_arg1 by decide), by decide⟩)).trans (V_arg1 m c),
    ((h.1.1 c).2 main_arg2 (Finset.mem_sdiff.mpr ⟨Pipeline.mem_restRefs_of main_arg2 (by decide) (show ∀ w : Fin 8, (spec0 w).arr.view.ref ≠ main_arg2 by decide), by decide⟩)).trans (V_arg2 m c),
    ((h.1.1 c).2 main_arg3 (Finset.mem_sdiff.mpr ⟨Pipeline.mem_restRefs_of main_arg3 (by decide) (show ∀ w : Fin 8, (spec0 w).arr.view.ref ≠ main_arg3 by decide), by decide⟩)).trans (V_arg3 m c),
    ((h.1.1 c).2 main_arg4 (Finset.mem_sdiff.mpr ⟨Pipeline.mem_restRefs_of main_arg4 (by decide) (show ∀ w : Fin 8, (spec0 w).arr.view.ref ≠ main_arg4 by decide), by decide⟩)).trans (V_arg4 m c),
    ((h.1.1 c).2 main_arg5 (Finset.mem_sdiff.mpr ⟨Pipeline.mem_restRefs_of main_arg5 (by decide) (show ∀ w : Fin 8, (spec0 w).arr.view.ref ≠ main_arg5 by decide), by decide⟩)).trans (V_arg5 m c)⟩,
    (h.1.2 c main_v55_0 (by decide)).trans (Gf_out m c), (h.1.1 c).1 6, (h.1.1 c).1 7⟩, h.2⟩) (run_all m ρ)

/-- The frame, at any values. -/
theorem frame_all : θ_run (Cert.AttnIdeal.defs (F := F)) (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5)) ∧ r.2.sem = fun _ => 0) :=
  (θ_run _ _ _).mono (fun r h => ⟨fun c => (h.1 c).1, h.2⟩) (run_frame m ρ)

end Cert.AttnRun
-- ==== Proof.Attn.FrameBits.lean ====
/- The attention backward kernel's frame over words: its text is the other program's, so its run is the same. -/
module

public import proofs.«01_k».proof.Defs
public import proofs.«01_k».proof.Proof.Attn.Launch
public import proofs.«01_k».proof.Proof.Gen.Attn
public import proofs.«01_k».proof.Proof.Gen.AttnRefIdeal.Run
public import Idealize.ShloMosaic.Lib.Quiescent

@[expose] public section

set_option maxHeartbeats 4000000
set_option maxRecDepth 65536

noncomputable section

namespace Cert.AttnRun

open Idealize.ShloMosaic Idealize.ShloMosaic.TcCoe Idealize.ShloMosaic.Tactic Idealize.SL.Sem

/-- A named constant read as its word. -/
@[reducible] def namedBits : Named Bits := ⟨fun _ _ {φ} w => FloatOps.ofBits (F := Bits) φ w⟩

theorem main_eq [hA : Cert.Attn.Facts] [hB : Cert.AttnIdeal.Facts] : @Cert.Attn.main Bits _ _ = @Cert.AttnIdeal.main Bits _ namedBits _ := by sl_kernel_rfl
theorem defs_eq [hA : Cert.Attn.Facts] [hB : Cert.AttnIdeal.Facts] : @Cert.Attn.defs Bits _ _ = @Cert.AttnIdeal.defs Bits _ namedBits _ := by sl_kernel_rfl

theorem frame_bits : Cert.quiescent_Attn (hAttn := Cert.Attn.Gen.facts) := by
  intro m ρ _
  have h := @frame_all Bits _ namedBits m ρ
  rw [← main_eq (hA := Cert.Attn.Gen.facts), ← defs_eq (hA := Cert.Attn.Gen.facts)] at h
  exact h

theorem frame_ideal : Cert.quiescent_AttnIdeal (hAttnIdeal := Cert.AttnIdeal.Gen.facts) := fun m ρ _ => frame_all m ρ

theorem preserves : Cert.preserves_Attn_AttnIdeal :=
  ⟨IdealRules.named_const.statement Cert.AttnIdeal.κ "exp2_scale" .f32 0x3DD53B95#32 (((Real.log 2)⁻¹ * (Real.sqrt 192)⁻¹ : ℝ) : EReal) rfl,
   IdealRules.named_const.statement Cert.AttnIdeal.κ "mask" .f32 0xF149F2CA#32 ⊥ rfl,
   IdealRules.named_const.statement Cert.AttnIdeal.κ "att_scale" .f32 0x3D93CD3A#32 (((Real.sqrt 192)⁻¹ : ℝ) : EReal) rfl⟩

theorem frame_ref : Cert.quiescent_AttnRefIdeal (hAttnRefIdeal := Cert.AttnRefIdeal.Gen.facts) :=
  fun m ρ _ => (θ_run Cert.AttnRefIdeal.defs _ _).mono
    (fun r h => ⟨fun c => (h c).2.2.2, Idealize.ShloMosaic.sem_eq_zero_of_no_sems (by decide) r.2⟩)
    (Cert.AttnRefIdeal.Value.run (F := Ideal) m ρ)

end Cert.AttnRun
-- ==== Proof.Attn.Reals.lean ====
module

public import proofs.«01_k».proof.Proof.Shared.Sums

/-! # The attention gradients over the reals

    The softmax weights, their gradient and the three products, for finite arguments; with the identities that join the
    reference's spelling of them (shift by a row's maximum, quotient rule) and the kernel's (powers of two, the row's
    logarithm and the row's inner product of cotangent and output) to one form. -/

@[expose] public section

namespace Cert.AttnReal

/-- The arguments, as reals. -/
structure Args where
  qn : Fin 8192 → Fin 4 → Fin 128 → ℝ
  qr : Fin 8192 → Fin 4 → Fin 64 → ℝ
  kn : Fin 8192 → Fin 4 → Fin 128 → ℝ
  kr : Fin 8192 → Fin 64 → ℝ
  v : Fin 8192 → Fin 4 → Fin 128 → ℝ
  co : Fin 8192 → Fin 4 → Fin 128 → ℝ

/-- The scale of the scores. -/
noncomputable def sc : ℝ := (Real.sqrt 192)⁻¹

/-- Key `k` is visible to row `q`: its chunk of 64 is not a later one. -/
def vis (q k : Fin 8192) : Prop := k.val / 64 ≤ q.val / 64

instance (q k : Fin 8192) : Decidable (vis q k) := by unfold vis; infer_instance

variable (x : Args) (h : Fin 4) (q k : Fin 8192)

noncomputable def raw : ℝ := (∑ d, x.qn q h d * x.kn k h d) + ∑ d, x.qr q h d * x.kr k d
/-- The unnormalised weight, not shifted. -/
noncomputable def ex : ℝ := if vis q k then Real.exp (raw x h q k * sc) else 0
noncomputable def z : ℝ := ∑ k, ex x h q k
noncomputable def p : ℝ := ex x h q k / z x h q
noncomputable def dp : ℝ := ∑ d, x.co q h d * x.v k h d
noncomputable def dl : ℝ := ∑ k, p x h q k * dp x h q k
noncomputable def ds : ℝ := p x h q k * (dp x h q k - dl x h q)

/-- A row of a head's 256 columns: 128 without a position, 64 with, 64 zeros. -/
def slot (a : Fin 128 → ℝ) (b : Fin 64 → ℝ) (j : Fin 256) : ℝ :=
  if hj : j.val < 128 then a ⟨j.val, hj⟩ else if hk : j.val - 128 < 64 then b ⟨j.val - 128, hk⟩ else 0

def qc (j : Fin 256) : ℝ := slot (x.qn q h) (x.qr q h) j
def kc (j : Fin 256) : ℝ := slot (x.kn k h) (x.kr k) j

noncomputable def dq (j : Fin 256) : ℝ := (∑ k, ds x h q k * kc x h k j) * sc
noncomputable def dk (j : Fin 256) : ℝ := (∑ q, ds x h q k * qc x h q j) * sc
noncomputable def dv (d : Fin 128) : ℝ := ∑ q, p x h q k * x.co q h d

theorem sum_slot (a a' : Fin 128 → ℝ) (b b' : Fin 64 → ℝ) :
    ∑ j, slot a b j * slot a' b' j = (∑ d, a d * a' d) + ∑ d, b d * b' d := by
  have h1 := Fin.sum_univ_add (a := 128) (b := 128) (fun j : Fin 256 => slot a b j * slot a' b' j)
  have h2 := Fin.sum_univ_add (a := 64) (b := 64) (fun j : Fin 128 => slot a b (Fin.natAdd 128 j) * slot a' b' (Fin.natAdd 128 j))
  have h3 : ∑ i : Fin 64, slot a b (Fin.natAdd 128 (Fin.natAdd 64 i)) * slot a' b' (Fin.natAdd 128 (Fin.natAdd 64 i)) = 0 :=
    Finset.sum_eq_zero fun i _ => by simp [slot]
  refine h1.trans (congrArg₂ (· + ·) (Finset.sum_congr rfl fun i _ => by simp [slot]) ?_)
  refine h2.trans ?_
  rw [h3, add_zero]
  exact Finset.sum_congr rfl fun i _ => by simp [slot]

/-- The product of the slots is the sum of the two products. -/
theorem sum_qc_kc : ∑ j, qc x h q j * kc x h k j = raw x h q k := sum_slot _ _ _ _

theorem ex_nonneg : 0 ≤ ex x h q k := by unfold ex; split <;> positivity

theorem z_pos : 0 < z x h q := by
  refine Finset.sum_pos' (fun k _ => ex_nonneg x h q k) ⟨q, Finset.mem_univ _, ?_⟩
  unfold ex; rw [if_pos (show vis q q from le_refl _)]; positivity

theorem ds_of_not (hv : ¬ vis q k) : ds x h q k = 0 := by simp [ds, p, ex, hv]
theorem p_of_not (hv : ¬ vis q k) : p x h q k = 0 := by simp [p, ex, hv]

/-- The row's inner product of the cotangent with the output. -/
theorem sum_co_out : ∑ d, x.co q h d * ∑ k, x.v k h d * p x h q k = dl x h q := by
  unfold dl dp
  simp only [Finset.mul_sum]
  rw [Finset.sum_comm]
  refine Finset.sum_congr rfl fun k _ => Finset.sum_congr rfl fun d _ => by ring

/-- A weight shifted by `M`. -/
theorem ex_shift (M : ℝ) : (if vis q k then Real.exp (raw x h q k * sc - M) else 0) = ex x h q k * Real.exp (-M) := by
  unfold ex; split
  · rw [sub_eq_add_neg, Real.exp_add]
  · simp

theorem z_shift (M : ℝ) : ∑ k, ex x h q k * Real.exp (-M) = z x h q * Real.exp (-M) := by
  rw [← Finset.sum_mul]; rfl

theorem p_shift (M : ℝ) : ex x h q k * Real.exp (-M) / (z x h q * Real.exp (-M)) = p x h q k := by
  unfold p
  rw [mul_div_mul_right _ _ (Real.exp_pos _).ne']

theorem log_shift (M : ℝ) : M + Real.log (z x h q * Real.exp (-M)) = Real.log (z x h q) := by
  rw [Real.log_mul (z_pos x h q).ne' (Real.exp_pos _).ne', Real.log_exp]; ring

/-- The quotient rule's spelling of the softmax gradient, at any shift. -/
theorem ds_shift (M : ℝ) :
    (dp x h q k / (z x h q * Real.exp (-M))
      + -(∑ k', dp x h q k' * (1 / (z x h q * Real.exp (-M) * (z x h q * Real.exp (-M)))) * (ex x h q k' * Real.exp (-M))))
      * (ex x h q k * Real.exp (-M)) = ds x h q k := by
  have hz := (z_pos x h q).ne'
  have he := (Real.exp_pos (-M)).ne'
  have hs : (∑ k', dp x h q k' * (1 / (z x h q * Real.exp (-M) * (z x h q * Real.exp (-M)))) * (ex x h q k' * Real.exp (-M)))
      = dl x h q / (z x h q * Real.exp (-M)) := by
    unfold dl p
    rw [Finset.sum_div]
    refine Finset.sum_congr rfl fun k' _ => ?_
    field_simp
  rw [hs]; unfold ds p; field_simp; ring

/-- The kernel's power of two is the weight. -/
theorem rpow_eq_p (hv : vis q k) :
    Real.rpow 2 (raw x h q k * ((Real.log 2)⁻¹ * (Real.sqrt 192)⁻¹) - Real.log (z x h q) / Real.log 2) = p x h q k := by
  have h2 : Real.log 2 ≠ 0 := (Real.log_pos (by norm_num)).ne'
  rw [Real.rpow_eq_pow, Real.rpow_def_of_pos (by norm_num)]
  rw [show Real.log 2 * (raw x h q k * ((Real.log 2)⁻¹ * (Real.sqrt 192)⁻¹) - Real.log (z x h q) / Real.log 2)
      = raw x h q k * sc - Real.log (z x h q) by unfold sc; field_simp]
  rw [Real.exp_sub, Real.exp_log (z_pos x h q)]
  unfold p ex; rw [if_pos hv]

end Cert.AttnReal
-- ==== Proof.Attn.Step.lean ====
module

public import proofs.«01_k».proof.Proof.Attn.Reals
public import proofs.«01_k».proof.Proof.Attn.Diag
public import Idealize.ShloMosaic.Lib.Routing.Words
public import Idealize.ShloMosaic.Lib.Pipeline.ValueKit
public import Idealize.ShloMosaic.Lib.Pointwise

/-! One point of the kernel over the reals: what a block of rows and a block of keys add to the three accumulators. -/

@[expose] public section

set_option maxRecDepth 16384

noncomputable section

open Idealize.ShloMosaic Idealize.ShloMosaic.TcCoe Idealize.SL.Sem

namespace Cert.AttnStep

open Cert.AttnIdeal Cert.AttnIdeal.Gen Cert.AttnReal Cert.AttnRun

/-- Row `r` of block `b`. -/
def row (b : Fin 8) (r : Fin 1024) : Fin 8192 := ⟨1024 * b.val + r.val, by omega⟩

/-- The six blocks of head `h`, rows of block `qi` and keys of block `ki`, hold the reals of `x`. -/
structure Blocks (x : Args) (h : Fin 4) (qi ki : Fin 8) (x5 x6 : Vec Ideal S1024x256 .bf16) (x7 x8 : Vec Ideal S1024x128 .bf16)
    (x9 x10 : Vec Ideal S1024x128 .f32) : Prop where
  hq : ∀ r j, x5 (ix2 r j) = (qc x h (row qi r) j : EReal)
  hk : ∀ s j, x6 (ix2 s j) = (kc x h (row ki s) j : EReal)
  hv : ∀ s d, x7 (ix2 s d) = (x.v (row ki s) h d : EReal)
  hco : ∀ r d, x8 (ix2 r d) = (x.co (row qi r) h d : EReal)
  hl : ∀ r d, x9 (ix2 r d) = ((Real.log (z x h (row qi r)) / Real.log 2 : ℝ) : EReal)
  hd : ∀ r d, x10 (ix2 r d) = (dl x h (row qi r) : EReal)

variable {x : Args} {h : Fin 4} {qi ki : Fin 8} {x5 x6 : Vec Ideal S1024x256 .bf16} {x7 x8 : Vec Ideal S1024x128 .bf16}
    {x9 x10 : Vec Ideal S1024x128 .f32} (B : Blocks x h qi ki x5 x6 x7 x8 x9 x10)

theorem scale2 : Named.named (F := Ideal) κ "exp2_scale" (φ := .f32) 0x3DD53B95#32 = (((Real.log 2)⁻¹ * (Real.sqrt 192)⁻¹ : ℝ) : EReal) := by
  exact IdealRules.named_const.ideal_named_scalar _ _ _ _ rfl

theorem maskc : Named.named (F := Ideal) κ "mask" (φ := .f32) 0xF149F2CA#32 = (⊥ : EReal) := by
  exact IdealRules.named_const.ideal_named_scalar _ _ _ _ rfl

theorem att : Named.named (F := Ideal) κ "att_scale" (φ := .f32) 0x3D93CD3A#32 = ((sc : ℝ) : EReal) := by
  exact IdealRules.named_const.ideal_named_scalar _ _ _ _ rfl

/-- The kernel's power of two of a row's product with a key, where the key is visible. -/
theorem exp2_vis {a b : Fin 8192} (hv : vis a b) :
    FloatOps.exp2 (F := Ideal) (φ := .f32) ((∑ j, (qc x h a j : EReal) * (kc x h b j : EReal)) * (((Real.log 2)⁻¹ * (Real.sqrt 192)⁻¹ : ℝ) : EReal)
      - ((Real.log (z x h a) / Real.log 2 : ℝ) : EReal)) = (p x h a b : EReal) := by
  simp only [← EReal.coe_mul, ← Cert.Shared.coe_sum, sum_qc_kc, ← EReal.coe_sub]
  show Ideal.exp2 _ = _
  rw [Ideal.exp2_coe, rpow_eq_p x h a b hv]

/-- What block `b` of the keys adds to a row's query gradient, before the scale. -/
def dqB (x : Args) (h : Fin 4) (q : Fin 8192) (b : Fin 8) (j : Fin 256) : ℝ := ∑ s, ds x h q (row b s) * kc x h (row b s) j
/-- What block `b` of the rows adds to a key's gradient, before the scale. -/
def dkB (x : Args) (h : Fin 4) (k : Fin 8192) (b : Fin 8) (j : Fin 256) : ℝ := ∑ r, ds x h (row b r) k * qc x h (row b r) j
/-- What block `b` of the rows adds to a value's gradient. -/
def dvB (x : Args) (h : Fin 4) (k : Fin 8192) (b : Fin 8) (d : Fin 128) : ℝ := ∑ r, p x h (row b r) k * x.co (row b r) h d

section off
include B
variable (hv : ∀ r s, vis (row qi r) (row ki s))
include hv

theorem p_off (r s : Fin 1024) : k0_pay14 x5 x6 x9 (ix2 r s) = (p x h (row qi r) (row ki s) : EReal) := by
  pointwise [k0_pay14, k0_pay11, k0_pay12]
  simp only [B.hq, B.hk, B.hl, dite_eq_ite, ite_self, scale2]
  exact exp2_vis (hv r s)

theorem ds_off (r s : Fin 1024) : k0_pay16 x5 x6 x8 x7 x9 x10 (ix2 r s) = (ds x h (row qi r) (row ki s) : EReal) := by
  pointwise [k0_pay16, k0_pay13]
  simp only [p_off B hv, B.hco, B.hv, B.hd, dite_eq_ite, ite_self, ← EReal.coe_mul, ← Cert.Shared.coe_sum, ← EReal.coe_sub]
  rfl

theorem offDk_at (x16 : Vec Ideal S1024x256 .f32) (s : Fin 1024) (j : Fin 256) :
    offDk x5 x6 x7 x8 x9 x10 x16 (ix2 s j) = x16 (ix2 s j) + (dkB x h (row ki s) qi j : EReal) := by
  pointwise [offDk, k0_pay3, k0_pay17, k0_pay11]
  simp only [ds_off B hv, B.hq, ← EReal.coe_mul, ← Cert.Shared.coe_sum]
  rfl

theorem offDv_at (x17 : Vec Ideal S1024x128 .f32) (s : Fin 1024) (d : Fin 128) :
    offDv x5 x6 x8 x9 x17 (ix2 s d) = x17 (ix2 s d) + (dvB x h (row ki s) qi d : EReal) := by
  pointwise [offDv, k0_pay15, k0_pay13]
  simp only [p_off B hv, B.hco, ← EReal.coe_mul, ← Cert.Shared.coe_sum]
  rfl

theorem pay4_at (r : Fin 1024) (j : Fin 256) :
    k0_pay4 (k0_pay12 x6) (k0_pay16 x5 x6 x8 x7 x9 x10) (ix2 r j) = (dqB x h (row qi r) ki j : EReal) := by
  pointwise [k0_pay4, k0_pay12]
  simp only [ds_off B hv, B.hk, ← EReal.coe_mul, ← Cert.Shared.coe_sum]
  rfl

end off

section win
variable {α : Type}

theorem win_rows {N L n : ℕ} (a : ℕ) (y : Shape.Idx ⟨2, ![N, L]⟩ → α) (inb) (r : Fin n) (j : Fin L) (hr : a + r.val < N) :
    VecWindow.window (s := ⟨2, ![N, L]⟩) y ![a, 0] (Shape.size ⟨2, ![n, L]⟩) inb (ix2 r j) = y (ix2 ⟨a + r.val, hr⟩ j) := by
  refine congrArg y (funext fun b => Fin.ext ?_)
  match b with
  | 0 => show a + 1 * r.val = a + r.val; omega
  | 1 => show 0 + 1 * j.val = j.val; omega

theorem put_rows {N L n : ℕ} (a : ℕ) (y : Shape.Idx ⟨2, ![N, L]⟩ → α) (w : Shape.Idx ⟨2, ![n, L]⟩ → α) (i : Fin N) (j : Fin L) :
    VecWindow.put (s := ⟨2, ![N, L]⟩) y ![a, 0] (Shape.size ⟨2, ![n, L]⟩) w (ix2 i j)
      = if hh : a ≤ i.val ∧ i.val < a + n then w (ix2 ⟨i.val - a, by omega⟩ j) else y (ix2 i j) := by
  unfold VecWindow.put
  by_cases hh : a ≤ i.val ∧ i.val < a + n
  · rw [dif_pos hh, dif_pos (by
      intro b
      match b with
      | 0 => exact hh
      | 1 => exact ⟨Nat.zero_le _, by show j.val < 0 + L; omega⟩)]
    refine congrArg w (funext fun b => Fin.ext ?_)
    match b with
    | 0 => rfl
    | 1 => rfl
  · rw [dif_neg hh, dif_neg]
    intro hc
    exact hh (hc 0)

theorem put_in {N L n : ℕ} (a : ℕ) (y : Shape.Idx ⟨2, ![N, L]⟩ → α) (w : Shape.Idx ⟨2, ![n, L]⟩ → α) (i : Fin N) (r : Fin n) (j : Fin L) (hi : i.val = a + r.val) :
    VecWindow.put (s := ⟨2, ![N, L]⟩) y ![a, 0] (Shape.size ⟨2, ![n, L]⟩) w (ix2 i j) = w (ix2 r j) := by
  rw [put_rows, dif_pos (by omega)]
  exact congrArg (fun r => w (ix2 r j)) (Fin.ext (by show i.val - a = r.val; omega))

theorem put_out {N L n : ℕ} (a : ℕ) (y : Shape.Idx ⟨2, ![N, L]⟩ → α) (w : Shape.Idx ⟨2, ![n, L]⟩ → α) (i : Fin N) (j : Fin L) (hi : i.val < a ∨ a + n ≤ i.val) :
    VecWindow.put (s := ⟨2, ![N, L]⟩) y ![a, 0] (Shape.size ⟨2, ![n, L]⟩) w (ix2 i j) = y (ix2 i j) := by
  rw [put_rows, dif_neg (by omega)]

theorem win_at {N L n : ℕ} (a : ℕ) (y : Shape.Idx ⟨2, ![N, L]⟩ → α) (inb) (i : Fin N) (r : Fin n) (j : Fin L) (hi : i.val = a + r.val) :
    VecWindow.window (s := ⟨2, ![N, L]⟩) y ![a, 0] (Shape.size ⟨2, ![n, L]⟩) inb (ix2 r j) = y (ix2 i j) :=
  (win_rows a y inb r j (by omega)).trans (congrArg (fun i => y (ix2 i j)) (Fin.ext hi.symm))

end win

end Cert.AttnStep
-- ==== Proof.Attn.DiagStep.lean ====
module

public import proofs.«01_k».proof.Proof.Attn.Step

/-! A block on the diagonal, over the reals: the rows below see the keys below, the rows above see all keys, in chunks of 64. -/

@[expose] public section

set_option maxRecDepth 16384

noncomputable section

open Idealize.ShloMosaic Idealize.ShloMosaic.TcCoe Idealize.SL.Sem

namespace Cert.AttnStep

open Cert.AttnIdeal Cert.AttnIdeal.Gen Cert.AttnReal Cert.AttnRun

/-- The chunk of a position, as the kernel computes it: the quotient by 64 rounded down. -/
def chunk (u : BitVec 32) : BitVec 32 :=
  Scalar.select
    (IntOp.andi
      (IntOp.cmpi .ne (IntOp.subi (BitVec.setWidth 32 (IntOp.cmpi .sgt u 0#32)) (BitVec.setWidth 32 (IntOp.cmpi .slt u 0#32)))
        (Scalar.subi (Scalar.extui (Scalar.cmpi .sgt 64#32 0#32)) (Scalar.extui (Scalar.cmpi .slt 64#32 0#32))))
      (IntOp.cmpi .ne (IntOp.remsi .vector u 64#32) 0#32))
    (IntOp.subi (IntOp.divsi .vector u 64#32) 1#32)
    (IntOp.divsi .vector u 64#32)

theorem chunk_eq : ∀ n : Fin 1024, chunk (BitVec.ofNat 32 n.val) = BitVec.ofNat 32 (n.val / 64) := by decide +kernel
theorem chunk_lo : ∀ n : Fin 512, chunk (IntOp.addi (0#32) (BitVec.ofNat 32 n.val)) = BitVec.ofNat 32 (n.val / 64) := by decide +kernel
theorem chunk_hi : ∀ n : Fin 512, chunk (IntOp.addi (512#32) (BitVec.ofNat 32 n.val)) = BitVec.ofNat 32 ((512 + n.val) / 64) := by decide +kernel

/-- The lower half of a block's rows. -/
def lo (r : Fin 512) : Fin 1024 := Fin.castAdd 512 r
/-- The upper half of a block's rows. -/
def hi (r : Fin 512) : Fin 1024 := Fin.natAdd 512 r

theorem sum_halves (f : Fin 1024 → ℝ) : ∑ i, f i = ∑ r, f (lo r) + ∑ r, f (hi r) := Fin.sum_univ_add (a := 512) (b := 512) f

theorem vis_row (b : Fin 8) (r s : Fin 1024) : vis (row b r) (row b s) ↔ s.val / 64 ≤ r.val / 64 := by
  unfold vis row
  show (1024 * b.val + s.val) / 64 ≤ (1024 * b.val + r.val) / 64 ↔ _
  omega

theorem mask_word (b : Fin 8) (r s : Fin 1024) :
    IntOp.cmpi .sle (BitVec.ofNat 32 (s.val / 64)) (BitVec.ofNat 32 (r.val / 64)) = if vis (row b r) (row b s) then 1#1 else 0#1 := by
  show BitVec.ofBool ((BitVec.ofNat 32 (s.val / 64)).sle (BitVec.ofNat 32 (r.val / 64))) = _
  rw [Routing.sle_ofNat32 (by omega) (by omega)]
  by_cases hv : vis (row b r) (row b s)
  · rw [if_pos hv, decide_eq_true ((vis_row b r s).1 hv)]; rfl
  · rw [if_neg hv, decide_eq_false (fun h => hv ((vis_row b r s).2 h))]; rfl

variable {x : Args} {h : Fin 4} {qi : Fin 8} {x5 x6 : Vec Ideal S1024x256 .bf16} {x7 x8 : Vec Ideal S1024x128 .bf16}
    {x9 x10 : Vec Ideal S1024x128 .f32} (B : Blocks x h qi qi x5 x6 x7 x8 x9 x10)

/-- The kernel's power of two of a masked product: the weight, and zero where the key is hidden. -/
theorem exp2_mask {a b : Fin 8192} (c : BitVec 1) (hc : c = if vis a b then 1#1 else 0#1) :
    FloatOps.exp2 (F := Ideal) (φ := .f32) (Scalar.select c (∑ j, (qc x h a j : EReal) * (kc x h b j : EReal)) (⊥ : EReal)
        * (((Real.log 2)⁻¹ * (Real.sqrt 192)⁻¹ : ℝ) : EReal)
      - ((Real.log (z x h a) / Real.log 2 : ℝ) : EReal)) = (p x h a b : EReal) := by
  by_cases hv : vis a b
  · rw [hc, if_pos hv]; exact exp2_vis hv
  · rw [hc, if_neg hv, p_of_not x h a b hv]
    have hp : 0 < (Real.log 2)⁻¹ * (Real.sqrt 192)⁻¹ := mul_pos (inv_pos.2 (Real.log_pos (by norm_num))) (inv_pos.2 (Real.sqrt_pos.2 (by norm_num)))
    show Ideal.exp2 ((⊥ : EReal) * _ - _) = _
    rw [EReal.bot_mul_coe_of_pos hp, EReal.bot_sub, Ideal.exp2_bot]
    rfl

section halves
include B

theorem w5lo (inb) (r : Fin 512) (j : Fin 256) : VecWindow.window x5 ![0, 0] S512x256.size inb (ix2 r j) = (qc x h (row qi (lo r)) j : EReal) :=
  (win_rows 0 x5 inb r j (by omega)).trans ((congrArg x5 (by congr 1; exact Fin.ext (by simp [lo]))).trans (B.hq (lo r) j))
theorem w5hi (inb) (r : Fin 512) (j : Fin 256) : VecWindow.window x5 ![512, 0] S512x256.size inb (ix2 r j) = (qc x h (row qi (hi r)) j : EReal) :=
  (win_rows 512 x5 inb r j (by omega)).trans (B.hq (hi r) j)
theorem w6lo (inb) (r : Fin 512) (j : Fin 256) : VecWindow.window x6 ![0, 0] S512x256.size inb (ix2 r j) = (kc x h (row qi (lo r)) j : EReal) :=
  (win_rows 0 x6 inb r j (by omega)).trans ((congrArg x6 (by congr 1; exact Fin.ext (by simp [lo]))).trans (B.hk (lo r) j))
theorem w7lo (inb) (r : Fin 512) (d : Fin 128) : VecWindow.window x7 ![0, 0] S512x128.size inb (ix2 r d) = (x.v (row qi (lo r)) h d : EReal) :=
  (win_rows 0 x7 inb r d (by omega)).trans ((congrArg x7 (by congr 1; exact Fin.ext (by simp [lo]))).trans (B.hv (lo r) d))
theorem w8lo (inb) (r : Fin 512) (d : Fin 128) : VecWindow.window x8 ![0, 0] S512x128.size inb (ix2 r d) = (x.co (row qi (lo r)) h d : EReal) :=
  (win_rows 0 x8 inb r d (by omega)).trans ((congrArg x8 (by congr 1; exact Fin.ext (by simp [lo]))).trans (B.hco (lo r) d))
theorem w8hi (inb) (r : Fin 512) (d : Fin 128) : VecWindow.window x8 ![512, 0] S512x128.size inb (ix2 r d) = (x.co (row qi (hi r)) h d : EReal) :=
  (win_rows 512 x8 inb r d (by omega)).trans (B.hco (hi r) d)
theorem w9lo (inb) (r : Fin 512) (d : Fin 128) : VecWindow.window x9 ![0, 0] S512x128.size inb (ix2 r d) = ((Real.log (z x h (row qi (lo r))) / Real.log 2 : ℝ) : EReal) :=
  (win_rows 0 x9 inb r d (by omega)).trans ((congrArg x9 (by congr 1; exact Fin.ext (by simp [lo]))).trans (B.hl (lo r) d))
theorem w9hi (inb) (r : Fin 512) (d : Fin 128) : VecWindow.window x9 ![512, 0] S512x128.size inb (ix2 r d) = ((Real.log (z x h (row qi (hi r))) / Real.log 2 : ℝ) : EReal) :=
  (win_rows 512 x9 inb r d (by omega)).trans (B.hl (hi r) d)
theorem w10lo (inb) (r : Fin 512) (d : Fin 128) : VecWindow.window x10 ![0, 0] S512x128.size inb (ix2 r d) = (dl x h (row qi (lo r)) : EReal) :=
  (win_rows 0 x10 inb r d (by omega)).trans ((congrArg x10 (by congr 1; exact Fin.ext (by simp [lo]))).trans (B.hd (lo r) d))
theorem w10hi (inb) (r : Fin 512) (d : Fin 128) : VecWindow.window x10 ![512, 0] S512x128.size inb (ix2 r d) = (dl x h (row qi (hi r)) : EReal) :=
  (win_rows 512 x10 inb r d (by omega)).trans (B.hd (hi r) d)

theorem s0_at (r s : Fin 512) : dgS0 x5 x6 (ix2 r s) = ∑ j, (qc x h (row qi (lo r)) j : EReal) * (kc x h (row qi (lo s)) j : EReal) := by
  pointwise [dgS0, k0_pay21, k0_pay18, k0_pay19]
  simp only [w5lo B, w6lo B]

end halves

theorem pay25_at (y : Vec Ideal S512x512 .f32) (l : Vec Ideal S512x128 .f32) (L : ℝ) (r s : Fin 512) (hl : ∀ d, l (ix2 r d) = (L : EReal)) :
    k0_pay25 (F := Ideal) y k0_pay23 (iota .tc S512x512 32 [1] iota_S512x512_d1_w32) 64#32 k0_pay24 0#32 l (ix2 r s)
      = FloatOps.exp2 (F := Ideal) (φ := .f32) (Scalar.select (IntOp.cmpi .sle (BitVec.ofNat 32 ((lo s).val / 64)) (BitVec.ofNat 32 ((lo r).val / 64)))
          (y (ix2 r s)) (⊥ : EReal) * (((Real.log 2)⁻¹ * (Real.sqrt 192)⁻¹ : ℝ) : EReal) - (L : EReal)) := by
  have h1 := chunk_eq (lo s)
  have h2 := chunk_lo r
  rw [← scale2, ← maskc]
  rw [show BitVec.ofNat 32 ((lo s).val / 64) = _ from h1.symm, show BitVec.ofNat 32 ((lo r).val / 64) = _ from h2.symm]
  pointwise [k0_pay25, k0_pay23, k0_pay24]
  simp only [hl, dite_eq_ite, ite_self]
  rfl

section first
include B

theorem p0_at (r s : Fin 512) : dgP0 x5 x6 x9 (ix2 r s) = (p x h (row qi (lo r)) (row qi (lo s)) : EReal) := by
  unfold dgP0
  rw [pay25_at _ _ _ r s (w9lo B _ r), s0_at B]
  exact exp2_mask _ (mask_word qi (lo r) (lo s))

theorem d0_at (r s : Fin 512) : dgD0 x7 x8 x10 (ix2 r s) = (dp x h (row qi (lo r)) (row qi (lo s)) - dl x h (row qi (lo r)) : ℝ) := by
  pointwise [dgD0, k0_pay27, k0_pay22, k0_pay20]
  simp only [w7lo B, w8lo B, w10lo B, dite_eq_ite, ite_self, ← EReal.coe_mul, ← Cert.Shared.coe_sum, ← EReal.coe_sub]
  rfl

theorem pay28_at (r s : Fin 512) : k0_pay28 (dgP0 x5 x6 x9) (dgD0 x7 x8 x10) (ix2 r s) = (ds x h (row qi (lo r)) (row qi (lo s)) : EReal) := by
  pointwise [k0_pay28]
  rw [p0_at B, d0_at B, ← EReal.coe_mul]
  rfl

theorem pay29_at (old : Vec Ideal S512x256 .f32) (s : Fin 512) (j : Fin 256) (inb) :
    k0_pay29 (k0_pay18 (VecWindow.window x5 ![0, 0] S512x256.size inb)) (dgP0 x5 x6 x9) (dgD0 x7 x8 x10) old (ix2 s j)
      = old (ix2 s j) + ((∑ r, ds x h (row qi (lo r)) (row qi (lo s)) * qc x h (row qi (lo r)) j : ℝ) : EReal) := by
  pointwise [k0_pay29, k0_pay18]
  simp only [pay28_at B, w5lo B, ← EReal.coe_mul, ← Cert.Shared.coe_sum]

theorem pay30_at (r : Fin 512) (j : Fin 256) (inb) :
    k0_pay30 (k0_pay19 (VecWindow.window x6 ![0, 0] S512x256.size inb)) (dgP0 x5 x6 x9) (dgD0 x7 x8 x10) (ix2 r j)
      = ((∑ s, ds x h (row qi (lo r)) (row qi (lo s)) * kc x h (row qi (lo s)) j : ℝ) : EReal) := by
  pointwise [k0_pay30, k0_pay19]
  simp only [pay28_at B, w6lo B, ← EReal.coe_mul, ← Cert.Shared.coe_sum]

end first

theorem pay41_at (r : Fin 512) (s : Fin 1024) : k0_pay41 (ix2 r s) = BitVec.ofNat 32 (s.val / 64) := by
  rw [← chunk_eq s]
  pointwise [k0_pay41]
  rfl

theorem pay40_at (r : Fin 512) (s : Fin 1024) : k0_pay40 k0_pay38 64#32 k0_pay39 (ix2 r s) = BitVec.ofNat 32 ((hi r).val / 64) := by
  refine Eq.trans ?_ (chunk_hi r)
  pointwise [k0_pay40, k0_pay38, k0_pay39]
  rfl

/-- A stack of two halves of a block's rows, read at a row. -/
theorem stack_at {n : ℕ} (w : Shape.Idx ⟨2, ![512, n]⟩ → EReal) (s : Fin 1024) (j : Fin n) (g : Fin 1024 → ℝ)
    (hw : ∀ r, w (ix2 r j) = (g (lo r) : EReal)) :
    VecWindow.put (s := ⟨2, ![1024, n]⟩) (fun _ => (0 : EReal)) ![0, 0] (Shape.size ⟨2, ![512, n]⟩) w (ix2 s j) = ((if s.val < 512 then g s else 0 : ℝ) : EReal) := by
  rw [put_rows 0]
  by_cases hs : s.val < 512
  · rw [dif_pos ⟨Nat.zero_le _, by omega⟩, if_pos hs, hw]
    congr 2
  · rw [dif_neg (by omega), if_neg hs]; rfl

section second
include B

theorem s1_at (inb) (r : Fin 512) (s : Fin 1024) : k0_pay36 (VecWindow.window x5 ![512, 0] S512x256.size inb) x6 (ix2 r s)
    = ∑ j, (qc x h (row qi (hi r)) j : EReal) * (kc x h (row qi s) j : EReal) := by
  pointwise [k0_pay36, k0_pay33, k0_pay34]
  simp only [w5hi B, B.hk]

theorem t1_at (inb) (r : Fin 512) (s : Fin 1024) : k0_pay37 (VecWindow.window x8 ![512, 0] S512x128.size inb) x7 (ix2 r s)
    = (dp x h (row qi (hi r)) (row qi s) : EReal) := by
  pointwise [k0_pay37, k0_pay35]
  simp only [w8hi B, B.hv, ← EReal.coe_mul, ← Cert.Shared.coe_sum]
  rfl

theorem p1_at (i1 i2) (r : Fin 512) (s : Fin 1024) :
    k0_pay42 (k0_pay36 (VecWindow.window x5 ![512, 0] S512x256.size i1) x6) (k0_pay40 k0_pay38 64#32 k0_pay39) k0_pay41
      (VecWindow.window x9 ![512, 0] S512x128.size i2) (ix2 r s) = (p x h (row qi (hi r)) (row qi s) : EReal) := by
  refine Eq.trans ?_ (exp2_mask _ (mask_word qi (hi r) s))
  pointwise [k0_pay42]
  simp only [w9hi B, s1_at B, pay40_at, pay41_at, dite_eq_ite, ite_self, scale2, maskc]

theorem g1_at (i1 i2 i3 i4) (r : Fin 512) (s : Fin 1024) :
    k0_pay44 (k0_pay36 (VecWindow.window x5 ![512, 0] S512x256.size i1) x6) (k0_pay37 (VecWindow.window x8 ![512, 0] S512x128.size i2) x7)
      (k0_pay40 k0_pay38 64#32 k0_pay39) k0_pay41
      (VecWindow.window x9 ![512, 0] S512x128.size i3) (VecWindow.window x10 ![512, 0] S512x128.size i4) (ix2 r s) = (ds x h (row qi (hi r)) (row qi s) : EReal) := by
  pointwise [k0_pay44]
  simp only [p1_at B, t1_at B, w10hi B, dite_eq_ite, ite_self, ← EReal.coe_mul, ← EReal.coe_sub]
  rfl

theorem pay45_at (i1 i2 i3 i4 i5) (old : Vec Ideal S1024x256 .f32) (s : Fin 1024) (j : Fin 256) :
    k0_pay45 (k0_pay33 (VecWindow.window x5 ![512, 0] S512x256.size i5)) (k0_pay36 (VecWindow.window x5 ![512, 0] S512x256.size i1) x6)
      (k0_pay37 (VecWindow.window x8 ![512, 0] S512x128.size i2) x7) (k0_pay40 k0_pay38 64#32 k0_pay39) k0_pay41
      (VecWindow.window x9 ![512, 0] S512x128.size i3) (VecWindow.window x10 ![512, 0] S512x128.size i4) old (ix2 s j)
      = old (ix2 s j) + ((∑ r, ds x h (row qi (hi r)) (row qi s) * qc x h (row qi (hi r)) j : ℝ) : EReal) := by
  pointwise [k0_pay45, k0_pay33]
  simp only [g1_at B, w5hi B, ← EReal.coe_mul, ← Cert.Shared.coe_sum]

theorem pay43_at (i1 i3 i5) (old : Vec Ideal S1024x128 .f32) (s : Fin 1024) (d : Fin 128) :
    k0_pay43 (k0_pay35 (VecWindow.window x8 ![512, 0] S512x128.size i5)) (k0_pay36 (VecWindow.window x5 ![512, 0] S512x256.size i1) x6)
      (k0_pay40 k0_pay38 64#32 k0_pay39) k0_pay41 (VecWindow.window x9 ![512, 0] S512x128.size i3) old (ix2 s d)
      = old (ix2 s d) + ((∑ r, p x h (row qi (hi r)) (row qi s) * x.co (row qi (hi r)) h d : ℝ) : EReal) := by
  pointwise [k0_pay43, k0_pay35]
  simp only [p1_at B, w8hi B, ← EReal.coe_mul, ← Cert.Shared.coe_sum]

theorem pay46_at (i1 i2 i3 i4) (r : Fin 512) (j : Fin 256) :
    k0_pay46 (k0_pay34 x6) (k0_pay36 (VecWindow.window x5 ![512, 0] S512x256.size i1) x6)
      (k0_pay37 (VecWindow.window x8 ![512, 0] S512x128.size i2) x7) (k0_pay40 k0_pay38 64#32 k0_pay39) k0_pay41
      (VecWindow.window x9 ![512, 0] S512x128.size i3) (VecWindow.window x10 ![512, 0] S512x128.size i4) (ix2 r j)
      = (dqB x h (row qi (hi r)) qi j : EReal) := by
  pointwise [k0_pay46, k0_pay34]
  simp only [g1_at B, B.hk, ← EReal.coe_mul, ← Cert.Shared.coe_sum]
  rfl

theorem pay26_at (i1 i2) (old : Vec Ideal S512x128 .f32) (s : Fin 512) (d : Fin 128) :
    k0_pay26 (k0_pay20 (VecWindow.window x8 ![0, 0] S512x128.size i1)) (dgS0 x5 x6) k0_pay23
      (iota .tc S512x512 32 [1] iota_S512x512_d1_w32) 64#32 k0_pay24 0#32 (VecWindow.window x9 ![0, 0] S512x128.size i2) old (ix2 s d)
      = old (ix2 s d) + ((∑ r, p x h (row qi (lo r)) (row qi (lo s)) * x.co (row qi (lo r)) h d : ℝ) : EReal) := by
  have hp : ∀ r s, k0_pay25 (dgS0 x5 x6) k0_pay23 (iota .tc S512x512 32 [1] iota_S512x512_d1_w32) 64#32 k0_pay24 0#32 (VecWindow.window x9 ![0, 0] S512x128.size i2) (ix2 r s)
      = (p x h (row qi (lo r)) (row qi (lo s)) : EReal) := p0_at B
  pointwise [k0_pay26, k0_pay20]
  simp only [hp, w8lo B, ← EReal.coe_mul, ← Cert.Shared.coe_sum]

omit B in
theorem hidden (r : Fin 512) (s : Fin 1024) (hs : ¬ s.val < 512) : ¬ vis (row qi (lo r)) (row qi s) := by
  rw [vis_row]
  have : (lo r).val = r.val := rfl
  omega

omit B in
theorem dk_halves (s : Fin 1024) (j : Fin 256) : (if s.val < 512 then ∑ r, ds x h (row qi (lo r)) (row qi s) * qc x h (row qi (lo r)) j else 0)
    + ∑ r, ds x h (row qi (hi r)) (row qi s) * qc x h (row qi (hi r)) j = dkB x h (row qi s) qi j := by
  unfold dkB
  rw [sum_halves]
  congr 1
  split
  · rfl
  · rename_i hs
    exact (Finset.sum_eq_zero fun r _ => by rw [ds_of_not _ _ _ _ (hidden r s hs), zero_mul]).symm

omit B in
theorem dv_halves (s : Fin 1024) (d : Fin 128) : (if s.val < 512 then ∑ r, p x h (row qi (lo r)) (row qi s) * x.co (row qi (lo r)) h d else 0)
    + ∑ r, p x h (row qi (hi r)) (row qi s) * x.co (row qi (hi r)) h d = dvB x h (row qi s) qi d := by
  unfold dvB
  rw [sum_halves]
  congr 1
  split
  · rfl
  · rename_i hs
    exact (Finset.sum_eq_zero fun r _ => by rw [p_of_not _ _ _ _ (hidden r s hs), zero_mul]).symm

omit B in
theorem dq_lower (r : Fin 512) (j : Fin 256) : ∑ s, ds x h (row qi (lo r)) (row qi (lo s)) * kc x h (row qi (lo s)) j = dqB x h (row qi (lo r)) qi j := by
  unfold dqB
  rw [sum_halves]
  refine (add_eq_left.2 (Finset.sum_eq_zero fun s _ => ?_)).symm
  rw [ds_of_not _ _ _ _ (hidden r (hi s) (by show ¬ 512 + s.val < 512; omega)), zero_mul]

theorem diagDk_at (s : Fin 1024) (j : Fin 256) : diagDk x5 x6 x7 x8 x9 x10 (ix2 s j) = (dkB x h (row qi s) qi j : EReal) := by
  have z0 : k0_pay1 (F := Ideal) = fun _ => (0 : EReal) := by
    funext i; pointwise [k0_pay1]
  unfold diagDk
  rw [pay45_at B, ← dk_halves s j, EReal.coe_add]
  congr 1
  refine Eq.trans (congrArg (fun y => VecWindow.put (s := S1024x256) y ![0, 0] S512x256.size _ (ix2 s j)) z0) (stack_at _ s j (fun s => ∑ r, ds x h (row qi (lo r)) (row qi s) * qc x h (row qi (lo r)) j) fun r => ?_)
  rw [pay29_at B]
  refine Eq.trans (congrArg (· + _) (win_rows 0 (k0_pay1 (F := Ideal)) _ r j (by omega))) ?_
  rw [z0]
  exact zero_add _

theorem diagDv_at (s : Fin 1024) (d : Fin 128) : diagDv x5 x6 x8 x9 (ix2 s d) = (dvB x h (row qi s) qi d : EReal) := by
  have z0 : k0_pay2 (F := Ideal) = fun _ => (0 : EReal) := by
    funext i; pointwise [k0_pay2]
  unfold diagDv
  rw [pay43_at B, ← dv_halves s d, EReal.coe_add]
  congr 1
  refine Eq.trans (congrArg (fun y => VecWindow.put (s := S1024x128) y ![0, 0] S512x128.size _ (ix2 s d)) z0) (stack_at _ s d (fun s => ∑ r, p x h (row qi (lo r)) (row qi s) * x.co (row qi (lo r)) h d) fun r => ?_)
  rw [pay26_at B]
  refine Eq.trans (congrArg (· + _) (win_rows 0 (k0_pay2 (F := Ideal)) _ r d (by omega))) ?_
  rw [z0]
  exact zero_add _

/-- The query gradient's rows, as a point leaves them: its own rows take the block's part, the others stay. -/
def dqNew (x : Args) (h : Fin 4) (qi ki b : Fin 8) (q : Fin 8192) (j : Fin 256) (old : EReal) : EReal :=
  if b = qi then (if ki.val = 0 then 0 else old) + (dqB x h q ki j : EReal) else old

theorem pay31_at (r : Fin 512) (j : Fin 256) (inb) :
    k0_pay31 (k0_pay19 (VecWindow.window x6 ![0, 0] S512x256.size inb)) (dgP0 x5 x6 x9) (dgD0 x7 x8 x10) (ix2 r j)
      = (dqB x h (row qi (lo r)) qi j : EReal) := by
  rw [← dq_lower, ← pay30_at B r j inb]
  pointwise [k0_pay31]

theorem pay32_at (old : Vec Ideal S512x256 .f32) (r : Fin 512) (j : Fin 256) (inb) :
    k0_pay32 (k0_pay19 (VecWindow.window x6 ![0, 0] S512x256.size inb)) (dgP0 x5 x6 x9) (dgD0 x7 x8 x10) old (ix2 r j)
      = old (ix2 r j) + (dqB x h (row qi (lo r)) qi j : EReal) := by
  rw [← dq_lower, ← pay30_at B r j inb]
  pointwise [k0_pay32]

theorem pay47_at (i1 i2 i3 i4) (r : Fin 512) (j : Fin 256) :
    k0_pay47 (k0_pay34 x6) (k0_pay36 (VecWindow.window x5 ![512, 0] S512x256.size i1) x6)
      (k0_pay37 (VecWindow.window x8 ![512, 0] S512x128.size i2) x7) (k0_pay40 k0_pay38 64#32 k0_pay39) k0_pay41
      (VecWindow.window x9 ![512, 0] S512x128.size i3) (VecWindow.window x10 ![512, 0] S512x128.size i4) (ix2 r j)
      = (dqB x h (row qi (hi r)) qi j : EReal) := by
  rw [← pay46_at B i1 i2 i3 i4 r j]
  pointwise [k0_pay47]

omit B in
theorem pay7_at (u old : Vec Ideal S512x256 .f32) (r : Fin 512) (j : Fin 256) : k0_pay7 u old (ix2 r j) = old (ix2 r j) + u (ix2 r j) := by
  pointwise [k0_pay7]

theorem diagDq_at (x14 : Vec Ideal S8192x256 .f32) (b : Fin 8) (r : Fin 1024) (j : Fin 256) :
    diagDq qi x5 x6 x7 x8 x9 x10 x14 (ix2 (row b r) j) = dqNew x h qi qi b (row b r) j (x14 (ix2 (row b r) j)) := by
  have hrow : (row b r).val = 1024 * b.val + r.val := rfl
  have hb := b.isLt
  have hq := qi.isLt
  unfold diagDq dqNew
  by_cases hbq : b = qi
  · subst hbq
    rw [if_pos rfl]
    by_cases hr : r.val < 512
    · refine (put_out _ _ _ _ _ (by omega)).trans ?_
      obtain ⟨r', rfl⟩ : ∃ r' : Fin 512, lo r' = r := ⟨⟨r.val, hr⟩, rfl⟩
      have hl : (lo r').val = r'.val := rfl
      refine (put_in _ _ _ _ r' j (by omega)).trans ?_
      by_cases hz : b.val = 0
      · rw [if_pos hz, if_pos hz, zero_add]
        exact pay31_at B r' j _
      · rw [if_neg hz, if_neg hz]
        refine (pay32_at B _ r' j _).trans (congrArg (· + _) ?_)
        exact win_at _ x14 _ _ r' j (by omega)
    · obtain ⟨r', rfl⟩ : ∃ r' : Fin 512, hi r' = r := ⟨⟨r.val - 512, by omega⟩, Fin.ext (by show 512 + (r.val - 512) = r.val; omega)⟩
      have hl : (hi r').val = 512 + r'.val := rfl
      refine (put_in _ _ _ _ r' j (by omega)).trans ?_
      by_cases hz : b.val = 0
      · rw [if_pos hz, if_pos hz, zero_add]
        exact pay47_at B _ _ _ _ r' j
      · rw [if_neg hz, if_neg hz]
        refine (pay7_at _ _ r' j).trans ?_
        rw [pay46_at B]
        exact congrArg (· + _) (win_at _ x14 _ _ r' j (by omega))
  · have hne : b.val ≠ qi.val := fun e => hbq (Fin.ext e)
    rw [if_neg hbq]
    exact (put_out _ _ _ _ _ (by omega)).trans (put_out _ _ _ _ _ (by omega))

end second

section off
variable {ki : Fin 8} (C : Blocks x h qi ki x5 x6 x7 x8 x9 x10) (hv : ∀ r s, vis (row qi r) (row ki s))
include C hv

theorem pay5_at (r : Fin 1024) (j : Fin 256) :
    k0_pay5 (k0_pay12 x6) (k0_pay16 x5 x6 x8 x7 x9 x10) (ix2 r j) = (dqB x h (row qi r) ki j : EReal) := by
  rw [← pay4_at C hv r j]
  pointwise [k0_pay5]

theorem pay6_at (old : Vec Ideal S1024x256 .f32) (r : Fin 1024) (j : Fin 256) :
    k0_pay6 (k0_pay12 x6) (k0_pay16 x5 x6 x8 x7 x9 x10) old (ix2 r j) = old (ix2 r j) + (dqB x h (row qi r) ki j : EReal) := by
  rw [← pay4_at C hv r j]
  pointwise [k0_pay6]

theorem offDq_at (x14 : Vec Ideal S8192x256 .f32) (b : Fin 8) (r : Fin 1024) (j : Fin 256) :
    offDq qi ki x5 x6 x7 x8 x9 x10 x14 (ix2 (row b r) j) = dqNew x h qi ki b (row b r) j (x14 (ix2 (row b r) j)) := by
  have hrow : (row b r).val = 1024 * b.val + r.val := rfl
  have hb := b.isLt
  have hq := qi.isLt
  unfold offDq dqNew
  by_cases hbq : b = qi
  · subst hbq
    rw [if_pos rfl]
    refine (put_in _ _ _ _ r j (by omega)).trans ?_
    by_cases hz : ki.val = 0
    · rw [if_pos hz, if_pos hz, zero_add]
      exact pay5_at C hv r j
    · rw [if_neg hz, if_neg hz]
      exact (pay6_at C hv _ r j).trans (congrArg (· + _) (win_at _ x14 _ _ r j (by omega)))
  · have hne : b.val ≠ qi.val := fun e => hbq (Fin.ext e)
    rw [if_neg hbq]
    exact put_out _ _ _ _ _ (by omega)

end off

end Cert.AttnStep
-- ==== Proof.Attn.RefTerm.lean ====
module

public import proofs.«01_k».proof.Proof.Attn.Reals
public import proofs.«01_k».proof.Proof.Gen.AttnRefIdeal.Run
public import Idealize.ShloMosaic.Lib.Pipeline.ValueKit
public import Idealize.ShloMosaic.Lib.Pointwise

/-! The attention reference, operation by operation: each value as a function of the arguments, then its elements as
    reals where the arguments are finite. -/

@[expose] public section

set_option maxRecDepth 16384

noncomputable section

open Idealize.ShloMosaic Idealize.ShloMosaic.TcCoe Idealize.SL.Sem

namespace Cert.AttnRef

open Cert.AttnRefIdeal Cert.AttnRefIdeal.Gen Cert.AttnRefIdeal.Value Cert.AttnReal

/-- The six arguments hold the reals of `x`. -/
structure Holds (x : Args) (a0 : FVec Ideal S8192x4x128 .f32) (a1 : FVec Ideal S8192x4x64 .f32) (a2 : FVec Ideal S8192x4x128 .f32)
    (a3 : FVec Ideal S8192x64 .f32) (a4 : FVec Ideal S8192x4x128 .f32) (a5 : FVec Ideal S8192x512 .f32) : Prop where
  qn : ∀ q h d, a0 (ix3 q h d) = (x.qn q h d : EReal)
  qr : ∀ q h d, a1 (ix3 q h d) = (x.qr q h d : EReal)
  kn : ∀ q h d, a2 (ix3 q h d) = (x.kn q h d : EReal)
  kr : ∀ q d, a3 (ix2 q d) = (x.kr q d : EReal)
  v : ∀ q h d, a4 (ix3 q h d) = (x.v q h d : EReal)
  co : ∀ (q : Fin 8192) (h : Fin 4) (d : Fin 128), a5 (ix2 q ⟨h.val * 128 + d.val, by omega⟩) = (x.co q h d : EReal)

/-- A fold of maxima from −∞ is real where no element is +∞ and some element is real. -/
theorem fold_max_real {n : ℕ} (f : Fin n → EReal) (h : ∀ k, f k ≠ ⊤) (k : Fin n) (hk : f k ≠ ⊥) :
    ∃ M : ℝ, (Finset.univ : Finset (Fin n)).fold max ⊥ f = (M : EReal) := by
  have h1 : (Finset.univ : Finset (Fin n)).fold max ⊥ f < ⊤ := by
    rw [Finset.fold_max_lt]; exact ⟨bot_lt_top, fun i _ => lt_top_iff_ne_top.2 (h i)⟩
  have h2 : ⊥ < (Finset.univ : Finset (Fin n)).fold max ⊥ f := by
    rw [Finset.lt_fold_max]; exact Or.inr ⟨k, Finset.mem_univ k, bot_lt_iff_ne_bot.2 hk⟩
  exact ⟨_, (EReal.coe_toReal h1.ne h2.ne').symm⟩

variable (a0 : FVec Ideal S8192x4x128 .f32) (a1 : FVec Ideal S8192x4x64 .f32) (a2 : FVec Ideal S8192x4x128 .f32)
    (a3 : FVec Ideal S8192x64 .f32) (a4 : FVec Ideal S8192x4x128 .f32) (a5 : FVec Ideal S8192x512 .f32)

/-- The rotary keys, one copy per head. -/
def krh : FVec Ideal S8192x4x64 .f32 :=
  broadcastInDim S8192x4x64 ![0, 1, 2] bcast_S8192x1x64_S8192x4x64_0_1_2 (broadcastInDim S8192x1x64 ![0, 2] bcast_S8192x64_S8192x1x64_0_2 a3)

/-- The square root of the head's width. -/
def root : FVec Ideal S_ .f32 := Host.sqrt (constant (F := Ideal) S_ .f32 0x43400000#32)

def score : FVec Ideal S4x8192x8192 .f32 :=
  Host.divf (addf (Host.dotGeneral dot_S8192x4x128_S8192x4x128_S4x8192x8192_2_2_0_0_1_1 none a0 a2)
      (Host.dotGeneral dot_S8192x4x64_S8192x4x64_S4x8192x8192_2_2_0_0_1_1 none a1 (krh a3)))
    (broadcastInDim S4x8192x8192 ![] bcast_S_S4x8192x8192 root)

def mask : IVec S4x8192x8192 1 :=
  cmpi .sle (Host.divsi (iotaInDim S4x8192x8192 32 2) (broadcastInDim S4x8192x8192 ![] bcast_S_S4x8192x8192 (constantI S_ 32 64#32)))
    (Host.divsi (iotaInDim S4x8192x8192 32 1) (broadcastInDim S4x8192x8192 ![] bcast_S_S4x8192x8192 (constantI S_ 32 64#32)))

def masked : FVec Ideal S4x8192x8192 .f32 :=
  select mask (score a0 a1 a2 a3) (broadcastInDim S4x8192x8192 ![] bcast_S_S4x8192x8192 (constant (F := Ideal) S_ .f32 0xFF800000#32))

def rowMax : FVec Ideal S4x8192 .f32 :=
  Host.reduce FloatOps.maximumf (masked a0 a1 a2 a3) (constant (F := Ideal) S_ .f32 0xFF800000#32) reducesTo_S4x8192x8192_S4x8192_d2 h_S_

/-- The shift of a row. -/
def rowTop : FVec Ideal S4x8192 .f32 :=
  maximumf (broadcastInDim S4x8192 ![] bcast_S_S4x8192 (constant (F := Ideal) S_ .f32 0xFF800000#32)) (rowMax a0 a1 a2 a3)

def expo : FVec Ideal S4x8192x8192 .f32 :=
  Host.exp (subf (masked a0 a1 a2 a3) (broadcastInDim S4x8192x8192 ![0, 1, 2] bcast_S4x8192x1_S4x8192x8192_0_1_2
    (broadcastInDim S4x8192x1 ![0, 1] bcast_S4x8192_S4x8192x1_0_1 (rowTop a0 a1 a2 a3))))

/-- A row's sum of exponentials. -/
def den : FVec Ideal S4x8192 .f32 :=
  Host.reduceAdd (expo a0 a1 a2 a3) (constant (F := Ideal) S_ .f32 0x00000000#32) reducesTo_S4x8192x8192_S4x8192_d2 h_S_

def denK : FVec Ideal S4x8192x1 .f32 := broadcastInDim S4x8192x1 ![0, 1] bcast_S4x8192_S4x8192x1_0_1 (den a0 a1 a2 a3)

def prob : FVec Ideal S4x8192x8192 .f32 :=
  Host.divf (expo a0 a1 a2 a3) (broadcastInDim S4x8192x8192 ![0, 1, 2] bcast_S4x8192x1_S4x8192x8192_0_1_2 (denK a0 a1 a2 a3))

/-- One over a row's sum squared. -/
def inv : FVec Ideal S4x8192x1 .f32 :=
  Host.divf (broadcastInDim S4x8192x1 ![] bcast_S_S4x8192x1 (constant (F := Ideal) S_ .f32 0x3F800000#32)) (mulf (denK a0 a1 a2 a3) (denK a0 a1 a2 a3))

def coT : FVec Ideal S4x128x8192 .f32 :=
  transpose S4x128x8192 [1, 2, 0] (shapeCast S8192x4x128 a5 shapeCasts_S8192x512_S8192x4x128) transposes_S8192x4x128_S4x128x8192_1_2_0

/-- The weights' cotangent. -/
def dpr : FVec Ideal S4x8192x8192 .f32 := Host.dotGeneral dot_S4x128x8192_S8192x4x128_S4x8192x8192_1_2_2_0_0_1 none (coT a5) a4

def dvr : FVec Ideal S8192x4x128 .f32 :=
  transpose S8192x4x128 [2, 0, 1] (Host.dotGeneral dot_S4x128x8192_S4x8192x8192_S4x128x8192_2_1_1_2_0_0 none (coT a5) (prob a0 a1 a2 a3)) transposes_S4x128x8192_S8192x4x128_2_0_1

/-- The cotangent of a row's sum. -/
def corr : FVec Ideal S4x8192x1 .f32 :=
  Host.negf (shapeCast S4x8192x1 (Host.reduceAdd
    (mulf (mulf (dpr a4 a5) (broadcastInDim S4x8192x8192 ![0, 1, 2] bcast_S4x8192x1_S4x8192x8192_0_1_2 (inv a0 a1 a2 a3))) (expo a0 a1 a2 a3))
    (constant (F := Ideal) S_ .f32 0x00000000#32) reducesTo_S4x8192x8192_S4x8192_d2 h_S_) shapeCasts_S4x8192_S4x8192x1)

/-- The cotangent of the scores' products. -/
def dsr : FVec Ideal S4x8192x8192 .f32 :=
  Host.divf (select mask
    (mulf (addf (Host.divf (dpr a4 a5) (broadcastInDim S4x8192x8192 ![0, 1, 2] bcast_S4x8192x1_S4x8192x8192_0_1_2 (denK a0 a1 a2 a3)))
      (broadcastInDim S4x8192x8192 ![0, 1] bcast_S4x8192_S4x8192x8192_0_1
        (Host.reduceAdd (corr a0 a1 a2 a3 a4 a5) (constant (F := Ideal) S_ .f32 0x00000000#32) reducesTo_S4x8192x1_S4x8192_d2 h_S_)))
      (expo a0 a1 a2 a3))
    (broadcastInDim S4x8192x8192 ![] bcast_S_S4x8192x8192 (constant (F := Ideal) S_ .f32 0x00000000#32)))
    (broadcastInDim S4x8192x8192 ![] bcast_S_S4x8192x8192 root)

def zeros : FVec Ideal S8192x4x64 .f32 := broadcastInDim S8192x4x64 ![] bcast_S_S8192x4x64 (constant (F := Ideal) S_ .f32 0x00000000#32)

def dqr : FVec Ideal S8192x1024 .bf16 :=
  truncf .bf16 (shapeCast S8192x1024 (fn_main_v78 (F := Ideal)
    (transpose S8192x4x128 [1, 0, 2] (Host.dotGeneral dot_S4x8192x8192_S8192x4x128_S4x8192x128_2_0_1_2_0_1 none (dsr a0 a1 a2 a3 a4 a5) a2) transposes_S4x8192x128_S8192x4x128_1_0_2)
    (transpose S8192x4x64 [1, 0, 2] (Host.dotGeneral dot_S4x8192x8192_S8192x4x64_S4x8192x64_2_0_1_2_0_1 none (dsr a0 a1 a2 a3 a4 a5) (krh a3)) transposes_S4x8192x64_S8192x4x64_1_0_2)
    zeros) shapeCasts_S8192x4x256_S8192x1024) bitsLt_bf16_f32

def dkr : FVec Ideal S8192x1024 .bf16 :=
  truncf .bf16 (shapeCast S8192x1024 (fn_main_v80 (F := Ideal)
    (transpose S8192x4x128 [1, 0, 2] (Host.dotGeneral dot_S4x8192x8192_S8192x4x128_S4x8192x128_1_0_2_2_0_1 none (dsr a0 a1 a2 a3 a4 a5) a0) transposes_S4x8192x128_S8192x4x128_1_0_2)
    (transpose S8192x4x64 [1, 0, 2] (Host.dotGeneral dot_S4x8192x8192_S8192x4x64_S4x8192x64_1_0_2_2_0_1 none (dsr a0 a1 a2 a3 a4 a5) a1) transposes_S4x8192x64_S8192x4x64_1_0_2)
    zeros) shapeCasts_S8192x4x256_S8192x1024) bitsLt_bf16_f32

section
variable (m : (ℓ : Loc nD τ sig) → Buf (Elt Ideal) ℓ) (c : Dev nD)

theorem res0 : res_main_v82 (F := Ideal) m c = dqr (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) := rfl

theorem res1 : res_main_v83 (F := Ideal) m c = dkr (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) := rfl

theorem res2 : res_main_v85 (F := Ideal) m c = truncf .bf16 (shapeCast S8192x512 (dvr (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg5))) shapeCasts_S8192x4x128_S8192x512) bitsLt_bf16_f32 := rfl
end

end Cert.AttnRef
-- ==== Proof.Attn.Ref.lean ====
module

public import proofs.«01_k».proof.Proof.Attn.RefTerm
public import Idealize.ShloMosaic.Lib.Routing.Words
public import Idealize.ShloMosaic.Lib.Pipeline.ValueKit
public import Idealize.ShloMosaic.Lib.Pointwise

/-! The attention reference, operation by operation: each value's elements as reals where the arguments are finite. -/

@[expose] public section

set_option maxRecDepth 16384

noncomputable section

open Idealize.ShloMosaic Idealize.ShloMosaic.TcCoe Idealize.SL.Sem

namespace Cert.AttnRef

open Cert.AttnRefIdeal Cert.AttnRefIdeal.Gen Cert.AttnRefIdeal.Value Cert.AttnReal

theorem negInf : Ideal.ofBits FTy.f32 4286578688#32 = (⊥ : EReal) := by
  simp [Ideal.ofBits, Ideal.ieee]

theorem w192 : Ideal.ofBits FTy.f32 1128267776#32 = ((192 : ℝ) : EReal) := by
  simp [Ideal.ofBits, Ideal.ieee]
  norm_num
  try exact_mod_cast (by norm_num : (12582912 : ℝ) * (1 / 65536) = 192)

/-- The maximum with −∞ is the other operand. -/
theorem max_negInf (y : FVec Ideal S4x8192 .f32) (j : S4x8192.Idx) :
    maximumf (broadcastInDim S4x8192 ![] bcast_S_S4x8192 (constant (F := Ideal) S_ .f32 0xFF800000#32)) y j = y j := by
  have e : maximumf (broadcastInDim S4x8192 ![] bcast_S_S4x8192 (constant (F := Ideal) S_ .f32 0xFF800000#32)) y j
      = max (Ideal.ofBits .f32 0xFF800000#32) (y j) := rfl
  rw [e, negInf, max_eq_right bot_le]

theorem root_at (j : S_.Idx) : root j = ((Real.sqrt 192 : ℝ) : EReal) := by
  pointwise [root]
  rw [w192, Ideal.sqrt_coe, if_neg (by norm_num)]

theorem sle_word {a b : ℕ} (ha : a < 2 ^ 31) (hb : b < 2 ^ 31) :
    IntOp.cmpi .sle (BitVec.ofNat 32 a) (BitVec.ofNat 32 b) = if a ≤ b then 1#1 else 0#1 := by
  unfold IntOp.cmpi
  simp only [Routing.sle_ofNat32 ha hb]
  by_cases h : a ≤ b <;> simp [h]

theorem mask_at (h : Fin 4) (q k : Fin 8192) : mask (ix3 h q k) = if vis q k then 1#1 else 0#1 := by
  pointwise [mask]
  rw [show (64#32 : BitVec 32) = BitVec.ofNat 32 64 from rfl,
    Routing.divsi_word _ (by omega) (by norm_num) (by norm_num), Routing.divsi_word _ (by omega) (by norm_num) (by norm_num),
    sle_word (by omega) (by omega)]
  rfl

variable {a0 : FVec Ideal S8192x4x128 .f32} {a1 : FVec Ideal S8192x4x64 .f32} {a2 : FVec Ideal S8192x4x128 .f32}
    {a3 : FVec Ideal S8192x64 .f32} {a4 : FVec Ideal S8192x4x128 .f32} {a5 : FVec Ideal S8192x512 .f32}
    {x : Args} (H : Holds x a0 a1 a2 a3 a4 a5)
include H

theorem krh_at (q : Fin 8192) (h : Fin 4) (d : Fin 64) : krh a3 (ix3 q h d) = (x.kr q d : EReal) := by
  pointwise [krh]
  exact H.kr q d

theorem score_at (h : Fin 4) (q k : Fin 8192) : score a0 a1 a2 a3 (ix3 h q k) = ((raw x h q k * sc : ℝ) : EReal) := by
  have h0 : Real.sqrt 192 ≠ 0 := by positivity
  pointwise [score]
  simp only [root_at, H.qn, H.kn, H.qr, krh_at H]
  rw [Ideal.div_coe h0]
  unfold raw sc
  simp only [← EReal.coe_mul, ← Cert.Shared.coe_sum, ← EReal.coe_add, one_div]

theorem masked_at (h : Fin 4) (q k : Fin 8192) :
    masked a0 a1 a2 a3 (ix3 h q k) = if vis q k then ((raw x h q k * sc : ℝ) : EReal) else ⊥ := by
  pointwise [masked]
  rw [mask_at, score_at H, negInf]
  by_cases hv : vis q k <;> simp [hv, Scalar.select]

theorem rowMax_real (h : Fin 4) (q : Fin 8192) : ∃ M : ℝ, rowMax a0 a1 a2 a3 (ix2 h q) = (M : EReal) := by
  pointwise [rowMax]
  rw [negInf]
  refine fold_max_real _ (fun k => ?_) q ?_
  · rw [masked_at H]; split
    · exact EReal.coe_ne_top _
    · exact bot_ne_top
  · rw [masked_at H, if_pos (show vis q q from le_refl _)]; exact EReal.coe_ne_bot _

/-- The shift of a row: its maximum, as a real. -/
def top (h : Fin 4) (q : Fin 8192) : ℝ := (rowMax_real H h q).choose

theorem rowMax_at (h : Fin 4) (q : Fin 8192) : rowMax a0 a1 a2 a3 (ix2 h q) = (top H h q : EReal) := (rowMax_real H h q).choose_spec

theorem rowTop_at (h : Fin 4) (q : Fin 8192) : rowTop a0 a1 a2 a3 (ix2 h q) = (top H h q : EReal) := by
  unfold rowTop
  rw [max_negInf, rowMax_at H]

theorem expo_at (h : Fin 4) (q k : Fin 8192) :
    expo a0 a1 a2 a3 (ix3 h q k) = ((ex x h q k * Real.exp (-top H h q) : ℝ) : EReal) := by
  pointwise [expo]
  rw [masked_at H, rowTop_at H, ← ex_shift]
  by_cases hv : vis q k
  · rw [if_pos hv, if_pos hv, ← EReal.coe_sub, Ideal.exp_coe]
  · rw [if_neg hv, if_neg hv, EReal.bot_sub]; simp

theorem den_at (h : Fin 4) (q : Fin 8192) : den a0 a1 a2 a3 (ix2 h q) = ((z x h q * Real.exp (-top H h q) : ℝ) : EReal) := by
  pointwise [den]
  simp only [expo_at H]
  rw [← Cert.Shared.coe_sum, z_shift]

theorem den_ne (h : Fin 4) (q : Fin 8192) : z x h q * Real.exp (-top H h q) ≠ 0 := mul_ne_zero (z_pos x h q).ne' (Real.exp_pos _).ne'

theorem prob_at (h : Fin 4) (q k : Fin 8192) : prob a0 a1 a2 a3 (ix3 h q k) = (p x h q k : EReal) := by
  pointwise [prob, denK]
  rw [expo_at H, den_at H, Ideal.div_coe (den_ne H h q), ← EReal.coe_mul, ← p_shift x h q k (top H h q), div_eq_mul_one_div (ex x h q k * _)]

theorem dpr_at (h : Fin 4) (q k : Fin 8192) : dpr a4 a5 (ix3 h q k) = (dp x h q k : EReal) := by
  pointwise [dpr, coT]
  simp only [H.co, H.v]
  unfold dp
  simp only [← EReal.coe_mul, ← Cert.Shared.coe_sum]

theorem dvr_at (h : Fin 4) (k : Fin 8192) (d : Fin 128) : dvr a0 a1 a2 a3 a5 (ix3 k h d) = (dv x h k d : EReal) := by
  pointwise [dvr, coT]
  simp only [H.co, prob_at H]
  unfold dv
  simp only [← EReal.coe_mul, ← Cert.Shared.coe_sum, mul_comm]

theorem corr_at (h : Fin 4) (q : Fin 8192) (j : Fin 1) : corr a0 a1 a2 a3 a4 a5 (ix3 h q j)
    = ((-(∑ k, dp x h q k * (1 / (z x h q * Real.exp (-top H h q) * (z x h q * Real.exp (-top H h q)))) * (ex x h q k * Real.exp (-top H h q))) : ℝ) : EReal) := by
  pointwise [corr, inv, denK]
  simp only [dpr_at H, den_at H, expo_at H]
  rw [← EReal.coe_mul, Ideal.div_coe (mul_ne_zero (den_ne H h q) (den_ne H h q)), one_mul]
  simp only [← EReal.coe_mul, ← Cert.Shared.coe_sum, ← EReal.coe_neg]

theorem dsr_at (h : Fin 4) (q k : Fin 8192) : dsr a0 a1 a2 a3 a4 a5 (ix3 h q k) = ((ds x h q k * sc : ℝ) : EReal) := by
  have h0 : Real.sqrt 192 ≠ 0 := by positivity
  pointwise [dsr, denK]
  rw [dpr_at H, den_at H, expo_at H, mask_at, root_at, Ideal.div_coe h0, Ideal.div_coe (den_ne H h q)]
  simp only [corr_at H, Fin.sum_univ_one]
  rw [← EReal.coe_mul, ← EReal.coe_add, ← EReal.coe_mul, ← div_eq_mul_one_div, ds_shift]
  by_cases hv : vis q k
  · simp [hv, Scalar.select, sc, ← EReal.coe_mul]
  · simp [hv, Scalar.select, ds_of_not]

theorem dqr_at (h : Fin 4) (q : Fin 8192) (j : Fin 256) :
    dqr a0 a1 a2 a3 a4 a5 (ix2 q ⟨h.val * 256 + j.val, by omega⟩) = (dq x h q j : EReal) := by
  pointwise [dqr, fn_main_v78, zeros]
  simp only [dsr_at H, H.kn, krh_at H]
  unfold dq kc slot
  rw [Finset.sum_mul]
  by_cases h1 : j.val < 128
  · simp only [dif_pos h1, ← EReal.coe_mul, ← Cert.Shared.coe_sum]
    exact congrArg _ (Finset.sum_congr rfl fun i _ => mul_right_comm _ _ _)
  · by_cases h2 : j.val - 128 < 64
    · simp only [dif_neg h1, dif_pos h2, ← EReal.coe_mul, ← Cert.Shared.coe_sum]
      exact congrArg _ (Finset.sum_congr rfl fun i _ => mul_right_comm _ _ _)
    · simp [h1, h2]

theorem dkr_at (h : Fin 4) (k : Fin 8192) (j : Fin 256) :
    dkr a0 a1 a2 a3 a4 a5 (ix2 k ⟨h.val * 256 + j.val, by omega⟩) = (dk x h k j : EReal) := by
  pointwise [dkr, fn_main_v80, zeros]
  simp only [dsr_at H, H.qn, H.qr]
  unfold dk qc slot
  rw [Finset.sum_mul]
  by_cases h1 : j.val < 128
  · simp only [dif_pos h1, ← EReal.coe_mul, ← Cert.Shared.coe_sum]
    exact congrArg _ (Finset.sum_congr rfl fun i _ => mul_right_comm _ _ _)
  · by_cases h2 : j.val - 128 < 64
    · simp only [dif_neg h1, dif_pos h2, ← EReal.coe_mul, ← Cert.Shared.coe_sum]
      exact congrArg _ (Finset.sum_congr rfl fun i _ => mul_right_comm _ _ _)
    · simp [h1, h2]

end Cert.AttnRef
-- ==== Proof.Attn.Host.lean ====
module

public import proofs.«01_k».proof.Proof.Attn.Ref
public import proofs.«01_k».proof.Proof.Attn.State
public import Idealize.ShloMosaic.Lib.StableHlo.Run

/-! What the kernel's host lines hand it, where the arguments are finite: the heads' slots of queries and keys, the values,
    the cotangent, a row's logarithm in powers of two and a row's inner product of the cotangent with the output. -/

@[expose] public section

set_option maxRecDepth 16384

noncomputable section

open Idealize.ShloMosaic Idealize.ShloMosaic.TcCoe Idealize.SL.Sem

namespace Cert.AttnHost

open Cert.AttnIdeal Cert.AttnIdeal.Gen Cert.AttnReal Cert.AttnRun

variable (a0 : FVec Ideal S8192x4x128 .f32) (a1 : FVec Ideal S8192x4x64 .f32) (a2 : FVec Ideal S8192x4x128 .f32)
    (a3 : FVec Ideal S8192x64 .f32) (a4 : FVec Ideal S8192x4x128 .f32) (a5 : FVec Ideal S8192x512 .f32)

/-- A row's maximum, kept as a column. -/
def maxK : FVec Ideal S4x8192x1 .f32 := broadcastInDim S4x8192x1 ![0, 1] bcast_S4x8192_S4x8192x1_0_1 (AttnRef.rowMax a0 a1 a2 a3)

def expo : FVec Ideal S4x8192x8192 .f32 :=
  Host.exp (subf (AttnRef.masked a0 a1 a2 a3) (broadcastInDim S4x8192x8192 ![0, 1, 2] bcast_S4x8192x1_S4x8192x8192_0_1_2 (maxK a0 a1 a2 a3)))

def sumK : FVec Ideal S4x8192x1 .f32 := broadcastInDim S4x8192x1 ![0, 1] bcast_S4x8192_S4x8192x1_0_1
  (Host.reduceAdd (expo a0 a1 a2 a3) (constant (F := Ideal) S_ .f32 0x00000000#32) reducesTo_S4x8192x8192_S4x8192_d2 h_S_)

/-- The softmax's output, head by head. -/
def out : FVec Ideal S8192x4x128 .f32 :=
  transpose S8192x4x128 [2, 0, 1] (Host.dotGeneral dot_S8192x4x128_S4x8192x8192_S4x128x8192_0_2_2_1_1_0 none a4
    (Host.divf (expo a0 a1 a2 a3) (broadcastInDim S4x8192x8192 ![0, 1, 2] bcast_S4x8192x1_S4x8192x8192_0_1_2 (sumK a0 a1 a2 a3))))
    transposes_S4x128x8192_S8192x4x128_2_0_1

/-- A row's logarithm, base two, of its maximum and its sum. -/
def lseOf (u v : FVec Ideal S4x8192x1 .f32) : FVec Ideal S8192x4 .f32 :=
  Host.divf (transpose S8192x4 [1, 0] (shapeCast S4x8192 (addf u (Host.log v)) shapeCasts_S4x8192x1_S4x8192) transposes_S4x8192_S8192x4_1_0)
    (broadcastInDim S8192x4 ![] bcast_S_S8192x4 (Host.log (constant (F := Ideal) S_ .f32 0x40000000#32)))

def lse : FVec Ideal S8192x4 .f32 := lseOf (maxK a0 a1 a2 a3) (sumK a0 a1 a2 a3)

def delta : FVec Ideal S8192x4 .f32 :=
  Host.reduceAdd (mulf (shapeCast S8192x4x128 a5 shapeCasts_S8192x512_S8192x4x128) (out a0 a1 a2 a3 a4)) (constant (F := Ideal) S_ .f32 0x00000000#32)
    reducesTo_S8192x4x128_S8192x4_d2 h_S_

/-- One copy of a row's number per column of a head. -/
def lanes (y : FVec Ideal S8192x4 .f32) : FVec Ideal S8192x512 .f32 :=
  shapeCast S8192x512 (broadcastInDim S8192x4x128 ![0, 1, 2] bcast_S8192x4x1_S8192x4x128_0_1_2
    (broadcastInDim S8192x4x1 ![0, 1] bcast_S8192x4_S8192x4x1_0_1 y)) shapeCasts_S8192x4x128_S8192x512

/-- The heads' slots of 256 columns. -/
def slots (b : FVec Ideal S8192x4x128 .f32) (e : FVec Ideal S8192x4x64 .f32) : FVec Ideal S8192x1024 .bf16 :=
  truncf .bf16 (shapeCast S8192x1024 (concatenate S8192x4x256 2 [⟨S8192x4x128, b⟩, ⟨S8192x4x64, e⟩,
    ⟨S8192x4x64, broadcastInDim S8192x4x64 ![] bcast_S_S8192x4x64 (constant (F := Ideal) S_ .f32 0x00000000#32)⟩]
    concatenates_S8192x4x128_S8192x4x64_S8192x4x64_S8192x4x256_d2) shapeCasts_S8192x4x256_S8192x1024) bitsLt_bf16_f32

def flat (b : FVec Ideal S8192x4x128 .f32) : FVec Ideal S8192x512 .bf16 :=
  truncf .bf16 (shapeCast S8192x512 b shapeCasts_S8192x4x128_S8192x512) bitsLt_bf16_f32

section
variable {a0 a1 a2 a3 a4 a5} {x : Args} (H : AttnRef.Holds x a0 a1 a2 a3 a4 a5)
include H

theorem maxK_at (h : Fin 4) (q : Fin 8192) (j : Fin 1) : maxK a0 a1 a2 a3 (ix3 h q j) = (AttnRef.top H h q : EReal) := by
  pointwise [maxK]
  exact AttnRef.rowMax_at H h q

theorem expo_at (h : Fin 4) (q k : Fin 8192) :
    expo a0 a1 a2 a3 (ix3 h q k) = ((ex x h q k * Real.exp (-AttnRef.top H h q) : ℝ) : EReal) := by
  pointwise [expo]
  rw [AttnRef.masked_at H, maxK_at H, ← ex_shift]
  by_cases hv : vis q k
  · rw [if_pos hv, if_pos hv, ← EReal.coe_sub, Ideal.exp_coe]
  · rw [if_neg hv, if_neg hv, EReal.bot_sub]; simp

theorem sumK_at (h : Fin 4) (q : Fin 8192) (j : Fin 1) : sumK a0 a1 a2 a3 (ix3 h q j) = ((z x h q * Real.exp (-AttnRef.top H h q) : ℝ) : EReal) := by
  pointwise [sumK]
  simp only [expo_at H]
  rw [← Cert.Shared.coe_sum, z_shift]

theorem out_at (q : Fin 8192) (h : Fin 4) (d : Fin 128) : out a0 a1 a2 a3 a4 (ix3 q h d) = ((∑ k, x.v k h d * p x h q k : ℝ) : EReal) := by
  pointwise [out]
  simp only [H.v, expo_at H, sumK_at H, Ideal.div_coe (AttnRef.den_ne H h q), ← EReal.coe_mul]
  rw [← Cert.Shared.coe_sum]
  refine congrArg _ (Finset.sum_congr rfl fun k _ => ?_)
  rw [← p_shift x h q k (AttnRef.top H h q), div_eq_mul_one_div (ex x h q k * _)]

theorem delta_at (q : Fin 8192) (h : Fin 4) : delta a0 a1 a2 a3 a4 a5 (ix2 q h) = (dl x h q : EReal) := by
  pointwise [delta]
  simp only [H.co, out_at H, ← EReal.coe_mul]
  rw [← Cert.Shared.coe_sum, sum_co_out]

omit H in
theorem lseOf_at (u v : FVec Ideal S4x8192x1 .f32) (q : Fin 8192) (h : Fin 4) :
    lseOf u v (ix2 q h) = Ideal.div (u (ix3 h q 0) + Ideal.log (v (ix3 h q 0))) (Ideal.log (Ideal.ofBits FTy.f32 1073741824#32)) := by
  pointwise [lseOf]

theorem lse_at (q : Fin 8192) (h : Fin 4) : lse a0 a1 a2 a3 (ix2 q h) = ((Real.log (z x h q) / Real.log 2 : ℝ) : EReal) := by
  have h2 : Ideal.ofBits FTy.f32 1073741824#32 = ((2 : ℝ) : EReal) := by
    simp [Ideal.ofBits, Ideal.ieee]
    norm_num
    try exact_mod_cast (by norm_num : (8388608 : ℝ) * (1 / 4194304) = 2)
  unfold lse
  rw [lseOf_at, maxK_at H, sumK_at H, h2, Ideal.log_coe, Ideal.log_coe, if_neg (not_le.2 (mul_pos (z_pos x h q) (Real.exp_pos _))),
    if_neg (by norm_num), ← EReal.coe_add, log_shift, Ideal.div_coe (Real.log_pos (by norm_num)).ne',
    ← EReal.coe_mul, ← div_eq_mul_one_div]

end

theorem lanes_at (y : FVec Ideal S8192x4 .f32) (q : Fin 8192) (h : Fin 4) (d : Fin 128) :
    lanes y (ix2 q ⟨h.val * 128 + d.val, by omega⟩) = y (ix2 q h) := by
  pointwise [lanes]

theorem slots_at (b : FVec Ideal S8192x4x128 .f32) (e : FVec Ideal S8192x4x64 .f32) (q : Fin 8192) (h : Fin 4) (j : Fin 256) :
    slots b e (ix2 q ⟨h.val * 256 + j.val, by omega⟩) = if h1 : j.val < 128 then b (ix3 q h ⟨j.val, h1⟩)
      else if h2 : j.val - 128 < 64 then e (ix3 q h ⟨j.val - 128, h2⟩) else 0 := by
  pointwise [slots]

theorem flat_at (b : FVec Ideal S8192x4x128 .f32) (q : Fin 8192) (h : Fin 4) (d : Fin 128) :
    flat b (ix2 q ⟨h.val * 128 + d.val, by omega⟩) = b (ix3 q h d) := by
  pointwise [flat]

variable (m : (ℓ : Loc nD τ sig) → Buf (Elt Ideal) ℓ) (c : Dev nD)

/-- The arguments of a launch are the reals of `x`. -/
abbrev Fin' (x : Args) : Prop := AttnRef.Holds x (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))

theorem V51 : V m c main_v51 = lanes (lse (m ((c : Thread nD τ).loc main_arg0)) (m ((c : Thread nD τ).loc main_arg1)) (m ((c : Thread nD τ).loc main_arg2))
    (m ((c : Thread nD τ).loc main_arg3))) := by
  unfold V; after_results_simp; rfl

theorem V54 : V m c main_v54 = lanes (delta (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))) := by
  unfold V; after_results_simp; rfl

theorem V41 : V m c main_v41 = slots (m ((c : Thread nD τ).loc main_arg0)) (m ((c : Thread nD τ).loc main_arg1)) := by
  unfold V; after_results_simp; rfl

theorem V45 : V m c main_v45 = slots (m ((c : Thread nD τ).loc main_arg2)) (AttnRef.krh (m ((c : Thread nD τ).loc main_arg3))) := by
  unfold V; after_results_simp; rfl

theorem V47 : V m c main_v47 = flat (m ((c : Thread nD τ).loc main_arg4)) := by
  unfold V; after_results_simp; rfl

theorem V48 : V m c main_v48 = (truncf .bf16 (m ((c : Thread nD τ).loc main_arg5) : FVec Ideal S8192x512 .f32) bitsLt_bf16_f32 : FVec Ideal S8192x512 .bf16) := by
  unfold V; after_results_simp

variable {m c} {x : Args} (H : Fin' m c x)
include H

theorem lse_win (q : Fin 8192) (h : Fin 4) (d : Fin 128) :
    V m c main_v51 (ix2 q ⟨h.val * 128 + d.val, by omega⟩) = ((Real.log (z x h q) / Real.log 2 : ℝ) : EReal) := by
  rw [V51, lanes_at, lse_at H]

theorem delta_win (q : Fin 8192) (h : Fin 4) (d : Fin 128) :
    V m c main_v54 (ix2 q ⟨h.val * 128 + d.val, by omega⟩) = (dl x h q : EReal) := by
  rw [V54, lanes_at, delta_at H]

theorem q_win (q : Fin 8192) (h : Fin 4) (j : Fin 256) : V m c main_v41 (ix2 q ⟨h.val * 256 + j.val, by omega⟩) = (qc x h q j : EReal) := by
  rw [V41, slots_at]
  unfold qc slot
  by_cases h1 : j.val < 128
  · rw [dif_pos h1, dif_pos h1]; exact H.qn q h _
  · by_cases h2 : j.val - 128 < 64
    · rw [dif_neg h1, dif_neg h1, dif_pos h2, dif_pos h2]; exact H.qr q h _
    · simp [h1, h2]

theorem k_win (k : Fin 8192) (h : Fin 4) (j : Fin 256) : V m c main_v45 (ix2 k ⟨h.val * 256 + j.val, by omega⟩) = (kc x h k j : EReal) := by
  rw [V45, slots_at]
  unfold kc slot
  by_cases h1 : j.val < 128
  · rw [dif_pos h1, dif_pos h1]; exact H.kn k h _
  · by_cases h2 : j.val - 128 < 64
    · rw [dif_neg h1, dif_neg h1, dif_pos h2, dif_pos h2]; exact AttnRef.krh_at H k h _
    · simp [h1, h2]

theorem v_win (k : Fin 8192) (h : Fin 4) (d : Fin 128) : V m c main_v47 (ix2 k ⟨h.val * 128 + d.val, by omega⟩) = (x.v k h d : EReal) := by
  rw [V47, flat_at]; exact H.v k h d

theorem co_win (q : Fin 8192) (h : Fin 4) (d : Fin 128) : V m c main_v48 (ix2 q ⟨h.val * 128 + d.val, by omega⟩) = (x.co q h d : EReal) := by
  rw [V48]; exact H.co q h d

end Cert.AttnHost
-- ==== Proof.Attn.Values.lean ====
module

public import proofs.«01_k».proof.Proof.Attn.DiagStep
public import proofs.«01_k».proof.Proof.Attn.Host
public import proofs.«01_k».proof.Proof.Attn.Launch

/-! What the accumulators hold from point to point, and the three gradients the run leaves. -/

@[expose] public section

set_option maxRecDepth 16384

noncomputable section

open Idealize.ShloMosaic Idealize.ShloMosaic.TcCoe Idealize.SL.Sem

namespace Cert.AttnValue

open Cert.AttnIdeal Cert.AttnIdeal.Gen Cert.AttnReal Cert.AttnRun Cert.AttnStep

/-- The head of a point. -/
def hd (t : Fin grid0.N) : Fin 4 := grid0.coords t 0

theorem idx0 : ∀ t : Fin grid0.N, ((cfgA (F := Ideal)).win 0).index t 0 = (qb t).val ∧ ((cfgA (F := Ideal)).win 0).index t 1 = (hd t).val := of_decide_eq_true (by sl_kernel_rfl)
theorem idx1 : ∀ t : Fin grid0.N, ((cfgA (F := Ideal)).win 1).index t 0 = (kb t).val ∧ ((cfgA (F := Ideal)).win 1).index t 1 = (hd t).val := of_decide_eq_true (by sl_kernel_rfl)
theorem idx2 : ∀ t : Fin grid0.N, ((cfgA (F := Ideal)).win 2).index t 0 = (kb t).val ∧ ((cfgA (F := Ideal)).win 2).index t 1 = (hd t).val := of_decide_eq_true (by sl_kernel_rfl)
theorem idx3 : ∀ t : Fin grid0.N, ((cfgA (F := Ideal)).win 3).index t 0 = (qb t).val ∧ ((cfgA (F := Ideal)).win 3).index t 1 = (hd t).val := of_decide_eq_true (by sl_kernel_rfl)
theorem idx4 : ∀ t : Fin grid0.N, ((cfgA (F := Ideal)).win 4).index t 0 = (qb t).val ∧ ((cfgA (F := Ideal)).win 4).index t 1 = (hd t).val := of_decide_eq_true (by sl_kernel_rfl)
theorem idx5 : ∀ t : Fin grid0.N, ((cfgA (F := Ideal)).win 5).index t 0 = (qb t).val ∧ ((cfgA (F := Ideal)).win 5).index t 1 = (hd t).val := of_decide_eq_true (by sl_kernel_rfl)
theorem idx6 : ∀ t : Fin grid0.N, ((cfgA (F := Ideal)).win 6).index t 0 = (kb t).val ∧ ((cfgA (F := Ideal)).win 6).index t 1 = (hd t).val := of_decide_eq_true (by sl_kernel_rfl)
theorem idx7 : ∀ t : Fin grid0.N, ((cfgA (F := Ideal)).win 7).index t 0 = (kb t).val ∧ ((cfgA (F := Ideal)).win 7).index t 1 = (hd t).val := of_decide_eq_true (by sl_kernel_rfl)

variable {m : (ℓ : Loc nD τ sig) → Buf (Elt Ideal) ℓ} {c : Dev nD} {x : Args} (H : AttnHost.Fin' m c x)

theorem bQ_at (t : Fin grid0.N) (r : Fin 1024) (j : Fin 256) :
    bQ m c t (ix2 r j) = V m c main_v41 (ix2 (row (qb t) r) ⟨(hd t).val * 256 + j.val, by omega⟩) := by
  refine congrArg (V m c main_v41) (funext fun a => Fin.ext ?_)
  match a with
  | 0 =>
    show ((cfgA (F := Ideal)).win 0).index t 0 * 1024 + 1 * r.val = 1024 * (qb t).val + r.val
    rw [(idx0 t).1]; omega
  | 1 =>
    show ((cfgA (F := Ideal)).win 0).index t 1 * 256 + 1 * j.val = (hd t).val * 256 + j.val
    rw [(idx0 t).2]; omega

theorem bK_at (t : Fin grid0.N) (r : Fin 1024) (j : Fin 256) :
    bK m c t (ix2 r j) = V m c main_v45 (ix2 (row (kb t) r) ⟨(hd t).val * 256 + j.val, by omega⟩) := by
  refine congrArg (V m c main_v45) (funext fun a => Fin.ext ?_)
  match a with
  | 0 =>
    show ((cfgA (F := Ideal)).win 1).index t 0 * 1024 + 1 * r.val = 1024 * (kb t).val + r.val
    rw [(idx1 t).1]; omega
  | 1 =>
    show ((cfgA (F := Ideal)).win 1).index t 1 * 256 + 1 * j.val = (hd t).val * 256 + j.val
    rw [(idx1 t).2]; omega

theorem bV_at (t : Fin grid0.N) (r : Fin 1024) (j : Fin 128) :
    bV m c t (ix2 r j) = V m c main_v47 (ix2 (row (kb t) r) ⟨(hd t).val * 128 + j.val, by omega⟩) := by
  refine congrArg (V m c main_v47) (funext fun a => Fin.ext ?_)
  match a with
  | 0 =>
    show ((cfgA (F := Ideal)).win 2).index t 0 * 1024 + 1 * r.val = 1024 * (kb t).val + r.val
    rw [(idx2 t).1]; omega
  | 1 =>
    show ((cfgA (F := Ideal)).win 2).index t 1 * 128 + 1 * j.val = (hd t).val * 128 + j.val
    rw [(idx2 t).2]; omega

theorem bO_at (t : Fin grid0.N) (r : Fin 1024) (j : Fin 128) :
    bO m c t (ix2 r j) = V m c main_v48 (ix2 (row (qb t) r) ⟨(hd t).val * 128 + j.val, by omega⟩) := by
  refine congrArg (V m c main_v48) (funext fun a => Fin.ext ?_)
  match a with
  | 0 =>
    show ((cfgA (F := Ideal)).win 3).index t 0 * 1024 + 1 * r.val = 1024 * (qb t).val + r.val
    rw [(idx3 t).1]; omega
  | 1 =>
    show ((cfgA (F := Ideal)).win 3).index t 1 * 128 + 1 * j.val = (hd t).val * 128 + j.val
    rw [(idx3 t).2]; omega

theorem bL_at (t : Fin grid0.N) (r : Fin 1024) (j : Fin 128) :
    bL m c t (ix2 r j) = V m c main_v51 (ix2 (row (qb t) r) ⟨(hd t).val * 128 + j.val, by omega⟩) := by
  refine congrArg (V m c main_v51) (funext fun a => Fin.ext ?_)
  match a with
  | 0 =>
    show ((cfgA (F := Ideal)).win 4).index t 0 * 1024 + 1 * r.val = 1024 * (qb t).val + r.val
    rw [(idx4 t).1]; omega
  | 1 =>
    show ((cfgA (F := Ideal)).win 4).index t 1 * 128 + 1 * j.val = (hd t).val * 128 + j.val
    rw [(idx4 t).2]; omega

theorem bD_at (t : Fin grid0.N) (r : Fin 1024) (j : Fin 128) :
    bD m c t (ix2 r j) = V m c main_v54 (ix2 (row (qb t) r) ⟨(hd t).val * 128 + j.val, by omega⟩) := by
  refine congrArg (V m c main_v54) (funext fun a => Fin.ext ?_)
  match a with
  | 0 =>
    show ((cfgA (F := Ideal)).win 5).index t 0 * 1024 + 1 * r.val = 1024 * (qb t).val + r.val
    rw [(idx5 t).1]; omega
  | 1 =>
    show ((cfgA (F := Ideal)).win 5).index t 1 * 128 + 1 * j.val = (hd t).val * 128 + j.val
    rw [(idx5 t).2]; omega

section
include H

/-- The blocks a point is handed hold the reals of its head, rows and keys. -/
theorem blocks (t : Fin grid0.N) : Blocks x (hd t) (qb t) (kb t) (bQ m c t) (bK m c t) (bV m c t) (bO m c t) (bL m c t) (bD m c t) where
  hq r j := (bQ_at t r j).trans (AttnHost.q_win H _ _ _)
  hk s j := (bK_at t s j).trans (AttnHost.k_win H _ _ _)
  hv s d := (bV_at t s d).trans (AttnHost.v_win H _ _ _)
  hco r d := (bO_at t r d).trans (AttnHost.co_win H _ _ _)
  hl r d := (bL_at t r d).trans (AttnHost.lse_win H _ _ _)
  hd r d := (bD_at t r d).trans (AttnHost.delta_win H _ _ _)

end

/-- Keys in an earlier block are visible. -/
theorem vis_below {a b : Fin 8} (hab : b.val < a.val) (r s : Fin 1024) : vis (row a r) (row b s) := by
  show (1024 * b.val + s.val) / 64 ≤ (1024 * a.val + r.val) / 64
  omega

/-- Keys in a later block are hidden. -/
theorem hid_above {a b : Fin 8} (hab : a.val < b.val) (r s : Fin 1024) : ¬ vis (row a r) (row b s) := by
  show ¬ (1024 * b.val + s.val) / 64 ≤ (1024 * a.val + r.val) / 64
  omega

theorem off_of {t : Fin grid0.N} (h : ¬ kb t = qb t) : (kb t).val < (qb t).val := by
  rcases mark t with h' | h'
  · exact absurd h'.1 h
  · exact h'.1

section
include H

theorem step_dq (t : Fin grid0.N) (s : St3 Ideal) (b : Fin 8) (r : Fin 1024) (j : Fin 256) :
    (step m c t s).1 (ix2 (row b r) j) = dqNew x (hd t) (qb t) (kb t) b (row b r) j (s.1 (ix2 (row b r) j)) := by
  have B := blocks H t
  unfold step
  by_cases h : kb t = qb t
  · rw [if_pos h]
    rw [h] at B ⊢
    exact diagDq_at B s.1 b r j
  · rw [if_neg h]
    exact offDq_at B (vis_below (off_of h)) s.1 b r j

theorem step_dk (t : Fin grid0.N) (s : St3 Ideal) (k : Fin 1024) (j : Fin 256) :
    (step m c t s).2.1 (ix2 k j) = (if kb t = qb t then 0 else s.2.1 (ix2 k j)) + (dkB x (hd t) (row (kb t) k) (qb t) j : EReal) := by
  have B := blocks H t
  unfold step
  by_cases h : kb t = qb t
  · rw [if_pos h, if_pos h, zero_add]
    rw [h] at B ⊢
    exact diagDk_at B k j
  · rw [if_neg h, if_neg h]
    exact offDk_at B (vis_below (off_of h)) s.2.1 k j

theorem step_dv (t : Fin grid0.N) (s : St3 Ideal) (k : Fin 1024) (d : Fin 128) :
    (step m c t s).2.2 (ix2 k d) = (if kb t = qb t then 0 else s.2.2 (ix2 k d)) + (dvB x (hd t) (row (kb t) k) (qb t) d : EReal) := by
  have B := blocks H t
  unfold step
  by_cases h : kb t = qb t
  · rw [if_pos h, if_pos h, zero_add]
    rw [h] at B ⊢
    exact diagDv_at B k d
  · rw [if_neg h, if_neg h]
    exact offDv_at B (vis_below (off_of h)) s.2.2 k d

end

/-- How many blocks of keys the query gradient's rows of block `b` have taken after point `t`. -/
def taken (t : Fin grid0.N) (b : Fin 8) : ℕ := if b.val < (kb t).val then b.val + 1 else if b.val ≤ (qb t).val then (kb t).val + 1 else (kb t).val

/-- The point before. -/
def pred (t : Fin grid0.N) : Fin grid0.N := ⟨t.val - 1, by omega⟩

theorem taken_same : ∀ (t : Fin grid0.N) (b : Fin 8), 0 < taken t b → b ≠ qb t → t.val ≠ 0 ∧ hd (pred t) = hd t ∧ taken (pred t) b = taken t b := by
  decide +kernel
theorem taken_next : ∀ t : Fin grid0.N, (kb t).val ≠ 0 → t.val ≠ 0 ∧ hd (pred t) = hd t ∧ taken (pred t) (qb t) = (kb t).val := by
  decide +kernel
theorem col_next : ∀ t : Fin grid0.N, kb t ≠ qb t → t.val ≠ 0 ∧ hd (pred t) = hd t ∧ kb (pred t) = kb t ∧ (qb (pred t)).val + 1 = (qb t).val := by
  decide +kernel
theorem taken_last : ∀ (t : Fin grid0.N) (b : Fin 8), kb t = qb t ∧ (qb t).val = 7 → taken t b = b.val + 1 := by decide +kernel

/-- A sum over the first blocks, one block further. -/
theorem sum_lt_succ (g : Fin 8 → ℝ) (K : Fin 8) : (∑ k : Fin 8, if k.val < K.val + 1 then g k else 0) = (∑ k : Fin 8, if k.val < K.val then g k else 0) + g K := by
  have h : ∀ k : Fin 8, (if k.val < K.val + 1 then g k else 0) = (if k.val < K.val then g k else 0) + if k = K then g k else 0 := by
    intro k
    by_cases h1 : k.val < K.val
    · rw [if_pos h1, if_pos (by omega), if_neg (fun e => by rw [e] at h1; omega), add_zero]
    · by_cases h2 : k = K
      · rw [if_neg h1, if_pos h2, if_pos (by rw [h2]; omega), zero_add]
      · have : k.val ≠ K.val := fun e => h2 (Fin.ext e)
        rw [if_neg h1, if_neg h2, if_neg (by omega), zero_add]
  rw [Finset.sum_congr rfl fun k _ => h k, Finset.sum_add_distrib, Finset.sum_ite_eq' Finset.univ K g, if_pos (Finset.mem_univ K)]

/-- A sum over a stretch of blocks, one block further. -/
theorem sum_seg_succ (g : Fin 8 → ℝ) (a K K' : Fin 8) (ha : a.val ≤ K.val) (hK : K'.val + 1 = K.val) :
    (∑ k : Fin 8, if a.val ≤ k.val ∧ k.val ≤ K.val then g k else 0) = (∑ k : Fin 8, if a.val ≤ k.val ∧ k.val ≤ K'.val then g k else 0) + g K := by
  have h : ∀ k : Fin 8, (if a.val ≤ k.val ∧ k.val ≤ K.val then g k else 0) = (if a.val ≤ k.val ∧ k.val ≤ K'.val then g k else 0) + if k = K then g k else 0 := by
    intro k
    by_cases h2 : k = K
    · rw [if_pos h2, if_pos (by rw [h2]; omega), if_neg (by rw [h2]; omega), zero_add]
    · have : k.val ≠ K.val := fun e => h2 (Fin.ext e)
      rw [if_neg h2, add_zero]
      by_cases h1 : a.val ≤ k.val ∧ k.val ≤ K.val
      · rw [if_pos h1, if_pos (by omega)]
      · rw [if_neg h1, if_neg (by omega)]
  rw [Finset.sum_congr rfl fun k _ => h k, Finset.sum_add_distrib, Finset.sum_ite_eq' Finset.univ K g, if_pos (Finset.mem_univ K)]

theorem sum_seg_one (g : Fin 8 → ℝ) (a : Fin 8) : (∑ k : Fin 8, if a.val ≤ k.val ∧ k.val ≤ a.val then g k else 0) = g a := by
  rw [Finset.sum_eq_single a (fun k _ hk => if_neg fun h => hk (Fin.ext (by omega))) (fun h => absurd (Finset.mem_univ a) h), if_pos ⟨le_rfl, le_rfl⟩]

section
include H

theorem dq_inv : ∀ (n : ℕ) (hn : n < grid0.N) (b : Fin 8) (r : Fin 1024) (j : Fin 256), 0 < taken ⟨n, hn⟩ b →
    (St m c st0 (n + 1)).1 (ix2 (row b r) j) = ((∑ k : Fin 8, if k.val < taken ⟨n, hn⟩ b then dqB x (hd ⟨n, hn⟩) (row b r) k j else 0 : ℝ) : EReal) := by
  intro n
  induction n with
  | zero =>
    intro hn b r j ht
    have hs : St m c st0 (0 + 1) = step m c ⟨0, hn⟩ (St m c st0 0) := St_succ m c st0 ⟨0, hn⟩
    rw [hs, step_dq H]
    by_cases hb : b = qb ⟨0, hn⟩
    · have hk : (kb ⟨0, hn⟩).val = 0 := by
        by_contra h0
        exact (taken_next ⟨0, hn⟩ h0).1 rfl
      unfold dqNew
      rw [if_pos hb, if_pos hk, zero_add]
      have ht' : taken ⟨0, hn⟩ b = (kb ⟨0, hn⟩).val + 1 := by
        unfold taken; rw [if_neg (by omega), if_pos (by rw [hb])]
      rw [ht', sum_lt_succ]
      rw [Finset.sum_eq_zero fun k _ => if_neg (by omega), zero_add]
    · exact absurd rfl (taken_same _ b ht hb).1
  | succ n ih =>
    intro hn b r j ht
    have hs : St m c st0 (n + 1 + 1) = step m c ⟨n + 1, hn⟩ (St m c st0 (n + 1)) := St_succ m c st0 ⟨n + 1, hn⟩
    have hp : pred ⟨n + 1, hn⟩ = ⟨n, by omega⟩ := rfl
    rw [hs, step_dq H]
    unfold dqNew
    by_cases hb : b = qb ⟨n + 1, hn⟩
    · have ht' : taken ⟨n + 1, hn⟩ b = (kb ⟨n + 1, hn⟩).val + 1 := by
        have hle : (kb ⟨n + 1, hn⟩).val ≤ (qb ⟨n + 1, hn⟩).val := by
          by_cases h : kb ⟨n + 1, hn⟩ = qb ⟨n + 1, hn⟩
          · rw [h]
          · exact (off_of h).le
        unfold taken; rw [if_neg (by rw [hb]; omega), if_pos (by rw [hb])]
      rw [if_pos hb, ht', sum_lt_succ]
      by_cases hk : (kb ⟨n + 1, hn⟩).val = 0
      · rw [if_pos hk, zero_add, Finset.sum_eq_zero fun k _ => if_neg (by omega), zero_add]
      · obtain ⟨-, h2, h3⟩ := taken_next ⟨n + 1, hn⟩ hk
        rw [hp] at h2 h3
        rw [if_neg hk, EReal.coe_add]
        rw [← hb] at h3
        rw [ih (by omega) b r j (by omega), h2, h3]
    · obtain ⟨-, h2, h3⟩ := taken_same _ b ht hb
      rw [hp] at h2 h3
      rw [if_neg hb, ih (by omega) b r j (by omega), h2, h3]

theorem dk_inv : ∀ (n : ℕ) (hn : n < grid0.N) (k : Fin 1024) (j : Fin 256),
    (St m c st0 (n + 1)).2.1 (ix2 k j) = ((∑ q : Fin 8, if (kb ⟨n, hn⟩).val ≤ q.val ∧ q.val ≤ (qb ⟨n, hn⟩).val then dkB x (hd ⟨n, hn⟩) (row (kb ⟨n, hn⟩) k) q j else 0 : ℝ) : EReal) := by
  intro n
  induction n with
  | zero =>
    intro hn k j
    have hs : St m c st0 (0 + 1) = step m c ⟨0, hn⟩ (St m c st0 0) := St_succ m c st0 ⟨0, hn⟩
    have h : kb ⟨0, hn⟩ = qb ⟨0, hn⟩ := first_diag
    rw [hs, step_dk H, if_pos h, zero_add, ← h, sum_seg_one]
  | succ n ih =>
    intro hn k j
    have hs : St m c st0 (n + 1 + 1) = step m c ⟨n + 1, hn⟩ (St m c st0 (n + 1)) := St_succ m c st0 ⟨n + 1, hn⟩
    have hp : pred ⟨n + 1, hn⟩ = ⟨n, by omega⟩ := rfl
    rw [hs, step_dk H]
    by_cases h : kb ⟨n + 1, hn⟩ = qb ⟨n + 1, hn⟩
    · rw [if_pos h, zero_add, ← h, sum_seg_one]
    · obtain ⟨-, h2, h3, h4⟩ := col_next _ h
      rw [hp] at h2 h3 h4
      rw [if_neg h, ih (by omega) k j, h2, h3, sum_seg_succ _ _ _ _ (off_of h).le h4, EReal.coe_add]

theorem dv_inv : ∀ (n : ℕ) (hn : n < grid0.N) (k : Fin 1024) (d : Fin 128),
    (St m c st0 (n + 1)).2.2 (ix2 k d) = ((∑ q : Fin 8, if (kb ⟨n, hn⟩).val ≤ q.val ∧ q.val ≤ (qb ⟨n, hn⟩).val then dvB x (hd ⟨n, hn⟩) (row (kb ⟨n, hn⟩) k) q d else 0 : ℝ) : EReal) := by
  intro n
  induction n with
  | zero =>
    intro hn k d
    have hs : St m c st0 (0 + 1) = step m c ⟨0, hn⟩ (St m c st0 0) := St_succ m c st0 ⟨0, hn⟩
    have h : kb ⟨0, hn⟩ = qb ⟨0, hn⟩ := first_diag
    rw [hs, step_dv H, if_pos h, zero_add, ← h, sum_seg_one]
  | succ n ih =>
    intro hn k d
    have hs : St m c st0 (n + 1 + 1) = step m c ⟨n + 1, hn⟩ (St m c st0 (n + 1)) := St_succ m c st0 ⟨n + 1, hn⟩
    have hp : pred ⟨n + 1, hn⟩ = ⟨n, by omega⟩ := rfl
    rw [hs, step_dv H]
    by_cases h : kb ⟨n + 1, hn⟩ = qb ⟨n + 1, hn⟩
    · rw [if_pos h, zero_add, ← h, sum_seg_one]
    · obtain ⟨-, h2, h3, h4⟩ := col_next _ h
      rw [hp] at h2 h3 h4
      rw [if_neg h, ih (by omega) k d, h2, h3, sum_seg_succ _ _ _ _ (off_of h).le h4, EReal.coe_add]

end

theorem sum_rows (f : Fin 8192 → ℝ) : ∑ b : Fin 8, ∑ r : Fin 1024, f (row b r) = ∑ i, f i := by
  have h := Fin.sum_univ_univ_mul_add 8 1024 fun i => if h : i < 8192 then f ⟨i, h⟩ else 0
  have h1 : ∀ i : Fin 8192, (if h : i.val < 8192 then f ⟨i.val, h⟩ else 0) = f i := fun i => dif_pos i.isLt
  refine Eq.trans (Finset.sum_congr rfl fun b _ => Finset.sum_congr rfl fun r _ => ?_) (h.trans (Finset.sum_congr rfl fun i _ => h1 i))
  rw [dif_pos (by omega : b.val * 1024 + r.val < 8192)]
  exact congrArg f (Fin.ext (by show 1024 * b.val + r.val = b.val * 1024 + r.val; omega))

theorem row_div (i : Fin 8192) : i = row ⟨i.val / 1024, by omega⟩ ⟨i.val % 1024, by omega⟩ := Fin.ext (by show i.val = 1024 * (i.val / 1024) + i.val % 1024; omega)

/-- The blocks up to the diagonal make up a row's whole sum. -/
theorem dq_full (h : Fin 4) (b : Fin 8) (r : Fin 1024) (j : Fin 256) :
    (∑ k : Fin 8, if k.val < b.val + 1 then dqB x h (row b r) k j else 0) * sc = dq x h (row b r) j := by
  unfold dq
  rw [← sum_rows]
  congr 1
  refine Finset.sum_congr rfl fun k _ => ?_
  by_cases hk : k.val < b.val + 1
  · rw [if_pos hk]; rfl
  · rw [if_neg hk]
    exact (Finset.sum_eq_zero fun s _ => by rw [ds_of_not _ _ _ _ (hid_above (by omega) r s), zero_mul]).symm

theorem dk_full (h : Fin 4) (b : Fin 8) (s : Fin 1024) (j : Fin 256) :
    (∑ q : Fin 8, if b.val ≤ q.val ∧ q.val ≤ 7 then dkB x h (row b s) q j else 0) * sc = dk x h (row b s) j := by
  unfold dk
  rw [← sum_rows]
  congr 1
  refine Finset.sum_congr rfl fun q _ => ?_
  by_cases hk : b.val ≤ q.val ∧ q.val ≤ 7
  · rw [if_pos hk]; rfl
  · rw [if_neg hk]
    exact (Finset.sum_eq_zero fun r _ => by rw [ds_of_not _ _ _ _ (hid_above (by omega) r s), zero_mul]).symm

theorem dv_full (h : Fin 4) (b : Fin 8) (s : Fin 1024) (d : Fin 128) :
    (∑ q : Fin 8, if b.val ≤ q.val ∧ q.val ≤ 7 then dvB x h (row b s) q d else 0) = dv x h (row b s) d := by
  unfold dv
  rw [← sum_rows]
  refine Finset.sum_congr rfl fun q _ => ?_
  by_cases hk : b.val ≤ q.val ∧ q.val ≤ 7
  · rw [if_pos hk]; rfl
  · rw [if_neg hk]
    exact (Finset.sum_eq_zero fun r _ => by rw [p_of_not _ _ _ _ (hid_above (by omega) r s), zero_mul]).symm

/-! ## The three gradients -/

/-- The gradient of the queries' slots. -/
def DQ (x : Args) : FVec Ideal S8192x1024 .bf16 := fun i => (dq x ⟨(i 1).val / 256, by have : (i 1).val < 1024 := (i 1).isLt; omega⟩ (i 0) ⟨(i 1).val % 256, by omega⟩ : EReal)
/-- The gradient of the keys' slots. -/
def DK (x : Args) : FVec Ideal S8192x1024 .bf16 := fun i => (dk x ⟨(i 1).val / 256, by have : (i 1).val < 1024 := (i 1).isLt; omega⟩ (i 0) ⟨(i 1).val % 256, by omega⟩ : EReal)
/-- The gradient of the values. -/
def DV (x : Args) : FVec Ideal S8192x512 .bf16 := fun i => (dv x ⟨(i 1).val / 128, by have : (i 1).val < 512 := (i 1).isLt; omega⟩ (i 0) ⟨(i 1).val % 128, by omega⟩ : EReal)

theorem DQ_at (h : Fin 4) (q : Fin 8192) (j : Fin 256) : DQ x (ix2 q ⟨h.val * 256 + j.val, by omega⟩) = (dq x h q j : EReal) := by
  have e1 : (⟨(h.val * 256 + j.val) / 256, by omega⟩ : Fin 4) = h := Fin.ext (by show (h.val * 256 + j.val) / 256 = h.val; omega)
  have e2 : (⟨(h.val * 256 + j.val) % 256, by omega⟩ : Fin 256) = j := Fin.ext (by show (h.val * 256 + j.val) % 256 = j.val; omega)
  exact congrArg₂ (fun a b => (dq x a q b : EReal)) e1 e2

theorem DK_at (h : Fin 4) (k : Fin 8192) (j : Fin 256) : DK x (ix2 k ⟨h.val * 256 + j.val, by omega⟩) = (dk x h k j : EReal) := by
  have e1 : (⟨(h.val * 256 + j.val) / 256, by omega⟩ : Fin 4) = h := Fin.ext (by show (h.val * 256 + j.val) / 256 = h.val; omega)
  have e2 : (⟨(h.val * 256 + j.val) % 256, by omega⟩ : Fin 256) = j := Fin.ext (by show (h.val * 256 + j.val) % 256 = j.val; omega)
  exact congrArg₂ (fun a b => (dk x a k b : EReal)) e1 e2

theorem DV_at (h : Fin 4) (k : Fin 8192) (d : Fin 128) : DV x (ix2 k ⟨h.val * 128 + d.val, by omega⟩) = (dv x h k d : EReal) := by
  have e1 : (⟨(h.val * 128 + d.val) / 128, by omega⟩ : Fin 4) = h := Fin.ext (by show (h.val * 128 + d.val) / 128 = h.val; omega)
  have e2 : (⟨(h.val * 128 + d.val) % 128, by omega⟩ : Fin 128) = d := Fin.ext (by show (h.val * 128 + d.val) % 128 = d.val; omega)
  exact congrArg₂ (fun a b => (dv x a k b : EReal)) e1 e2

theorem pay10_at (y : Vec Ideal S8192x256 .f32) (q : Fin 8192) (j : Fin 256) : k0_pay10 y (ix2 q j) = y (ix2 q j) * ((sc : ℝ) : EReal) := by
  pointwise [k0_pay10]
  rw [att]
theorem pay8_at (y : Vec Ideal S1024x256 .f32) (k : Fin 1024) (j : Fin 256) : k0_pay8 y (ix2 k j) = y (ix2 k j) * ((sc : ℝ) : EReal) := by
  pointwise [k0_pay8]
  rw [att]
theorem pay9_at (y : Vec Ideal S1024x128 .f32) (k : Fin 1024) (d : Fin 128) : k0_pay9 y (ix2 k d) = y (ix2 k d) := by
  pointwise [k0_pay9]

theorem head_last : ∀ t : Fin grid0.N, kb t = qb t ∧ (qb t).val = 7 → t.val + 1 = 36 * ((hd t).val + 1) := by decide +kernel
theorem last_head : ∀ (t : Fin grid0.N) (h : Fin 4), t.val + 1 = 36 * (h.val + 1) → hd t = h ∧ kb t = qb t ∧ (qb t).val = 7 := by decide +kernel

theorem put_cols (a : ℕ) (ha : a + 256 ≤ 1024) (y : S8192x1024.Idx → EReal) (w : S8192x256.Idx → EReal) (i : Fin 8192) (j : Fin 256) (l : Fin 1024) :
    (l.val = a + j.val → VecWindow.put (s := S8192x1024) y ![0, a] S8192x256.size w (ix2 i l) = w (ix2 i j))
    ∧ (l.val < a ∨ a + 256 ≤ l.val → VecWindow.put (s := S8192x1024) y ![0, a] S8192x256.size w (ix2 i l) = y (ix2 i l)) := by
  unfold VecWindow.put
  constructor
  · intro hl
    rw [dif_pos (by
      intro b
      match b with
      | 0 => exact ⟨Nat.zero_le _, by show i.val < 0 + 8192; omega⟩
      | 1 => exact ⟨by show a ≤ l.val; omega, by show l.val < a + 256; omega⟩)]
    refine congrArg w (funext fun b => Fin.ext ?_)
    match b with
    | 0 => exact Nat.sub_zero _
    | 1 => show l.val - a = j.val; omega
  · intro hl
    rw [dif_neg]
    intro hc
    have h1 : a ≤ l.val ∧ l.val < a + 256 := hc 1
    omega

section
include H

theorem HB_at : ∀ n, n ≤ grid0.N → ∀ (h : Fin 4) (q : Fin 8192) (j : Fin 256), 36 * (h.val + 1) ≤ n →
    HB m c n (ix2 q ⟨h.val * 256 + j.val, by omega⟩) = (dq x h q j : EReal) := by
  intro n
  induction n with
  | zero => intro _ h q j hn; omega
  | succ n ih =>
    intro hN h q j hn
    have hs := HB_succ m c ⟨n, hN⟩
    rw [show (⟨n, hN⟩ : Fin grid0.N).val + 1 = n + 1 from rfl] at hs
    rw [hs]
    by_cases hl : kb ⟨n, hN⟩ = qb ⟨n, hN⟩ ∧ (qb ⟨n, hN⟩).val = 7
    · rw [if_pos hl]
      have hh : n + 1 = 36 * ((hd ⟨n, hN⟩).val + 1) := head_last _ hl
      have h4 := (hd ⟨n, hN⟩).isLt
      by_cases he : h = hd ⟨n, hN⟩
      · refine ((put_cols (256 * (hd ⟨n, hN⟩).val) (by omega) _ _ q j _).1 (by rw [he]; show _ * 256 + _ = _; omega)).trans ?_
        rw [pay10_at, row_div q]
        refine (congrArg (· * ((sc : ℝ) : EReal)) (dq_inv H n hN _ _ j (by rw [taken_last _ _ hl]; omega))).trans ?_
        rw [taken_last _ _ hl, ← EReal.coe_mul, dq_full, he]
      · refine ((put_cols (256 * (hd ⟨n, hN⟩).val) (by omega) _ _ q j _).2 ?_).trans (ih (by omega) h q j ?_)
        · have : h.val ≠ (hd ⟨n, hN⟩).val := fun e => he (Fin.ext e)
          show h.val * 256 + j.val < _ ∨ _ ≤ h.val * 256 + j.val
          omega
        · have : h.val ≠ (hd ⟨n, hN⟩).val := fun e => he (Fin.ext e)
          omega
    · rw [if_neg hl]
      refine ih (by omega) h q j ?_
      rcases Nat.lt_or_ge n (36 * (h.val + 1)) with hlt | hge
      · exact absurd (last_head ⟨n, hN⟩ h (by show n + 1 = _; omega)).2 hl
      · exact hge

theorem final_q : HB m c grid0.N = DQ x := by
  funext i
  have hi : (i 1).val < 1024 := (i 1).isLt
  have h := HB_at H grid0.N le_rfl ⟨(i 1).val / 256, by omega⟩ (i 0) ⟨(i 1).val % 256, by omega⟩ (by have : grid0.N = 144 := N_0; show 36 * ((i 1).val / 256 + 1) ≤ _; omega)
  refine Eq.trans (congrArg (HB m c grid0.N) (funext fun a => Fin.ext ?_)) h
  match a with
  | 0 => rfl
  | 1 => show (i 1).val = (i 1).val / 256 * 256 + (i 1).val % 256; omega

theorem final_k : (dats m 0 c).arrAt 6 (cfgA (F := Ideal)).N = DK x := by
  refine (dats m 0 c).arrAt_eq_of_covers 6 _ (by decide +kernel) fun t hf y => ?_
  have h7 : (qb t).val = 7 := by
    by_contra h
    rw [flush6 t h] at hf
    exact absurd hf (by decide)
  obtain ⟨k, j, rfl⟩ : ∃ (k : Fin 1024) (j : Fin 256), y = ix2 k j := ⟨y 0, y 1, by funext a; match a with | 0 => rfl | 1 => rfl⟩
  have e : (((cfgA (F := Ideal)).win 6).blk t).view.emb (ix2 k j) = ix2 (row (kb t) k) ⟨(hd t).val * 256 + j.val, by omega⟩ := by
    funext a
    refine Fin.ext ?_
    match a with
    | 0 =>
      show ((cfgA (F := Ideal)).win 6).index t 0 * 1024 + 1 * k.val = 1024 * (kb t).val + k.val
      rw [(idx6 t).1]; omega
    | 1 =>
      show ((cfgA (F := Ideal)).win 6).index t 1 * 256 + 1 * j.val = (hd t).val * 256 + j.val
      rw [(idx6 t).2]; omega
  refine Eq.trans ?_ (congrArg (DK x) e).symm
  rw [DK_at]
  show k0_pay8 (St m c st0 (t.val + 1)).2.1 (ix2 k j) = _
  rw [pay8_at, dk_inv H t.val t.isLt k j, ← EReal.coe_mul, ← dk_full]
  rw [show (⟨t.val, t.isLt⟩ : Fin grid0.N) = t from rfl, h7]

theorem final_v : (dats m 0 c).arrAt 7 (cfgA (F := Ideal)).N = DV x := by
  refine (dats m 0 c).arrAt_eq_of_covers 7 _ (by decide +kernel) fun t hf y => ?_
  have h7 : (qb t).val = 7 := by
    by_contra h
    rw [flush7 t h] at hf
    exact absurd hf (by decide)
  obtain ⟨k, d, rfl⟩ : ∃ (k : Fin 1024) (d : Fin 128), y = ix2 k d := ⟨y 0, y 1, by funext a; match a with | 0 => rfl | 1 => rfl⟩
  have e : (((cfgA (F := Ideal)).win 7).blk t).view.emb (ix2 k d) = ix2 (row (kb t) k) ⟨(hd t).val * 128 + d.val, by omega⟩ := by
    funext a
    refine Fin.ext ?_
    match a with
    | 0 =>
      show ((cfgA (F := Ideal)).win 7).index t 0 * 1024 + 1 * k.val = 1024 * (kb t).val + k.val
      rw [(idx7 t).1]; omega
    | 1 =>
      show ((cfgA (F := Ideal)).win 7).index t 1 * 128 + 1 * d.val = (hd t).val * 128 + d.val
      rw [(idx7 t).2]; omega
  refine Eq.trans ?_ (congrArg (DV x) e).symm
  rw [DV_at]
  show k0_pay9 (St m c st0 (t.val + 1)).2.2 (ix2 k d) = _
  rw [pay9_at, dv_inv H t.val t.isLt k d, ← dv_full]
  rw [show (⟨t.val, t.isLt⟩ : Fin grid0.N) = t from rfl, h7]

end

end Cert.AttnValue
-- ==== Proof.Attn.Claim.lean ====
module

public import proofs.«01_k».proof.Proof.Attn.Values
public import proofs.«01_k».proof.Proof.Attn.FrameBits
public import proofs.«01_k».proof.Proof.Gen.Pre_attn_pre

/-! The kernel's three gradients are the reference's, where the arguments are finite. -/

@[expose] public section

set_option maxRecDepth 16384

noncomputable section

open Idealize.ShloMosaic Idealize.ShloMosaic.TcCoe Idealize.SL.Sem

namespace Cert.AttnClaim

open Cert.AttnReal Cert.AttnValue

variable {a0 : FVec Ideal Cert.AttnRefIdeal.S8192x4x128 .f32} {a1 : FVec Ideal Cert.AttnRefIdeal.S8192x4x64 .f32} {a2 : FVec Ideal Cert.AttnRefIdeal.S8192x4x128 .f32}
    {a3 : FVec Ideal Cert.AttnRefIdeal.S8192x64 .f32} {a4 : FVec Ideal Cert.AttnRefIdeal.S8192x4x128 .f32} {a5 : FVec Ideal Cert.AttnRefIdeal.S8192x512 .f32}

/-- Finite arguments are arrays of reals. -/
theorem reals (h : Cert.Pre_attn_pre.fn (F := Ideal) a0 a1 a2 a3 a4 a5 = fun _ => 1#1) : ∃ x : Args, AttnRef.Holds x a0 a1 a2 a3 a4 a5 := by
  have h := congrFun h ix0
  unfold Cert.Pre_attn_pre.fn Cert.Pre_attn_pre.fn_part1 at h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  have r0 := Cert.Shared.real_of_finite _ _ _ _ _ _ _ h0
  have r1 := Cert.Shared.real_of_finite _ _ _ _ _ _ _ h1
  have r2 := Cert.Shared.real_of_finite _ _ _ _ _ _ _ h2
  have r3 := Cert.Shared.real_of_finite _ _ _ _ _ _ _ h3
  have r4 := Cert.Shared.real_of_finite _ _ _ _ _ _ _ h4
  have r5 := Cert.Shared.real_of_finite _ _ _ _ _ _ _ h5
  choose f0 e0 using r0
  choose f1 e1 using r1
  choose f2 e2 using r2
  choose f3 e3 using r3
  choose f4 e4 using r4
  choose f5 e5 using r5
  exact ⟨⟨fun q h d => f0 (ix3 q h d), fun q h d => f1 (ix3 q h d), fun q h d => f2 (ix3 q h d), fun q d => f3 (ix2 q d), fun q h d => f4 (ix3 q h d),
      fun q h d => f5 (ix2 q ⟨h.val * 128 + d.val, by omega⟩)⟩,
    fun _ _ _ => e0 _, fun _ _ _ => e1 _, fun _ _ _ => e2 _, fun _ _ => e3 _, fun _ _ _ => e4 _, fun _ _ _ => e5 _⟩

/-- An array of 1024 columns, by head and column of the head. -/
theorem ext_slots {u v : FVec Ideal Cert.AttnRefIdeal.S8192x1024 .bf16}
    (h : ∀ (h : Fin 4) (q : Fin 8192) (j : Fin 256), u (ix2 q ⟨h.val * 256 + j.val, by omega⟩) = v (ix2 q ⟨h.val * 256 + j.val, by omega⟩)) : u = v := by
  funext i
  have hi : (i 1).val < 1024 := (i 1).isLt
  have e : i = ix2 (i 0) ⟨(i 1).val / 256 * 256 + (i 1).val % 256, by omega⟩ := by
    funext a
    refine Fin.ext ?_
    match a with
    | 0 => rfl
    | 1 => show (i 1).val = (i 1).val / 256 * 256 + (i 1).val % 256; omega
  rw [e]
  exact h ⟨(i 1).val / 256, by omega⟩ (i 0) ⟨(i 1).val % 256, by omega⟩

/-- An array of 512 columns, by head and column of the head. -/
theorem ext_heads {u v : FVec Ideal Cert.AttnRefIdeal.S8192x512 .bf16}
    (h : ∀ (h : Fin 4) (q : Fin 8192) (d : Fin 128), u (ix2 q ⟨h.val * 128 + d.val, by omega⟩) = v (ix2 q ⟨h.val * 128 + d.val, by omega⟩)) : u = v := by
  funext i
  have hi : (i 1).val < 512 := (i 1).isLt
  have e : i = ix2 (i 0) ⟨(i 1).val / 128 * 128 + (i 1).val % 128, by omega⟩ := by
    funext a
    refine Fin.ext ?_
    match a with
    | 0 => rfl
    | 1 => show (i 1).val = (i 1).val / 128 * 128 + (i 1).val % 128; omega
  rw [e]
  exact h ⟨(i 1).val / 128, by omega⟩ (i 0) ⟨(i 1).val % 128, by omega⟩

section
variable {x : Args} (H : AttnRef.Holds x a0 a1 a2 a3 a4 a5)
include H

theorem ref_dv : (truncf .bf16 (shapeCast Cert.AttnRefIdeal.S8192x512 (AttnRef.dvr a0 a1 a2 a3 a5) Cert.AttnRefIdeal.Gen.shapeCasts_S8192x4x128_S8192x512)
    Cert.AttnRefIdeal.Gen.bitsLt_bf16_f32 : FVec Ideal Cert.AttnRefIdeal.S8192x512 .bf16) = DV x := by
  refine ext_heads fun h k d => ?_
  rw [DV_at, ← AttnRef.dvr_at H h k d]
  generalize AttnRef.dvr a0 a1 a2 a3 a5 = y
  pointwise []

end

theorem algebraic : Cert.algebraic_AttnIdeal_AttnRefIdeal_pre_attn_pre (hAttnIdeal := Cert.AttnIdeal.Gen.facts)
    (hAttnRefIdeal := Cert.AttnRefIdeal.Gen.facts) (hPre_attn_pre := Cert.Pre_attn_pre.Gen.facts) := by
  intro m g m' g' hpre hag
  have hx : ∀ c : Dev Cert.AttnIdeal.nD, ∃ x : Args, AttnHost.Fin' m c x := fun c => reals (hpre c)
  choose x H using hx
  refine ⟨fun c => DQ (x c), fun c => DK (x c), fun c => DV (x c),
    (θ_run _ _ _).mono (fun r h c => ?_) (Cert.AttnRun.run_frame m g), (θ_run _ _ _).mono (fun r h c => ?_) (Cert.AttnRefIdeal.Value.run m' g')⟩
  · obtain ⟨hk, h0, h1, h2⟩ := h.1 c
    exact ⟨h0.trans (final_q (H c)), h1.trans (final_k (H c)), h2.trans (final_v (H c)), hk⟩
  · obtain ⟨h0, h1, h2, hk⟩ := h c
    obtain ⟨e0, e1, e2, e3, e4, e5⟩ := hag c
    rw [AttnRef.res0, e0, e1, e2, e3, e4, e5] at h0
    rw [AttnRef.res1, e0, e1, e2, e3, e4, e5] at h1
    rw [AttnRef.res2, e0, e1, e2, e3, e5] at h2
    refine ⟨h0.trans ?_, h1.trans ?_, h2.trans ?_, hk⟩
    · exact ext_slots fun h q j => (AttnRef.dqr_at (H c) h q j).trans (DQ_at h q j).symm
    · exact ext_slots fun h k j => (AttnRef.dkr_at (H c) h k j).trans (DK_at h k j).symm
    · exact ref_dv (H c)

end Cert.AttnClaim
-- ==== Proof.Shared.Cols.lean ====
module

public import Idealize.ShloMosaic.Lib.Pipeline.ValueKit
public import Idealize.ShloMosaic.Lib.Pointwise
public import proofs.«01_k».proof.Proof.Shared.Sums

@[expose] public section

/-! An array written in column bands, and an accumulator of eight rows summed over a grid of row tiles. -/

namespace Cert.Shared

open Idealize.ShloMosaic

section Bands

variable {Val : EltTy → Type} [∀ e, Nonempty (Val e)] {e : EltTy} {R C w : ℕ}

/-- In the band last written, the array holds what was written. -/
theorem band_in (o : ℕ) (inb) (p : (⟨2, ![R, w]⟩ : Shape).Idx → Val e) (L : List (View.Piece Val ⟨2, ![R, C]⟩ e)) (r : Fin R) (j : Fin C) (k : Fin w)
    (h : j.val = o + k.val) :
    View.canon ((⟨Rect.unit (s := ⟨2, ![R, C]⟩) ![0, o] ![R, w] inb, p⟩ : View.Piece Val ⟨2, ![R, C]⟩ e) :: L) (ix2 r j) = p (ix2 r k) := by
  have hx : (ix2 r j : (⟨2, ![R, C]⟩ : Shape).Idx) = (Rect.unit (s := ⟨2, ![R, C]⟩) ![0, o] ![R, w] inb).emb (ix2 r k) := by
    funext a
    apply Fin.ext
    rw [Rect.emb_apply]
    match a with
    | 0 => show r.val = 0 + 1 * r.val; omega
    | 1 => show j.val = o + 1 * k.val; omega
  rw [hx]
  exact View.canon_cons_emb (Rect.unit (s := ⟨2, ![R, C]⟩) ![0, o] ![R, w] inb) p L (ix2 r k)

/-- Outside it, what was there before. -/
theorem band_out (o : ℕ) (inb) (p : (⟨2, ![R, w]⟩ : Shape).Idx → Val e) (L : List (View.Piece Val ⟨2, ![R, C]⟩ e)) (r : Fin R) (j : Fin C)
    (h : j.val < o ∨ o + w ≤ j.val) :
    View.canon ((⟨Rect.unit (s := ⟨2, ![R, C]⟩) ![0, o] ![R, w] inb, p⟩ : View.Piece Val ⟨2, ![R, C]⟩ e) :: L) (ix2 r j) = View.canon L (ix2 r j) := by
  refine View.canon_cons_of_not_mem _ L fun hm => ?_
  obtain ⟨x, hx⟩ := (Rect.unit (s := ⟨2, ![R, C]⟩) ![0, o] ![R, w] inb).exists_idx_of_mem hm
  have h1 := congrArg Fin.val (congrFun hx 1)
  have hk : (x 1).val < w := (x 1).isLt
  have h2 : o + 1 * (x 1).val = j.val := h1
  omega

/-- An array written in bands, read at one index, band by band from the last written. -/
theorem band_cons (o : ℕ) (inb) (p : (⟨2, ![R, w]⟩ : Shape).Idx → Val e) (L : List (View.Piece Val ⟨2, ![R, C]⟩ e)) (r : Fin R) (j : Fin C) (v : Fin C → Val e)
    (hin : ∀ (k : Fin w) (h : o + k.val < C), p (ix2 r k) = v ⟨o + k, h⟩)
    (hout : j.val < o ∨ o + w ≤ j.val → View.canon L (ix2 r j) = v j) :
    View.canon ((⟨Rect.unit (s := ⟨2, ![R, C]⟩) ![0, o] ![R, w] inb, p⟩ : View.Piece Val ⟨2, ![R, C]⟩ e) :: L) (ix2 r j) = v j := by
  by_cases h : j.val < o ∨ o + w ≤ j.val
  · exact (band_out o inb p L r j h).trans (hout h)
  · have hk : o + (j.val - o) = j.val := by omega
    have hj : (⟨o + (j.val - o), by omega⟩ : Fin C) = j := Fin.ext hk
    exact (band_in o inb p L r j ⟨j.val - o, by omega⟩ hk.symm).trans ((hin ⟨j.val - o, by omega⟩ (lt_of_eq_of_lt hk j.isLt)).trans (congrArg v hj))

/-- A band read back. -/
theorem band_read {sig : RefSig} {κ : Kind} {sp : Space} (v : View sig κ sp ⟨2, ![R, C]⟩ e) (L : List (View.Piece Val ⟨2, ![R, C]⟩ e)) (o : ℕ) (inb)
    (r : Fin R) (k : Fin w) (j : Fin C) (h : j.val = o + k.val) :
    v.readCov L (Rect.unit (s := ⟨2, ![R, C]⟩) ![0, o] ![R, w] inb).toLoadRect (ix2 r k) = View.canon L (ix2 r j) := by
  rw [View.readCov_eq_canon']
  refine congrArg (View.canon L) (funext fun a => Fin.ext ?_)
  match a with
  | 0 => show 0 + 1 * r.val = r.val; omega
  | 1 => show o + 1 * k.val = j.val; omega

/-- A band of an array. -/
theorem band_ld (X : (⟨2, ![R, C]⟩ : Shape).Idx → Val e) (o : ℕ) (inb) (r : Fin R) (k : Fin w) (j : Fin C) (h : j.val = o + k.val) :
    View.ld (e' := e) X (Rect.unit (s := ⟨2, ![R, C]⟩) ![0, o] ![R, w] inb) (ix2 r k) = X (ix2 r j) := by
  refine congrArg X (funext fun a => Fin.ext ?_)
  match a with
  | 0 => show 0 + 1 * r.val = r.val; omega
  | 1 => show o + 1 * k.val = j.val; omega

end Bands

/-- An accumulator of eight rows that takes, at every point, the sum of its tile's rows eight at a time, summed over its eight rows
    after the last point: the sum over all rows. -/
theorem acc_rows {M : Type*} [AddCommMonoid M] {L : ℕ} (K T R : ℕ) (hK : 0 < K) (hT : T = R * 8) (hL : L = K * T) (row : Fin L → M)
    (f : (n : ℕ) → n < K → Fin 8 → M) (hb : ∀ (k : ℕ) (x : Fin 8) (r : Fin R), k < K → k * T + (r.val * 8 + x.val) < L)
    (h0 : ∀ h x, f 0 h x = ∑ r : Fin R, row ⟨0 * T + (r.val * 8 + x.val), hb 0 x r h⟩)
    (hs : ∀ n (h : n + 1 < K) x, f (n + 1) h x = f n (Nat.lt_of_succ_lt h) x + ∑ r : Fin R, row ⟨(n + 1) * T + (r.val * 8 + x.val), hb (n + 1) x r h⟩) :
    ∑ x : Fin 8, f (K - 1) (Nat.sub_lt hK Nat.one_pos) x = ∑ i : Fin L, row i := by
  obtain ⟨K, rfl⟩ : ∃ k, K = k + 1 := ⟨K - 1, by omega⟩
  refine Eq.trans (Finset.sum_congr rfl fun x _ => ?_) (sum_rows8 (K + 1) T R hT hL row fun x k r => hb k x r k.isLt)
  exact acc_sum (fun n h => f n h x) (fun n h => ∑ r : Fin R, row ⟨n * T + (r.val * 8 + x.val), hb n x r h⟩) (fun h => h0 h x)
    (fun n h => hs n h x) K (Nat.lt_succ_self K)

/-- The same where the last point adds its tile only on the way out. -/
theorem acc_rows_last {M : Type*} [AddCommMonoid M] {L : ℕ} (K T R : ℕ) (hT : T = R * 8) (hL : L = (K + 2) * T) (row : Fin L → M)
    (g : (n : ℕ) → n < K + 2 → Fin 8 → M) (hb : ∀ (k : ℕ) (x : Fin 8) (r : Fin R), k < K + 2 → k * T + (r.val * 8 + x.val) < L)
    (h0 : ∀ h x, g 0 h x = ∑ r : Fin R, row ⟨0 * T + (r.val * 8 + x.val), hb 0 x r h⟩)
    (hs : ∀ n (h : n + 1 < K + 2) x, n + 1 < K + 1 →
      g (n + 1) h x = g n (Nat.lt_of_succ_lt h) x + ∑ r : Fin R, row ⟨(n + 1) * T + (r.val * 8 + x.val), hb (n + 1) x r h⟩) :
    ∑ x : Fin 8, (g K (by omega) x + ∑ r : Fin R, row ⟨(K + 1) * T + (r.val * 8 + x.val), hb (K + 1) x r (by omega)⟩) = ∑ i : Fin L, row i := by
  refine Eq.trans (Finset.sum_congr rfl fun x _ => ?_) (acc_rows (K + 2) T R (by omega) hT hL row
    (fun n h x => if n = K + 1 then g K (by omega) x + ∑ r : Fin R, row ⟨(K + 1) * T + (r.val * 8 + x.val), hb (K + 1) x r (by omega)⟩ else g n h x) hb
    (fun h x => ?_) fun n h x => ?_)
  · exact (if_pos rfl).symm
  · rw [if_neg (by omega), h0]
  · by_cases hn : n + 1 = K + 1
    · obtain rfl : n = K := by omega
      rw [if_pos rfl, if_neg (by omega)]
    · rw [if_neg hn, if_neg (by omega), hs n h x (by omega)]

end Cert.Shared
-- ==== Proof.Norm.Value.lean ====
module

public import proofs.«01_k».proof.Proof.Gen.NormIdeal.Value
public import proofs.«01_k».proof.Proof.Shared.Cols
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.NormIdeal.Value

open Cert.NormIdeal Cert.NormIdeal.Gen

variable (m : (ℓ : Loc nD τ sig) → Buf (Elt Ideal) ℓ)

/-- The row length and the small constant under the root, as the kernel's words. -/
abbrev len : EReal := Ideal.ofBits .f32 1149239296#32
abbrev eps : EReal := Ideal.ofBits .f32 897988541#32

section forms

variable (x : FVec Ideal S8192x1024 .f32) (g sc : FVec Ideal S1x1024 .f32) (w1 w3 : FVec Ideal S1024x2816 .f32) (da db : FVec Ideal S8192x2816 .f32)

/-- The gradient of the modulated norm: both projections' gradients, each times its weight transposed. -/
def DH (i : Fin 8192) (k : Fin 1024) : EReal := ∑ q : Fin 2816, da (ix2 i q) * w1 (ix2 k q) + ∑ q : Fin 2816, db (ix2 i q) * w3 (ix2 k q)

/-- A row's inverse root mean square. -/
def RI (i : Fin 8192) : EReal := Ideal.rsqrt (Ideal.div (∑ k : Fin 1024, x (ix2 i k) * x (ix2 i k)) len + eps)

/-- The gradient of the normed row. -/
def DY (i : Fin 8192) (k : Fin 1024) : EReal := DH w1 w3 da db i k * (1 + sc (ix2 0 k)) * g (ix2 0 k)

/-- The gradient of the layer's input. -/
def DX (dxn : FVec Ideal S8192x1024 .f32) : FVec Ideal S8192x1024 .f32 := fun j =>
  dxn j + RI x (j 0) * (DY g sc w1 w3 da db (j 0) (j 1)
    - x j * RI x (j 0) * Ideal.div (∑ k : Fin 1024, DY g sc w1 w3 da db (j 0) k * (x (ix2 (j 0) k) * RI x (j 0))) len)

/-- One row's part of the three summed gradients, side by side: the scale's, the shift's, the gain's. -/
def rowP (j : Fin 3072) (i : Fin 8192) : EReal :=
  if h : j.val < 1024 then DH w1 w3 da db i ⟨j, h⟩ * (x (ix2 i ⟨j, h⟩) * RI x i * g (ix2 0 ⟨j, h⟩))
  else if h : j.val < 2048 then DH w1 w3 da db i ⟨j - 1024, by omega⟩
  else DH w1 w3 da db i ⟨j - 2048, by omega⟩ * (1 + sc (ix2 0 ⟨j - 2048, by omega⟩)) * (x (ix2 i ⟨j - 2048, by omega⟩) * RI x i)

def P : FVec Ideal S8x3072 .f32 := fun y => ∑ i : Fin 8192, rowP x g sc w1 w3 da db (y 1) i

end forms

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![0, 0] ∧ win0_6.index t = ![0, 0]
    ∧ win0_7.index t = ![t.val, 0] ∧ win0_8.index t = ![t.val, 0] ∧ win0_9.index t = ![0, 0] :=
  (by decide +kernel : ∀ t : Fin grid0.N, _)

/-- What every point leaves in the block of the input's gradient. -/
theorem outs8 (c : Dev nD) (t : Fin cfg0.N) : (outsAt0 m c t.val t.isLt).1 = k0_pay9 (k0_pay3 (iblk m c 4 t)) (k0_pay4 (iblk m c 4 t))
    (k0_pay6 (iblk m c 0 t) (iblk m c 2 t) (iblk m c 1 t) (iblk m c 3 t) (iblk m c 5 t) (iblk m c 6 t)) (iblk m c 7 t)
    (k0_pay7 (iblk m c 0 t) (iblk m c 2 t) (iblk m c 1 t) (iblk m c 3 t) (iblk m c 4 t) (iblk m c 5 t) (iblk m c 6 t)) k0_pay8 := by
  have hN : t.val < 16 := lt_of_lt_of_eq t.isLt (show cfg0.N = 16 from N_0)
  by_cases h0 : t.val % 16 = 0
  · rw [outsAt0_A m c t h0 (by omega)]; dsimp only; frame_out
  · by_cases h1 : t.val % 16 = 15
    · rw [outsAt0_C m c t h0 h1]; dsimp only; frame_out
    · rw [outsAt0_B m c t h0 h1]; dsimp only; frame_out

abbrev ax (c : Dev nD) : FVec Ideal S8192x1024 .f32 := m ((c : Thread nD τ).loc main_arg0)
abbrev ag (c : Dev nD) : FVec Ideal S1x1024 .f32 := m ((c : Thread nD τ).loc main_arg1)
abbrev asc (c : Dev nD) : FVec Ideal S1x1024 .f32 := m ((c : Thread nD τ).loc main_arg2)
abbrev aw1 (c : Dev nD) : FVec Ideal S1024x2816 .f32 := m ((c : Thread nD τ).loc main_arg3)
abbrev aw3 (c : Dev nD) : FVec Ideal S1024x2816 .f32 := m ((c : Thread nD τ).loc main_arg4)
abbrev ada (c : Dev nD) : FVec Ideal S8192x2816 .f32 := m ((c : Thread nD τ).loc main_arg5)
abbrev adb (c : Dev nD) : FVec Ideal S8192x2816 .f32 := m ((c : Thread nD τ).loc main_arg6)
abbrev adx (c : Dev nD) : FVec Ideal S8192x1024 .f32 := m ((c : Thread nD τ).loc main_arg7)

theorem rows_lt (t : Fin cfg0.N) (r : Fin 512) : t.val * 512 + r.val < 8192 := by
  have := r.isLt
  have : t.val < 16 := lt_of_lt_of_eq t.isLt (show cfg0.N = 16 from N_0)
  omega

/-- A point's row of the whole arrays. -/
abbrev rw' (t : Fin cfg0.N) (r : Fin 512) : Fin 8192 := ⟨t.val * 512 + r.val, rows_lt t r⟩

section blocks

variable (c : Dev nD) (t : Fin cfg0.N)

theorem b0 (r : Fin 512) (k : Fin 2816) : iblk m c 0 t (ix2 r k) = ada m c (ix2 (rw' t r) k) := by
  blk_ext [iblk, V, idx t]

theorem b1 (r : Fin 512) (k : Fin 2816) : iblk m c 1 t (ix2 r k) = adb m c (ix2 (rw' t r) k) := by
  blk_ext [iblk, V, idx t]

theorem v2_at (r : Fin 2816) (k : Fin 1024) : V m c main_v2 (ix2 r k) = aw1 m c (ix2 k r) := by
  unfold V; after_reads_at

theorem b2 (r : Fin 2816) (k : Fin 1024) : iblk m c 2 t (ix2 r k) = aw1 m c (ix2 k r) :=
  Eq.trans (by blk_ext [iblk, idx t]) (v2_at m c r k)

theorem v3_at (r : Fin 2816) (k : Fin 1024) : V m c main_v5 (ix2 r k) = aw3 m c (ix2 k r) := by
  unfold V; after_reads_at

theorem b3 (r : Fin 2816) (k : Fin 1024) : iblk m c 3 t (ix2 r k) = aw3 m c (ix2 k r) :=
  Eq.trans (by blk_ext [iblk, idx t]) (v3_at m c r k)

theorem b4 (r : Fin 512) (k : Fin 1024) : iblk m c 4 t (ix2 r k) = ax m c (ix2 (rw' t r) k) := by
  blk_ext [iblk, V, idx t]

theorem b5 (r : Fin 1) (k : Fin 1024) : iblk m c 5 t (ix2 r k) = ag m c (ix2 r k) := by
  blk_ext [iblk, V, idx t]

theorem b6 (r : Fin 1) (k : Fin 1024) : iblk m c 6 t (ix2 r k) = asc m c (ix2 r k) := by
  blk_ext [iblk, V, idx t]

theorem b7 (r : Fin 512) (k : Fin 1024) : iblk m c 7 t (ix2 r k) = adx m c (ix2 (rw' t r) k) := by
  blk_ext [iblk, V, idx t]

theorem dh_at (r : Fin 512) (k : Fin 1024) : k0_pay2 (iblk m c 0 t) (iblk m c 2 t) (iblk m c 1 t) (iblk m c 3 t) (ix2 r k)
    = DH (aw1 m c) (aw3 m c) (ada m c) (adb m c) (rw' t r) k := by
  pointwise [k0_pay2, DH]
  simp only [b0, b1, b2, b3]

theorem r_at (r : Fin 512) (k : Fin 1) : k0_pay3 (iblk m c 4 t) (ix2 r k) = RI (ax m c) (rw' t r) := by
  pointwise [k0_pay3, RI]
  simp only [b4]

theorem xh_at (r : Fin 512) (k : Fin 1024) : k0_pay4 (iblk m c 4 t) (ix2 r k) = ax m c (ix2 (rw' t r) k) * RI (ax m c) (rw' t r) := by
  rw [← r_at m c t r 0, ← b4 m c t r k]
  pointwise [k0_pay4]

theorem dn_at (r : Fin 512) (k : Fin 1024) : k0_pay5 (iblk m c 0 t) (iblk m c 2 t) (iblk m c 1 t) (iblk m c 3 t) (iblk m c 6 t) (ix2 r k)
    = DH (aw1 m c) (aw3 m c) (ada m c) (adb m c) (rw' t r) k * (1 + asc m c (ix2 0 k)) := by
  rw [← dh_at, ← b6 m c t]
  pointwise [k0_pay5]

theorem dy_at (r : Fin 512) (k : Fin 1024) :
    k0_pay6 (iblk m c 0 t) (iblk m c 2 t) (iblk m c 1 t) (iblk m c 3 t) (iblk m c 5 t) (iblk m c 6 t) (ix2 r k)
    = DY (ag m c) (asc m c) (aw1 m c) (aw3 m c) (ada m c) (adb m c) (rw' t r) k := by
  rw [DY, ← dn_at, ← b5 m c t]
  pointwise [k0_pay6]

theorem sum_at (r : Fin 512) (k : Fin 1) :
    k0_pay7 (iblk m c 0 t) (iblk m c 2 t) (iblk m c 1 t) (iblk m c 3 t) (iblk m c 4 t) (iblk m c 5 t) (iblk m c 6 t) (ix2 r k)
    = ∑ k : Fin 1024, DY (ag m c) (asc m c) (aw1 m c) (aw3 m c) (ada m c) (adb m c) (rw' t r) k
      * (ax m c (ix2 (rw' t r) k) * RI (ax m c) (rw' t r)) := by
  simp only [← dy_at, ← xh_at]
  pointwise [k0_pay7]

end blocks

theorem pay9_at (v19 v33 v34 : FVec Ideal S512x1 .f32) (v21 v29 v30 : FVec Ideal S512x1024 .f32) (r : Fin 512) (k : Fin 1024) :
    k0_pay9 v19 v21 v29 v30 v33 v34 (ix2 r k)
      = v30 (ix2 r k) + v19 (ix2 r 0) * (v29 (ix2 r k) - v21 (ix2 r k) * Ideal.div (v33 (ix2 r 0)) (v34 (ix2 r 0))) := by
  pointwise [k0_pay9]

theorem pay8_at (r : Fin 512) : k0_pay8 (F := Ideal) (ix2 r 0) = len := by pointwise [k0_pay8]

/-- The gradient of the layer's input, after the run. -/
theorem final8 (c : Dev nD) : (dats m 0 c).arrAt 8 cfg0.N
    = DX (ax m c) (ag m c) (asc m c) (aw1 m c) (aw3 m c) (ada m c) (adb m c) (adx m c) := by
  refine (dats m 0 c).arrAt_eq_of_covers 8 _ (by decide +kernel) fun t hf y => ?_
  obtain ⟨r, k, rfl⟩ : ∃ (r : Fin 512) (k : Fin 1024), y = ix2 r k := ⟨y 0, y 1, by funext a; fin_cases a <;> rfl⟩
  blk_simp
  rw [after0_8, outs8 m c t, pay9_at, r_at, xh_at, dy_at, sum_at, b7, pay8_at]
  refine Eq.trans (b := DX (ax m c) (ag m c) (asc m c) (aw1 m c) (aw3 m c) (ada m c) (adb m c) (adx m c) (ix2 (rw' t r) k)) rfl (congrArg _ ?_)
  blk_ext [idx t]

theorem tile_lt (n : ℕ) (x : Fin 8) (r : Fin 64) (h : n < 16) : n * 512 + (r.val * 8 + x.val) < 8192 := by
  have := r.isLt
  have := x.isLt
  omega

/-- One point's part of a column. -/
abbrev part (c : Dev nD) (n : ℕ) (h : n < 16) (x : Fin 8) (j : Fin 3072) : EReal :=
  ∑ r : Fin 64, rowP (ax m c) (ag m c) (asc m c) (aw1 m c) (aw3 m c) (ada m c) (adb m c) j ⟨n * 512 + (r.val * 8 + x.val), tile_lt n x r h⟩

section sums

variable (c : Dev nD) (t : Fin cfg0.N)

theorem lt16 : t.val < 16 := lt_of_lt_of_eq t.isLt (show cfg0.N = 16 from N_0)

theorem pay11_at (q : FVec Ideal S8x1024 .f32) (x : Fin 8) (k : Fin 1024) :
    k0_pay11 (k0_pay2 (iblk m c 0 t) (iblk m c 2 t) (iblk m c 1 t) (iblk m c 3 t)) (k0_pay4 (iblk m c 4 t)) (iblk m c 5 t) q (ix2 x k)
      = q (ix2 x k) + part m c t (lt16 t) x ⟨0 + k, by omega⟩ := by
  pointwise [k0_pay11]
  simp only [dh_at, xh_at, b5, part, rowP, zero_add, k.isLt, dif_pos]

theorem pay12_at (q : FVec Ideal S8x1024 .f32) (x : Fin 8) (k : Fin 1024) :
    k0_pay12 (k0_pay2 (iblk m c 0 t) (iblk m c 2 t) (iblk m c 1 t) (iblk m c 3 t)) q (ix2 x k)
      = q (ix2 x k) + part m c t (lt16 t) x ⟨1024 + k, by omega⟩ := by
  pointwise [k0_pay12]
  simp only [dh_at, part, rowP, show ¬ 1024 + k.val < 1024 by omega, show 1024 + k.val < 2048 by omega, Nat.add_sub_cancel_left, dif_pos, dif_neg, not_false_eq_true]

theorem pay13_at (q : FVec Ideal S8x1024 .f32) (x : Fin 8) (k : Fin 1024) :
    k0_pay13 (k0_pay4 (iblk m c 4 t)) (k0_pay5 (iblk m c 0 t) (iblk m c 2 t) (iblk m c 1 t) (iblk m c 3 t) (iblk m c 6 t)) q (ix2 x k)
      = q (ix2 x k) + part m c t (lt16 t) x ⟨2048 + k, by omega⟩ := by
  pointwise [k0_pay13]
  simp only [xh_at, dn_at, part, rowP, show ¬ 2048 + k.val < 1024 by omega, show ¬ 2048 + k.val < 2048 by omega, Nat.add_sub_cancel_left, dif_pos, dif_neg, not_false_eq_true]

end sums

/-- What a point leaves in the eight rows of sums, from what they held. -/
abbrev upd (c : Dev nD) (t : Fin cfg0.N) (p : FVec Ideal S8x3072 .f32) : FVec Ideal S8x3072 .f32 := fun y => p y + part m c t (lt16 t) (y 0) (y 1)

theorem ix2_all (y : S8x3072.Idx) : ∃ (x : Fin 8) (k : Fin 3072), y = ix2 x k := ⟨y 0, y 1, by funext a; fin_cases a <;> rfl⟩

/-- The three bands a point writes, from bands that hold the rows `q`. -/
theorem bands (c : Dev nD) (t : Fin cfg0.N) (q : FVec Ideal S8x3072 .f32) (u v w : FVec Ideal S8x1024 .f32)
    (hu : ∀ (x : Fin 8) (k : Fin 1024), u (ix2 x k) = q (ix2 x ⟨0 + k, by omega⟩))
    (hv : ∀ (x : Fin 8) (k : Fin 1024), v (ix2 x k) = q (ix2 x ⟨1024 + k, by omega⟩))
    (hw : ∀ (x : Fin 8) (k : Fin 1024), w (ix2 x k) = q (ix2 x ⟨2048 + k, by omega⟩)) (L) (x : Fin 8) (j : Fin 3072) :
    View.canon (Val := Elt Ideal) (e := .f32) (⟨Rect.unit (s := S8x3072) ![0, 2048] ![8, 1024] inb_S8x3072_S8x1024_0_2048,
        k0_pay13 (k0_pay4 (iblk m c 4 t)) (k0_pay5 (iblk m c 0 t) (iblk m c 2 t) (iblk m c 1 t) (iblk m c 3 t) (iblk m c 6 t)) w⟩
      :: ⟨Rect.unit (s := S8x3072) ![0, 1024] ![8, 1024] inb_S8x3072_S8x1024_0_1024,
        k0_pay12 (k0_pay2 (iblk m c 0 t) (iblk m c 2 t) (iblk m c 1 t) (iblk m c 3 t)) v⟩
      :: ⟨Rect.unit (s := S8x3072) ![0, 0] ![8, 1024] inb_S8x3072_S8x1024_0_0,
        k0_pay11 (k0_pay2 (iblk m c 0 t) (iblk m c 2 t) (iblk m c 1 t) (iblk m c 3 t)) (k0_pay4 (iblk m c 4 t)) (iblk m c 5 t) u⟩ :: L) (ix2 x j)
      = upd m c t q (ix2 x j) := by
  refine Cert.Shared.band_cons (Val := Elt Ideal) (e := .f32) _ _ _ _ x j (fun j => upd m c t q (ix2 x j)) (fun k hk => ?_) fun h1 => ?_
  · exact (pay13_at m c t _ x k).trans (congrArg (· + _) (hw x k))
  refine Cert.Shared.band_cons (Val := Elt Ideal) (e := .f32) _ _ _ _ x j (fun j => upd m c t q (ix2 x j)) (fun k hk => ?_) fun h2 => ?_
  · exact (pay12_at m c t _ x k).trans (congrArg (· + _) (hv x k))
  refine Cert.Shared.band_cons (Val := Elt Ideal) (e := .f32) _ _ _ _ x j (fun j => upd m c t q (ix2 x j)) (fun k hk => ?_) fun h3 => absurd h3 (by omega)
  exact (pay11_at m c t _ x k).trans (congrArg (· + _) (hu x k))

theorem zero_at (x : Fin 8) (j : Fin 3072) : k0_pay10 (F := Ideal) (ix2 x j) = 0 := by pointwise [k0_pay10]

theorem first (c : Dev nD) (h : 0 < cfg0.N) : (outsAt0 m c 0 h).2 = upd m c ⟨0, h⟩ k0_pay10 := by
  rw [outsAt0_A m c ⟨0, h⟩ rfl (by simp)]
  dsimp only
  frame_out
  funext y
  obtain ⟨x, j, rfl⟩ := ix2_all y
  refine bands m c ⟨0, h⟩ k0_pay10 _ _ _ (fun x k => ?_) (fun x k => ?_) (fun x k => ?_) _ x j
  · exact (Cert.Shared.band_read _ _ _ _ x k ⟨0 + k, by omega⟩ rfl).trans (Cert.Shared.band_in (Val := Elt Ideal) (e := .f32) 0 _ _ _ x _ _ (zero_add _).symm)
  · exact (Cert.Shared.band_read _ _ _ _ x k ⟨1024 + k, by omega⟩ rfl).trans
      ((Cert.Shared.band_out (Val := Elt Ideal) (e := .f32) _ _ _ _ x _ (.inr (Nat.le_add_right 1024 k))).trans (Cert.Shared.band_in (Val := Elt Ideal) (e := .f32) 0 _ _ _ x _ _ (zero_add _).symm))
  · exact (Cert.Shared.band_read _ _ _ _ x k ⟨2048 + k, by omega⟩ rfl).trans
      ((Cert.Shared.band_out (Val := Elt Ideal) (e := .f32) _ _ _ _ x _ (.inr (Nat.le_add_right 2048 k))).trans
        ((Cert.Shared.band_out (Val := Elt Ideal) (e := .f32) _ _ _ _ x _ (.inr (Nat.le_add_right_of_le (by omega)))).trans (Cert.Shared.band_in (Val := Elt Ideal) (e := .f32) 0 _ _ _ x _ _ (zero_add _).symm)))

theorem next (c : Dev nD) (n : ℕ) (h : n + 1 < cfg0.N) (hn : n + 1 < 15) : (outsAt0 m c (n + 1) h).2 = upd m c ⟨n + 1, h⟩ (outsAt0 m c n (Nat.lt_of_succ_lt h)).2 := by
  rw [outsAt0_B m c ⟨n + 1, h⟩ (by simp; omega) (by simp; omega)]
  dsimp only
  frame_out
  funext y
  obtain ⟨x, j, rfl⟩ := ix2_all y
  exact bands m c ⟨n + 1, h⟩ _ _ _ _ (fun x k => Cert.Shared.band_ld _ _ _ x k _ rfl) (fun x k => Cert.Shared.band_ld _ _ _ x k _ rfl)
    (fun x k => Cert.Shared.band_ld _ _ _ x k _ rfl) _ x j

/-- The eight rows before the last point sums them. -/
def before (c : Dev nD) (n : ℕ) (h : n < 16) : FVec Ideal S8x3072 .f32 :=
  upd m c ⟨n, h⟩ (if h0 : n = 0 then k0_pay10 (F := Ideal) else (outsAt0 m c (n - 1) (Nat.lt_of_le_of_lt (Nat.sub_le n 1) h)).2)

theorem final9 (c : Dev nD) : (dats m 0 c).arrAt 9 cfg0.N = P (ax m c) (ag m c) (asc m c) (aw1 m c) (aw3 m c) (ada m c) (adb m c) := by
  have h15 : 15 < cfg0.N := by rw [show cfg0.N = 16 from N_0]; omega
  refine (dats m 0 c).arrAt_eq_of_after_last 9 t0_15 (by decide +kernel) _ fun j => ?_
  obtain ⟨x, j, rfl⟩ := ix2_all j
  blk_simp
  rw [after0_9, show (t0_15 : Fin cfg0.N) = ⟨15, h15⟩ from rfl, outsAt0_C m c ⟨15, h15⟩ (by simp) rfl]
  dsimp only
  frame_out
  rw [View.readCov_eq_canon']
  refine Eq.trans (b := ∑ x : Fin 8, before m c 15 (by omega) (ix2 x j)) ?_ ?_
  · pointwise [k0_pay1]
    refine Finset.sum_congr rfl fun x _ => ?_
    exact bands m c ⟨15, h15⟩ _ _ _ _ (fun x k => Cert.Shared.band_ld _ _ _ x k _ rfl) (fun x k => Cert.Shared.band_ld _ _ _ x k _ rfl)
      (fun x k => Cert.Shared.band_ld _ _ _ x k _ rfl) _ x j
  · refine Cert.Shared.acc_rows 16 512 64 (by omega) rfl rfl (rowP (ax m c) (ag m c) (asc m c) (aw1 m c) (aw3 m c) (ada m c) (adb m c) j)
      (fun n h x => before m c n h (ix2 x j)) (fun n x r h => tile_lt n x r h) (fun h x => ?_) (fun n h x => ?_)
    · exact Eq.trans (by rw [before, dif_pos rfl]; exact congrArg (· + part m c 0 h x j) (zero_at x j)) (zero_add _)
    · rw [before, dif_neg (Nat.succ_ne_zero n)]
      refine congrArg (· + _) (congrFun (?_ : (outsAt0 m c n _).2 = before m c n _) _)
      rcases n with _ | n
      · exact first m c _
      · exact next m c n _ (by omega)

end Cert.NormIdeal.Value
end
-- ==== Proof.Shared.RmsNorm.lean ====
module

public import proofs.«01_k».proof.Proof.Shared.Sums

@[expose] public section

/-! The gradient of a root-mean-square norm: the form a hand-written backward pass computes, and the form the product and
    chain rules give, agree over the reals. -/

namespace Cert.Shared

open Idealize.ShloMosaic

/-- The words of the programs as real numbers. -/
theorem w1024 : Ideal.ofBits .f32 1149239296#32 = ((1024 : ℝ) : EReal) := by
  simp [Ideal.ofBits, Ideal.ieee]
  exact_mod_cast (by norm_num : (8388608 : ℝ) * (2 ^ 13)⁻¹ = 1024)

theorem wNegHalf : Ideal.ofBits .f32 3204448256#32 = ((-(1 / 2) : ℝ) : EReal) := by
  simp [Ideal.ofBits, Ideal.ieee]
  norm_num
  exact_mod_cast (by norm_num : (8388608 : ℝ) * (1 / 16777216) = 1 / 2)

/-- The small constant under the root is a positive real number. -/
theorem wEps : ∃ e : ℝ, 0 < e ∧ Ideal.ofBits .f32 897988541#32 = (e : EReal) := by
  refine ⟨8796093 * (2 ^ 43)⁻¹, by positivity, ?_⟩
  simp [Ideal.ofBits, Ideal.ieee]

theorem rsqrt_pos {a : ℝ} (h : 0 < a) : Ideal.rsqrt (a : EReal) = (((Real.sqrt a)⁻¹ : ℝ) : EReal) := by
  rw [Ideal.rsqrt_coe, if_neg (not_lt.2 h.le), if_neg h.ne']

variable {ι : Type*} [Fintype ι]

/-- The mean square plus the small constant. -/
noncomputable def ms (n e : ℝ) (x : ι → ℝ) : ℝ := (∑ i, x i * x i) * (1 / n) + e

theorem ms_pos {n e : ℝ} (hn : 0 < n) (he : 0 < e) (x : ι → ℝ) : 0 < ms n e x := by
  have : 0 ≤ ∑ i, x i * x i := Finset.sum_nonneg fun i _ => mul_self_nonneg _
  unfold ms
  positivity

theorem ms_coe (n e : ℝ) (x : ι → ℝ) : (∑ i, (x i : EReal) * x i) * ((1 / n : ℝ) : EReal) + (e : EReal) = (ms n e x : EReal) := by
  rw [ms, EReal.coe_add, EReal.coe_mul, coe_sum]
  simp only [EReal.coe_mul]

/-- The inverse root of the mean square. -/
noncomputable def inv (n e : ℝ) (x : ι → ℝ) : ℝ := (Real.sqrt (ms n e x))⁻¹

theorem rsqrt_ms {n e : ℝ} (hn : 0 < n) (he : 0 < e) (x : ι → ℝ) : Ideal.rsqrt (ms n e x : EReal) = (inv n e x : EReal) :=
  rsqrt_pos (ms_pos hn he x)

theorem inv_sq {n e : ℝ} (hn : 0 < n) (he : 0 < e) (x : ι → ℝ) : inv n e x * inv n e x = 1 / ms n e x := by
  rw [inv, ← mul_inv, Real.mul_self_sqrt (ms_pos hn he x).le, one_div]

/-- The gradient through the norm at one element, `d` the gradient of the normed value. -/
noncomputable def dnorm (n e : ℝ) (x d : ι → ℝ) (j : ι) : ℝ :=
  inv n e x * (d j - x j * inv n e x * ((∑ i, d i * (x i * inv n e x)) * (1 / n)))

/-- The form the product rule and the chain rule give. -/
theorem dnorm_chain {n e : ℝ} (hn : 0 < n) (he : 0 < e) (x d : ι → ℝ) (j : ι) :
    d j * inv n e x + x j * ((∑ i, x i * d i) * (-(1 / 2) * (inv n e x * (1 / ms n e x))) * (1 / n))
      + (∑ i, x i * d i) * (-(1 / 2) * (inv n e x * (1 / ms n e x))) * (1 / n) * x j = dnorm n e x d j := by
  have hs : ∑ i, d i * (x i * inv n e x) = inv n e x * ∑ i, x i * d i := by
    rw [Finset.mul_sum]
    exact Finset.sum_congr rfl fun i _ => by ring
  rw [dnorm, hs, ← inv_sq hn he x]
  ring

/-- A value that is a real number. -/
def IsReal (a : EReal) : Prop := ∃ r : ℝ, a = r

theorem IsReal.mul {a b : EReal} : IsReal a → IsReal b → IsReal (a * b) := fun ⟨x, hx⟩ ⟨y, hy⟩ => ⟨x * y, by rw [hx, hy, EReal.coe_mul]⟩

theorem IsReal.add {a b : EReal} : IsReal a → IsReal b → IsReal (a + b) := fun ⟨x, hx⟩ ⟨y, hy⟩ => ⟨x + y, by rw [hx, hy, EReal.coe_add]⟩

theorem IsReal.sub {a b : EReal} : IsReal a → IsReal b → IsReal (a - b) := fun ⟨x, hx⟩ ⟨y, hy⟩ => ⟨x - y, by rw [hx, hy, EReal.coe_sub]⟩

theorem IsReal.one : IsReal 1 := ⟨1, rfl⟩

theorem IsReal.zero : IsReal 0 := ⟨0, rfl⟩

theorem IsReal.sum {κ : Type*} [Fintype κ] {f : κ → EReal} (h : ∀ k, IsReal (f k)) : IsReal (∑ k, f k) := by
  choose g hg using h
  exact ⟨∑ k, g k, by rw [coe_sum]; exact Finset.sum_congr rfl fun k _ => hg k⟩

/-- The inverse root mean square of a real row is real. -/
theorem IsReal.rms {x : ι → EReal} (hx : ∀ i, IsReal (x i)) {n e : ℝ} (hn : 0 < n) (he : 0 < e) {L E : EReal} (hL : L = n) (hE : E = e) :
    IsReal (Ideal.rsqrt (Ideal.div (∑ i, x i * x i) L + E)) := by
  choose x' hx using hx
  subst hL hE
  exact ⟨inv n e x', by simp only [hx, Ideal.div_coe hn.ne', ms_coe, rsqrt_ms hn he]⟩

/-- The gradient through the norm as the reference's chain rule has it is the kernel's closed form, for real rows. -/
theorem dnorm_law {x d : ι → EReal} (hx : ∀ i, IsReal (x i)) (hd : ∀ i, IsReal (d i)) {n e : ℝ} (hn : 0 < n) (he : 0 < e) {L E : EReal} (hL : L = n) (hE : E = e)
    (j : ι) :
    d j * Ideal.rsqrt (Ideal.div (∑ i, x i * x i) L + E)
      + x j * ∑ _k : Fin 1, Ideal.div ((∑ i, x i * d i) * (Ideal.ofBits .f32 3204448256#32
        * Ideal.div (Ideal.rsqrt (Ideal.div (∑ i, x i * x i) L + E)) (Ideal.div (∑ i, x i * x i) L + E))) L
      + (∑ _k : Fin 1, Ideal.div ((∑ i, x i * d i) * (Ideal.ofBits .f32 3204448256#32
        * Ideal.div (Ideal.rsqrt (Ideal.div (∑ i, x i * x i) L + E)) (Ideal.div (∑ i, x i * x i) L + E))) L) * x j
      = Ideal.rsqrt (Ideal.div (∑ i, x i * x i) L + E) * (d j - x j * Ideal.rsqrt (Ideal.div (∑ i, x i * x i) L + E)
        * Ideal.div (∑ i, d i * (x i * Ideal.rsqrt (Ideal.div (∑ i, x i * x i) L + E))) L) := by
  choose x' hx using hx
  choose d' hd using hd
  subst hL hE
  simp only [hx, hd, Ideal.div_coe hn.ne', ms_coe, rsqrt_ms hn he, Ideal.div_coe (ms_pos hn he x').ne', wNegHalf, Fin.sum_univ_one]
  simp only [← EReal.coe_mul, ← coe_sum, ← EReal.coe_add, ← EReal.coe_sub]
  exact congrArg _ (dnorm_chain hn he x' d' j)

end Cert.Shared
-- ==== Proof.Norm.Claim.lean ====
module

public import proofs.«01_k».proof.Proof.Norm.Value
public import proofs.«01_k».proof.Defs
public import proofs.«01_k».proof.Proof.Gen.NormRefIdeal.Run
public import proofs.«01_k».proof.Proof.Gen.Pre_norm_pre
public import proofs.«01_k».proof.Proof.Shared.RmsNorm
public import Idealize.ShloMosaic.Lib.Quiescent

@[expose] public section

set_option maxRecDepth 16384

noncomputable section

open Idealize.ShloMosaic Idealize.ShloMosaic.TcCoe Idealize.SL.Sem

namespace Cert.NormClaim

open Cert.NormIdeal Cert.NormIdeal.Gen Cert.NormIdeal.Value

open Cert.Shared in
/-- The precondition makes the elements of all arguments but the added gradient real. -/
theorem reals {a0 : FVec Ideal S8192x1024 .f32} {a1 a2 : FVec Ideal S1x1024 .f32} {a3 a4 : FVec Ideal S1024x2816 .f32} {a5 a6 : FVec Ideal S8192x2816 .f32}
    {a7 : FVec Ideal S8192x1024 .f32} (h : Cert.Pre_norm_pre.fn (F := Ideal) a0 a1 a2 a3 a4 a5 a6 a7 = fun _ => 1#1) :
    (∀ i, IsReal (a0 i)) ∧ (∀ i, IsReal (a1 i)) ∧ (∀ i, IsReal (a2 i)) ∧ (∀ i, IsReal (a3 i)) ∧ (∀ i, IsReal (a4 i)) ∧ (∀ i, IsReal (a5 i)) ∧ (∀ i, IsReal (a6 i)) := by
  have h := congrFun h ix0
  unfold Cert.Pre_norm_pre.fn Cert.Pre_norm_pre.fn_part1 at h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨real_of_finite _ _ _ _ _ _ _ h0, real_of_finite _ _ _ _ _ _ _ h1, real_of_finite _ _ _ _ _ _ _ h2, real_of_finite _ _ _ _ _ _ _ h3,
    real_of_finite _ _ _ _ _ _ _ h4, real_of_finite _ _ _ _ _ _ _ h5, real_of_finite _ _ _ _ _ _ _ h6⟩

/-- The reference runs on the host alone: its arguments end unchanged, and it declares no semaphore. -/
theorem frame_ref : Cert.quiescent_NormRefIdeal (hNormRefIdeal := Cert.NormRefIdeal.Gen.facts) := fun m ρ _ =>
  (θ_run Cert.NormRefIdeal.defs _ _).mono (fun r h => ⟨fun c => (h c).2.2, Idealize.ShloMosaic.sem_eq_zero_of_no_sems (by decide) r.2⟩)
    (Cert.NormRefIdeal.Value.run (F := Ideal) m ρ)

theorem algebraic : Cert.algebraic_NormIdeal_NormRefIdeal_pre_norm_pre (hNormIdeal := Cert.NormIdeal.Gen.facts)
    (hNormRefIdeal := Cert.NormRefIdeal.Gen.facts) (hPre_norm_pre := Cert.Pre_norm_pre.Gen.facts) := by
  intro m g m' g' hpre hag
  refine ⟨fun c => DX (ax m c) (ag m c) (asc m c) (aw1 m c) (aw3 m c) (ada m c) (adb m c) (adx m c),
    fun c => P (ax m c) (ag m c) (asc m c) (aw1 m c) (aw3 m c) (ada m c) (adb m c),
    (θ_run _ _ _).mono (fun r h c => ?_) (run_blocks m g), (θ_run _ _ _).mono (fun r h c => ?_) (Cert.NormRefIdeal.Value.run m' g')⟩
  · obtain ⟨h8, h9, hk⟩ := h c
    exact ⟨h8.trans (final8 m c), h9.trans (final9 m c), hk⟩
  · obtain ⟨h1, h2, hk⟩ := h c
    obtain ⟨e0, e1, e2, e3, e4, e5, e6, e7⟩ := hag c
    unfold Cert.NormRefIdeal.Value.res_main_v53 at h1
    rw [e0, e1, e2, e3, e4, e5, e6, e7] at h1
    rw [e0, e1, e2, e3, e4, e5, e6] at h2
    refine ⟨h1.trans ?_, h2.trans ?_, hk⟩
    · have hr := reals (hpre c)
      clear h1 h2 hk e0 e1 e2 e3 e4 e5 e6 e7 hpre
      funext y
      obtain ⟨i, j, rfl⟩ : ∃ (i : Fin 8192) (j : Fin 1024), y = ix2 i j := ⟨y 0, y 1, by funext a; fin_cases a <;> rfl⟩
      have hE : ∀ k : Fin 1024, (∑ q : Fin 2816, adb m c (ix2 i q) * aw3 m c (ix2 k q) + ∑ q : Fin 2816, ada m c (ix2 i q) * aw1 m c (ix2 k q)) * (1 + asc m c (ix2 0 k)) * ag m c (ix2 0 k)
          = DY (ag m c) (asc m c) (aw1 m c) (aw3 m c) (ada m c) (adb m c) i k := fun k => by rw [DY, DH, add_comm (∑ q, _)]
      simp only [ax, ag, asc, aw1, aw3, ada, adb, adx] at hE ⊢
      pointwise []
      simp only [hE]
      obtain ⟨r0, r1, r2, r3, r4, r5, r6⟩ := hr
      obtain ⟨e, he, hE⟩ := Cert.Shared.wEps
      have hd : ∀ k, Cert.Shared.IsReal (DY (ag m c) (asc m c) (aw1 m c) (aw3 m c) (ada m c) (adb m c) i k) := fun k =>
        (((Cert.Shared.IsReal.sum fun q => (r5 _).mul (r3 _)).add (Cert.Shared.IsReal.sum fun q => (r6 _).mul (r4 _))).mul (Cert.Shared.IsReal.one.add (r2 _))).mul (r1 _)
      refine Eq.trans ?_ (congrArg (adx m c (ix2 i j) + ·) (Cert.Shared.dnorm_law (fun k => r0 (ix2 i k)) hd (by norm_num : (0 : ℝ) < 1024) he Cert.Shared.w1024 hE j))
      rw [← add_assoc, ← add_assoc]
    · funext y
      obtain ⟨x, j, rfl⟩ := ix2_all y
      clear h1 h2 hk
      refine Eq.trans ?_ (show ∑ i, rowP (ax m c) (ag m c) (asc m c) (aw1 m c) (aw3 m c) (ada m c) (adb m c) j i = _ from rfl)
      simp only [rowP, DH, RI, ax, ag, asc, aw1, aw3, ada, adb]
      pointwise []
      by_cases h1 : j.val < 1024
      · simp only [h1, dif_pos]
        exact Finset.sum_congr rfl fun i _ => (mul_comm _ _).trans (congrArg (· * _) (add_comm _ _))
      · by_cases h2 : j.val < 2048
        · have h3 : j.val - 1024 < 1024 := by omega
          simp only [h1, h2, h3, dif_pos, dif_neg, not_false_eq_true]
          exact Finset.sum_congr rfl fun i _ => add_comm _ _
        · have h3 : ¬ j.val - 1024 < 1024 := by omega
          simp only [h1, h2, h3, dif_neg, not_false_eq_true, Nat.sub_sub]
          exact Finset.sum_congr rfl fun i _ => (mul_comm _ _).trans (congrArg (· * _ * _) (add_comm _ _))
end Cert.NormClaim
end
-- ==== Proof.Loss.Value.lean ====
module

public import proofs.«01_k».proof.Proof.Gen.LossIdeal.Value
public import proofs.«01_k».proof.Proof.Shared.Cols
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.LossIdeal.Value

open Cert.LossIdeal Cert.LossIdeal.Gen

variable (m : (ℓ : Loc nD τ sig) → Buf (Elt Ideal) ℓ)

/-- The row length, the small constant under the root, a half, one over the row length and half of that, as the kernel's words. -/
abbrev len : EReal := Ideal.ofBits .f32 1149239296#32
abbrev eps : EReal := Ideal.ofBits .f32 897988541#32
abbrev half : EReal := Ideal.ofBits .f32 1056964608#32
abbrev perLen : EReal := Ideal.ofBits .f32 981467136#32
abbrev halfPerLen : EReal := Ideal.ofBits .f32 973078528#32

section forms

variable (u : FVec Ideal S8192x2816 .f32) (w : FVec Ideal S2816x1024 .f32) (x : FVec Ideal S8192x1024 .f32) (ga g : FVec Ideal S1x1024 .f32) (tg : FVec Ideal S8192x1024 .f32)

/-- The last layer's product. -/
def FO (i : Fin 8192) (k : Fin 1024) : EReal := ∑ q : Fin 2816, u (ix2 i q) * w (ix2 q k)

/-- The row that enters the last norm. -/
def XN (i : Fin 8192) (k : Fin 1024) : EReal := x (ix2 i k) + half * ga (ix2 0 k) * FO u w i k

/-- A row's inverse root mean square. -/
def RI (i : Fin 8192) : EReal := Ideal.rsqrt (Ideal.div (∑ k : Fin 1024, XN u w x ga i k * XN u w x ga i k) len + eps)

/-- The normed row. -/
def XH (i : Fin 8192) (k : Fin 1024) : EReal := XN u w x ga i k * RI u w x ga i

/-- The error. -/
def ER (i : Fin 8192) (k : Fin 1024) : EReal := XH u w x ga i k * g (ix2 0 k) - tg (ix2 i k)

/-- The gradient of the normed row. -/
def DY (i : Fin 8192) (k : Fin 1024) : EReal := ER u w x ga g tg i k * perLen * g (ix2 0 k)

/-- The gradient of the layer's input. -/
def DX : FVec Ideal S8192x1024 .f32 := fun j =>
  RI u w x ga (j 0) * (DY u w x ga g tg (j 0) (j 1)
    - XH u w x ga (j 0) (j 1) * Ideal.div (∑ k : Fin 1024, DY u w x ga g tg (j 0) k * XH u w x ga (j 0) k) len)

/-- One row's part of the gain's gradient, and of the loss. -/
def rowG (j : Fin 1024) (i : Fin 8192) : EReal := ER u w x ga g tg i j * perLen * XH u w x ga i j
def rowL (j : Fin 1024) (i : Fin 8192) : EReal := ER u w x ga g tg i j * ER u w x ga g tg i j

def FF : FVec Ideal S8192x1024 .bf16 := fun j => FO u w (j 0) (j 1)
def DG : FVec Ideal S8x1024 .f32 := fun j => ∑ i : Fin 8192, rowG u w x ga g tg (j 1) i
def LS : FVec Ideal S8x128 .f32 := fun j => (∑ k : Fin 1024, ∑ i : Fin 8192, rowL u w x ga g tg k i) * halfPerLen

end forms

theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0]
    ∧ win0_7.index t = ![t.val, 0] ∧ win0_8.index t = ![0, 0] ∧ win0_9.index t = ![0, 0] :=
  (by decide +kernel : ∀ t : Fin grid0.N, _)

abbrev au (c : Dev nD) : FVec Ideal S8192x2816 .f32 := m ((c : Thread nD τ).loc main_arg0)
abbrev aw (c : Dev nD) : FVec Ideal S2816x1024 .f32 := m ((c : Thread nD τ).loc main_arg1)
abbrev ax (c : Dev nD) : FVec Ideal S8192x1024 .f32 := m ((c : Thread nD τ).loc main_arg2)
abbrev aga (c : Dev nD) : FVec Ideal S1x1024 .f32 := m ((c : Thread nD τ).loc main_arg3)
abbrev ag (c : Dev nD) : FVec Ideal S1x1024 .f32 := m ((c : Thread nD τ).loc main_arg4)
abbrev atg (c : Dev nD) : FVec Ideal S8192x1024 .f32 := m ((c : Thread nD τ).loc main_arg5)

theorem rows_lt (t : Fin cfg0.N) (r : Fin 512) : t.val * 512 + r.val < 8192 := by
  have := r.isLt
  have : t.val < 16 := lt_of_lt_of_eq t.isLt (show cfg0.N = 16 from N_0)
  omega

/-- A point's row of the whole arrays. -/
abbrev rw' (t : Fin cfg0.N) (r : Fin 512) : Fin 8192 := ⟨t.val * 512 + r.val, rows_lt t r⟩

section blocks

variable (c : Dev nD) (t : Fin cfg0.N)

theorem v0_at (j) : V m c main_v0 j = au m c j := by
  unfold V; after_reads_at

theorem v1_at (j) : V m c main_v1 j = aw m c j := by
  unfold V; after_reads_at

theorem b0 (r : Fin 512) (k : Fin 2816) : iblk m c 0 t (ix2 r k) = au m c (ix2 (rw' t r) k) :=
  Eq.trans (b := V m c main_v0 (ix2 (rw' t r) k)) (by blk_ext [iblk, idx t]) (v0_at m c _)

theorem b1 (r : Fin 2816) (k : Fin 1024) : iblk m c 1 t (ix2 r k) = aw m c (ix2 r k) :=
  Eq.trans (b := V m c main_v1 (ix2 r k)) (by blk_ext [iblk, idx t]) (v1_at m c _)

theorem b2 (r : Fin 512) (k : Fin 1024) : iblk m c 2 t (ix2 r k) = ax m c (ix2 (rw' t r) k) := by
  blk_ext [iblk, V, idx t]

theorem b3 (r : Fin 1) (k : Fin 1024) : iblk m c 3 t (ix2 r k) = aga m c (ix2 r k) := by
  blk_ext [iblk, V, idx t]

theorem b4 (r : Fin 1) (k : Fin 1024) : iblk m c 4 t (ix2 r k) = ag m c (ix2 r k) := by
  blk_ext [iblk, V, idx t]

theorem b5 (r : Fin 512) (k : Fin 1024) : iblk m c 5 t (ix2 r k) = atg m c (ix2 (rw' t r) k) := by
  blk_ext [iblk, V, idx t]

theorem f_at (r : Fin 512) (k : Fin 1024) : k0_pay8 (iblk m c 0 t) (iblk m c 1 t) (ix2 r k) = FO (au m c) (aw m c) (rw' t r) k := by
  pointwise [k0_pay8, FO]
  simp only [b0, b1]

theorem x_at (r : Fin 512) (k : Fin 1024) : k0_pay10 (iblk m c 0 t) (iblk m c 1 t) (iblk m c 2 t) (iblk m c 3 t) (ix2 r k)
    = XN (au m c) (aw m c) (ax m c) (aga m c) (rw' t r) k := by
  rw [XN, ← f_at, ← b2 m c t, ← b3 m c t]
  pointwise [k0_pay10]

theorem r_at (r : Fin 512) (k : Fin 1) : k0_pay11 (iblk m c 0 t) (iblk m c 1 t) (iblk m c 2 t) (iblk m c 3 t) (ix2 r k)
    = RI (au m c) (aw m c) (ax m c) (aga m c) (rw' t r) := by
  simp only [RI, ← x_at]
  pointwise [k0_pay11]

theorem xh_at (r : Fin 512) (k : Fin 1024) : k0_pay12 (iblk m c 0 t) (iblk m c 1 t) (iblk m c 2 t) (iblk m c 3 t) (ix2 r k)
    = XH (au m c) (aw m c) (ax m c) (aga m c) (rw' t r) k := by
  rw [XH, ← x_at, ← r_at m c t r 0]
  pointwise [k0_pay12]

theorem e_at (r : Fin 512) (k : Fin 1024) : k0_pay13 (iblk m c 0 t) (iblk m c 1 t) (iblk m c 2 t) (iblk m c 3 t) (iblk m c 4 t) (iblk m c 5 t) (ix2 r k)
    = ER (au m c) (aw m c) (ax m c) (aga m c) (ag m c) (atg m c) (rw' t r) k := by
  rw [ER, ← xh_at, ← b4 m c t, ← b5 m c t]
  pointwise [k0_pay13]

theorem dn_at (r : Fin 512) (k : Fin 1024) : k0_pay14 (iblk m c 0 t) (iblk m c 1 t) (iblk m c 2 t) (iblk m c 3 t) (iblk m c 4 t) (iblk m c 5 t) (ix2 r k)
    = ER (au m c) (aw m c) (ax m c) (aga m c) (ag m c) (atg m c) (rw' t r) k * perLen := by
  rw [← e_at]
  pointwise [k0_pay14]

theorem dy_at (r : Fin 512) (k : Fin 1024) : k0_pay15 (iblk m c 0 t) (iblk m c 1 t) (iblk m c 2 t) (iblk m c 3 t) (iblk m c 4 t) (iblk m c 5 t) (ix2 r k)
    = DY (au m c) (aw m c) (ax m c) (aga m c) (ag m c) (atg m c) (rw' t r) k := by
  rw [DY, ← dn_at, ← b4 m c t]
  pointwise [k0_pay15]

theorem sum_at (r : Fin 512) (k : Fin 1) : k0_pay16 (iblk m c 0 t) (iblk m c 1 t) (iblk m c 2 t) (iblk m c 3 t) (iblk m c 4 t) (iblk m c 5 t) (ix2 r k)
    = ∑ k : Fin 1024, DY (au m c) (aw m c) (ax m c) (aga m c) (ag m c) (atg m c) (rw' t r) k * XH (au m c) (aw m c) (ax m c) (aga m c) (rw' t r) k := by
  simp only [← dy_at, ← xh_at]
  pointwise [k0_pay16]

end blocks

theorem pay1_at (v21 v35 : FVec Ideal S512x1 .f32) (v23 v32 : FVec Ideal S512x1024 .f32) (n : EReal) (r : Fin 512) (k : Fin 1024) :
    k0_pay1 (F := Ideal) v21 v23 v32 v35 n (ix2 r k) = v21 (ix2 r 0) * (v32 (ix2 r k) - v23 (ix2 r k) * Ideal.div (v35 (ix2 r 0)) n) := by
  pointwise [k0_pay1]

theorem lt16 (t : Fin cfg0.N) : t.val < 16 := lt_of_lt_of_eq t.isLt (show cfg0.N = 16 from N_0)

theorem tile_lt (n : ℕ) (x : Fin 8) (r : Fin 64) (h : n < 16) : n * 512 + (r.val * 8 + x.val) < 8192 := by
  have := r.isLt
  have := x.isLt
  omega

theorem ix_all {a b : ℕ} (y : (⟨2, ![a, b]⟩ : Shape).Idx) : ∃ (x : Fin a) (k : Fin b), y = ix2 x k := ⟨y 0, y 1, by funext a; fin_cases a <;> rfl⟩

section sums

variable (c : Dev nD)

/-- One point's part of a column of the gain's gradient, and of the loss. -/
abbrev partG (n : ℕ) (h : n < 16) (x : Fin 8) (j : Fin 1024) : EReal :=
  ∑ r : Fin 64, rowG (au m c) (aw m c) (ax m c) (aga m c) (ag m c) (atg m c) j ⟨n * 512 + (r.val * 8 + x.val), tile_lt n x r h⟩
abbrev partL (n : ℕ) (h : n < 16) (x : Fin 8) (j : Fin 1024) : EReal :=
  ∑ r : Fin 64, rowL (au m c) (aw m c) (ax m c) (aga m c) (ag m c) (atg m c) j ⟨n * 512 + (r.val * 8 + x.val), tile_lt n x r h⟩

variable (t : Fin cfg0.N)

theorem pay4_at (q : FVec Ideal S8x1024 .f32) (x : Fin 8) (k : Fin 1024) :
    k0_pay4 (k0_pay12 (iblk m c 0 t) (iblk m c 1 t) (iblk m c 2 t) (iblk m c 3 t))
      (k0_pay14 (iblk m c 0 t) (iblk m c 1 t) (iblk m c 2 t) (iblk m c 3 t) (iblk m c 4 t) (iblk m c 5 t)) q (ix2 x k)
      = q (ix2 x k) + partG m c t (lt16 t) x k := by
  pointwise [k0_pay4]
  simp only [dn_at, xh_at, partG, rowG]

theorem pay5_at (q : FVec Ideal S8x1024 .f32) (x : Fin 8) (k : Fin 1024) :
    k0_pay5 (k0_pay13 (iblk m c 0 t) (iblk m c 1 t) (iblk m c 2 t) (iblk m c 3 t) (iblk m c 4 t) (iblk m c 5 t)) q (ix2 x k)
      = q (ix2 x k) + partL m c t (lt16 t) x k := by
  pointwise [k0_pay5]
  simp only [e_at, partL, rowL]

end sums

theorem outs_all (c : Dev nD) (t : Fin cfg0.N) : (outsAt0 m c t.val t.isLt).1 = k0_pay1 (k0_pay11 (iblk m c 0 t) (iblk m c 1 t) (iblk m c 2 t) (iblk m c 3 t))
    (k0_pay12 (iblk m c 0 t) (iblk m c 1 t) (iblk m c 2 t) (iblk m c 3 t))
    (k0_pay15 (iblk m c 0 t) (iblk m c 1 t) (iblk m c 2 t) (iblk m c 3 t) (iblk m c 4 t) (iblk m c 5 t))
    (k0_pay16 (iblk m c 0 t) (iblk m c 1 t) (iblk m c 2 t) (iblk m c 3 t) (iblk m c 4 t) (iblk m c 5 t)) len
    ∧ (outsAt0 m c t.val t.isLt).2.1 = k0_pay9 (iblk m c 0 t) (iblk m c 1 t) := by
  have hN : t.val < 16 := lt16 t
  by_cases h0 : t.val % 16 = 0
  · rw [outsAt0_A m c t h0 (by omega)]; dsimp only; refine ⟨?_, ?_⟩ <;> frame_out <;> rfl
  · by_cases h1 : t.val % 16 = 15
    · rw [outsAt0_C m c t h0 h1]; dsimp only; refine ⟨?_, ?_⟩ <;> frame_out <;> rfl
    · rw [outsAt0_B m c t h0 h1]; dsimp only; refine ⟨?_, ?_⟩ <;> frame_out <;> rfl

/-- The gradient of the layer's input, after the run. -/
theorem fin6 (c : Dev nD) : (dats m 0 c).arrAt 6 cfg0.N = DX (au m c) (aw m c) (ax m c) (aga m c) (ag m c) (atg m c) := by
  refine (dats m 0 c).arrAt_eq_of_covers 6 _ (by decide +kernel) fun t hf y => ?_
  obtain ⟨r, k, rfl⟩ : ∃ (r : Fin 512) (k : Fin 1024), y = ix2 r k := ix_all y
  blk_simp
  rw [after0_6, (outs_all m c t).1, pay1_at, r_at, xh_at, dy_at, sum_at]
  refine Eq.trans (b := DX (au m c) (aw m c) (ax m c) (aga m c) (ag m c) (atg m c) (ix2 (rw' t r) k)) rfl (congrArg _ ?_)
  blk_ext [idx t]

theorem fin7 (c : Dev nD) : (dats m 0 c).arrAt 7 cfg0.N = FF (au m c) (aw m c) := by
  refine (dats m 0 c).arrAt_eq_of_covers 7 _ (by decide +kernel) fun t hf y => ?_
  obtain ⟨r, k, rfl⟩ : ∃ (r : Fin 512) (k : Fin 1024), y = ix2 r k := ix_all y
  blk_simp
  rw [after0_7, (outs_all m c t).2]
  refine Eq.trans (b := FF (au m c) (aw m c) (ix2 (rw' t r) k)) (Eq.trans ?_ (f_at m c t r k)) (congrArg _ ?_)
  · pointwise [k0_pay9]
  blk_ext [idx t]

theorem whole_unread (b : Ref sig .tc) (h : (Memref.whole b).IsWhole) (X : b.ty.shape.Idx → Elt Ideal b.ty.elt) :
    View.read (Elt Ideal) (View.whole b) (h.unread X) = X := h.read_unread X

theorem first (c : Dev nD) (h : 0 < cfg0.N) (x : Fin 8) (j : Fin 1024) : (outsAt0 m c 0 h).2.2.1 (ix2 x j) = 0 + partG m c 0 (by omega) x j
    ∧ (outsAt0 m c 0 h).2.2.2.2 (ix2 x j) = 0 + partL m c 0 (by omega) x j := by
  rw [outsAt0_A m c ⟨0, h⟩ rfl (by simp)]
  dsimp only
  refine ⟨?_, ?_⟩
  · frame_out
    refine (pay4_at m c ⟨0, h⟩ _ x j).trans (congrArg (· + partG m c 0 (by omega) x j) ?_)
    pointwise [k0_pay2]
  · frame_out
    refine (pay5_at m c ⟨0, h⟩ _ x j).trans (congrArg (· + partL m c 0 (by omega) x j) ?_)
    pointwise [k0_pay3]

theorem next (c : Dev nD) (n : ℕ) (h : n + 1 < cfg0.N) (hn : n + 1 < 15) (x : Fin 8) (j : Fin 1024) :
    (outsAt0 m c (n + 1) h).2.2.1 (ix2 x j) = (outsAt0 m c n (Nat.lt_of_succ_lt h)).2.2.1 (ix2 x j) + partG m c (n + 1) (by omega) x j
    ∧ (outsAt0 m c (n + 1) h).2.2.2.2 (ix2 x j) = (outsAt0 m c n (Nat.lt_of_succ_lt h)).2.2.2.2 (ix2 x j) + partL m c (n + 1) (by omega) x j := by
  rw [outsAt0_B m c ⟨n + 1, h⟩ (by simp; omega) (by simp; omega)]
  dsimp only
  refine ⟨?_, ?_⟩
  · frame_out
    exact pay4_at m c ⟨n + 1, h⟩ _ x j
  · frame_out
    rw [whole_unread]
    exact pay5_at m c ⟨n + 1, h⟩ _ x j

attribute [local irreducible] outsAt0

theorem sumG (c : Dev nD) (h15 : 15 < cfg0.N) (j : Fin 1024) :
    ∑ x : Fin 8, (k0_pay4 (k0_pay12 (iblk m c 0 ⟨15, h15⟩) (iblk m c 1 ⟨15, h15⟩) (iblk m c 2 ⟨15, h15⟩) (iblk m c 3 ⟨15, h15⟩))
      (k0_pay14 (iblk m c 0 ⟨15, h15⟩) (iblk m c 1 ⟨15, h15⟩) (iblk m c 2 ⟨15, h15⟩) (iblk m c 3 ⟨15, h15⟩) (iblk m c 4 ⟨15, h15⟩) (iblk m c 5 ⟨15, h15⟩)) (outsAt0 m c 14 (by omega)).2.2.1 (ix2 x j) : EReal) = ∑ i : Fin 8192, rowG (au m c) (aw m c) (ax m c) (aga m c) (ag m c) (atg m c) j i := by
  have key := Cert.Shared.acc_rows_last (M := EReal) 14 512 64 rfl rfl (rowG (au m c) (aw m c) (ax m c) (aga m c) (ag m c) (atg m c) j)
    (fun n h x => (outsAt0 m c n h).2.2.1 (ix2 x j)) (fun n x r h => tile_lt n x r h)
    (fun h x => ((first m c h x j).1).trans (zero_add _)) fun n h x hn => (next m c n h hn x j).1
  refine Eq.trans (Finset.sum_congr (M := EReal) rfl fun x _ => ?_) key
  exact pay4_at m c ⟨15, h15⟩ _ x j

theorem fin8 (c : Dev nD) : (dats m 0 c).arrAt 8 cfg0.N = DG (au m c) (aw m c) (ax m c) (aga m c) (ag m c) (atg m c) := by
  have h15 : 15 < cfg0.N := by rw [show cfg0.N = 16 from N_0]; omega
  refine (dats m 0 c).arrAt_eq_of_after_last 8 t0_15 (by decide +kernel) _ fun j => ?_
  obtain ⟨x, j, rfl⟩ : ∃ (r : Fin 8) (k : Fin 1024), j = ix2 r k := ix_all j
  blk_simp
  rw [after0_8, show (t0_15 : Fin cfg0.N) = ⟨15, h15⟩ from rfl, outsAt0_C m c ⟨15, h15⟩ (by simp) rfl]
  dsimp only
  frame_out
  pointwise [k0_pay6]
  exact sumG m c h15 j

theorem sumL (c : Dev nD) (h15 : 15 < cfg0.N) (k : Fin 1024) :
    ∑ x : Fin 8, (k0_pay5 (k0_pay13 (iblk m c 0 ⟨15, h15⟩) (iblk m c 1 ⟨15, h15⟩) (iblk m c 2 ⟨15, h15⟩) (iblk m c 3 ⟨15, h15⟩) (iblk m c 4 ⟨15, h15⟩) (iblk m c 5 ⟨15, h15⟩)) (outsAt0 m c 14 (by omega)).2.2.2.2 (ix2 x k) : EReal) = ∑ i : Fin 8192, rowL (au m c) (aw m c) (ax m c) (aga m c) (ag m c) (atg m c) k i := by
  have key := Cert.Shared.acc_rows_last (M := EReal) 14 512 64 rfl rfl (rowL (au m c) (aw m c) (ax m c) (aga m c) (ag m c) (atg m c) k)
    (fun n h x => (outsAt0 m c n h).2.2.2.2 (ix2 x k)) (fun n x r h => tile_lt n x r h)
    (fun h x => ((first m c h x k).2).trans (zero_add _)) fun n h x hn => (next m c n h hn x k).2
  refine Eq.trans (Finset.sum_congr (M := EReal) rfl fun x _ => ?_) key
  exact pay5_at m c ⟨15, h15⟩ _ x k

theorem fin9 (c : Dev nD) : (dats m 0 c).arrAt 9 cfg0.N = LS (au m c) (aw m c) (ax m c) (aga m c) (ag m c) (atg m c) := by
  have h15 : 15 < cfg0.N := by rw [show cfg0.N = 16 from N_0]; omega
  refine (dats m 0 c).arrAt_eq_of_after_last 9 t0_15 (by decide +kernel) _ fun j => ?_
  obtain ⟨x, j, rfl⟩ : ∃ (r : Fin 8) (k : Fin 128), j = ix2 r k := ix_all j
  blk_simp
  rw [after0_9, show (t0_15 : Fin cfg0.N) = ⟨15, h15⟩ from rfl, outsAt0_C m c ⟨15, h15⟩ (by simp) rfl]
  dsimp only
  frame_out
  rw [whole_unread]
  pointwise [k0_pay7]
  refine congrArg (· * halfPerLen) (Finset.sum_congr rfl fun k _ => ?_)
  exact sumL m c h15 k

end Cert.LossIdeal.Value
end
-- ==== Proof.Loss.Claim.lean ====
module

public import proofs.«01_k».proof.Proof.Loss.Value
public import proofs.«01_k».proof.Defs
public import proofs.«01_k».proof.Proof.Gen.LossRefIdeal.Run
public import proofs.«01_k».proof.Proof.Gen.Pre_loss_pre
public import proofs.«01_k».proof.Proof.Shared.RmsNorm
public import Idealize.ShloMosaic.Lib.Quiescent

@[expose] public section

set_option maxRecDepth 16384

noncomputable section

open Idealize.ShloMosaic Idealize.ShloMosaic.TcCoe Idealize.SL.Sem

namespace Cert.LossClaim

open Cert.LossIdeal Cert.LossIdeal.Gen Cert.LossIdeal.Value

open Cert.Shared in
/-- The precondition makes the elements of all arguments real. -/
theorem reals {a0 : FVec Ideal S8192x2816 .f32} {a1 : FVec Ideal S2816x1024 .f32} {a2 a5 : FVec Ideal S8192x1024 .f32} {a3 a4 : FVec Ideal S1x1024 .f32}
    (h : Cert.Pre_loss_pre.fn (F := Ideal) a0 a1 a2 a3 a4 a5 = fun _ => 1#1) :
    (∀ i, IsReal (a0 i)) ∧ (∀ i, IsReal (a1 i)) ∧ (∀ i, IsReal (a2 i)) ∧ (∀ i, IsReal (a3 i)) ∧ (∀ i, IsReal (a4 i)) ∧ (∀ i, IsReal (a5 i)) := by
  have h := congrFun h ix0
  unfold Cert.Pre_loss_pre.fn Cert.Pre_loss_pre.fn_part1 at h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨real_of_finite _ _ _ _ _ _ _ h0, real_of_finite _ _ _ _ _ _ _ h1, real_of_finite _ _ _ _ _ _ _ h2, real_of_finite _ _ _ _ _ _ _ h3,
    real_of_finite _ _ _ _ _ _ _ h4, real_of_finite _ _ _ _ _ _ _ h5⟩

/-- The reference runs on the host alone: its arguments end unchanged, and it declares no semaphore. -/
theorem frame_ref : Cert.quiescent_LossRefIdeal (hLossRefIdeal := Cert.LossRefIdeal.Gen.facts) := fun m ρ _ =>
  (θ_run Cert.LossRefIdeal.defs _ _).mono (fun r h => ⟨fun c => (h c).2.2.2.2, Idealize.ShloMosaic.sem_eq_zero_of_no_sems (by decide) r.2⟩)
    (Cert.LossRefIdeal.Value.run (F := Ideal) m ρ)

section fold

variable (m : (ℓ : Loc nD τ sig) → Buf (Elt Ideal) ℓ) (c : Dev nD)

/-- The reference's rows, folded into the names of the closed forms. -/
theorem fX (i : Fin 8192) (k : Fin 1024) : ax m c (ix2 i k) + half * aga m c (ix2 0 k) * ∑ q : Fin 2816, au m c (ix2 i q) * aw m c (ix2 q k)
    = XN (au m c) (aw m c) (ax m c) (aga m c) i k := rfl
theorem fR (i : Fin 8192) : Ideal.rsqrt (Ideal.div (∑ k : Fin 1024, XN (au m c) (aw m c) (ax m c) (aga m c) i k * XN (au m c) (aw m c) (ax m c) (aga m c) i k) len + eps)
    = RI (au m c) (aw m c) (ax m c) (aga m c) i := rfl
theorem fE (i : Fin 8192) (k : Fin 1024) : XN (au m c) (aw m c) (ax m c) (aga m c) i k * RI (au m c) (aw m c) (ax m c) (aga m c) i * ag m c (ix2 0 k) - atg m c (ix2 i k)
    = ER (au m c) (aw m c) (ax m c) (aga m c) (ag m c) (atg m c) i k := rfl

end fold

theorem half_coe : half = ((1 / 2 : ℝ) : EReal) := by
  simp [half, Ideal.ofBits, Ideal.ieee]
  norm_num
  exact_mod_cast (by norm_num : (8388608 : ℝ) * (1 / 16777216) = 1 / 2)

theorem two_coe : Ideal.ofBits .f32 1073741824#32 = ((2 : ℝ) : EReal) := by
  simp [Ideal.ofBits, Ideal.ieee]
  norm_num
  exact_mod_cast (by norm_num : (8388608 : ℝ) * (1 / 4194304) = 2)

theorem perLen_coe : perLen = ((1 / 1024 : ℝ) : EReal) := by
  simp [perLen, Ideal.ofBits, Ideal.ieee]
  norm_num
  exact_mod_cast (by norm_num : (8388608 : ℝ) * (1 / 8589934592) = 1 / 1024)

theorem halfPerLen_coe : halfPerLen = ((1 / 2048 : ℝ) : EReal) := by
  simp [halfPerLen, Ideal.ofBits, Ideal.ieee]
  norm_num
  exact_mod_cast (by norm_num : (8388608 : ℝ) * (1 / 17179869184) = 1 / 2048)

/-- The factor of the mean square's derivative: one over the row length. -/
theorem scale_law (a : EReal) : Ideal.div half len * (Ideal.ofBits .f32 1073741824#32 * a) = a * perLen := by
  rw [half_coe, two_coe, perLen_coe, len, Cert.Shared.w1024, Ideal.div_coe (by norm_num), ← mul_assoc, ← EReal.coe_mul, ← EReal.coe_mul, mul_comm]
  norm_num

/-- The loss: half the sum of the rows' means is the sum of all squares over twice the row length. -/
theorem loss_law (f : Fin 8192 → Fin 1024 → EReal) : half * ∑ i, Ideal.div (∑ k, f i k) len = (∑ k, ∑ i, f i k) * halfPerLen := by
  rw [half_coe, halfPerLen_coe, Cert.Shared.mul_sum_coe _ _ (by norm_num), Finset.sum_comm, mul_comm, Cert.Shared.mul_sum_coe _ _ (by norm_num)]
  refine Finset.sum_congr rfl fun i _ => ?_
  rw [len, Cert.Shared.w1024, Ideal.div_coe (by norm_num), mul_comm (∑ k, f i k), ← mul_assoc, ← EReal.coe_mul]
  norm_num

theorem algebraic : Cert.algebraic_LossIdeal_LossRefIdeal_pre_loss_pre (hLossIdeal := Cert.LossIdeal.Gen.facts)
    (hLossRefIdeal := Cert.LossRefIdeal.Gen.facts) (hPre_loss_pre := Cert.Pre_loss_pre.Gen.facts) := by
  intro m g m' g' hpre hag
  refine ⟨fun c => DX (au m c) (aw m c) (ax m c) (aga m c) (ag m c) (atg m c), fun c => FF (au m c) (aw m c),
    fun c => DG (au m c) (aw m c) (ax m c) (aga m c) (ag m c) (atg m c), fun c => LS (au m c) (aw m c) (ax m c) (aga m c) (ag m c) (atg m c),
    (θ_run _ _ _).mono (fun r h c => ?_) (run_blocks m g), (θ_run _ _ _).mono (fun r h c => ?_) (Cert.LossRefIdeal.Value.run m' g')⟩
  · obtain ⟨h6, h7, h8, h9, hk⟩ := h c
    exact ⟨h6.trans (fin6 m c), h7.trans (fin7 m c), h8.trans (fin8 m c), h9.trans (fin9 m c), hk⟩
  · obtain ⟨h6, h7, h8, h9, hk⟩ := h c
    obtain ⟨e0, e1, e2, e3, e4, e5⟩ := hag c
    unfold Cert.LossRefIdeal.Value.res_main_v54 at h6
    rw [e0, e1, e2, e3, e4, e5] at h6 h8 h9
    rw [e0, e1] at h7
    refine ⟨h6.trans ?_, h7.trans ?_, h8.trans ?_, h9.trans ?_, hk⟩
    · have hr := reals (hpre c)
      clear h6 h7 h8 h9 hk e0 e1 e2 e3 e4 e5 hpre h
      funext y
      obtain ⟨i, j, rfl⟩ : ∃ (i : Fin 8192) (j : Fin 1024), y = ix2 i j := ix_all y
      pointwise []
      simp only [fX m c, fR m c, fE m c]
      simp only [scale_law]
      obtain ⟨r0, r1, r2, r3, r4, r5⟩ := hr
      obtain ⟨e, he, hE⟩ := Cert.Shared.wEps
      have hx : ∀ k, Cert.Shared.IsReal (XN (au m c) (aw m c) (ax m c) (aga m c) i k) := fun k =>
        (r2 _).add ((Cert.Shared.IsReal.mul ⟨_, half_coe⟩ (r3 _)).mul (Cert.Shared.IsReal.sum fun q => (r0 _).mul (r1 _)))
      have hd : ∀ k, Cert.Shared.IsReal (DY (au m c) (aw m c) (ax m c) (aga m c) (ag m c) (atg m c) i k) := fun k =>
        (((((hx k).mul (Cert.Shared.IsReal.rms hx (by norm_num : (0 : ℝ) < 1024) he Cert.Shared.w1024 hE)).mul (r4 _)).sub (r5 _)).mul ⟨_, perLen_coe⟩).mul (r4 _)
      exact Cert.Shared.dnorm_law hx hd (by norm_num : (0 : ℝ) < 1024) he Cert.Shared.w1024 hE j
    · clear h6 h7 h8 h9 hk e0 e1 e2 e3 e4 e5 hpre h
      funext y
      pointwise [FF, FO]
    · clear h6 h7 h8 h9 hk e0 e1 e2 e3 e4 e5 hpre h
      funext y
      obtain ⟨i, j, rfl⟩ : ∃ (i : Fin 8) (j : Fin 1024), y = ix2 i j := ix_all y
      pointwise []
      simp only [fX m c, fR m c, fE m c]
      simp only [scale_law]
      exact Finset.sum_congr rfl fun i _ => mul_comm _ _
    · clear h6 h7 h8 h9 hk e0 e1 e2 e3 e4 e5 hpre h
      funext y
      obtain ⟨i, j, rfl⟩ : ∃ (i : Fin 8) (j : Fin 128), y = ix2 i j := ix_all y
      pointwise []
      simp only [fX m c, fR m c, fE m c]
      exact loss_law _
end Cert.LossClaim
end
-- ==== Proof.Shared.Groups.lean ====
module

public import proofs.«01_k».proof.Proof.Shared.RmsNorm

@[expose] public section

/-! Sums over the groups of a row of 512 columns, taken by a product with the matrix that is one inside a group. -/

namespace Cert.Shared

open Idealize.ShloMosaic

theorem group_lt {g : ℕ} (hd : g ∣ 512) (j : Fin 512) (x : Fin g) : j.val / g * g + x.val < 512 := by
  obtain ⟨n, hn⟩ := hd
  have h1 : j.val / g < n := Nat.div_lt_of_lt_mul (hn ▸ j.isLt)
  have h2 : (j.val / g + 1) * g ≤ n * g := Nat.mul_le_mul_right g h1
  have := x.isLt
  rw [Nat.add_mul, Nat.mul_comm n g] at h2
  omega

/-- The `x`-th column of the group of column `j`. -/
abbrev gi {g : ℕ} (hd : g ∣ 512) (j : Fin 512) (x : Fin g) : Fin 512 := ⟨j.val / g * g + x.val, group_lt hd j x⟩

theorem gi_div {g : ℕ} (hd : g ∣ 512) (j : Fin 512) (x : Fin g) : (gi hd j x).val / g = j.val / g := by
  have hx := x.isLt
  show (j.val / g * g + x.val) / g = _
  rw [Nat.mul_comm, Nat.mul_add_div (by omega), Nat.div_eq_of_lt hx, add_zero]

theorem gi_gi {g : ℕ} (hd : g ∣ 512) (j : Fin 512) (x y : Fin g) : gi hd (gi hd j x) y = gi hd j y := Fin.ext (by
  show (gi hd j x).val / g * g + y.val = _
  rw [gi_div])

theorem gi_self {g : ℕ} (hd : g ∣ 512) (j : Fin 512) (h : j.val % g < g) : gi hd j ⟨j.val % g, h⟩ = j := Fin.ext (Nat.div_add_mod' j.val g)

/-- A row times a column of the group matrix is the sum over the group. -/
theorem group_sum {g : ℕ} (hd : g ∣ 512) (f : Fin 512 → EReal) (j : Fin 512) :
    ∑ k : Fin 512, f k * (if k.val / g = j.val / g then 1 else 0) = ∑ x : Fin g, f (gi hd j x) := by
  have hg : 0 < g := Nat.pos_of_dvd_of_pos hd (by norm_num)
  simp only [mul_ite, mul_one, mul_zero]
  rw [← Finset.sum_filter]
  symm
  refine Finset.sum_bij (fun x _ => gi hd j x) (fun x _ => ?_) (fun x _ y _ h => ?_) (fun k hk => ?_) (fun x _ => rfl)
  · exact Finset.mem_filter.2 ⟨Finset.mem_univ _, gi_div hd j x⟩
  · exact Fin.ext (Nat.add_left_cancel (congrArg Fin.val h))
  · refine ⟨⟨k.val % g, Nat.mod_lt _ hg⟩, Finset.mem_univ _, Fin.ext ?_⟩
    show j.val / g * g + k.val % g = k.val
    rw [← (Finset.mem_filter.1 hk).2]
    exact Nat.div_add_mod' _ _

theorem mask_word (a b : ℕ) (ha : a < 512) (hb : b < 512) :
    FloatOps.uitofp (F := Ideal) .f32 (IntOp.cmpi .eq (BitVec.ofNat 32 a) (BitVec.ofNat 32 b)) = if a = b then (1 : EReal) else 0 := by
  have h : IntOp.cmpi .eq (BitVec.ofNat 32 a) (BitVec.ofNat 32 b) = if a = b then 1#1 else 0#1 := by
    have : (BitVec.ofNat 32 a = BitVec.ofNat 32 b) ↔ a = b := by
      constructor
      · intro h
        have := congrArg BitVec.toNat h
        simp only [BitVec.toNat_ofNat] at this
        omega
      · rintro rfl; rfl
    by_cases hab : a = b
    · simp [IntOp.cmpi, hab]
    · simp only [IntOp.cmpi, beq_eq_false_iff_ne.2 (mt this.1 hab), if_neg hab]
      rfl
  rw [h]
  split <;> simp [FloatOps.uitofp]

theorem div64 : ∀ r : Fin 512, IntOp.divsi .host (BitVec.ofNat 32 r.val) 64#32 = BitVec.ofNat 32 (r.val / 64) := by decide +kernel

theorem div128 : ∀ r : Fin 512, IntOp.divsi .host (BitVec.ofNat 32 r.val) 128#32 = BitVec.ofNat 32 (r.val / 128) := by decide +kernel

theorem mask64 (r k : Fin 512) : FloatOps.uitofp (F := Ideal) .f32 (IntOp.cmpi .eq (IntOp.divsi .host (BitVec.ofNat 32 r.val) 64#32)
    (IntOp.divsi .host (BitVec.ofNat 32 k.val) 64#32)) = if r.val / 64 = k.val / 64 then (1 : EReal) else 0 := by
  rw [div64, div64, mask_word _ _ (by omega) (by omega)]

theorem mask128 (r k : Fin 512) : FloatOps.uitofp (F := Ideal) .f32 (IntOp.cmpi .eq (IntOp.divsi .host (BitVec.ofNat 32 r.val) 128#32)
    (IntOp.divsi .host (BitVec.ofNat 32 k.val) 128#32)) = if r.val / 128 = k.val / 128 then (1 : EReal) else 0 := by
  rw [div128, div128, mask_word _ _ (by omega) (by omega)]

theorem w64 : Ideal.ofBits .f32 1115684864#32 = ((64 : ℝ) : EReal) := by
  simp [Ideal.ofBits, Ideal.ieee]; norm_num; exact_mod_cast (by norm_num : (8388608 : ℝ) * (1 / 131072) = 64)

theorem w128 : Ideal.ofBits .f32 1124073472#32 = ((128 : ℝ) : EReal) := by
  simp [Ideal.ofBits, Ideal.ieee]; norm_num; exact_mod_cast (by norm_num : (8388608 : ℝ) * (1 / 65536) = 128)

theorem w64i : Ideal.ofBits .f32 1015021568#32 = ((1 / 64 : ℝ) : EReal) := by
  simp [Ideal.ofBits, Ideal.ieee]; norm_num; exact_mod_cast (by norm_num : (8388608 : ℝ) * (1 / 536870912) = 1 / 64)

theorem w128i : Ideal.ofBits .f32 1006632960#32 = ((1 / 128 : ℝ) : EReal) := by
  simp [Ideal.ofBits, Ideal.ieee]; norm_num; exact_mod_cast (by norm_num : (8388608 : ℝ) * (1 / 1073741824) = 1 / 128)

theorem mul_w64i (a : EReal) : a * Ideal.ofBits .f32 1015021568#32 = Ideal.div a (Ideal.ofBits .f32 1115684864#32) := by
  rw [w64i, w64, Ideal.div_coe (by norm_num)]

theorem mul_w128i (a : EReal) : a * Ideal.ofBits .f32 1006632960#32 = Ideal.div a (Ideal.ofBits .f32 1124073472#32) := by
  rw [w128i, w128, Ideal.div_coe (by norm_num)]

/-- The inverse root mean square of a column's group, `L` its size and `E` the small constant. -/
noncomputable def grms {g : ℕ} (hd : g ∣ 512) (L E : EReal) (v : Fin 512 → EReal) (j : Fin 512) : EReal :=
  Ideal.rsqrt (Ideal.div (∑ x : Fin g, v (gi hd j x) * v (gi hd j x)) L + E)

theorem grms_gi {g : ℕ} (hd : g ∣ 512) (L E : EReal) (v : Fin 512 → EReal) (j : Fin 512) (x : Fin g) : grms hd L E v (gi hd j x) = grms hd L E v j := by
  simp only [grms, gi_gi]

/-- The gradient through the norm of a column's group, `d` the gradient of the normed values. -/
noncomputable def gnorm {g : ℕ} (hd : g ∣ 512) (L E : EReal) (v d : Fin 512 → EReal) (j : Fin 512) : EReal :=
  grms hd L E v j * (d j - v j * grms hd L E v j * Ideal.div (∑ x : Fin g, d (gi hd j x) * (v (gi hd j x) * grms hd L E v (gi hd j x))) L)

/-- The chain rule's form at a column of a group is the closed form. -/
theorem gnorm_law {g : ℕ} (hd : g ∣ 512) {v d : Fin 512 → EReal} (hv : ∀ i, IsReal (v i)) (hdr : ∀ i, IsReal (d i)) {n e : ℝ} (hn : 0 < n) (he : 0 < e)
    {L E : EReal} (hL : L = n) (hE : E = e) (j : Fin 512) (t : Fin g) :
    d (gi hd j t) * Ideal.rsqrt (Ideal.div (∑ i : Fin g, v (gi hd j i) * v (gi hd j i)) L + E)
      + v (gi hd j t) * ∑ _k : Fin 1, Ideal.div ((∑ i : Fin g, v (gi hd j i) * d (gi hd j i)) * (Ideal.ofBits .f32 3204448256#32
        * Ideal.div (Ideal.rsqrt (Ideal.div (∑ i : Fin g, v (gi hd j i) * v (gi hd j i)) L + E)) (Ideal.div (∑ i : Fin g, v (gi hd j i) * v (gi hd j i)) L + E))) L
      + (∑ _k : Fin 1, Ideal.div ((∑ i : Fin g, v (gi hd j i) * d (gi hd j i)) * (Ideal.ofBits .f32 3204448256#32
        * Ideal.div (Ideal.rsqrt (Ideal.div (∑ i : Fin g, v (gi hd j i) * v (gi hd j i)) L + E)) (Ideal.div (∑ i : Fin g, v (gi hd j i) * v (gi hd j i)) L + E))) L) * v (gi hd j t)
      = gnorm hd L E v d (gi hd j t) := by
  refine (dnorm_law (x := fun i => v (gi hd j i)) (d := fun i => d (gi hd j i)) (fun i => hv _) (fun i => hdr _) hn he hL hE t).trans ?_
  simp only [gnorm, grms, gi_gi]

/-- The gradient through the norm is real for real rows. -/
theorem gnorm_real {g : ℕ} (hd : g ∣ 512) {v d : Fin 512 → EReal} (hv : ∀ i, IsReal (v i)) (hdr : ∀ i, IsReal (d i)) {n e : ℝ} (hn : 0 < n) (he : 0 < e)
    {L E : EReal} (hL : L = n) (hE : E = e) (j : Fin 512) : IsReal (gnorm hd L E v d j) := by
  have hr : ∀ j, IsReal (grms hd L E v j) := fun j => IsReal.rms (x := fun x : Fin g => v (gi hd j x)) (fun i => hv _) hn he hL hE
  unfold gnorm
  refine (hr j).mul ((hdr j).sub (((hv j).mul (hr j)).mul ?_))
  have hs : IsReal (∑ x : Fin g, d (gi hd j x) * (v (gi hd j x) * grms hd L E v (gi hd j x))) := IsReal.sum fun x => (hdr _).mul ((hv _).mul (hr _))
  generalize (∑ x : Fin g, d (gi hd j x) * (v (gi hd j x) * grms hd L E v (gi hd j x))) = s at hs ⊢
  rw [hL, Ideal.div_coe hn.ne']
  exact hs.mul ⟨_, rfl⟩

end Cert.Shared
-- ==== Proof.MixOut.Value.lean ====
module

public import proofs.«01_k».proof.Proof.Gen.MixOutIdeal.Value
public import proofs.«01_k».proof.Proof.Shared.Cols
public import proofs.«01_k».proof.Proof.Shared.Groups
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.MixOutIdeal.Value

open Cert.MixOutIdeal Cert.MixOutIdeal.Gen
open Cert.Shared (grms gnorm gi grms_gi group_sum mask64 mask128 mul_w64i mul_w128i)

variable (m : (ℓ : Loc nD τ sig) → Buf (Elt Ideal) ℓ)

theorem d64 : 64 ∣ 512 := by norm_num
theorem d128 : 128 ∣ 512 := by norm_num

/-- The inverse root mean squares of the convolution's groups and of the attention's heads. -/
abbrev ra (v : Fin 512 → EReal) (k : Fin 512) : EReal := grms d64 (Ideal.ofBits .f32 1115684864#32) (Ideal.ofBits .f32 897988541#32) v k
abbrev rb (v : Fin 512 → EReal) (k : Fin 512) : EReal := grms d128 (Ideal.ofBits .f32 1124073472#32) (Ideal.ofBits .f32 897988541#32) v k

section forms

variable (dx : FVec Ideal S8192x1024 .f32) (ga : FVec Ideal S1x1024 .f32) (w : FVec Ideal S1024x1024 .f32) (ya o : FVec Ideal S8192x512 .f32) (go : FVec Ideal S1x1024 .f32)

/-- The gradient of the projection's output. -/
def DYO : FVec Ideal S8192x1024 .bf16 := fun j => dx j * ga (ix2 0 (j 1))

/-- The gradient of the projection's input, its first and its second half. -/
def DNA (i : Fin 8192) (k : Fin 512) : EReal := ∑ q : Fin 1024, ga (ix2 0 q) * dx (ix2 i q) * w (ix2 ⟨k, by omega⟩ q)
def DNB (i : Fin 8192) (k : Fin 512) : EReal := ∑ q : Fin 1024, ga (ix2 0 q) * dx (ix2 i q) * w (ix2 ⟨512 + k, by omega⟩ q)

/-- The gradients of the two normed halves. -/
def GA (i : Fin 8192) (k : Fin 512) : EReal := DNA dx ga w i k * go (ix2 0 ⟨k, by omega⟩)
def GB (i : Fin 8192) (k : Fin 512) : EReal := DNB dx ga w i k * go (ix2 0 ⟨512 + k, by omega⟩)

/-- The gradients of the convolution's and of the attention's output. -/
def DYA : FVec Ideal S8192x512 .f32 := fun j => gnorm d64 (Ideal.ofBits .f32 1115684864#32) (Ideal.ofBits .f32 897988541#32)
  (fun k => ya (ix2 (j 0) k)) (GA dx ga w go (j 0)) (j 1)
def DO (i : Fin 8192) (k : Fin 512) : EReal := gnorm d128 (Ideal.ofBits .f32 1124073472#32) (Ideal.ofBits .f32 897988541#32)
  (fun k => o (ix2 i k)) (GB dx ga w go i) k

def DOA : FVec Ideal S8192x512 .bf16 := fun j => DO dx ga w o go (j 0) (j 1)

/-- A head's sum of the gradient times the output, the rounding's remainder added. -/
def DL : FVec Ideal S8192x512 .f32 := fun j => ∑ x : Fin 128, DO dx ga w o go (j 0) (gi d128 (j 1) x) * o (ix2 (j 0) (gi d128 (j 1) x))
  + ∑ x : Fin 128, (DO dx ga w o go (j 0) (gi d128 (j 1) x) * o (ix2 (j 0) (gi d128 (j 1) x)) - DO dx ga w o go (j 0) (gi d128 (j 1) x) * o (ix2 (j 0) (gi d128 (j 1) x)))

/-- The projection's output. -/
def YO (i : Fin 8192) (k : Fin 1024) : EReal :=
  ∑ q : Fin 512, ya (ix2 i q) * ra (fun k => ya (ix2 i k)) q * go (ix2 0 ⟨q, by omega⟩) * w (ix2 ⟨q, by omega⟩ k)
  + ∑ q : Fin 512, o (ix2 i q) * rb (fun k => o (ix2 i k)) q * go (ix2 0 ⟨512 + q, by omega⟩) * w (ix2 ⟨512 + q, by omega⟩ k)

/-- One row's part of the summed gradients: the gate's, then the two halves of the gain's. -/
def rowP (j : Fin 2048) (i : Fin 8192) : EReal :=
  if h : j.val < 1024 then dx (ix2 i ⟨j, h⟩) * YO w ya o go i ⟨j, h⟩
  else if h : j.val < 1536 then DNA dx ga w i ⟨j - 1024, by omega⟩ * (ya (ix2 i ⟨j - 1024, by omega⟩) * ra (fun k => ya (ix2 i k)) ⟨j - 1024, by omega⟩)
  else DNB dx ga w i ⟨j - 1536, by omega⟩ * (o (ix2 i ⟨j - 1536, by omega⟩) * rb (fun k => o (ix2 i k)) ⟨j - 1536, by omega⟩)

def P : FVec Ideal S8x2048 .f32 := fun y => ∑ i : Fin 8192, rowP dx ga w ya o go (y 1) i

end forms

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0]
    ∧ win0_7.index t = ![0, 0] ∧ win0_8.index t = ![0, 0] ∧ win0_9.index t = ![t.val, 0] ∧ win0_10.index t = ![t.val, 0]
    ∧ win0_11.index t = ![t.val, 0] ∧ win0_12.index t = ![t.val, 0] ∧ win0_13.index t = ![0, 0] :=
  (by decide +kernel : ∀ t : Fin grid0.N, _)

/-- What every point leaves in the blocks of the four gradients. -/
theorem outs_all (c : Dev nD) (t : Fin cfg0.N) :
    (outsAt0 m c t.val t.isLt).1 = k0_pay6 (iblk m c 0 t) (iblk m c 1 t)
    ∧ (outsAt0 m c t.val t.isLt).2.1 = k0_pay12 (iblk m c 0 t) (iblk m c 1 t) (iblk m c 3 t) (iblk m c 4 t)
        (View.ld (Val := Elt Ideal) (e' := .f32) (iblk m c 6 t) (Rect.unit (s := S1x1024) ![0, 0] ![1, 512] inb_S1x1024_S1x512_0_0)) (iblk m c 7 t)
    ∧ (outsAt0 m c t.val t.isLt).2.2.1 = k0_pay20 (iblk m c 5 t) (k0_pay14 (iblk m c 0 t) (iblk m c 1 t) (iblk m c 3 t))
        (View.ld (Val := Elt Ideal) (e' := .f32) (iblk m c 6 t) (Rect.unit (s := S1x1024) ![0, 512] ![1, 512] inb_S1x1024_S1x512_0_512)) (iblk m c 8 t)
    ∧ (outsAt0 m c t.val t.isLt).2.2.2.1 = k0_pay21 (iblk m c 5 t) (k0_pay14 (iblk m c 0 t) (iblk m c 1 t) (iblk m c 3 t))
        (View.ld (Val := Elt Ideal) (e' := .f32) (iblk m c 6 t) (Rect.unit (s := S1x1024) ![0, 512] ![1, 512] inb_S1x1024_S1x512_0_512)) (iblk m c 8 t) (iblk m c 8 t) := by
  have hN : t.val < 16 := lt_of_lt_of_eq t.isLt (show cfg0.N = 16 from N_0)
  by_cases h0 : t.val % 16 = 0
  · rw [outsAt0_A m c t h0 (by omega)]; dsimp only; exact ⟨by frame_out, by frame_out <;> rfl, by frame_out <;> rfl, by frame_out <;> rfl⟩
  · by_cases h1 : t.val % 16 = 15
    · rw [outsAt0_C m c t h0 h1]; dsimp only; exact ⟨by frame_out, by frame_out <;> rfl, by frame_out <;> rfl, by frame_out <;> rfl⟩
    · rw [outsAt0_B m c t h0 h1]; dsimp only; exact ⟨by frame_out, by frame_out <;> rfl, by frame_out <;> rfl, by frame_out <;> rfl⟩

abbrev adx (c : Dev nD) : FVec Ideal S8192x1024 .f32 := m ((c : Thread nD τ).loc main_arg0)
abbrev aga (c : Dev nD) : FVec Ideal S1x1024 .f32 := m ((c : Thread nD τ).loc main_arg1)
abbrev aw (c : Dev nD) : FVec Ideal S1024x1024 .f32 := m ((c : Thread nD τ).loc main_arg2)
abbrev aya (c : Dev nD) : FVec Ideal S8192x512 .f32 := m ((c : Thread nD τ).loc main_arg3)
abbrev ao (c : Dev nD) : FVec Ideal S8192x512 .f32 := m ((c : Thread nD τ).loc main_arg4)
abbrev ago (c : Dev nD) : FVec Ideal S1x1024 .f32 := m ((c : Thread nD τ).loc main_arg5)

theorem rows_lt (t : Fin cfg0.N) (r : Fin 512) : t.val * 512 + r.val < 8192 := by
  have := r.isLt
  have : t.val < 16 := lt_of_lt_of_eq t.isLt (show cfg0.N = 16 from N_0)
  omega

/-- A point's row of the whole arrays. -/
abbrev rw' (t : Fin cfg0.N) (r : Fin 512) : Fin 8192 := ⟨t.val * 512 + r.val, rows_lt t r⟩

theorem v8_at (c : Dev nD) (r k : Fin 512) : V m c main_v8 (ix2 r k) = if r.val / 64 = k.val / 64 then (1 : EReal) else 0 :=
  Eq.trans (by unfold V; after_reads_at) (mask64 r k)

theorem v17_at (c : Dev nD) (r k : Fin 512) : V m c main_v17 (ix2 r k) = if r.val / 128 = k.val / 128 then (1 : EReal) else 0 :=
  Eq.trans (by unfold V; after_reads_at) (mask128 r k)

theorem v18_at (c : Dev nD) (r k : Fin 1024) : V m c main_v18 (ix2 r k) = aw m c (ix2 r k) := by
  unfold V; after_reads_at

theorem v33_at (c : Dev nD) (r : Fin 8192) (k : Fin 512) : StableHlo.upto hostOps0 (fun b => m (c, b)) 59 (Proc.tc.devRef main_v33) (ix2 r k)
    = aya m c (ix2 r k) * ra (fun k => aya m c (ix2 r k)) k * ago m c (ix2 0 ⟨k, by omega⟩) := by
  after_reads_at
  simp only [Nat.div_add_mod']
  rfl

theorem v48_at (c : Dev nD) (r : Fin 8192) (k : Fin 512) : StableHlo.upto hostOps0 (fun b => m (c, b)) 59 (Proc.tc.devRef main_v48) (ix2 r k)
    = ao m c (ix2 r k) * rb (fun k => ao m c (ix2 r k)) k * ago m c (ix2 0 ⟨512 + k, by omega⟩) := by
  after_reads_at
  simp only [Nat.div_add_mod']
  rfl

theorem v54_at (c : Dev nD) (r : Fin 8192) (k : Fin 1024) : V m c main_v54 (ix2 r k) = YO (aw m c) (aya m c) (ao m c) (ago m c) r k := by
  unfold V; after_reads_at
  exact (congrArg₂ (fun a b : EReal => a + b)
    (Finset.sum_congr (M := EReal) rfl fun (q : Fin 512) _ => congrArg (fun z : EReal => z * aw m c (ix2 ⟨q.val, by omega⟩ k)) (v33_at m c r q))
    (Finset.sum_congr (M := EReal) rfl fun (q : Fin 512) _ => congrArg (fun z : EReal => z * aw m c (ix2 ⟨512 + q.val, by omega⟩ k)) (v48_at m c r q))).trans
    rfl

section blocks

variable (c : Dev nD) (t : Fin cfg0.N)

theorem b0 (r : Fin 512) (k : Fin 1024) : iblk m c 0 t (ix2 r k) = adx m c (ix2 (rw' t r) k) := by
  blk_ext [iblk, V, idx t]

theorem b1 (r : Fin 1) (k : Fin 1024) : iblk m c 1 t (ix2 r k) = aga m c (ix2 r k) := by
  blk_ext [iblk, V, idx t]

theorem b2 (r : Fin 512) (k : Fin 1024) : iblk m c 2 t (ix2 r k) = YO (aw m c) (aya m c) (ao m c) (ago m c) (rw' t r) k :=
  Eq.trans (b := V m c main_v54 (ix2 (rw' t r) k)) (by blk_ext [iblk, idx t]) (v54_at m c _ k)

theorem b3 (r k : Fin 1024) : iblk m c 3 t (ix2 r k) = aw m c (ix2 r k) :=
  Eq.trans (b := V m c main_v18 (ix2 r k)) (by blk_ext [iblk, idx t]) (v18_at m c r k)

theorem b4 (r k : Fin 512) : iblk m c 4 t (ix2 r k) = aya m c (ix2 (rw' t r) k) := by
  blk_ext [iblk, V, idx t]

theorem b5 (r k : Fin 512) : iblk m c 5 t (ix2 r k) = ao m c (ix2 (rw' t r) k) := by
  blk_ext [iblk, V, idx t]

theorem b6 (r : Fin 1) (k : Fin 1024) : iblk m c 6 t (ix2 r k) = ago m c (ix2 r k) := by
  blk_ext [iblk, V, idx t]

theorem b7 (r k : Fin 512) : iblk m c 7 t (ix2 r k) = if r.val / 64 = k.val / 64 then (1 : EReal) else 0 :=
  Eq.trans (b := V m c main_v8 (ix2 r k)) (by blk_ext [iblk, idx t]) (v8_at m c r k)

theorem b8 (r k : Fin 512) : iblk m c 8 t (ix2 r k) = if r.val / 128 = k.val / 128 then (1 : EReal) else 0 :=
  Eq.trans (b := V m c main_v17 (ix2 r k)) (by blk_ext [iblk, idx t]) (v17_at m c r k)

/-- The two halves of the gain a point reads. -/
abbrev gl : FVec Ideal S1x512 .f32 := View.ld (Val := Elt Ideal) (e' := .f32) (iblk m c 6 t) (Rect.unit (s := S1x1024) ![0, 0] ![1, 512] inb_S1x1024_S1x512_0_0)
abbrev gr : FVec Ideal S1x512 .f32 := View.ld (Val := Elt Ideal) (e' := .f32) (iblk m c 6 t) (Rect.unit (s := S1x1024) ![0, 512] ![1, 512] inb_S1x1024_S1x512_0_512)

theorem gl_at (k : Fin 512) : gl m c t (ix2 0 k) = ago m c (ix2 0 ⟨k, by omega⟩) :=
  ((Cert.Shared.band_ld _ _ _ 0 k ⟨0 + k, by omega⟩ rfl).trans (b6 m c t 0 _)).trans (congrArg (fun z => ago m c (ix2 0 z)) (Fin.ext (zero_add k.val)))

theorem gr_at (k : Fin 512) : gr m c t (ix2 0 k) = ago m c (ix2 0 ⟨512 + k, by omega⟩) :=
  (Cert.Shared.band_ld _ _ _ 0 k ⟨512 + k, by omega⟩ rfl).trans (b6 m c t 0 _)

theorem dyo_at (r : Fin 512) (k : Fin 1024) : k0_pay6 (iblk m c 0 t) (iblk m c 1 t) (ix2 r k) = adx m c (ix2 (rw' t r) k) * aga m c (ix2 0 k) := by
  pointwise [k0_pay6]
  simp only [b0, b1]

theorem dyn_at (r : Fin 512) (k : Fin 1024) : k0_pay7 (iblk m c 0 t) (iblk m c 1 t) (iblk m c 3 t) (ix2 r k)
    = ∑ q : Fin 1024, aga m c (ix2 0 q) * adx m c (ix2 (rw' t r) q) * aw m c (ix2 k q) := by
  simp only [mul_comm (aga m c _)]
  simp only [← dyo_at, ← b3 m c t]
  pointwise [k0_pay7]

theorem dna_at (r k : Fin 512) : k0_pay8 (iblk m c 0 t) (iblk m c 1 t) (iblk m c 3 t) (ix2 r k) = DNA (adx m c) (aga m c) (aw m c) (rw' t r) k := by
  rw [DNA, ← dyn_at]
  pointwise [k0_pay8]

theorem dnb_at (r k : Fin 512) : k0_pay14 (iblk m c 0 t) (iblk m c 1 t) (iblk m c 3 t) (ix2 r k) = DNB (adx m c) (aga m c) (aw m c) (rw' t r) k := by
  rw [DNB, ← dyn_at]
  pointwise [k0_pay14]

theorem ra_at (r k : Fin 512) : k0_pay10 (iblk m c 4 t) (iblk m c 7 t) (ix2 r k) = ra (fun k => aya m c (ix2 (rw' t r) k)) k := by
  pointwise [k0_pay10, k0_pay9]
  simp only [b4, b7]
  rw [group_sum d64 (fun k => aya m c (ix2 (rw' t r) k) * aya m c (ix2 (rw' t r) k)), mul_w64i, ra, grms]

theorem rb_at (r k : Fin 512) : k0_pay16 (iblk m c 5 t) (iblk m c 8 t) (ix2 r k) = rb (fun k => ao m c (ix2 (rw' t r) k)) k := by
  pointwise [k0_pay16, k0_pay15]
  simp only [b5, b8]
  rw [group_sum d128 (fun k => ao m c (ix2 (rw' t r) k) * ao m c (ix2 (rw' t r) k)), mul_w128i, rb, grms]

theorem xa_at (r k : Fin 512) : k0_pay11 (iblk m c 4 t) (iblk m c 7 t) (ix2 r k) = aya m c (ix2 (rw' t r) k) * ra (fun k => aya m c (ix2 (rw' t r) k)) k := by
  rw [← ra_at m c t r k, ← b4 m c t r k]
  pointwise [k0_pay11]

theorem xb_at (r k : Fin 512) : k0_pay17 (iblk m c 5 t) (iblk m c 8 t) (ix2 r k) = ao m c (ix2 (rw' t r) k) * rb (fun k => ao m c (ix2 (rw' t r) k)) k := by
  rw [← rb_at m c t r k, ← b5 m c t r k]
  pointwise [k0_pay17]

end blocks

section payloads

variable (v0 : Vec Ideal S512x1024 .f32) (v1 : Vec Ideal S1x1024 .f32) (v6 : Vec Ideal S1024x1024 .bf16) (v9 : Vec Ideal S512x512 .f32) (v11 : Vec Ideal S1x512 .f32) (v12 : Vec Ideal S512x512 .bf16)
  (v35 : FVec Ideal S512x512 .f32) (v63 : Vec Ideal S512x512 .bf16) (r k : Fin 512)

theorem pay12_at : k0_pay12 v0 v1 v6 v9 v11 v12 (ix2 r k) = k0_pay10 v9 v12 (ix2 r k) * (k0_pay8 v0 v1 v6 (ix2 r k) * v11 (ix2 0 k) - k0_pay11 v9 v12 (ix2 r k)
    * ((∑ x : Fin 512, k0_pay8 v0 v1 v6 (ix2 r x) * v11 (ix2 0 x) * k0_pay11 v9 v12 (ix2 r x) * v12 (ix2 x k)) * Ideal.ofBits .f32 1015021568#32)) := by
  pointwise [k0_pay12, k0_pay9]

theorem pay18_at : k0_pay18 v9 v35 v11 v12 (ix2 r k) = k0_pay16 v9 v12 (ix2 r k) * (v35 (ix2 r k) * v11 (ix2 0 k) - k0_pay17 v9 v12 (ix2 r k)
    * ((∑ x : Fin 512, v35 (ix2 r x) * v11 (ix2 0 x) * k0_pay17 v9 v12 (ix2 r x) * v12 (ix2 x k)) * Ideal.ofBits .f32 1006632960#32)) := by
  pointwise [k0_pay18, k0_pay15]

theorem pay20_at : k0_pay20 v9 v35 v11 v12 (ix2 r k) = k0_pay18 v9 v35 v11 v12 (ix2 r k) := by pointwise [k0_pay20]

theorem pay21_at : k0_pay21 v9 v35 v11 v12 v63 (ix2 r k) = ∑ x : Fin 512, k0_pay18 v9 v35 v11 v12 (ix2 r x) * v9 (ix2 r x) * v63 (ix2 x k)
    + ∑ x : Fin 512, (k0_pay18 v9 v35 v11 v12 (ix2 r x) * v9 (ix2 r x) - k0_pay18 v9 v35 v11 v12 (ix2 r x) * v9 (ix2 r x)) * v63 (ix2 x k) := by pointwise [k0_pay21]

end payloads

theorem do_at (c : Dev nD) (t : Fin cfg0.N) (r k : Fin 512) :
    k0_pay18 (iblk m c 5 t) (k0_pay14 (iblk m c 0 t) (iblk m c 1 t) (iblk m c 3 t)) (gr m c t) (iblk m c 8 t) (ix2 r k)
      = DO (adx m c) (aga m c) (aw m c) (ao m c) (ago m c) (rw' t r) k := by
  rw [pay18_at, rb_at, xb_at]
  simp only [b8, dnb_at, gr_at, xb_at]
  rw [group_sum d128 (fun k => DNB (adx m c) (aga m c) (aw m c) (rw' t r) k * ago m c (ix2 0 ⟨512 + k, by omega⟩) * (ao m c (ix2 (rw' t r) k) * rb (fun k => ao m c (ix2 (rw' t r) k)) k)),
    mul_w128i]
  rfl

/-- The gradient of the projection's output, after the run. -/
theorem final9 (c : Dev nD) : (dats m 0 c).arrAt 9 cfg0.N = DYO (adx m c) (aga m c) := by
  refine (dats m 0 c).arrAt_eq_of_covers 9 _ (by decide +kernel) fun t hf y => ?_
  obtain ⟨r, k, rfl⟩ : ∃ (r : Fin 512) (k : Fin 1024), y = ix2 r k := ⟨y 0, y 1, by funext a; fin_cases a <;> rfl⟩
  blk_simp
  rw [after0_9, (outs_all m c t).1, dyo_at]
  refine Eq.trans (b := DYO (adx m c) (aga m c) (ix2 (rw' t r) k)) rfl (congrArg _ ?_)
  blk_ext [idx t]

/-- The gradient of the convolution's output, after the run. -/
theorem final10 (c : Dev nD) : (dats m 0 c).arrAt 10 cfg0.N = DYA (adx m c) (aga m c) (aw m c) (aya m c) (ago m c) := by
  refine (dats m 0 c).arrAt_eq_of_covers 10 _ (by decide +kernel) fun t hf y => ?_
  obtain ⟨r, k, rfl⟩ : ∃ (r : Fin 512) (k : Fin 512), y = ix2 r k := ⟨y 0, y 1, by funext a; fin_cases a <;> rfl⟩
  blk_simp
  rw [after0_10, (outs_all m c t).2.1, pay12_at, ra_at, xa_at]
  simp only [b7, dna_at, gl_at m c t, xa_at]
  rw [group_sum d64 (fun k => DNA (adx m c) (aga m c) (aw m c) (rw' t r) k * ago m c (ix2 0 ⟨k, by omega⟩) * (aya m c (ix2 (rw' t r) k) * ra (fun k => aya m c (ix2 (rw' t r) k)) k)),
    mul_w64i]
  refine Eq.trans (b := DYA (adx m c) (aga m c) (aw m c) (aya m c) (ago m c) (ix2 (rw' t r) k)) rfl (congrArg _ ?_)
  blk_ext [idx t]

/-- The gradient of the attention's output, after the run. -/
theorem final11 (c : Dev nD) : (dats m 0 c).arrAt 11 cfg0.N = DOA (adx m c) (aga m c) (aw m c) (ao m c) (ago m c) := by
  refine (dats m 0 c).arrAt_eq_of_covers 11 _ (by decide +kernel) fun t hf y => ?_
  obtain ⟨r, k, rfl⟩ : ∃ (r : Fin 512) (k : Fin 512), y = ix2 r k := ⟨y 0, y 1, by funext a; fin_cases a <;> rfl⟩
  blk_simp
  rw [after0_11, (outs_all m c t).2.2.1, pay20_at, do_at]
  refine Eq.trans (b := DOA (adx m c) (aga m c) (aw m c) (ao m c) (ago m c) (ix2 (rw' t r) k)) rfl (congrArg _ ?_)
  blk_ext [idx t]

/-- The sums the attention's backward pass takes, after the run. -/
theorem final12 (c : Dev nD) : (dats m 0 c).arrAt 12 cfg0.N = DL (adx m c) (aga m c) (aw m c) (ao m c) (ago m c) := by
  refine (dats m 0 c).arrAt_eq_of_covers 12 _ (by decide +kernel) fun t hf y => ?_
  obtain ⟨r, k, rfl⟩ : ∃ (r : Fin 512) (k : Fin 512), y = ix2 r k := ⟨y 0, y 1, by funext a; fin_cases a <;> rfl⟩
  blk_simp
  rw [after0_12, (outs_all m c t).2.2.2, pay21_at]
  simp only [b8, b5, do_at m c t]
  rw [group_sum d128 (fun k => DO (adx m c) (aga m c) (aw m c) (ao m c) (ago m c) (rw' t r) k * ao m c (ix2 (rw' t r) k)),
    group_sum d128 (fun k => DO (adx m c) (aga m c) (aw m c) (ao m c) (ago m c) (rw' t r) k * ao m c (ix2 (rw' t r) k) - DO (adx m c) (aga m c) (aw m c) (ao m c) (ago m c) (rw' t r) k * ao m c (ix2 (rw' t r) k))]
  refine Eq.trans (b := DL (adx m c) (aga m c) (aw m c) (ao m c) (ago m c) (ix2 (rw' t r) k)) rfl (congrArg _ ?_)
  blk_ext [idx t]

theorem tile_lt (n : ℕ) (x : Fin 8) (r : Fin 64) (h : n < 16) : n * 512 + (r.val * 8 + x.val) < 8192 := by
  have := r.isLt
  have := x.isLt
  omega

/-- The part of a column one row gives, at this run's arguments. -/
abbrev row (c : Dev nD) (j : Fin 2048) (i : Fin 8192) : EReal := rowP (adx m c) (aga m c) (aw m c) (aya m c) (ao m c) (ago m c) j i

/-- One point's part of a column. -/
abbrev part (c : Dev nD) (n : ℕ) (h : n < 16) (x : Fin 8) (j : Fin 2048) : EReal :=
  ∑ r : Fin 64, row m c j ⟨n * 512 + (r.val * 8 + x.val), tile_lt n x r h⟩

section sums

variable (c : Dev nD) (t : Fin cfg0.N)

theorem lt16 : t.val < 16 := lt_of_lt_of_eq t.isLt (show cfg0.N = 16 from N_0)

theorem pay13_at (r k : Fin 512) : k0_pay13 (iblk m c 0 t) (iblk m c 1 t) (iblk m c 3 t) (iblk m c 4 t) (iblk m c 7 t) (ix2 r k)
    = DNA (adx m c) (aga m c) (aw m c) (rw' t r) k * (aya m c (ix2 (rw' t r) k) * ra (fun k => aya m c (ix2 (rw' t r) k)) k) := by
  rw [← dna_at, ← xa_at]
  pointwise [k0_pay13]

theorem pay19_at (r k : Fin 512) : k0_pay19 (iblk m c 5 t) (k0_pay14 (iblk m c 0 t) (iblk m c 1 t) (iblk m c 3 t)) (iblk m c 8 t) (ix2 r k)
    = DNB (adx m c) (aga m c) (aw m c) (rw' t r) k * (ao m c (ix2 (rw' t r) k) * rb (fun k => ao m c (ix2 (rw' t r) k)) k) := by
  rw [← dnb_at, ← xb_at]
  pointwise [k0_pay19]

theorem pay2_at (q : FVec Ideal S8x1024 .f32) (x : Fin 8) (k : Fin 1024) :
    k0_pay2 (iblk m c 0 t) q (iblk m c 2 t) (ix2 x k) = q (ix2 x k) + part m c t (lt16 t) x ⟨0 + k, by omega⟩ := by
  pointwise [k0_pay2]
  simp only [b0, b2, part, row, rowP, zero_add, k.isLt, dif_pos]

theorem pay3_at (q : FVec Ideal S8x512 .f32) (x : Fin 8) (k : Fin 512) :
    k0_pay3 (k0_pay13 (iblk m c 0 t) (iblk m c 1 t) (iblk m c 3 t) (iblk m c 4 t) (iblk m c 7 t)) q (ix2 x k)
      = q (ix2 x k) + part m c t (lt16 t) x ⟨1024 + k, by omega⟩ := by
  pointwise [k0_pay3]
  simp only [pay13_at, part, row, rowP, show ¬ 1024 + k.val < 1024 by omega, show 1024 + k.val < 1536 by omega, Nat.add_sub_cancel_left, dif_pos, dif_neg, not_false_eq_true]

theorem pay4_at (q : FVec Ideal S8x512 .f32) (x : Fin 8) (k : Fin 512) :
    k0_pay4 (k0_pay19 (iblk m c 5 t) (k0_pay14 (iblk m c 0 t) (iblk m c 1 t) (iblk m c 3 t)) (iblk m c 8 t)) q (ix2 x k)
      = q (ix2 x k) + part m c t (lt16 t) x ⟨1536 + k, by omega⟩ := by
  pointwise [k0_pay4]
  simp only [pay19_at, part, row, rowP, show ¬ 1536 + k.val < 1024 by omega, show ¬ 1536 + k.val < 1536 by omega, Nat.add_sub_cancel_left, dif_pos, dif_neg, not_false_eq_true]

end sums

/-- What a point leaves in the eight rows of sums, from what they held. -/
abbrev upd (c : Dev nD) (t : Fin cfg0.N) (p : FVec Ideal S8x2048 .f32) : FVec Ideal S8x2048 .f32 := fun y => p y + part m c t (lt16 t) (y 0) (y 1)

theorem ix2_all (y : S8x2048.Idx) : ∃ (x : Fin 8) (k : Fin 2048), y = ix2 x k := ⟨y 0, y 1, by funext a; fin_cases a <;> rfl⟩

/-- The three bands a point writes, from bands that hold the rows `q`. -/
theorem bands (c : Dev nD) (t : Fin cfg0.N) (q : FVec Ideal S8x2048 .f32) (u : FVec Ideal S8x1024 .f32) (v w : FVec Ideal S8x512 .f32)
    (hu : ∀ (x : Fin 8) (k : Fin 1024), u (ix2 x k) = q (ix2 x ⟨0 + k, by omega⟩))
    (hv : ∀ (x : Fin 8) (k : Fin 512), v (ix2 x k) = q (ix2 x ⟨1024 + k, by omega⟩))
    (hw : ∀ (x : Fin 8) (k : Fin 512), w (ix2 x k) = q (ix2 x ⟨1536 + k, by omega⟩)) (L) (x : Fin 8) (j : Fin 2048) :
    View.canon (Val := Elt Ideal) (e := .f32) (⟨Rect.unit (s := S8x2048) ![0, 1536] ![8, 512] inb_S8x2048_S8x512_0_1536,
        k0_pay4 (k0_pay19 (iblk m c 5 t) (k0_pay14 (iblk m c 0 t) (iblk m c 1 t) (iblk m c 3 t)) (iblk m c 8 t)) w⟩
      :: ⟨Rect.unit (s := S8x2048) ![0, 1024] ![8, 512] inb_S8x2048_S8x512_0_1024,
        k0_pay3 (k0_pay13 (iblk m c 0 t) (iblk m c 1 t) (iblk m c 3 t) (iblk m c 4 t) (iblk m c 7 t)) v⟩
      :: ⟨Rect.unit (s := S8x2048) ![0, 0] ![8, 1024] inb_S8x2048_S8x1024_0_0,
        k0_pay2 (iblk m c 0 t) u (iblk m c 2 t)⟩ :: L) (ix2 x j)
      = upd m c t q (ix2 x j) := by
  refine Cert.Shared.band_cons (Val := Elt Ideal) (e := .f32) _ _ _ _ x j (fun j => upd m c t q (ix2 x j)) (fun k hk => ?_) fun h1 => ?_
  · exact (pay4_at m c t _ x k).trans (congrArg (· + _) (hw x k))
  refine Cert.Shared.band_cons (Val := Elt Ideal) (e := .f32) _ _ _ _ x j (fun j => upd m c t q (ix2 x j)) (fun k hk => ?_) fun h2 => ?_
  · exact (pay3_at m c t _ x k).trans (congrArg (· + _) (hv x k))
  refine Cert.Shared.band_cons (Val := Elt Ideal) (e := .f32) _ _ _ _ x j (fun j => upd m c t q (ix2 x j)) (fun k hk => ?_) fun h3 => absurd h3 (by omega)
  exact (pay2_at m c t _ x k).trans (congrArg (· + _) (hu x k))

theorem zero_at (x : Fin 8) (j : Fin 2048) : k0_pay1 (F := Ideal) (ix2 x j) = 0 := by pointwise [k0_pay1]

theorem first (c : Dev nD) (h : 0 < cfg0.N) : (outsAt0 m c 0 h).2.2.2.2 = upd m c ⟨0, h⟩ k0_pay1 := by
  rw [outsAt0_A m c ⟨0, h⟩ rfl (by simp)]
  dsimp only
  frame_out
  funext y
  obtain ⟨x, j, rfl⟩ := ix2_all y
  refine bands m c ⟨0, h⟩ k0_pay1 _ _ _ (fun x k => ?_) (fun x k => ?_) (fun x k => ?_) _ x j
  · exact (Cert.Shared.band_read _ _ _ _ x k ⟨0 + k, by omega⟩ rfl).trans (Cert.Shared.band_in (Val := Elt Ideal) (e := .f32) 0 _ _ _ x _ _ (zero_add _).symm)
  · exact (Cert.Shared.band_read _ _ _ _ x k ⟨1024 + k, by omega⟩ rfl).trans
      ((Cert.Shared.band_out (Val := Elt Ideal) (e := .f32) _ _ _ _ x _ (.inr (Nat.le_add_right 1024 k))).trans (Cert.Shared.band_in (Val := Elt Ideal) (e := .f32) 0 _ _ _ x _ _ (zero_add _).symm))
  · exact (Cert.Shared.band_read _ _ _ _ x k ⟨1536 + k, by omega⟩ rfl).trans
      ((Cert.Shared.band_out (Val := Elt Ideal) (e := .f32) _ _ _ _ x _ (.inr (Nat.le_add_right 1536 k))).trans
        ((Cert.Shared.band_out (Val := Elt Ideal) (e := .f32) _ _ _ _ x _ (.inr (Nat.le_add_right_of_le (by omega)))).trans (Cert.Shared.band_in (Val := Elt Ideal) (e := .f32) 0 _ _ _ x _ _ (zero_add _).symm)))

theorem next (c : Dev nD) (n : ℕ) (h : n + 1 < cfg0.N) (hn : n + 1 < 15) :
    (outsAt0 m c (n + 1) h).2.2.2.2 = upd m c ⟨n + 1, h⟩ (outsAt0 m c n (Nat.lt_of_succ_lt h)).2.2.2.2 := by
  rw [outsAt0_B m c ⟨n + 1, h⟩ (by simp; omega) (by simp; omega)]
  dsimp only
  frame_out
  funext y
  obtain ⟨x, j, rfl⟩ := ix2_all y
  exact bands m c ⟨n + 1, h⟩ _ _ _ _ (fun x k => Cert.Shared.band_ld _ _ _ x k _ rfl) (fun x k => Cert.Shared.band_ld _ _ _ x k _ rfl)
    (fun x k => Cert.Shared.band_ld _ _ _ x k _ rfl) _ x j

attribute [local irreducible] outsAt0

/-- The eight rows before the last point sums them. -/
def before (c : Dev nD) (n : ℕ) (h : n < 16) : FVec Ideal S8x2048 .f32 :=
  upd m c ⟨n, h⟩ (if h0 : n = 0 then k0_pay1 (F := Ideal) else (outsAt0 m c (n - 1) (Nat.lt_of_le_of_lt (Nat.sub_le n 1) h)).2.2.2.2)

theorem final13 (c : Dev nD) : (dats m 0 c).arrAt 13 cfg0.N = P (adx m c) (aga m c) (aw m c) (aya m c) (ao m c) (ago m c) := by
  have h15 : 15 < cfg0.N := by rw [show cfg0.N = 16 from N_0]; omega
  refine (dats m 0 c).arrAt_eq_of_after_last 13 t0_15 (by decide +kernel) _ fun j => ?_
  obtain ⟨x, j, rfl⟩ := ix2_all j
  blk_simp
  rw [after0_13, show (t0_15 : Fin cfg0.N) = ⟨15, h15⟩ from rfl, outsAt0_C m c ⟨15, h15⟩ (by simp) rfl]
  dsimp only
  frame_out
  rw [View.readCov_eq_canon']
  refine Eq.trans (b := ∑ x : Fin 8, before m c 15 (by omega) (ix2 x j)) ?_ ?_
  · pointwise [k0_pay5]
    refine Finset.sum_congr rfl fun x _ => ?_
    exact bands m c ⟨15, h15⟩ _ _ _ _ (fun x k => Cert.Shared.band_ld _ _ _ x k _ rfl) (fun x k => Cert.Shared.band_ld _ _ _ x k _ rfl)
      (fun x k => Cert.Shared.band_ld _ _ _ x k _ rfl) _ x j
  · refine Cert.Shared.acc_rows 16 512 64 (by omega) rfl rfl (row m c j)
      (fun n h x => before m c n h (ix2 x j)) (fun n x r h => tile_lt n x r h) (fun h x => ?_) (fun n h x => ?_)
    · exact Eq.trans (by rw [before, dif_pos rfl]; exact congrArg (· + part m c 0 h x j) (zero_at x j)) (zero_add _)
    · rw [before, dif_neg (Nat.succ_ne_zero n)]
      refine congrArg (· + _) (congrFun (?_ : (outsAt0 m c n _).2.2.2.2 = before m c n _) _)
      rcases n with _ | n
      · exact first m c _
      · exact next m c n _ (by omega)

end Cert.MixOutIdeal.Value
end
-- ==== Proof.MixOut.Claim.lean ====
module

public import proofs.«01_k».proof.Proof.MixOut.Value
public import proofs.«01_k».proof.Defs
public import proofs.«01_k».proof.Proof.Gen.MixOutRefIdeal.Run
public import proofs.«01_k».proof.Proof.Gen.Pre_mixout_pre
public import Idealize.ShloMosaic.Lib.Quiescent

@[expose] public section

set_option maxRecDepth 16384

noncomputable section

open Idealize.ShloMosaic Idealize.ShloMosaic.TcCoe Idealize.SL.Sem

namespace Cert.MixOutClaim

open Cert.MixOutIdeal Cert.MixOutIdeal.Gen Cert.MixOutIdeal.Value
open Cert.Shared (IsReal gnorm gi gi_gi gi_self gnorm_law gnorm_real w64 w128)

/-- The precondition makes the elements of all arguments real. -/
theorem reals {a0 : FVec Ideal S8192x1024 .f32} {a1 : FVec Ideal S1x1024 .f32} {a2 : FVec Ideal S1024x1024 .f32} {a3 a4 : FVec Ideal S8192x512 .f32}
    {a5 : FVec Ideal S1x1024 .f32} (h : Cert.Pre_mixout_pre.fn (F := Ideal) a0 a1 a2 a3 a4 a5 = fun _ => 1#1) :
    (∀ i, IsReal (a0 i)) ∧ (∀ i, IsReal (a1 i)) ∧ (∀ i, IsReal (a2 i)) ∧ (∀ i, IsReal (a3 i)) ∧ (∀ i, IsReal (a4 i)) ∧ (∀ i, IsReal (a5 i)) := by
  have h := congrFun h ix0
  unfold Cert.Pre_mixout_pre.fn at h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨Cert.Shared.real_of_finite _ _ _ _ _ _ _ h0, Cert.Shared.real_of_finite _ _ _ _ _ _ _ h1, Cert.Shared.real_of_finite _ _ _ _ _ _ _ h2, Cert.Shared.real_of_finite _ _ _ _ _ _ _ h3,
    Cert.Shared.real_of_finite _ _ _ _ _ _ _ h4, Cert.Shared.real_of_finite _ _ _ _ _ _ _ h5⟩

/-- The reference runs on the host alone: its arguments end unchanged, and it declares no semaphore. -/
theorem frame_ref : Cert.quiescent_MixOutRefIdeal (hMixOutRefIdeal := Cert.MixOutRefIdeal.Gen.facts) := fun m ρ _ =>
  (θ_run Cert.MixOutRefIdeal.defs _ _).mono (fun r h => ⟨fun c => (h c).2.2.2.2.2, Idealize.ShloMosaic.sem_eq_zero_of_no_sems (by decide) r.2⟩)
    (Cert.MixOutRefIdeal.Value.run (F := Ideal) m ρ)

theorem div64 (j : Fin 512) (x : ℕ) (h : x < 64) : (j.val / 64 * 64 + x) / 64 = j.val / 64 := by omega
theorem div128 (j : Fin 512) (x : Fin 128) : (j.val / 128 * 128 + x.val) / 128 = j.val / 128 := by omega

set_option maxHeartbeats 1600000 in
theorem algebraic : Cert.algebraic_MixOutIdeal_MixOutRefIdeal_pre_mixout_pre (hMixOutIdeal := Cert.MixOutIdeal.Gen.facts)
    (hMixOutRefIdeal := Cert.MixOutRefIdeal.Gen.facts) (hPre_mixout_pre := Cert.Pre_mixout_pre.Gen.facts) := by
  intro m g m' g' hpre hag
  refine ⟨fun c => DYO (adx m c) (aga m c), fun c => DYA (adx m c) (aga m c) (aw m c) (aya m c) (ago m c),
    fun c => DOA (adx m c) (aga m c) (aw m c) (ao m c) (ago m c), fun c => DL (adx m c) (aga m c) (aw m c) (ao m c) (ago m c),
    fun c => P (adx m c) (aga m c) (aw m c) (aya m c) (ao m c) (ago m c),
    (θ_run _ _ _).mono (fun r h c => ?_) (run_blocks m g), (θ_run _ _ _).mono (fun r h c => ?_) (Cert.MixOutRefIdeal.Value.run m' g')⟩
  · obtain ⟨h9, h10, h11, h12, h13, hk⟩ := h c
    exact ⟨h9.trans (final9 m c), h10.trans (final10 m c), h11.trans (final11 m c), h12.trans (final12 m c), h13.trans (final13 m c), hk⟩
  obtain ⟨h1, h2, h3, h4, h5, hk⟩ := h c
  obtain ⟨e0, e1, e2, e3, e4, e5⟩ := hag c
  obtain ⟨r0, r1, r2, r3, r4, r5⟩ := reals (hpre c)
  unfold Cert.MixOutRefIdeal.Value.res_main_v126 at h2
  unfold Cert.MixOutRefIdeal.Value.res_main_v134 at h3
  unfold Cert.MixOutRefIdeal.Value.res_main_v136 at h4
  unfold Cert.MixOutRefIdeal.Value.res_main_v138 at h5
  rw [e0, e1] at h1
  rw [e0, e1, e2, e3, e5] at h2
  rw [e0, e1, e2, e4, e5] at h3 h4
  rw [e0, e1, e2, e3, e4, e5] at h5
  obtain ⟨e, he, hE⟩ := Cert.Shared.wEps
  have ra' : ∀ i k, IsReal (GA (adx m c) (aga m c) (aw m c) (ago m c) i k) := fun i k => (IsReal.sum fun q => ((r1 _).mul (r0 _)).mul (r2 _)).mul (r5 _)
  have rb' : ∀ i k, IsReal (GB (adx m c) (aga m c) (aw m c) (ago m c) i k) := fun i k => (IsReal.sum fun q => ((r1 _).mul (r0 _)).mul (r2 _)).mul (r5 _)
  refine ⟨h1.trans ?_, h2.trans ?_, h3.trans ?_, h4.trans ?_, h5.trans ?_, hk⟩
  · clear h1 h2 h3 h4 h5 hk e0 e1 e2 e3 e4 e5
    funext y
    obtain ⟨i, j, rfl⟩ : ∃ (i : Fin 8192) (j : Fin 1024), y = ix2 i j := ⟨y 0, y 1, by funext a; fin_cases a <;> rfl⟩
    refine Eq.trans ?_ (mul_comm (aga m c (ix2 0 j)) (adx m c (ix2 i j)))
    simp only [aga, adx]
    pointwise []
  · clear h1 h2 h3 h4 h5 hk e0 e1 e2 e3 e4 e5
    funext y
    obtain ⟨i, j, rfl⟩ : ∃ (i : Fin 8192) (j : Fin 512), y = ix2 i j := ⟨y 0, y 1, by funext a; fin_cases a <;> rfl⟩
    refine Eq.trans ?_ ((gnorm_law d64 (fun k => r3 (ix2 i k)) (ra' i) (by norm_num : (0 : ℝ) < 64) he w64 hE j ⟨j.val % 64, Nat.mod_lt _ (by norm_num)⟩).trans
      (congrArg (gnorm d64 _ _ _ _) (gi_self d64 j _)))
    simp only [GA, DNA, adx, aga, aw, aya, ago]
    pointwise [] <;> simp only [gi, Nat.div_add_mod', Fin.eta]
  · clear h1 h2 h3 h4 h5 hk e0 e1 e2 e3 e4 e5
    funext y
    obtain ⟨i, j, rfl⟩ : ∃ (i : Fin 8192) (j : Fin 512), y = ix2 i j := ⟨y 0, y 1, by funext a; fin_cases a <;> rfl⟩
    refine Eq.trans ?_ ((gnorm_law d128 (fun k => r4 (ix2 i k)) (rb' i) (by norm_num : (0 : ℝ) < 128) he w128 hE j ⟨j.val % 128, Nat.mod_lt _ (by norm_num)⟩).trans
      (congrArg (gnorm d128 _ _ _ _) (gi_self d128 j _)))
    simp only [GB, DNB, adx, aga, aw, ao, ago]
    pointwise [] <;> simp only [gi, Nat.div_add_mod', Fin.eta]
  · clear h1 h2 h3 h4 h5 hk e0 e1 e2 e3 e4 e5
    funext y
    obtain ⟨i, j, rfl⟩ : ∃ (i : Fin 8192) (j : Fin 512), y = ix2 i j := ⟨y 0, y 1, by funext a; fin_cases a <;> rfl⟩
    have hz : ∀ x : Fin 128, DO (adx m c) (aga m c) (aw m c) (ao m c) (ago m c) i (gi d128 j x) * ao m c (ix2 i (gi d128 j x))
        - DO (adx m c) (aga m c) (aw m c) (ao m c) (ago m c) i (gi d128 j x) * ao m c (ix2 i (gi d128 j x)) = 0 := fun x => by
      obtain ⟨v, hv⟩ := (gnorm_real d128 (fun k => r4 (ix2 i k)) (rb' i) (by norm_num : (0 : ℝ) < 128) he w128 hE (gi d128 j x)).mul (r4 (ix2 i (gi d128 j x)))
      refine (congrArg₂ (fun a b : EReal => a - b) hv hv).trans ?_
      exact_mod_cast sub_self v
    refine Eq.trans ?_ (show ∑ x : Fin 128, DO (adx m c) (aga m c) (aw m c) (ao m c) (ago m c) i (gi d128 j x) * ao m c (ix2 i (gi d128 j x)) = _ from
      ((congrArg _ (Finset.sum_eq_zero fun x _ => hz x)).trans (add_zero _)).symm)
    refine Eq.trans ?_ (Finset.sum_congr (M := EReal) rfl fun x _ => congrArg (fun z : EReal => z * ao m c (ix2 i (gi d128 j x)))
      (gnorm_law d128 (fun k => r4 (ix2 i k)) (rb' i) (by norm_num : (0 : ℝ) < 128) he w128 hE j x))
    simp only [GB, DNB, adx, aga, aw, ao, ago]
    pointwise []
    simp only [div128, gi]
  · clear h1 h2 h3 h4 hk e0 e1 e2 e3 e4 e5 h5
    funext y
    obtain ⟨x, j, rfl⟩ := ix2_all y
    obtain ⟨R, hR⟩ : ∃ R : EReal, R = ∑ i, rowP (adx m c) (aga m c) (aw m c) (aya m c) (ao m c) (ago m c) j i := ⟨_, rfl⟩
    refine Eq.trans ?_ (show R = _ from hR)
    pointwise []
    rw [hR]
    simp only [rowP, YO, ra, rb, DNA, DNB, Cert.Shared.grms, gi, adx, aga, aw, aya, ao, ago, Nat.div_add_mod']
    by_cases h1 : j.val < 1024
    · simp only [h1, dif_pos]
    · by_cases h2 : j.val < 1536
      · have h3 : j.val - 1024 < 512 := by omega
        have h4 : ¬ (512 ≤ j.val - 1024 ∧ j.val - 1024 - 512 < 512) := by omega
        simp only [h1, h2, h3, h4, dif_pos, dif_neg, not_false_eq_true, zero_add]
        exact Finset.sum_congr (M := EReal) rfl fun i _ => EReal.mul_comm _ _
      · have h3 : ¬ j.val - 1024 < 512 := by omega
        have h4 : 512 ≤ j.val - 1024 ∧ j.val - 1024 - 512 < 512 := by have := j.isLt; omega
        simp only [h1, h2, h3, dif_neg, not_false_eq_true, add_zero]
        rw [dif_pos h4]
        simp only [Nat.sub_sub]
        exact Finset.sum_congr (M := EReal) rfl fun i _ => EReal.mul_comm _ _

end Cert.MixOutClaim
end
-- ==== Proof.MixMid.Blocks.lean ====
module

public import proofs.«01_k».proof.Proof.Gen.MixMidIdeal.Value
public import proofs.«01_k».proof.Proof.Shared.Cols
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.MixMidIdeal.Value

open Cert.MixMidIdeal Cert.MixMidIdeal.Gen

/-! The results in closed form, and what the kernel's blocks hold. -/

section forms

variable (z : FVec Ideal S8192x2240 .f32) (pos : IVec S8192 32) (dya : FVec Ideal S8192x512 .f32) (cw : FVec Ideal S3x512 .f32)
  (gq : FVec Ideal S1x384 .f32) (gkv : FVec Ideal S1x256 .f32) (wq : FVec Ideal S384x768 .f32) (wkv : FVec Ideal S256x1024 .f32)
  (dq dk : FVec Ideal S8192x4x192 .f32) (dv : FVec Ideal S8192x4x128 .f32)

/-- The angle of a position at a frequency. -/
def ang (i : Fin 8192) (k : Fin 32) : EReal := FloatOps.sitofp (F := Ideal) .f32 (pos (ix1 i)) * Ideal.pow (Ideal.ofBits .f32 1176256512#32)
  (Ideal.div (-(Ideal.ofBits .f32 1073741824#32 * FloatOps.sitofp (F := Ideal) .f32 (BitVec.ofNat 32 k.val))) (Ideal.ofBits .f32 1115684864#32))

/-- A table over the 64 rotated columns, both halves alike, zero behind them. -/
def tab (f : Fin 32 → EReal) (k : Fin 128) : EReal := if h : k.val < 32 then f ⟨k, h⟩ else if h : k.val - 32 < 32 then f ⟨k - 32, h⟩ else 0

abbrev CS (i : Fin 8192) : Fin 128 → EReal := tab fun k => Ideal.cos (ang pos i k)
abbrev SN (i : Fin 8192) : Fin 128 → EReal := tab fun k => Ideal.sin (ang pos i k)

/-- A row one before, two before or one or two behind, zero where there is none. -/
def bef (d : ℕ) (f : Fin 8192 → EReal) (i : Fin 8192) : EReal := if h : d ≤ i.val then f ⟨i - d, by omega⟩ else 0
def aft (d : ℕ) (f : Fin 8192 → EReal) (i : Fin 8192) : EReal := if h : i.val + d < 8192 then f ⟨i + d, h⟩ else 0

/-- The convolution's input, its output and the output's gradient. -/
def UU (k : Fin 512) (i : Fin 8192) : EReal := z (ix2 i ⟨512 + k, by omega⟩) * z (ix2 i ⟨1024 + k, by omega⟩)
def YY (i : Fin 8192) (k : Fin 512) : EReal := cw (ix2 0 k) * bef 2 (UU z k) i + cw (ix2 1 k) * bef 1 (UU z k) i + cw (ix2 2 k) * UU z k i
def DY (k : Fin 512) (i : Fin 8192) : EReal := dya (ix2 i k) * z (ix2 i ⟨k, by omega⟩)
/-- The gradient of the convolution's input. -/
def DU (i : Fin 8192) (k : Fin 512) : EReal := cw (ix2 2 k) * DY z dya k i + cw (ix2 1 k) * aft 1 (DY z dya k) i + cw (ix2 0 k) * aft 2 (DY z dya k) i

/-- A head's gradient in its padded columns. -/
def slot (a : FVec Ideal S8192x4x192 .f32) (i : Fin 8192) (n : Fin 1024) : EReal :=
  if h : n.val / 256 < 4 ∧ n.val % 256 < 192 then a (ix3 i ⟨n / 256, h.1⟩ ⟨n % 256, h.2⟩) else 0

/-- The transpose of the rotation. -/
def rot (g cs sn : Fin 128 → EReal) (k : Fin 128) : EReal := g k * cs k
  + if k.val < 32 then g ⟨(k.val + 128 - 96) % 128, Nat.mod_lt _ (by omega)⟩ * sn ⟨(k.val + 128 - 96) % 128, Nat.mod_lt _ (by omega)⟩
    else if k.val < 64 then 0 - g ⟨(k.val + 128 - 32) % 128, Nat.mod_lt _ (by omega)⟩ * sn ⟨(k.val + 128 - 32) % 128, Nat.mod_lt _ (by omega)⟩ else 0

/-- The gradients of the queries, of the keys and values, and of the keys' rotated columns. -/
def DQF : FVec Ideal S8192x1024 .bf16 := fun j => if (j 1).val % 256 < 128 then slot dq (j 0) (j 1) else
  rot (fun k => slot dq (j 0) ⟨(j 1).val / 256 * 256 + (128 + k.val), by have := (j 1).isLt; change (j 1).val < 1024 at this; omega⟩) (CS pos (j 0)) (SN pos (j 0)) ⟨(j 1).val % 256 - 128, by omega⟩
def DKV : FVec Ideal S8192x1024 .bf16 := fun j => if h : (j 1).val < 512 then slot dk (j 0) ⟨(j 1).val / 128 * 256 + (j 1).val % 128, by omega⟩ else
  dv (ix3 (j 0) ⟨((j 1).val - 512) / 128, by have := (j 1).isLt; change (j 1).val < 1024 at this; omega⟩ ⟨((j 1).val - 512) % 128, Nat.mod_lt _ (by omega)⟩)
def DKR (i : Fin 8192) (k : Fin 128) : EReal := 0 + slot dk i ⟨128 + k, by omega⟩ + slot dk i ⟨384 + k, by omega⟩ + slot dk i ⟨640 + k, by omega⟩ + slot dk i ⟨896 + k, by omega⟩

/-- The gradients of the two latents behind their norms. -/
def wuq (n : Fin 1024) (k : Fin 384) : EReal := if h : n.val / 256 < 4 ∧ n.val % 256 < 192 then wq (ix2 k ⟨n.val / 256 * 192 + n.val % 256, by omega⟩) else 0
def DCQ (i : Fin 8192) (k : Fin 384) : EReal := ∑ n : Fin 1024, DQF pos dq (ix2 i n) * wuq wq n k
def DCKV (i : Fin 8192) (k : Fin 256) : EReal := ∑ n : Fin 1024, DKV dk dv (ix2 i n) * wkv (ix2 k ⟨n.val / 128 % 4 * 256 + n.val / 512 * 128 + n.val % 128, by omega⟩)

/-- A norm's inverse root mean square, and the gradient through it. -/
def irms {n : ℕ} (L : EReal) (x : Fin n → EReal) : EReal := Ideal.rsqrt (Ideal.div (∑ i, x i * x i) L + Ideal.ofBits .f32 897988541#32)
def lat {n : ℕ} (L : EReal) (x d : Fin n → EReal) (k : Fin n) : EReal := irms L x * (d k - x k * irms L x * Ideal.div (∑ i, d i * (x i * irms L x)) L)

/-- The two latents. -/
abbrev CQ (i : Fin 8192) (k : Fin 384) : EReal := z (ix2 i ⟨1536 + k, by omega⟩)
abbrev CKV (i : Fin 8192) (k : Fin 256) : EReal := z (ix2 i ⟨1920 + k, by omega⟩)

abbrev L384 : EReal := Ideal.ofBits .f32 1136656384#32
abbrev L256 : EReal := Ideal.ofBits .f32 1132462080#32

/-- One row's gradient of the projections. -/
def DZ : FVec Ideal S8192x2304 .bf16 := fun j =>
  if h : (j 1).val < 512 then dya (ix2 (j 0) ⟨(j 1).val, h⟩) * YY z cw (j 0) ⟨(j 1).val, h⟩
  else if h : (j 1).val < 1024 then DU z dya cw (j 0) ⟨(j 1).val - 512, by omega⟩ * z (ix2 (j 0) ⟨1024 + ((j 1).val - 512), by omega⟩)
  else if h : (j 1).val < 1536 then DU z dya cw (j 0) ⟨(j 1).val - 1024, by omega⟩ * z (ix2 (j 0) ⟨512 + ((j 1).val - 1024), by omega⟩)
  else if h : (j 1).val < 1920 then lat L384 (CQ z (j 0)) (fun k => DCQ pos wq dq (j 0) k * gq (ix2 0 k)) ⟨(j 1).val - 1536, by omega⟩
  else if h : (j 1).val < 2176 then lat L256 (CKV z (j 0)) (fun k => DCKV wkv dk dv (j 0) k * gkv (ix2 0 k)) ⟨(j 1).val - 1920, by omega⟩
  else rot (DKR dk (j 0)) (CS pos (j 0)) (SN pos (j 0)) ⟨(j 1).val - 2176, by have := (j 1).isLt; change (j 1).val < 2304 at this; omega⟩

/-- One row's part of the summed gradients: the three taps', then the two gains'. -/
def rowP (j : Fin 2176) (i : Fin 8192) : EReal :=
  if h : j.val < 512 then DY z dya ⟨j, h⟩ i * bef 2 (UU z ⟨j, h⟩) i
  else if h : j.val < 1024 then DY z dya ⟨j - 512, by omega⟩ i * bef 1 (UU z ⟨j - 512, by omega⟩) i
  else if h : j.val < 1536 then DY z dya ⟨j - 1024, by omega⟩ i * UU z ⟨j - 1024, by omega⟩ i
  else if h : j.val < 1920 then DCQ pos wq dq i ⟨j - 1536, by omega⟩ * (CQ z i ⟨j - 1536, by omega⟩ * irms L384 (CQ z i))
  else DCKV wkv dk dv i ⟨j - 1920, by omega⟩ * (CKV z i ⟨j - 1920, by omega⟩ * irms L256 (CKV z i))

def P : FVec Ideal S8x2176 .f32 := fun y => ∑ i : Fin 8192, rowP z pos dya wq wkv dq dk dv (y 1) i

end forms

variable (m : (ℓ : Loc nD τ sig) → Buf (Elt Ideal) ℓ)

abbrev az (c : Dev nD) : FVec Ideal S8192x2240 .f32 := m ((c : Thread nD τ).loc main_arg0)
abbrev apos (c : Dev nD) : IVec S8192 32 := m ((c : Thread nD τ).loc main_arg1)
abbrev adya (c : Dev nD) : FVec Ideal S8192x512 .f32 := m ((c : Thread nD τ).loc main_arg2)
abbrev acw (c : Dev nD) : FVec Ideal S3x512 .f32 := m ((c : Thread nD τ).loc main_arg3)
abbrev agq (c : Dev nD) : FVec Ideal S1x384 .f32 := m ((c : Thread nD τ).loc main_arg4)
abbrev agkv (c : Dev nD) : FVec Ideal S1x256 .f32 := m ((c : Thread nD τ).loc main_arg5)
abbrev awq (c : Dev nD) : FVec Ideal S384x768 .f32 := m ((c : Thread nD τ).loc main_arg6)
abbrev awkv (c : Dev nD) : FVec Ideal S256x1024 .f32 := m ((c : Thread nD τ).loc main_arg7)
abbrev adq (c : Dev nD) : FVec Ideal S8192x4x192 .f32 := m ((c : Thread nD τ).loc main_arg8)
abbrev adk (c : Dev nD) : FVec Ideal S8192x4x192 .f32 := m ((c : Thread nD τ).loc main_arg9)
abbrev adv (c : Dev nD) : FVec Ideal S8192x4x128 .f32 := m ((c : Thread nD τ).loc main_arg10)

theorem idx : ∀ t : Fin cfg0.N, win0_0.index t = ![t.val, 0] ∧ win0_1.index t = ![t.val * 32 - 1, 0] ∧ win0_2.index t = ![min ((t.val + 1) * 32) 1023, 0]
    ∧ win0_3.index t = ![t.val, 0] ∧ win0_4.index t = ![min ((t.val + 1) * 32) 1023, 0] ∧ win0_5.index t = ![0, 0] ∧ win0_6.index t = ![0, 0]
    ∧ win0_7.index t = ![0, 0] ∧ win0_8.index t = ![0, 0] ∧ win0_9.index t = ![0, 0] ∧ win0_10.index t = ![t.val, 0] ∧ win0_11.index t = ![t.val, 0]
    ∧ win0_12.index t = ![t.val, 0] ∧ win0_13.index t = ![t.val, 0] ∧ win0_14.index t = ![t.val, 0] ∧ win0_15.index t = ![t.val, 0]
    ∧ win0_16.index t = ![t.val, 0] ∧ win0_17.index t = ![t.val, 0] ∧ win0_18.index t = ![0, 0] ∧ (grid0.coords t 0).val = t.val :=
  (by decide +kernel : ∀ t : Fin grid0.N, _)

theorem lt32 (t : Fin cfg0.N) : t.val < 32 := lt_of_lt_of_eq t.isLt (show cfg0.N = 32 from N_0)

theorem rows_lt (t : Fin cfg0.N) (r : Fin 256) : t.val * 256 + r.val < 8192 := by
  have := r.isLt
  have := lt32 t
  omega

/-- A point's row of the whole arrays. -/
abbrev rw' (t : Fin cfg0.N) (r : Fin 256) : Fin 8192 := ⟨t.val * 256 + r.val, rows_lt t r⟩

section host

variable (c : Dev nD)

theorem v31_at (r : Fin 8192) (k : Fin 2304) (h : k.val < 2240) : V m c main_v31 (ix2 r k) = az m c (ix2 r ⟨k, h⟩) :=
  Eq.trans (b := if h : k.val < 2240 then az m c (ix2 r ⟨k, h⟩) else FloatOps.sitofp (F := Ideal) .f32 0#32) (by unfold V; after_reads_at) (dif_pos h)

theorem v21_at (r : Fin 8) (k : Fin 512) (h : r.val < 3) : V m c main_v21 (ix2 r k) = acw m c (ix2 ⟨r, h⟩ k) :=
  Eq.trans (b := if h : r.val < 3 then acw m c (ix2 ⟨r, h⟩ k) else FloatOps.sitofp (F := Ideal) .f32 0#32) (by unfold V; after_reads_at) (dif_pos h)

theorem zero_word (φ : FTy) : FloatOps.sitofp (F := Ideal) φ (0#32) = (0 : EReal) := by simp [FloatOps.sitofp]

theorem v26_at (r : Fin 1024) (k : Fin 384) : V m c main_v26 (ix2 r k) = wuq (awq m c) r k := by
  rw [wuq, ← zero_word .bf16]
  unfold V; after_reads_at

theorem v30_at (r : Fin 256) (k : Fin 1024) : V m c main_v30 (ix2 r k) = awkv m c (ix2 r ⟨k.val / 128 % 4 * 256 + k.val / 512 * 128 + k.val % 128, by omega⟩) := by
  unfold V; after_reads_at

theorem v34_at (r : Fin 8192) (k : Fin 1024) : V m c main_v34 (ix2 r k) = slot (adq m c) r k := by
  rw [slot, ← zero_word .f32]
  unfold V; after_reads_at

theorem v37_at (r : Fin 8192) (k : Fin 1024) : V m c main_v37 (ix2 r k) = slot (adk m c) r k := by
  rw [slot, ← zero_word .f32]
  unfold V; after_reads_at

theorem v39_at (r : Fin 8192) (k : Fin 512) : V m c main_v39 (ix2 r k) = adv m c (ix3 r ⟨k.val / 128, by omega⟩ ⟨k.val % 128, Nat.mod_lt _ (by omega)⟩) := by
  unfold V; after_reads_at

theorem v15_at (r : Fin 8192) (k : Fin 32) (n : ℕ) (hn : n = 20 ∨ n = 21) :
    StableHlo.upto hostOps0 (fun b => m (c, b)) n (Proc.tc.devRef main_v15) (ix2 r k) = ang (apos m c) r k := by
  rcases hn with rfl | rfl <;> (unfold ang; after_reads_at)

theorem zeros_at (r : Fin 8192) (k : Fin 64) :
    broadcastInDim S8192x64 ![] bcast_S_S8192x64 (StableHlo.upto hostOps0 (fun b => m (c, b)) 23 (Proc.tc.devRef main_cst_3)) (ix2 r k) = (0 : EReal) := by
  after_reads_at

/-- Two equal bands and zeros behind them. -/
theorem cat_at (A B : FVec Ideal S8192x32 .f32) (C : FVec Ideal S8192x64 .f32) (h) (r : Fin 8192) (f : Fin 32 → EReal)
    (hA : ∀ k, A (ix2 r k) = f k) (hB : ∀ k, B (ix2 r k) = f k) (hC : ∀ k, C (ix2 r k) = 0) (k : Fin 128) :
    concatenate S8192x128 1 [⟨S8192x32, A⟩, ⟨S8192x32, B⟩, ⟨S8192x64, C⟩] h (ix2 r k) = tab f k := by
  pointwise [tab]
  simp only [hA, hB, hC]

theorem v19_at (r : Fin 8192) (k : Fin 128) : V m c main_v19 (ix2 r k) = CS (apos m c) r k := by
  unfold V; after_reads_simp
  refine cat_at _ _ _ _ r _ (fun k => ?_) (fun k => ?_) (fun k => ?_) k
  · refine (congrFun (StableHlo.unary_result main_v15 main_v16 _ _ _ _) (ix2 r k)).trans ?_
    exact congrArg Ideal.cos (v15_at m c r k 20 (.inl rfl))
  · refine (congrFun (StableHlo.unary_result main_v15 main_v16 _ _ _ _) (ix2 r k)).trans ?_
    exact congrArg Ideal.cos (v15_at m c r k 20 (.inl rfl))
  · exact (congrFun (StableHlo.unary_result main_cst_3 main_v18 _ _ _ _) (ix2 r k)).trans (zeros_at m c r k)

theorem v20_at (r : Fin 8192) (k : Fin 128) : V m c main_v20 (ix2 r k) = SN (apos m c) r k := by
  unfold V; after_reads_simp
  refine cat_at _ _ _ _ r _ (fun k => ?_) (fun k => ?_) (fun k => ?_) k
  · refine (congrFun (StableHlo.unary_result main_v15 main_v17 _ _ _ _) (ix2 r k)).trans ?_
    exact congrArg Ideal.sin (v15_at m c r k 21 (.inr rfl))
  · refine (congrFun (StableHlo.unary_result main_v15 main_v17 _ _ _ _) (ix2 r k)).trans ?_
    exact congrArg Ideal.sin (v15_at m c r k 21 (.inr rfl))
  · exact (congrFun (StableHlo.unary_result main_cst_3 main_v18 _ _ _ _) (ix2 r k)).trans (zeros_at m c r k)

end host

section blocks

variable (c : Dev nD) (t : Fin cfg0.N)

theorem b0 (r : Fin 256) (k : Fin 2304) (h : k.val < 2240) : iblk m c 0 t (ix2 r k) = az m c (ix2 (rw' t r) ⟨k, h⟩) :=
  Eq.trans (b := V m c main_v31 (ix2 (rw' t r) k)) (by blk_ext [iblk, idx t]) (v31_at m c _ k h)

theorem b1 (r : Fin 8) (k : Fin 2304) (h : k.val < 2240) : iblk m c 1 t (ix2 r k) = az m c (ix2 ⟨(t.val * 32 - 1) * 8 + r.val, by have := lt32 t; omega⟩ ⟨k, h⟩) :=
  Eq.trans (b := V m c main_v31 (ix2 ⟨(t.val * 32 - 1) * 8 + r.val, by have := lt32 t; omega⟩ k)) (by blk_ext [iblk, idx t]) (v31_at m c _ k h)

theorem b2 (r : Fin 8) (k : Fin 2304) (h : k.val < 2240) : iblk m c 2 t (ix2 r k) = az m c (ix2 ⟨min ((t.val + 1) * 32) 1023 * 8 + r.val, by omega⟩ ⟨k, h⟩) :=
  Eq.trans (b := V m c main_v31 (ix2 ⟨min ((t.val + 1) * 32) 1023 * 8 + r.val, by omega⟩ k)) (by blk_ext [iblk, idx t]) (v31_at m c _ k h)

theorem b3 (r : Fin 256) (k : Fin 512) : iblk m c 3 t (ix2 r k) = adya m c (ix2 (rw' t r) k) := by
  blk_ext [iblk, V, idx t]

theorem b4 (r : Fin 8) (k : Fin 512) : iblk m c 4 t (ix2 r k) = adya m c (ix2 ⟨min ((t.val + 1) * 32) 1023 * 8 + r.val, by omega⟩ k) := by
  blk_ext [iblk, V, idx t]

theorem b5 (r : Fin 8) (k : Fin 512) (h : r.val < 3) : iblk m c 5 t (ix2 r k) = acw m c (ix2 ⟨r, h⟩ k) :=
  Eq.trans (b := V m c main_v21 (ix2 r k)) (by blk_ext [iblk, idx t]) (v21_at m c r k h)

theorem b6 (r : Fin 1) (k : Fin 384) : iblk m c 6 t (ix2 r k) = agq m c (ix2 r k) := by
  blk_ext [iblk, V, idx t]

theorem b7 (r : Fin 1) (k : Fin 256) : iblk m c 7 t (ix2 r k) = agkv m c (ix2 r k) := by
  blk_ext [iblk, V, idx t]

theorem b8 (r : Fin 1024) (k : Fin 384) : iblk m c 8 t (ix2 r k) = wuq (awq m c) r k :=
  Eq.trans (b := V m c main_v26 (ix2 r k)) (by blk_ext [iblk, idx t]) (v26_at m c r k)

theorem b9 (r : Fin 256) (k : Fin 1024) : iblk m c 9 t (ix2 r k) = awkv m c (ix2 r ⟨k.val / 128 % 4 * 256 + k.val / 512 * 128 + k.val % 128, by omega⟩) :=
  Eq.trans (b := V m c main_v30 (ix2 r k)) (by blk_ext [iblk, idx t]) (v30_at m c r k)

theorem b10 (r : Fin 256) (k : Fin 128) : iblk m c 10 t (ix2 r k) = CS (apos m c) (rw' t r) k :=
  Eq.trans (b := V m c main_v19 (ix2 (rw' t r) k)) (by blk_ext [iblk, idx t]) (v19_at m c _ k)

theorem b11 (r : Fin 256) (k : Fin 128) : iblk m c 11 t (ix2 r k) = SN (apos m c) (rw' t r) k :=
  Eq.trans (b := V m c main_v20 (ix2 (rw' t r) k)) (by blk_ext [iblk, idx t]) (v20_at m c _ k)

theorem b12 (r : Fin 256) (k : Fin 1024) : iblk m c 12 t (ix2 r k) = slot (adq m c) (rw' t r) k :=
  Eq.trans (b := V m c main_v34 (ix2 (rw' t r) k)) (by blk_ext [iblk, idx t]) (v34_at m c _ k)

theorem b13 (r : Fin 256) (k : Fin 1024) : iblk m c 13 t (ix2 r k) = slot (adk m c) (rw' t r) k :=
  Eq.trans (b := V m c main_v37 (ix2 (rw' t r) k)) (by blk_ext [iblk, idx t]) (v37_at m c _ k)

theorem b14 (r : Fin 256) (k : Fin 512) : iblk m c 14 t (ix2 r k) = adv m c (ix3 (rw' t r) ⟨k.val / 128, by omega⟩ ⟨k.val % 128, Nat.mod_lt _ (by omega)⟩) :=
  Eq.trans (b := V m c main_v39 (ix2 (rw' t r) k)) (by blk_ext [iblk, idx t]) (v39_at m c _ k)

end blocks

/-! The words the kernel compares. -/

theorem sel_eq {α : Type} (a b : ℕ) (ha : a < 2048) (hb : b < 2048) (x y : α) :
    Scalar.select (IntOp.cmpi .eq (BitVec.ofNat 32 a) (BitVec.ofNat 32 b)) x y = if a = b then x else y := by
  by_cases h : a = b
  · simp [h, IntOp.cmpi, Scalar.select]
  · have hn : (BitVec.ofNat 32 a == BitVec.ofNat 32 b) = false := beq_eq_false_iff_ne.2 fun e => h (by
      have e := congrArg BitVec.toNat e
      rwa [BitVec.toNat_ofNat, BitVec.toNat_ofNat, Nat.mod_eq_of_lt (by omega), Nat.mod_eq_of_lt (by omega)] at e)
    simp [h, IntOp.cmpi, Scalar.select, hn]

theorem slt_w : ∀ k : Fin 128, IntOp.cmpi .slt (BitVec.ofNat 32 k.val) 32#32 = (if k.val < 32 then 1#1 else 0#1) ∧
    IntOp.cmpi .slt (BitVec.ofNat 32 k.val) 64#32 = if k.val < 64 then 1#1 else 0#1 := by decide +kernel

theorem tile_w : ∀ t : Fin 32, Scalar.cmpi .sgt (BitVec.ofNat 32 t.val) 0#32 = (if 0 < t.val then 1#1 else 0#1) ∧
    Scalar.cmpi .slt (BitVec.ofNat 32 t.val) 31#32 = if t.val < 31 then 1#1 else 0#1 := by decide +kernel

end Cert.MixMidIdeal.Value
end
-- ==== Proof.MixMid.Points.lean ====
module

public import proofs.«01_k».proof.Proof.MixMid.Blocks

@[expose] public section

set_option maxRecDepth 16384

noncomputable section

open Idealize.ShloMosaic Idealize.ShloMosaic.TcCoe Idealize.SL.Sem
open Idealize.ShloMosaic.Pipeline (Dat)

namespace Cert.MixMidIdeal.Value

open Cert.MixMidIdeal Cert.MixMidIdeal.Gen

/-! The values a point computes, over operands that hold the arrays' rows. -/

section conv

variable (t : Fin cfg0.N) (v1 : FVec Ideal S256x512 .f32) (v2 v4 v50 : Vec Ideal S256x512 .f32) (v8 v10 v53 v54 : Vec Ideal S8x512 .f32)
  (f : Fin 8192 → EReal) (k : Fin 512)

theorem pay8_at (r : Fin 8) (h : ∀ (ht : 0 < t.val) (r : Fin 8), v8 (ix2 r k) * v10 (ix2 r k) = f ⟨t.val * 256 - 8 + r.val, by have := lt32 t; omega⟩) :
    k0_pay8 (grid0.coords t) v8 v10 (ix2 r k) = if h : 0 < t.val then f ⟨t.val * 256 - 8 + r.val, by have := lt32 t; omega⟩ else 0 := by
  pointwise [k0_pay8]
  rw [(idx t).2.2.2.2.2.2.2.2.2.2.2.2.2.2.2.2.2.2.2, (tile_w ⟨t.val, lt32 t⟩).1]
  by_cases ht : 0 < t.val
  · rw [if_pos ht, dif_pos ht, h ht]; rfl
  · rw [if_neg ht, dif_neg ht]; rfl

theorem pay9_at (r : Fin 256) (h : ∀ r, v2 (ix2 r k) * v4 (ix2 r k) = f (rw' t r))
    (h' : ∀ (ht : 0 < t.val) (r : Fin 8), v8 (ix2 r k) * v10 (ix2 r k) = f ⟨t.val * 256 - 8 + r.val, by have := lt32 t; omega⟩) :
    k0_pay9 (grid0.coords t) v2 v4 v8 v10 (ix2 r k) = bef 1 f (rw' t r) := by
  have h7 : ∀ r, k0_pay7 v2 v4 (ix2 r k) = f (rw' t r) := fun r => by rw [← h]; pointwise [k0_pay7, k0_pay5, k0_pay6]
  pointwise [k0_pay9]
  rw [sel_eq _ 0 (by omega) (by omega), pay8_at t v8 v10 f k 7 h', h7, bef]
  have hr := r.isLt
  by_cases h0 : r.val = 0
  · rw [if_pos h0]
    by_cases ht : 0 < t.val
    · rw [dif_pos ht, dif_pos (by show 1 ≤ t.val * 256 + r.val; omega)]
      exact congrArg f (Fin.ext (by show t.val * 256 - 8 + 7 = t.val * 256 + r.val - 1; omega))
    · rw [dif_neg ht, dif_neg (by show ¬ 1 ≤ t.val * 256 + r.val; omega)]
  · rw [if_neg h0, dif_pos (by show 1 ≤ t.val * 256 + r.val; omega)]
    exact congrArg f (Fin.ext (by show t.val * 256 + (r.val + 256 - 1) % 256 = t.val * 256 + r.val - 1; omega))

theorem pay10_at (r : Fin 256) (h : ∀ r, v2 (ix2 r k) * v4 (ix2 r k) = f (rw' t r))
    (h' : ∀ (ht : 0 < t.val) (r : Fin 8), v8 (ix2 r k) * v10 (ix2 r k) = f ⟨t.val * 256 - 8 + r.val, by have := lt32 t; omega⟩) :
    k0_pay10 (grid0.coords t) v2 v4 v8 v10 (ix2 r k) = bef 2 f (rw' t r) := by
  have h7 : ∀ r, k0_pay7 v2 v4 (ix2 r k) = f (rw' t r) := fun r => by rw [← h]; pointwise [k0_pay7, k0_pay5, k0_pay6]
  pointwise [k0_pay10]
  rw [sel_eq _ 0 (by omega) (by omega), sel_eq _ 1 (by omega) (by omega), pay8_at t v8 v10 f k 6 h', pay8_at t v8 v10 f k 7 h', h7, bef]
  have hr := r.isLt
  by_cases h0 : r.val < 2
  · by_cases ht : 0 < t.val
    · rw [dif_pos ht, dif_pos ht, dif_pos (by show 2 ≤ t.val * 256 + r.val; omega)]
      by_cases h1 : r.val = 0
      · rw [if_pos h1]; exact congrArg f (Fin.ext (by show t.val * 256 - 8 + 6 = t.val * 256 + r.val - 2; omega))
      · rw [if_neg h1, if_pos (by omega)]; exact congrArg f (Fin.ext (by show t.val * 256 - 8 + 7 = t.val * 256 + r.val - 2; omega))
    · rw [dif_neg ht, dif_neg ht, dif_neg (by show ¬ 2 ≤ t.val * 256 + r.val; omega)]
      by_cases h1 : r.val = 0
      · rw [if_pos h1]
      · rw [if_neg h1, if_pos (by omega)]
  · rw [if_neg (by omega), if_neg (by omega), dif_pos (by show 2 ≤ t.val * 256 + r.val; omega)]
    exact congrArg f (Fin.ext (by show t.val * 256 + (r.val + 256 - 2) % 256 = t.val * 256 + r.val - 2; omega))

theorem pay16_at (r : Fin 8) (h : ∀ (ht : t.val < 31) (r : Fin 8), v53 (ix2 r k) * v54 (ix2 r k) = f ⟨(t.val + 1) * 256 + r.val, by omega⟩) :
    k0_pay16 (BitVec.ofNat 32 (grid0.coords t 0).val) v53 v54 (ix2 r k) = if h : t.val < 31 then f ⟨(t.val + 1) * 256 + r.val, by omega⟩ else 0 := by
  pointwise [k0_pay16]
  rw [(idx t).2.2.2.2.2.2.2.2.2.2.2.2.2.2.2.2.2.2.2, (tile_w ⟨t.val, lt32 t⟩).2]
  by_cases ht : t.val < 31
  · rw [if_pos ht, dif_pos ht, h ht]; rfl
  · rw [if_neg ht, dif_neg ht]; rfl

theorem pay17_at (r : Fin 256) (h : ∀ r, v50 (ix2 r k) * v1 (ix2 r k) = f (rw' t r))
    (h' : ∀ (ht : t.val < 31) (r : Fin 8), v53 (ix2 r k) * v54 (ix2 r k) = f ⟨(t.val + 1) * 256 + r.val, by omega⟩) :
    k0_pay17 (BitVec.ofNat 32 (grid0.coords t 0).val) v1 (iota Kind.tc S256x512 32 [0] iota_S256x512_d0_w32) v50 v53 v54 (ix2 r k) = aft 2 f (rw' t r) := by
  have h15 : ∀ r, k0_pay15 v1 v50 (ix2 r k) = f (rw' t r) := fun r => by rw [← h]; pointwise [k0_pay15]
  have := lt32 t
  pointwise [k0_pay17]
  rw [sel_eq _ 255 (by omega) (by omega), sel_eq _ 254 (by omega) (by omega), pay16_at t v53 v54 f k 0 h', pay16_at t v53 v54 f k 1 h', h15, aft]
  have hr := r.isLt
  by_cases h0 : 254 ≤ r.val
  · by_cases ht : t.val < 31
    · rw [dif_pos ht, dif_pos ht, dif_pos (by show t.val * 256 + r.val + 2 < 8192; omega)]
      by_cases h1 : r.val = 255
      · rw [if_pos h1]; exact congrArg f (Fin.ext (by show (t.val + 1) * 256 + 1 = t.val * 256 + r.val + 2; omega))
      · rw [if_neg h1, if_pos (by omega)]; exact congrArg f (Fin.ext (by show (t.val + 1) * 256 + 0 = t.val * 256 + r.val + 2; omega))
    · rw [dif_neg ht, dif_neg ht, dif_neg (by show ¬ t.val * 256 + r.val + 2 < 8192; omega)]
      by_cases h1 : r.val = 255
      · rw [if_pos h1]
      · rw [if_neg h1, if_pos (by omega)]
  · rw [if_neg (by omega), if_neg (by omega), dif_pos (by show t.val * 256 + r.val + 2 < 8192; omega)]
    exact congrArg f (Fin.ext (by show t.val * 256 + (r.val + 256 - 254) % 256 = t.val * 256 + r.val + 2; omega))

theorem pay19_at (v38 : Vec Ideal S1x512 .f32) (r : Fin 256) (h : ∀ r, v50 (ix2 r k) * v1 (ix2 r k) = f (rw' t r))
    (h' : ∀ (ht : t.val < 31) (r : Fin 8), v53 (ix2 r k) * v54 (ix2 r k) = f ⟨(t.val + 1) * 256 + r.val, by omega⟩) :
    k0_pay19 (BitVec.ofNat 32 (grid0.coords t 0).val) v1 (iota Kind.tc S256x512 32 [0] iota_S256x512_d0_w32) v38 v50 v53 v54 (ix2 r k)
      = v38 (ix2 0 k) * aft 1 f (rw' t r) := by
  have h15 : ∀ r, k0_pay15 v1 v50 (ix2 r k) = f (rw' t r) := fun r => by rw [← h]; pointwise [k0_pay15]
  have h12 : k0_pay12 v38 (ix2 0 k) = v38 (ix2 0 k) := by pointwise [k0_pay12]
  have := lt32 t
  pointwise [k0_pay19]
  rw [h12, sel_eq _ 255 (by omega) (by omega), pay16_at t v53 v54 f k 0 h', h15, aft]
  refine congrArg (v38 (ix2 0 k) * ·) ?_
  have hr := r.isLt
  by_cases h0 : r.val = 255
  · rw [if_pos h0]
    by_cases ht : t.val < 31
    · rw [dif_pos ht, dif_pos (by show t.val * 256 + r.val + 1 < 8192; omega)]
      exact congrArg f (Fin.ext (by show (t.val + 1) * 256 + 0 = t.val * 256 + r.val + 1; omega))
    · rw [dif_neg ht, dif_neg (by show ¬ t.val * 256 + r.val + 1 < 8192; omega)]
  · rw [if_neg h0, dif_pos (by show t.val * 256 + r.val + 1 < 8192; omega)]
    exact congrArg f (Fin.ext (by show t.val * 256 + (r.val + 256 - 255) % 256 = t.val * 256 + r.val + 1; omega))

end conv

section rope

/-- Two values selected by a column's place. -/
theorem sel_cols (k : Fin 128) (a b : EReal) :
    Scalar.select (IntOp.cmpi .slt (BitVec.ofNat 32 k.val) 32#32) a (Scalar.select (IntOp.cmpi .slt (BitVec.ofNat 32 k.val) 64#32) b 0)
      = if k.val < 32 then a else if k.val < 64 then b else 0 := by
  rw [(slt_w k).1, (slt_w k).2]
  split_ifs <;> rfl

variable (v98 v100 : FVec Ideal S256x128 .f32) (v99 : Vec Ideal S256x128 .f32) (v134 : Vec Ideal S256x128 .bf16) (v217 : FVec Ideal S256x128 .f32) (r : Fin 256) (k : Fin 128)

abbrev cols : IVec S256x128 32 := iota Kind.tc S256x128 32 [1] iota_S256x128_d1_w32

theorem pay38_at : k0_pay38 cols v98 v100 v134 (ix2 r k) = rot (fun k => v134 (ix2 r k)) (fun k => v98 (ix2 r k)) (fun k => v100 (ix2 r k)) k := by
  rw [rot, ← sel_cols]; pointwise [k0_pay38]

theorem pay42_at : k0_pay42 cols v98 v100 v134 (ix2 r k) = rot (fun k => v134 (ix2 r k)) (fun k => v98 (ix2 r k)) (fun k => v100 (ix2 r k)) k := by
  rw [rot, ← sel_cols]; pointwise [k0_pay42]

theorem pay46_at : k0_pay46 cols v98 v100 v134 (ix2 r k) = rot (fun k => v134 (ix2 r k)) (fun k => v98 (ix2 r k)) (fun k => v100 (ix2 r k)) k := by
  rw [rot, ← sel_cols]; pointwise [k0_pay46]

theorem pay34_at : k0_pay34 v98 (k0_pay28 v134) k0_pay30 (k0_pay31 v99 v134) k0_pay32 (k0_pay33 v99 v134) (ix2 r k)
    = rot (fun k => v134 (ix2 r k)) (fun k => v98 (ix2 r k)) (fun k => v99 (ix2 r k)) k := by
  rw [rot, ← sel_cols]; pointwise [k0_pay34, k0_pay28, k0_pay30, k0_pay31, k0_pay32, k0_pay33, k0_pay29, k0_pay25]

theorem pay68_at : k0_pay68 v98 v217 (k0_pay64 cols) (k0_pay65 v100 v217) (k0_pay66 cols) (k0_pay67 v100 v217) (ix2 r k)
    = rot (fun k => v217 (ix2 r k)) (fun k => v98 (ix2 r k)) (fun k => v100 (ix2 r k)) k := by
  rw [rot, ← sel_cols]; pointwise [k0_pay68, k0_pay64, k0_pay65, k0_pay66, k0_pay67, k0_pay63]

theorem pay24_at : k0_pay24 v99 (ix2 r k) = v99 (ix2 r k) := by pointwise [k0_pay24]
theorem pay25_at : k0_pay25 v99 (ix2 r k) = v99 (ix2 r k) := by pointwise [k0_pay25]

theorem pay49_at (a b d e : Vec Ideal S256x128 .bf16) : k0_pay49 (k0_pay44 (k0_pay40 (k0_pay36 k0_pay26 a) b) d) (k0_pay48 e) (ix2 r k)
    = 0 + a (ix2 r k) + b (ix2 r k) + d (ix2 r k) + e (ix2 r k) := by
  pointwise [k0_pay49, k0_pay44, k0_pay40, k0_pay36, k0_pay26, k0_pay48]

end rope

section latents

variable (v221 : Vec Ideal S256x1024 .bf16) (v223 : Vec Ideal S1024x384 .bf16) (v226 : Vec Ideal S256x384 .f32) (v228 : Vec Ideal S1x384 .f32)
  (v254 v256 : Vec Ideal S256x1024 .bf16) (v259 : Vec Ideal S256x256 .f32) (v261 : Vec Ideal S1x256 .f32) (r : Fin 256)

theorem pay51_at (k : Fin 384) : k0_pay51 v221 v223 (ix2 r k) = ∑ n : Fin 1024, v221 (ix2 r n) * v223 (ix2 n k) := by pointwise [k0_pay51]
theorem pay57_at (k : Fin 256) : k0_pay57 v254 v256 (ix2 r k) = ∑ n : Fin 1024, v254 (ix2 r n) * v256 (ix2 k n) := by pointwise [k0_pay57]

theorem pay54_at (k : Fin 384) : k0_pay54 v226 (ix2 r k) = v226 (ix2 r k) * irms L384 (fun k => v226 (ix2 r k)) := by
  rw [irms]; pointwise [k0_pay54, k0_pay53, k0_pay52]

theorem pay60_at (k : Fin 256) : k0_pay60 v259 (ix2 r k) = v259 (ix2 r k) * irms L256 (fun k => v259 (ix2 r k)) := by
  rw [irms]; pointwise [k0_pay60, k0_pay59, k0_pay58]

theorem pay55_at (k : Fin 384) : k0_pay55 v221 v223 v226 (ix2 r k) = k0_pay51 v221 v223 (ix2 r k) * k0_pay54 v226 (ix2 r k) := by pointwise [k0_pay55]
theorem pay61_at (k : Fin 256) : k0_pay61 v254 v256 v259 (ix2 r k) = k0_pay57 v254 v256 (ix2 r k) * k0_pay60 v259 (ix2 r k) := by pointwise [k0_pay61]

theorem pay56_at (k : Fin 384) : k0_pay56 v221 v223 v226 v228 (ix2 r k)
    = lat L384 (fun k => v226 (ix2 r k)) (fun k => k0_pay51 v221 v223 (ix2 r k) * v228 (ix2 0 k)) k := by
  pointwise [k0_pay56, k0_pay53, k0_pay52]
  simp only [pay54_at, lat, irms]

theorem pay62_at (k : Fin 256) : k0_pay62 v254 v256 v259 v261 (ix2 r k)
    = lat L256 (fun k => v259 (ix2 r k)) (fun k => k0_pay57 v254 v256 (ix2 r k) * v261 (ix2 0 k)) k := by
  pointwise [k0_pay62, k0_pay59, k0_pay58]
  simp only [pay60_at, lat, irms]

end latents

end Cert.MixMidIdeal.Value
end
-- ==== Proof.MixMid.Value.lean ====
module

public import proofs.«01_k».proof.Proof.MixMid.Points

@[expose] public section

set_option maxRecDepth 16384

noncomputable section

open Idealize.ShloMosaic Idealize.ShloMosaic.TcCoe Idealize.SL.Sem
open Idealize.ShloMosaic.Pipeline (Dat)

namespace Cert.MixMidIdeal.Value

open Cert.MixMidIdeal Cert.MixMidIdeal.Gen

/-! The four results after the run. -/

variable (m : (ℓ : Loc nD τ sig) → Buf (Elt Ideal) ℓ)

section loads

variable (c : Dev nD) (t : Fin cfg0.N)

/-- The bands of the projections' rows a point reads, of the eight rows before and of those behind. -/
theorem z_ld {w : ℕ} (o : ℕ) (inb) (r : Fin 256) (k : Fin w) (h : o + k.val < 2240) :
    View.ld (Val := Elt Ideal) (e' := .f32) (iblk m c 0 t) (Rect.unit (s := S256x2304) ![0, o] ![256, w] inb) (ix2 r k) = az m c (ix2 (rw' t r) ⟨o + k, h⟩) :=
  (Cert.Shared.band_ld _ o inb r k ⟨o + k, by omega⟩ rfl).trans (b0 m c t r _ h)

theorem zp_ld {w : ℕ} (o : ℕ) (inb) (ht : 0 < t.val) (r : Fin 8) (k : Fin w) (h : o + k.val < 2240) :
    View.ld (Val := Elt Ideal) (e' := .f32) (iblk m c 1 t) (Rect.unit (s := S8x2304) ![0, o] ![8, w] inb) (ix2 r k)
      = az m c (ix2 ⟨t.val * 256 - 8 + r.val, by have := lt32 t; omega⟩ ⟨o + k, h⟩) :=
  ((Cert.Shared.band_ld _ o inb r k ⟨o + k, by omega⟩ rfl).trans (b1 m c t r _ h)).trans
    (congrArg (fun i => az m c (ix2 i ⟨o + k, h⟩)) (Fin.ext (by show (t.val * 32 - 1) * 8 + r.val = t.val * 256 - 8 + r.val; omega)))

theorem zn_ld {w : ℕ} (o : ℕ) (inb) (ht : t.val < 31) (r : Fin 8) (k : Fin w) (h : o + k.val < 2240) :
    View.ld (Val := Elt Ideal) (e' := .f32) (iblk m c 2 t) (Rect.unit (s := S8x2304) ![0, o] ![8, w] inb) (ix2 r k)
      = az m c (ix2 ⟨(t.val + 1) * 256 + r.val, by omega⟩ ⟨o + k, h⟩) :=
  ((Cert.Shared.band_ld _ o inb r k ⟨o + k, by omega⟩ rfl).trans (b2 m c t r _ h)).trans
    (congrArg (fun i => az m c (ix2 i ⟨o + k, h⟩)) (Fin.ext (by show min ((t.val + 1) * 32) 1023 * 8 + r.val = (t.val + 1) * 256 + r.val; omega)))

/-- A tap's row. -/
theorem cw_ld (a : ℕ) (ha : a < 3) (inb) (k : Fin 512) :
    View.ld (Val := Elt Ideal) (e' := .f32) (iblk m c 5 t) (Rect.unit (s := S8x512) ![a, 0] ![1, 512] inb) (ix2 0 k) = acw m c (ix2 ⟨a, ha⟩ k) := by
  refine Eq.trans (congrArg (iblk m c 5 t) (funext fun b => Fin.ext ?_)) (b5 m c t ⟨a, by omega⟩ k ha)
  match b with
  | 0 => show a + 1 * 0 = a; omega
  | 1 => show 0 + 1 * k.val = k.val; omega

abbrev xb : FVec Ideal S256x512 .f32 := View.ld (Val := Elt Ideal) (e' := .f32) (iblk m c 0 t) (Rect.unit (s := S256x2304) ![0, 0] ![256, 512] inb_S256x2304_S256x512_0_0)
abbrev xc : FVec Ideal S256x512 .f32 := View.ld (Val := Elt Ideal) (e' := .f32) (iblk m c 0 t) (Rect.unit (s := S256x2304) ![0, 512] ![256, 512] inb_S256x2304_S256x512_0_512)
abbrev xu : FVec Ideal S256x512 .f32 := View.ld (Val := Elt Ideal) (e' := .f32) (iblk m c 0 t) (Rect.unit (s := S256x2304) ![0, 1024] ![256, 512] inb_S256x2304_S256x512_0_1024)
abbrev pc : FVec Ideal S8x512 .f32 := View.ld (Val := Elt Ideal) (e' := .f32) (iblk m c 1 t) (Rect.unit (s := S8x2304) ![0, 512] ![8, 512] inb_S8x2304_S8x512_0_512)
abbrev pu : FVec Ideal S8x512 .f32 := View.ld (Val := Elt Ideal) (e' := .f32) (iblk m c 1 t) (Rect.unit (s := S8x2304) ![0, 1024] ![8, 512] inb_S8x2304_S8x512_0_1024)
abbrev nb : FVec Ideal S8x512 .f32 := View.ld (Val := Elt Ideal) (e' := .f32) (iblk m c 2 t) (Rect.unit (s := S8x2304) ![0, 0] ![8, 512] inb_S8x2304_S8x512_0_0)
abbrev w0 : FVec Ideal S1x512 .f32 := View.ld (Val := Elt Ideal) (e' := .f32) (iblk m c 5 t) (Rect.unit (s := S8x512) ![0, 0] ![1, 512] inb_S8x512_S1x512_0_0)
abbrev w1 : FVec Ideal S1x512 .f32 := View.ld (Val := Elt Ideal) (e' := .f32) (iblk m c 5 t) (Rect.unit (s := S8x512) ![1, 0] ![1, 512] inb_S8x512_S1x512_1_0)
abbrev w2 : FVec Ideal S1x512 .f32 := View.ld (Val := Elt Ideal) (e' := .f32) (iblk m c 5 t) (Rect.unit (s := S8x512) ![2, 0] ![1, 512] inb_S8x512_S1x512_2_0)
abbrev cq : FVec Ideal S256x384 .f32 := View.ld (Val := Elt Ideal) (e' := .f32) (iblk m c 0 t) (Rect.unit (s := S256x2304) ![0, 1536] ![256, 384] inb_S256x2304_S256x384_0_1536)
abbrev ckv : FVec Ideal S256x256 .f32 := View.ld (Val := Elt Ideal) (e' := .f32) (iblk m c 0 t) (Rect.unit (s := S256x2304) ![0, 1920] ![256, 256] inb_S256x2304_S256x256_0_1920)

theorem w0_at (k : Fin 512) : w0 m c t (ix2 0 k) = acw m c (ix2 0 k) := cw_ld m c t 0 (by omega) _ k
theorem w1_at (k : Fin 512) : w1 m c t (ix2 0 k) = acw m c (ix2 1 k) := cw_ld m c t 1 (by omega) _ k
theorem w2_at (k : Fin 512) : w2 m c t (ix2 0 k) = acw m c (ix2 2 k) := cw_ld m c t 2 (by omega) _ k

theorem xb_at (r : Fin 256) (k : Fin 512) : xb m c t (ix2 r k) = az m c (ix2 (rw' t r) ⟨k, by omega⟩) :=
  (z_ld m c t 0 _ r k (by omega)).trans (congrArg (fun k => az m c (ix2 (rw' t r) k)) (Fin.ext (zero_add k.val)))

theorem nb_at (ht : t.val < 31) (r : Fin 8) (k : Fin 512) : nb m c t (ix2 r k) = az m c (ix2 ⟨(t.val + 1) * 256 + r.val, by omega⟩ ⟨k, by omega⟩) :=
  (zn_ld m c t 0 _ ht r k (by omega)).trans (congrArg (fun k => az m c (ix2 _ k)) (Fin.ext (zero_add k.val)))

theorem u_at (r : Fin 256) (k : Fin 512) : xc m c t (ix2 r k) * xu m c t (ix2 r k) = UU (az m c) k (rw' t r) :=
  congrArg₂ (fun a b : EReal => a * b) (z_ld m c t 512 _ r k (by omega)) (z_ld m c t 1024 _ r k (by omega))

theorem up_at (k : Fin 512) (ht : 0 < t.val) (r : Fin 8) : pc m c t (ix2 r k) * pu m c t (ix2 r k) = UU (az m c) k ⟨t.val * 256 - 8 + r.val, by have := lt32 t; omega⟩ :=
  congrArg₂ (fun a b : EReal => a * b) (zp_ld m c t 512 _ ht r k (by omega)) (zp_ld m c t 1024 _ ht r k (by omega))

theorem dy_at (k : Fin 512) (r : Fin 256) : (show FVec Ideal S256x512 .f32 from iblk m c 3 t) (ix2 r k) * k0_pay4 (F := Ideal) (xb m c t) (ix2 r k) = DY (az m c) (adya m c) k (rw' t r) :=
  congrArg₂ (fun a b : EReal => a * b) (b3 m c t r k) (Eq.trans (by pointwise [k0_pay4]) (xb_at m c t r k))

theorem dyn_at (k : Fin 512) (ht : t.val < 31) (r : Fin 8) : (show FVec Ideal S8x512 .f32 from iblk m c 4 t) (ix2 r k) * nb m c t (ix2 r k) = DY (az m c) (adya m c) k ⟨(t.val + 1) * 256 + r.val, by omega⟩ :=
  congrArg₂ (fun a b : EReal => a * b) ((b4 m c t r k).trans (congrArg (fun i => adya m c (ix2 i k))
    (Fin.ext (by show min ((t.val + 1) * 32) 1023 * 8 + r.val = (t.val + 1) * 256 + r.val; omega)))) (nb_at m c t ht r k)

/-- The values of the convolution a point computes. -/
theorem u0_at (r : Fin 256) (k : Fin 512) : k0_pay7 (F := Ideal) (xc m c t) (xu m c t) (ix2 r k) = UU (az m c) k (rw' t r) := by
  rw [← u_at]; pointwise [k0_pay7, k0_pay5, k0_pay6]

theorem u1_at (r : Fin 256) (k : Fin 512) : k0_pay9 (F := Ideal) (grid0.coords t) (xc m c t) (xu m c t) (pc m c t) (pu m c t) (ix2 r k) = bef 1 (UU (az m c) k) (rw' t r) :=
  pay9_at t _ _ _ _ _ k r (fun r => u_at m c t r k) (up_at m c t k)

theorem u2_at (r : Fin 256) (k : Fin 512) : k0_pay10 (F := Ideal) (grid0.coords t) (xc m c t) (xu m c t) (pc m c t) (pu m c t) (ix2 r k) = bef 2 (UU (az m c) k) (rw' t r) :=
  pay10_at t _ _ _ _ _ k r (fun r => u_at m c t r k) (up_at m c t k)

theorem dy0_at (r : Fin 256) (k : Fin 512) : k0_pay15 (F := Ideal) (k0_pay4 (F := Ideal) (xb m c t)) (iblk m c 3 t) (ix2 r k) = DY (az m c) (adya m c) k (rw' t r) := by
  rw [← dy_at]; pointwise [k0_pay15]

theorem pay14_at (v6 v22 v35 : FVec Ideal S256x512 .f32) (v36 v38 v40 : Vec Ideal S1x512 .f32) (r : Fin 256) (k : Fin 512) :
    k0_pay14 (F := Ideal) v6 v22 v35 (k0_pay11 (F := Ideal) v36) v38 v40 (ix2 r k) = v36 (ix2 0 k) * v35 (ix2 r k) + v38 (ix2 0 k) * v22 (ix2 r k) + v40 (ix2 0 k) * v6 (ix2 r k) := by
  pointwise [k0_pay14, k0_pay11, k0_pay12, k0_pay13]

theorem yy_at (r : Fin 256) (k : Fin 512) : k0_pay14 (F := Ideal) (k0_pay7 (F := Ideal) (xc m c t) (xu m c t)) (k0_pay9 (F := Ideal) (grid0.coords t) (xc m c t) (xu m c t) (pc m c t) (pu m c t))
    (k0_pay10 (F := Ideal) (grid0.coords t) (xc m c t) (xu m c t) (pc m c t) (pu m c t)) (k0_pay11 (F := Ideal) (w0 m c t)) (w1 m c t) (w2 m c t) (ix2 r k) = YY (az m c) (acw m c) (rw' t r) k := by
  rw [pay14_at, u0_at, u1_at, u2_at, w0_at, w1_at, w2_at]
  rfl

abbrev rws : IVec S256x512 32 := iota Kind.tc S256x512 32 [0] iota_S256x512_d0_w32
abbrev dy2 : FVec Ideal S256x512 .f32 := k0_pay17 (F := Ideal) (BitVec.ofNat 32 (grid0.coords t 0).val) (k0_pay4 (F := Ideal) (xb m c t)) rws (iblk m c 3 t) (iblk m c 4 t) (nb m c t)
abbrev wd0 : FVec Ideal S256x512 .f32 := k0_pay18 (F := Ideal) (k0_pay4 (F := Ideal) (xb m c t)) (w2 m c t) (iblk m c 3 t)
abbrev wd1 : FVec Ideal S256x512 .f32 := k0_pay19 (F := Ideal) (BitVec.ofNat 32 (grid0.coords t 0).val) (k0_pay4 (F := Ideal) (xb m c t)) rws (w1 m c t) (iblk m c 3 t) (iblk m c 4 t) (nb m c t)

theorem wd0_at (r : Fin 256) (k : Fin 512) : wd0 m c t (ix2 r k) = acw m c (ix2 2 k) * DY (az m c) (adya m c) k (rw' t r) := by
  refine Eq.trans (b := w2 m c t (ix2 0 k) * k0_pay15 (F := Ideal) (k0_pay4 (F := Ideal) (xb m c t)) (iblk m c 3 t) (ix2 r k)) (by pointwise [k0_pay18, k0_pay13]) ?_
  rw [dy0_at, w2_at]

theorem dy2_at (r : Fin 256) (k : Fin 512) : dy2 m c t (ix2 r k) = aft 2 (DY (az m c) (adya m c) k) (rw' t r) :=
  pay17_at t _ _ _ _ _ k r (dy_at m c t k) (dyn_at m c t k)

theorem wd1_at (r : Fin 256) (k : Fin 512) : wd1 m c t (ix2 r k) = acw m c (ix2 1 k) * aft 1 (DY (az m c) (adya m c) k) (rw' t r) :=
  (pay19_at t _ _ _ _ _ k _ r (dy_at m c t k) (dyn_at m c t k)).trans (congrArg (fun a : EReal => a * _) (w1_at m c t k))

theorem du_at (r : Fin 256) (k : Fin 512) : k0_pay20 (F := Ideal) (k0_pay11 (F := Ideal) (w0 m c t)) (dy2 m c t) (wd0 m c t) (wd1 m c t) (ix2 r k) = DU (az m c) (adya m c) (acw m c) (rw' t r) k := by
  refine Eq.trans (b := wd0 m c t (ix2 r k) + wd1 m c t (ix2 r k) + w0 m c t (ix2 0 k) * dy2 m c t (ix2 r k)) (by pointwise [k0_pay20, k0_pay11]) ?_
  rw [wd0_at, wd1_at, dy2_at, w0_at]
  rfl

theorem pay22_at (v5 : Vec Ideal S256x512 .f32) (v37 : FVec Ideal S1x512 .f32) (a b d : FVec Ideal S256x512 .f32) (r : Fin 256) (k : Fin 512) :
    k0_pay22 (F := Ideal) (k0_pay6 (F := Ideal) v5) v37 a b d (ix2 r k) = k0_pay20 (F := Ideal) v37 a b d (ix2 r k) * v5 (ix2 r k) := by pointwise [k0_pay22, k0_pay6]

theorem pay23_at (v5 : Vec Ideal S256x512 .f32) (v37 : FVec Ideal S1x512 .f32) (a b d : FVec Ideal S256x512 .f32) (r : Fin 256) (k : Fin 512) :
    k0_pay23 (F := Ideal) (k0_pay5 (F := Ideal) v5) v37 a b d (ix2 r k) = k0_pay20 (F := Ideal) v37 a b d (ix2 r k) * v5 (ix2 r k) := by pointwise [k0_pay23, k0_pay5]

theorem pay21_at (v49 : FVec Ideal S256x512 .f32) (v50 : Vec Ideal S256x512 .f32) (r : Fin 256) (k : Fin 512) :
    k0_pay21 (F := Ideal) v49 v50 (ix2 r k) = v50 (ix2 r k) * v49 (ix2 r k) := by pointwise [k0_pay21]

/-- A slot of a head's gradient, of the queries and of the keys. -/
abbrev sq (o : ℕ) (inb : ∀ a, (![0, o] : Fin 2 → Nat) a + S256x128.size a ≤ S256x1024.size a) : FVec Ideal S256x128 .bf16 := View.ld (Val := Elt Ideal) (e' := .bf16) (iblk m c 12 t) (Rect.unit (s := S256x1024) ![0, o] ![256, 128] inb)
abbrev sk (o : ℕ) (inb : ∀ a, (![0, o] : Fin 2 → Nat) a + S256x128.size a ≤ S256x1024.size a) : FVec Ideal S256x128 .bf16 := View.ld (Val := Elt Ideal) (e' := .bf16) (iblk m c 13 t) (Rect.unit (s := S256x1024) ![0, o] ![256, 128] inb)

theorem sq_at (o : ℕ) (inb) (r : Fin 256) (k : Fin 128) (h : o + k.val < 1024) : sq m c t o inb (ix2 r k) = slot (adq m c) (rw' t r) ⟨o + k, h⟩ :=
  (Cert.Shared.band_ld _ o inb r k ⟨o + k, h⟩ rfl).trans (b12 m c t r _)

theorem sk_at (o : ℕ) (inb) (r : Fin 256) (k : Fin 128) (h : o + k.val < 1024) : sk m c t o inb (ix2 r k) = slot (adk m c) (rw' t r) ⟨o + k, h⟩ :=
  (Cert.Shared.band_ld _ o inb r k ⟨o + k, h⟩ rfl).trans (b13 m c t r _)

/-- The rotated part of a slot, and the part that is not. -/
theorem DQF_rot (i : Fin 8192) (h : Fin 4) (k : Fin 128) (o : ℕ) (ho : o = h.val * 256 + 128) (hk : o + k.val < 1024) : DQF (apos m c) (adq m c) (ix2 i ⟨o + k, hk⟩)
    = rot (fun k => slot (adq m c) i ⟨o + k.val, by omega⟩) (CS (apos m c) i) (SN (apos m c) i) k := by
  subst ho
  refine (if_neg (by show ¬ (h.val * 256 + 128 + k.val) % 256 < 128; omega)).trans ?_
  refine congr (congr (congr (congrArg rot (funext fun x => congrArg (slot (adq m c) i) (Fin.ext ?_))) rfl) rfl) (Fin.ext ?_)
  · show (h.val * 256 + 128 + k.val) / 256 * 256 + (128 + x.val) = h.val * 256 + 128 + x.val; omega
  · show (h.val * 256 + 128 + k.val) % 256 - 128 = k.val; omega

theorem DQF_copy (i : Fin 8192) (h : Fin 4) (k : Fin 128) (o : ℕ) (ho : o = h.val * 256) (hk : o + k.val < 1024) : DQF (apos m c) (adq m c) (ix2 i ⟨o + k, hk⟩)
    = slot (adq m c) i ⟨o + k.val, hk⟩ := by
  subst ho
  exact if_pos (by show (h.val * 256 + k.val) % 256 < 128; omega)

/-- The same read by a point. -/
theorem rot_at (g : FVec Ideal S256x128 .bf16) (o : ℕ) (h : Fin 4) (ho : o = h.val * 256 + 128) (r : Fin 256) (k : Fin 128) (hk : o + k.val < 1024)
    (hg : ∀ (k : Fin 128) (hk : o + k.val < 1024), g (ix2 r k) = slot (adq m c) (rw' t r) ⟨o + k, hk⟩) (v100 : FVec Ideal S256x128 .f32)
    (hv : ∀ k : Fin 128, v100 (ix2 r k) = iblk m c 11 t (ix2 r k)) :
    rot (fun k => g (ix2 r k)) (fun k => k0_pay24 (F := Ideal) (iblk m c 10 t) (ix2 r k)) (fun k => v100 (ix2 r k)) k = DQF (apos m c) (adq m c) (ix2 (rw' t r) ⟨o + k, hk⟩) := by
  rw [DQF_rot m c (rw' t r) h k o ho hk]
  refine congr (congr (congr (congrArg rot (funext fun x => hg x (by omega))) (funext fun x => ?_)) (funext fun x => ?_)) rfl
  · exact (pay24_at _ r x).trans (b10 m c t r x)
  · exact (hv x).trans (b11 m c t r x)

/-- The slots that are copied. -/
theorem copies (a : Vec Ideal S256x128 .bf16) (r : Fin 256) (k : Fin 128) :
    k0_pay27 a (ix2 r k) = a (ix2 r k) ∧ k0_pay35 a (ix2 r k) = a (ix2 r k) ∧ k0_pay37 a (ix2 r k) = a (ix2 r k) ∧ k0_pay39 a (ix2 r k) = a (ix2 r k) ∧ k0_pay41 a (ix2 r k) = a (ix2 r k) ∧ k0_pay43 a (ix2 r k) = a (ix2 r k) ∧ k0_pay45 a (ix2 r k) = a (ix2 r k) ∧ k0_pay47 a (ix2 r k) = a (ix2 r k) := by
  refine ⟨?_, ?_, ?_, ?_, ?_, ?_, ?_, ?_⟩
  · pointwise [k0_pay27]
  · pointwise [k0_pay35]
  · pointwise [k0_pay37]
  · pointwise [k0_pay39]
  · pointwise [k0_pay41]
  · pointwise [k0_pay43]
  · pointwise [k0_pay45]
  · pointwise [k0_pay47]

/-- The queries' gradient a point writes. -/
abbrev dqfL : List (View.Piece (Elt Ideal) S256x1024 .bf16) :=
  [⟨Rect.unit ![0, 896] ![256, 128] inb_S256x1024_S256x128_0_896, k0_pay46 (F := Ideal) cols (k0_pay24 (F := Ideal) (iblk m c 10 t)) (k0_pay25 (F := Ideal) (iblk m c 11 t)) (sq m c t 896 inb_S256x1024_S256x128_0_896)⟩,
    ⟨Rect.unit ![0, 768] ![256, 128] inb_S256x1024_S256x128_0_768, k0_pay45 (F := Ideal) (sq m c t 768 inb_S256x1024_S256x128_0_768)⟩,
    ⟨Rect.unit ![0, 640] ![256, 128] inb_S256x1024_S256x128_0_640, k0_pay42 (F := Ideal) cols (k0_pay24 (F := Ideal) (iblk m c 10 t)) (k0_pay25 (F := Ideal) (iblk m c 11 t)) (sq m c t 640 inb_S256x1024_S256x128_0_640)⟩,
    ⟨Rect.unit ![0, 512] ![256, 128] inb_S256x1024_S256x128_0_512, k0_pay41 (F := Ideal) (sq m c t 512 inb_S256x1024_S256x128_0_512)⟩,
    ⟨Rect.unit ![0, 384] ![256, 128] inb_S256x1024_S256x128_0_384, k0_pay38 (F := Ideal) cols (k0_pay24 (F := Ideal) (iblk m c 10 t)) (k0_pay25 (F := Ideal) (iblk m c 11 t)) (sq m c t 384 inb_S256x1024_S256x128_0_384)⟩,
    ⟨Rect.unit ![0, 256] ![256, 128] inb_S256x1024_S256x128_0_256, k0_pay37 (F := Ideal) (sq m c t 256 inb_S256x1024_S256x128_0_256)⟩,
    ⟨Rect.unit ![0, 128] ![256, 128] inb_S256x1024_S256x128_0_128, k0_pay34 (F := Ideal) (k0_pay24 (F := Ideal) (iblk m c 10 t)) (k0_pay28 (F := Ideal) (sq m c t 128 inb_S256x1024_S256x128_0_128)) k0_pay30
      (k0_pay31 (F := Ideal) (iblk m c 11 t) (sq m c t 128 inb_S256x1024_S256x128_0_128)) k0_pay32 (k0_pay33 (F := Ideal) (iblk m c 11 t) (sq m c t 128 inb_S256x1024_S256x128_0_128))⟩,
    ⟨Rect.unit ![0, 0] ![256, 128] inb_S256x1024_S256x128_0_0, k0_pay27 (F := Ideal) (sq m c t 0 inb_S256x1024_S256x128_0_0)⟩]

theorem dqf_at (r : Fin 256) (j : Fin 1024) : View.canon (dqfL m c t) (ix2 r j) = DQF (apos m c) (adq m c) (ix2 (rw' t r) j) := by
  have hv : ∀ k : Fin 128, k0_pay25 (F := Ideal) (iblk m c 11 t) (ix2 r k) = iblk m c 11 t (ix2 r k) := fun k => pay25_at _ r k
  refine Cert.Shared.band_cons (Val := Elt Ideal) (e := .bf16) _ _ _ _ r j (fun j => DQF (apos m c) (adq m c) (ix2 (rw' t r) j)) (fun k hk => ?_) fun h1 => ?_
  · exact (pay46_at _ _ _ r k).trans (rot_at m c t _ 896 3 rfl r k hk (fun k hk => sq_at m c t 896 _ r k hk) _ hv)
  refine Cert.Shared.band_cons (Val := Elt Ideal) (e := .bf16) _ _ _ _ r j (fun j => DQF (apos m c) (adq m c) (ix2 (rw' t r) j)) (fun k hk => ?_) fun h2 => ?_
  · exact ((copies _ r k).2.2.2.2.2.2.1.trans (sq_at m c t 768 _ r k hk)).trans (DQF_copy m c _ 3 k 768 rfl hk).symm
  refine Cert.Shared.band_cons (Val := Elt Ideal) (e := .bf16) _ _ _ _ r j (fun j => DQF (apos m c) (adq m c) (ix2 (rw' t r) j)) (fun k hk => ?_) fun h3 => ?_
  · exact (pay42_at _ _ _ r k).trans (rot_at m c t _ 640 2 rfl r k hk (fun k hk => sq_at m c t 640 _ r k hk) _ hv)
  refine Cert.Shared.band_cons (Val := Elt Ideal) (e := .bf16) _ _ _ _ r j (fun j => DQF (apos m c) (adq m c) (ix2 (rw' t r) j)) (fun k hk => ?_) fun h4 => ?_
  · exact ((copies _ r k).2.2.2.2.1.trans (sq_at m c t 512 _ r k hk)).trans (DQF_copy m c _ 2 k 512 rfl hk).symm
  refine Cert.Shared.band_cons (Val := Elt Ideal) (e := .bf16) _ _ _ _ r j (fun j => DQF (apos m c) (adq m c) (ix2 (rw' t r) j)) (fun k hk => ?_) fun h5 => ?_
  · exact (pay38_at _ _ _ r k).trans (rot_at m c t _ 384 1 rfl r k hk (fun k hk => sq_at m c t 384 _ r k hk) _ hv)
  refine Cert.Shared.band_cons (Val := Elt Ideal) (e := .bf16) _ _ _ _ r j (fun j => DQF (apos m c) (adq m c) (ix2 (rw' t r) j)) (fun k hk => ?_) fun h6 => ?_
  · exact ((copies _ r k).2.2.1.trans (sq_at m c t 256 _ r k hk)).trans (DQF_copy m c _ 1 k 256 rfl hk).symm
  refine Cert.Shared.band_cons (Val := Elt Ideal) (e := .bf16) _ _ _ _ r j (fun j => DQF (apos m c) (adq m c) (ix2 (rw' t r) j)) (fun k hk => ?_) fun h7 => ?_
  · exact (pay34_at _ _ _ r k).trans (rot_at m c t _ 128 0 rfl r k hk (fun k hk => sq_at m c t 128 _ r k hk) _ fun _ => rfl)
  refine Cert.Shared.band_cons (Val := Elt Ideal) (e := .bf16) _ _ _ _ r j (fun j => DQF (apos m c) (adq m c) (ix2 (rw' t r) j)) (fun k hk => ?_) fun h8 => absurd h8 (by omega)
  exact ((copies _ r k).1.trans (sq_at m c t 0 _ r k hk)).trans (DQF_copy m c _ 0 k 0 rfl hk).symm

/-- The keys' and values' gradient a point writes. -/
abbrev dkvL : List (View.Piece (Elt Ideal) S256x1024 .bf16) :=
  [⟨Rect.unit ![0, 512] ![256, 512] inb_S256x1024_S256x512_0_512, k0_pay50 (F := Ideal) (iblk m c 14 t)⟩,
    ⟨Rect.unit ![0, 384] ![256, 128] inb_S256x1024_S256x128_0_384, k0_pay47 (F := Ideal) (sk m c t 768 inb_S256x1024_S256x128_0_768)⟩,
    ⟨Rect.unit ![0, 256] ![256, 128] inb_S256x1024_S256x128_0_256, k0_pay43 (F := Ideal) (sk m c t 512 inb_S256x1024_S256x128_0_512)⟩,
    ⟨Rect.unit ![0, 128] ![256, 128] inb_S256x1024_S256x128_0_128, k0_pay39 (F := Ideal) (sk m c t 256 inb_S256x1024_S256x128_0_256)⟩,
    ⟨Rect.unit ![0, 0] ![256, 128] inb_S256x1024_S256x128_0_0, k0_pay35 (F := Ideal) (sk m c t 0 inb_S256x1024_S256x128_0_0)⟩]

theorem DKV_copy (i : Fin 8192) (h : Fin 4) (k : Fin 128) (o : ℕ) (ho : o = h.val * 128) (hk : o + k.val < 1024) (hk' : h.val * 256 + k.val < 1024) :
    slot (adk m c) i ⟨h.val * 256 + k.val, hk'⟩ = DKV (adk m c) (adv m c) (ix2 i ⟨o + k, hk⟩) := by
  subst ho
  refine Eq.symm ((dif_pos (by show h.val * 128 + k.val < 512; omega)).trans (congrArg (slot (adk m c) i) (Fin.ext ?_)))
  show (h.val * 128 + k.val) / 128 * 256 + (h.val * 128 + k.val) % 128 = h.val * 256 + k.val
  omega

theorem dkv_at (r : Fin 256) (j : Fin 1024) : View.canon (dkvL m c t) (ix2 r j) = DKV (adk m c) (adv m c) (ix2 (rw' t r) j) := by
  refine Cert.Shared.band_cons (Val := Elt Ideal) (e := .bf16) _ _ _ _ r j (fun j => DKV (adk m c) (adv m c) (ix2 (rw' t r) j)) (fun k hk => ?_) fun h1 => ?_
  · refine (Eq.trans (by pointwise [k0_pay50]) (b14 m c t r k)).trans (Eq.symm ((dif_neg (by show ¬ 512 + k.val < 512; omega)).trans ?_))
    refine congrArg (adv m c) (congrArg₂ (ix3 (rw' t r)) (Fin.ext ?_) (Fin.ext ?_))
    · show (512 + k.val - 512) / 128 = k.val / 128; rw [Nat.add_sub_cancel_left]
    · show (512 + k.val - 512) % 128 = k.val % 128; rw [Nat.add_sub_cancel_left]
  refine Cert.Shared.band_cons (Val := Elt Ideal) (e := .bf16) _ _ _ _ r j (fun j => DKV (adk m c) (adv m c) (ix2 (rw' t r) j)) (fun k hk => ?_) fun h2 => ?_
  · exact ((copies _ r k).2.2.2.2.2.2.2.trans (sk_at m c t 768 _ r k (by omega))).trans (DKV_copy m c _ 3 k 384 rfl hk _)
  refine Cert.Shared.band_cons (Val := Elt Ideal) (e := .bf16) _ _ _ _ r j (fun j => DKV (adk m c) (adv m c) (ix2 (rw' t r) j)) (fun k hk => ?_) fun h3 => ?_
  · exact ((copies _ r k).2.2.2.2.2.1.trans (sk_at m c t 512 _ r k (by omega))).trans (DKV_copy m c _ 2 k 256 rfl hk _)
  refine Cert.Shared.band_cons (Val := Elt Ideal) (e := .bf16) _ _ _ _ r j (fun j => DKV (adk m c) (adv m c) (ix2 (rw' t r) j)) (fun k hk => ?_) fun h4 => ?_
  · exact ((copies _ r k).2.2.2.1.trans (sk_at m c t 256 _ r k (by omega))).trans (DKV_copy m c _ 1 k 128 rfl hk _)
  refine Cert.Shared.band_cons (Val := Elt Ideal) (e := .bf16) _ _ _ _ r j (fun j => DKV (adk m c) (adv m c) (ix2 (rw' t r) j)) (fun k hk => ?_) fun h5 => absurd h5 (by omega)
  exact ((copies _ r k).2.1.trans (sk_at m c t 0 _ r k (by omega))).trans (DKV_copy m c _ 0 k 0 rfl hk _)

/-- Both read back by the same point. -/
abbrev dqfR : FVec Ideal S256x1024 .bf16 := (ms0_16 t).view.readCov (dqfL m c t) (Rect.unit (s := S256x1024) ![0, 0] ![256, 1024] inb_S256x1024_S256x1024_0_0).toLoadRect
abbrev dkvR : FVec Ideal S256x1024 .bf16 := (ms0_17 t).view.readCov (dkvL m c t) (Rect.unit (s := S256x1024) ![0, 0] ![256, 1024] inb_S256x1024_S256x1024_0_0).toLoadRect

theorem dcq_at (r : Fin 256) (k : Fin 384) : k0_pay51 (F := Ideal) (dqfR m c t) (iblk m c 8 t) (ix2 r k) = DCQ (apos m c) (awq m c) (adq m c) (rw' t r) k := by
  rw [pay51_at, DCQ]
  exact Finset.sum_congr rfl fun n _ => congrArg₂ (fun a b : EReal => a * b)
    ((Cert.Shared.band_read _ _ 0 _ r n n (zero_add n.val).symm).trans (dqf_at m c t r n)) (b8 m c t n k)

theorem dckv_at (r : Fin 256) (k : Fin 256) : k0_pay57 (F := Ideal) (dkvR m c t) (iblk m c 9 t) (ix2 r k) = DCKV (awkv m c) (adk m c) (adv m c) (rw' t r) k := by
  rw [pay57_at, DCKV]
  exact Finset.sum_congr rfl fun n _ => congrArg₂ (fun a b : EReal => a * b)
    ((Cert.Shared.band_read _ _ 0 _ r n n (zero_add n.val).symm).trans (dkv_at m c t r n)) (b9 m c t k n)

theorem cq_at (r : Fin 256) (k : Fin 384) : cq m c t (ix2 r k) = CQ (az m c) (rw' t r) k := z_ld m c t 1536 _ r k (by omega)
theorem ckv_at (r : Fin 256) (k : Fin 256) : ckv m c t (ix2 r k) = CKV (az m c) (rw' t r) k := z_ld m c t 1920 _ r k (by omega)

theorem dkr_at (r : Fin 256) (k : Fin 128) : k0_pay49 (F := Ideal) (k0_pay44 (F := Ideal) (k0_pay40 (F := Ideal) (k0_pay36 (F := Ideal) k0_pay26 (sk m c t 128 inb_S256x1024_S256x128_0_128)) (sk m c t 384 inb_S256x1024_S256x128_0_384))
    (sk m c t 640 inb_S256x1024_S256x128_0_640)) (k0_pay48 (F := Ideal) (sk m c t 896 inb_S256x1024_S256x128_0_896)) (ix2 r k) = DKR (adk m c) (rw' t r) k := by
  rw [pay49_at, sk_at m c t 128 _ r k (by omega), sk_at m c t 384 _ r k (by omega), sk_at m c t 640 _ r k (by omega), sk_at m c t 896 _ r k (by omega), DKR]

end loads

end Cert.MixMidIdeal.Value
end
-- ==== Proof.MixMid.Result.lean ====
module

public import proofs.«01_k».proof.Proof.MixMid.Value

@[expose] public section

set_option maxRecDepth 16384

noncomputable section

open Idealize.ShloMosaic Idealize.ShloMosaic.TcCoe Idealize.SL.Sem
open Idealize.ShloMosaic.Pipeline (Dat)

namespace Cert.MixMidIdeal.Value

open Cert.MixMidIdeal Cert.MixMidIdeal.Gen

/-! The four results after the run. -/

variable (m : (ℓ : Loc nD τ sig) → Buf (Elt Ideal) ℓ)

/-- The results at this run's arguments. -/
abbrev rDZ (c : Dev nD) : FVec Ideal S8192x2304 .bf16 := DZ (az m c) (apos m c) (adya m c) (acw m c) (agq m c) (agkv m c) (awq m c) (awkv m c) (adq m c) (adk m c) (adv m c)
abbrev row (c : Dev nD) (j : Fin 2176) (i : Fin 8192) : EReal := rowP (az m c) (apos m c) (adya m c) (awq m c) (awkv m c) (adq m c) (adk m c) (adv m c) j i

section points

variable (c : Dev nD) (t : Fin cfg0.N)

/-- The gradient of the projections a point writes. -/
abbrev dzL : List (View.Piece (Elt Ideal) S256x2304 .bf16) :=
  [⟨Rect.unit ![0, 2176] ![256, 128] inb_S256x2304_S256x128_0_2176, k0_pay68 (F := Ideal) (k0_pay24 (iblk m c 10 t))
      (k0_pay49 (F := Ideal) (k0_pay44 (F := Ideal) (k0_pay40 (F := Ideal) (k0_pay36 (F := Ideal) k0_pay26 (sk m c t 128 inb_S256x1024_S256x128_0_128)) (sk m c t 384 inb_S256x1024_S256x128_0_384))
        (sk m c t 640 inb_S256x1024_S256x128_0_640)) (k0_pay48 (F := Ideal) (sk m c t 896 inb_S256x1024_S256x128_0_896))) (k0_pay64 cols)
      (k0_pay65 (F := Ideal) (k0_pay25 (iblk m c 11 t)) (k0_pay49 (F := Ideal) (k0_pay44 (F := Ideal) (k0_pay40 (F := Ideal) (k0_pay36 (F := Ideal) k0_pay26 (sk m c t 128 inb_S256x1024_S256x128_0_128)) (sk m c t 384 inb_S256x1024_S256x128_0_384))
        (sk m c t 640 inb_S256x1024_S256x128_0_640)) (k0_pay48 (F := Ideal) (sk m c t 896 inb_S256x1024_S256x128_0_896)))) (k0_pay66 cols)
      (k0_pay67 (F := Ideal) (k0_pay25 (iblk m c 11 t)) (k0_pay49 (F := Ideal) (k0_pay44 (F := Ideal) (k0_pay40 (F := Ideal) (k0_pay36 (F := Ideal) k0_pay26 (sk m c t 128 inb_S256x1024_S256x128_0_128)) (sk m c t 384 inb_S256x1024_S256x128_0_384))
        (sk m c t 640 inb_S256x1024_S256x128_0_640)) (k0_pay48 (F := Ideal) (sk m c t 896 inb_S256x1024_S256x128_0_896))))⟩,
    ⟨Rect.unit ![0, 1920] ![256, 256] inb_S256x2304_S256x256_0_1920, k0_pay62 (F := Ideal) (dkvR m c t) (iblk m c 9 t) (ckv m c t) (iblk m c 7 t)⟩,
    ⟨Rect.unit ![0, 1536] ![256, 384] inb_S256x2304_S256x384_0_1536, k0_pay56 (F := Ideal) (dqfR m c t) (iblk m c 8 t) (cq m c t) (iblk m c 6 t)⟩,
    ⟨Rect.unit ![0, 1024] ![256, 512] inb_S256x2304_S256x512_0_1024, k0_pay23 (F := Ideal) (k0_pay5 (F := Ideal) (xc m c t)) (k0_pay11 (F := Ideal) (w0 m c t)) (dy2 m c t) (wd0 m c t) (wd1 m c t)⟩,
    ⟨Rect.unit ![0, 512] ![256, 512] inb_S256x2304_S256x512_0_512, k0_pay22 (F := Ideal) (k0_pay6 (F := Ideal) (xu m c t)) (k0_pay11 (F := Ideal) (w0 m c t)) (dy2 m c t) (wd0 m c t) (wd1 m c t)⟩,
    ⟨Rect.unit ![0, 0] ![256, 512] inb_S256x2304_S256x512_0_0, k0_pay21 (F := Ideal) (k0_pay14 (F := Ideal) (k0_pay7 (F := Ideal) (xc m c t) (xu m c t))
      (k0_pay9 (F := Ideal) (grid0.coords t) (xc m c t) (xu m c t) (pc m c t) (pu m c t)) (k0_pay10 (F := Ideal) (grid0.coords t) (xc m c t) (xu m c t) (pc m c t) (pu m c t))
      (k0_pay11 (F := Ideal) (w0 m c t)) (w1 m c t) (w2 m c t)) (iblk m c 3 t)⟩]

theorem dz_at (r : Fin 256) (j : Fin 2304) : View.canon (dzL m c t) (ix2 r j) = rDZ m c (ix2 (rw' t r) j) := by
  refine Cert.Shared.band_cons (Val := Elt Ideal) (e := .bf16) _ _ _ _ r j (fun j => rDZ m c (ix2 (rw' t r) j)) (fun k hk => ?_) fun h1 => ?_
  · refine (pay68_at _ _ _ r k).trans (Eq.symm ?_)
    refine (dif_neg (by show ¬ 2176 + k.val < 512; omega)).trans ((dif_neg (by show ¬ 2176 + k.val < 1024; omega)).trans ((dif_neg (by show ¬ 2176 + k.val < 1536; omega)).trans
      ((dif_neg (by show ¬ 2176 + k.val < 1920; omega)).trans ((dif_neg (by show ¬ 2176 + k.val < 2176; omega)).trans ?_))))
    refine congr (congr (congr (congrArg rot (funext fun x => (dkr_at m c t r x).symm)) (funext fun x => ?_)) (funext fun x => ?_)) (Fin.ext (Nat.add_sub_cancel_left 2176 k.val))
    · exact ((pay24_at _ r x).trans (b10 m c t r x)).symm
    · exact ((pay25_at _ r x).trans (b11 m c t r x)).symm
  refine Cert.Shared.band_cons (Val := Elt Ideal) (e := .bf16) _ _ _ _ r j (fun j => rDZ m c (ix2 (rw' t r) j)) (fun k hk => ?_) fun h2 => ?_
  · refine (pay62_at _ _ _ _ r k).trans (Eq.symm ?_)
    refine (dif_neg (by show ¬ 1920 + k.val < 512; omega)).trans ((dif_neg (by show ¬ 1920 + k.val < 1024; omega)).trans ((dif_neg (by show ¬ 1920 + k.val < 1536; omega)).trans
      ((dif_neg (by show ¬ 1920 + k.val < 1920; omega)).trans ((dif_pos (by show 1920 + k.val < 2176; omega)).trans ?_))))
    refine congr (congr (congrArg (lat L256) (funext fun x => (ckv_at m c t r x).symm)) (funext fun x => ?_)) (Fin.ext (Nat.add_sub_cancel_left 1920 k.val))
    exact congrArg₂ (fun a b : EReal => a * b) (dckv_at m c t r x).symm (b7 m c t 0 x).symm
  refine Cert.Shared.band_cons (Val := Elt Ideal) (e := .bf16) _ _ _ _ r j (fun j => rDZ m c (ix2 (rw' t r) j)) (fun k hk => ?_) fun h3 => ?_
  · refine (pay56_at _ _ _ _ r k).trans (Eq.symm ?_)
    refine (dif_neg (by show ¬ 1536 + k.val < 512; omega)).trans ((dif_neg (by show ¬ 1536 + k.val < 1024; omega)).trans ((dif_neg (by show ¬ 1536 + k.val < 1536; omega)).trans
      ((dif_pos (by show 1536 + k.val < 1920; omega)).trans ?_)))
    refine congr (congr (congrArg (lat L384) (funext fun x => (cq_at m c t r x).symm)) (funext fun x => ?_)) (Fin.ext (Nat.add_sub_cancel_left 1536 k.val))
    exact congrArg₂ (fun a b : EReal => a * b) (dcq_at m c t r x).symm (b6 m c t 0 x).symm
  refine Cert.Shared.band_cons (Val := Elt Ideal) (e := .bf16) _ _ _ _ r j (fun j => rDZ m c (ix2 (rw' t r) j)) (fun k hk => ?_) fun h4 => ?_
  · refine (pay23_at _ _ _ _ _ r k).trans (Eq.symm ?_)
    refine (dif_neg (by show ¬ 1024 + k.val < 512; omega)).trans ((dif_neg (by show ¬ 1024 + k.val < 1024; omega)).trans ((dif_pos (by show 1024 + k.val < 1536; omega)).trans ?_))
    have hx : (⟨1024 + k.val - 1024, by omega⟩ : Fin 512) = k := Fin.ext (Nat.add_sub_cancel_left 1024 k.val)
    refine Eq.trans (b := (fun k : Fin 512 => DU (az m c) (adya m c) (acw m c) (rw' t r) k * az m c (ix2 (rw' t r) ⟨512 + k.val, by omega⟩)) ⟨1024 + k.val - 1024, by omega⟩) rfl ?_
    rw [hx]
    exact congrArg₂ (fun a b : EReal => a * b) (du_at m c t r k).symm (z_ld m c t 512 _ r k (by omega)).symm
  refine Cert.Shared.band_cons (Val := Elt Ideal) (e := .bf16) _ _ _ _ r j (fun j => rDZ m c (ix2 (rw' t r) j)) (fun k hk => ?_) fun h5 => ?_
  · refine (pay22_at _ _ _ _ _ r k).trans (Eq.symm ?_)
    refine (dif_neg (by show ¬ 512 + k.val < 512; omega)).trans ((dif_pos (by show 512 + k.val < 1024; omega)).trans ?_)
    have hx : (⟨512 + k.val - 512, by omega⟩ : Fin 512) = k := Fin.ext (Nat.add_sub_cancel_left 512 k.val)
    refine Eq.trans (b := (fun k : Fin 512 => DU (az m c) (adya m c) (acw m c) (rw' t r) k * az m c (ix2 (rw' t r) ⟨1024 + k.val, by omega⟩)) ⟨512 + k.val - 512, by omega⟩) rfl ?_
    rw [hx]
    exact congrArg₂ (fun a b : EReal => a * b) (du_at m c t r k).symm (z_ld m c t 1024 _ r k (by omega)).symm
  refine Cert.Shared.band_cons (Val := Elt Ideal) (e := .bf16) _ _ _ _ r j (fun j => rDZ m c (ix2 (rw' t r) j)) (fun k hk => ?_) fun h6 => absurd h6 (by omega)
  refine (pay21_at _ _ r k).trans (Eq.symm ((dif_pos (by show 0 + k.val < 512; omega)).trans ?_))
  have hx : (⟨0 + k.val, by omega⟩ : Fin 512) = k := Fin.ext (zero_add k.val)
  refine Eq.trans (b := (fun k : Fin 512 => adya m c (ix2 (rw' t r) k) * YY (az m c) (acw m c) (rw' t r) k) ⟨0 + k.val, by omega⟩) rfl ?_
  rw [hx]
  exact congrArg₂ (fun a b : EReal => a * b) (b3 m c t r k).symm (yy_at m c t r k).symm

/-- What every point leaves in the blocks of the three gradients. -/
theorem outs_all : (outsAt0 m c t.val t.isLt).1 = View.canon (dzL m c t) ∧ (outsAt0 m c t.val t.isLt).2.1 = View.canon (dqfL m c t)
    ∧ (outsAt0 m c t.val t.isLt).2.2.1 = View.canon (dkvL m c t) := by
  have hN := lt32 t
  by_cases h0 : t.val % 32 = 0
  · rw [outsAt0_A m c t h0 (by omega)]; dsimp only; exact ⟨by frame_out <;> rfl, by frame_out <;> rfl, by frame_out <;> rfl⟩
  · by_cases h1 : t.val % 32 = 31
    · rw [outsAt0_C m c t h0 h1]; dsimp only; exact ⟨by frame_out <;> rfl, by frame_out <;> rfl, by frame_out <;> rfl⟩
    · rw [outsAt0_B m c t h0 h1]; dsimp only; exact ⟨by frame_out <;> rfl, by frame_out <;> rfl, by frame_out <;> rfl⟩

end points

/-- The gradient of the projections, after the run. -/
theorem final15 (c : Dev nD) : (dats m 0 c).arrAt 15 cfg0.N = rDZ m c := by
  refine (dats m 0 c).arrAt_eq_of_covers 15 _ (by decide +kernel) fun t hf y => ?_
  obtain ⟨r, k, rfl⟩ : ∃ (r : Fin 256) (k : Fin 2304), y = ix2 r k := ⟨y 0, y 1, by funext a; fin_cases a <;> rfl⟩
  blk_simp
  rw [after0_15, (outs_all m c t).1, dz_at]
  refine congrArg (rDZ m c) ?_
  blk_ext [idx t]

/-- The queries' gradient, after the run. -/
theorem final16 (c : Dev nD) : (dats m 0 c).arrAt 16 cfg0.N = DQF (apos m c) (adq m c) := by
  refine (dats m 0 c).arrAt_eq_of_covers 16 _ (by decide +kernel) fun t hf y => ?_
  obtain ⟨r, k, rfl⟩ : ∃ (r : Fin 256) (k : Fin 1024), y = ix2 r k := ⟨y 0, y 1, by funext a; fin_cases a <;> rfl⟩
  blk_simp
  rw [after0_16, (outs_all m c t).2.1, dqf_at]
  refine congrArg (DQF (apos m c) (adq m c)) ?_
  blk_ext [idx t]

/-- The keys' and values' gradient, after the run. -/
theorem final17 (c : Dev nD) : (dats m 0 c).arrAt 17 cfg0.N = DKV (adk m c) (adv m c) := by
  refine (dats m 0 c).arrAt_eq_of_covers 17 _ (by decide +kernel) fun t hf y => ?_
  obtain ⟨r, k, rfl⟩ : ∃ (r : Fin 256) (k : Fin 1024), y = ix2 r k := ⟨y 0, y 1, by funext a; fin_cases a <;> rfl⟩
  blk_simp
  rw [after0_17, (outs_all m c t).2.2, dkv_at]
  refine congrArg (DKV (adk m c) (adv m c)) ?_
  blk_ext [idx t]

end Cert.MixMidIdeal.Value
end
-- ==== Proof.MixMid.Rows.lean ====
module

public import proofs.«01_k».proof.Proof.MixMid.Result

@[expose] public section

set_option maxRecDepth 16384

noncomputable section

open Idealize.ShloMosaic Idealize.ShloMosaic.TcCoe Idealize.SL.Sem
open Idealize.ShloMosaic.Pipeline (Dat)

namespace Cert.MixMidIdeal.Value

open Cert.MixMidIdeal Cert.MixMidIdeal.Gen

/-! The sums over all rows: the taps' gradients and the gains'. -/

variable (m : (ℓ : Loc nD τ sig) → Buf (Elt Ideal) ℓ)

theorem tile_lt (n : ℕ) (x : Fin 8) (r : Fin 32) (h : n < 32) : n * 256 + (r.val * 8 + x.val) < 8192 := by
  have := r.isLt
  have := x.isLt
  omega

/-- One point's part of a column. -/
abbrev part (c : Dev nD) (n : ℕ) (h : n < 32) (x : Fin 8) (j : Fin 2176) : EReal :=
  ∑ r : Fin 32, row m c j ⟨n * 256 + (r.val * 8 + x.val), tile_lt n x r h⟩

/-- What a point leaves in the eight rows of sums, from what they held. -/
abbrev upd (c : Dev nD) (t : Fin cfg0.N) (p : FVec Ideal S8x2176 .f32) : FVec Ideal S8x2176 .f32 := fun y => p y + part m c t (lt32 t) (y 0) (y 1)

theorem ix2_all (y : S8x2176.Idx) : ∃ (x : Fin 8) (k : Fin 2176), y = ix2 x k := ⟨y 0, y 1, by funext a; fin_cases a <;> rfl⟩

section payloads

variable (v : FVec Ideal S256x512 .f32) (v51 : FVec Ideal S256x512 .f32) (q : Vec Ideal S8x512 .f32) (x : Fin 8) (k : Fin 512)

theorem row8 (x : Fin 8) (r : Fin 32) : r.val * 8 + x.val < 256 := by omega

theorem pay70_at : k0_pay70 v v51 q (ix2 x k) = q (ix2 x k) + ∑ r : Fin 32, v51 (ix2 ⟨r.val * 8 + x.val, row8 x r⟩ k) * v (ix2 ⟨r.val * 8 + x.val, row8 x r⟩ k) := by pointwise [k0_pay70]
theorem pay71_at : k0_pay71 v v51 q (ix2 x k) = q (ix2 x k) + ∑ r : Fin 32, v51 (ix2 ⟨r.val * 8 + x.val, row8 x r⟩ k) * v (ix2 ⟨r.val * 8 + x.val, row8 x r⟩ k) := by pointwise [k0_pay71]
theorem pay72_at : k0_pay72 v v51 q (ix2 x k) = q (ix2 x k) + ∑ r : Fin 32, v51 (ix2 ⟨r.val * 8 + x.val, row8 x r⟩ k) * v (ix2 ⟨r.val * 8 + x.val, row8 x r⟩ k) := by pointwise [k0_pay72]
theorem pay1_at (v : FVec Ideal S256x384 .f32) (q : Vec Ideal S8x384 .f32) (k : Fin 384) : k0_pay1 v q (ix2 x k) = q (ix2 x k) + ∑ r : Fin 32, v (ix2 ⟨r.val * 8 + x.val, row8 x r⟩ k) := by pointwise [k0_pay1]
theorem pay2_at (v : FVec Ideal S256x256 .f32) (q : Vec Ideal S8x256 .f32) (k : Fin 256) : k0_pay2 v q (ix2 x k) = q (ix2 x k) + ∑ r : Fin 32, v (ix2 ⟨r.val * 8 + x.val, row8 x r⟩ k) := by pointwise [k0_pay2]

end payloads

section rows

variable (c : Dev nD) (i : Fin 8192)

theorem row_2 (k : Fin 512) : row m c ⟨0 + k, by omega⟩ i = DY (az m c) (adya m c) k i * bef 2 (UU (az m c) k) i := by
  refine (dif_pos (by show 0 + k.val < 512; omega)).trans ?_
  rw [show (⟨0 + k.val, by omega⟩ : Fin 512) = k from Fin.ext (zero_add k.val)]

theorem row_1 (k : Fin 512) : row m c ⟨512 + k, by omega⟩ i = DY (az m c) (adya m c) k i * bef 1 (UU (az m c) k) i := by
  refine (dif_neg (by show ¬ 512 + k.val < 512; omega)).trans ((dif_pos (by show 512 + k.val < 1024; omega)).trans ?_)
  rw [show (⟨512 + k.val - 512, by omega⟩ : Fin 512) = k from Fin.ext (Nat.add_sub_cancel_left 512 k.val)]

theorem row_0 (k : Fin 512) : row m c ⟨1024 + k, by omega⟩ i = DY (az m c) (adya m c) k i * UU (az m c) k i := by
  refine (dif_neg (by show ¬ 1024 + k.val < 512; omega)).trans ((dif_neg (by show ¬ 1024 + k.val < 1024; omega)).trans ((dif_pos (by show 1024 + k.val < 1536; omega)).trans ?_))
  rw [show (⟨1024 + k.val - 1024, by omega⟩ : Fin 512) = k from Fin.ext (Nat.add_sub_cancel_left 1024 k.val)]

theorem row_q (k : Fin 384) : row m c ⟨1536 + k, by omega⟩ i = DCQ (apos m c) (awq m c) (adq m c) i k * (CQ (az m c) i k * irms L384 (CQ (az m c) i)) := by
  refine (dif_neg (by show ¬ 1536 + k.val < 512; omega)).trans ((dif_neg (by show ¬ 1536 + k.val < 1024; omega)).trans ((dif_neg (by show ¬ 1536 + k.val < 1536; omega)).trans
    ((dif_pos (by show 1536 + k.val < 1920; omega)).trans ?_)))
  rw [show (⟨1536 + k.val - 1536, by omega⟩ : Fin 384) = k from Fin.ext (Nat.add_sub_cancel_left 1536 k.val)]

theorem row_kv (k : Fin 256) : row m c ⟨1920 + k, by omega⟩ i = DCKV (awkv m c) (adk m c) (adv m c) i k * (CKV (az m c) i k * irms L256 (CKV (az m c) i)) := by
  refine (dif_neg (by show ¬ 1920 + k.val < 512; omega)).trans ((dif_neg (by show ¬ 1920 + k.val < 1024; omega)).trans ((dif_neg (by show ¬ 1920 + k.val < 1536; omega)).trans
    ((dif_neg (by show ¬ 1920 + k.val < 1920; omega)).trans ?_)))
  rw [show (⟨1920 + k.val - 1920, by omega⟩ : Fin 256) = k from Fin.ext (Nat.add_sub_cancel_left 1920 k.val)]

variable (t : Fin cfg0.N) (r : Fin 256)

theorem gq_at (k : Fin 384) : k0_pay55 (F := Ideal) (dqfR m c t) (iblk m c 8 t) (cq m c t) (ix2 r k)
    = DCQ (apos m c) (awq m c) (adq m c) (rw' t r) k * (CQ (az m c) (rw' t r) k * irms L384 (CQ (az m c) (rw' t r))) := by
  rw [pay55_at, dcq_at, pay54_at, cq_at, funext (cq_at m c t r)]

theorem gkv_at (k : Fin 256) : k0_pay61 (F := Ideal) (dkvR m c t) (iblk m c 9 t) (ckv m c t) (ix2 r k)
    = DCKV (awkv m c) (adk m c) (adv m c) (rw' t r) k * (CKV (az m c) (rw' t r) k * irms L256 (CKV (az m c) (rw' t r))) := by
  rw [pay61_at, dckv_at, pay60_at, ckv_at, funext (ckv_at m c t r)]

end rows

/-- The gradient of the convolution's output a point computes. -/
abbrev dy0 (c : Dev nD) (t : Fin cfg0.N) : FVec Ideal S256x512 .f32 := k0_pay15 (F := Ideal) (k0_pay4 (F := Ideal) (xb m c t)) (iblk m c 3 t)

/-- The five bands a point writes, from bands that hold the rows `q`. -/
theorem bands (c : Dev nD) (t : Fin cfg0.N) (q : FVec Ideal S8x2176 .f32) (a b d : FVec Ideal S8x512 .f32) (e : FVec Ideal S8x384 .f32) (f : FVec Ideal S8x256 .f32)
    (ha : ∀ (x : Fin 8) (k : Fin 512), a (ix2 x k) = q (ix2 x ⟨0 + k, by omega⟩))
    (hb : ∀ (x : Fin 8) (k : Fin 512), b (ix2 x k) = q (ix2 x ⟨512 + k, by omega⟩))
    (hd : ∀ (x : Fin 8) (k : Fin 512), d (ix2 x k) = q (ix2 x ⟨1024 + k, by omega⟩))
    (he : ∀ (x : Fin 8) (k : Fin 384), e (ix2 x k) = q (ix2 x ⟨1536 + k, by omega⟩))
    (hf : ∀ (x : Fin 8) (k : Fin 256), f (ix2 x k) = q (ix2 x ⟨1920 + k, by omega⟩)) (L) (x : Fin 8) (j : Fin 2176) :
    View.canon (Val := Elt Ideal) (e := .f32) (⟨Rect.unit (s := S8x2176) ![0, 1920] ![8, 256] inb_S8x2176_S8x256_0_1920,
        k0_pay2 (F := Ideal) (k0_pay61 (F := Ideal) (dkvR m c t) (iblk m c 9 t) (ckv m c t)) f⟩
      :: ⟨Rect.unit (s := S8x2176) ![0, 1536] ![8, 384] inb_S8x2176_S8x384_0_1536, k0_pay1 (F := Ideal) (k0_pay55 (F := Ideal) (dqfR m c t) (iblk m c 8 t) (cq m c t)) e⟩
      :: ⟨Rect.unit (s := S8x2176) ![0, 1024] ![8, 512] inb_S8x2176_S8x512_0_1024, k0_pay72 (F := Ideal) (k0_pay7 (F := Ideal) (xc m c t) (xu m c t)) (dy0 m c t) d⟩
      :: ⟨Rect.unit (s := S8x2176) ![0, 512] ![8, 512] inb_S8x2176_S8x512_0_512,
        k0_pay71 (F := Ideal) (k0_pay9 (F := Ideal) (grid0.coords t) (xc m c t) (xu m c t) (pc m c t) (pu m c t)) (dy0 m c t) b⟩
      :: ⟨Rect.unit (s := S8x2176) ![0, 0] ![8, 512] inb_S8x2176_S8x512_0_0,
        k0_pay70 (F := Ideal) (k0_pay10 (F := Ideal) (grid0.coords t) (xc m c t) (xu m c t) (pc m c t) (pu m c t)) (dy0 m c t) a⟩ :: L) (ix2 x j)
      = upd m c t q (ix2 x j) := by
  refine Cert.Shared.band_cons (Val := Elt Ideal) (e := .f32) _ _ _ _ x j (fun j => upd m c t q (ix2 x j)) (fun k hk => ?_) fun h1 => ?_
  · exact (pay2_at x _ _ k).trans (congrArg₂ (fun a b : EReal => a + b) (hf x k) (Finset.sum_congr rfl fun r _ => (gkv_at m c t _ k).trans (row_kv m c _ k).symm))
  refine Cert.Shared.band_cons (Val := Elt Ideal) (e := .f32) _ _ _ _ x j (fun j => upd m c t q (ix2 x j)) (fun k hk => ?_) fun h2 => ?_
  · exact (pay1_at x _ _ k).trans (congrArg₂ (fun a b : EReal => a + b) (he x k) (Finset.sum_congr rfl fun r _ => (gq_at m c t _ k).trans (row_q m c _ k).symm))
  refine Cert.Shared.band_cons (Val := Elt Ideal) (e := .f32) _ _ _ _ x j (fun j => upd m c t q (ix2 x j)) (fun k hk => ?_) fun h3 => ?_
  · exact (pay72_at _ _ _ x k).trans (congrArg₂ (fun a b : EReal => a + b) (hd x k)
      (Finset.sum_congr rfl fun r _ => (congrArg₂ (fun a b : EReal => a * b) (dy0_at m c t _ k) (u0_at m c t _ k)).trans (row_0 m c _ k).symm))
  refine Cert.Shared.band_cons (Val := Elt Ideal) (e := .f32) _ _ _ _ x j (fun j => upd m c t q (ix2 x j)) (fun k hk => ?_) fun h4 => ?_
  · exact (pay71_at _ _ _ x k).trans (congrArg₂ (fun a b : EReal => a + b) (hb x k)
      (Finset.sum_congr rfl fun r _ => (congrArg₂ (fun a b : EReal => a * b) (dy0_at m c t _ k) (u1_at m c t _ k)).trans (row_1 m c _ k).symm))
  refine Cert.Shared.band_cons (Val := Elt Ideal) (e := .f32) _ _ _ _ x j (fun j => upd m c t q (ix2 x j)) (fun k hk => ?_) fun h5 => absurd h5 (by omega)
  exact (pay70_at _ _ _ x k).trans (congrArg₂ (fun a b : EReal => a + b) (ha x k)
    (Finset.sum_congr rfl fun r _ => (congrArg₂ (fun a b : EReal => a * b) (dy0_at m c t _ k) (u2_at m c t _ k)).trans (row_2 m c _ k).symm))

theorem zero_at (x : Fin 8) (j : Fin 2176) : k0_pay69 (F := Ideal) (ix2 x j) = 0 := by pointwise [k0_pay69]

theorem first (c : Dev nD) (h : 0 < cfg0.N) : (outsAt0 m c 0 h).2.2.2 = upd m c ⟨0, h⟩ k0_pay69 := by
  rw [outsAt0_A m c ⟨0, h⟩ rfl (by simp)]
  dsimp only
  frame_out
  funext y
  obtain ⟨x, j, rfl⟩ := ix2_all y
  refine bands m c ⟨0, h⟩ k0_pay69 _ _ _ _ _ (fun x k => ?_) (fun x k => ?_) (fun x k => ?_) (fun x k => ?_) (fun x k => ?_) _ x j
  · exact (Cert.Shared.band_read _ _ _ _ x k ⟨0 + k, by omega⟩ rfl).trans (Cert.Shared.band_in (Val := Elt Ideal) (e := .f32) 0 _ _ _ x _ _ (zero_add _).symm)
  · refine (Cert.Shared.band_read _ _ _ _ x k ⟨512 + k, by omega⟩ rfl).trans ?_
    refine (Cert.Shared.band_out (Val := Elt Ideal) (e := .f32) _ _ _ _ x _ (.inr (by show 0 + 512 ≤ 512 + k.val; omega))).trans ?_
    exact Cert.Shared.band_in (Val := Elt Ideal) (e := .f32) 0 _ _ _ x _ _ (zero_add _).symm
  · refine (Cert.Shared.band_read _ _ _ _ x k ⟨1024 + k, by omega⟩ rfl).trans ?_
    refine (Cert.Shared.band_out (Val := Elt Ideal) (e := .f32) _ _ _ _ x _ (.inr (by show 512 + 512 ≤ 1024 + k.val; omega))).trans ?_
    refine (Cert.Shared.band_out (Val := Elt Ideal) (e := .f32) _ _ _ _ x _ (.inr (by show 0 + 512 ≤ 1024 + k.val; omega))).trans ?_
    exact Cert.Shared.band_in (Val := Elt Ideal) (e := .f32) 0 _ _ _ x _ _ (zero_add _).symm
  · refine (Cert.Shared.band_read _ _ _ _ x k ⟨1536 + k, by omega⟩ rfl).trans ?_
    refine (Cert.Shared.band_out (Val := Elt Ideal) (e := .f32) _ _ _ _ x _ (.inr (by show 1024 + 512 ≤ 1536 + k.val; omega))).trans ?_
    refine (Cert.Shared.band_out (Val := Elt Ideal) (e := .f32) _ _ _ _ x _ (.inr (by show 512 + 512 ≤ 1536 + k.val; omega))).trans ?_
    refine (Cert.Shared.band_out (Val := Elt Ideal) (e := .f32) _ _ _ _ x _ (.inr (by show 0 + 512 ≤ 1536 + k.val; omega))).trans ?_
    exact Cert.Shared.band_in (Val := Elt Ideal) (e := .f32) 0 _ _ _ x _ _ (zero_add _).symm
  · refine (Cert.Shared.band_read _ _ _ _ x k ⟨1920 + k, by omega⟩ rfl).trans ?_
    refine (Cert.Shared.band_out (Val := Elt Ideal) (e := .f32) _ _ _ _ x _ (.inr (by show 1536 + 384 ≤ 1920 + k.val; omega))).trans ?_
    refine (Cert.Shared.band_out (Val := Elt Ideal) (e := .f32) _ _ _ _ x _ (.inr (by show 1024 + 512 ≤ 1920 + k.val; omega))).trans ?_
    refine (Cert.Shared.band_out (Val := Elt Ideal) (e := .f32) _ _ _ _ x _ (.inr (by show 512 + 512 ≤ 1920 + k.val; omega))).trans ?_
    refine (Cert.Shared.band_out (Val := Elt Ideal) (e := .f32) _ _ _ _ x _ (.inr (by show 0 + 512 ≤ 1920 + k.val; omega))).trans ?_
    exact Cert.Shared.band_in (Val := Elt Ideal) (e := .f32) 0 _ _ _ x _ _ (zero_add _).symm

theorem next (c : Dev nD) (n : ℕ) (h : n + 1 < cfg0.N) (hn : n + 1 < 31) :
    (outsAt0 m c (n + 1) h).2.2.2 = upd m c ⟨n + 1, h⟩ (outsAt0 m c n (Nat.lt_of_succ_lt h)).2.2.2 := by
  rw [outsAt0_B m c ⟨n + 1, h⟩ (by simp; omega) (by simp; omega)]
  dsimp only
  frame_out
  funext y
  obtain ⟨x, j, rfl⟩ := ix2_all y
  exact bands m c ⟨n + 1, h⟩ _ _ _ _ _ _ (fun x k => Cert.Shared.band_ld _ _ _ x k _ rfl) (fun x k => Cert.Shared.band_ld _ _ _ x k _ rfl)
    (fun x k => Cert.Shared.band_ld _ _ _ x k _ rfl) (fun x k => Cert.Shared.band_ld _ _ _ x k _ rfl) (fun x k => Cert.Shared.band_ld _ _ _ x k _ rfl) _ x j

attribute [local irreducible] outsAt0

/-- The eight rows before the last point sums them. -/
def before (c : Dev nD) (n : ℕ) (h : n < 32) : FVec Ideal S8x2176 .f32 :=
  upd m c ⟨n, h⟩ (if h0 : n = 0 then k0_pay69 (F := Ideal) else (outsAt0 m c (n - 1) (Nat.lt_of_le_of_lt (Nat.sub_le n 1) h)).2.2.2)

/-- The last point. -/
def tl : Fin grid0.N := ⟨31, by rw [N_0]; decide⟩

/-- The last point leaves each column's sum over the eight rows. -/
theorem last (c : Dev nD) (t : Fin cfg0.N) (h0 : t.val % 32 ≠ 0) (h1 : t.val % 32 = 31) (x : Fin 8) (j : Fin 2176) :
    (outsAt0 m c t.val t.isLt).2.2.2 (ix2 x j)
      = ∑ x : Fin 8, upd m c t (outsAt0 m c (t.val - 1) (Nat.lt_of_le_of_lt (Nat.sub_le t.val 1) t.isLt)).2.2.2 (ix2 x j) := by
  rw [outsAt0_C m c t h0 h1]
  dsimp only
  frame_out
  rw [View.readCov_eq_canon']
  generalize (outsAt0 m c (t.val - 1) (Nat.lt_of_le_of_lt (Nat.sub_le t.val 1) t.isLt)).2.2.2 = q
  pointwise [k0_pay3]
  refine Finset.sum_congr rfl fun x _ => ?_
  exact bands m c t q _ _ _ _ _ (fun x k => Cert.Shared.band_ld _ _ _ x k _ rfl) (fun x k => Cert.Shared.band_ld _ _ _ x k _ rfl)
      (fun x k => Cert.Shared.band_ld _ _ _ x k _ rfl) (fun x k => Cert.Shared.band_ld _ _ _ x k _ rfl) (fun x k => Cert.Shared.band_ld _ _ _ x k _ rfl) _ x j

theorem final18 (c : Dev nD) : (dats m 0 c).arrAt 18 cfg0.N = P (az m c) (apos m c) (adya m c) (awq m c) (awkv m c) (adq m c) (adk m c) (adv m c) := by
  have h31 : 31 < cfg0.N := by rw [show cfg0.N = 32 from N_0]; omega
  refine (dats m 0 c).arrAt_eq_of_after_last 18 tl (by decide +kernel) _ fun j => ?_
  obtain ⟨x, j, rfl⟩ := ix2_all j
  blk_simp
  rw [after0_18]
  refine (last m c tl (by decide) rfl x j).trans (Eq.trans (b := ∑ x : Fin 8, before m c 31 (by omega) (ix2 x j)) ?_ ?_)
  · refine Finset.sum_congr rfl fun x _ => congrFun (?_ : _ = before m c 31 (by omega)) _
    rw [before, dif_neg (by omega)]
    rfl
  · refine Cert.Shared.acc_rows 32 256 32 (by omega) rfl rfl (row m c j)
      (fun n h x => before m c n h (ix2 x j)) (fun n x r h => tile_lt n x r h) (fun h x => ?_) (fun n h x => ?_)
    · exact Eq.trans (by rw [before, dif_pos rfl]; exact congrArg (· + part m c 0 h x j) (zero_at x j)) (zero_add _)
    · rw [before, dif_neg (Nat.succ_ne_zero n)]
      refine congrArg (· + _) (congrFun (?_ : (outsAt0 m c n _).2.2.2 = before m c n _) _)
      rcases n with _ | n
      · exact first m c _
      · exact next m c n _ (by omega)

end Cert.MixMidIdeal.Value
end
-- ==== Proof.MixMid.Ref.lean ====
module

public import proofs.«01_k».proof.Proof.MixMid.Blocks
public import proofs.«01_k».proof.Proof.Shared.RmsNorm
public import proofs.«01_k».proof.Proof.Gen.MixMidRefIdeal.Run

@[expose] public section

set_option maxRecDepth 16384

noncomputable section

open Idealize.ShloMosaic Idealize.ShloMosaic.TcCoe Idealize.SL.Sem Idealize.ShloMosaic.StableHlo

namespace Cert.MixMidClaim

open Cert.MixMidRefIdeal Cert.MixMidRefIdeal.Gen Cert.MixMidRefIdeal.Value
open Cert.MixMidIdeal.Value (ang tab bef aft UU YY DY DU slot rot DQF DKV DKR wuq DCQ DCKV irms lat CQ CKV L384 L256 DZ rowP P)

/-! The elements of the reference's terms. -/

variable (V : Valuation τ sig (Elt Ideal))

abbrev rz : FVec Ideal Cert.MixMidIdeal.S8192x2240 .f32 := V (Proc.devRef .tc main_arg0)
abbrev rpos : IVec Cert.MixMidIdeal.S8192 32 := V (Proc.devRef .tc main_arg1)
abbrev rdya : FVec Ideal Cert.MixMidIdeal.S8192x512 .f32 := V (Proc.devRef .tc main_arg2)
abbrev rcw : FVec Ideal Cert.MixMidIdeal.S3x512 .f32 := V (Proc.devRef .tc main_arg3)
abbrev rgq : FVec Ideal Cert.MixMidIdeal.S1x384 .f32 := V (Proc.devRef .tc main_arg4)
abbrev rgkv : FVec Ideal Cert.MixMidIdeal.S1x256 .f32 := V (Proc.devRef .tc main_arg5)
abbrev rwq : FVec Ideal Cert.MixMidIdeal.S384x768 .f32 := V (Proc.devRef .tc main_arg6)
abbrev rwkv : FVec Ideal Cert.MixMidIdeal.S256x1024 .f32 := V (Proc.devRef .tc main_arg7)
abbrev rdq : FVec Ideal Cert.MixMidIdeal.S8192x4x192 .f32 := V (Proc.devRef .tc main_arg8)
abbrev rdk : FVec Ideal Cert.MixMidIdeal.S8192x4x192 .f32 := V (Proc.devRef .tc main_arg9)
abbrev rdv : FVec Ideal Cert.MixMidIdeal.S8192x4x128 .f32 := V (Proc.devRef .tc main_arg10)

section conv

variable (i : Fin 8192) (k : Fin 512)

theorem tap2 : res_main_v184 V (ix2 i k) = bef 2 (UU (rz V) k) i := by
  pointwise [res_main_v184, res_main_v180, res_main_v176, res_main_v177, bef, UU]
  by_cases h : i.val < 2
  · rw [dif_pos h, dif_neg (by omega)]
  · rw [dif_neg h, dif_pos (by omega)]

theorem tap1 : res_main_v190 V (ix2 i k) = bef 1 (UU (rz V) k) i := by
  pointwise [res_main_v190, res_main_v180, res_main_v176, res_main_v177, bef, UU]
  by_cases h : i.val < 1
  · rw [dif_pos (by omega), dif_neg (by omega)]
  · have e : (⟨1 + i.val - 2, by omega⟩ : Fin 8192) = ⟨i.val - 1, by omega⟩ := Fin.ext (by show 1 + i.val - 2 = i.val - 1; omega)
    rw [dif_neg (by omega), dif_pos (by omega), e]

theorem tap0 : res_main_v197 V (ix2 i k) = UU (rz V) k i := by
  pointwise [res_main_v197, res_main_v180, res_main_v176, res_main_v177, UU]

theorem gconv : res_main_v203 V (ix2 i k) = DY (rz V) (rdya V) k i := by
  refine Eq.trans ?_ (mul_comm (rz V (ix2 i ⟨k, by omega⟩)) (rdya V (ix2 i k)))
  pointwise [res_main_v203, res_main_v175]

theorem conv : res_main_v201 V (ix2 i k) = YY (rz V) (rcw V) i k := by
  rw [YY, ← tap2, ← tap1, ← tap0]
  pointwise [res_main_v201, res_main_v198, res_main_v191, res_main_v185]

theorem w2_at : res_main_v198 V (ix2 0 k) = rcw V (ix2 2 k) := by pointwise [res_main_v198]
theorem w1_at : res_main_v191 V (ix2 0 k) = rcw V (ix2 1 k) := by pointwise [res_main_v191]
theorem w0_at : res_main_v185 V (ix2 0 k) = rcw V (ix2 0 k) := by pointwise [res_main_v185]

theorem dconv : res_main_v237 V (ix2 i k) = DU (rz V) (rdya V) (rcw V) i k := by
  rw [DU, ← gconv]
  pointwise [res_main_v237, res_main_v232, aft]
  rw [w2_at, w1_at, w0_at]
  congr 1
  · congr 1
    by_cases h : i.val + 1 < 8192
    · have e : (⟨2 + i.val - 1, by omega⟩ : Fin 8192) = ⟨i.val + 1, h⟩ := Fin.ext (by show 2 + i.val - 1 = i.val + 1; omega)
      rw [dif_pos (by omega), dif_pos h, e, gconv]
    · rw [dif_neg (by omega), dif_neg h]
      exact (mul_zero _).symm
  · by_cases h : i.val + 2 < 8192
    · have e : (⟨2 + i.val, by omega⟩ : Fin 8192) = ⟨i.val + 2, h⟩ := Fin.ext (by show 2 + i.val = i.val + 2; omega)
      rw [dif_pos (by omega), dif_pos h, e, gconv]
    · rw [dif_neg (by omega), dif_neg h]
      exact (mul_zero _).symm

end conv

section rope

/-- The rotation's transpose at its columns. -/
theorem tab_lo (f : Fin 32 → EReal) (k : Fin 128) (q : Fin 32) (e : k.val = q.val) : tab f k = f q := by
  rw [tab, dif_pos (by omega)]
  exact congrArg f (Fin.ext e)
theorem tab_hi (f : Fin 32 → EReal) (k : Fin 128) (q : Fin 32) (e : k.val = 32 + q.val) : tab f k = f q := by
  rw [tab, dif_neg (by omega), dif_pos (by omega)]
  exact congrArg f (Fin.ext (by show k.val - 32 = q.val; omega))

theorem rot_lo (g : Fin 128 → EReal) (c s : Fin 32 → EReal) (k : Fin 128) (q : Fin 32) (e : k.val = q.val) :
    rot g (tab c) (tab s) k = g ⟨q, Nat.lt_trans q.isLt (by decide)⟩ * c q + g ⟨32 + q, by have := q.isLt; omega⟩ * s q := by
  obtain ⟨k, hk⟩ := k
  obtain ⟨q, hq⟩ := q
  dsimp only at e
  subst e
  have e2 : (⟨(k + 128 - 96) % 128, Nat.mod_lt _ (by omega)⟩ : Fin 128) = ⟨32 + k, by omega⟩ := Fin.ext (by show (k + 128 - 96) % 128 = 32 + k; omega)
  rw [rot, if_pos (show k < 32 from hq), tab_lo c _ ⟨k, hq⟩ rfl, e2, tab_hi s _ ⟨k, hq⟩ rfl]
theorem rot_hi (g : Fin 128 → EReal) (c s : Fin 32 → EReal) (k : Fin 128) (q : Fin 32) (e : k.val = 32 + q.val) :
    rot g (tab c) (tab s) k = g ⟨32 + q, by have := q.isLt; omega⟩ * c q + -g ⟨q, Nat.lt_trans q.isLt (by decide)⟩ * s q := by
  obtain ⟨k, hk⟩ := k
  obtain ⟨q, hq⟩ := q
  dsimp only at e
  subst e
  have e2 : (⟨(32 + q + 128 - 32) % 128, Nat.mod_lt _ (by omega)⟩ : Fin 128) = ⟨q, by omega⟩ := Fin.ext (by show (32 + q + 128 - 32) % 128 = q; omega)
  rw [rot, if_neg (show ¬ 32 + q < 32 by omega), if_pos (show 32 + q < 64 by omega), tab_hi c _ ⟨q, hq⟩ rfl, e2, tab_lo s _ ⟨q, hq⟩ rfl, sub_eq_add_neg, zero_add, EReal.neg_mul]
theorem rot_out (g : Fin 128 → EReal) (c s : Fin 32 → EReal) (k : Fin 128) (e : 64 ≤ k.val) : rot g (tab c) (tab s) k = 0 := by
  rw [rot, if_neg (by omega), if_neg (by omega), tab, dif_neg (by omega), dif_neg (by omega), mul_zero, add_zero]

theorem slot_at (a : FVec Ideal Cert.MixMidIdeal.S8192x4x192 .f32) (i : Fin 8192) (n : Fin 1024) (h : Fin 4) (c : Fin 192) (e : n.val = h.val * 256 + c.val) :
    slot a i n = a (ix3 i h c) := by
  have e1 : (⟨n.val / 256, by omega⟩ : Fin 4) = h := Fin.ext (by show n.val / 256 = h.val; omega)
  have e2 : (⟨n.val % 256, by omega⟩ : Fin 192) = c := Fin.ext (by show n.val % 256 = c.val; omega)
  rw [slot, dif_pos ⟨by omega, by omega⟩, e1, e2]

variable (i : Fin 8192)

theorem dqf_lo (pos : IVec Cert.MixMidIdeal.S8192 32) (a : FVec Ideal Cert.MixMidIdeal.S8192x4x192 .f32) (n : Fin 1024) (h : Fin 4) (c : Fin 192) (e : n.val = h.val * 256 + c.val)
    (hc : c.val < 128) : DQF pos a (ix2 i n) = a (ix3 i h c) :=
  (if_pos (show n.val % 256 < 128 by omega)).trans (slot_at a i n h c e)
theorem dqf_rot (pos : IVec Cert.MixMidIdeal.S8192 32) (a : FVec Ideal Cert.MixMidIdeal.S8192x4x192 .f32) (n : Fin 1024) (h : Fin 4) (k : Fin 128) (e : n.val = h.val * 256 + (128 + k.val)) :
    DQF pos a (ix2 i n) = rot (fun k => slot a i ⟨h.val * 256 + (128 + k.val), by have := h.isLt; have := k.isLt; omega⟩) (tab fun k => Ideal.cos (ang pos i k)) (tab fun k => Ideal.sin (ang pos i k)) k := by
  obtain ⟨n, hn⟩ := n
  obtain ⟨h, hh⟩ := h
  obtain ⟨k, hk⟩ := k
  dsimp only at e
  have e0 : n % 256 - 128 = k := by omega
  have e2 : n / 256 = h := by omega
  subst e0 e2
  exact if_neg (show ¬ n % 256 < 128 by omega)

theorem cos_at (k : Fin 32) : res_main_v16 V (ix2 i k) = Ideal.cos (ang (rpos V) i k) := by
  pointwise [res_main_v16, res_main_v15, ang]
theorem sin_at (k : Fin 32) : res_main_v17 V (ix2 i k) = Ideal.sin (ang (rpos V) i k) := by
  pointwise [res_main_v17, res_main_v15, ang]
theorem v56_at (k : Fin 32) : res_main_v56 V (ix3 i 0 k) = Ideal.cos (ang (rpos V) i k) := by
  rw [← cos_at]
  pointwise [res_main_v56]
theorem v57_at (k : Fin 32) : res_main_v57 V (ix3 i 0 k) = Ideal.sin (ang (rpos V) i k) := by
  rw [← sin_at]
  pointwise [res_main_v57]
theorem v110_at (h : Fin 4) (k : Fin 32) : res_main_v110 V (ix3 i h k) = rdq V (ix3 i h ⟨128 + k, by omega⟩) := by pointwise [res_main_v110, res_main_v93]
theorem v111_at (h : Fin 4) (k : Fin 32) : res_main_v111 V (ix3 i h k) = rdq V (ix3 i h ⟨160 + k, by omega⟩) := by
  pointwise [res_main_v111, res_main_v93]
  exact congrArg (fun q => rdq V (ix3 i h q)) (Fin.ext (by show 128 + (32 + k.val) = 160 + k.val; omega))

/-- The queries' gradient from its halves. -/
theorem pq_at (A : FVec Ideal S8192x4x192 .f32) (B C : FVec Ideal S8192x4x32 .f32) (D E : FVec Ideal S8192x1x32 .f32) (h : Fin 4) (c : Fin 192) (pos : IVec Cert.MixMidIdeal.S8192 32)
    (hB : ∀ h k, B (ix3 i h k) = A (ix3 i h ⟨128 + k, by omega⟩)) (hC : ∀ h k, C (ix3 i h k) = A (ix3 i h ⟨160 + k, by omega⟩))
    (hD : ∀ k, D (ix3 i 0 k) = Ideal.cos (ang pos i k)) (hE : ∀ k, E (ix3 i 0 k) = Ideal.sin (ang pos i k)) :
    (addf (pad S8192x4x192 ![0, 0, 0] ![0, 0, 64] ![0, 0, 0] (extractStridedSlice S8192x4x128 ![0, 0, 0] A slices_S8192x4x192_S8192x4x128_0_0_0)
        (constant (F := Ideal) S_ .f32 0x00000000#32) pads_S8192x4x128_S8192x4x192_000_000_0640 h_S_)
      (pad S8192x4x192 ![0, 0, 128] ![0, 0, 0] ![0, 0, 0] (addf
        (pad S8192x4x64 ![0, 0, 32] ![0, 0, 0] ![0, 0, 0] (addf (mulf C (broadcastInDim S8192x4x32 ![0, 1, 2] bcast_S8192x1x32_S8192x4x32_0_1_2 D))
            (mulf (Host.negf B) (broadcastInDim S8192x4x32 ![0, 1, 2] bcast_S8192x1x32_S8192x4x32_0_1_2 E)))
          (constant S_ .f32 0x00000000#32) pads_S8192x4x32_S8192x4x64_000_000_3200 h_S_)
        (pad S8192x4x64 ![0, 0, 0] ![0, 0, 32] ![0, 0, 0] (addf (mulf C (broadcastInDim S8192x4x32 ![0, 1, 2] bcast_S8192x1x32_S8192x4x32_0_1_2 E))
            (mulf B (broadcastInDim S8192x4x32 ![0, 1, 2] bcast_S8192x1x32_S8192x4x32_0_1_2 D)))
          (constant S_ .f32 0x00000000#32) pads_S8192x4x32_S8192x4x64_000_000_0320 h_S_))
        (constant S_ .f32 0x00000000#32) pads_S8192x4x64_S8192x4x192_000_000_12800 h_S_) : FVec Ideal S8192x4x192 .f32) (ix3 i h c)
      = DQF pos A (ix2 i ⟨h.val * 256 + c.val, by omega⟩) := by
  by_cases h1 : c.val < 128
  · rw [dqf_lo i pos A _ h c rfl h1]
    pointwise []
    have p2 : ¬ (128 ≤ c.val ∧ c.val - 128 < 64) := by omega
    simp only [h1, p2, ↓reduceDIte, zero_add, add_zero]
  · have hc := c.isLt
    have p2 : 128 ≤ c.val ∧ c.val - 128 < 64 := by omega
    rw [dqf_rot i pos A _ h ⟨c.val - 128, by omega⟩ (by show h.val * 256 + c.val = h.val * 256 + (128 + (c.val - 128)); omega)]
    by_cases h2 : c.val - 128 < 32
    · rw [rot_lo _ _ _ _ ⟨c.val - 128, h2⟩ rfl, slot_at A i _ h ⟨128 + (c.val - 128), by omega⟩ rfl,
        slot_at A i _ h ⟨160 + (c.val - 128), by omega⟩ (by show h.val * 256 + (128 + (32 + (c.val - 128))) = h.val * 256 + (160 + (c.val - 128)); omega)]
      pointwise []
      have p3 : ¬ (32 ≤ c.val - 128 ∧ c.val - 128 - 32 < 32) := by omega
      simp only [h1, p2, p3, h2, ↓reduceDIte, zero_add, add_zero, and_self, hB, hC, hD, hE]
      exact add_comm _ _
    · have h3 : c.val - 128 - 32 < 32 := by omega
      rw [rot_hi _ _ _ _ ⟨c.val - 128 - 32, h3⟩ (by show c.val - 128 = 32 + (c.val - 128 - 32); omega),
        slot_at A i _ h ⟨160 + (c.val - 128 - 32), by omega⟩ (by show h.val * 256 + (128 + (32 + (c.val - 128 - 32))) = h.val * 256 + (160 + (c.val - 128 - 32)); omega),
        slot_at A i _ h ⟨128 + (c.val - 128 - 32), by omega⟩ rfl]
      pointwise []
      have p3 : 32 ≤ c.val - 128 ∧ c.val - 128 - 32 < 32 := by omega
      simp only [h1, p2, p3, h2, ↓reduceDIte, zero_add, add_zero, and_self, hB, hC, hD, hE]

theorem cast_q (X : FVec Ideal S8192x4x192 .f32) (n : Fin 768) : shapeCast S8192x768 X shapeCasts_S8192x4x192_S8192x768 (ix2 i n) = X (ix3 i ⟨n.val / 192, by omega⟩ ⟨n.val % 192, by omega⟩) := by
  pointwise []

theorem dq_at (n : Fin 768) : res_main_v129 V (ix2 i n) = DQF (rpos V) (rdq V) (ix2 i ⟨n.val / 192 * 256 + n.val % 192, by omega⟩) :=
  (cast_q i _ n).trans (pq_at i (rdq V) (res_main_v110 V) (res_main_v111 V) (res_main_v56 V) (res_main_v57 V) ⟨n.val / 192, by omega⟩ ⟨n.val % 192, by omega⟩ (rpos V)
    (v110_at V i) (v111_at V i) (v56_at V i) (v57_at V i))

theorem col_v (h b c : ℕ) (hb : b < 2) (hc : c < 128) :
    (h * 256 + b * 128 + c) % 256 / 128 * 512 + (h * 256 + b * 128 + c) / 256 * 128 + (h * 256 + b * 128 + c) % 128 = b * 512 + h * 128 + c := by
  have e1 : (h * 256 + b * 128 + c) / 256 = h := by omega
  have e2 : (h * 256 + b * 128 + c) % 256 / 128 = b := by omega
  have e3 : (h * 256 + b * 128 + c) % 128 = c := by omega
  rw [e1, e2, e3]

theorem row_v (h b c : ℕ) (hh : h < 4) (hc : c < 128) :
    (b * 512 + h * 128 + c) / 128 % 4 * 256 + (b * 512 + h * 128 + c) / 512 * 128 + (b * 512 + h * 128 + c) % 128 = h * 256 + b * 128 + c := by
  have e1 : (b * 512 + h * 128 + c) / 512 = b := by omega
  have e2 : (b * 512 + h * 128 + c) / 128 = b * 4 + h := by omega
  have e3 : (b * 512 + h * 128 + c) % 128 = c := by omega
  have e4 : (b * 4 + h) % 4 = h := by omega
  rw [e1, e2, e3, e4]

/-- The column of a head's element among the kernel's. -/
def col (n : Fin 1024) : Fin 1024 := ⟨n.val % 256 / 128 * 512 + n.val / 256 * 128 + n.val % 128, by omega⟩
/-- The same the other way. -/
def loc (n : Fin 1024) : Fin 1024 := ⟨n.val / 128 % 4 * 256 + n.val / 512 * 128 + n.val % 128, by omega⟩

theorem split_col (n : Fin 1024) : ∃ h b c : ℕ, h < 4 ∧ b < 2 ∧ c < 128 ∧ n.val = h * 256 + b * 128 + c :=
  ⟨n.val / 256, n.val % 256 / 128, n.val % 128, by omega, by omega, by omega, by omega⟩
theorem split_loc (n : Fin 1024) : ∃ h b c : ℕ, h < 4 ∧ b < 2 ∧ c < 128 ∧ n.val = b * 512 + h * 128 + c :=
  ⟨n.val / 128 % 4, n.val / 512, n.val % 128, by omega, by omega, by omega, by omega⟩

theorem loc_col (n : Fin 1024) : loc (col n) = n := by
  obtain ⟨h, b, c, hh, hb, hc, e⟩ := split_col n
  have e1 : (col n).val = b * 512 + h * 128 + c := by rw [← col_v h b c hb hc, ← e]; rfl
  refine Fin.ext ?_
  rw [e, ← row_v h b c hh hc, ← e1]; rfl
theorem col_loc (n : Fin 1024) : col (loc n) = n := by
  obtain ⟨h, b, c, hh, hb, hc, e⟩ := split_loc n
  have e1 : (loc n).val = h * 256 + b * 128 + c := by rw [← row_v h b c hh hc, ← e]; rfl
  refine Fin.ext ?_
  rw [e, ← col_v h b c hb hc, ← e1]; rfl

theorem pkv_at (A : FVec Ideal S8192x4x192 .f32) (B : FVec Ideal S8192x4x128 .f32) (n : Fin 1024) :
    shapeCast S8192x1024 (addf (pad S8192x4x256 ![0, 0, 128] ![0, 0, 0] ![0, 0, 0] B (constant (F := Ideal) S_ .f32 0x00000000#32) pads_S8192x4x128_S8192x4x256_000_000_12800 h_S_)
      (pad S8192x4x256 ![0, 0, 0] ![0, 0, 128] ![0, 0, 0] (extractStridedSlice S8192x4x128 ![0, 0, 0] A slices_S8192x4x192_S8192x4x128_0_0_0)
        (constant S_ .f32 0x00000000#32) pads_S8192x4x128_S8192x4x256_000_000_01280 h_S_)) shapeCasts_S8192x4x256_S8192x1024 (ix2 i n)
      = DKV A B (ix2 i (col n)) := by
  obtain ⟨h, b, c, hh, hb, hc, e⟩ := split_col n
  have ec : (col n).val = b * 512 + h * 128 + c := by rw [← col_v h b c hb hc, ← e]; rfl
  obtain ⟨q, hq⟩ : ∃ q, q = col n := ⟨_, rfl⟩
  rw [← hq] at ec ⊢
  clear hq
  have e1 : n.val / 256 = h := by omega
  have e2 : n.val % 256 = b * 128 + c := by omega
  obtain rfl | rfl : b = 0 ∨ b = 1 := by omega
  · refine Eq.trans ?_ (dif_pos (show q.val < 512 by omega)).symm
    refine Eq.trans (b := A (ix3 i ⟨n.val / 256, by omega⟩ ⟨n.val % 256, by omega⟩)) ?_
      (slot_at A i _ ⟨n.val / 256, by omega⟩ ⟨n.val % 256, by omega⟩ (by show q.val / 128 * 256 + q.val % 128 = n.val / 256 * 256 + n.val % 256; omega)).symm
    pointwise []
    have p0 : n.val / 256 < 4 := by omega
    have p1 : ¬ 128 ≤ n.val % 256 := by omega
    have p2 : n.val % 256 < 128 := by omega
    simp only [p0, p1, p2, ↓reduceDIte, zero_add, and_self, false_and, and_false]
  · refine Eq.trans ?_ (dif_neg (show ¬ q.val < 512 by omega)).symm
    refine Eq.trans (b := B (ix3 i ⟨n.val / 256, by omega⟩ ⟨n.val % 256 - 128, by omega⟩)) ?_ ?_
    · pointwise []
      have p0 : n.val / 256 < 4 := by omega
      have p1 : 128 ≤ n.val % 256 := by omega
      have p2 : n.val % 256 - 128 < 128 := by omega
      have p3 : ¬ n.val % 256 < 128 := by omega
      simp only [p0, p1, p2, p3, ↓reduceDIte, add_zero, and_self, and_false]
    · have e3 : (⟨n.val / 256, by omega⟩ : Fin 4) = ⟨(q.val - 512) / 128, by omega⟩ := Fin.ext (by show n.val / 256 = (q.val - 512) / 128; omega)
      have e4 : (⟨n.val % 256 - 128, by omega⟩ : Fin 128) = ⟨(q.val - 512) % 128, by omega⟩ := Fin.ext (by show n.val % 256 - 128 = (q.val - 512) % 128; omega)
      exact congrArg₂ (fun a b => B (ix3 i a b)) e3 e4

theorem dkv_at (n : Fin 1024) : res_main_v128 V (ix2 i n) = DKV (rdk V) (rdv V) (ix2 i (col n)) := pkv_at i (rdk V) (rdv V) n

theorem dkr_at (k : Fin 64) : res_main_v97 V (ix2 i k) = DKR (rdk V) i ⟨k, by omega⟩ := by
  rw [DKR, slot_at (rdk V) i _ 0 ⟨128 + k, by omega⟩ (by show 128 + k.val = 0 * 256 + (128 + k.val); omega), slot_at (rdk V) i _ 1 ⟨128 + k, by omega⟩ (by show 384 + k.val = 1 * 256 + (128 + k.val); omega),
    slot_at (rdk V) i _ 2 ⟨128 + k, by omega⟩ (by show 640 + k.val = 2 * 256 + (128 + k.val); omega), slot_at (rdk V) i _ 3 ⟨128 + k, by omega⟩ (by show 896 + k.val = 3 * 256 + (128 + k.val); omega)]
  pointwise [res_main_v97]
  refine (Fin.sum_univ_one (M := EReal) _).trans ((Fin.sum_univ_four (M := EReal) _).trans ?_)
  rfl

end rope

section latents

variable (i : Fin 8192)

/-- The sum over the padded heads is the sum over the heads. -/
theorem dcq_at (k : Fin 384) : res_main_v153 V (ix2 i k) = DCQ (rpos V) (rwq V) (rdq V) i k := by
  refine Eq.trans (b := ∑ n : Fin 768, (show FVec Ideal S8192x768 .f32 from res_main_v129 V) (ix2 i n) * rwq V (ix2 k n)) (by pointwise [res_main_v153]) ?_
  refine Fintype.sum_of_injective (M := EReal) (fun n : Fin 768 => (⟨n.val / 192 * 256 + n.val % 192, by omega⟩ : Fin 1024)) (fun a b h => ?_) _ _ (fun n hn => ?_) (fun n => ?_)
  · have h' : a.val / 192 * 256 + a.val % 192 = b.val / 192 * 256 + b.val % 192 := congrArg Fin.val h
    have h1 : a.val / 192 = b.val / 192 := by omega
    exact Fin.ext (by omega)
  · have h : ¬ n.val % 256 < 192 := fun h => hn ⟨⟨n.val / 256 * 192 + n.val % 256, by omega⟩, Fin.ext
      (by show (n.val / 256 * 192 + n.val % 256) / 192 * 256 + (n.val / 256 * 192 + n.val % 256) % 192 = n.val; omega)⟩
    show _ * wuq _ n k = 0
    rw [wuq, dif_neg (by omega), mul_zero]
  · show _ = _ * wuq _ ⟨n.val / 192 * 256 + n.val % 192, _⟩ k
    refine congrArg₂ (fun a b : EReal => a * b) (dq_at V i n) ?_
    have e1 : (n.val / 192 * 256 + n.val % 192) / 256 = n.val / 192 := by omega
    have e2 : (n.val / 192 * 256 + n.val % 192) % 256 = n.val % 192 := by omega
    have e3 : n.val / 192 < 4 ∧ n.val % 192 < 192 := by omega
    have e4 : (n.val / 192 * 256 + n.val % 192) / 256 < 4 ∧ (n.val / 192 * 256 + n.val % 192) % 256 < 192 := by rw [e1, e2]; exact e3
    refine Eq.trans ?_ (dif_pos e4).symm
    exact congrArg (fun q => rwq V (ix2 k q)) (Fin.ext (by
      show n.val = (n.val / 192 * 256 + n.val % 192) / 256 * 192 + (n.val / 192 * 256 + n.val % 192) % 256; rw [e1, e2]; omega))

theorem dckv_at (k : Fin 256) : res_main_v131 V (ix2 i k) = DCKV (rwkv V) (rdk V) (rdv V) i k := by
  refine Eq.trans (b := ∑ n : Fin 1024, (show FVec Ideal S8192x1024 .f32 from res_main_v128 V) (ix2 i n) * rwkv V (ix2 k n)) (by pointwise [res_main_v131]) ?_
  refine Fintype.sum_equiv (M := EReal) ⟨col, loc, loc_col, col_loc⟩ _ _ fun n => ?_
  exact congrArg₂ (fun a b : EReal => a * b) (dkv_at V i n) (congrArg (fun q => rwkv V (ix2 k q)) (loc_col n).symm)

end latents

end Cert.MixMidClaim
end
-- ==== Proof.MixMid.RefOut.lean ====
module

public import proofs.«01_k».proof.Proof.MixMid.Ref

@[expose] public section

set_option maxRecDepth 16384

noncomputable section

open Idealize.ShloMosaic Idealize.ShloMosaic.TcCoe Idealize.SL.Sem Idealize.ShloMosaic.StableHlo

namespace Cert.MixMidClaim

open Cert.MixMidRefIdeal Cert.MixMidRefIdeal.Gen Cert.MixMidRefIdeal.Value
open Cert.MixMidIdeal.Value (ang tab bef aft UU YY DY DU slot rot DQF DKV DKR wuq DCQ DCKV irms lat CQ CKV L384 L256 DZ rowP P)
open Cert.Shared (IsReal)

/-! The reference's results put together from their parts. -/

variable (V : Valuation τ sig (Elt Ideal)) (i : Fin 8192)

theorem w384 : L384 = ((384 : ℝ) : EReal) := by
  simp [L384, Ideal.ofBits, Ideal.ieee]
  exact_mod_cast (by norm_num : (12582912 : ℝ) * (2 ^ 15)⁻¹ = 384)

theorem w256 : L256 = ((256 : ℝ) : EReal) := by
  simp [L256, Ideal.ofBits, Ideal.ieee]
  exact_mod_cast (by norm_num : (8388608 : ℝ) * (2 ^ 15)⁻¹ = 256)

/-- The gradients through the two norms. -/
theorem lat_q (k : Fin 384) (hz : ∀ y, IsReal (rz V y)) (hd : ∀ k, IsReal (DCQ (rpos V) (rwq V) (rdq V) i k * rgq V (ix2 0 k))) :
    (addf (addf (mulf (res_main_v158 V) (broadcastInDim S8192x384 ![0, 1] bcast_S8192x1_S8192x384_0_1 (res_main_v26 V))) (mulf (res_main_v18 V) (res_main_v168 V)))
      (mulf (res_main_v168 V) (res_main_v18 V)) : FVec Ideal S8192x384 .f32) (ix2 i k)
      = lat L384 (CQ (rz V) i) (fun k => DCQ (rpos V) (rwq V) (rdq V) i k * rgq V (ix2 0 k)) k := by
  obtain ⟨e, he, hE⟩ := Cert.Shared.wEps
  unfold lat irms
  refine Eq.trans ?_ (Cert.Shared.dnorm_law (x := CQ (rz V) i) (fun k => hz _) hd (by norm_num : (0 : ℝ) < 384) he w384 hE k)
  simp only [← dcq_at]
  pointwise [res_main_v158, res_main_v168, res_main_v26, res_main_v25, res_main_v18]

theorem lat_kv (k : Fin 256) (hz : ∀ y, IsReal (rz V y)) (hd : ∀ k, IsReal (DCKV (rwkv V) (rdk V) (rdv V) i k * rgkv V (ix2 0 k))) :
    (addf (addf (mulf (res_main_v136 V) (broadcastInDim S8192x256 ![0, 1] bcast_S8192x1_S8192x256_0_1 (res_main_v43 V))) (mulf (res_main_v35 V) (res_main_v146 V)))
      (mulf (res_main_v146 V) (res_main_v35 V)) : FVec Ideal S8192x256 .f32) (ix2 i k)
      = lat L256 (CKV (rz V) i) (fun k => DCKV (rwkv V) (rdk V) (rdv V) i k * rgkv V (ix2 0 k)) k := by
  obtain ⟨e, he, hE⟩ := Cert.Shared.wEps
  unfold lat irms
  refine Eq.trans ?_ (Cert.Shared.dnorm_law (x := CKV (rz V) i) (fun k => hz _) hd (by norm_num : (0 : ℝ) < 256) he w256 hE k)
  simp only [← dckv_at]
  pointwise [res_main_v136, res_main_v146, res_main_v43, res_main_v42, res_main_v35]

/-- The rotated columns' gradient from its halves. -/
abbrev pr (A B C D : FVec Ideal S8192x32 .f32) : FVec Ideal S8192x64 .f32 :=
  addf (pad S8192x64 ![0, 32] ![0, 0] ![0, 0] (addf (mulf B C) (mulf (Host.negf A) D)) (constant S_ .f32 0x00000000#32) pads_S8192x32_S8192x64_000_3200 h_S_)
    (pad S8192x64 ![0, 0] ![0, 32] ![0, 0] (addf (mulf B D) (mulf A C)) (constant S_ .f32 0x00000000#32) pads_S8192x32_S8192x64_000_0320 h_S_)

theorem pr_at (A B C D : FVec Ideal S8192x32 .f32) (g : Fin 128 → EReal) (pos : IVec Cert.MixMidIdeal.S8192 32)
    (hA : ∀ k : Fin 32, A (ix2 i k) = g ⟨k, by omega⟩) (hB : ∀ k : Fin 32, B (ix2 i k) = g ⟨32 + k, by omega⟩)
    (hC : ∀ k, C (ix2 i k) = Ideal.cos (ang pos i k)) (hD : ∀ k, D (ix2 i k) = Ideal.sin (ang pos i k)) (k : Fin 64) :
    pr A B C D (ix2 i k) = rot g (tab fun k => Ideal.cos (ang pos i k)) (tab fun k => Ideal.sin (ang pos i k)) ⟨k, by omega⟩ := by
  by_cases h : k.val < 32
  · rw [rot_lo _ _ _ _ ⟨k.val, h⟩ rfl]
    have p1 : ¬ 32 ≤ k.val := by omega
    pointwise [pr]
    simp only [h, p1, ↓reduceDIte, zero_add, false_and, hA, hB, hC, hD]
    exact add_comm _ _
  · have h3 : k.val - 32 < 32 := by omega
    have p1 : 32 ≤ k.val := by omega
    rw [rot_hi _ _ _ _ ⟨k.val - 32, h3⟩ (by show k.val = 32 + (k.val - 32); omega)]
    pointwise [pr]
    simp only [h, h3, p1, ↓reduceDIte, add_zero, and_self, hA, hB, hC, hD]

/-- The last columns of the projections' gradient. -/
abbrev pz (R : FVec Ideal S8192x64 .f32) (X : FVec Ideal S8192x256 .f32) (Y : FVec Ideal S8192x384 .f32) : FVec Ideal S8192x704 .f32 :=
  extractStridedSlice S8192x704 ![0, 1536] (addf (addf (pad S8192x2240 ![0, 2176] ![0, 0] ![0, 0] R (constant S_ .f32 0x00000000#32) pads_S8192x64_S8192x2240_000_217600 h_S_)
    (pad S8192x2240 ![0, 1920] ![0, 64] ![0, 0] X (constant S_ .f32 0x00000000#32) pads_S8192x256_S8192x2240_000_1920640 h_S_))
    (pad S8192x2240 ![0, 1536] ![0, 320] ![0, 0] Y (constant S_ .f32 0x00000000#32) pads_S8192x384_S8192x2240_000_15363200 h_S_)) slices_S8192x2240_S8192x704_0_1536

theorem pz_at (R : FVec Ideal S8192x64 .f32) (X : FVec Ideal S8192x256 .f32) (Y : FVec Ideal S8192x384 .f32) (k : Fin 704) (Z : Fin 704 → EReal)
    (hY : ∀ k : Fin 384, Y (ix2 i k) = Z ⟨k, by omega⟩) (hX : ∀ k : Fin 256, X (ix2 i k) = Z ⟨384 + k, by omega⟩) (hR : ∀ k : Fin 64, R (ix2 i k) = Z ⟨640 + k, by omega⟩) :
    pz R X Y (ix2 i k) = Z k := by
  pointwise [pz]
  obtain ⟨k, hk⟩ := k
  by_cases h1 : k < 384
  · have p1 : ¬ (2176 ≤ 1536 + k) := by omega
    have p2 : ¬ (1920 ≤ 1536 + k) := by omega
    simp only [h1, p1, p2, false_and, ↓reduceDIte, zero_add]
    exact hY ⟨k, h1⟩
  · by_cases h2 : k < 640
    · obtain ⟨q, rfl⟩ : ∃ q, k = 384 + q := ⟨k - 384, by omega⟩
      have p1 : ¬ (2176 ≤ 1536 + (384 + q)) := by omega
      have p2 : 1920 ≤ 1536 + (384 + q) := by omega
      have p3 : 1536 + (384 + q) - 1920 = q := by omega
      have p4 : q < 256 := by omega
      simp only [h1, p1, p2, p3, p4, false_and, and_self, ↓reduceDIte, zero_add, add_zero]
      exact hX ⟨q, p4⟩
    · obtain ⟨q, rfl⟩ : ∃ q, k = 640 + q := ⟨k - 640, by omega⟩
      have p1 : 2176 ≤ 1536 + (640 + q) := by omega
      have p2 : ¬ (1536 + (640 + q) - 1920 < 256) := by omega
      have p3 : 1536 + (640 + q) - 2176 = q := by omega
      have p4 : q < 64 := by omega
      simp only [h1, p1, p2, p3, p4, and_false, and_self, ↓reduceDIte, add_zero]
      exact hR ⟨q, p4⟩

theorem zcat_at (a b d : FVec Ideal S8192x512 .f32) (e : FVec Ideal S8192x704 .f32) (f : FVec Ideal S8192x64 .f32) (Z : Fin 2304 → EReal)
    (ha : ∀ k : Fin 512, a (ix2 i k) = Z ⟨k, by omega⟩) (hb : ∀ k : Fin 512, b (ix2 i k) = Z ⟨512 + k, by omega⟩) (hd : ∀ k : Fin 512, d (ix2 i k) = Z ⟨1024 + k, by omega⟩)
    (he : ∀ k : Fin 704, e (ix2 i k) = Z ⟨1536 + k, by omega⟩) (hf : ∀ k : Fin 64, f (ix2 i k) = Z ⟨2240 + k, by omega⟩) (j : Fin 2304) :
    truncf (F := Ideal) .bf16 (concatenate S8192x2304 1 [⟨S8192x512, a⟩, ⟨S8192x512, b⟩, ⟨S8192x512, d⟩, ⟨S8192x704, e⟩, ⟨S8192x64, f⟩]
      concatenates_S8192x512_S8192x512_S8192x512_S8192x704_S8192x64_S8192x2304_d1) bitsLt_bf16_f32 (ix2 i j) = Z j := by
  pointwise []
  obtain ⟨j, hj⟩ := j
  dsimp only
  by_cases h1 : j < 512
  · rw [dif_pos h1]; exact ha ⟨j, h1⟩
  rw [dif_neg h1]
  obtain ⟨j, rfl⟩ : ∃ q, j = 512 + q := ⟨j - 512, by omega⟩
  simp only [Nat.add_sub_cancel_left]
  by_cases h2 : j < 512
  · rw [dif_pos h2]; exact hb ⟨j, h2⟩
  rw [dif_neg h2]
  obtain ⟨j, rfl⟩ : ∃ q, j = 512 + q := ⟨j - 512, by omega⟩
  simp only [Nat.add_sub_cancel_left, ← Nat.add_assoc, Nat.reduceAdd]
  by_cases h3 : j < 512
  · rw [dif_pos h3]; exact hd ⟨j, h3⟩
  rw [dif_neg h3]
  obtain ⟨j, rfl⟩ : ∃ q, j = 512 + q := ⟨j - 512, by omega⟩
  simp only [Nat.add_sub_cancel_left, ← Nat.add_assoc, Nat.reduceAdd]
  by_cases h4 : j < 704
  · rw [dif_pos h4]; exact he ⟨j, h4⟩
  rw [dif_neg h4]
  obtain ⟨j, rfl⟩ : ∃ q, j = 704 + q := ⟨j - 704, by omega⟩
  simp only [Nat.add_sub_cancel_left, ← Nat.add_assoc, Nat.reduceAdd]
  exact hf ⟨j, by omega⟩

/-- The taps' gradients, one behind the other. -/
theorem taps_at (A B C : FVec Ideal S1x512 .f32) (Z : Fin 1536 → EReal) (hC : ∀ k : Fin 512, C (ix2 0 k) = Z ⟨k, by omega⟩) (hB : ∀ k : Fin 512, B (ix2 0 k) = Z ⟨512 + k, by omega⟩)
    (hA : ∀ k : Fin 512, A (ix2 0 k) = Z ⟨1024 + k, by omega⟩) (j : Fin 1536) :
    shapeCast S1x1536 (addf (addf (pad S3x512 ![2, 0] ![0, 0] ![0, 0] A (constant (F := Ideal) S_ .f32 0x00000000#32) pads_S1x512_S3x512_200_000 h_S_)
      (pad S3x512 ![1, 0] ![1, 0] ![0, 0] B (constant S_ .f32 0x00000000#32) pads_S1x512_S3x512_110_000 h_S_))
      (pad S3x512 ![0, 0] ![2, 0] ![0, 0] C (constant S_ .f32 0x00000000#32) pads_S1x512_S3x512_020_000 h_S_)) shapeCasts_S3x512_S1x1536 (ix2 0 j) = Z j := by
  pointwise []
  obtain ⟨j, hj⟩ := j
  have h9 : j % 512 < 512 := Nat.mod_lt _ (by omega)
  have z0 : ∀ q : Fin 1, q = 0 := fun q => Subsingleton.elim _ _
  obtain ⟨b, k, hk, rfl⟩ : ∃ b k, k < 512 ∧ j = b * 512 + k := ⟨j / 512, j % 512, h9, by omega⟩
  have e1 : (b * 512 + k) / 512 = b := by omega
  have e2 : (b * 512 + k) % 512 = k := by omega
  have hb : b < 3 := by omega
  simp only [e1, e2, hk, and_true]
  interval_cases b
  · simp only [Nat.reduceLeDiff, Nat.reduceLT, false_and, Nat.lt_one_iff, ↓reduceDIte, zero_add, Nat.zero_mul]
    refine (congrArg (fun q => C (ix2 q ⟨k, hk⟩)) (z0 _)).trans (hC ⟨k, hk⟩) |>.trans (congrArg Z (Fin.ext ?_))
    simp
  · simp only [Nat.reduceLeDiff, Nat.reduceSub, Nat.reduceLT, false_and, and_self, Nat.lt_one_iff, OfNat.ofNat_ne_zero, one_ne_zero, and_false, ↓reduceDIte, zero_add, add_zero, Nat.one_mul, le_refl]
    refine (congrArg (fun q => B (ix2 q ⟨k, hk⟩)) (z0 _)).trans (hB ⟨k, hk⟩) |>.trans (congrArg Z (Fin.ext ?_))
    simp
  · simp only [Nat.reduceLeDiff, Nat.reduceSub, Nat.reduceLT, and_false, and_self, Nat.lt_one_iff, OfNat.ofNat_ne_zero, one_ne_zero, ↓reduceDIte, zero_add, add_zero, le_refl]
    refine (congrArg (fun q => A (ix2 q ⟨k, hk⟩)) (z0 _)).trans (hA ⟨k, hk⟩) |>.trans (congrArg Z (Fin.ext ?_))
    simp

theorem tap_sum (A B : FVec Ideal S8192x512 .f32) (k : Fin 512) :
    broadcastInDim S1x512 ![1] bcast_S512_S1x512_1 (Host.reduceAdd (shapeCast S1x512 (Host.reduceAdd (mulf A B) (constant (F := Ideal) S_ .f32 0x00000000#32) reducesTo_S8192x512_S512_d0 h_S_) shapeCasts_S512_S1x512)
      (constant S_ .f32 0x00000000#32) reducesTo_S1x512_S512_d0 h_S_) (ix2 0 k) = ∑ i : Fin 8192, A (ix2 i k) * B (ix2 i k) := by
  refine Eq.trans ?_ (Fin.sum_univ_one (M := EReal) fun _ => ∑ i : Fin 8192, A (ix2 i k) * B (ix2 i k))
  pointwise []

theorem pcat_at (a : FVec Ideal S1x1536 .f32) (b : FVec Ideal S1x384 .f32) (d : FVec Ideal S1x256 .f32) (x : Fin 8) (j : Fin 2176) (Z : Fin 2176 → EReal)
    (ha : ∀ k : Fin 1536, a (ix2 0 k) = Z ⟨k, by omega⟩) (hb : ∀ k : Fin 384, b (ix2 0 k) = Z ⟨1536 + k, by omega⟩) (hd : ∀ k : Fin 256, d (ix2 0 k) = Z ⟨1920 + k, by omega⟩) :
    broadcastInDim S8x2176 ![0, 1] bcast_S1x2176_S8x2176_0_1 (concatenate S1x2176 1 [⟨S1x1536, a⟩, ⟨S1x384, b⟩, ⟨S1x256, d⟩] concatenates_S1x1536_S1x384_S1x256_S1x2176_d1) (ix2 x j) = Z j := by
  pointwise []
  obtain ⟨j, hj⟩ := j
  dsimp only
  by_cases h1 : j < 1536
  · rw [dif_pos h1]; exact ha ⟨j, h1⟩
  rw [dif_neg h1]
  obtain ⟨j, rfl⟩ : ∃ q, j = 1536 + q := ⟨j - 1536, by omega⟩
  simp only [Nat.add_sub_cancel_left]
  by_cases h2 : j < 384
  · rw [dif_pos h2]; exact hb ⟨j, h2⟩
  rw [dif_neg h2]
  obtain ⟨j, rfl⟩ : ∃ q, j = 384 + q := ⟨j - 384, by omega⟩
  simp only [Nat.add_sub_cancel_left, ← Nat.add_assoc, Nat.reduceAdd]
  exact hd ⟨j, by omega⟩

theorem gain_q (k : Fin 384) : shapeCast S1x384 (Host.reduceAdd (mulf (res_main_v31 V) (res_main_v153 V)) (constant (F := Ideal) S_ .f32 0x00000000#32) reducesTo_S8192x384_S384_d0 h_S_) shapeCasts_S384_S1x384 (ix2 0 k)
    = ∑ i : Fin 8192, DCQ (rpos V) (rwq V) (rdq V) i k * (CQ (rz V) i k * irms L384 (CQ (rz V) i)) := by
  simp only [← dcq_at, irms]
  pointwise [res_main_v31, res_main_v26, res_main_v25, res_main_v18]
  exact Finset.sum_congr (M := EReal) rfl fun _ _ => EReal.mul_comm _ _

theorem gain_kv (k : Fin 256) : shapeCast S1x256 (Host.reduceAdd (mulf (res_main_v48 V) (res_main_v131 V)) (constant (F := Ideal) S_ .f32 0x00000000#32) reducesTo_S8192x256_S256_d0 h_S_) shapeCasts_S256_S1x256 (ix2 0 k)
    = ∑ i : Fin 8192, DCKV (rwkv V) (rdk V) (rdv V) i k * (CKV (rz V) i k * irms L256 (CKV (rz V) i)) := by
  simp only [← dckv_at, irms]
  pointwise [res_main_v48, res_main_v43, res_main_v42, res_main_v35]
  exact Finset.sum_congr (M := EReal) rfl fun _ _ => EReal.mul_comm _ _

theorem out_q (X : FVec Ideal S8192x768 .f32) (j : Fin 1024) (dq : FVec Ideal S8192x4x192 .f32) (pos : IVec Cert.MixMidIdeal.S8192 32)
    (hX : ∀ n : Fin 768, X (ix2 i n) = DQF pos dq (ix2 i ⟨n.val / 192 * 256 + n.val % 192, by omega⟩)) : truncf (F := Ideal) .bf16 (shapeCast S8192x1024 (pad S8192x4x256 ![0, 0, 0] ![0, 0, 64] ![0, 0, 0]
    (shapeCast S8192x4x192 X shapeCasts_S8192x768_S8192x4x192) (sitofp .f32 (constantI S_ 32 0#32)) pads_S8192x4x192_S8192x4x256_000_000_0640 h_S_) shapeCasts_S8192x4x256_S8192x1024) bitsLt_bf16_f32 (ix2 i j) = DQF pos dq (ix2 i j) := by
  pointwise []
  obtain ⟨j, hj⟩ := j
  obtain ⟨h, c, hc, rfl⟩ : ∃ h c, c < 256 ∧ j = h * 256 + c := ⟨j / 256, j % 256, Nat.mod_lt _ (by omega), by omega⟩
  have e1 : (h * 256 + c) / 256 = h := by omega
  have e2 : (h * 256 + c) % 256 = c := by omega
  have hh : h < 4 := by omega
  simp only [e1, e2, hh, true_and]
  by_cases h1 : c < 192
  · rw [dif_pos h1]
    refine (hX ⟨h * 192 + c, by omega⟩).trans (congrArg (fun n => DQF pos dq (ix2 i n)) (Fin.ext ?_))
    show (h * 192 + c) / 192 * 256 + (h * 192 + c) % 192 = h * 256 + c
    have e3 : (h * 192 + c) / 192 = h := by omega
    have e4 : (h * 192 + c) % 192 = c := by omega
    rw [e3, e4]
  · rw [dif_neg h1]
    have e5 : ¬ (h * 256 + c) % 256 < 128 := by omega
    refine Eq.trans ?_ (if_neg e5).symm
    refine Eq.trans ?_ (rot_out _ _ _ _ ?_).symm
    · simp [FloatOps.sitofp]
    · show 64 ≤ (h * 256 + c) % 256 - 128
      omega

theorem out_kv (X : FVec Ideal S8192x1024 .f32) (j : Fin 1024) : truncf (F := Ideal) .bf16 (shapeCast S8192x1024 (transpose S8192x2x4x128 [0, 2, 1, 3]
    (shapeCast S8192x4x2x128 X shapeCasts_S8192x1024_S8192x4x2x128) transposes_S8192x4x2x128_S8192x2x4x128_0_2_1_3) shapeCasts_S8192x2x4x128_S8192x1024) bitsLt_bf16_f32 (ix2 i j) = X (ix2 i (loc j)) := by
  pointwise [loc]

end Cert.MixMidClaim
end
-- ==== Proof.MixMid.Claim.lean ====
module

public import proofs.«01_k».proof.Proof.MixMid.Rows
public import proofs.«01_k».proof.Proof.MixMid.RefOut
public import proofs.«01_k».proof.Proof.Shared.Groups
public import proofs.«01_k».proof.Defs
public import proofs.«01_k».proof.Proof.Gen.Pre_mixmid_pre
public import Idealize.ShloMosaic.Lib.Quiescent

@[expose] public section

set_option maxRecDepth 16384

noncomputable section

open Idealize.ShloMosaic Idealize.ShloMosaic.TcCoe Idealize.SL.Sem Idealize.ShloMosaic.StableHlo

namespace Cert.MixMidClaim

open Cert.MixMidIdeal.Value (ang tab bef aft UU YY DY DU slot rot DQF DKV DKR wuq DCQ DCKV irms lat CQ CKV L384 L256 DZ rowP P ix2_all)
open Cert.Shared (IsReal)

/-- The precondition makes the elements of all float arguments real. -/
theorem reals {a0 : FVec Ideal Cert.MixMidIdeal.S8192x2240 .f32} {a2 : FVec Ideal Cert.MixMidIdeal.S8192x512 .f32} {a3 : FVec Ideal Cert.MixMidIdeal.S3x512 .f32}
    {a4 : FVec Ideal Cert.MixMidIdeal.S1x384 .f32} {a5 : FVec Ideal Cert.MixMidIdeal.S1x256 .f32} {a6 : FVec Ideal Cert.MixMidIdeal.S384x768 .f32} {a7 : FVec Ideal Cert.MixMidIdeal.S256x1024 .f32}
    {a8 a9 : FVec Ideal Cert.MixMidIdeal.S8192x4x192 .f32} {a10 : FVec Ideal Cert.MixMidIdeal.S8192x4x128 .f32} {a1 : IVec Cert.MixMidIdeal.S8192 32}
    (h : Cert.Pre_mixmid_pre.fn (F := Ideal) a0 a1 a2 a3 a4 a5 a6 a7 a8 a9 a10 = fun _ => 1#1) :
    (∀ i, IsReal (a0 i)) ∧ (∀ i, IsReal (a4 i)) ∧ (∀ i, IsReal (a5 i)) ∧ (∀ i, IsReal (a6 i)) ∧ (∀ i, IsReal (a7 i)) ∧ (∀ i, IsReal (a8 i)) ∧ (∀ i, IsReal (a9 i)) ∧ (∀ i, IsReal (a10 i)) := by
  have h := congrFun h ix0
  unfold Cert.Pre_mixmid_pre.fn at h
  obtain ⟨h, h10⟩ := IntOp.andi_eq_one.1 h
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h0, h2⟩ := IntOp.andi_eq_one.1 h
  exact ⟨Cert.Shared.real_of_finite _ _ _ _ _ _ _ h0, Cert.Shared.real_of_finite _ _ _ _ _ _ _ h4, Cert.Shared.real_of_finite _ _ _ _ _ _ _ h5, Cert.Shared.real_of_finite _ _ _ _ _ _ _ h6,
    Cert.Shared.real_of_finite _ _ _ _ _ _ _ h7, Cert.Shared.real_of_finite _ _ _ _ _ _ _ h8, Cert.Shared.real_of_finite _ _ _ _ _ _ _ h9, Cert.Shared.real_of_finite _ _ _ _ _ _ _ h10⟩

section real

theorem two : Ideal.ofBits .f32 1073741824#32 = ((2 : ℝ) : EReal) := by
  simp [Ideal.ofBits, Ideal.ieee]
  exact_mod_cast (by norm_num : (8388608 : ℝ) * (2 ^ 22)⁻¹ = 2)

theorem tenk : Ideal.ofBits .f32 1176256512#32 = ((10000 : ℝ) : EReal) := by
  simp [Ideal.ofBits, Ideal.ieee]
  exact_mod_cast (by norm_num : (10240000 : ℝ) * (2 ^ 10)⁻¹ = 10000)

/-- The angles are real, and so are their sines and cosines. -/
theorem ang_real (pos : IVec Cert.MixMidIdeal.S8192 32) (i : Fin 8192) (k : Fin 32) : IsReal (ang pos i k) := by
  unfold ang
  refine IsReal.mul ⟨_, rfl⟩ ?_
  rw [two, tenk, ← Cert.Shared.mul_w64i, Cert.Shared.w64i]
  exact ⟨_, rfl⟩

theorem cos_real {a : EReal} : IsReal a → IsReal (Ideal.cos a) := fun ⟨r, h⟩ => ⟨Real.cos r, by rw [h]; rfl⟩
theorem sin_real {a : EReal} : IsReal a → IsReal (Ideal.sin a) := fun ⟨r, h⟩ => ⟨Real.sin r, by rw [h]; rfl⟩

theorem tab_real {f : Fin 32 → EReal} (h : ∀ k, IsReal (f k)) (k : Fin 128) : IsReal (tab f k) := by
  unfold tab
  split_ifs
  exacts [h _, h _, IsReal.zero]

theorem slot_real {a : FVec Ideal Cert.MixMidIdeal.S8192x4x192 .f32} (h : ∀ i, IsReal (a i)) (i : Fin 8192) (n : Fin 1024) : IsReal (slot a i n) := by
  unfold slot
  split_ifs
  exacts [h _, IsReal.zero]

theorem rot_real {g c s : Fin 128 → EReal} (hg : ∀ k, IsReal (g k)) (hc : ∀ k, IsReal (c k)) (hs : ∀ k, IsReal (s k)) (k : Fin 128) : IsReal (rot g c s k) := by
  unfold rot
  refine ((hg _).mul (hc _)).add ?_
  split_ifs
  exacts [(hg _).mul (hs _), IsReal.zero.sub ((hg _).mul (hs _)), IsReal.zero]

theorem dqf_real {pos : IVec Cert.MixMidIdeal.S8192 32} {a : FVec Ideal Cert.MixMidIdeal.S8192x4x192 .f32} (h : ∀ i, IsReal (a i)) (j : Cert.MixMidIdeal.S8192x1024.Idx) : IsReal (DQF pos a j) := by
  unfold DQF
  split_ifs
  exacts [slot_real h _ _, rot_real (fun _ => slot_real h _ _) (tab_real fun _ => cos_real (ang_real _ _ _)) (tab_real fun _ => sin_real (ang_real _ _ _)) _]

theorem dcq_real {pos : IVec Cert.MixMidIdeal.S8192 32} {w : FVec Ideal Cert.MixMidIdeal.S384x768 .f32} {a : FVec Ideal Cert.MixMidIdeal.S8192x4x192 .f32} (h : ∀ i, IsReal (a i)) (hw : ∀ i, IsReal (w i))
    (i : Fin 8192) (k : Fin 384) : IsReal (DCQ pos w a i k) := by
  refine IsReal.sum fun n => (dqf_real h _).mul ?_
  unfold wuq
  split_ifs
  exacts [hw _, IsReal.zero]

theorem dckv_real {w : FVec Ideal Cert.MixMidIdeal.S256x1024 .f32} {a : FVec Ideal Cert.MixMidIdeal.S8192x4x192 .f32} {b : FVec Ideal Cert.MixMidIdeal.S8192x4x128 .f32}
    (h : ∀ i, IsReal (a i)) (hb : ∀ i, IsReal (b i)) (hw : ∀ i, IsReal (w i)) (i : Fin 8192) (k : Fin 256) : IsReal (DCKV w a b i k) := by
  refine IsReal.sum fun n => IsReal.mul ?_ (hw _)
  unfold DKV
  split_ifs
  exacts [slot_real h _ _, hb _]

end real

/-- The reference runs on the host alone: its arguments end unchanged, and it declares no semaphore. -/
theorem frame_ref : Cert.quiescent_MixMidRefIdeal (hMixMidRefIdeal := Cert.MixMidRefIdeal.Gen.facts) := fun m ρ _ =>
  (θ_run Cert.MixMidRefIdeal.defs _ _).mono (fun r h => ⟨fun c => (h c).2.2.2.2, Idealize.ShloMosaic.sem_eq_zero_of_no_sems (by decide) r.2⟩)
    (Cert.MixMidRefIdeal.Value.run (F := Ideal) m ρ)

section elements

open Cert.MixMidRefIdeal Cert.MixMidRefIdeal.Gen Cert.MixMidRefIdeal.Value

variable (V : Valuation τ sig (Elt Ideal)) (i : Fin 8192)

/-- The reference's gradient of the projections, column for column. -/
theorem dz_ref (hz : ∀ y, IsReal (rz V y)) (hq : ∀ k, IsReal (DCQ (rpos V) (rwq V) (rdq V) i k * rgq V (ix2 0 k)))
    (hkv : ∀ k, IsReal (DCKV (rwkv V) (rdk V) (rdv V) i k * rgkv V (ix2 0 k))) (j : Fin 2304) :
    truncf (F := Ideal) .bf16 (concatenate S8192x2304 1 [⟨S8192x512, mulf (rdya V) (res_main_v201 V)⟩, ⟨S8192x512, mulf (res_main_v237 V) (res_main_v177 V)⟩,
      ⟨S8192x512, mulf (res_main_v176 V) (res_main_v237 V)⟩,
      ⟨S8192x704, pz (pr (res_main_v98 V) (res_main_v99 V) (res_main_v16 V) (res_main_v17 V))
        (addf (addf (mulf (res_main_v136 V) (broadcastInDim S8192x256 ![0, 1] bcast_S8192x1_S8192x256_0_1 (res_main_v43 V))) (mulf (res_main_v35 V) (res_main_v146 V))) (mulf (res_main_v146 V) (res_main_v35 V)))
        (addf (addf (mulf (res_main_v158 V) (broadcastInDim S8192x384 ![0, 1] bcast_S8192x1_S8192x384_0_1 (res_main_v26 V))) (mulf (res_main_v18 V) (res_main_v168 V))) (mulf (res_main_v168 V) (res_main_v18 V)))⟩,
      ⟨S8192x64, broadcastInDim S8192x64 ![] bcast_S_S8192x64 (constant S_ .f32 0x00000000#32)⟩]
      concatenates_S8192x512_S8192x512_S8192x512_S8192x704_S8192x64_S8192x2304_d1) bitsLt_bf16_f32 (ix2 i j)
    = DZ (rz V) (rpos V) (rdya V) (rcw V) (rgq V) (rgkv V) (rwq V) (rwkv V) (rdq V) (rdk V) (rdv V) (ix2 i j) := by
  refine zcat_at i _ _ _ _ _ (fun j => DZ (rz V) (rpos V) (rdya V) (rcw V) (rgq V) (rgkv V) (rwq V) (rwkv V) (rdq V) (rdk V) (rdv V) (ix2 i j)) (fun k => ?_) (fun k => ?_) (fun k => ?_)
    (fun k => pz_at i _ _ _ k (fun k => DZ (rz V) (rpos V) (rdya V) (rcw V) (rgq V) (rgkv V) (rwq V) (rwkv V) (rdq V) (rdk V) (rdv V) (ix2 i ⟨1536 + k, by omega⟩))
      (fun k => (lat_q V i k hz hq).trans ?_) (fun k => (lat_kv V i k hz hkv).trans ?_) (fun k => ?_)) (fun k => ?_) j
  · refine Eq.trans ?_ (dif_pos k.isLt).symm
    exact congrArg (fun a : EReal => rdya V (ix2 i k) * a) (conv V i k)
  · have h0 : ¬ 512 + k.val < 512 := by omega
    have h1 : 512 + k.val < 1024 := by omega
    refine Eq.trans ?_ ((dif_neg h0).trans ((dif_pos h1).trans (congrArg₂ (fun (a : Fin 512) (b : Fin 2240) => DU (rz V) (rdya V) (rcw V) i a * rz V (ix2 i b))
      (show (⟨512 + k.val - 512, by omega⟩ : Fin 512) = k from Fin.ext (Nat.add_sub_cancel_left ..))
      (show (⟨1024 + (512 + k.val - 512), by omega⟩ : Fin 2240) = ⟨1024 + k, by omega⟩ from Fin.ext (congrArg (1024 + ·) (Nat.add_sub_cancel_left ..)))))).symm
    rw [← dconv]
    pointwise [res_main_v177]
  · have h0 : ¬ 1024 + k.val < 512 := by omega
    have h1 : ¬ 1024 + k.val < 1024 := by omega
    have h2 : 1024 + k.val < 1536 := by omega
    refine Eq.trans ?_ ((dif_neg h0).trans ((dif_neg h1).trans ((dif_pos h2).trans (congrArg₂ (fun (a : Fin 512) (b : Fin 2240) => DU (rz V) (rdya V) (rcw V) i a * rz V (ix2 i b))
      (show (⟨1024 + k.val - 1024, by omega⟩ : Fin 512) = k from Fin.ext (Nat.add_sub_cancel_left ..))
      (show (⟨512 + (1024 + k.val - 1024), by omega⟩ : Fin 2240) = ⟨512 + k, by omega⟩ from Fin.ext (congrArg (512 + ·) (Nat.add_sub_cancel_left ..))))))).symm
    refine Eq.trans ?_ (mul_comm (rz V (ix2 i ⟨512 + k, by omega⟩)) (DU (rz V) (rdya V) (rcw V) i k))
    rw [← dconv]
    pointwise [res_main_v176]
  · have h0 : ¬ 1536 + k.val < 512 := by omega
    have h1 : ¬ 1536 + k.val < 1024 := by omega
    have h2 : ¬ 1536 + k.val < 1536 := by omega
    have h3 : 1536 + k.val < 1920 := by omega
    refine Eq.trans ?_ ((dif_neg h0).trans ((dif_neg h1).trans ((dif_neg h2).trans (dif_pos h3)))).symm
    exact congrArg _ (Fin.ext (by show k.val = 1536 + k.val - 1536; omega))
  · have h0 : ¬ 1536 + (384 + k.val) < 512 := by omega
    have h1 : ¬ 1536 + (384 + k.val) < 1024 := by omega
    have h2 : ¬ 1536 + (384 + k.val) < 1536 := by omega
    have h3 : ¬ 1536 + (384 + k.val) < 1920 := by omega
    have h4 : 1536 + (384 + k.val) < 2176 := by omega
    refine Eq.trans ?_ ((dif_neg h0).trans ((dif_neg h1).trans ((dif_neg h2).trans ((dif_neg h3).trans (dif_pos h4))))).symm
    exact congrArg _ (Fin.ext (by show k.val = 1536 + (384 + k.val) - 1920; omega))
  · have h0 : ¬ 1536 + (640 + k.val) < 512 := by omega
    have h1 : ¬ 1536 + (640 + k.val) < 1024 := by omega
    have h2 : ¬ 1536 + (640 + k.val) < 1536 := by omega
    have h3 : ¬ 1536 + (640 + k.val) < 1920 := by omega
    have h4 : ¬ 1536 + (640 + k.val) < 2176 := by omega
    refine Eq.trans ?_ ((dif_neg h0).trans ((dif_neg h1).trans ((dif_neg h2).trans ((dif_neg h3).trans (dif_neg h4))))).symm
    refine (pr_at i _ _ _ _ (DKR (rdk V) i) (rpos V) (fun k => ?_) (fun k => ?_) (cos_at V i) (sin_at V i) k).trans (congrArg _ (Fin.ext (by show k.val = 1536 + (640 + k.val) - 2176; omega)))
    · refine Eq.trans ?_ (dkr_at V i ⟨k, by omega⟩)
      pointwise [res_main_v98]
    · refine Eq.trans ?_ (dkr_at V i ⟨32 + k, by omega⟩)
      pointwise [res_main_v99]
  · have h0 : ¬ 2240 + k.val < 512 := by omega
    have h1 : ¬ 2240 + k.val < 1024 := by omega
    have h2 : ¬ 2240 + k.val < 1536 := by omega
    have h3 : ¬ 2240 + k.val < 1920 := by omega
    have h4 : ¬ 2240 + k.val < 2176 := by omega
    refine Eq.trans ?_ ((dif_neg h0).trans ((dif_neg h1).trans ((dif_neg h2).trans ((dif_neg h3).trans (dif_neg h4))))).symm
    refine Eq.trans ?_ (rot_out _ _ _ _ (by show 64 ≤ 2240 + k.val - 2176; omega)).symm
    pointwise []

/-- A tap's summed gradient. -/
theorem tap_at (T : FVec Ideal S8192x512 .f32) (k : Fin 512) (f : Fin 8192 → EReal) (h : ∀ i, DY (rz V) (rdya V) k i * T (ix2 i k) = f i) :
    broadcastInDim S1x512 ![1] bcast_S512_S1x512_1 (Host.reduceAdd (shapeCast S1x512 (Host.reduceAdd (mulf (res_main_v203 V) T) (constant (F := Ideal) S_ .f32 0x00000000#32) reducesTo_S8192x512_S512_d0 h_S_) shapeCasts_S512_S1x512)
      (constant S_ .f32 0x00000000#32) reducesTo_S1x512_S512_d0 h_S_) (ix2 0 k) = ∑ i, f i :=
  (tap_sum _ _ k).trans (Finset.sum_congr (M := EReal) rfl fun i _ => (congrArg (fun a : EReal => a * T (ix2 i k)) (gconv V i k)).trans (h i))

/-- The reference's summed gradients, column for column. -/
theorem p_ref (x : Fin 8) (j : Fin 2176) :
    broadcastInDim S8x2176 ![0, 1] bcast_S1x2176_S8x2176_0_1 (concatenate S1x2176 1 [⟨S1x1536, shapeCast S1x1536 (addf (addf (pad S3x512 ![2, 0] ![0, 0] ![0, 0]
      (broadcastInDim S1x512 ![1] bcast_S512_S1x512_1 (Host.reduceAdd (shapeCast S1x512 (Host.reduceAdd (mulf (res_main_v203 V) (res_main_v197 V)) (constant (F := Ideal) S_ .f32 0x00000000#32) reducesTo_S8192x512_S512_d0 h_S_) shapeCasts_S512_S1x512)
        (constant S_ .f32 0x00000000#32) reducesTo_S1x512_S512_d0 h_S_)) (constant S_ .f32 0x00000000#32) pads_S1x512_S3x512_200_000 h_S_) (pad S3x512 ![1, 0] ![1, 0] ![0, 0]
      (broadcastInDim S1x512 ![1] bcast_S512_S1x512_1 (Host.reduceAdd (shapeCast S1x512 (Host.reduceAdd (mulf (res_main_v203 V) (res_main_v190 V)) (constant (F := Ideal) S_ .f32 0x00000000#32) reducesTo_S8192x512_S512_d0 h_S_) shapeCasts_S512_S1x512)
        (constant S_ .f32 0x00000000#32) reducesTo_S1x512_S512_d0 h_S_)) (constant S_ .f32 0x00000000#32) pads_S1x512_S3x512_110_000 h_S_)) (pad S3x512 ![0, 0] ![2, 0] ![0, 0]
      (broadcastInDim S1x512 ![1] bcast_S512_S1x512_1 (Host.reduceAdd (shapeCast S1x512 (Host.reduceAdd (mulf (res_main_v203 V) (res_main_v184 V)) (constant (F := Ideal) S_ .f32 0x00000000#32) reducesTo_S8192x512_S512_d0 h_S_) shapeCasts_S512_S1x512)
        (constant S_ .f32 0x00000000#32) reducesTo_S1x512_S512_d0 h_S_)) (constant S_ .f32 0x00000000#32) pads_S1x512_S3x512_020_000 h_S_)) shapeCasts_S3x512_S1x1536⟩,
      ⟨S1x384, shapeCast S1x384 (Host.reduceAdd (mulf (res_main_v31 V) (res_main_v153 V)) (constant (F := Ideal) S_ .f32 0x00000000#32) reducesTo_S8192x384_S384_d0 h_S_) shapeCasts_S384_S1x384⟩,
      ⟨S1x256, shapeCast S1x256 (Host.reduceAdd (mulf (res_main_v48 V) (res_main_v131 V)) (constant (F := Ideal) S_ .f32 0x00000000#32) reducesTo_S8192x256_S256_d0 h_S_) shapeCasts_S256_S1x256⟩]
      concatenates_S1x1536_S1x384_S1x256_S1x2176_d1) (ix2 x j)
    = P (rz V) (rpos V) (rdya V) (rwq V) (rwkv V) (rdq V) (rdk V) (rdv V) (ix2 x j) := by
  refine pcat_at _ _ _ x j (fun j => ∑ i : Fin 8192, rowP (rz V) (rpos V) (rdya V) (rwq V) (rwkv V) (rdq V) (rdk V) (rdv V) j i)
    (taps_at _ _ _ (fun j => ∑ i : Fin 8192, rowP (rz V) (rpos V) (rdya V) (rwq V) (rwkv V) (rdq V) (rdk V) (rdv V) ⟨j, by omega⟩ i)
      (fun k => tap_at V _ k _ fun i => ?_) (fun k => tap_at V _ k _ fun i => ?_) (fun k => tap_at V _ k _ fun i => ?_))
    (fun k => (gain_q V k).trans (Finset.sum_congr (M := EReal) rfl fun i _ => ?_)) (fun k => (gain_kv V k).trans (Finset.sum_congr (M := EReal) rfl fun i _ => ?_))
  · have h0 : k.val < 512 := k.isLt
    rw [tap2]
    exact Eq.symm (dif_pos h0)
  · have h0 : ¬ 512 + k.val < 512 := by omega
    have h1 : 512 + k.val < 1024 := by omega
    rw [tap1]
    exact ((dif_neg h0).trans ((dif_pos h1).trans (congrArg (fun k => DY (rz V) (rdya V) k i * bef 1 (UU (rz V) k) i) (Fin.ext (by show 512 + k.val - 512 = k.val; omega))))).symm
  · have h0 : ¬ 1024 + k.val < 512 := by omega
    have h1 : ¬ 1024 + k.val < 1024 := by omega
    have h2 : 1024 + k.val < 1536 := by omega
    rw [tap0]
    exact ((dif_neg h0).trans ((dif_neg h1).trans ((dif_pos h2).trans (congrArg (fun k => DY (rz V) (rdya V) k i * UU (rz V) k i) (Fin.ext (by show 1024 + k.val - 1024 = k.val; omega)))))).symm
  · have h0 : ¬ 1536 + k.val < 512 := by omega
    have h1 : ¬ 1536 + k.val < 1024 := by omega
    have h2 : ¬ 1536 + k.val < 1536 := by omega
    have h3 : 1536 + k.val < 1920 := by omega
    exact ((dif_neg h0).trans ((dif_neg h1).trans ((dif_neg h2).trans ((dif_pos h3).trans (congrArg (fun k => DCQ (rpos V) (rwq V) (rdq V) i k * (CQ (rz V) i k * irms L384 (CQ (rz V) i)))
      (Fin.ext (by show 1536 + k.val - 1536 = k.val; omega))))))).symm
  · have h0 : ¬ 1920 + k.val < 512 := by omega
    have h1 : ¬ 1920 + k.val < 1024 := by omega
    have h2 : ¬ 1920 + k.val < 1536 := by omega
    have h3 : ¬ 1920 + k.val < 1920 := by omega
    exact ((dif_neg h0).trans ((dif_neg h1).trans ((dif_neg h2).trans ((dif_neg h3).trans (congrArg (fun k => DCKV (rwkv V) (rdk V) (rdv V) i k * (CKV (rz V) i k * irms L256 (CKV (rz V) i)))
      (Fin.ext (by show 1920 + k.val - 1920 = k.val; omega))))))).symm

end elements

section claim

open Cert.MixMidIdeal Cert.MixMidIdeal.Gen Cert.MixMidIdeal.Value

set_option maxHeartbeats 1600000 in
theorem algebraic : Cert.algebraic_MixMidIdeal_MixMidRefIdeal_pre_mixmid_pre (hMixMidIdeal := Cert.MixMidIdeal.Gen.facts)
    (hMixMidRefIdeal := Cert.MixMidRefIdeal.Gen.facts) (hPre_mixmid_pre := Cert.Pre_mixmid_pre.Gen.facts) := by
  intro m g m' g' hpre hag
  refine ⟨fun c => rDZ m c, fun c => DQF (apos m c) (adq m c), fun c => DKV (adk m c) (adv m c),
    fun c => P (az m c) (apos m c) (adya m c) (awq m c) (awkv m c) (adq m c) (adk m c) (adv m c),
    (θ_run _ _ _).mono (fun r h c => ?_) (run_blocks m g), (θ_run _ _ _).mono (fun r h c => ?_) (Cert.MixMidRefIdeal.Value.run m' g')⟩
  · obtain ⟨h15, h16, h17, h18, hk⟩ := h c
    exact ⟨h15.trans (final15 m c), h16.trans (final16 m c), h17.trans (final17 m c), h18.trans (final18 m c), hk⟩
  obtain ⟨h1, h2, h3, h4, hk⟩ := h c
  obtain ⟨e0, e1, e2, e3, e4, e5, e6, e7, e8, e9, e10⟩ := hag c
  obtain ⟨r0, r4, r5, r6, r7, r8, r9, r10⟩ := reals (hpre c)
  obtain ⟨W, hW⟩ : ∃ W, W = launchContents m' c := ⟨_, rfl⟩
  rw [← hW] at h1 h2 h3 h4
  have f0 : rz W = az m c := by rw [hW]; exact e0
  have f1 : rpos W = apos m c := by rw [hW]; exact e1
  have f2 : rdya W = adya m c := by rw [hW]; exact e2
  have f3 : rcw W = acw m c := by rw [hW]; exact e3
  have f4 : rgq W = agq m c := by rw [hW]; exact e4
  have f5 : rgkv W = agkv m c := by rw [hW]; exact e5
  have f6 : rwq W = awq m c := by rw [hW]; exact e6
  have f7 : rwkv W = awkv m c := by rw [hW]; exact e7
  have f8 : rdq W = adq m c := by rw [hW]; exact e8
  have f9 : rdk W = adk m c := by rw [hW]; exact e9
  have f10 : rdv W = adv m c := by rw [hW]; exact e10
  clear hW e0 e1 e2 e3 e4 e5 e6 e7 e8 e9 e10
  refine ⟨h1.trans ?_, h2.trans ?_, h3.trans ?_, h4.trans ?_, hk⟩
  all_goals clear h1 h2 h3 h4 hk h
  · show _ = rDZ m c
    rw [rDZ, ← f0, ← f1, ← f2, ← f3, ← f4, ← f5, ← f6, ← f7, ← f8, ← f9, ← f10]
    funext y
    obtain ⟨i, j, rfl⟩ : ∃ (i : Fin 8192) (j : Fin 2304), y = ix2 i j := ⟨y 0, y 1, by funext a; fin_cases a <;> rfl⟩
    refine dz_ref W i (fun y => ?_) (fun k => (dcq_real (fun _ => ?_) (fun _ => ?_) i k).mul ?_) (fun k => (dckv_real (fun _ => ?_) (fun _ => ?_) (fun _ => ?_) i k).mul ?_) j
    · rw [f0]; exact r0 _
    · rw [f8]; exact r8 _
    · rw [f6]; exact r6 _
    · rw [f4]; exact r4 _
    · rw [f9]; exact r9 _
    · rw [f10]; exact r10 _
    · rw [f7]; exact r7 _
    · rw [f5]; exact r5 _
  · show _ = DQF (apos m c) (adq m c)
    rw [← f1, ← f8]
    funext y
    obtain ⟨i, j, rfl⟩ : ∃ (i : Fin 8192) (j : Fin 1024), y = ix2 i j := ⟨y 0, y 1, by funext a; fin_cases a <;> rfl⟩
    exact out_q i _ j (rdq W) (rpos W) (dq_at W i)
  · show _ = DKV (adk m c) (adv m c)
    rw [← f9, ← f10]
    funext y
    obtain ⟨i, j, rfl⟩ : ∃ (i : Fin 8192) (j : Fin 1024), y = ix2 i j := ⟨y 0, y 1, by funext a; fin_cases a <;> rfl⟩
    exact (out_kv i _ j).trans ((dkv_at W i (loc j)).trans (congrArg (fun n => DKV (rdk W) (rdv W) (ix2 i n)) (col_loc j)))
  · show _ = P (az m c) (apos m c) (adya m c) (awq m c) (awkv m c) (adq m c) (adk m c) (adv m c)
    rw [← f0, ← f1, ← f2, ← f6, ← f7, ← f8, ← f9, ← f10]
    funext y
    obtain ⟨x, j, rfl⟩ := ix2_all y
    exact p_ref W x j

end claim

end Cert.MixMidClaim
end
-- ==== Proof.NormMix.Value.lean ====
module

public import proofs.«01_k».proof.Proof.Gen.NormMixIdeal.Value
public import proofs.«01_k».proof.Proof.Norm.Value
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.NormMixIdeal.Value

open Cert.NormMixIdeal Cert.NormMixIdeal.Gen

variable (m : (ℓ : Loc nD τ sig) → Buf (Elt Ideal) ℓ)

open Cert.NormIdeal.Value (len RI tile_lt)

section forms

variable (x : FVec Ideal S8192x1024 .f32) (g sc : FVec Ideal S1x1024 .f32) (w : FVec Ideal S1024x2240 .f32) (dz : FVec Ideal S8192x2240 .f32)

/-- The gradient of the modulated norm: the projection's gradient times the weight transposed. -/
def DH (i : Fin 8192) (k : Fin 1024) : EReal := ∑ q : Fin 2240, dz (ix2 i q) * w (ix2 k q)

/-- The gradient of the normed row. -/
def DY (i : Fin 8192) (k : Fin 1024) : EReal := DH w dz i k * (1 + sc (ix2 0 k)) * g (ix2 0 k)

/-- The gradient of the layer's input. -/
def DX (dxn : FVec Ideal S8192x1024 .f32) : FVec Ideal S8192x1024 .f32 := fun j =>
  dxn j + RI x (j 0) * (DY g sc w dz (j 0) (j 1)
    - x j * RI x (j 0) * Ideal.div (∑ k : Fin 1024, DY g sc w dz (j 0) k * (x (ix2 (j 0) k) * RI x (j 0))) len)

/-- One row's part of the three summed gradients, side by side: the scale's, the shift's, the gain's. -/
def rowP (j : Fin 3072) (i : Fin 8192) : EReal :=
  if h : j.val < 1024 then DH w dz i ⟨j, h⟩ * (x (ix2 i ⟨j, h⟩) * RI x i * g (ix2 0 ⟨j, h⟩))
  else if h : j.val < 2048 then DH w dz i ⟨j - 1024, by omega⟩
  else DH w dz i ⟨j - 2048, by omega⟩ * (1 + sc (ix2 0 ⟨j - 2048, by omega⟩)) * (x (ix2 i ⟨j - 2048, by omega⟩) * RI x i)

def P : FVec Ideal S8x3072 .f32 := fun y => ∑ i : Fin 8192, rowP x g sc w dz (y 1) i

end forms

theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0] ∧ win0_7.index t = ![0, 0] :=
  (by decide +kernel : ∀ t : Fin grid0.N, _)

/-- What every point leaves in the block of the input's gradient. -/
theorem outs6 (c : Dev nD) (t : Fin cfg0.N) : (outsAt0 m c t.val t.isLt).1
    = k0_pay10 (iblk m c 0 t) (iblk m c 1 t) (iblk m c 2 t) (iblk m c 3 t) (iblk m c 4 t) (iblk m c 5 t) := by
  have hN : t.val < 16 := lt_of_lt_of_eq t.isLt (show cfg0.N = 16 from N_0)
  by_cases h0 : t.val % 16 = 0
  · rw [outsAt0_A m c t h0 (by omega)]; dsimp only; frame_out
  · by_cases h1 : t.val % 16 = 15
    · rw [outsAt0_C m c t h0 h1]; dsimp only; frame_out
    · rw [outsAt0_B m c t h0 h1]; dsimp only; frame_out

abbrev ax (c : Dev nD) : FVec Ideal S8192x1024 .f32 := m ((c : Thread nD τ).loc main_arg0)
abbrev ag (c : Dev nD) : FVec Ideal S1x1024 .f32 := m ((c : Thread nD τ).loc main_arg1)
abbrev asc (c : Dev nD) : FVec Ideal S1x1024 .f32 := m ((c : Thread nD τ).loc main_arg2)
abbrev aw (c : Dev nD) : FVec Ideal S1024x2240 .f32 := m ((c : Thread nD τ).loc main_arg3)
abbrev adz (c : Dev nD) : FVec Ideal S8192x2240 .f32 := m ((c : Thread nD τ).loc main_arg4)
abbrev adx (c : Dev nD) : FVec Ideal S8192x1024 .f32 := m ((c : Thread nD τ).loc main_arg5)

theorem rows_lt (t : Fin cfg0.N) (r : Fin 512) : t.val * 512 + r.val < 8192 := by
  have := r.isLt
  have : t.val < 16 := lt_of_lt_of_eq t.isLt (show cfg0.N = 16 from N_0)
  omega

/-- A point's row of the whole arrays. -/
abbrev rw' (t : Fin cfg0.N) (r : Fin 512) : Fin 8192 := ⟨t.val * 512 + r.val, rows_lt t r⟩

section blocks

variable (c : Dev nD) (t : Fin cfg0.N)

/-- The projection's gradient, widened: its own columns, then zeros. -/
theorem v4_lo (i : Fin 8192) (q : Fin 2240) : V m c main_v4 (ix2 i (Fin.castAdd 64 q)) = adz m c (ix2 i q) := by
  unfold V; after_reads_at
  exact dif_pos q.isLt

theorem v4_hi (i : Fin 8192) (q : Fin 64) : V m c main_v4 (ix2 i (Fin.natAdd 2240 q)) = (0 : EReal) := by
  unfold V; after_reads_at
  refine (dif_neg (Nat.not_lt.2 (Nat.le_add_right 2240 q.val))).trans ?_
  change (((0#32 : BitVec 32).toInt : ℝ) : EReal) = 0
  simp

theorem v2_lo (q : Fin 2240) (k : Fin 1024) : V m c main_v2 (ix2 (Fin.castAdd 64 q) k) = aw m c (ix2 k q) := by
  unfold V; after_reads_at
  exact dif_pos q.isLt

theorem b0 (r : Fin 512) (k : Fin 2304) : iblk m c 0 t (ix2 r k) = V m c main_v4 (ix2 (rw' t r) k) := by
  blk_ext [iblk, idx t]

theorem b1 (r : Fin 2304) (k : Fin 1024) : iblk m c 1 t (ix2 r k) = V m c main_v2 (ix2 r k) := by
  blk_ext [iblk, idx t]

theorem b2 (r : Fin 512) (k : Fin 1024) : iblk m c 2 t (ix2 r k) = ax m c (ix2 (rw' t r) k) := by
  blk_ext [iblk, V, idx t]

theorem b3 (r : Fin 1) (k : Fin 1024) : iblk m c 3 t (ix2 r k) = ag m c (ix2 r k) := by
  blk_ext [iblk, V, idx t]

theorem b4 (r : Fin 1) (k : Fin 1024) : iblk m c 4 t (ix2 r k) = asc m c (ix2 r k) := by
  blk_ext [iblk, V, idx t]

theorem b5 (r : Fin 512) (k : Fin 1024) : iblk m c 5 t (ix2 r k) = adx m c (ix2 (rw' t r) k) := by
  blk_ext [iblk, V, idx t]

/-- A product with the widened arrays is the product: the columns added are zeros. -/
theorem widen {f : Fin (2240 + 64) → EReal} {g : Fin 2240 → EReal} (hl : ∀ q, f (Fin.castAdd 64 q) = g q) (hr : ∀ q, f (Fin.natAdd 2240 q) = 0) :
    ∑ q, f q = ∑ q, g q := by
  rw [Fin.sum_univ_add, Finset.sum_congr rfl fun q _ => hl q, Finset.sum_eq_zero fun q _ => hr q, add_zero]

theorem dh_at (r : Fin 512) (k : Fin 1024) : k0_pay6 (iblk m c 0 t) (iblk m c 1 t) (ix2 r k) = DH (aw m c) (adz m c) (rw' t r) k := by
  pointwise [k0_pay6, DH]
  simp only [b0, b1]
  refine widen (fun q => ?_) fun q => ?_
  · rw [v4_lo, v2_lo]
  · rw [v4_hi, zero_mul]

theorem r_at (r : Fin 512) (k : Fin 1) : k0_pay7 (iblk m c 2 t) (ix2 r k) = RI (ax m c) (rw' t r) := by
  pointwise [k0_pay7, RI]
  simp only [b2]

theorem xh_at (r : Fin 512) (k : Fin 1024) : k0_pay8 (iblk m c 2 t) (ix2 r k) = ax m c (ix2 (rw' t r) k) * RI (ax m c) (rw' t r) := by
  rw [← r_at m c t r 0, ← b2 m c t r k]
  pointwise [k0_pay8]

theorem dn_at (r : Fin 512) (k : Fin 1024) : k0_pay9 (iblk m c 0 t) (iblk m c 1 t) (iblk m c 4 t) (ix2 r k)
    = DH (aw m c) (adz m c) (rw' t r) k * (1 + asc m c (ix2 0 k)) := by
  rw [← dh_at, ← b4 m c t]
  pointwise [k0_pay9]

theorem dx_at (r : Fin 512) (k : Fin 1024) :
    k0_pay10 (iblk m c 0 t) (iblk m c 1 t) (iblk m c 2 t) (iblk m c 3 t) (iblk m c 4 t) (iblk m c 5 t) (ix2 r k)
      = DX (ax m c) (ag m c) (asc m c) (aw m c) (adz m c) (adx m c) (ix2 (rw' t r) k) := by
  refine Eq.trans ?_ (show adx m c (ix2 (rw' t r) k) + RI (ax m c) (rw' t r) * (DY (ag m c) (asc m c) (aw m c) (adz m c) (rw' t r) k
    - ax m c (ix2 (rw' t r) k) * RI (ax m c) (rw' t r) * Ideal.div (∑ k : Fin 1024, DY (ag m c) (asc m c) (aw m c) (adz m c) (rw' t r) k
      * (ax m c (ix2 (rw' t r) k) * RI (ax m c) (rw' t r))) len) = _ from rfl)
  simp only [DY, ← dn_at, ← xh_at, ← b3 m c t, ← b5 m c t]
  rw [← r_at m c t r 0]
  pointwise [k0_pay10]

end blocks

/-- The gradient of the layer's input, after the run. -/
theorem final6 (c : Dev nD) : (dats m 0 c).arrAt 6 cfg0.N = DX (ax m c) (ag m c) (asc m c) (aw m c) (adz m c) (adx m c) := by
  refine (dats m 0 c).arrAt_eq_of_covers 6 _ (by decide +kernel) fun t hf y => ?_
  obtain ⟨r, k, rfl⟩ : ∃ (r : Fin 512) (k : Fin 1024), y = ix2 r k := ⟨y 0, y 1, by funext a; fin_cases a <;> rfl⟩
  blk_simp
  rw [after0_6, outs6 m c t, dx_at]
  refine congrArg _ ?_
  blk_ext [idx t]

/-- One point's part of a column. -/
abbrev part (c : Dev nD) (n : ℕ) (h : n < 16) (x : Fin 8) (j : Fin 3072) : EReal :=
  ∑ r : Fin 64, rowP (ax m c) (ag m c) (asc m c) (aw m c) (adz m c) j ⟨n * 512 + (r.val * 8 + x.val), tile_lt n x r h⟩

section sums

variable (c : Dev nD) (t : Fin cfg0.N)

theorem lt16 : t.val < 16 := lt_of_lt_of_eq t.isLt (show cfg0.N = 16 from N_0)

theorem pay2_at (q : FVec Ideal S8x1024 .f32) (x : Fin 8) (k : Fin 1024) :
    k0_pay2 (k0_pay6 (iblk m c 0 t) (iblk m c 1 t)) (k0_pay8 (iblk m c 2 t)) (iblk m c 3 t) q (ix2 x k)
      = q (ix2 x k) + part m c t (lt16 t) x ⟨0 + k, by omega⟩ := by
  pointwise [k0_pay2]
  simp only [dh_at, xh_at, b3, part, rowP, zero_add, k.isLt, dif_pos]

theorem pay3_at (q : FVec Ideal S8x1024 .f32) (x : Fin 8) (k : Fin 1024) :
    k0_pay3 (k0_pay6 (iblk m c 0 t) (iblk m c 1 t)) q (ix2 x k)
      = q (ix2 x k) + part m c t (lt16 t) x ⟨1024 + k, by omega⟩ := by
  pointwise [k0_pay3]
  simp only [dh_at, part, rowP, show ¬ 1024 + k.val < 1024 by omega, show 1024 + k.val < 2048 by omega, Nat.add_sub_cancel_left, dif_pos, dif_neg, not_false_eq_true]

theorem pay4_at (q : FVec Ideal S8x1024 .f32) (x : Fin 8) (k : Fin 1024) :
    k0_pay4 (k0_pay8 (iblk m c 2 t)) (k0_pay9 (iblk m c 0 t) (iblk m c 1 t) (iblk m c 4 t)) q (ix2 x k)
      = q (ix2 x k) + part m c t (lt16 t) x ⟨2048 + k, by omega⟩ := by
  pointwise [k0_pay4]
  simp only [xh_at, dn_at, part, rowP, show ¬ 2048 + k.val < 1024 by omega, show ¬ 2048 + k.val < 2048 by omega, Nat.add_sub_cancel_left, dif_pos, dif_neg, not_false_eq_true]

end sums

/-- What a point leaves in the eight rows of sums, from what they held. -/
abbrev upd (c : Dev nD) (t : Fin cfg0.N) (p : FVec Ideal S8x3072 .f32) : FVec Ideal S8x3072 .f32 := fun y => p y + part m c t (lt16 t) (y 0) (y 1)

theorem ix2_all (y : S8x3072.Idx) : ∃ (x : Fin 8) (k : Fin 3072), y = ix2 x k := ⟨y 0, y 1, by funext a; fin_cases a <;> rfl⟩

/-- The three bands a point writes, from bands that hold the rows `q`. -/
theorem bands (c : Dev nD) (t : Fin cfg0.N) (q : FVec Ideal S8x3072 .f32) (u v w : FVec Ideal S8x1024 .f32)
    (hu : ∀ (x : Fin 8) (k : Fin 1024), u (ix2 x k) = q (ix2 x ⟨0 + k, by omega⟩))
    (hv : ∀ (x : Fin 8) (k : Fin 1024), v (ix2 x k) = q (ix2 x ⟨1024 + k, by omega⟩))
    (hw : ∀ (x : Fin 8) (k : Fin 1024), w (ix2 x k) = q (ix2 x ⟨2048 + k, by omega⟩)) (L) (x : Fin 8) (j : Fin 3072) :
    View.canon (Val := Elt Ideal) (e := .f32) (⟨Rect.unit (s := S8x3072) ![0, 2048] ![8, 1024] inb_S8x3072_S8x1024_0_2048,
        k0_pay4 (k0_pay8 (iblk m c 2 t)) (k0_pay9 (iblk m c 0 t) (iblk m c 1 t) (iblk m c 4 t)) w⟩
      :: ⟨Rect.unit (s := S8x3072) ![0, 1024] ![8, 1024] inb_S8x3072_S8x1024_0_1024,
        k0_pay3 (k0_pay6 (iblk m c 0 t) (iblk m c 1 t)) v⟩
      :: ⟨Rect.unit (s := S8x3072) ![0, 0] ![8, 1024] inb_S8x3072_S8x1024_0_0,
        k0_pay2 (k0_pay6 (iblk m c 0 t) (iblk m c 1 t)) (k0_pay8 (iblk m c 2 t)) (iblk m c 3 t) u⟩ :: L) (ix2 x j)
      = upd m c t q (ix2 x j) := by
  refine Cert.Shared.band_cons (Val := Elt Ideal) (e := .f32) _ _ _ _ x j (fun j => upd m c t q (ix2 x j)) (fun k hk => ?_) fun h1 => ?_
  · exact (pay4_at m c t _ x k).trans (congrArg (· + _) (hw x k))
  refine Cert.Shared.band_cons (Val := Elt Ideal) (e := .f32) _ _ _ _ x j (fun j => upd m c t q (ix2 x j)) (fun k hk => ?_) fun h2 => ?_
  · exact (pay3_at m c t _ x k).trans (congrArg (· + _) (hv x k))
  refine Cert.Shared.band_cons (Val := Elt Ideal) (e := .f32) _ _ _ _ x j (fun j => upd m c t q (ix2 x j)) (fun k hk => ?_) fun h3 => absurd h3 (by omega)
  exact (pay2_at m c t _ x k).trans (congrArg (· + _) (hu x k))

theorem zero_at (x : Fin 8) (j : Fin 3072) : k0_pay1 (F := Ideal) (ix2 x j) = 0 := by pointwise [k0_pay1]

theorem first (c : Dev nD) (h : 0 < cfg0.N) : (outsAt0 m c 0 h).2 = upd m c ⟨0, h⟩ k0_pay1 := by
  rw [outsAt0_A m c ⟨0, h⟩ rfl (by simp)]
  dsimp only
  frame_out
  funext y
  obtain ⟨x, j, rfl⟩ := ix2_all y
  refine bands m c ⟨0, h⟩ k0_pay1 _ _ _ (fun x k => ?_) (fun x k => ?_) (fun x k => ?_) _ x j
  · exact (Cert.Shared.band_read _ _ _ _ x k ⟨0 + k, by omega⟩ rfl).trans (Cert.Shared.band_in (Val := Elt Ideal) (e := .f32) 0 _ _ _ x _ _ (zero_add _).symm)
  · exact (Cert.Shared.band_read _ _ _ _ x k ⟨1024 + k, by omega⟩ rfl).trans
      ((Cert.Shared.band_out (Val := Elt Ideal) (e := .f32) _ _ _ _ x _ (.inr (Nat.le_add_right 1024 k))).trans (Cert.Shared.band_in (Val := Elt Ideal) (e := .f32) 0 _ _ _ x _ _ (zero_add _).symm))
  · exact (Cert.Shared.band_read _ _ _ _ x k ⟨2048 + k, by omega⟩ rfl).trans
      ((Cert.Shared.band_out (Val := Elt Ideal) (e := .f32) _ _ _ _ x _ (.inr (Nat.le_add_right 2048 k))).trans
        ((Cert.Shared.band_out (Val := Elt Ideal) (e := .f32) _ _ _ _ x _ (.inr (Nat.le_add_right_of_le (by omega)))).trans (Cert.Shared.band_in (Val := Elt Ideal) (e := .f32) 0 _ _ _ x _ _ (zero_add _).symm)))

theorem next (c : Dev nD) (n : ℕ) (h : n + 1 < cfg0.N) (hn : n + 1 < 15) : (outsAt0 m c (n + 1) h).2 = upd m c ⟨n + 1, h⟩ (outsAt0 m c n (Nat.lt_of_succ_lt h)).2 := by
  rw [outsAt0_B m c ⟨n + 1, h⟩ (by simp; omega) (by simp; omega)]
  dsimp only
  frame_out
  funext y
  obtain ⟨x, j, rfl⟩ := ix2_all y
  exact bands m c ⟨n + 1, h⟩ _ _ _ _ (fun x k => Cert.Shared.band_ld _ _ _ x k _ rfl) (fun x k => Cert.Shared.band_ld _ _ _ x k _ rfl)
    (fun x k => Cert.Shared.band_ld _ _ _ x k _ rfl) _ x j

/-- The eight rows before the last point sums them. -/
def before (c : Dev nD) (n : ℕ) (h : n < 16) : FVec Ideal S8x3072 .f32 :=
  upd m c ⟨n, h⟩ (if h0 : n = 0 then k0_pay1 (F := Ideal) else (outsAt0 m c (n - 1) (Nat.lt_of_le_of_lt (Nat.sub_le n 1) h)).2)

theorem final7 (c : Dev nD) : (dats m 0 c).arrAt 7 cfg0.N = P (ax m c) (ag m c) (asc m c) (aw m c) (adz m c) := by
  have h15 : 15 < cfg0.N := by rw [show cfg0.N = 16 from N_0]; omega
  refine (dats m 0 c).arrAt_eq_of_after_last 7 t0_15 (by decide +kernel) _ fun j => ?_
  obtain ⟨x, j, rfl⟩ := ix2_all j
  blk_simp
  rw [after0_7, show (t0_15 : Fin cfg0.N) = ⟨15, h15⟩ from rfl, outsAt0_C m c ⟨15, h15⟩ (by simp) rfl]
  dsimp only
  frame_out
  rw [View.readCov_eq_canon']
  refine Eq.trans (b := ∑ x : Fin 8, before m c 15 (by omega) (ix2 x j)) ?_ ?_
  · pointwise [k0_pay5]
    refine Finset.sum_congr rfl fun x _ => ?_
    exact bands m c ⟨15, h15⟩ _ _ _ _ (fun x k => Cert.Shared.band_ld _ _ _ x k _ rfl) (fun x k => Cert.Shared.band_ld _ _ _ x k _ rfl)
      (fun x k => Cert.Shared.band_ld _ _ _ x k _ rfl) _ x j
  · refine Cert.Shared.acc_rows 16 512 64 (by omega) rfl rfl (rowP (ax m c) (ag m c) (asc m c) (aw m c) (adz m c) j)
      (fun n h x => before m c n h (ix2 x j)) (fun n x r h => tile_lt n x r h) (fun h x => ?_) (fun n h x => ?_)
    · exact Eq.trans (by rw [before, dif_pos rfl]; exact congrArg (· + part m c 0 h x j) (zero_at x j)) (zero_add _)
    · rw [before, dif_neg (Nat.succ_ne_zero n)]
      refine congrArg (· + _) (congrFun (?_ : (outsAt0 m c n _).2 = before m c n _) _)
      rcases n with _ | n
      · exact first m c _
      · exact next m c n _ (by omega)

end Cert.NormMixIdeal.Value
end
-- ==== Proof.NormMix.Claim.lean ====
module

public import proofs.«01_k».proof.Proof.NormMix.Value
public import proofs.«01_k».proof.Defs
public import proofs.«01_k».proof.Proof.Gen.NormMixRefIdeal.Run
public import proofs.«01_k».proof.Proof.Gen.Pre_normmix_pre
public import proofs.«01_k».proof.Proof.Shared.RmsNorm
public import Idealize.ShloMosaic.Lib.Quiescent

@[expose] public section

set_option maxRecDepth 16384

noncomputable section

open Idealize.ShloMosaic Idealize.ShloMosaic.TcCoe Idealize.SL.Sem

namespace Cert.NormMixClaim

open Cert.NormMixIdeal Cert.NormMixIdeal.Gen Cert.NormMixIdeal.Value
open Cert.NormIdeal.Value (RI)

open Cert.Shared in
/-- The precondition makes the elements of all arguments but the added gradient real. -/
theorem reals {a0 : FVec Ideal S8192x1024 .f32} {a1 a2 : FVec Ideal S1x1024 .f32} {a3 : FVec Ideal S1024x2240 .f32} {a4 : FVec Ideal S8192x2240 .f32}
    {a5 : FVec Ideal S8192x1024 .f32} (h : Cert.Pre_normmix_pre.fn (F := Ideal) a0 a1 a2 a3 a4 a5 = fun _ => 1#1) :
    (∀ i, IsReal (a0 i)) ∧ (∀ i, IsReal (a1 i)) ∧ (∀ i, IsReal (a2 i)) ∧ (∀ i, IsReal (a3 i)) ∧ (∀ i, IsReal (a4 i)) := by
  have h := congrFun h ix0
  unfold Cert.Pre_normmix_pre.fn Cert.Pre_normmix_pre.fn_part1 at h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨real_of_finite _ _ _ _ _ _ _ h0, real_of_finite _ _ _ _ _ _ _ h1, real_of_finite _ _ _ _ _ _ _ h2, real_of_finite _ _ _ _ _ _ _ h3,
    real_of_finite _ _ _ _ _ _ _ h4⟩

/-- The reference runs on the host alone: its arguments end unchanged, and it declares no semaphore. -/
theorem frame_ref : Cert.quiescent_NormMixRefIdeal (hNormMixRefIdeal := Cert.NormMixRefIdeal.Gen.facts) := fun m ρ _ =>
  (θ_run Cert.NormMixRefIdeal.defs _ _).mono (fun r h => ⟨fun c => (h c).2.2, Idealize.ShloMosaic.sem_eq_zero_of_no_sems (by decide) r.2⟩)
    (Cert.NormMixRefIdeal.Value.run (F := Ideal) m ρ)

theorem algebraic : Cert.algebraic_NormMixIdeal_NormMixRefIdeal_pre_normmix_pre (hNormMixIdeal := Cert.NormMixIdeal.Gen.facts)
    (hNormMixRefIdeal := Cert.NormMixRefIdeal.Gen.facts) (hPre_normmix_pre := Cert.Pre_normmix_pre.Gen.facts) := by
  intro m g m' g' hpre hag
  refine ⟨fun c => DX (ax m c) (ag m c) (asc m c) (aw m c) (adz m c) (adx m c),
    fun c => P (ax m c) (ag m c) (asc m c) (aw m c) (adz m c),
    (θ_run _ _ _).mono (fun r h c => ?_) (run_blocks m g), (θ_run _ _ _).mono (fun r h c => ?_) (Cert.NormMixRefIdeal.Value.run m' g')⟩
  · obtain ⟨h6, h7, hk⟩ := h c
    exact ⟨h6.trans (final6 m c), h7.trans (final7 m c), hk⟩
  · obtain ⟨h1, h2, hk⟩ := h c
    obtain ⟨e0, e1, e2, e3, e4, e5⟩ := hag c
    unfold Cert.NormMixRefIdeal.Value.res_main_v50 at h1
    rw [e0, e1, e2, e3, e4, e5] at h1
    rw [e0, e1, e2, e3, e4] at h2
    refine ⟨h1.trans ?_, h2.trans ?_, hk⟩
    · have hr := reals (hpre c)
      clear h1 h2 hk e0 e1 e2 e3 e4 e5 hpre
      funext y
      obtain ⟨i, j, rfl⟩ : ∃ (i : Fin 8192) (j : Fin 1024), y = ix2 i j := ⟨y 0, y 1, by funext a; fin_cases a <;> rfl⟩
      have hE : ∀ k : Fin 1024, (∑ q : Fin 2240, adz m c (ix2 i q) * aw m c (ix2 k q)) * (1 + asc m c (ix2 0 k)) * ag m c (ix2 0 k)
          = DY (ag m c) (asc m c) (aw m c) (adz m c) i k := fun k => rfl
      simp only [ax, ag, asc, aw, adz, adx] at hE ⊢
      pointwise []
      simp only [hE]
      obtain ⟨r0, r1, r2, r3, r4⟩ := hr
      obtain ⟨e, he, hE⟩ := Cert.Shared.wEps
      have hd : ∀ k, Cert.Shared.IsReal (DY (ag m c) (asc m c) (aw m c) (adz m c) i k) := fun k =>
        ((Cert.Shared.IsReal.sum fun q => (r4 _).mul (r3 _)).mul (Cert.Shared.IsReal.one.add (r2 _))).mul (r1 _)
      refine Eq.trans ?_ (congrArg (adx m c (ix2 i j) + ·) (Cert.Shared.dnorm_law (fun k => r0 (ix2 i k)) hd (by norm_num : (0 : ℝ) < 1024) he Cert.Shared.w1024 hE j))
      rw [← add_assoc, ← add_assoc]
    · funext y
      obtain ⟨x, j, rfl⟩ := ix2_all y
      clear h1 h2 hk
      refine Eq.trans ?_ (show ∑ i, rowP (ax m c) (ag m c) (asc m c) (aw m c) (adz m c) j i = _ from rfl)
      simp only [rowP, DH, RI, ax, ag, asc, aw, adz]
      pointwise []
      by_cases h1 : j.val < 1024
      · simp only [h1, dif_pos]
        exact Finset.sum_congr rfl fun i _ => mul_comm _ _
      · by_cases h2 : j.val < 2048
        · have h3 : j.val - 1024 < 1024 := by omega
          simp only [h1, h2, h3, dif_pos, dif_neg, not_false_eq_true]
        · have h3 : ¬ j.val - 1024 < 1024 := by omega
          simp only [h1, h2, h3, dif_neg, not_false_eq_true, Nat.sub_sub]
          exact Finset.sum_congr rfl fun i _ => mul_comm _ _
end Cert.NormMixClaim
end
-- ==== Proof.Up.Claim.lean ====
module

public import proofs.«01_k».proof.Proof.Gen.UpIdeal.Value
public import proofs.«01_k».proof.Proof.Gen.UpRefIdeal.Run
public import proofs.«01_k».proof.Defs
public import proofs.«01_k».proof.Proof.Norm.Value
public import Idealize.ShloMosaic.Lib.StableHlo.ReadAt
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.UpClaim

open Cert.UpIdeal Cert.UpIdeal.Gen Cert.UpIdeal.Value
open Cert.NormIdeal.Value (RI)

variable (m : (ℓ : Loc nD τ sig) → Buf (Elt Ideal) ℓ)

section forms

variable (x : FVec Ideal S8192x1024 .f32) (g sh sc : FVec Ideal S1x1024 .f32) (w w' : FVec Ideal S1024x2816 .f32)

/-- The normed and modulated layer input. -/
def H : FVec Ideal S8192x1024 .bf16 := fun j => x j * RI x (j 0) * g (ix2 0 (j 1)) * (1 + sc (ix2 0 (j 1))) + sh (ix2 0 (j 1))

/-- An up projection. -/
def A : FVec Ideal S8192x2816 .bf16 := fun j => ∑ q : Fin 1024, H x g sh sc (ix2 (j 0) q) * w (ix2 q (j 1))

/-- The gated product of the two up projections. -/
def U : FVec Ideal S8192x2816 .bf16 := fun j => A x g sh sc w j * Ideal.logistic (A x g sh sc w j) * A x g sh sc w' j

end forms

abbrev ax (c : Dev nD) : FVec Ideal S8192x1024 .f32 := m ((c : Thread nD τ).loc main_arg0)
abbrev ag (c : Dev nD) : FVec Ideal S1x1024 .f32 := m ((c : Thread nD τ).loc main_arg1)
abbrev ash (c : Dev nD) : FVec Ideal S1x1024 .f32 := m ((c : Thread nD τ).loc main_arg2)
abbrev asc (c : Dev nD) : FVec Ideal S1x1024 .f32 := m ((c : Thread nD τ).loc main_arg3)
abbrev aw1 (c : Dev nD) : FVec Ideal S1024x2816 .f32 := m ((c : Thread nD τ).loc main_arg4)
abbrev aw3 (c : Dev nD) : FVec Ideal S1024x2816 .f32 := m ((c : Thread nD τ).loc main_arg5)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] ∧ win0_9.index t = ![t.val, 0] :=
  (by decide +kernel : ∀ t : Fin grid0.N, _)

theorem rows_lt (t : Fin cfg0.N) (r : Fin 512) : t.val * 512 + r.val < 8192 := by
  have := r.isLt
  have : t.val < 16 := lt_of_lt_of_eq t.isLt (show cfg0.N = 16 from N_0)
  omega

/-- A point's row of the whole arrays. -/
abbrev rw' (t : Fin cfg0.N) (r : Fin 512) : Fin 8192 := ⟨t.val * 512 + r.val, rows_lt t r⟩

section blocks

variable (c : Dev nD) (t : Fin cfg0.N)

theorem v1_at (r : Fin 2816) (k : Fin 1024) : V m c main_v1 (ix2 r k) = aw1 m c (ix2 k r) := by
  unfold V; after_reads_at

theorem v3_at (r : Fin 2816) (k : Fin 1024) : V m c main_v3 (ix2 r k) = aw3 m c (ix2 k r) := by
  unfold V; after_reads_at

theorem b0 (r : Fin 512) (k : Fin 1024) : iblk m c 0 t (ix2 r k) = ax m c (ix2 (rw' t r) k) := by
  blk_ext [iblk, V, idx t]

theorem b1 (r : Fin 1) (k : Fin 1024) : iblk m c 1 t (ix2 r k) = ag m c (ix2 r k) := by
  blk_ext [iblk, V, idx t]

theorem b2 (r : Fin 1) (k : Fin 1024) : iblk m c 2 t (ix2 r k) = ash m c (ix2 r k) := by
  blk_ext [iblk, V, idx t]

theorem b3 (r : Fin 1) (k : Fin 1024) : iblk m c 3 t (ix2 r k) = asc m c (ix2 r k) := by
  blk_ext [iblk, V, idx t]

theorem b4 (r : Fin 2816) (k : Fin 1024) : iblk m c 4 t (ix2 r k) = aw1 m c (ix2 k r) :=
  Eq.trans (by blk_ext [iblk, idx t]) (v1_at m c r k)

theorem b5 (r : Fin 2816) (k : Fin 1024) : iblk m c 5 t (ix2 r k) = aw3 m c (ix2 k r) :=
  Eq.trans (by blk_ext [iblk, idx t]) (v3_at m c r k)

/-- The block of the modulated norm, as the point stores it in its result and in its scratch. -/
abbrev hb : FVec Ideal S512x1024 .bf16 := k0_pay2 (iblk m c 0 t) (iblk m c 1 t) (iblk m c 3 t) (iblk m c 2 t)

theorem h_at (r : Fin 512) (k : Fin 1024) : k0_pay1 (iblk m c 0 t) (iblk m c 1 t) (iblk m c 3 t) (iblk m c 2 t) (ix2 r k)
    = H (ax m c) (ag m c) (ash m c) (asc m c) (ix2 (rw' t r) k) := by
  pointwise [k0_pay1, H, RI]
  simp only [b0, b1, b2, b3]

theorem hb_at (r : Fin 512) (k : Fin 1024) : hb m c t (ix2 r k) = H (ax m c) (ag m c) (ash m c) (asc m c) (ix2 (rw' t r) k) := by
  rw [← h_at]
  pointwise [hb, k0_pay2]

/-- The one step along the columns starts at the first. -/
theorem off0 : k0_off1 (grid0.coords t) = fun _ => 0 := funext fun a => by
  have := k0_off1_inb (grid0.coords t) a
  omega

/-- What a point leaves in its four blocks. -/
theorem outs_all : (outsAt0 m c t).1 = k0_pay1 (iblk m c 0 t) (iblk m c 1 t) (iblk m c 3 t) (iblk m c 2 t)
    ∧ (outsAt0 m c t).2.1 = k0_pay5 (hb m c t) (iblk m c 4 t) ∧ (outsAt0 m c t).2.2.1 = k0_pay6 (hb m c t) (iblk m c 5 t)
    ∧ (outsAt0 m c t).2.2.2 = k0_pay7 (hb m c t) (iblk m c 4 t) (iblk m c 5 t) := by
  unfold outsAt0
  dsimp only
  refine ⟨by frame_out, by frame_out; exact congrArg (k0_pay5 _) (View.ld_unit_zero (off0 t) _ _), by frame_out; exact congrArg (k0_pay6 _) (View.ld_unit_zero (off0 t) _ _),
    by frame_out; exact congrArg₂ (k0_pay7 _) (View.ld_unit_zero (off0 t) _ _) (View.ld_unit_zero (off0 t) _ _)⟩

theorem a_at (r : Fin 512) (k : Fin 2816) : k0_pay3 (hb m c t) (iblk m c 4 t) (ix2 r k) = A (ax m c) (ag m c) (ash m c) (asc m c) (aw1 m c) (ix2 (rw' t r) k) := by
  refine Eq.trans ?_ (show ∑ q : Fin 1024, H (ax m c) (ag m c) (ash m c) (asc m c) (ix2 (rw' t r) q) * aw1 m c (ix2 q k) = _ from rfl)
  simp only [← hb_at, ← b4 m c t]
  pointwise [k0_pay3]

theorem c_at (r : Fin 512) (k : Fin 2816) : k0_pay4 (hb m c t) (iblk m c 5 t) (ix2 r k) = A (ax m c) (ag m c) (ash m c) (asc m c) (aw3 m c) (ix2 (rw' t r) k) := by
  refine Eq.trans ?_ (show ∑ q : Fin 1024, H (ax m c) (ag m c) (ash m c) (asc m c) (ix2 (rw' t r) q) * aw3 m c (ix2 q k) = _ from rfl)
  simp only [← hb_at, ← b5 m c t]
  pointwise [k0_pay4]

theorem a5_at (r : Fin 512) (k : Fin 2816) : k0_pay5 (hb m c t) (iblk m c 4 t) (ix2 r k) = A (ax m c) (ag m c) (ash m c) (asc m c) (aw1 m c) (ix2 (rw' t r) k) :=
  a_at m c t r k

theorem c6_at (r : Fin 512) (k : Fin 2816) : k0_pay6 (hb m c t) (iblk m c 5 t) (ix2 r k) = A (ax m c) (ag m c) (ash m c) (asc m c) (aw3 m c) (ix2 (rw' t r) k) :=
  c_at m c t r k

theorem u_at (r : Fin 512) (k : Fin 2816) : k0_pay7 (hb m c t) (iblk m c 4 t) (iblk m c 5 t) (ix2 r k)
    = U (ax m c) (ag m c) (ash m c) (asc m c) (aw1 m c) (aw3 m c) (ix2 (rw' t r) k) := by
  rw [U, ← a_at, ← c_at]
  rfl

end blocks

theorem final6 (c : Dev nD) : (dats m 0 c).arrAt 6 cfg0.N = H (ax m c) (ag m c) (ash m c) (asc m c) := by
  refine (dats m 0 c).arrAt_eq_of_covers 6 _ (by decide +kernel) fun t hf y => ?_
  obtain ⟨r, k, rfl⟩ : ∃ (r : Fin 512) (k : Fin 1024), y = ix2 r k := ⟨y 0, y 1, by funext a; fin_cases a <;> rfl⟩
  blk_simp
  rw [after0_6, (outs_all m c t).1, h_at]
  refine congrArg _ ?_
  blk_ext [idx t]

theorem final7 (c : Dev nD) : (dats m 0 c).arrAt 7 cfg0.N = A (ax m c) (ag m c) (ash m c) (asc m c) (aw1 m c) := by
  refine (dats m 0 c).arrAt_eq_of_covers 7 _ (by decide +kernel) fun t hf y => ?_
  obtain ⟨r, k, rfl⟩ : ∃ (r : Fin 512) (k : Fin 2816), y = ix2 r k := ⟨y 0, y 1, by funext a; fin_cases a <;> rfl⟩
  blk_simp
  rw [after0_7, (outs_all m c t).2.1, a5_at]
  refine congrArg _ ?_
  blk_ext [idx t]

theorem final8 (c : Dev nD) : (dats m 0 c).arrAt 8 cfg0.N = A (ax m c) (ag m c) (ash m c) (asc m c) (aw3 m c) := by
  refine (dats m 0 c).arrAt_eq_of_covers 8 _ (by decide +kernel) fun t hf y => ?_
  obtain ⟨r, k, rfl⟩ : ∃ (r : Fin 512) (k : Fin 2816), y = ix2 r k := ⟨y 0, y 1, by funext a; fin_cases a <;> rfl⟩
  blk_simp
  rw [after0_8, (outs_all m c t).2.2.1, c6_at]
  refine congrArg _ ?_
  blk_ext [idx t]

theorem final9 (c : Dev nD) : (dats m 0 c).arrAt 9 cfg0.N = U (ax m c) (ag m c) (ash m c) (asc m c) (aw1 m c) (aw3 m c) := by
  refine (dats m 0 c).arrAt_eq_of_covers 9 _ (by decide +kernel) fun t hf y => ?_
  obtain ⟨r, k, rfl⟩ : ∃ (r : Fin 512) (k : Fin 2816), y = ix2 r k := ⟨y 0, y 1, by funext a; fin_cases a <;> rfl⟩
  blk_simp
  rw [after0_9, (outs_all m c t).2.2.2, u_at]
  refine congrArg _ ?_
  blk_ext [idx t]

/-- The reference runs on the host alone: its arguments end unchanged, and it declares no semaphore. -/
theorem frame_ref : Cert.quiescent_UpRefIdeal (hUpRefIdeal := Cert.UpRefIdeal.Gen.facts) := fun m ρ _ =>
  (θ_run Cert.UpRefIdeal.defs _ _).mono (fun r h => ⟨fun c => (h c).2.2.2.2, Idealize.ShloMosaic.sem_eq_zero_of_no_sems (by decide) r.2⟩)
    (Cert.UpRefIdeal.Value.run (F := Ideal) m ρ)

theorem algebraic : Cert.algebraic_UpIdeal_UpRefIdeal (hUpIdeal := Cert.UpIdeal.Gen.facts) (hUpRefIdeal := Cert.UpRefIdeal.Gen.facts) := by
  intro m g m' g' hpre hag
  refine ⟨fun c => H (ax m c) (ag m c) (ash m c) (asc m c), fun c => A (ax m c) (ag m c) (ash m c) (asc m c) (aw1 m c), fun c => A (ax m c) (ag m c) (ash m c) (asc m c) (aw3 m c), fun c => U (ax m c) (ag m c) (ash m c) (asc m c) (aw1 m c) (aw3 m c),
    (θ_run _ _ _).mono (fun r h c => ?_) (run_blocks m g), (θ_run _ _ _).mono (fun r h c => ?_) (Cert.UpRefIdeal.Value.run m' g')⟩
  · obtain ⟨h6, h7, h8, h9, hk⟩ := h c
    exact ⟨h6.trans (final6 m c), h7.trans (final7 m c), h8.trans (final8 m c), h9.trans (final9 m c), hk⟩
  · obtain ⟨h1, h2, h3, h4, hk⟩ := h c
    obtain ⟨e0, e1, e2, e3, e4, e5⟩ := hag c
    rw [e0, e1, e2, e3] at h1
    rw [e0, e1, e2, e3, e4] at h2
    rw [e0, e1, e2, e3, e5] at h3
    rw [e0, e1, e2, e3, e4, e5] at h4
    refine ⟨h1.trans ?_, h2.trans ?_, h3.trans ?_, h4.trans ?_, hk⟩
    · funext y
      obtain ⟨r, k, rfl⟩ : ∃ (r : Fin 8192) (k : Fin 1024), y = ix2 r k := ⟨y 0, y 1, by funext a; fin_cases a <;> rfl⟩
      simp only [H, RI, ax, ag, ash, asc]
      pointwise []
    · funext y
      obtain ⟨r, k, rfl⟩ : ∃ (r : Fin 8192) (k : Fin 2816), y = ix2 r k := ⟨y 0, y 1, by funext a; fin_cases a <;> rfl⟩
      simp only [A, H, RI, ax, ag, ash, asc, aw1]
      pointwise []
    · funext y
      obtain ⟨r, k, rfl⟩ : ∃ (r : Fin 8192) (k : Fin 2816), y = ix2 r k := ⟨y 0, y 1, by funext a; fin_cases a <;> rfl⟩
      simp only [A, H, RI, ax, ag, ash, asc, aw3]
      pointwise []
    · funext y
      obtain ⟨r, k, rfl⟩ : ∃ (r : Fin 8192) (k : Fin 2816), y = ix2 r k := ⟨y 0, y 1, by funext a; fin_cases a <;> rfl⟩
      simp only [U, A, H, RI, ax, ag, ash, asc, aw1, aw3]
      pointwise []
      rfl

end Cert.UpClaim
end
-- ==== Proof.Down.Claim.lean ====
module

public import proofs.«01_k».proof.Proof.Gen.DownIdeal.Value
public import proofs.«01_k».proof.Proof.Gen.DownRefIdeal.Run
public import proofs.«01_k».proof.Defs
public import proofs.«01_k».proof.Proof.Shared.Cols
public import Idealize.ShloMosaic.Lib.StableHlo.ReadAt
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.DownClaim

open Cert.DownIdeal Cert.DownIdeal.Gen Cert.DownIdeal.Value

variable (m : (ℓ : Loc nD τ sig) → Buf (Elt Ideal) ℓ)

/-- The down projection and the layer's output behind the half gate. -/
def F (u : FVec Ideal S8192x2816 .f32) (w : FVec Ideal S2816x1024 .f32) : FVec Ideal S8192x1024 .bf16 := fun j => ∑ q : Fin 2816, u (ix2 (j 0) q) * w (ix2 q (j 1))
def XO (u : FVec Ideal S8192x2816 .f32) (w : FVec Ideal S2816x1024 .f32) (x : FVec Ideal S8192x1024 .f32) (g : FVec Ideal S1x1024 .f32) : FVec Ideal S8192x1024 .f32 :=
  fun j => x j + Ideal.ofBits .f32 0x3F000000#32 * g (ix2 0 (j 1)) * F u w j

abbrev au (c : Dev nD) : FVec Ideal S8192x2816 .f32 := m ((c : Thread nD τ).loc main_arg0)
abbrev aw (c : Dev nD) : FVec Ideal S2816x1024 .f32 := m ((c : Thread nD τ).loc main_arg1)
abbrev ax (c : Dev nD) : FVec Ideal S8192x1024 .f32 := m ((c : Thread nD τ).loc main_arg2)
abbrev ag (c : Dev nD) : FVec Ideal S1x1024 .f32 := m ((c : Thread nD τ).loc main_arg3)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

theorem rows_lt (t : Fin cfg0.N) (r : Fin 1024) : t.val * 1024 + r.val < 8192 := by
  have := r.isLt
  have : t.val < 8 := lt_of_lt_of_eq t.isLt (show cfg0.N = 8 from N_0)
  omega

/-- A point's row of the whole arrays. -/
abbrev rw' (t : Fin cfg0.N) (r : Fin 1024) : Fin 8192 := ⟨t.val * 1024 + r.val, rows_lt t r⟩

section blocks

variable (c : Dev nD) (t : Fin cfg0.N)

theorem v0_at (r : Fin 8192) (k : Fin 2816) : V m c main_v0 (ix2 r k) = au m c (ix2 r k) := by
  unfold V; after_reads_at

theorem v1_at (r : Fin 2816) (k : Fin 1024) : V m c main_v1 (ix2 r k) = aw m c (ix2 r k) := by
  unfold V; after_reads_at

theorem b0 (r : Fin 1024) (k : Fin 2816) : iblk m c 0 t (ix2 r k) = au m c (ix2 (rw' t r) k) :=
  Eq.trans (by blk_ext [iblk, idx t]) (v0_at m c (rw' t r) k)

theorem b1 (r : Fin 2816) (k : Fin 1024) : iblk m c 1 t (ix2 r k) = aw m c (ix2 r k) :=
  Eq.trans (by blk_ext [iblk, idx t]) (v1_at m c r k)

theorem b2 (r : Fin 1024) (k : Fin 1024) : iblk m c 2 t (ix2 r k) = ax m c (ix2 (rw' t r) k) := by
  blk_ext [iblk, V, idx t]

theorem b3 (r : Fin 1) (k : Fin 1024) : iblk m c 3 t (ix2 r k) = ag m c (ix2 r k) := by
  blk_ext [iblk, V, idx t]

theorem x_at (r k : Fin 1024) : out0_4 (iblk m c 0 t) (iblk m c 1 t) (iblk m c 2 t) (iblk m c 3 t) (ix2 r k)
    = XO (au m c) (aw m c) (ax m c) (ag m c) (ix2 (rw' t r) k) := by
  refine Eq.trans (b := k0_pay2 (iblk m c 0 t) (iblk m c 1 t) (iblk m c 2 t) (iblk m c 3 t) (ix2 r k)) (congrFun (by unfold out0_4; frame_out) _) ?_
  pointwise [k0_pay2, k0_pay1, XO, F]
  simp only [b0, b1, b2, b3]

theorem f_at (r k : Fin 1024) : out0_5 (iblk m c 0 t) (iblk m c 1 t) (iblk m c 2 t) (iblk m c 3 t) (ix2 r k)
    = F (au m c) (aw m c) (ix2 (rw' t r) k) := by
  refine Eq.trans (b := k0_pay3 (iblk m c 0 t) (iblk m c 1 t) (ix2 r k)) (congrFun (by unfold out0_5; frame_out) _) ?_
  pointwise [k0_pay3, k0_pay1, F]
  simp only [b0, b1]

end blocks

theorem final4 (c : Dev nD) : (dats m 0 c).arrAt 4 cfg0.N = XO (au m c) (aw m c) (ax m c) (ag m c) := by
  refine (dats m 0 c).arrAt_eq_of_covers 4 _ (by decide +kernel) fun t hf y => ?_
  obtain ⟨r, k, rfl⟩ : ∃ (r : Fin 1024) (k : Fin 1024), y = ix2 r k := ⟨y 0, y 1, by funext a; fin_cases a <;> rfl⟩
  blk_simp
  rw [after0_4, x_at]
  refine congrArg _ ?_
  blk_ext [idx t]

theorem final5 (c : Dev nD) : (dats m 0 c).arrAt 5 cfg0.N = F (au m c) (aw m c) := by
  refine (dats m 0 c).arrAt_eq_of_covers 5 _ (by decide +kernel) fun t hf y => ?_
  obtain ⟨r, k, rfl⟩ : ∃ (r : Fin 1024) (k : Fin 1024), y = ix2 r k := ⟨y 0, y 1, by funext a; fin_cases a <;> rfl⟩
  blk_simp
  rw [after0_5, f_at]
  refine congrArg _ ?_
  blk_ext [idx t]

/-- The reference runs on the host alone: its arguments end unchanged, and it declares no semaphore. -/
theorem frame_ref : Cert.quiescent_DownRefIdeal (hDownRefIdeal := Cert.DownRefIdeal.Gen.facts) := fun m ρ _ =>
  (θ_run Cert.DownRefIdeal.defs _ _).mono (fun r h => ⟨fun c => (h c).2.2, Idealize.ShloMosaic.sem_eq_zero_of_no_sems (by decide) r.2⟩)
    (Cert.DownRefIdeal.Value.run (F := Ideal) m ρ)

theorem ref_f (u : FVec Ideal S8192x2816 .f32) (w : FVec Ideal S2816x1024 .f32) (r : Fin 8192) (k : Fin 1024) :
    Host.dotGeneral Cert.DownRefIdeal.dot_S8192x2816_S2816x1024_S8192x1024_1_0_0_1_n_n none u w (ix2 r k) = F u w (ix2 r k) := by
  pointwise [F]

theorem algebraic : Cert.algebraic_DownIdeal_DownRefIdeal (hDownIdeal := Cert.DownIdeal.Gen.facts) (hDownRefIdeal := Cert.DownRefIdeal.Gen.facts) := by
  intro m g m' g' hpre hag
  refine ⟨fun c => XO (au m c) (aw m c) (ax m c) (ag m c), fun c => F (au m c) (aw m c),
    (θ_run _ _ _).mono (fun r h c => ?_) (run_blocks m g), (θ_run _ _ _).mono (fun r h c => ?_) (Cert.DownRefIdeal.Value.run m' g')⟩
  · obtain ⟨h4, h5, hk⟩ := h c
    exact ⟨h4.trans (final4 m c), h5.trans (final5 m c), hk⟩
  · obtain ⟨h1, h2, hk⟩ := h c
    obtain ⟨e0, e1, e2, e3⟩ := hag c
    rw [e0, e1, e2, e3] at h1
    rw [e0, e1] at h2
    refine ⟨h1.trans ?_, h2.trans ?_, hk⟩
    · funext y
      obtain ⟨r, k, rfl⟩ : ∃ (r : Fin 8192) (k : Fin 1024), y = ix2 r k := ⟨y 0, y 1, by funext a; fin_cases a <;> rfl⟩
      refine Eq.trans ?_ (congrArg (fun z : EReal => ax m c (ix2 r k) + Ideal.ofBits .f32 0x3F000000#32 * ag m c (ix2 0 k) * z) (ref_f (au m c) (aw m c) r k))
      simp only [au, aw, ax, ag]
      pointwise []
    · funext y
      obtain ⟨r, k, rfl⟩ : ∃ (r : Fin 8192) (k : Fin 1024), y = ix2 r k := ⟨y 0, y 1, by funext a; fin_cases a <;> rfl⟩
      exact ref_f (au m c) (aw m c) r k

end Cert.DownClaim
end
-- ==== Proof.MixIn.Claim.lean ====
module

public import proofs.«01_k».proof.Proof.Gen.MixInIdeal.Value
public import proofs.«01_k».proof.Proof.Gen.MixInRefIdeal.Run
public import proofs.«01_k».proof.Defs
public import proofs.«01_k».proof.Proof.Up.Claim
public import Idealize.ShloMosaic.Lib.StableHlo.ReadAt
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.MixInClaim

open Cert.MixInIdeal Cert.MixInIdeal.Gen Cert.MixInIdeal.Value
open Cert.NormIdeal.Value (RI)
open Cert.UpClaim (H)

variable (m : (ℓ : Loc nD τ sig) → Buf (Elt Ideal) ℓ)

/-- The input projection, widened with zeros. -/
def Z (x : FVec Ideal S8192x1024 .f32) (g sh sc : FVec Ideal S1x1024 .f32) (w : FVec Ideal S1024x2240 .f32) : FVec Ideal S8192x2304 .f32 :=
  fun j => if h : (j 1).val < 2240 then ∑ q : Fin 1024, H x g sh sc (ix2 (j 0) q) * w (ix2 q ⟨(j 1).val, h⟩) else 0

abbrev ax (c : Dev nD) : FVec Ideal S8192x1024 .f32 := m ((c : Thread nD τ).loc main_arg0)
abbrev ag (c : Dev nD) : FVec Ideal S1x1024 .f32 := m ((c : Thread nD τ).loc main_arg1)
abbrev ash (c : Dev nD) : FVec Ideal S1x1024 .f32 := m ((c : Thread nD τ).loc main_arg2)
abbrev asc (c : Dev nD) : FVec Ideal S1x1024 .f32 := m ((c : Thread nD τ).loc main_arg3)
abbrev aw (c : Dev nD) : FVec Ideal S1024x2240 .f32 := m ((c : Thread nD τ).loc main_arg4)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0] :=
  (by decide +kernel : ∀ t : Fin grid0.N, _)

theorem rows_lt (t : Fin cfg0.N) (r : Fin 512) : t.val * 512 + r.val < 8192 := by
  have := r.isLt
  have : t.val < 16 := lt_of_lt_of_eq t.isLt (show cfg0.N = 16 from N_0)
  omega

/-- A point's row of the whole arrays. -/
abbrev rw' (t : Fin cfg0.N) (r : Fin 512) : Fin 8192 := ⟨t.val * 512 + r.val, rows_lt t r⟩

section blocks

variable (c : Dev nD) (t : Fin cfg0.N)

theorem zero_word : (FloatOps.sitofp (F := Ideal) .f32 (0#32 : BitVec 32) : EReal) = 0 := by
  change (((0#32 : BitVec 32).toInt : ℝ) : EReal) = 0
  simp

/-- The weight, transposed and widened with rows of zeros. -/
theorem v2_at (r : Fin 2304) (k : Fin 1024) : V m c main_v2 (ix2 r k) = if h : r.val < 2240 then aw m c (ix2 k ⟨r.val, h⟩) else (0 : EReal) := by
  rw [← zero_word]
  unfold V; after_reads_at
  first | done | rfl

theorem b0 (r : Fin 512) (k : Fin 1024) : iblk m c 0 t (ix2 r k) = ax m c (ix2 (rw' t r) k) := by
  blk_ext [iblk, V, idx t]

theorem b1 (r : Fin 1) (k : Fin 1024) : iblk m c 1 t (ix2 r k) = ag m c (ix2 r k) := by
  blk_ext [iblk, V, idx t]

theorem b2 (r : Fin 1) (k : Fin 1024) : iblk m c 2 t (ix2 r k) = ash m c (ix2 r k) := by
  blk_ext [iblk, V, idx t]

theorem b3 (r : Fin 1) (k : Fin 1024) : iblk m c 3 t (ix2 r k) = asc m c (ix2 r k) := by
  blk_ext [iblk, V, idx t]

theorem b4 (r : Fin 2304) (k : Fin 1024) : iblk m c 4 t (ix2 r k) = if h : r.val < 2240 then aw m c (ix2 k ⟨r.val, h⟩) else (0 : EReal) :=
  Eq.trans (by blk_ext [iblk, idx t]) (v2_at m c r k)

theorem pay1_at (r : Fin 512) (k : Fin 1024) : k0_pay1 (iblk m c 0 t) (iblk m c 1 t) (iblk m c 3 t) (iblk m c 2 t) (ix2 r k)
    = H (ax m c) (ag m c) (ash m c) (asc m c) (ix2 (rw' t r) k) := by
  pointwise [k0_pay1, H, RI]
  simp only [b0, b1, b2, b3]

theorem h_at (r : Fin 512) (k : Fin 1024) : out0_5 (iblk m c 0 t) (iblk m c 1 t) (iblk m c 2 t) (iblk m c 3 t) (iblk m c 4 t) (ix2 r k)
    = H (ax m c) (ag m c) (ash m c) (asc m c) (ix2 (rw' t r) k) :=
  Eq.trans (congrFun (by unfold out0_5; frame_out) _) (pay1_at m c t r k)

theorem z_at (r : Fin 512) (k : Fin 2304) : out0_6 (iblk m c 0 t) (iblk m c 1 t) (iblk m c 2 t) (iblk m c 3 t) (iblk m c 4 t) (ix2 r k)
    = Z (ax m c) (ag m c) (ash m c) (asc m c) (aw m c) (ix2 (rw' t r) k) := by
  refine Eq.trans (b := k0_pay2 (iblk m c 0 t) (iblk m c 1 t) (iblk m c 3 t) (iblk m c 2 t) (iblk m c 4 t) (ix2 r k)) (congrFun (by unfold out0_6; frame_out) _) ?_
  refine Eq.trans (b := ∑ q : Fin 1024, H (ax m c) (ag m c) (ash m c) (asc m c) (ix2 (rw' t r) q)
    * if h : k.val < 2240 then aw m c (ix2 q ⟨k.val, h⟩) else (0 : EReal)) ?_ ?_
  · simp only [← pay1_at, ← b4 m c t]
    pointwise [k0_pay2]
  · refine Eq.trans (b := if h : k.val < 2240 then ∑ q : Fin 1024, H (ax m c) (ag m c) (ash m c) (asc m c) (ix2 (rw' t r) q) * aw m c (ix2 q ⟨k.val, h⟩)
      else (0 : EReal)) ?_ rfl
    split_ifs with h
    · rfl
    · exact Finset.sum_eq_zero fun q _ => mul_zero _

end blocks

theorem final5 (c : Dev nD) : (dats m 0 c).arrAt 5 cfg0.N = H (ax m c) (ag m c) (ash m c) (asc m c) := by
  refine (dats m 0 c).arrAt_eq_of_covers 5 _ (by decide +kernel) fun t hf y => ?_
  obtain ⟨r, k, rfl⟩ : ∃ (r : Fin 512) (k : Fin 1024), y = ix2 r k := ⟨y 0, y 1, by funext a; fin_cases a <;> rfl⟩
  blk_simp
  rw [after0_5, h_at]
  refine congrArg _ ?_
  blk_ext [idx t]

theorem final6 (c : Dev nD) : (dats m 0 c).arrAt 6 cfg0.N = Z (ax m c) (ag m c) (ash m c) (asc m c) (aw m c) := by
  refine (dats m 0 c).arrAt_eq_of_covers 6 _ (by decide +kernel) fun t hf y => ?_
  obtain ⟨r, k, rfl⟩ : ∃ (r : Fin 512) (k : Fin 2304), y = ix2 r k := ⟨y 0, y 1, by funext a; fin_cases a <;> rfl⟩
  blk_simp
  rw [after0_6, z_at]
  refine congrArg _ ?_
  blk_ext [idx t]

/-- The reference runs on the host alone: its arguments end unchanged, and it declares no semaphore. -/
theorem frame_ref : Cert.quiescent_MixInRefIdeal (hMixInRefIdeal := Cert.MixInRefIdeal.Gen.facts) := fun m ρ _ =>
  (θ_run Cert.MixInRefIdeal.defs _ _).mono (fun r h => ⟨fun c => (h c).2.2, Idealize.ShloMosaic.sem_eq_zero_of_no_sems (by decide) r.2⟩)
    (Cert.MixInRefIdeal.Value.run (F := Ideal) m ρ)

theorem algebraic : Cert.algebraic_MixInIdeal_MixInRefIdeal (hMixInIdeal := Cert.MixInIdeal.Gen.facts) (hMixInRefIdeal := Cert.MixInRefIdeal.Gen.facts) := by
  intro m g m' g' hpre hag
  refine ⟨fun c => H (ax m c) (ag m c) (ash m c) (asc m c), fun c => Z (ax m c) (ag m c) (ash m c) (asc m c) (aw m c),
    (θ_run _ _ _).mono (fun r h c => ?_) (run_blocks m g), (θ_run _ _ _).mono (fun r h c => ?_) (Cert.MixInRefIdeal.Value.run m' g')⟩
  · obtain ⟨h5, h6, hk⟩ := h c
    exact ⟨h5.trans (final5 m c), h6.trans (final6 m c), hk⟩
  · obtain ⟨h1, h2, hk⟩ := h c
    obtain ⟨e0, e1, e2, e3, e4⟩ := hag c
    rw [e0, e1, e2, e3] at h1
    rw [e0, e1, e2, e3, e4] at h2
    refine ⟨h1.trans ?_, h2.trans ?_, hk⟩
    · funext y
      obtain ⟨r, k, rfl⟩ : ∃ (r : Fin 8192) (k : Fin 1024), y = ix2 r k := ⟨y 0, y 1, by funext a; fin_cases a <;> rfl⟩
      simp only [H, RI, ax, ag, ash, asc]
      pointwise []
    · funext y
      obtain ⟨r, k, rfl⟩ : ∃ (r : Fin 8192) (k : Fin 2304), y = ix2 r k := ⟨y 0, y 1, by funext a; fin_cases a <;> rfl⟩
      simp only [Z, H, RI, ax, ag, ash, asc, aw]
      pointwise []
      simp only [zero_word]

end Cert.MixInClaim
end
-- ==== Proof.MixFwd.Claim.lean ====
module

public import proofs.«01_k».proof.Proof.Gen.MixFwdIdeal.Value
public import proofs.«01_k».proof.Proof.Gen.MixFwdRefIdeal.Run
public import proofs.«01_k».proof.Defs
public import proofs.«01_k».proof.Proof.MixOut.Value
public import Idealize.ShloMosaic.Lib.StableHlo.ReadAt
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.MixFwdClaim

open Cert.MixFwdIdeal Cert.MixFwdIdeal.Gen Cert.MixFwdIdeal.Value
open Cert.MixOutIdeal.Value (ra rb d64 d128 YO)
open Cert.Shared (grms gi group_sum mask64 mask128 mul_w64i mul_w128i)

variable (m : (ℓ : Loc nD τ sig) → Buf (Elt Ideal) ℓ)

section forms

variable (ya o : FVec Ideal S8192x512 .f32) (go : FVec Ideal S1x1024 .f32) (w : FVec Ideal S1024x1024 .f32) (x : FVec Ideal S8192x1024 .f32) (ga : FVec Ideal S1x1024 .f32)

/-- The two normed halves. -/
def NA (i : Fin 8192) (k : Fin 512) : EReal := ya (ix2 i k) * ra (fun k => ya (ix2 i k)) k * go (ix2 0 ⟨k, by omega⟩)
def NB (i : Fin 8192) (k : Fin 512) : EReal := o (ix2 i k) * rb (fun k => o (ix2 i k)) k * go (ix2 0 ⟨512 + k, by omega⟩)

/-- The normed rows, their projection, and the layer's output behind the gate. -/
def YN : FVec Ideal S8192x1024 .bf16 := fun j => if h : (j 1).val < 512 then NA ya go (j 0) ⟨(j 1).val, h⟩
  else NB o go (j 0) ⟨(j 1).val - 512, by have : (j 1).val < 1024 := (j 1).isLt; omega⟩
def YOA : FVec Ideal S8192x1024 .bf16 := fun j => YO w ya o go (j 0) (j 1)
def XO : FVec Ideal S8192x1024 .f32 := fun j => x j + ga (ix2 0 (j 1)) * YO w ya o go (j 0) (j 1)

end forms

abbrev aya (c : Dev nD) : FVec Ideal S8192x512 .f32 := m ((c : Thread nD τ).loc main_arg0)
abbrev ao (c : Dev nD) : FVec Ideal S8192x512 .f32 := m ((c : Thread nD τ).loc main_arg1)
abbrev ago (c : Dev nD) : FVec Ideal S1x1024 .f32 := m ((c : Thread nD τ).loc main_arg2)
abbrev aw (c : Dev nD) : FVec Ideal S1024x1024 .f32 := m ((c : Thread nD τ).loc main_arg3)
abbrev ax (c : Dev nD) : FVec Ideal S8192x1024 .f32 := m ((c : Thread nD τ).loc main_arg4)
abbrev aga (c : Dev nD) : FVec Ideal S1x1024 .f32 := m ((c : Thread nD τ).loc main_arg5)

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![0, 0] ∧ win0_6.index t = ![0, 0]
    ∧ win0_7.index t = ![0, 0] ∧ win0_8.index t = ![t.val, 0] ∧ win0_9.index t = ![t.val, 0] ∧ win0_10.index t = ![t.val, 0] :=
  (by decide +kernel : ∀ t : Fin grid0.N, _)

theorem rows_lt (t : Fin cfg0.N) (r : Fin 1024) : t.val * 1024 + r.val < 8192 := by
  have := r.isLt
  have : t.val < 8 := lt_of_lt_of_eq t.isLt (show cfg0.N = 8 from N_0)
  omega

/-- A point's row of the whole arrays. -/
abbrev rw' (t : Fin cfg0.N) (r : Fin 1024) : Fin 8192 := ⟨t.val * 1024 + r.val, rows_lt t r⟩

theorem v8_at (c : Dev nD) (r k : Fin 512) : V m c main_v8 (ix2 r k) = if r.val / 64 = k.val / 64 then (1 : EReal) else 0 :=
  Eq.trans (by unfold V; after_reads_at) (mask64 r k)

theorem v17_at (c : Dev nD) (r k : Fin 512) : V m c main_v17 (ix2 r k) = if r.val / 128 = k.val / 128 then (1 : EReal) else 0 :=
  Eq.trans (by unfold V; after_reads_at) (mask128 r k)

theorem v18_at (c : Dev nD) (r k : Fin 1024) : V m c main_v18 (ix2 r k) = aw m c (ix2 r k) := by
  unfold V; after_reads_at

section blocks

variable (c : Dev nD) (t : Fin cfg0.N)

theorem b0 (r : Fin 1024) (k : Fin 512) : iblk m c 0 t (ix2 r k) = aya m c (ix2 (rw' t r) k) := by
  blk_ext [iblk, V, idx t]

theorem b1 (r : Fin 1024) (k : Fin 512) : iblk m c 1 t (ix2 r k) = ao m c (ix2 (rw' t r) k) := by
  blk_ext [iblk, V, idx t]

theorem b2 (r : Fin 1) (k : Fin 1024) : iblk m c 2 t (ix2 r k) = ago m c (ix2 r k) := by
  blk_ext [iblk, V, idx t]

theorem b3 (r k : Fin 1024) : iblk m c 3 t (ix2 r k) = aw m c (ix2 r k) :=
  Eq.trans (b := V m c main_v18 (ix2 r k)) (by blk_ext [iblk, idx t]) (v18_at m c r k)

theorem b4 (r k : Fin 1024) : iblk m c 4 t (ix2 r k) = ax m c (ix2 (rw' t r) k) := by
  blk_ext [iblk, V, idx t]

theorem b5 (r : Fin 1) (k : Fin 1024) : iblk m c 5 t (ix2 r k) = aga m c (ix2 r k) := by
  blk_ext [iblk, V, idx t]

theorem b6 (r k : Fin 512) : iblk m c 6 t (ix2 r k) = if r.val / 64 = k.val / 64 then (1 : EReal) else 0 :=
  Eq.trans (b := V m c main_v8 (ix2 r k)) (by blk_ext [iblk, idx t]) (v8_at m c r k)

theorem b7 (r k : Fin 512) : iblk m c 7 t (ix2 r k) = if r.val / 128 = k.val / 128 then (1 : EReal) else 0 :=
  Eq.trans (b := V m c main_v17 (ix2 r k)) (by blk_ext [iblk, idx t]) (v17_at m c r k)

/-- The two halves of the gain and of the weight a point reads. -/
abbrev gl : FVec Ideal S1x512 .f32 := View.ld (Val := Elt Ideal) (e' := .f32) (iblk m c 2 t) (Rect.unit (s := S1x1024) ![0, 0] ![1, 512] inb_S1x1024_S1x512_0_0)
abbrev gr : FVec Ideal S1x512 .f32 := View.ld (Val := Elt Ideal) (e' := .f32) (iblk m c 2 t) (Rect.unit (s := S1x1024) ![0, 512] ![1, 512] inb_S1x1024_S1x512_0_512)
abbrev wl : FVec Ideal S512x1024 .bf16 := View.ld (Val := Elt Ideal) (e' := .bf16) (iblk m c 3 t) (Rect.unit (s := S1024x1024) ![0, 0] ![512, 1024] inb_S1024x1024_S512x1024_0_0)
abbrev wr : FVec Ideal S512x1024 .bf16 := View.ld (Val := Elt Ideal) (e' := .bf16) (iblk m c 3 t) (Rect.unit (s := S1024x1024) ![512, 0] ![512, 1024] inb_S1024x1024_S512x1024_512_0)

theorem gl_at (k : Fin 512) : gl m c t (ix2 0 k) = ago m c (ix2 0 ⟨k, by omega⟩) :=
  ((Cert.Shared.band_ld _ _ _ 0 k ⟨0 + k, by omega⟩ rfl).trans (b2 m c t 0 _)).trans (congrArg (fun z => ago m c (ix2 0 z)) (Fin.ext (zero_add k.val)))

theorem gr_at (k : Fin 512) : gr m c t (ix2 0 k) = ago m c (ix2 0 ⟨512 + k, by omega⟩) :=
  (Cert.Shared.band_ld _ _ _ 0 k ⟨512 + k, by omega⟩ rfl).trans (b2 m c t 0 _)

theorem wl_at (q : Fin 512) (k : Fin 1024) : wl m c t (ix2 q k) = aw m c (ix2 ⟨q, by omega⟩ k) := by
  refine Eq.trans (congrArg (iblk m c 3 t) (funext fun a => Fin.ext ?_)) (b3 m c t ⟨q, by omega⟩ k)
  match a with
  | 0 => show 0 + 1 * q.val = q.val; omega
  | 1 => show 0 + 1 * k.val = k.val; omega

theorem wr_at (q : Fin 512) (k : Fin 1024) : wr m c t (ix2 q k) = aw m c (ix2 ⟨512 + q, by omega⟩ k) := by
  refine Eq.trans (congrArg (iblk m c 3 t) (funext fun a => Fin.ext ?_)) (b3 m c t ⟨512 + q, by omega⟩ k)
  match a with
  | 0 => show 512 + 1 * q.val = 512 + q.val; omega
  | 1 => show 0 + 1 * k.val = k.val; omega

/-- The two normed halves of a point's rows. -/
abbrev na : FVec Ideal S1024x512 .bf16 := k0_pay4 (iblk m c 0 t) (iblk m c 6 t) (gl m c t)
abbrev nb : FVec Ideal S1024x512 .bf16 := k0_pay5 (iblk m c 1 t) (iblk m c 7 t) (gr m c t)

theorem na_at (r : Fin 1024) (k : Fin 512) : na m c t (ix2 r k) = NA (aya m c) (ago m c) (rw' t r) k := by
  rw [NA, ← gl_at m c t]
  pointwise [na, k0_pay4]
  simp only [b0, b6]
  rw [group_sum d64 (fun k => aya m c (ix2 (rw' t r) k) * aya m c (ix2 (rw' t r) k)), mul_w64i, ra, grms]

theorem nb_at (r : Fin 1024) (k : Fin 512) : nb m c t (ix2 r k) = NB (ao m c) (ago m c) (rw' t r) k := by
  rw [NB, ← gr_at m c t]
  pointwise [nb, k0_pay5]
  simp only [b1, b7]
  rw [group_sum d128 (fun k => ao m c (ix2 (rw' t r) k) * ao m c (ix2 (rw' t r) k)), mul_w128i, rb, grms]

theorem yo_at (r k : Fin 1024) : k0_pay1 (na m c t) (nb m c t) (wl m c t) (wr m c t) (ix2 r k)
    = YO (aw m c) (aya m c) (ao m c) (ago m c) (rw' t r) k := by
  refine Eq.trans (b := ∑ q : Fin 512, na m c t (ix2 r q) * wl m c t (ix2 q k) + ∑ q : Fin 512, nb m c t (ix2 r q) * wr m c t (ix2 q k)) ?_ ?_
  · pointwise [k0_pay1]
  · simp only [na_at, nb_at, wl_at, wr_at]
    rfl

theorem xo_at (r k : Fin 1024) : out0_8 (iblk m c 0 t) (iblk m c 1 t) (iblk m c 2 t) (iblk m c 3 t) (iblk m c 4 t) (iblk m c 5 t) (iblk m c 6 t) (iblk m c 7 t) (ix2 r k)
    = XO (aya m c) (ao m c) (ago m c) (aw m c) (ax m c) (aga m c) (ix2 (rw' t r) k) := by
  refine Eq.trans (b := k0_pay2 (na m c t) (nb m c t) (wl m c t) (wr m c t) (iblk m c 4 t) (iblk m c 5 t) (ix2 r k))
    (congrFun (by unfold_out out0_8; frame_out <;> rfl) _) ?_
  pointwise [k0_pay2, XO]
  rw [yo_at, b4, b5]

theorem yn_at (r j : Fin 1024) : out0_9 (iblk m c 0 t) (iblk m c 1 t) (iblk m c 2 t) (iblk m c 3 t) (iblk m c 4 t) (iblk m c 5 t) (iblk m c 6 t) (iblk m c 7 t) (ix2 r j)
    = YN (aya m c) (ao m c) (ago m c) (ix2 (rw' t r) j) := by
  refine Eq.trans (b := View.canon (Val := Elt Ideal) (e := .bf16) [⟨Rect.unit (s := S1024x1024) ![0, 512] ![1024, 512] inb_S1024x1024_S1024x512_0_512, nb m c t⟩,
    ⟨Rect.unit (s := S1024x1024) ![0, 0] ![1024, 512] inb_S1024x1024_S1024x512_0_0, na m c t⟩] (ix2 r j))
    (congrFun (by unfold_out out0_9; frame_out <;> rfl) _) ?_
  refine Cert.Shared.band_cons (Val := Elt Ideal) (e := .bf16) _ _ _ _ r j (fun j => YN (aya m c) (ao m c) (ago m c) (ix2 (rw' t r) j)) (fun k hk => ?_) fun h1 => ?_
  · refine (nb_at m c t r k).trans (Eq.trans ?_ (dif_neg (by show ¬ 512 + k.val < 512; omega)).symm)
    exact congrArg (NB _ _ _) (Fin.ext (by show k.val = 512 + k.val - 512; omega))
  refine Cert.Shared.band_cons (Val := Elt Ideal) (e := .bf16) _ _ _ _ r j (fun j => YN (aya m c) (ao m c) (ago m c) (ix2 (rw' t r) j)) (fun k hk => ?_) fun h2 => absurd h2 (by omega)
  refine (na_at m c t r k).trans (Eq.trans ?_ (dif_pos (by show 0 + k.val < 512; omega)).symm)
  exact congrArg (NA _ _ _) (Fin.ext (by show k.val = 0 + k.val; omega))

theorem yoa_at (r k : Fin 1024) : out0_10 (iblk m c 0 t) (iblk m c 1 t) (iblk m c 2 t) (iblk m c 3 t) (iblk m c 4 t) (iblk m c 5 t) (iblk m c 6 t) (iblk m c 7 t) (ix2 r k)
    = YOA (aya m c) (ao m c) (ago m c) (aw m c) (ix2 (rw' t r) k) := by
  refine Eq.trans (b := k0_pay3 (na m c t) (nb m c t) (wl m c t) (wr m c t) (ix2 r k))
    (congrFun (by unfold_out out0_10; frame_out <;> rfl) _) ?_
  pointwise [k0_pay3, YOA]
  rw [yo_at]

end blocks

theorem final8 (c : Dev nD) : (dats m 0 c).arrAt 8 cfg0.N = XO (aya m c) (ao m c) (ago m c) (aw m c) (ax m c) (aga m c) := by
  refine (dats m 0 c).arrAt_eq_of_covers 8 _ (by decide +kernel) fun t hf y => ?_
  obtain ⟨r, k, rfl⟩ : ∃ (r k : Fin 1024), y = ix2 r k := ⟨y 0, y 1, by funext a; fin_cases a <;> rfl⟩
  blk_simp
  rw [after0_8, xo_at]
  refine congrArg _ ?_
  blk_ext [idx t]

theorem final9 (c : Dev nD) : (dats m 0 c).arrAt 9 cfg0.N = YN (aya m c) (ao m c) (ago m c) := by
  refine (dats m 0 c).arrAt_eq_of_covers 9 _ (by decide +kernel) fun t hf y => ?_
  obtain ⟨r, k, rfl⟩ : ∃ (r k : Fin 1024), y = ix2 r k := ⟨y 0, y 1, by funext a; fin_cases a <;> rfl⟩
  blk_simp
  rw [after0_9, yn_at]
  refine congrArg _ ?_
  blk_ext [idx t]

theorem final10 (c : Dev nD) : (dats m 0 c).arrAt 10 cfg0.N = YOA (aya m c) (ao m c) (ago m c) (aw m c) := by
  refine (dats m 0 c).arrAt_eq_of_covers 10 _ (by decide +kernel) fun t hf y => ?_
  obtain ⟨r, k, rfl⟩ : ∃ (r k : Fin 1024), y = ix2 r k := ⟨y 0, y 1, by funext a; fin_cases a <;> rfl⟩
  blk_simp
  rw [after0_10, yoa_at]
  refine congrArg _ ?_
  blk_ext [idx t]

/-- The reference runs on the host alone: its arguments end unchanged, and it declares no semaphore. -/
theorem frame_ref : Cert.quiescent_MixFwdRefIdeal (hMixFwdRefIdeal := Cert.MixFwdRefIdeal.Gen.facts) := fun m ρ _ =>
  (θ_run Cert.MixFwdRefIdeal.defs _ _).mono (fun r h => ⟨fun c => (h c).2.2.2, Idealize.ShloMosaic.sem_eq_zero_of_no_sems (by decide) r.2⟩)
    (Cert.MixFwdRefIdeal.Value.run (F := Ideal) m ρ)

/-- The projection of the normed rows, summed half by half. -/
theorem yo_eq (ya o : FVec Ideal S8192x512 .f32) (go : FVec Ideal S1x1024 .f32) (w : FVec Ideal S1024x1024 .f32) (r : Fin 8192) (k : Fin 1024) :
    ∑ q : Fin 1024, YN ya o go (ix2 r q) * w (ix2 q k) = YO w ya o go r k := by
  refine (Fin.sum_univ_add (M := EReal) (a := 512) (b := 512) _).trans (congrArg₂ (fun a b : EReal => a + b)
    (Finset.sum_congr rfl fun q _ => congrArg (fun z : EReal => z * _) (dif_pos q.isLt))
    (Finset.sum_congr rfl fun q _ => congrArg (fun z : EReal => z * _) (Eq.trans (dif_neg (by show ¬ 512 + q.val < 512; omega)) ?_)))
  exact congrArg (NB _ _ _) (Fin.ext (by show 512 + q.val - 512 = q.val; omega))

theorem ref_dot (y : FVec Ideal S8192x1024 .f32) (w : FVec Ideal S1024x1024 .f32) (r : Fin 8192) (k : Fin 1024) :
    Host.dotGeneral Cert.MixFwdRefIdeal.dot_S8192x1024_S1024x1024_S8192x1024_1_0_0_1_n_n none y w (ix2 r k) = ∑ q : Fin 1024, y (ix2 r q) * w (ix2 q k) := by
  pointwise []

/-- The reference's projection, once its rows are known. -/
theorem dot_of (y : FVec Ideal S8192x1024 .f32) (hb) (w : FVec Ideal S1024x1024 .f32) (ya o : FVec Ideal S8192x512 .f32) (go : FVec Ideal S1x1024 .f32)
    (h : truncf .bf16 y hb = YN ya o go) (r : Fin 8192) (k : Fin 1024) :
    Host.dotGeneral Cert.MixFwdRefIdeal.dot_S8192x1024_S1024x1024_S8192x1024_1_0_0_1_n_n none y w (ix2 r k) = YO w ya o go r k :=
  (ref_dot y w r k).trans ((congrArg (fun y : FVec Ideal S8192x1024 .bf16 => ∑ q : Fin 1024, y (ix2 r q) * w (ix2 q k)) h).trans (yo_eq ya o go w r k))

/-- The reference's residual and gate. -/
theorem ref_out (x y : FVec Ideal S8192x1024 .f32) (g : FVec Ideal S1x1024 .f32) (r : Fin 8192) (k : Fin 1024) :
    addf x (mulf (broadcastInDim Cert.MixFwdRefIdeal.S8192x1024 ![0, 1] Cert.MixFwdRefIdeal.Gen.bcast_S1x1024_S8192x1024_0_1 g) y) (ix2 r k)
      = x (ix2 r k) + g (ix2 0 k) * y (ix2 r k) := by
  pointwise []

theorem algebraic : Cert.algebraic_MixFwdIdeal_MixFwdRefIdeal (hMixFwdIdeal := Cert.MixFwdIdeal.Gen.facts) (hMixFwdRefIdeal := Cert.MixFwdRefIdeal.Gen.facts) := by
  intro m g m' g' hpre hag
  refine ⟨fun c => XO (aya m c) (ao m c) (ago m c) (aw m c) (ax m c) (aga m c), fun c => YN (aya m c) (ao m c) (ago m c), fun c => YOA (aya m c) (ao m c) (ago m c) (aw m c),
    (θ_run _ _ _).mono (fun r h c => ?_) (run_blocks m g), (θ_run _ _ _).mono (fun r h c => ?_) (Cert.MixFwdRefIdeal.Value.run m' g')⟩
  · obtain ⟨h8, h9, h10, hk⟩ := h c
    exact ⟨h8.trans (final8 m c), h9.trans (final9 m c), h10.trans (final10 m c), hk⟩
  · obtain ⟨h1, h2, h3, hk⟩ := h c
    obtain ⟨e0, e1, e2, e3, e4, e5⟩ := hag c
    rw [e0, e1, e2, e3, e4, e5] at h1
    rw [e0, e1, e2] at h2
    rw [e0, e1, e2, e3] at h3
    have hn : r.2.mem ((c.tc : Thread Cert.MixFwdRefIdeal.nD Cert.MixFwdRefIdeal.τ).loc Cert.MixFwdRefIdeal.main_v35) = YN (aya m c) (ao m c) (ago m c) := h2.trans (by
      funext y
      obtain ⟨r, k, rfl⟩ : ∃ (r : Fin 8192) (k : Fin 1024), y = ix2 r k := ⟨y 0, y 1, by funext a; fin_cases a <;> rfl⟩
      simp only [YN, NA, NB, ra, rb, grms, gi, aya, ao, ago]
      pointwise []
      simp only [Nat.div_add_mod'])
    have ho := dot_of _ _ (aw m c) (aya m c) (ao m c) (ago m c) (h2.symm.trans hn)
    refine ⟨h1.trans ?_, hn, h3.trans ?_, hk⟩
    · funext y
      obtain ⟨r, k, rfl⟩ : ∃ (r : Fin 8192) (k : Fin 1024), y = ix2 r k := ⟨y 0, y 1, by funext a; fin_cases a <;> rfl⟩
      exact (ref_out _ _ _ r k).trans (congrArg (fun z : EReal => ax m c (ix2 r k) + aga m c (ix2 0 k) * z) (ho r k))
    · funext y
      obtain ⟨r, k, rfl⟩ : ∃ (r : Fin 8192) (k : Fin 1024), y = ix2 r k := ⟨y 0, y 1, by funext a; fin_cases a <;> rfl⟩
      exact ho r k

end Cert.MixFwdClaim
end
-- ==== Proof.lean ====
module

public import proofs.«01_k».proof.Defs
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateRefIdeal
public import proofs.«01_k».proof.Proof.Gen.Pre_gate_pre
public import proofs.«01_k».proof.Proof.Gen.GateIdeal.Value
public import proofs.«01_k».proof.Proof.Gen.GateRefIdeal.Run
public import proofs.«01_k».proof.Proof.Gate.Claim
public import proofs.«01_k».proof.Proof.Gen.AttnRefIdeal.Run
public import proofs.«01_k».proof.Proof.Gen.Pre_attn_pre
public import proofs.«01_k».proof.Proof.Attn.FrameBits
public import proofs.«01_k».proof.Proof.Attn.Claim
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.Pre_norm_pre
public import proofs.«01_k».proof.Proof.Norm.Claim
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.Pre_loss_pre
public import proofs.«01_k».proof.Proof.Loss.Claim
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.MixOutIdeal.Value
public import proofs.«01_k».proof.Proof.Gen.MixOutRefIdeal
public import proofs.«01_k».proof.Proof.Gen.MixOutRefIdeal.Run
public import proofs.«01_k».proof.Proof.Gen.Pre_mixout_pre
public import Idealize.ShloMosaic.Adequacy
public import Idealize.ShloMosaic.Init
public import proofs.«01_k».proof.Proof.MixOut.Claim
public import proofs.«01_k».proof.Proof.Gen.MixMid
public import proofs.«01_k».proof.Proof.Gen.MixMid.Skeleton
public import proofs.«01_k».proof.Proof.Gen.MixMid.Launch
public import proofs.«01_k».proof.Proof.Gen.MixMid.Points
public import proofs.«01_k».proof.Proof.Gen.MixMid.Frame
public import proofs.«01_k».proof.Proof.Gen.MixMidIdeal
public import proofs.«01_k».proof.Proof.Gen.MixMidIdeal.Skeleton
public import proofs.«01_k».proof.Proof.Gen.MixMidIdeal.Launch
public import proofs.«01_k».proof.Proof.Gen.MixMidIdeal.Points
public import proofs.«01_k».proof.Proof.Gen.MixMidIdeal.Frame
public import proofs.«01_k».proof.Proof.Gen.MixMidIdeal.Value
public import proofs.«01_k».proof.Proof.Gen.MixMidRefIdeal
public import proofs.«01_k».proof.Proof.Gen.MixMidRefIdeal.Run
public import proofs.«01_k».proof.Proof.Gen.NormMix
public import proofs.«01_k».proof.Proof.Gen.NormMix.Skeleton
public import proofs.«01_k».proof.Proof.Gen.NormMix.Launch
public import proofs.«01_k».proof.Proof.Gen.NormMix.Points
public import proofs.«01_k».proof.Proof.Gen.NormMix.Frame
public import proofs.«01_k».proof.Proof.Gen.NormMixIdeal
public import proofs.«01_k».proof.Proof.Gen.NormMixIdeal.Skeleton
public import proofs.«01_k».proof.Proof.Gen.NormMixIdeal.Launch
public import proofs.«01_k».proof.Proof.Gen.NormMixIdeal.Points
public import proofs.«01_k».proof.Proof.Gen.NormMixIdeal.Frame
public import proofs.«01_k».proof.Proof.Gen.NormMixIdeal.Value
public import proofs.«01_k».proof.Proof.Gen.NormMixRefIdeal
public import proofs.«01_k».proof.Proof.Gen.NormMixRefIdeal.Run
public import proofs.«01_k».proof.Proof.Gen.Pre_mixmid_pre
public import proofs.«01_k».proof.Proof.Gen.Pre_normmix_pre
public import proofs.«01_k».proof.Proof.MixMid.Claim
public import proofs.«01_k».proof.Proof.NormMix.Claim
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.MixIn
public import proofs.«01_k».proof.Proof.Gen.MixIn.Skeleton
public import proofs.«01_k».proof.Proof.Gen.MixIn.Launch
public import proofs.«01_k».proof.Proof.Gen.MixIn.Points
public import proofs.«01_k».proof.Proof.Gen.MixIn.Frame
public import proofs.«01_k».proof.Proof.Gen.MixInIdeal
public import proofs.«01_k».proof.Proof.Gen.MixInIdeal.Skeleton
public import proofs.«01_k».proof.Proof.Gen.MixInIdeal.Launch
public import proofs.«01_k».proof.Proof.Gen.MixInIdeal.Points
public import proofs.«01_k».proof.Proof.Gen.MixInIdeal.Frame
public import proofs.«01_k».proof.Proof.Gen.MixInIdeal.Value
public import proofs.«01_k».proof.Proof.Gen.MixInRefIdeal
public import proofs.«01_k».proof.Proof.Gen.MixInRefIdeal.Run
public import proofs.«01_k».proof.Proof.Gen.MixFwd
public import proofs.«01_k».proof.Proof.Gen.MixFwd.Skeleton
public import proofs.«01_k».proof.Proof.Gen.MixFwd.Launch
public import proofs.«01_k».proof.Proof.Gen.MixFwd.Points
public import proofs.«01_k».proof.Proof.Gen.MixFwd.Frame
public import proofs.«01_k».proof.Proof.Gen.MixFwdIdeal
public import proofs.«01_k».proof.Proof.Gen.MixFwdIdeal.Skeleton
public import proofs.«01_k».proof.Proof.Gen.MixFwdIdeal.Launch
public import proofs.«01_k».proof.Proof.Gen.MixFwdIdeal.Points
public import proofs.«01_k».proof.Proof.Gen.MixFwdIdeal.Frame
public import proofs.«01_k».proof.Proof.Gen.MixFwdIdeal.Value
public import proofs.«01_k».proof.Proof.Gen.MixFwdRefIdeal
public import proofs.«01_k».proof.Proof.Gen.MixFwdRefIdeal.Run
public import proofs.«01_k».proof.Proof.Up.Claim
public import proofs.«01_k».proof.Proof.Down.Claim
public import proofs.«01_k».proof.Proof.MixIn.Claim
public import proofs.«01_k».proof.Proof.MixFwd.Claim

@[expose] public section

noncomputable section

namespace Cert.Proof

open Idealize.ShloMosaic Idealize.SL.Sem Cert.Gate

theorem claim : Cert.Claim := ⟨
    Cert.Gate.Gen.facts, Cert.GateIdeal.Gen.facts, Cert.GateRefIdeal.Gen.facts, Cert.Attn.Gen.facts, Cert.AttnIdeal.Gen.facts, Cert.AttnRefIdeal.Gen.facts, Cert.Norm.Gen.facts, Cert.NormIdeal.Gen.facts, Cert.NormRefIdeal.Gen.facts, Cert.Loss.Gen.facts, Cert.LossIdeal.Gen.facts, Cert.LossRefIdeal.Gen.facts, Cert.MixOut.Gen.facts, Cert.MixOutIdeal.Gen.facts, Cert.MixOutRefIdeal.Gen.facts, Cert.MixMid.Gen.facts, Cert.MixMidIdeal.Gen.facts, Cert.MixMidRefIdeal.Gen.facts, Cert.NormMix.Gen.facts, Cert.NormMixIdeal.Gen.facts, Cert.NormMixRefIdeal.Gen.facts, Cert.Up.Gen.facts, Cert.UpIdeal.Gen.facts, Cert.UpRefIdeal.Gen.facts, Cert.Down.Gen.facts, Cert.DownIdeal.Gen.facts, Cert.DownRefIdeal.Gen.facts, Cert.MixIn.Gen.facts, Cert.MixInIdeal.Gen.facts, Cert.MixInRefIdeal.Gen.facts, Cert.MixFwd.Gen.facts, Cert.MixFwdIdeal.Gen.facts, Cert.MixFwdRefIdeal.Gen.facts, Cert.Pre_gate_pre.Gen.facts, Cert.Pre_attn_pre.Gen.facts, Cert.Pre_norm_pre.Gen.facts, Cert.Pre_loss_pre.Gen.facts, Cert.Pre_mixout_pre.Gen.facts, Cert.Pre_mixmid_pre.Gen.facts, Cert.Pre_normmix_pre.Gen.facts,
    fun m ρ _ => Cert.Gate.Gen.frame m ρ, fun m ρ _ => Cert.GateIdeal.Gen.frame m ρ, fun m ρ _ => Cert.GateIdeal.Gen.frame m ρ,
    fun m ρ _ => Cert.GateClaim.frame_ref m ρ trivial, fun m ρ _ => Cert.GateClaim.frame_ref m ρ trivial,
    Cert.AttnRun.frame_bits, Cert.AttnRun.frame_ideal, fun m ρ _ => Cert.AttnRun.frame_all m ρ, Cert.AttnRun.frame_ref, fun m ρ _ => Cert.AttnRun.frame_ref m ρ trivial,
    fun m ρ _ => Cert.Norm.Gen.frame m ρ, fun m ρ _ => Cert.NormIdeal.Gen.frame m ρ, fun m ρ _ => Cert.NormIdeal.Gen.frame m ρ,
    fun m ρ _ => Cert.NormClaim.frame_ref m ρ trivial, fun m ρ _ => Cert.NormClaim.frame_ref m ρ trivial,
    fun m ρ _ => Cert.Loss.Gen.frame m ρ, fun m ρ _ => Cert.LossIdeal.Gen.frame m ρ, fun m ρ _ => Cert.LossIdeal.Gen.frame m ρ,
    fun m ρ _ => Cert.LossClaim.frame_ref m ρ trivial, fun m ρ _ => Cert.LossClaim.frame_ref m ρ trivial,
    fun m ρ _ => Cert.MixOut.Gen.frame m ρ, fun m ρ _ => Cert.MixOutIdeal.Gen.frame m ρ, fun m ρ _ => Cert.MixOutIdeal.Gen.frame m ρ,
    fun m ρ _ => Cert.MixOutClaim.frame_ref m ρ trivial, fun m ρ _ => Cert.MixOutClaim.frame_ref m ρ trivial,
    fun m ρ _ => Cert.MixMid.Gen.frame m ρ, fun m ρ _ => Cert.MixMidIdeal.Gen.frame m ρ, fun m ρ _ => Cert.MixMidIdeal.Gen.frame m ρ,
    fun m ρ _ => Cert.MixMidClaim.frame_ref m ρ trivial, fun m ρ _ => Cert.MixMidClaim.frame_ref m ρ trivial,
    fun m ρ _ => Cert.NormMix.Gen.frame m ρ, fun m ρ _ => Cert.NormMixIdeal.Gen.frame m ρ, fun m ρ _ => Cert.NormMixIdeal.Gen.frame m ρ,
    fun m ρ _ => Cert.NormMixClaim.frame_ref m ρ trivial, fun m ρ _ => Cert.NormMixClaim.frame_ref m ρ trivial,
    fun m ρ _ => Cert.Up.Gen.frame m ρ, fun m ρ _ => Cert.UpIdeal.Gen.frame m ρ, Cert.UpClaim.frame_ref,
    fun m ρ _ => Cert.Down.Gen.frame m ρ, fun m ρ _ => Cert.DownIdeal.Gen.frame m ρ, Cert.DownClaim.frame_ref,
    fun m ρ _ => Cert.MixIn.Gen.frame m ρ, fun m ρ _ => Cert.MixInIdeal.Gen.frame m ρ, Cert.MixInClaim.frame_ref,
    fun m ρ _ => Cert.MixFwd.Gen.frame m ρ, fun m ρ _ => Cert.MixFwdIdeal.Gen.frame m ρ, Cert.MixFwdClaim.frame_ref,
    trivial, Cert.GateClaim.algebraic, Cert.AttnRun.preserves, Cert.AttnClaim.algebraic, trivial, Cert.NormClaim.algebraic, trivial, Cert.LossClaim.algebraic, trivial, Cert.MixOutClaim.algebraic, trivial, Cert.MixMidClaim.algebraic, trivial, Cert.NormMixClaim.algebraic, trivial, Cert.UpClaim.algebraic, trivial, Cert.DownClaim.algebraic, trivial, Cert.MixInClaim.algebraic, trivial, Cert.MixFwdClaim.algebraic⟩

end Cert.Proof

end
